-- ==== Defs.lean ====
def Pre_Kernel [hPre_pages_in_pool : Cert.Pre_pages_in_pool.Facts] (m : (ℓ : Loc Cert.Kernel.nD Cert.Kernel.τ Cert.Kernel.sig) → Buf (Elt Bits) ℓ) : Prop :=
  ∀ c : Dev Cert.Kernel.nD,
    (Cert.Pre_pages_in_pool.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_Reference (m : (ℓ : Loc Cert.Reference.nD Cert.Reference.τ Cert.Reference.sig) → Buf (Elt Bits) ℓ) : Prop :=
  True

def Pre_Reference_pages_in_pool [hPre_pages_in_pool : Cert.Pre_pages_in_pool.Facts] (m : (ℓ : Loc Cert.Reference.nD Cert.Reference.τ Cert.Reference.sig) → Buf (Elt Bits) ℓ) : Prop :=
  ∀ c : Dev Cert.Reference.nD,
    (Cert.Pre_pages_in_pool.fn (F := Bits) (m ((c.tc : Thread Cert.Reference.nD Cert.Reference.τ).loc Cert.Reference.main_arg0)) (m ((c.tc : Thread Cert.Reference.nD Cert.Reference.τ).loc Cert.Reference.main_arg1)) (m ((c.tc : Thread Cert.Reference.nD Cert.Reference.τ).loc Cert.Reference.main_arg2)) (m ((c.tc : Thread Cert.Reference.nD Cert.Reference.τ).loc Cert.Reference.main_arg3)) (m ((c.tc : Thread Cert.Reference.nD Cert.Reference.τ).loc Cert.Reference.main_arg4)) (m ((c.tc : Thread Cert.Reference.nD Cert.Reference.τ).loc Cert.Reference.main_arg5))) = (fun _ => 1#1)

def quiescent_Kernel [hKernel : Cert.Kernel.Facts] [hPre_pages_in_pool : Cert.Pre_pages_in_pool.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2)
      ∧ r.2.mem ((c.tc : Thread Cert.Reference.nD Cert.Reference.τ).loc Cert.Reference.main_arg3) = m ((c.tc : Thread Cert.Reference.nD Cert.Reference.τ).loc Cert.Reference.main_arg3)
      ∧ r.2.mem ((c.tc : Thread Cert.Reference.nD Cert.Reference.τ).loc Cert.Reference.main_arg4) = m ((c.tc : Thread Cert.Reference.nD Cert.Reference.τ).loc Cert.Reference.main_arg4)
      ∧ r.2.mem ((c.tc : Thread Cert.Reference.nD Cert.Reference.τ).loc Cert.Reference.main_arg5) = m ((c.tc : Thread Cert.Reference.nD Cert.Reference.τ).loc Cert.Reference.main_arg5))
      ∧ r.2.sem = fun _ => 0)

def quiescent_Reference_pre_pages_in_pool [hReference : Cert.Reference.Facts] [hPre_pages_in_pool : Cert.Pre_pages_in_pool.Facts] : Prop :=
  ∀ (m : (ℓ : Loc Cert.Reference.nD Cert.Reference.τ Cert.Reference.sig) → Buf (Elt Bits) ℓ) (g : Dev Cert.Reference.nD → PrngReg), Pre_Reference_pages_in_pool m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2)
      ∧ r.2.mem ((c.tc : Thread Cert.Reference.nD Cert.Reference.τ).loc Cert.Reference.main_arg3) = m ((c.tc : Thread Cert.Reference.nD Cert.Reference.τ).loc Cert.Reference.main_arg3)
      ∧ r.2.mem ((c.tc : Thread Cert.Reference.nD Cert.Reference.τ).loc Cert.Reference.main_arg4) = m ((c.tc : Thread Cert.Reference.nD Cert.Reference.τ).loc Cert.Reference.main_arg4)
      ∧ r.2.mem ((c.tc : Thread Cert.Reference.nD Cert.Reference.τ).loc Cert.Reference.main_arg5) = m ((c.tc : Thread Cert.Reference.nD Cert.Reference.τ).loc Cert.Reference.main_arg5))
      ∧ r.2.sem = fun _ => 0)

def bitexact_Kernel_Reference [hKernel : Cert.Kernel.Facts] [hReference : Cert.Reference.Facts] [hPre_pages_in_pool : Cert.Pre_pages_in_pool.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)
      ∧ m' ((c.tc : Thread Cert.Reference.nD Cert.Reference.τ).loc Cert.Reference.main_arg2) = m ((c.tc : Thread Cert.Kernel.nD Cert.Kernel.τ).loc Cert.Kernel.main_arg2)
      ∧ m' ((c.tc : Thread Cert.Reference.nD Cert.Reference.τ).loc Cert.Reference.main_arg3) = m ((c.tc : Thread Cert.Kernel.nD Cert.Kernel.τ).loc Cert.Kernel.main_arg3)
      ∧ m' ((c.tc : Thread Cert.Reference.nD Cert.Reference.τ).loc Cert.Reference.main_arg4) = m ((c.tc : Thread Cert.Kernel.nD Cert.Kernel.τ).loc Cert.Kernel.main_arg4)
      ∧ m' ((c.tc : Thread Cert.Reference.nD Cert.Reference.τ).loc Cert.Reference.main_arg5) = m ((c.tc : Thread Cert.Kernel.nD Cert.Kernel.τ).loc Cert.Kernel.main_arg5)) →
    ∃ (v0 : (c : Dev Cert.Kernel.nD) → Buf (Elt Bits) ((c.tc : Thread Cert.Kernel.nD Cert.Kernel.τ).loc Cert.Kernel.main_v7)) (v1 : (c : Dev Cert.Kernel.nD) → Buf (Elt Bits) ((c.tc : Thread Cert.Kernel.nD Cert.Kernel.τ).loc Cert.Kernel.main_v8)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v7) = v0 c
          ∧ r.2.mem ((c.tc : Thread Cert.Kernel.nD Cert.Kernel.τ).loc Cert.Kernel.main_v8) = v1 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1)
          ∧ r.2.mem ((c.tc : Thread Cert.Kernel.nD Cert.Kernel.τ).loc Cert.Kernel.main_arg2) = m ((c.tc : Thread Cert.Kernel.nD Cert.Kernel.τ).loc Cert.Kernel.main_arg2)
          ∧ r.2.mem ((c.tc : Thread Cert.Kernel.nD Cert.Kernel.τ).loc Cert.Kernel.main_arg3) = m ((c.tc : Thread Cert.Kernel.nD Cert.Kernel.τ).loc Cert.Kernel.main_arg3)
          ∧ r.2.mem ((c.tc : Thread Cert.Kernel.nD Cert.Kernel.τ).loc Cert.Kernel.main_arg4) = m ((c.tc : Thread Cert.Kernel.nD Cert.Kernel.τ).loc Cert.Kernel.main_arg4)
          ∧ r.2.mem ((c.tc : Thread Cert.Kernel.nD Cert.Kernel.τ).loc Cert.Kernel.main_arg5) = m ((c.tc : Thread Cert.Kernel.nD Cert.Kernel.τ).loc Cert.Kernel.main_arg5))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v39_0) = v0 c
          ∧ r.2.mem ((c.tc : Thread Cert.Reference.nD Cert.Reference.τ).loc Cert.Reference.main_v39_1) = v1 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1)
          ∧ r.2.mem ((c.tc : Thread Cert.Reference.nD Cert.Reference.τ).loc Cert.Reference.main_arg2) = m' ((c.tc : Thread Cert.Reference.nD Cert.Reference.τ).loc Cert.Reference.main_arg2)
          ∧ r.2.mem ((c.tc : Thread Cert.Reference.nD Cert.Reference.τ).loc Cert.Reference.main_arg3) = m' ((c.tc : Thread Cert.Reference.nD Cert.Reference.τ).loc Cert.Reference.main_arg3)
          ∧ r.2.mem ((c.tc : Thread Cert.Reference.nD Cert.Reference.τ).loc Cert.Reference.main_arg4) = m' ((c.tc : Thread Cert.Reference.nD Cert.Reference.τ).loc Cert.Reference.main_arg4)
          ∧ r.2.mem ((c.tc : Thread Cert.Reference.nD Cert.Reference.τ).loc Cert.Reference.main_arg5) = m' ((c.tc : Thread Cert.Reference.nD Cert.Reference.τ).loc Cert.Reference.main_arg5))

def Claim : Prop :=
  ∃ (hKernel : Cert.Kernel.Facts) (hReference : Cert.Reference.Facts) (hPre_pages_in_pool : Cert.Pre_pages_in_pool.Facts),
    quiescent_Kernel (hKernel := hKernel) (hPre_pages_in_pool := hPre_pages_in_pool)
    ∧ quiescent_Reference (hReference := hReference)
    ∧ quiescent_Reference_pre_pages_in_pool (hReference := hReference) (hPre_pages_in_pool := hPre_pages_in_pool)
    ∧ bitexact_Kernel_Reference (hKernel := hKernel) (hReference := hReference) (hPre_pages_in_pool := hPre_pages_in_pool)
-- ==== Pre_pages_in_pool.lean ====
abbrev S3840x16x36x128 : Shape := ⟨4, ![3840, 16, 36, 128]⟩
abbrev S3840x16x36 : Shape := ⟨3, ![3840, 16, 36]⟩
abbrev S6x512 : Shape := ⟨2, ![6, 512]⟩
abbrev S6 : Shape := ⟨1, ![6]⟩
abbrev S_ : Shape := ⟨0, ![]⟩

class Facts : Prop where
  bcast_S_S6x512 : S_.BroadcastsInDim S6x512 (![] : Fin 0 → Fin S6x512.rank)

variable [Facts]

def fn {F : FTy → Type} [FloatOps F] (main_arg0 : FVec F S3840x16x36x128 .fp8e4m3) (main_arg1 : FVec F S3840x16x36x128 .fp8e4m3) (main_arg2 : FVec F S3840x16x36 .f32) (main_arg3 : FVec F S3840x16x36 .f32) (main_arg4 : IVec S6x512 32) (main_arg5 : IVec S6 32) : IVec S6x512 1 :=
  let main_c : IVec S_ 32 := constantI S_ 32 0#32
  let main_v0 : IVec S6x512 32 := broadcastInDim S6x512 ![] bcast_S_S6x512 main_c
  let main_v1 : IVec S6x512 1 := cmpi .sge main_arg4 main_v0
  let main_c_0 : IVec S_ 32 := constantI S_ 32 3840#32
  let main_v2 : IVec S6x512 32 := broadcastInDim S6x512 ![] bcast_S_S6x512 main_c_0
  let main_v3 : IVec S6x512 1 := cmpi .slt main_arg4 main_v2
  let main_v4 : IVec S6x512 1 := andi main_v1 main_v3
  main_v4
-- ==== Kernel.lean ====
abbrev S3840x16x36x128 : Shape := ⟨4, ![3840, 16, 36, 128]⟩
abbrev S3840x16x36 : Shape := ⟨3, ![3840, 16, 36]⟩
abbrev S6x512 : Shape := ⟨2, ![6, 512]⟩
abbrev S6 : Shape := ⟨1, ![6]⟩
abbrev S3840x36x16x128 : Shape := ⟨4, ![3840, 36, 16, 128]⟩
abbrev S3840x576x128 : Shape := ⟨3, ![3840, 576, 128]⟩
abbrev S36x16x3840 : Shape := ⟨3, ![36, 16, 3840]⟩
abbrev S6x36x8192x128 : Shape := ⟨4, ![6, 36, 8192, 128]⟩
abbrev S2x36x30x8x128 : Shape := ⟨5, ![2, 36, 30, 8, 128]⟩
abbrev S3x4x16x3840 : Shape := ⟨4, ![3, 4, 16, 3840]⟩
abbrev S4x2x8x576x128 : Shape := ⟨5, ![4, 2, 8, 576, 128]⟩
abbrev S4x2x36x128x128 : Shape := ⟨5, ![4, 2, 36, 128, 128]⟩
abbrev S36x128x128 : Shape := ⟨3, ![36, 128, 128]⟩
abbrev S3 : Shape := ⟨1, ![3]⟩
abbrev S4 : Shape := ⟨1, ![4]⟩
abbrev S1 : Shape := ⟨1, ![1]⟩
abbrev S1x1 : Shape := ⟨2, ![1, 1]⟩
abbrev S_ : Shape := ⟨0, ![]⟩
abbrev S1x1x1x576x128 : Shape := ⟨5, ![1, 1, 1, 576, 128]⟩
abbrev S576x128 : Shape := ⟨2, ![576, 128]⟩
abbrev S1x576x128 : Shape := ⟨3, ![1, 576, 128]⟩
abbrev S1x4x16x3840 : Shape := ⟨4, ![1, 4, 16, 3840]⟩
abbrev S4x16x3840 : Shape := ⟨3, ![4, 16, 3840]⟩
abbrev S128x128 : Shape := ⟨2, ![128, 128]⟩
abbrev S1x128x128 : Shape := ⟨3, ![1, 128, 128]⟩
abbrev S1x1x16x128 : Shape := ⟨4, ![1, 1, 16, 128]⟩
abbrev S16x128 : Shape := ⟨2, ![16, 128]⟩
abbrev S8x128 : Shape := ⟨2, ![8, 128]⟩
abbrev S1x1x1x8x128 : Shape := ⟨5, ![1, 1, 1, 8, 128]⟩
abbrev S1x36x128x128 : Shape := ⟨4, ![1, 36, 128, 128]⟩
abbrev S1x1x8x576x128 : Shape := ⟨5, ![1, 1, 8, 576, 128]⟩
abbrev S8x576x128 : Shape := ⟨3, ![8, 576, 128]⟩
abbrev S1x1x1x32x128 : Shape := ⟨5, ![1, 1, 1, 32, 128]⟩
abbrev S32x128 : Shape := ⟨2, ![32, 128]⟩
abbrev S8x128x1 : Shape := ⟨3, ![8, 128, 1]⟩
abbrev S1x1x1x16x128 : Shape := ⟨5, ![1, 1, 1, 16, 128]⟩
abbrev S1x1x36x128x128 : Shape := ⟨5, ![1, 1, 36, 128, 128]⟩
abbrev S6x8192x36x128 : Shape := ⟨4, ![6, 8192, 36, 128]⟩

abbrev nBuf : Space → Nat
  | .hbm => 16
  | .vmem => 5
  | .smem => 2
  | _ => 0

abbrev bufTy : (tb : Table) → Fin (tcTables nBuf tb) → BufTy
  | .hbm, ⟨0, _⟩ => ⟨S3840x16x36x128, .fp8e4m3⟩
  | .hbm, ⟨1, _⟩ => ⟨S3840x16x36x128, .fp8e4m3⟩
  | .hbm, ⟨2, _⟩ => ⟨S3840x16x36, .f32⟩
  | .hbm, ⟨3, _⟩ => ⟨S3840x16x36, .f32⟩
  | .hbm, ⟨4, _⟩ => ⟨S6x512, .i32⟩
  | .hbm, ⟨5, _⟩ => ⟨S6, .i32⟩
  | .hbm, ⟨6, _⟩ => ⟨S3840x36x16x128, .fp8e4m3⟩
  | .hbm, ⟨7, _⟩ => ⟨S3840x576x128, .fp8e4m3⟩
  | .hbm, ⟨8, _⟩ => ⟨S3840x36x16x128, .fp8e4m3⟩
  | .hbm, ⟨9, _⟩ => ⟨S3840x576x128, .fp8e4m3⟩
  | .hbm, ⟨10, _⟩ => ⟨S36x16x3840, .f32⟩
  | .hbm, ⟨11, _⟩ => ⟨S36x16x3840, .f32⟩
  | .hbm, ⟨12, _⟩ => ⟨S6x36x8192x128, .bf16⟩
  | .hbm, ⟨13, _⟩ => ⟨S6x36x8192x128, .bf16⟩
  | .hbm, ⟨14, _⟩ => ⟨S6x8192x36x128, .bf16⟩
  | .hbm, ⟨15, _⟩ => ⟨S6x8192x36x128, .bf16⟩
  | .local _ .vmem, ⟨0, _⟩ => ⟨S2x36x30x8x128, .i32⟩
  | .local _ .vmem, ⟨1, _⟩ => ⟨S3x4x16x3840, .f32⟩
  | .local _ .vmem, ⟨2, _⟩ => ⟨S4x2x8x576x128, .fp8e4m3⟩
  | .local _ .vmem, ⟨3, _⟩ => ⟨S4x2x36x128x128, .bf16⟩
  | .local _ .vmem, ⟨4, _⟩ => ⟨S36x128x128, .bf16⟩
  | .local _ .smem, ⟨0, _⟩ => ⟨S6x512, .i32⟩
  | .local _ .smem, ⟨1, _⟩ => ⟨S6, .i32⟩
  | _, _ => ⟨S3840x16x36x128, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev main_v7 : Ref sig .tc := ⟨.hbm, 14, rfl⟩
abbrev main_v8 : Ref sig .tc := ⟨.hbm, 15, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1

abbrev nD : Nat := 1
abbrev τ : Topo := Topo.v7x

variable {F : FTy → Type} [BitOps F]

abbrev grid0 : Pipeline.Grid := .none

def k0_off1 (v248 : BitVec 32) : Fin 3 → Nat :=
  let c0_i32_405 : BitVec 32 := 0#32
  let c0_i32_406 : BitVec 32 := 0#32
  ![v248.toNat, 0, 0]
def k0_cond1 (v0 : BitVec 32) : BitVec 1 :=
  let c0_i32 : BitVec 32 := 0#32
  let v1 : BitVec 1 := Scalar.cmpi .sgt v0 c0_i32
  let v2 : BitVec 32 := Scalar.extui v1
  let c0_i32_0 : BitVec 32 := 0#32
  let v3 : BitVec 1 := Scalar.cmpi .ne v2 c0_i32_0
  v3

def k0_chk1 (v0 : BitVec 32) (v248 : BitVec 32) : Prop :=
  (∀ (k0_h1 : k0_cond1 v0 = 1#1), ∀ a, (k0_off1 v248) a + S1x576x128.size a ≤ S3840x576x128.size a) ∧
  (∀ (k0_h1 : k0_cond1 v0 = 1#1), ∀ (hinb : ∀ a, (k0_off1 v248) a + S1x576x128.size a ≤ S3840x576x128.size a), (Rect.unit (s := S3840x576x128) (k0_off1 v248) S1x576x128.size hinb).WholeWords (EltTy.packing .fp8e4m3))
theorem k0_off1_inb : ∀ (v0 : BitVec 32) (v248 : BitVec 32) (k0_hw1 : k0_chk1 v0 v248), ∀ (k0_h1 : k0_cond1 v0 = 1#1), ∀ a, (k0_off1 v248) a + S1x576x128.size a ≤ S3840x576x128.size a := fun v0 v248 k0_hw1 k0_h1 => k0_hw1.1 k0_h1
theorem k0_off1_wordsfp8e4m3 : ∀ (v0 : BitVec 32) (v248 : BitVec 32) (k0_hw1 : k0_chk1 v0 v248), ∀ (k0_h1 : k0_cond1 v0 = 1#1), (Rect.unit (s := S3840x576x128) (k0_off1 v248) S1x576x128.size (k0_off1_inb v0 v248 k0_hw1 k0_h1)).WholeWords (EltTy.packing .fp8e4m3) := fun v0 v248 k0_hw1 k0_h1 => k0_hw1.2 k0_h1 (k0_off1_inb v0 v248 k0_hw1 k0_h1)

def k0_off2 (v261 : BitVec 32) : Fin 3 → Nat :=
  let c0_i32_422 : BitVec 32 := 0#32
  let c0_i32_423 : BitVec 32 := 0#32
  ![v261.toNat, 0, 0]

def k0_chk2 (v0 : BitVec 32) (v261 : BitVec 32) : Prop :=
  (∀ (k0_h1 : k0_cond1 v0 = 1#1), ∀ a, (k0_off2 v261) a + S1x576x128.size a ≤ S3840x576x128.size a) ∧
  (∀ (k0_h1 : k0_cond1 v0 = 1#1), ∀ (hinb : ∀ a, (k0_off2 v261) a + S1x576x128.size a ≤ S3840x576x128.size a), (Rect.unit (s := S3840x576x128) (k0_off2 v261) S1x576x128.size hinb).WholeWords (EltTy.packing .fp8e4m3))
theorem k0_off2_inb : ∀ (v0 : BitVec 32) (v261 : BitVec 32) (k0_hw2 : k0_chk2 v0 v261), ∀ (k0_h1 : k0_cond1 v0 = 1#1), ∀ a, (k0_off2 v261) a + S1x576x128.size a ≤ S3840x576x128.size a := fun v0 v261 k0_hw2 k0_h1 => k0_hw2.1 k0_h1
theorem k0_off2_wordsfp8e4m3 : ∀ (v0 : BitVec 32) (v261 : BitVec 32) (k0_hw2 : k0_chk2 v0 v261), ∀ (k0_h1 : k0_cond1 v0 = 1#1), (Rect.unit (s := S3840x576x128) (k0_off2 v261) S1x576x128.size (k0_off2_inb v0 v261 k0_hw2 k0_h1)).WholeWords (EltTy.packing .fp8e4m3) := fun v0 v261 k0_hw2 k0_h1 => k0_hw2.2 k0_h1 (k0_off2_inb v0 v261 k0_hw2 k0_h1)

def k0_off3 (v274 : BitVec 32) : Fin 3 → Nat :=
  let c0_i32_439 : BitVec 32 := 0#32
  let c0_i32_440 : BitVec 32 := 0#32
  ![v274.toNat, 0, 0]

def k0_chk3 (v0 : BitVec 32) (v274 : BitVec 32) : Prop :=
  (∀ (k0_h1 : k0_cond1 v0 = 1#1), ∀ a, (k0_off3 v274) a + S1x576x128.size a ≤ S3840x576x128.size a) ∧
  (∀ (k0_h1 : k0_cond1 v0 = 1#1), ∀ (hinb : ∀ a, (k0_off3 v274) a + S1x576x128.size a ≤ S3840x576x128.size a), (Rect.unit (s := S3840x576x128) (k0_off3 v274) S1x576x128.size hinb).WholeWords (EltTy.packing .fp8e4m3))
theorem k0_off3_inb : ∀ (v0 : BitVec 32) (v274 : BitVec 32) (k0_hw3 : k0_chk3 v0 v274), ∀ (k0_h1 : k0_cond1 v0 = 1#1), ∀ a, (k0_off3 v274) a + S1x576x128.size a ≤ S3840x576x128.size a := fun v0 v274 k0_hw3 k0_h1 => k0_hw3.1 k0_h1
theorem k0_off3_wordsfp8e4m3 : ∀ (v0 : BitVec 32) (v274 : BitVec 32) (k0_hw3 : k0_chk3 v0 v274), ∀ (k0_h1 : k0_cond1 v0 = 1#1), (Rect.unit (s := S3840x576x128) (k0_off3 v274) S1x576x128.size (k0_off3_inb v0 v274 k0_hw3 k0_h1)).WholeWords (EltTy.packing .fp8e4m3) := fun v0 v274 k0_hw3 k0_h1 => k0_hw3.2 k0_h1 (k0_off3_inb v0 v274 k0_hw3 k0_h1)

def k0_off4 (v287 : BitVec 32) : Fin 3 → Nat :=
  let c0_i32_456 : BitVec 32 := 0#32
  let c0_i32_457 : BitVec 32 := 0#32
  ![v287.toNat, 0, 0]

def k0_chk4 (v0 : BitVec 32) (v287 : BitVec 32) : Prop :=
  (∀ (k0_h1 : k0_cond1 v0 = 1#1), ∀ a, (k0_off4 v287) a + S1x576x128.size a ≤ S3840x576x128.size a) ∧
  (∀ (k0_h1 : k0_cond1 v0 = 1#1), ∀ (hinb : ∀ a, (k0_off4 v287) a + S1x576x128.size a ≤ S3840x576x128.size a), (Rect.unit (s := S3840x576x128) (k0_off4 v287) S1x576x128.size hinb).WholeWords (EltTy.packing .fp8e4m3))
theorem k0_off4_inb : ∀ (v0 : BitVec 32) (v287 : BitVec 32) (k0_hw4 : k0_chk4 v0 v287), ∀ (k0_h1 : k0_cond1 v0 = 1#1), ∀ a, (k0_off4 v287) a + S1x576x128.size a ≤ S3840x576x128.size a := fun v0 v287 k0_hw4 k0_h1 => k0_hw4.1 k0_h1
theorem k0_off4_wordsfp8e4m3 : ∀ (v0 : BitVec 32) (v287 : BitVec 32) (k0_hw4 : k0_chk4 v0 v287), ∀ (k0_h1 : k0_cond1 v0 = 1#1), (Rect.unit (s := S3840x576x128) (k0_off4 v287) S1x576x128.size (k0_off4_inb v0 v287 k0_hw4 k0_h1)).WholeWords (EltTy.packing .fp8e4m3) := fun v0 v287 k0_hw4 k0_h1 => k0_hw4.2 k0_h1 (k0_off4_inb v0 v287 k0_hw4 k0_h1)

def k0_off5 (v300 : BitVec 32) : Fin 3 → Nat :=
  let c0_i32_473 : BitVec 32 := 0#32
  let c0_i32_474 : BitVec 32 := 0#32
  ![v300.toNat, 0, 0]

def k0_chk5 (v0 : BitVec 32) (v300 : BitVec 32) : Prop :=
  (∀ (k0_h1 : k0_cond1 v0 = 1#1), ∀ a, (k0_off5 v300) a + S1x576x128.size a ≤ S3840x576x128.size a) ∧
  (∀ (k0_h1 : k0_cond1 v0 = 1#1), ∀ (hinb : ∀ a, (k0_off5 v300) a + S1x576x128.size a ≤ S3840x576x128.size a), (Rect.unit (s := S3840x576x128) (k0_off5 v300) S1x576x128.size hinb).WholeWords (EltTy.packing .fp8e4m3))
theorem k0_off5_inb : ∀ (v0 : BitVec 32) (v300 : BitVec 32) (k0_hw5 : k0_chk5 v0 v300), ∀ (k0_h1 : k0_cond1 v0 = 1#1), ∀ a, (k0_off5 v300) a + S1x576x128.size a ≤ S3840x576x128.size a := fun v0 v300 k0_hw5 k0_h1 => k0_hw5.1 k0_h1
theorem k0_off5_wordsfp8e4m3 : ∀ (v0 : BitVec 32) (v300 : BitVec 32) (k0_hw5 : k0_chk5 v0 v300), ∀ (k0_h1 : k0_cond1 v0 = 1#1), (Rect.unit (s := S3840x576x128) (k0_off5 v300) S1x576x128.size (k0_off5_inb v0 v300 k0_hw5 k0_h1)).WholeWords (EltTy.packing .fp8e4m3) := fun v0 v300 k0_hw5 k0_h1 => k0_hw5.2 k0_h1 (k0_off5_inb v0 v300 k0_hw5 k0_h1)

def k0_off6 (v313 : BitVec 32) : Fin 3 → Nat :=
  let c0_i32_490 : BitVec 32 := 0#32
  let c0_i32_491 : BitVec 32 := 0#32
  ![v313.toNat, 0, 0]

def k0_chk6 (v0 : BitVec 32) (v313 : BitVec 32) : Prop :=
  (∀ (k0_h1 : k0_cond1 v0 = 1#1), ∀ a, (k0_off6 v313) a + S1x576x128.size a ≤ S3840x576x128.size a) ∧
  (∀ (k0_h1 : k0_cond1 v0 = 1#1), ∀ (hinb : ∀ a, (k0_off6 v313) a + S1x576x128.size a ≤ S3840x576x128.size a), (Rect.unit (s := S3840x576x128) (k0_off6 v313) S1x576x128.size hinb).WholeWords (EltTy.packing .fp8e4m3))
theorem k0_off6_inb : ∀ (v0 : BitVec 32) (v313 : BitVec 32) (k0_hw6 : k0_chk6 v0 v313), ∀ (k0_h1 : k0_cond1 v0 = 1#1), ∀ a, (k0_off6 v313) a + S1x576x128.size a ≤ S3840x576x128.size a := fun v0 v313 k0_hw6 k0_h1 => k0_hw6.1 k0_h1
theorem k0_off6_wordsfp8e4m3 : ∀ (v0 : BitVec 32) (v313 : BitVec 32) (k0_hw6 : k0_chk6 v0 v313), ∀ (k0_h1 : k0_cond1 v0 = 1#1), (Rect.unit (s := S3840x576x128) (k0_off6 v313) S1x576x128.size (k0_off6_inb v0 v313 k0_hw6 k0_h1)).WholeWords (EltTy.packing .fp8e4m3) := fun v0 v313 k0_hw6 k0_h1 => k0_hw6.2 k0_h1 (k0_off6_inb v0 v313 k0_hw6 k0_h1)

def k0_off7 (v326 : BitVec 32) : Fin 3 → Nat :=
  let c0_i32_506 : BitVec 32 := 0#32
  let c0_i32_507 : BitVec 32 := 0#32
  ![v326.toNat, 0, 0]

def k0_chk7 (v0 : BitVec 32) (v326 : BitVec 32) : Prop :=
  (∀ (k0_h1 : k0_cond1 v0 = 1#1), ∀ a, (k0_off7 v326) a + S1x576x128.size a ≤ S3840x576x128.size a) ∧
  (∀ (k0_h1 : k0_cond1 v0 = 1#1), ∀ (hinb : ∀ a, (k0_off7 v326) a + S1x576x128.size a ≤ S3840x576x128.size a), (Rect.unit (s := S3840x576x128) (k0_off7 v326) S1x576x128.size hinb).WholeWords (EltTy.packing .fp8e4m3))
theorem k0_off7_inb : ∀ (v0 : BitVec 32) (v326 : BitVec 32) (k0_hw7 : k0_chk7 v0 v326), ∀ (k0_h1 : k0_cond1 v0 = 1#1), ∀ a, (k0_off7 v326) a + S1x576x128.size a ≤ S3840x576x128.size a := fun v0 v326 k0_hw7 k0_h1 => k0_hw7.1 k0_h1
theorem k0_off7_wordsfp8e4m3 : ∀ (v0 : BitVec 32) (v326 : BitVec 32) (k0_hw7 : k0_chk7 v0 v326), ∀ (k0_h1 : k0_cond1 v0 = 1#1), (Rect.unit (s := S3840x576x128) (k0_off7 v326) S1x576x128.size (k0_off7_inb v0 v326 k0_hw7 k0_h1)).WholeWords (EltTy.packing .fp8e4m3) := fun v0 v326 k0_hw7 k0_h1 => k0_hw7.2 k0_h1 (k0_off7_inb v0 v326 k0_hw7 k0_h1)

def k0_off8 (v339 : BitVec 32) : Fin 3 → Nat :=
  let c0_i32_522 : BitVec 32 := 0#32
  let c0_i32_523 : BitVec 32 := 0#32
  ![v339.toNat, 0, 0]

def k0_chk8 (v0 : BitVec 32) (v339 : BitVec 32) : Prop :=
  (∀ (k0_h1 : k0_cond1 v0 = 1#1), ∀ a, (k0_off8 v339) a + S1x576x128.size a ≤ S3840x576x128.size a) ∧
  (∀ (k0_h1 : k0_cond1 v0 = 1#1), ∀ (hinb : ∀ a, (k0_off8 v339) a + S1x576x128.size a ≤ S3840x576x128.size a), (Rect.unit (s := S3840x576x128) (k0_off8 v339) S1x576x128.size hinb).WholeWords (EltTy.packing .fp8e4m3))
theorem k0_off8_inb : ∀ (v0 : BitVec 32) (v339 : BitVec 32) (k0_hw8 : k0_chk8 v0 v339), ∀ (k0_h1 : k0_cond1 v0 = 1#1), ∀ a, (k0_off8 v339) a + S1x576x128.size a ≤ S3840x576x128.size a := fun v0 v339 k0_hw8 k0_h1 => k0_hw8.1 k0_h1
theorem k0_off8_wordsfp8e4m3 : ∀ (v0 : BitVec 32) (v339 : BitVec 32) (k0_hw8 : k0_chk8 v0 v339), ∀ (k0_h1 : k0_cond1 v0 = 1#1), (Rect.unit (s := S3840x576x128) (k0_off8 v339) S1x576x128.size (k0_off8_inb v0 v339 k0_hw8 k0_h1)).WholeWords (EltTy.packing .fp8e4m3) := fun v0 v339 k0_hw8 k0_h1 => k0_hw8.2 k0_h1 (k0_off8_inb v0 v339 k0_hw8 k0_h1)

def k0_off9 (v248 : BitVec 32) : Fin 3 → Nat :=
  let c0_i32_404 : BitVec 32 := 0#32
  let c0_i32_405 : BitVec 32 := 0#32
  ![v248.toNat, 0, 0]
def k0_cond2 (v4 : BitVec 32) : BitVec 1 :=
  let c128_i32 : BitVec 32 := 128#32
  let v5 : BitVec 1 := Scalar.cmpi .sgt v4 c128_i32
  let v6 : BitVec 32 := Scalar.extui v5
  let c0_i32_2 : BitVec 32 := 0#32
  let v7 : BitVec 1 := Scalar.cmpi .ne v6 c0_i32_2
  v7

def k0_chk9 (v4 : BitVec 32) (v248 : BitVec 32) : Prop :=
  (∀ (k0_h2 : k0_cond2 v4 = 1#1), ∀ a, (k0_off9 v248) a + S1x576x128.size a ≤ S3840x576x128.size a) ∧
  (∀ (k0_h2 : k0_cond2 v4 = 1#1), ∀ (hinb : ∀ a, (k0_off9 v248) a + S1x576x128.size a ≤ S3840x576x128.size a), (Rect.unit (s := S3840x576x128) (k0_off9 v248) S1x576x128.size hinb).WholeWords (EltTy.packing .fp8e4m3))
theorem k0_off9_inb : ∀ (v4 : BitVec 32) (v248 : BitVec 32) (k0_hw9 : k0_chk9 v4 v248), ∀ (k0_h2 : k0_cond2 v4 = 1#1), ∀ a, (k0_off9 v248) a + S1x576x128.size a ≤ S3840x576x128.size a := fun v4 v248 k0_hw9 k0_h2 => k0_hw9.1 k0_h2
theorem k0_off9_wordsfp8e4m3 : ∀ (v4 : BitVec 32) (v248 : BitVec 32) (k0_hw9 : k0_chk9 v4 v248), ∀ (k0_h2 : k0_cond2 v4 = 1#1), (Rect.unit (s := S3840x576x128) (k0_off9 v248) S1x576x128.size (k0_off9_inb v4 v248 k0_hw9 k0_h2)).WholeWords (EltTy.packing .fp8e4m3) := fun v4 v248 k0_hw9 k0_h2 => k0_hw9.2 k0_h2 (k0_off9_inb v4 v248 k0_hw9 k0_h2)

def k0_off10 (v261 : BitVec 32) : Fin 3 → Nat :=
  let c0_i32_421 : BitVec 32 := 0#32
  let c0_i32_422 : BitVec 32 := 0#32
  ![v261.toNat, 0, 0]

def k0_chk10 (v4 : BitVec 32) (v261 : BitVec 32) : Prop :=
  (∀ (k0_h2 : k0_cond2 v4 = 1#1), ∀ a, (k0_off10 v261) a + S1x576x128.size a ≤ S3840x576x128.size a) ∧
  (∀ (k0_h2 : k0_cond2 v4 = 1#1), ∀ (hinb : ∀ a, (k0_off10 v261) a + S1x576x128.size a ≤ S3840x576x128.size a), (Rect.unit (s := S3840x576x128) (k0_off10 v261) S1x576x128.size hinb).WholeWords (EltTy.packing .fp8e4m3))
theorem k0_off10_inb : ∀ (v4 : BitVec 32) (v261 : BitVec 32) (k0_hw10 : k0_chk10 v4 v261), ∀ (k0_h2 : k0_cond2 v4 = 1#1), ∀ a, (k0_off10 v261) a + S1x576x128.size a ≤ S3840x576x128.size a := fun v4 v261 k0_hw10 k0_h2 => k0_hw10.1 k0_h2
theorem k0_off10_wordsfp8e4m3 : ∀ (v4 : BitVec 32) (v261 : BitVec 32) (k0_hw10 : k0_chk10 v4 v261), ∀ (k0_h2 : k0_cond2 v4 = 1#1), (Rect.unit (s := S3840x576x128) (k0_off10 v261) S1x576x128.size (k0_off10_inb v4 v261 k0_hw10 k0_h2)).WholeWords (EltTy.packing .fp8e4m3) := fun v4 v261 k0_hw10 k0_h2 => k0_hw10.2 k0_h2 (k0_off10_inb v4 v261 k0_hw10 k0_h2)

def k0_off11 (v274 : BitVec 32) : Fin 3 → Nat :=
  let c0_i32_438 : BitVec 32 := 0#32
  let c0_i32_439 : BitVec 32 := 0#32
  ![v274.toNat, 0, 0]

def k0_chk11 (v4 : BitVec 32) (v274 : BitVec 32) : Prop :=
  (∀ (k0_h2 : k0_cond2 v4 = 1#1), ∀ a, (k0_off11 v274) a + S1x576x128.size a ≤ S3840x576x128.size a) ∧
  (∀ (k0_h2 : k0_cond2 v4 = 1#1), ∀ (hinb : ∀ a, (k0_off11 v274) a + S1x576x128.size a ≤ S3840x576x128.size a), (Rect.unit (s := S3840x576x128) (k0_off11 v274) S1x576x128.size hinb).WholeWords (EltTy.packing .fp8e4m3))
theorem k0_off11_inb : ∀ (v4 : BitVec 32) (v274 : BitVec 32) (k0_hw11 : k0_chk11 v4 v274), ∀ (k0_h2 : k0_cond2 v4 = 1#1), ∀ a, (k0_off11 v274) a + S1x576x128.size a ≤ S3840x576x128.size a := fun v4 v274 k0_hw11 k0_h2 => k0_hw11.1 k0_h2
theorem k0_off11_wordsfp8e4m3 : ∀ (v4 : BitVec 32) (v274 : BitVec 32) (k0_hw11 : k0_chk11 v4 v274), ∀ (k0_h2 : k0_cond2 v4 = 1#1), (Rect.unit (s := S3840x576x128) (k0_off11 v274) S1x576x128.size (k0_off11_inb v4 v274 k0_hw11 k0_h2)).WholeWords (EltTy.packing .fp8e4m3) := fun v4 v274 k0_hw11 k0_h2 => k0_hw11.2 k0_h2 (k0_off11_inb v4 v274 k0_hw11 k0_h2)

def k0_off12 (v287 : BitVec 32) : Fin 3 → Nat :=
  let c0_i32_455 : BitVec 32 := 0#32
  let c0_i32_456 : BitVec 32 := 0#32
  ![v287.toNat, 0, 0]

def k0_chk12 (v4 : BitVec 32) (v287 : BitVec 32) : Prop :=
  (∀ (k0_h2 : k0_cond2 v4 = 1#1), ∀ a, (k0_off12 v287) a + S1x576x128.size a ≤ S3840x576x128.size a) ∧
  (∀ (k0_h2 : k0_cond2 v4 = 1#1), ∀ (hinb : ∀ a, (k0_off12 v287) a + S1x576x128.size a ≤ S3840x576x128.size a), (Rect.unit (s := S3840x576x128) (k0_off12 v287) S1x576x128.size hinb).WholeWords (EltTy.packing .fp8e4m3))
theorem k0_off12_inb : ∀ (v4 : BitVec 32) (v287 : BitVec 32) (k0_hw12 : k0_chk12 v4 v287), ∀ (k0_h2 : k0_cond2 v4 = 1#1), ∀ a, (k0_off12 v287) a + S1x576x128.size a ≤ S3840x576x128.size a := fun v4 v287 k0_hw12 k0_h2 => k0_hw12.1 k0_h2
theorem k0_off12_wordsfp8e4m3 : ∀ (v4 : BitVec 32) (v287 : BitVec 32) (k0_hw12 : k0_chk12 v4 v287), ∀ (k0_h2 : k0_cond2 v4 = 1#1), (Rect.unit (s := S3840x576x128) (k0_off12 v287) S1x576x128.size (k0_off12_inb v4 v287 k0_hw12 k0_h2)).WholeWords (EltTy.packing .fp8e4m3) := fun v4 v287 k0_hw12 k0_h2 => k0_hw12.2 k0_h2 (k0_off12_inb v4 v287 k0_hw12 k0_h2)

def k0_off13 (v300 : BitVec 32) : Fin 3 → Nat :=
  let c0_i32_472 : BitVec 32 := 0#32
  let c0_i32_473 : BitVec 32 := 0#32
  ![v300.toNat, 0, 0]

def k0_chk13 (v4 : BitVec 32) (v300 : BitVec 32) : Prop :=
  (∀ (k0_h2 : k0_cond2 v4 = 1#1), ∀ a, (k0_off13 v300) a + S1x576x128.size a ≤ S3840x576x128.size a) ∧
  (∀ (k0_h2 : k0_cond2 v4 = 1#1), ∀ (hinb : ∀ a, (k0_off13 v300) a + S1x576x128.size a ≤ S3840x576x128.size a), (Rect.unit (s := S3840x576x128) (k0_off13 v300) S1x576x128.size hinb).WholeWords (EltTy.packing .fp8e4m3))
theorem k0_off13_inb : ∀ (v4 : BitVec 32) (v300 : BitVec 32) (k0_hw13 : k0_chk13 v4 v300), ∀ (k0_h2 : k0_cond2 v4 = 1#1), ∀ a, (k0_off13 v300) a + S1x576x128.size a ≤ S3840x576x128.size a := fun v4 v300 k0_hw13 k0_h2 => k0_hw13.1 k0_h2
theorem k0_off13_wordsfp8e4m3 : ∀ (v4 : BitVec 32) (v300 : BitVec 32) (k0_hw13 : k0_chk13 v4 v300), ∀ (k0_h2 : k0_cond2 v4 = 1#1), (Rect.unit (s := S3840x576x128) (k0_off13 v300) S1x576x128.size (k0_off13_inb v4 v300 k0_hw13 k0_h2)).WholeWords (EltTy.packing .fp8e4m3) := fun v4 v300 k0_hw13 k0_h2 => k0_hw13.2 k0_h2 (k0_off13_inb v4 v300 k0_hw13 k0_h2)

def k0_off14 (v313 : BitVec 32) : Fin 3 → Nat :=
  let c0_i32_489 : BitVec 32 := 0#32
  let c0_i32_490 : BitVec 32 := 0#32
  ![v313.toNat, 0, 0]

def k0_chk14 (v4 : BitVec 32) (v313 : BitVec 32) : Prop :=
  (∀ (k0_h2 : k0_cond2 v4 = 1#1), ∀ a, (k0_off14 v313) a + S1x576x128.size a ≤ S3840x576x128.size a) ∧
  (∀ (k0_h2 : k0_cond2 v4 = 1#1), ∀ (hinb : ∀ a, (k0_off14 v313) a + S1x576x128.size a ≤ S3840x576x128.size a), (Rect.unit (s := S3840x576x128) (k0_off14 v313) S1x576x128.size hinb).WholeWords (EltTy.packing .fp8e4m3))
theorem k0_off14_inb : ∀ (v4 : BitVec 32) (v313 : BitVec 32) (k0_hw14 : k0_chk14 v4 v313), ∀ (k0_h2 : k0_cond2 v4 = 1#1), ∀ a, (k0_off14 v313) a + S1x576x128.size a ≤ S3840x576x128.size a := fun v4 v313 k0_hw14 k0_h2 => k0_hw14.1 k0_h2
theorem k0_off14_wordsfp8e4m3 : ∀ (v4 : BitVec 32) (v313 : BitVec 32) (k0_hw14 : k0_chk14 v4 v313), ∀ (k0_h2 : k0_cond2 v4 = 1#1), (Rect.unit (s := S3840x576x128) (k0_off14 v313) S1x576x128.size (k0_off14_inb v4 v313 k0_hw14 k0_h2)).WholeWords (EltTy.packing .fp8e4m3) := fun v4 v313 k0_hw14 k0_h2 => k0_hw14.2 k0_h2 (k0_off14_inb v4 v313 k0_hw14 k0_h2)

def k0_off15 (v326 : BitVec 32) : Fin 3 → Nat :=
  let c0_i32_505 : BitVec 32 := 0#32
  let c0_i32_506 : BitVec 32 := 0#32
  ![v326.toNat, 0, 0]

def k0_chk15 (v4 : BitVec 32) (v326 : BitVec 32) : Prop :=
  (∀ (k0_h2 : k0_cond2 v4 = 1#1), ∀ a, (k0_off15 v326) a + S1x576x128.size a ≤ S3840x576x128.size a) ∧
  (∀ (k0_h2 : k0_cond2 v4 = 1#1), ∀ (hinb : ∀ a, (k0_off15 v326) a + S1x576x128.size a ≤ S3840x576x128.size a), (Rect.unit (s := S3840x576x128) (k0_off15 v326) S1x576x128.size hinb).WholeWords (EltTy.packing .fp8e4m3))
theorem k0_off15_inb : ∀ (v4 : BitVec 32) (v326 : BitVec 32) (k0_hw15 : k0_chk15 v4 v326), ∀ (k0_h2 : k0_cond2 v4 = 1#1), ∀ a, (k0_off15 v326) a + S1x576x128.size a ≤ S3840x576x128.size a := fun v4 v326 k0_hw15 k0_h2 => k0_hw15.1 k0_h2
theorem k0_off15_wordsfp8e4m3 : ∀ (v4 : BitVec 32) (v326 : BitVec 32) (k0_hw15 : k0_chk15 v4 v326), ∀ (k0_h2 : k0_cond2 v4 = 1#1), (Rect.unit (s := S3840x576x128) (k0_off15 v326) S1x576x128.size (k0_off15_inb v4 v326 k0_hw15 k0_h2)).WholeWords (EltTy.packing .fp8e4m3) := fun v4 v326 k0_hw15 k0_h2 => k0_hw15.2 k0_h2 (k0_off15_inb v4 v326 k0_hw15 k0_h2)

def k0_off16 (v339 : BitVec 32) : Fin 3 → Nat :=
  let c0_i32_521 : BitVec 32 := 0#32
  let c0_i32_522 : BitVec 32 := 0#32
  ![v339.toNat, 0, 0]

def k0_chk16 (v4 : BitVec 32) (v339 : BitVec 32) : Prop :=
  (∀ (k0_h2 : k0_cond2 v4 = 1#1), ∀ a, (k0_off16 v339) a + S1x576x128.size a ≤ S3840x576x128.size a) ∧
  (∀ (k0_h2 : k0_cond2 v4 = 1#1), ∀ (hinb : ∀ a, (k0_off16 v339) a + S1x576x128.size a ≤ S3840x576x128.size a), (Rect.unit (s := S3840x576x128) (k0_off16 v339) S1x576x128.size hinb).WholeWords (EltTy.packing .fp8e4m3))
theorem k0_off16_inb : ∀ (v4 : BitVec 32) (v339 : BitVec 32) (k0_hw16 : k0_chk16 v4 v339), ∀ (k0_h2 : k0_cond2 v4 = 1#1), ∀ a, (k0_off16 v339) a + S1x576x128.size a ≤ S3840x576x128.size a := fun v4 v339 k0_hw16 k0_h2 => k0_hw16.1 k0_h2
theorem k0_off16_wordsfp8e4m3 : ∀ (v4 : BitVec 32) (v339 : BitVec 32) (k0_hw16 : k0_chk16 v4 v339), ∀ (k0_h2 : k0_cond2 v4 = 1#1), (Rect.unit (s := S3840x576x128) (k0_off16 v339) S1x576x128.size (k0_off16_inb v4 v339 k0_hw16 k0_h2)).WholeWords (EltTy.packing .fp8e4m3) := fun v4 v339 k0_hw16 k0_h2 => k0_hw16.2 k0_h2 (k0_off16_inb v4 v339 k0_hw16 k0_h2)

def k0_off17 (v248 : BitVec 32) : Fin 3 → Nat :=
  let c0_i32_404 : BitVec 32 := 0#32
  let c0_i32_405 : BitVec 32 := 0#32
  ![v248.toNat, 0, 0]
def k0_cond3 (v8 : BitVec 32) : BitVec 1 :=
  let c256_i32 : BitVec 32 := 256#32
  let v9 : BitVec 1 := Scalar.cmpi .sgt v8 c256_i32
  let v10 : BitVec 32 := Scalar.extui v9
  let c0_i32_4 : BitVec 32 := 0#32
  let v11 : BitVec 1 := Scalar.cmpi .ne v10 c0_i32_4
  v11

def k0_chk17 (v8 : BitVec 32) (v248 : BitVec 32) : Prop :=
  (∀ (k0_h3 : k0_cond3 v8 = 1#1), ∀ a, (k0_off17 v248) a + S1x576x128.size a ≤ S3840x576x128.size a) ∧
  (∀ (k0_h3 : k0_cond3 v8 = 1#1), ∀ (hinb : ∀ a, (k0_off17 v248) a + S1x576x128.size a ≤ S3840x576x128.size a), (Rect.unit (s := S3840x576x128) (k0_off17 v248) S1x576x128.size hinb).WholeWords (EltTy.packing .fp8e4m3))
theorem k0_off17_inb : ∀ (v8 : BitVec 32) (v248 : BitVec 32) (k0_hw17 : k0_chk17 v8 v248), ∀ (k0_h3 : k0_cond3 v8 = 1#1), ∀ a, (k0_off17 v248) a + S1x576x128.size a ≤ S3840x576x128.size a := fun v8 v248 k0_hw17 k0_h3 => k0_hw17.1 k0_h3
theorem k0_off17_wordsfp8e4m3 : ∀ (v8 : BitVec 32) (v248 : BitVec 32) (k0_hw17 : k0_chk17 v8 v248), ∀ (k0_h3 : k0_cond3 v8 = 1#1), (Rect.unit (s := S3840x576x128) (k0_off17 v248) S1x576x128.size (k0_off17_inb v8 v248 k0_hw17 k0_h3)).WholeWords (EltTy.packing .fp8e4m3) := fun v8 v248 k0_hw17 k0_h3 => k0_hw17.2 k0_h3 (k0_off17_inb v8 v248 k0_hw17 k0_h3)

def k0_off18 (v261 : BitVec 32) : Fin 3 → Nat :=
  let c0_i32_421 : BitVec 32 := 0#32
  let c0_i32_422 : BitVec 32 := 0#32
  ![v261.toNat, 0, 0]

def k0_chk18 (v8 : BitVec 32) (v261 : BitVec 32) : Prop :=
  (∀ (k0_h3 : k0_cond3 v8 = 1#1), ∀ a, (k0_off18 v261) a + S1x576x128.size a ≤ S3840x576x128.size a) ∧
  (∀ (k0_h3 : k0_cond3 v8 = 1#1), ∀ (hinb : ∀ a, (k0_off18 v261) a + S1x576x128.size a ≤ S3840x576x128.size a), (Rect.unit (s := S3840x576x128) (k0_off18 v261) S1x576x128.size hinb).WholeWords (EltTy.packing .fp8e4m3))
theorem k0_off18_inb : ∀ (v8 : BitVec 32) (v261 : BitVec 32) (k0_hw18 : k0_chk18 v8 v261), ∀ (k0_h3 : k0_cond3 v8 = 1#1), ∀ a, (k0_off18 v261) a + S1x576x128.size a ≤ S3840x576x128.size a := fun v8 v261 k0_hw18 k0_h3 => k0_hw18.1 k0_h3
theorem k0_off18_wordsfp8e4m3 : ∀ (v8 : BitVec 32) (v261 : BitVec 32) (k0_hw18 : k0_chk18 v8 v261), ∀ (k0_h3 : k0_cond3 v8 = 1#1), (Rect.unit (s := S3840x576x128) (k0_off18 v261) S1x576x128.size (k0_off18_inb v8 v261 k0_hw18 k0_h3)).WholeWords (EltTy.packing .fp8e4m3) := fun v8 v261 k0_hw18 k0_h3 => k0_hw18.2 k0_h3 (k0_off18_inb v8 v261 k0_hw18 k0_h3)

def k0_off19 (v274 : BitVec 32) : Fin 3 → Nat :=
  let c0_i32_438 : BitVec 32 := 0#32
  let c0_i32_439 : BitVec 32 := 0#32
  ![v274.toNat, 0, 0]

def k0_chk19 (v8 : BitVec 32) (v274 : BitVec 32) : Prop :=
  (∀ (k0_h3 : k0_cond3 v8 = 1#1), ∀ a, (k0_off19 v274) a + S1x576x128.size a ≤ S3840x576x128.size a) ∧
  (∀ (k0_h3 : k0_cond3 v8 = 1#1), ∀ (hinb : ∀ a, (k0_off19 v274) a + S1x576x128.size a ≤ S3840x576x128.size a), (Rect.unit (s := S3840x576x128) (k0_off19 v274) S1x576x128.size hinb).WholeWords (EltTy.packing .fp8e4m3))
theorem k0_off19_inb : ∀ (v8 : BitVec 32) (v274 : BitVec 32) (k0_hw19 : k0_chk19 v8 v274), ∀ (k0_h3 : k0_cond3 v8 = 1#1), ∀ a, (k0_off19 v274) a + S1x576x128.size a ≤ S3840x576x128.size a := fun v8 v274 k0_hw19 k0_h3 => k0_hw19.1 k0_h3
theorem k0_off19_wordsfp8e4m3 : ∀ (v8 : BitVec 32) (v274 : BitVec 32) (k0_hw19 : k0_chk19 v8 v274), ∀ (k0_h3 : k0_cond3 v8 = 1#1), (Rect.unit (s := S3840x576x128) (k0_off19 v274) S1x576x128.size (k0_off19_inb v8 v274 k0_hw19 k0_h3)).WholeWords (EltTy.packing .fp8e4m3) := fun v8 v274 k0_hw19 k0_h3 => k0_hw19.2 k0_h3 (k0_off19_inb v8 v274 k0_hw19 k0_h3)

def k0_off20 (v287 : BitVec 32) : Fin 3 → Nat :=
  let c0_i32_455 : BitVec 32 := 0#32
  let c0_i32_456 : BitVec 32 := 0#32
  ![v287.toNat, 0, 0]

def k0_chk20 (v8 : BitVec 32) (v287 : BitVec 32) : Prop :=
  (∀ (k0_h3 : k0_cond3 v8 = 1#1), ∀ a, (k0_off20 v287) a + S1x576x128.size a ≤ S3840x576x128.size a) ∧
  (∀ (k0_h3 : k0_cond3 v8 = 1#1), ∀ (hinb : ∀ a, (k0_off20 v287) a + S1x576x128.size a ≤ S3840x576x128.size a), (Rect.unit (s := S3840x576x128) (k0_off20 v287) S1x576x128.size hinb).WholeWords (EltTy.packing .fp8e4m3))
theorem k0_off20_inb : ∀ (v8 : BitVec 32) (v287 : BitVec 32) (k0_hw20 : k0_chk20 v8 v287), ∀ (k0_h3 : k0_cond3 v8 = 1#1), ∀ a, (k0_off20 v287) a + S1x576x128.size a ≤ S3840x576x128.size a := fun v8 v287 k0_hw20 k0_h3 => k0_hw20.1 k0_h3
theorem k0_off20_wordsfp8e4m3 : ∀ (v8 : BitVec 32) (v287 : BitVec 32) (k0_hw20 : k0_chk20 v8 v287), ∀ (k0_h3 : k0_cond3 v8 = 1#1), (Rect.unit (s := S3840x576x128) (k0_off20 v287) S1x576x128.size (k0_off20_inb v8 v287 k0_hw20 k0_h3)).WholeWords (EltTy.packing .fp8e4m3) := fun v8 v287 k0_hw20 k0_h3 => k0_hw20.2 k0_h3 (k0_off20_inb v8 v287 k0_hw20 k0_h3)

def k0_off21 (v300 : BitVec 32) : Fin 3 → Nat :=
  let c0_i32_472 : BitVec 32 := 0#32
  let c0_i32_473 : BitVec 32 := 0#32
  ![v300.toNat, 0, 0]

def k0_chk21 (v8 : BitVec 32) (v300 : BitVec 32) : Prop :=
  (∀ (k0_h3 : k0_cond3 v8 = 1#1), ∀ a, (k0_off21 v300) a + S1x576x128.size a ≤ S3840x576x128.size a) ∧
  (∀ (k0_h3 : k0_cond3 v8 = 1#1), ∀ (hinb : ∀ a, (k0_off21 v300) a + S1x576x128.size a ≤ S3840x576x128.size a), (Rect.unit (s := S3840x576x128) (k0_off21 v300) S1x576x128.size hinb).WholeWords (EltTy.packing .fp8e4m3))
theorem k0_off21_inb : ∀ (v8 : BitVec 32) (v300 : BitVec 32) (k0_hw21 : k0_chk21 v8 v300), ∀ (k0_h3 : k0_cond3 v8 = 1#1), ∀ a, (k0_off21 v300) a + S1x576x128.size a ≤ S3840x576x128.size a := fun v8 v300 k0_hw21 k0_h3 => k0_hw21.1 k0_h3
theorem k0_off21_wordsfp8e4m3 : ∀ (v8 : BitVec 32) (v300 : BitVec 32) (k0_hw21 : k0_chk21 v8 v300), ∀ (k0_h3 : k0_cond3 v8 = 1#1), (Rect.unit (s := S3840x576x128) (k0_off21 v300) S1x576x128.size (k0_off21_inb v8 v300 k0_hw21 k0_h3)).WholeWords (EltTy.packing .fp8e4m3) := fun v8 v300 k0_hw21 k0_h3 => k0_hw21.2 k0_h3 (k0_off21_inb v8 v300 k0_hw21 k0_h3)

def k0_off22 (v313 : BitVec 32) : Fin 3 → Nat :=
  let c0_i32_489 : BitVec 32 := 0#32
  let c0_i32_490 : BitVec 32 := 0#32
  ![v313.toNat, 0, 0]

def k0_chk22 (v8 : BitVec 32) (v313 : BitVec 32) : Prop :=
  (∀ (k0_h3 : k0_cond3 v8 = 1#1), ∀ a, (k0_off22 v313) a + S1x576x128.size a ≤ S3840x576x128.size a) ∧
  (∀ (k0_h3 : k0_cond3 v8 = 1#1), ∀ (hinb : ∀ a, (k0_off22 v313) a + S1x576x128.size a ≤ S3840x576x128.size a), (Rect.unit (s := S3840x576x128) (k0_off22 v313) S1x576x128.size hinb).WholeWords (EltTy.packing .fp8e4m3))
theorem k0_off22_inb : ∀ (v8 : BitVec 32) (v313 : BitVec 32) (k0_hw22 : k0_chk22 v8 v313), ∀ (k0_h3 : k0_cond3 v8 = 1#1), ∀ a, (k0_off22 v313) a + S1x576x128.size a ≤ S3840x576x128.size a := fun v8 v313 k0_hw22 k0_h3 => k0_hw22.1 k0_h3
theorem k0_off22_wordsfp8e4m3 : ∀ (v8 : BitVec 32) (v313 : BitVec 32) (k0_hw22 : k0_chk22 v8 v313), ∀ (k0_h3 : k0_cond3 v8 = 1#1), (Rect.unit (s := S3840x576x128) (k0_off22 v313) S1x576x128.size (k0_off22_inb v8 v313 k0_hw22 k0_h3)).WholeWords (EltTy.packing .fp8e4m3) := fun v8 v313 k0_hw22 k0_h3 => k0_hw22.2 k0_h3 (k0_off22_inb v8 v313 k0_hw22 k0_h3)

def k0_off23 (v326 : BitVec 32) : Fin 3 → Nat :=
  let c0_i32_505 : BitVec 32 := 0#32
  let c0_i32_506 : BitVec 32 := 0#32
  ![v326.toNat, 0, 0]

def k0_chk23 (v8 : BitVec 32) (v326 : BitVec 32) : Prop :=
  (∀ (k0_h3 : k0_cond3 v8 = 1#1), ∀ a, (k0_off23 v326) a + S1x576x128.size a ≤ S3840x576x128.size a) ∧
  (∀ (k0_h3 : k0_cond3 v8 = 1#1), ∀ (hinb : ∀ a, (k0_off23 v326) a + S1x576x128.size a ≤ S3840x576x128.size a), (Rect.unit (s := S3840x576x128) (k0_off23 v326) S1x576x128.size hinb).WholeWords (EltTy.packing .fp8e4m3))
theorem k0_off23_inb : ∀ (v8 : BitVec 32) (v326 : BitVec 32) (k0_hw23 : k0_chk23 v8 v326), ∀ (k0_h3 : k0_cond3 v8 = 1#1), ∀ a, (k0_off23 v326) a + S1x576x128.size a ≤ S3840x576x128.size a := fun v8 v326 k0_hw23 k0_h3 => k0_hw23.1 k0_h3
theorem k0_off23_wordsfp8e4m3 : ∀ (v8 : BitVec 32) (v326 : BitVec 32) (k0_hw23 : k0_chk23 v8 v326), ∀ (k0_h3 : k0_cond3 v8 = 1#1), (Rect.unit (s := S3840x576x128) (k0_off23 v326) S1x576x128.size (k0_off23_inb v8 v326 k0_hw23 k0_h3)).WholeWords (EltTy.packing .fp8e4m3) := fun v8 v326 k0_hw23 k0_h3 => k0_hw23.2 k0_h3 (k0_off23_inb v8 v326 k0_hw23 k0_h3)

def k0_off24 (v339 : BitVec 32) : Fin 3 → Nat :=
  let c0_i32_521 : BitVec 32 := 0#32
  let c0_i32_522 : BitVec 32 := 0#32
  ![v339.toNat, 0, 0]

def k0_chk24 (v8 : BitVec 32) (v339 : BitVec 32) : Prop :=
  (∀ (k0_h3 : k0_cond3 v8 = 1#1), ∀ a, (k0_off24 v339) a + S1x576x128.size a ≤ S3840x576x128.size a) ∧
  (∀ (k0_h3 : k0_cond3 v8 = 1#1), ∀ (hinb : ∀ a, (k0_off24 v339) a + S1x576x128.size a ≤ S3840x576x128.size a), (Rect.unit (s := S3840x576x128) (k0_off24 v339) S1x576x128.size hinb).WholeWords (EltTy.packing .fp8e4m3))
theorem k0_off24_inb : ∀ (v8 : BitVec 32) (v339 : BitVec 32) (k0_hw24 : k0_chk24 v8 v339), ∀ (k0_h3 : k0_cond3 v8 = 1#1), ∀ a, (k0_off24 v339) a + S1x576x128.size a ≤ S3840x576x128.size a := fun v8 v339 k0_hw24 k0_h3 => k0_hw24.1 k0_h3
theorem k0_off24_wordsfp8e4m3 : ∀ (v8 : BitVec 32) (v339 : BitVec 32) (k0_hw24 : k0_chk24 v8 v339), ∀ (k0_h3 : k0_cond3 v8 = 1#1), (Rect.unit (s := S3840x576x128) (k0_off24 v339) S1x576x128.size (k0_off24_inb v8 v339 k0_hw24 k0_h3)).WholeWords (EltTy.packing .fp8e4m3) := fun v8 v339 k0_hw24 k0_h3 => k0_hw24.2 k0_h3 (k0_off24_inb v8 v339 k0_hw24 k0_h3)

def k0_off25 (v248 : BitVec 32) : Fin 3 → Nat :=
  let c0_i32_404 : BitVec 32 := 0#32
  let c0_i32_405 : BitVec 32 := 0#32
  ![v248.toNat, 0, 0]
def k0_cond4 (v12 : BitVec 32) : BitVec 1 :=
  let c384_i32 : BitVec 32 := 384#32
  let v13 : BitVec 1 := Scalar.cmpi .sgt v12 c384_i32
  let v14 : BitVec 32 := Scalar.extui v13
  let c0_i32_6 : BitVec 32 := 0#32
  let v15 : BitVec 1 := Scalar.cmpi .ne v14 c0_i32_6
  v15

def k0_chk25 (v12 : BitVec 32) (v248 : BitVec 32) : Prop :=
  (∀ (k0_h4 : k0_cond4 v12 = 1#1), ∀ a, (k0_off25 v248) a + S1x576x128.size a ≤ S3840x576x128.size a) ∧
  (∀ (k0_h4 : k0_cond4 v12 = 1#1), ∀ (hinb : ∀ a, (k0_off25 v248) a + S1x576x128.size a ≤ S3840x576x128.size a), (Rect.unit (s := S3840x576x128) (k0_off25 v248) S1x576x128.size hinb).WholeWords (EltTy.packing .fp8e4m3))
theorem k0_off25_inb : ∀ (v12 : BitVec 32) (v248 : BitVec 32) (k0_hw25 : k0_chk25 v12 v248), ∀ (k0_h4 : k0_cond4 v12 = 1#1), ∀ a, (k0_off25 v248) a + S1x576x128.size a ≤ S3840x576x128.size a := fun v12 v248 k0_hw25 k0_h4 => k0_hw25.1 k0_h4
theorem k0_off25_wordsfp8e4m3 : ∀ (v12 : BitVec 32) (v248 : BitVec 32) (k0_hw25 : k0_chk25 v12 v248), ∀ (k0_h4 : k0_cond4 v12 = 1#1), (Rect.unit (s := S3840x576x128) (k0_off25 v248) S1x576x128.size (k0_off25_inb v12 v248 k0_hw25 k0_h4)).WholeWords (EltTy.packing .fp8e4m3) := fun v12 v248 k0_hw25 k0_h4 => k0_hw25.2 k0_h4 (k0_off25_inb v12 v248 k0_hw25 k0_h4)

def k0_off26 (v261 : BitVec 32) : Fin 3 → Nat :=
  let c0_i32_421 : BitVec 32 := 0#32
  let c0_i32_422 : BitVec 32 := 0#32
  ![v261.toNat, 0, 0]

def k0_chk26 (v12 : BitVec 32) (v261 : BitVec 32) : Prop :=
  (∀ (k0_h4 : k0_cond4 v12 = 1#1), ∀ a, (k0_off26 v261) a + S1x576x128.size a ≤ S3840x576x128.size a) ∧
  (∀ (k0_h4 : k0_cond4 v12 = 1#1), ∀ (hinb : ∀ a, (k0_off26 v261) a + S1x576x128.size a ≤ S3840x576x128.size a), (Rect.unit (s := S3840x576x128) (k0_off26 v261) S1x576x128.size hinb).WholeWords (EltTy.packing .fp8e4m3))
theorem k0_off26_inb : ∀ (v12 : BitVec 32) (v261 : BitVec 32) (k0_hw26 : k0_chk26 v12 v261), ∀ (k0_h4 : k0_cond4 v12 = 1#1), ∀ a, (k0_off26 v261) a + S1x576x128.size a ≤ S3840x576x128.size a := fun v12 v261 k0_hw26 k0_h4 => k0_hw26.1 k0_h4
theorem k0_off26_wordsfp8e4m3 : ∀ (v12 : BitVec 32) (v261 : BitVec 32) (k0_hw26 : k0_chk26 v12 v261), ∀ (k0_h4 : k0_cond4 v12 = 1#1), (Rect.unit (s := S3840x576x128) (k0_off26 v261) S1x576x128.size (k0_off26_inb v12 v261 k0_hw26 k0_h4)).WholeWords (EltTy.packing .fp8e4m3) := fun v12 v261 k0_hw26 k0_h4 => k0_hw26.2 k0_h4 (k0_off26_inb v12 v261 k0_hw26 k0_h4)

def k0_off27 (v274 : BitVec 32) : Fin 3 → Nat :=
  let c0_i32_438 : BitVec 32 := 0#32
  let c0_i32_439 : BitVec 32 := 0#32
  ![v274.toNat, 0, 0]

def k0_chk27 (v12 : BitVec 32) (v274 : BitVec 32) : Prop :=
  (∀ (k0_h4 : k0_cond4 v12 = 1#1), ∀ a, (k0_off27 v274) a + S1x576x128.size a ≤ S3840x576x128.size a) ∧
  (∀ (k0_h4 : k0_cond4 v12 = 1#1), ∀ (hinb : ∀ a, (k0_off27 v274) a + S1x576x128.size a ≤ S3840x576x128.size a), (Rect.unit (s := S3840x576x128) (k0_off27 v274) S1x576x128.size hinb).WholeWords (EltTy.packing .fp8e4m3))
theorem k0_off27_inb : ∀ (v12 : BitVec 32) (v274 : BitVec 32) (k0_hw27 : k0_chk27 v12 v274), ∀ (k0_h4 : k0_cond4 v12 = 1#1), ∀ a, (k0_off27 v274) a + S1x576x128.size a ≤ S3840x576x128.size a := fun v12 v274 k0_hw27 k0_h4 => k0_hw27.1 k0_h4
theorem k0_off27_wordsfp8e4m3 : ∀ (v12 : BitVec 32) (v274 : BitVec 32) (k0_hw27 : k0_chk27 v12 v274), ∀ (k0_h4 : k0_cond4 v12 = 1#1), (Rect.unit (s := S3840x576x128) (k0_off27 v274) S1x576x128.size (k0_off27_inb v12 v274 k0_hw27 k0_h4)).WholeWords (EltTy.packing .fp8e4m3) := fun v12 v274 k0_hw27 k0_h4 => k0_hw27.2 k0_h4 (k0_off27_inb v12 v274 k0_hw27 k0_h4)

def k0_off28 (v287 : BitVec 32) : Fin 3 → Nat :=
  let c0_i32_455 : BitVec 32 := 0#32
  let c0_i32_456 : BitVec 32 := 0#32
  ![v287.toNat, 0, 0]

def k0_chk28 (v12 : BitVec 32) (v287 : BitVec 32) : Prop :=
  (∀ (k0_h4 : k0_cond4 v12 = 1#1), ∀ a, (k0_off28 v287) a + S1x576x128.size a ≤ S3840x576x128.size a) ∧
  (∀ (k0_h4 : k0_cond4 v12 = 1#1), ∀ (hinb : ∀ a, (k0_off28 v287) a + S1x576x128.size a ≤ S3840x576x128.size a), (Rect.unit (s := S3840x576x128) (k0_off28 v287) S1x576x128.size hinb).WholeWords (EltTy.packing .fp8e4m3))
theorem k0_off28_inb : ∀ (v12 : BitVec 32) (v287 : BitVec 32) (k0_hw28 : k0_chk28 v12 v287), ∀ (k0_h4 : k0_cond4 v12 = 1#1), ∀ a, (k0_off28 v287) a + S1x576x128.size a ≤ S3840x576x128.size a := fun v12 v287 k0_hw28 k0_h4 => k0_hw28.1 k0_h4
theorem k0_off28_wordsfp8e4m3 : ∀ (v12 : BitVec 32) (v287 : BitVec 32) (k0_hw28 : k0_chk28 v12 v287), ∀ (k0_h4 : k0_cond4 v12 = 1#1), (Rect.unit (s := S3840x576x128) (k0_off28 v287) S1x576x128.size (k0_off28_inb v12 v287 k0_hw28 k0_h4)).WholeWords (EltTy.packing .fp8e4m3) := fun v12 v287 k0_hw28 k0_h4 => k0_hw28.2 k0_h4 (k0_off28_inb v12 v287 k0_hw28 k0_h4)

def k0_off29 (v300 : BitVec 32) : Fin 3 → Nat :=
  let c0_i32_472 : BitVec 32 := 0#32
  let c0_i32_473 : BitVec 32 := 0#32
  ![v300.toNat, 0, 0]

def k0_chk29 (v12 : BitVec 32) (v300 : BitVec 32) : Prop :=
  (∀ (k0_h4 : k0_cond4 v12 = 1#1), ∀ a, (k0_off29 v300) a + S1x576x128.size a ≤ S3840x576x128.size a) ∧
  (∀ (k0_h4 : k0_cond4 v12 = 1#1), ∀ (hinb : ∀ a, (k0_off29 v300) a + S1x576x128.size a ≤ S3840x576x128.size a), (Rect.unit (s := S3840x576x128) (k0_off29 v300) S1x576x128.size hinb).WholeWords (EltTy.packing .fp8e4m3))
theorem k0_off29_inb : ∀ (v12 : BitVec 32) (v300 : BitVec 32) (k0_hw29 : k0_chk29 v12 v300), ∀ (k0_h4 : k0_cond4 v12 = 1#1), ∀ a, (k0_off29 v300) a + S1x576x128.size a ≤ S3840x576x128.size a := fun v12 v300 k0_hw29 k0_h4 => k0_hw29.1 k0_h4
theorem k0_off29_wordsfp8e4m3 : ∀ (v12 : BitVec 32) (v300 : BitVec 32) (k0_hw29 : k0_chk29 v12 v300), ∀ (k0_h4 : k0_cond4 v12 = 1#1), (Rect.unit (s := S3840x576x128) (k0_off29 v300) S1x576x128.size (k0_off29_inb v12 v300 k0_hw29 k0_h4)).WholeWords (EltTy.packing .fp8e4m3) := fun v12 v300 k0_hw29 k0_h4 => k0_hw29.2 k0_h4 (k0_off29_inb v12 v300 k0_hw29 k0_h4)

def k0_off30 (v313 : BitVec 32) : Fin 3 → Nat :=
  let c0_i32_489 : BitVec 32 := 0#32
  let c0_i32_490 : BitVec 32 := 0#32
  ![v313.toNat, 0, 0]

def k0_chk30 (v12 : BitVec 32) (v313 : BitVec 32) : Prop :=
  (∀ (k0_h4 : k0_cond4 v12 = 1#1), ∀ a, (k0_off30 v313) a + S1x576x128.size a ≤ S3840x576x128.size a) ∧
  (∀ (k0_h4 : k0_cond4 v12 = 1#1), ∀ (hinb : ∀ a, (k0_off30 v313) a + S1x576x128.size a ≤ S3840x576x128.size a), (Rect.unit (s := S3840x576x128) (k0_off30 v313) S1x576x128.size hinb).WholeWords (EltTy.packing .fp8e4m3))
theorem k0_off30_inb : ∀ (v12 : BitVec 32) (v313 : BitVec 32) (k0_hw30 : k0_chk30 v12 v313), ∀ (k0_h4 : k0_cond4 v12 = 1#1), ∀ a, (k0_off30 v313) a + S1x576x128.size a ≤ S3840x576x128.size a := fun v12 v313 k0_hw30 k0_h4 => k0_hw30.1 k0_h4
theorem k0_off30_wordsfp8e4m3 : ∀ (v12 : BitVec 32) (v313 : BitVec 32) (k0_hw30 : k0_chk30 v12 v313), ∀ (k0_h4 : k0_cond4 v12 = 1#1), (Rect.unit (s := S3840x576x128) (k0_off30 v313) S1x576x128.size (k0_off30_inb v12 v313 k0_hw30 k0_h4)).WholeWords (EltTy.packing .fp8e4m3) := fun v12 v313 k0_hw30 k0_h4 => k0_hw30.2 k0_h4 (k0_off30_inb v12 v313 k0_hw30 k0_h4)

def k0_off31 (v326 : BitVec 32) : Fin 3 → Nat :=
  let c0_i32_505 : BitVec 32 := 0#32
  let c0_i32_506 : BitVec 32 := 0#32
  ![v326.toNat, 0, 0]

def k0_chk31 (v12 : BitVec 32) (v326 : BitVec 32) : Prop :=
  (∀ (k0_h4 : k0_cond4 v12 = 1#1), ∀ a, (k0_off31 v326) a + S1x576x128.size a ≤ S3840x576x128.size a) ∧
  (∀ (k0_h4 : k0_cond4 v12 = 1#1), ∀ (hinb : ∀ a, (k0_off31 v326) a + S1x576x128.size a ≤ S3840x576x128.size a), (Rect.unit (s := S3840x576x128) (k0_off31 v326) S1x576x128.size hinb).WholeWords (EltTy.packing .fp8e4m3))
theorem k0_off31_inb : ∀ (v12 : BitVec 32) (v326 : BitVec 32) (k0_hw31 : k0_chk31 v12 v326), ∀ (k0_h4 : k0_cond4 v12 = 1#1), ∀ a, (k0_off31 v326) a + S1x576x128.size a ≤ S3840x576x128.size a := fun v12 v326 k0_hw31 k0_h4 => k0_hw31.1 k0_h4
theorem k0_off31_wordsfp8e4m3 : ∀ (v12 : BitVec 32) (v326 : BitVec 32) (k0_hw31 : k0_chk31 v12 v326), ∀ (k0_h4 : k0_cond4 v12 = 1#1), (Rect.unit (s := S3840x576x128) (k0_off31 v326) S1x576x128.size (k0_off31_inb v12 v326 k0_hw31 k0_h4)).WholeWords (EltTy.packing .fp8e4m3) := fun v12 v326 k0_hw31 k0_h4 => k0_hw31.2 k0_h4 (k0_off31_inb v12 v326 k0_hw31 k0_h4)

def k0_off32 (v339 : BitVec 32) : Fin 3 → Nat :=
  let c0_i32_521 : BitVec 32 := 0#32
  let c0_i32_522 : BitVec 32 := 0#32
  ![v339.toNat, 0, 0]

def k0_chk32 (v12 : BitVec 32) (v339 : BitVec 32) : Prop :=
  (∀ (k0_h4 : k0_cond4 v12 = 1#1), ∀ a, (k0_off32 v339) a + S1x576x128.size a ≤ S3840x576x128.size a) ∧
  (∀ (k0_h4 : k0_cond4 v12 = 1#1), ∀ (hinb : ∀ a, (k0_off32 v339) a + S1x576x128.size a ≤ S3840x576x128.size a), (Rect.unit (s := S3840x576x128) (k0_off32 v339) S1x576x128.size hinb).WholeWords (EltTy.packing .fp8e4m3))
theorem k0_off32_inb : ∀ (v12 : BitVec 32) (v339 : BitVec 32) (k0_hw32 : k0_chk32 v12 v339), ∀ (k0_h4 : k0_cond4 v12 = 1#1), ∀ a, (k0_off32 v339) a + S1x576x128.size a ≤ S3840x576x128.size a := fun v12 v339 k0_hw32 k0_h4 => k0_hw32.1 k0_h4
theorem k0_off32_wordsfp8e4m3 : ∀ (v12 : BitVec 32) (v339 : BitVec 32) (k0_hw32 : k0_chk32 v12 v339), ∀ (k0_h4 : k0_cond4 v12 = 1#1), (Rect.unit (s := S3840x576x128) (k0_off32 v339) S1x576x128.size (k0_off32_inb v12 v339 k0_hw32 k0_h4)).WholeWords (EltTy.packing .fp8e4m3) := fun v12 v339 k0_hw32 k0_h4 => k0_hw32.2 k0_h4 (k0_off32_inb v12 v339 k0_hw32 k0_h4)

@[reducible] def k0_t1_loop : Scf.Loop 32 :=
  let c0_i32_27 : BitVec 32 := 0#32
  let c36_i32 : BitVec 32 := 36#32
  let v31 : BitVec 32 := Scalar.addi c0_i32_27 c36_i32
  let c1_i32_28 : BitVec 32 := 1#32
  ⟨c0_i32_27, v31, c1_i32_28⟩
def k0_off33 (k0_t1 : Fin k0_t1_loop.trips) : Fin 3 → Nat :=
  let c0_i32_398 : BitVec 32 := 0#32
  let c0_i32_27 : BitVec 32 := 0#32
  let c1_i32_28 : BitVec 32 := 1#32
  let arg16 : BitVec 32 := Scf.iv c0_i32_27 c1_i32_28 k0_t1
  let c1_i32_397 : BitVec 32 := 1#32
  let v248 : BitVec 32 := Scalar.muli arg16 c1_i32_397
  let v249 : BitVec 32 := Scalar.addi c0_i32_398 v248
  let v251 : Index := Scalar.indexCast v249
  let c0_399 : Index := 0#32
  let c0_400 : Index := 0#32
  ![v251.toNat, 0, 0]
@[reducible] def k0_t2_loop : Scf.Loop 32 :=
  let c0_i32_38 : BitVec 32 := 0#32
  let c30_i32 : BitVec 32 := 30#32
  let v37 : BitVec 32 := Scalar.addi c0_i32_38 c30_i32
  let c1_i32_39 : BitVec 32 := 1#32
  ⟨c0_i32_38, v37, c1_i32_39⟩
def k0_mult1 (k0_t2 : Fin k0_t2_loop.trips) : BitVec 32 :=
  let c0_i32_398 : BitVec 32 := 0#32
  let c0_i32_38 : BitVec 32 := 0#32
  let c1_i32_39 : BitVec 32 := 1#32
  let arg16 : BitVec 32 := Scf.iv c0_i32_38 c1_i32_39 k0_t2
  let c1_i32_397 : BitVec 32 := 1#32
  let v248 : BitVec 32 := Scalar.muli arg16 c1_i32_397
  let v249 : BitVec 32 := Scalar.addi c0_i32_398 v248
  let c128_i32_399 : BitVec 32 := 128#32
  let v250 : BitVec 32 := Scalar.muli v249 c128_i32_399
  v250
def k0_off34 (k0_t2 : Fin k0_t2_loop.trips) : Fin 4 → Nat :=
  let c0_400 : Index := 0#32
  let c0_401 : Index := 0#32
  let c0_402 : Index := 0#32
  let c0_i32_398 : BitVec 32 := 0#32
  let c0_i32_38 : BitVec 32 := 0#32
  let c1_i32_39 : BitVec 32 := 1#32
  let arg16 : BitVec 32 := Scf.iv c0_i32_38 c1_i32_39 k0_t2
  let c1_i32_397 : BitVec 32 := 1#32
  let v248 : BitVec 32 := Scalar.muli arg16 c1_i32_397
  let v249 : BitVec 32 := Scalar.addi c0_i32_398 v248
  let c128_i32_399 : BitVec 32 := 128#32
  let v250 : BitVec 32 := Scalar.muli v249 c128_i32_399
  let v251 : BitVec 32 := v250
  let v252 : Index := Scalar.indexCast v251
  ![0, 0, 0, v252.toNat]
def k0_off35 (k0_t2 : Fin k0_t2_loop.trips) : Fin 5 → Nat :=
  let c0_403 : Index := 0#32
  let c0_404 : Index := 0#32
  let c0_i32_398 : BitVec 32 := 0#32
  let c0_i32_38 : BitVec 32 := 0#32
  let c1_i32_39 : BitVec 32 := 1#32
  let arg16 : BitVec 32 := Scf.iv c0_i32_38 c1_i32_39 k0_t2
  let c1_i32_397 : BitVec 32 := 1#32
  let v248 : BitVec 32 := Scalar.muli arg16 c1_i32_397
  let v249 : BitVec 32 := Scalar.addi c0_i32_398 v248
  let v257 : Index := Scalar.indexCast v249
  let c0_405 : Index := 0#32
  let c0_406 : Index := 0#32
  ![0, 0, v257.toNat, 0, 0]
def k0_mult2 (k0_t2 : Fin k0_t2_loop.trips) : BitVec 32 :=
  let c0_i32_398 : BitVec 32 := 0#32
  let c0_i32_38 : BitVec 32 := 0#32
  let c1_i32_39 : BitVec 32 := 1#32
  let arg16 : BitVec 32 := Scf.iv c0_i32_38 c1_i32_39 k0_t2
  let c1_i32_397 : BitVec 32 := 1#32
  let v248 : BitVec 32 := Scalar.muli arg16 c1_i32_397
  let v249 : BitVec 32 := Scalar.addi c0_i32_398 v248
  let c128_i32_407 : BitVec 32 := 128#32
  let v261 : BitVec 32 := Scalar.muli v249 c128_i32_407
  v261
def k0_off36 (k0_t2 : Fin k0_t2_loop.trips) : Fin 4 → Nat :=
  let c0_408 : Index := 0#32
  let c1 : Index := 1#32
  let c0_409 : Index := 0#32
  let c0_i32_398 : BitVec 32 := 0#32
  let c0_i32_38 : BitVec 32 := 0#32
  let c1_i32_39 : BitVec 32 := 1#32
  let arg16 : BitVec 32 := Scf.iv c0_i32_38 c1_i32_39 k0_t2
  let c1_i32_397 : BitVec 32 := 1#32
  let v248 : BitVec 32 := Scalar.muli arg16 c1_i32_397
  let v249 : BitVec 32 := Scalar.addi c0_i32_398 v248
  let c128_i32_407 : BitVec 32 := 128#32
  let v261 : BitVec 32 := Scalar.muli v249 c128_i32_407
  let v262 : BitVec 32 := v261
  let v263 : Index := Scalar.indexCast v262
  ![0, 1, 0, v263.toNat]
def k0_off37 (k0_t2 : Fin k0_t2_loop.trips) : Fin 5 → Nat :=
  let c0_410 : Index := 0#32
  let c1_411 : Index := 1#32
  let c0_i32_398 : BitVec 32 := 0#32
  let c0_i32_38 : BitVec 32 := 0#32
  let c1_i32_39 : BitVec 32 := 1#32
  let arg16 : BitVec 32 := Scf.iv c0_i32_38 c1_i32_39 k0_t2
  let c1_i32_397 : BitVec 32 := 1#32
  let v248 : BitVec 32 := Scalar.muli arg16 c1_i32_397
  let v249 : BitVec 32 := Scalar.addi c0_i32_398 v248
  let v268 : Index := Scalar.indexCast v249
  let c0_412 : Index := 0#32
  let c0_413 : Index := 0#32
  ![0, 1, v268.toNat, 0, 0]
def k0_mult3 (k0_t2 : Fin k0_t2_loop.trips) : BitVec 32 :=
  let c0_i32_398 : BitVec 32 := 0#32
  let c0_i32_38 : BitVec 32 := 0#32
  let c1_i32_39 : BitVec 32 := 1#32
  let arg16 : BitVec 32 := Scf.iv c0_i32_38 c1_i32_39 k0_t2
  let c1_i32_397 : BitVec 32 := 1#32
  let v248 : BitVec 32 := Scalar.muli arg16 c1_i32_397
  let v249 : BitVec 32 := Scalar.addi c0_i32_398 v248
  let c128_i32_414 : BitVec 32 := 128#32
  let v272 : BitVec 32 := Scalar.muli v249 c128_i32_414
  v272
def k0_off38 (k0_t2 : Fin k0_t2_loop.trips) : Fin 4 → Nat :=
  let c0_415 : Index := 0#32
  let c2 : Index := 2#32
  let c0_416 : Index := 0#32
  let c0_i32_398 : BitVec 32 := 0#32
  let c0_i32_38 : BitVec 32 := 0#32
  let c1_i32_39 : BitVec 32 := 1#32
  let arg16 : BitVec 32 := Scf.iv c0_i32_38 c1_i32_39 k0_t2
  let c1_i32_397 : BitVec 32 := 1#32
  let v248 : BitVec 32 := Scalar.muli arg16 c1_i32_397
  let v249 : BitVec 32 := Scalar.addi c0_i32_398 v248
  let c128_i32_414 : BitVec 32 := 128#32
  let v272 : BitVec 32 := Scalar.muli v249 c128_i32_414
  let v273 : BitVec 32 := v272
  let v274 : Index := Scalar.indexCast v273
  ![0, 2, 0, v274.toNat]
def k0_off39 (k0_t2 : Fin k0_t2_loop.trips) : Fin 5 → Nat :=
  let c0_417 : Index := 0#32
  let c2_418 : Index := 2#32
  let c0_i32_398 : BitVec 32 := 0#32
  let c0_i32_38 : BitVec 32 := 0#32
  let c1_i32_39 : BitVec 32 := 1#32
  let arg16 : BitVec 32 := Scf.iv c0_i32_38 c1_i32_39 k0_t2
  let c1_i32_397 : BitVec 32 := 1#32
  let v248 : BitVec 32 := Scalar.muli arg16 c1_i32_397
  let v249 : BitVec 32 := Scalar.addi c0_i32_398 v248
  let v279 : Index := Scalar.indexCast v249
  let c0_419 : Index := 0#32
  let c0_420 : Index := 0#32
  ![0, 2, v279.toNat, 0, 0]
def k0_mult4 (k0_t2 : Fin k0_t2_loop.trips) : BitVec 32 :=
  let c0_i32_398 : BitVec 32 := 0#32
  let c0_i32_38 : BitVec 32 := 0#32
  let c1_i32_39 : BitVec 32 := 1#32
  let arg16 : BitVec 32 := Scf.iv c0_i32_38 c1_i32_39 k0_t2
  let c1_i32_397 : BitVec 32 := 1#32
  let v248 : BitVec 32 := Scalar.muli arg16 c1_i32_397
  let v249 : BitVec 32 := Scalar.addi c0_i32_398 v248
  let c128_i32_421 : BitVec 32 := 128#32
  let v283 : BitVec 32 := Scalar.muli v249 c128_i32_421
  v283
def k0_off40 (k0_t2 : Fin k0_t2_loop.trips) : Fin 4 → Nat :=
  let c0_422 : Index := 0#32
  let c3 : Index := 3#32
  let c0_423 : Index := 0#32
  let c0_i32_398 : BitVec 32 := 0#32
  let c0_i32_38 : BitVec 32 := 0#32
  let c1_i32_39 : BitVec 32 := 1#32
  let arg16 : BitVec 32 := Scf.iv c0_i32_38 c1_i32_39 k0_t2
  let c1_i32_397 : BitVec 32 := 1#32
  let v248 : BitVec 32 := Scalar.muli arg16 c1_i32_397
  let v249 : BitVec 32 := Scalar.addi c0_i32_398 v248
  let c128_i32_421 : BitVec 32 := 128#32
  let v283 : BitVec 32 := Scalar.muli v249 c128_i32_421
  let v284 : BitVec 32 := v283
  let v285 : Index := Scalar.indexCast v284
  ![0, 3, 0, v285.toNat]
def k0_off41 (k0_t2 : Fin k0_t2_loop.trips) : Fin 5 → Nat :=
  let c0_424 : Index := 0#32
  let c3_425 : Index := 3#32
  let c0_i32_398 : BitVec 32 := 0#32
  let c0_i32_38 : BitVec 32 := 0#32
  let c1_i32_39 : BitVec 32 := 1#32
  let arg16 : BitVec 32 := Scf.iv c0_i32_38 c1_i32_39 k0_t2
  let c1_i32_397 : BitVec 32 := 1#32
  let v248 : BitVec 32 := Scalar.muli arg16 c1_i32_397
  let v249 : BitVec 32 := Scalar.addi c0_i32_398 v248
  let v290 : Index := Scalar.indexCast v249
  let c0_426 : Index := 0#32
  let c0_427 : Index := 0#32
  ![0, 3, v290.toNat, 0, 0]
@[reducible] def k0_t3_loop : Scf.Loop 32 :=
  let c0_i32_56 : BitVec 32 := 0#32
  let c30_i32_57 : BitVec 32 := 30#32
  let v48 : BitVec 32 := Scalar.addi c0_i32_56 c30_i32_57
  let c1_i32_58 : BitVec 32 := 1#32
  ⟨c0_i32_56, v48, c1_i32_58⟩
def k0_mult5 (k0_t3 : Fin k0_t3_loop.trips) : BitVec 32 :=
  let c0_i32_398 : BitVec 32 := 0#32
  let c0_i32_56 : BitVec 32 := 0#32
  let c1_i32_58 : BitVec 32 := 1#32
  let arg16 : BitVec 32 := Scf.iv c0_i32_56 c1_i32_58 k0_t3
  let c1_i32_397 : BitVec 32 := 1#32
  let v248 : BitVec 32 := Scalar.muli arg16 c1_i32_397
  let v249 : BitVec 32 := Scalar.addi c0_i32_398 v248
  let c128_i32_399 : BitVec 32 := 128#32
  let v250 : BitVec 32 := Scalar.muli v249 c128_i32_399
  v250
def k0_off42 (k0_t3 : Fin k0_t3_loop.trips) : Fin 4 → Nat :=
  let c1 : Index := 1#32
  let c0_400 : Index := 0#32
  let c0_401 : Index := 0#32
  let c0_i32_398 : BitVec 32 := 0#32
  let c0_i32_56 : BitVec 32 := 0#32
  let c1_i32_58 : BitVec 32 := 1#32
  let arg16 : BitVec 32 := Scf.iv c0_i32_56 c1_i32_58 k0_t3
  let c1_i32_397 : BitVec 32 := 1#32
  let v248 : BitVec 32 := Scalar.muli arg16 c1_i32_397
  let v249 : BitVec 32 := Scalar.addi c0_i32_398 v248
  let c128_i32_399 : BitVec 32 := 128#32
  let v250 : BitVec 32 := Scalar.muli v249 c128_i32_399
  let v251 : BitVec 32 := v250
  let v252 : Index := Scalar.indexCast v251
  ![1, 0, 0, v252.toNat]
def k0_off43 (k0_t3 : Fin k0_t3_loop.trips) : Fin 5 → Nat :=
  let c0_402 : Index := 0#32
  let c4 : Index := 4#32
  let c0_i32_398 : BitVec 32 := 0#32
  let c0_i32_56 : BitVec 32 := 0#32
  let c1_i32_58 : BitVec 32 := 1#32
  let arg16 : BitVec 32 := Scf.iv c0_i32_56 c1_i32_58 k0_t3
  let c1_i32_397 : BitVec 32 := 1#32
  let v248 : BitVec 32 := Scalar.muli arg16 c1_i32_397
  let v249 : BitVec 32 := Scalar.addi c0_i32_398 v248
  let v257 : Index := Scalar.indexCast v249
  let c0_403 : Index := 0#32
  let c0_404 : Index := 0#32
  ![0, 4, v257.toNat, 0, 0]
def k0_mult6 (k0_t3 : Fin k0_t3_loop.trips) : BitVec 32 :=
  let c0_i32_398 : BitVec 32 := 0#32
  let c0_i32_56 : BitVec 32 := 0#32
  let c1_i32_58 : BitVec 32 := 1#32
  let arg16 : BitVec 32 := Scf.iv c0_i32_56 c1_i32_58 k0_t3
  let c1_i32_397 : BitVec 32 := 1#32
  let v248 : BitVec 32 := Scalar.muli arg16 c1_i32_397
  let v249 : BitVec 32 := Scalar.addi c0_i32_398 v248
  let c128_i32_405 : BitVec 32 := 128#32
  let v261 : BitVec 32 := Scalar.muli v249 c128_i32_405
  v261
def k0_off44 (k0_t3 : Fin k0_t3_loop.trips) : Fin 4 → Nat :=
  let c1_406 : Index := 1#32
  let c1_407 : Index := 1#32
  let c0_408 : Index := 0#32
  let c0_i32_398 : BitVec 32 := 0#32
  let c0_i32_56 : BitVec 32 := 0#32
  let c1_i32_58 : BitVec 32 := 1#32
  let arg16 : BitVec 32 := Scf.iv c0_i32_56 c1_i32_58 k0_t3
  let c1_i32_397 : BitVec 32 := 1#32
  let v248 : BitVec 32 := Scalar.muli arg16 c1_i32_397
  let v249 : BitVec 32 := Scalar.addi c0_i32_398 v248
  let c128_i32_405 : BitVec 32 := 128#32
  let v261 : BitVec 32 := Scalar.muli v249 c128_i32_405
  let v262 : BitVec 32 := v261
  let v263 : Index := Scalar.indexCast v262
  ![1, 1, 0, v263.toNat]
def k0_off45 (k0_t3 : Fin k0_t3_loop.trips) : Fin 5 → Nat :=
  let c0_409 : Index := 0#32
  let c5 : Index := 5#32
  let c0_i32_398 : BitVec 32 := 0#32
  let c0_i32_56 : BitVec 32 := 0#32
  let c1_i32_58 : BitVec 32 := 1#32
  let arg16 : BitVec 32 := Scf.iv c0_i32_56 c1_i32_58 k0_t3
  let c1_i32_397 : BitVec 32 := 1#32
  let v248 : BitVec 32 := Scalar.muli arg16 c1_i32_397
  let v249 : BitVec 32 := Scalar.addi c0_i32_398 v248
  let v268 : Index := Scalar.indexCast v249
  let c0_410 : Index := 0#32
  let c0_411 : Index := 0#32
  ![0, 5, v268.toNat, 0, 0]
def k0_mult7 (k0_t3 : Fin k0_t3_loop.trips) : BitVec 32 :=
  let c0_i32_398 : BitVec 32 := 0#32
  let c0_i32_56 : BitVec 32 := 0#32
  let c1_i32_58 : BitVec 32 := 1#32
  let arg16 : BitVec 32 := Scf.iv c0_i32_56 c1_i32_58 k0_t3
  let c1_i32_397 : BitVec 32 := 1#32
  let v248 : BitVec 32 := Scalar.muli arg16 c1_i32_397
  let v249 : BitVec 32 := Scalar.addi c0_i32_398 v248
  let c128_i32_412 : BitVec 32 := 128#32
  let v272 : BitVec 32 := Scalar.muli v249 c128_i32_412
  v272
def k0_off46 (k0_t3 : Fin k0_t3_loop.trips) : Fin 4 → Nat :=
  let c1_413 : Index := 1#32
  let c2 : Index := 2#32
  let c0_414 : Index := 0#32
  let c0_i32_398 : BitVec 32 := 0#32
  let c0_i32_56 : BitVec 32 := 0#32
  let c1_i32_58 : BitVec 32 := 1#32
  let arg16 : BitVec 32 := Scf.iv c0_i32_56 c1_i32_58 k0_t3
  let c1_i32_397 : BitVec 32 := 1#32
  let v248 : BitVec 32 := Scalar.muli arg16 c1_i32_397
  let v249 : BitVec 32 := Scalar.addi c0_i32_398 v248
  let c128_i32_412 : BitVec 32 := 128#32
  let v272 : BitVec 32 := Scalar.muli v249 c128_i32_412
  let v273 : BitVec 32 := v272
  let v274 : Index := Scalar.indexCast v273
  ![1, 2, 0, v274.toNat]
def k0_off47 (k0_t3 : Fin k0_t3_loop.trips) : Fin 5 → Nat :=
  let c0_415 : Index := 0#32
  let c6 : Index := 6#32
  let c0_i32_398 : BitVec 32 := 0#32
  let c0_i32_56 : BitVec 32 := 0#32
  let c1_i32_58 : BitVec 32 := 1#32
  let arg16 : BitVec 32 := Scf.iv c0_i32_56 c1_i32_58 k0_t3
  let c1_i32_397 : BitVec 32 := 1#32
  let v248 : BitVec 32 := Scalar.muli arg16 c1_i32_397
  let v249 : BitVec 32 := Scalar.addi c0_i32_398 v248
  let v279 : Index := Scalar.indexCast v249
  let c0_416 : Index := 0#32
  let c0_417 : Index := 0#32
  ![0, 6, v279.toNat, 0, 0]
def k0_mult8 (k0_t3 : Fin k0_t3_loop.trips) : BitVec 32 :=
  let c0_i32_398 : BitVec 32 := 0#32
  let c0_i32_56 : BitVec 32 := 0#32
  let c1_i32_58 : BitVec 32 := 1#32
  let arg16 : BitVec 32 := Scf.iv c0_i32_56 c1_i32_58 k0_t3
  let c1_i32_397 : BitVec 32 := 1#32
  let v248 : BitVec 32 := Scalar.muli arg16 c1_i32_397
  let v249 : BitVec 32 := Scalar.addi c0_i32_398 v248
  let c128_i32_418 : BitVec 32 := 128#32
  let v283 : BitVec 32 := Scalar.muli v249 c128_i32_418
  v283
def k0_off48 (k0_t3 : Fin k0_t3_loop.trips) : Fin 4 → Nat :=
  let c1_419 : Index := 1#32
  let c3 : Index := 3#32
  let c0_420 : Index := 0#32
  let c0_i32_398 : BitVec 32 := 0#32
  let c0_i32_56 : BitVec 32 := 0#32
  let c1_i32_58 : BitVec 32 := 1#32
  let arg16 : BitVec 32 := Scf.iv c0_i32_56 c1_i32_58 k0_t3
  let c1_i32_397 : BitVec 32 := 1#32
  let v248 : BitVec 32 := Scalar.muli arg16 c1_i32_397
  let v249 : BitVec 32 := Scalar.addi c0_i32_398 v248
  let c128_i32_418 : BitVec 32 := 128#32
  let v283 : BitVec 32 := Scalar.muli v249 c128_i32_418
  let v284 : BitVec 32 := v283
  let v285 : Index := Scalar.indexCast v284
  ![1, 3, 0, v285.toNat]
def k0_off49 (k0_t3 : Fin k0_t3_loop.trips) : Fin 5 → Nat :=
  let c0_421 : Index := 0#32
  let c7 : Index := 7#32
  let c0_i32_398 : BitVec 32 := 0#32
  let c0_i32_56 : BitVec 32 := 0#32
  let c1_i32_58 : BitVec 32 := 1#32
  let arg16 : BitVec 32 := Scf.iv c0_i32_56 c1_i32_58 k0_t3
  let c1_i32_397 : BitVec 32 := 1#32
  let v248 : BitVec 32 := Scalar.muli arg16 c1_i32_397
  let v249 : BitVec 32 := Scalar.addi c0_i32_398 v248
  let v290 : Index := Scalar.indexCast v249
  let c0_422 : Index := 0#32
  let c0_423 : Index := 0#32
  ![0, 7, v290.toNat, 0, 0]
@[reducible] def k0_t4_loop : Scf.Loop 32 :=
  let c0_i32_75 : BitVec 32 := 0#32
  let c30_i32_76 : BitVec 32 := 30#32
  let v59 : BitVec 32 := Scalar.addi c0_i32_75 c30_i32_76
  let c1_i32_77 : BitVec 32 := 1#32
  ⟨c0_i32_75, v59, c1_i32_77⟩
def k0_mult9 (k0_t4 : Fin k0_t4_loop.trips) : BitVec 32 :=
  let c0_i32_398 : BitVec 32 := 0#32
  let c0_i32_75 : BitVec 32 := 0#32
  let c1_i32_77 : BitVec 32 := 1#32
  let arg16 : BitVec 32 := Scf.iv c0_i32_75 c1_i32_77 k0_t4
  let c1_i32_397 : BitVec 32 := 1#32
  let v248 : BitVec 32 := Scalar.muli arg16 c1_i32_397
  let v249 : BitVec 32 := Scalar.addi c0_i32_398 v248
  let c128_i32_399 : BitVec 32 := 128#32
  let v250 : BitVec 32 := Scalar.muli v249 c128_i32_399
  v250
def k0_off50 (k0_t4 : Fin k0_t4_loop.trips) : Fin 4 → Nat :=
  let c2 : Index := 2#32
  let c0_400 : Index := 0#32
  let c0_401 : Index := 0#32
  let c0_i32_398 : BitVec 32 := 0#32
  let c0_i32_75 : BitVec 32 := 0#32
  let c1_i32_77 : BitVec 32 := 1#32
  let arg16 : BitVec 32 := Scf.iv c0_i32_75 c1_i32_77 k0_t4
  let c1_i32_397 : BitVec 32 := 1#32
  let v248 : BitVec 32 := Scalar.muli arg16 c1_i32_397
  let v249 : BitVec 32 := Scalar.addi c0_i32_398 v248
  let c128_i32_399 : BitVec 32 := 128#32
  let v250 : BitVec 32 := Scalar.muli v249 c128_i32_399
  let v251 : BitVec 32 := v250
  let v252 : Index := Scalar.indexCast v251
  ![2, 0, 0, v252.toNat]
def k0_off51 (k0_t4 : Fin k0_t4_loop.trips) : Fin 5 → Nat :=
  let c0_402 : Index := 0#32
  let c8 : Index := 8#32
  let c0_i32_398 : BitVec 32 := 0#32
  let c0_i32_75 : BitVec 32 := 0#32
  let c1_i32_77 : BitVec 32 := 1#32
  let arg16 : BitVec 32 := Scf.iv c0_i32_75 c1_i32_77 k0_t4
  let c1_i32_397 : BitVec 32 := 1#32
  let v248 : BitVec 32 := Scalar.muli arg16 c1_i32_397
  let v249 : BitVec 32 := Scalar.addi c0_i32_398 v248
  let v257 : Index := Scalar.indexCast v249
  let c0_403 : Index := 0#32
  let c0_404 : Index := 0#32
  ![0, 8, v257.toNat, 0, 0]
def k0_mult10 (k0_t4 : Fin k0_t4_loop.trips) : BitVec 32 :=
  let c0_i32_398 : BitVec 32 := 0#32
  let c0_i32_75 : BitVec 32 := 0#32
  let c1_i32_77 : BitVec 32 := 1#32
  let arg16 : BitVec 32 := Scf.iv c0_i32_75 c1_i32_77 k0_t4
  let c1_i32_397 : BitVec 32 := 1#32
  let v248 : BitVec 32 := Scalar.muli arg16 c1_i32_397
  let v249 : BitVec 32 := Scalar.addi c0_i32_398 v248
  let c128_i32_405 : BitVec 32 := 128#32
  let v261 : BitVec 32 := Scalar.muli v249 c128_i32_405
  v261
def k0_off52 (k0_t4 : Fin k0_t4_loop.trips) : Fin 4 → Nat :=
  let c2_406 : Index := 2#32
  let c1 : Index := 1#32
  let c0_407 : Index := 0#32
  let c0_i32_398 : BitVec 32 := 0#32
  let c0_i32_75 : BitVec 32 := 0#32
  let c1_i32_77 : BitVec 32 := 1#32
  let arg16 : BitVec 32 := Scf.iv c0_i32_75 c1_i32_77 k0_t4
  let c1_i32_397 : BitVec 32 := 1#32
  let v248 : BitVec 32 := Scalar.muli arg16 c1_i32_397
  let v249 : BitVec 32 := Scalar.addi c0_i32_398 v248
  let c128_i32_405 : BitVec 32 := 128#32
  let v261 : BitVec 32 := Scalar.muli v249 c128_i32_405
  let v262 : BitVec 32 := v261
  let v263 : Index := Scalar.indexCast v262
  ![2, 1, 0, v263.toNat]
def k0_off53 (k0_t4 : Fin k0_t4_loop.trips) : Fin 5 → Nat :=
  let c0_408 : Index := 0#32
  let c9 : Index := 9#32
  let c0_i32_398 : BitVec 32 := 0#32
  let c0_i32_75 : BitVec 32 := 0#32
  let c1_i32_77 : BitVec 32 := 1#32
  let arg16 : BitVec 32 := Scf.iv c0_i32_75 c1_i32_77 k0_t4
  let c1_i32_397 : BitVec 32 := 1#32
  let v248 : BitVec 32 := Scalar.muli arg16 c1_i32_397
  let v249 : BitVec 32 := Scalar.addi c0_i32_398 v248
  let v268 : Index := Scalar.indexCast v249
  let c0_409 : Index := 0#32
  let c0_410 : Index := 0#32
  ![0, 9, v268.toNat, 0, 0]
def k0_mult11 (k0_t4 : Fin k0_t4_loop.trips) : BitVec 32 :=
  let c0_i32_398 : BitVec 32 := 0#32
  let c0_i32_75 : BitVec 32 := 0#32
  let c1_i32_77 : BitVec 32 := 1#32
  let arg16 : BitVec 32 := Scf.iv c0_i32_75 c1_i32_77 k0_t4
  let c1_i32_397 : BitVec 32 := 1#32
  let v248 : BitVec 32 := Scalar.muli arg16 c1_i32_397
  let v249 : BitVec 32 := Scalar.addi c0_i32_398 v248
  let c128_i32_411 : BitVec 32 := 128#32
  let v272 : BitVec 32 := Scalar.muli v249 c128_i32_411
  v272
def k0_off54 (k0_t4 : Fin k0_t4_loop.trips) : Fin 4 → Nat :=
  let c2_412 : Index := 2#32
  let c2_413 : Index := 2#32
  let c0_414 : Index := 0#32
  let c0_i32_398 : BitVec 32 := 0#32
  let c0_i32_75 : BitVec 32 := 0#32
  let c1_i32_77 : BitVec 32 := 1#32
  let arg16 : BitVec 32 := Scf.iv c0_i32_75 c1_i32_77 k0_t4
  let c1_i32_397 : BitVec 32 := 1#32
  let v248 : BitVec 32 := Scalar.muli arg16 c1_i32_397
  let v249 : BitVec 32 := Scalar.addi c0_i32_398 v248
  let c128_i32_411 : BitVec 32 := 128#32
  let v272 : BitVec 32 := Scalar.muli v249 c128_i32_411
  let v273 : BitVec 32 := v272
  let v274 : Index := Scalar.indexCast v273
  ![2, 2, 0, v274.toNat]
def k0_off55 (k0_t4 : Fin k0_t4_loop.trips) : Fin 5 → Nat :=
  let c0_415 : Index := 0#32
  let c10 : Index := 10#32
  let c0_i32_398 : BitVec 32 := 0#32
  let c0_i32_75 : BitVec 32 := 0#32
  let c1_i32_77 : BitVec 32 := 1#32
  let arg16 : BitVec 32 := Scf.iv c0_i32_75 c1_i32_77 k0_t4
  let c1_i32_397 : BitVec 32 := 1#32
  let v248 : BitVec 32 := Scalar.muli arg16 c1_i32_397
  let v249 : BitVec 32 := Scalar.addi c0_i32_398 v248
  let v279 : Index := Scalar.indexCast v249
  let c0_416 : Index := 0#32
  let c0_417 : Index := 0#32
  ![0, 10, v279.toNat, 0, 0]
def k0_mult12 (k0_t4 : Fin k0_t4_loop.trips) : BitVec 32 :=
  let c0_i32_398 : BitVec 32 := 0#32
  let c0_i32_75 : BitVec 32 := 0#32
  let c1_i32_77 : BitVec 32 := 1#32
  let arg16 : BitVec 32 := Scf.iv c0_i32_75 c1_i32_77 k0_t4
  let c1_i32_397 : BitVec 32 := 1#32
  let v248 : BitVec 32 := Scalar.muli arg16 c1_i32_397
  let v249 : BitVec 32 := Scalar.addi c0_i32_398 v248
  let c128_i32_418 : BitVec 32 := 128#32
  let v283 : BitVec 32 := Scalar.muli v249 c128_i32_418
  v283
def k0_off56 (k0_t4 : Fin k0_t4_loop.trips) : Fin 4 → Nat :=
  let c2_419 : Index := 2#32
  let c3 : Index := 3#32
  let c0_420 : Index := 0#32
  let c0_i32_398 : BitVec 32 := 0#32
  let c0_i32_75 : BitVec 32 := 0#32
  let c1_i32_77 : BitVec 32 := 1#32
  let arg16 : BitVec 32 := Scf.iv c0_i32_75 c1_i32_77 k0_t4
  let c1_i32_397 : BitVec 32 := 1#32
  let v248 : BitVec 32 := Scalar.muli arg16 c1_i32_397
  let v249 : BitVec 32 := Scalar.addi c0_i32_398 v248
  let c128_i32_418 : BitVec 32 := 128#32
  let v283 : BitVec 32 := Scalar.muli v249 c128_i32_418
  let v284 : BitVec 32 := v283
  let v285 : Index := Scalar.indexCast v284
  ![2, 3, 0, v285.toNat]
def k0_off57 (k0_t4 : Fin k0_t4_loop.trips) : Fin 5 → Nat :=
  let c0_421 : Index := 0#32
  let c11 : Index := 11#32
  let c0_i32_398 : BitVec 32 := 0#32
  let c0_i32_75 : BitVec 32 := 0#32
  let c1_i32_77 : BitVec 32 := 1#32
  let arg16 : BitVec 32 := Scf.iv c0_i32_75 c1_i32_77 k0_t4
  let c1_i32_397 : BitVec 32 := 1#32
  let v248 : BitVec 32 := Scalar.muli arg16 c1_i32_397
  let v249 : BitVec 32 := Scalar.addi c0_i32_398 v248
  let v290 : Index := Scalar.indexCast v249
  let c0_422 : Index := 0#32
  let c0_423 : Index := 0#32
  ![0, 11, v290.toNat, 0, 0]
@[reducible] def k0_t5_loop : Scf.Loop 32 :=
  let c0_i32_94 : BitVec 32 := 0#32
  let c30_i32_95 : BitVec 32 := 30#32
  let v70 : BitVec 32 := Scalar.addi c0_i32_94 c30_i32_95
  let c1_i32_96 : BitVec 32 := 1#32
  ⟨c0_i32_94, v70, c1_i32_96⟩
def k0_mult13 (k0_t5 : Fin k0_t5_loop.trips) : BitVec 32 :=
  let c0_i32_398 : BitVec 32 := 0#32
  let c0_i32_94 : BitVec 32 := 0#32
  let c1_i32_96 : BitVec 32 := 1#32
  let arg16 : BitVec 32 := Scf.iv c0_i32_94 c1_i32_96 k0_t5
  let c1_i32_397 : BitVec 32 := 1#32
  let v248 : BitVec 32 := Scalar.muli arg16 c1_i32_397
  let v249 : BitVec 32 := Scalar.addi c0_i32_398 v248
  let c128_i32_399 : BitVec 32 := 128#32
  let v250 : BitVec 32 := Scalar.muli v249 c128_i32_399
  v250
def k0_off58 (k0_t5 : Fin k0_t5_loop.trips) : Fin 4 → Nat :=
  let c0_400 : Index := 0#32
  let c0_401 : Index := 0#32
  let c0_402 : Index := 0#32
  let c0_i32_398 : BitVec 32 := 0#32
  let c0_i32_94 : BitVec 32 := 0#32
  let c1_i32_96 : BitVec 32 := 1#32
  let arg16 : BitVec 32 := Scf.iv c0_i32_94 c1_i32_96 k0_t5
  let c1_i32_397 : BitVec 32 := 1#32
  let v248 : BitVec 32 := Scalar.muli arg16 c1_i32_397
  let v249 : BitVec 32 := Scalar.addi c0_i32_398 v248
  let c128_i32_399 : BitVec 32 := 128#32
  let v250 : BitVec 32 := Scalar.muli v249 c128_i32_399
  let v251 : BitVec 32 := v250
  let v252 : Index := Scalar.indexCast v251
  ![0, 0, 0, v252.toNat]
def k0_off59 (k0_t5 : Fin k0_t5_loop.trips) : Fin 5 → Nat :=
  let c0_403 : Index := 0#32
  let c12 : Index := 12#32
  let c0_i32_398 : BitVec 32 := 0#32
  let c0_i32_94 : BitVec 32 := 0#32
  let c1_i32_96 : BitVec 32 := 1#32
  let arg16 : BitVec 32 := Scf.iv c0_i32_94 c1_i32_96 k0_t5
  let c1_i32_397 : BitVec 32 := 1#32
  let v248 : BitVec 32 := Scalar.muli arg16 c1_i32_397
  let v249 : BitVec 32 := Scalar.addi c0_i32_398 v248
  let v257 : Index := Scalar.indexCast v249
  let c0_404 : Index := 0#32
  let c0_405 : Index := 0#32
  ![0, 12, v257.toNat, 0, 0]
def k0_mult14 (k0_t5 : Fin k0_t5_loop.trips) : BitVec 32 :=
  let c0_i32_398 : BitVec 32 := 0#32
  let c0_i32_94 : BitVec 32 := 0#32
  let c1_i32_96 : BitVec 32 := 1#32
  let arg16 : BitVec 32 := Scf.iv c0_i32_94 c1_i32_96 k0_t5
  let c1_i32_397 : BitVec 32 := 1#32
  let v248 : BitVec 32 := Scalar.muli arg16 c1_i32_397
  let v249 : BitVec 32 := Scalar.addi c0_i32_398 v248
  let c128_i32_406 : BitVec 32 := 128#32
  let v261 : BitVec 32 := Scalar.muli v249 c128_i32_406
  v261
def k0_off60 (k0_t5 : Fin k0_t5_loop.trips) : Fin 4 → Nat :=
  let c0_407 : Index := 0#32
  let c1 : Index := 1#32
  let c0_408 : Index := 0#32
  let c0_i32_398 : BitVec 32 := 0#32
  let c0_i32_94 : BitVec 32 := 0#32
  let c1_i32_96 : BitVec 32 := 1#32
  let arg16 : BitVec 32 := Scf.iv c0_i32_94 c1_i32_96 k0_t5
  let c1_i32_397 : BitVec 32 := 1#32
  let v248 : BitVec 32 := Scalar.muli arg16 c1_i32_397
  let v249 : BitVec 32 := Scalar.addi c0_i32_398 v248
  let c128_i32_406 : BitVec 32 := 128#32
  let v261 : BitVec 32 := Scalar.muli v249 c128_i32_406
  let v262 : BitVec 32 := v261
  let v263 : Index := Scalar.indexCast v262
  ![0, 1, 0, v263.toNat]
def k0_off61 (k0_t5 : Fin k0_t5_loop.trips) : Fin 5 → Nat :=
  let c0_409 : Index := 0#32
  let c13 : Index := 13#32
  let c0_i32_398 : BitVec 32 := 0#32
  let c0_i32_94 : BitVec 32 := 0#32
  let c1_i32_96 : BitVec 32 := 1#32
  let arg16 : BitVec 32 := Scf.iv c0_i32_94 c1_i32_96 k0_t5
  let c1_i32_397 : BitVec 32 := 1#32
  let v248 : BitVec 32 := Scalar.muli arg16 c1_i32_397
  let v249 : BitVec 32 := Scalar.addi c0_i32_398 v248
  let v268 : Index := Scalar.indexCast v249
  let c0_410 : Index := 0#32
  let c0_411 : Index := 0#32
  ![0, 13, v268.toNat, 0, 0]
def k0_mult15 (k0_t5 : Fin k0_t5_loop.trips) : BitVec 32 :=
  let c0_i32_398 : BitVec 32 := 0#32
  let c0_i32_94 : BitVec 32 := 0#32
  let c1_i32_96 : BitVec 32 := 1#32
  let arg16 : BitVec 32 := Scf.iv c0_i32_94 c1_i32_96 k0_t5
  let c1_i32_397 : BitVec 32 := 1#32
  let v248 : BitVec 32 := Scalar.muli arg16 c1_i32_397
  let v249 : BitVec 32 := Scalar.addi c0_i32_398 v248
  let c128_i32_412 : BitVec 32 := 128#32
  let v272 : BitVec 32 := Scalar.muli v249 c128_i32_412
  v272
def k0_off62 (k0_t5 : Fin k0_t5_loop.trips) : Fin 4 → Nat :=
  let c0_413 : Index := 0#32
  let c2 : Index := 2#32
  let c0_414 : Index := 0#32
  let c0_i32_398 : BitVec 32 := 0#32
  let c0_i32_94 : BitVec 32 := 0#32
  let c1_i32_96 : BitVec 32 := 1#32
  let arg16 : BitVec 32 := Scf.iv c0_i32_94 c1_i32_96 k0_t5
  let c1_i32_397 : BitVec 32 := 1#32
  let v248 : BitVec 32 := Scalar.muli arg16 c1_i32_397
  let v249 : BitVec 32 := Scalar.addi c0_i32_398 v248
  let c128_i32_412 : BitVec 32 := 128#32
  let v272 : BitVec 32 := Scalar.muli v249 c128_i32_412
  let v273 : BitVec 32 := v272
  let v274 : Index := Scalar.indexCast v273
  ![0, 2, 0, v274.toNat]
def k0_off63 (k0_t5 : Fin k0_t5_loop.trips) : Fin 5 → Nat :=
  let c0_415 : Index := 0#32
  let c14 : Index := 14#32
  let c0_i32_398 : BitVec 32 := 0#32
  let c0_i32_94 : BitVec 32 := 0#32
  let c1_i32_96 : BitVec 32 := 1#32
  let arg16 : BitVec 32 := Scf.iv c0_i32_94 c1_i32_96 k0_t5
  let c1_i32_397 : BitVec 32 := 1#32
  let v248 : BitVec 32 := Scalar.muli arg16 c1_i32_397
  let v249 : BitVec 32 := Scalar.addi c0_i32_398 v248
  let v279 : Index := Scalar.indexCast v249
  let c0_416 : Index := 0#32
  let c0_417 : Index := 0#32
  ![0, 14, v279.toNat, 0, 0]
def k0_mult16 (k0_t5 : Fin k0_t5_loop.trips) : BitVec 32 :=
  let c0_i32_398 : BitVec 32 := 0#32
  let c0_i32_94 : BitVec 32 := 0#32
  let c1_i32_96 : BitVec 32 := 1#32
  let arg16 : BitVec 32 := Scf.iv c0_i32_94 c1_i32_96 k0_t5
  let c1_i32_397 : BitVec 32 := 1#32
  let v248 : BitVec 32 := Scalar.muli arg16 c1_i32_397
  let v249 : BitVec 32 := Scalar.addi c0_i32_398 v248
  let c128_i32_418 : BitVec 32 := 128#32
  let v283 : BitVec 32 := Scalar.muli v249 c128_i32_418
  v283
def k0_off64 (k0_t5 : Fin k0_t5_loop.trips) : Fin 4 → Nat :=
  let c0_419 : Index := 0#32
  let c3 : Index := 3#32
  let c0_420 : Index := 0#32
  let c0_i32_398 : BitVec 32 := 0#32
  let c0_i32_94 : BitVec 32 := 0#32
  let c1_i32_96 : BitVec 32 := 1#32
  let arg16 : BitVec 32 := Scf.iv c0_i32_94 c1_i32_96 k0_t5
  let c1_i32_397 : BitVec 32 := 1#32
  let v248 : BitVec 32 := Scalar.muli arg16 c1_i32_397
  let v249 : BitVec 32 := Scalar.addi c0_i32_398 v248
  let c128_i32_418 : BitVec 32 := 128#32
  let v283 : BitVec 32 := Scalar.muli v249 c128_i32_418
  let v284 : BitVec 32 := v283
  let v285 : Index := Scalar.indexCast v284
  ![0, 3, 0, v285.toNat]
def k0_off65 (k0_t5 : Fin k0_t5_loop.trips) : Fin 5 → Nat :=
  let c0_421 : Index := 0#32
  let c15 : Index := 15#32
  let c0_i32_398 : BitVec 32 := 0#32
  let c0_i32_94 : BitVec 32 := 0#32
  let c1_i32_96 : BitVec 32 := 1#32
  let arg16 : BitVec 32 := Scf.iv c0_i32_94 c1_i32_96 k0_t5
  let c1_i32_397 : BitVec 32 := 1#32
  let v248 : BitVec 32 := Scalar.muli arg16 c1_i32_397
  let v249 : BitVec 32 := Scalar.addi c0_i32_398 v248
  let v290 : Index := Scalar.indexCast v249
  let c0_422 : Index := 0#32
  let c0_423 : Index := 0#32
  ![0, 15, v290.toNat, 0, 0]
@[reducible] def k0_t6_loop : Scf.Loop 32 :=
  let c0_i32_113 : BitVec 32 := 0#32
  let c30_i32_114 : BitVec 32 := 30#32
  let v81 : BitVec 32 := Scalar.addi c0_i32_113 c30_i32_114
  let c1_i32_115 : BitVec 32 := 1#32
  ⟨c0_i32_113, v81, c1_i32_115⟩
def k0_mult17 (k0_t6 : Fin k0_t6_loop.trips) : BitVec 32 :=
  let c0_i32_398 : BitVec 32 := 0#32
  let c0_i32_113 : BitVec 32 := 0#32
  let c1_i32_115 : BitVec 32 := 1#32
  let arg16 : BitVec 32 := Scf.iv c0_i32_113 c1_i32_115 k0_t6
  let c1_i32_397 : BitVec 32 := 1#32
  let v248 : BitVec 32 := Scalar.muli arg16 c1_i32_397
  let v249 : BitVec 32 := Scalar.addi c0_i32_398 v248
  let c128_i32_399 : BitVec 32 := 128#32
  let v250 : BitVec 32 := Scalar.muli v249 c128_i32_399
  v250
def k0_off66 (k0_t6 : Fin k0_t6_loop.trips) : Fin 4 → Nat :=
  let c1 : Index := 1#32
  let c0_400 : Index := 0#32
  let c0_401 : Index := 0#32
  let c0_i32_398 : BitVec 32 := 0#32
  let c0_i32_113 : BitVec 32 := 0#32
  let c1_i32_115 : BitVec 32 := 1#32
  let arg16 : BitVec 32 := Scf.iv c0_i32_113 c1_i32_115 k0_t6
  let c1_i32_397 : BitVec 32 := 1#32
  let v248 : BitVec 32 := Scalar.muli arg16 c1_i32_397
  let v249 : BitVec 32 := Scalar.addi c0_i32_398 v248
  let c128_i32_399 : BitVec 32 := 128#32
  let v250 : BitVec 32 := Scalar.muli v249 c128_i32_399
  let v251 : BitVec 32 := v250
  let v252 : Index := Scalar.indexCast v251
  ![1, 0, 0, v252.toNat]
def k0_off67 (k0_t6 : Fin k0_t6_loop.trips) : Fin 5 → Nat :=
  let c0_402 : Index := 0#32
  let c16 : Index := 16#32
  let c0_i32_398 : BitVec 32 := 0#32
  let c0_i32_113 : BitVec 32 := 0#32
  let c1_i32_115 : BitVec 32 := 1#32
  let arg16 : BitVec 32 := Scf.iv c0_i32_113 c1_i32_115 k0_t6
  let c1_i32_397 : BitVec 32 := 1#32
  let v248 : BitVec 32 := Scalar.muli arg16 c1_i32_397
  let v249 : BitVec 32 := Scalar.addi c0_i32_398 v248
  let v257 : Index := Scalar.indexCast v249
  let c0_403 : Index := 0#32
  let c0_404 : Index := 0#32
  ![0, 16, v257.toNat, 0, 0]
def k0_mult18 (k0_t6 : Fin k0_t6_loop.trips) : BitVec 32 :=
  let c0_i32_398 : BitVec 32 := 0#32
  let c0_i32_113 : BitVec 32 := 0#32
  let c1_i32_115 : BitVec 32 := 1#32
  let arg16 : BitVec 32 := Scf.iv c0_i32_113 c1_i32_115 k0_t6
  let c1_i32_397 : BitVec 32 := 1#32
  let v248 : BitVec 32 := Scalar.muli arg16 c1_i32_397
  let v249 : BitVec 32 := Scalar.addi c0_i32_398 v248
  let c128_i32_405 : BitVec 32 := 128#32
  let v261 : BitVec 32 := Scalar.muli v249 c128_i32_405
  v261
def k0_off68 (k0_t6 : Fin k0_t6_loop.trips) : Fin 4 → Nat :=
  let c1_406 : Index := 1#32
  let c1_407 : Index := 1#32
  let c0_408 : Index := 0#32
  let c0_i32_398 : BitVec 32 := 0#32
  let c0_i32_113 : BitVec 32 := 0#32
  let c1_i32_115 : BitVec 32 := 1#32
  let arg16 : BitVec 32 := Scf.iv c0_i32_113 c1_i32_115 k0_t6
  let c1_i32_397 : BitVec 32 := 1#32
  let v248 : BitVec 32 := Scalar.muli arg16 c1_i32_397
  let v249 : BitVec 32 := Scalar.addi c0_i32_398 v248
  let c128_i32_405 : BitVec 32 := 128#32
  let v261 : BitVec 32 := Scalar.muli v249 c128_i32_405
  let v262 : BitVec 32 := v261
  let v263 : Index := Scalar.indexCast v262
  ![1, 1, 0, v263.toNat]
def k0_off69 (k0_t6 : Fin k0_t6_loop.trips) : Fin 5 → Nat :=
  let c0_409 : Index := 0#32
  let c17 : Index := 17#32
  let c0_i32_398 : BitVec 32 := 0#32
  let c0_i32_113 : BitVec 32 := 0#32
  let c1_i32_115 : BitVec 32 := 1#32
  let arg16 : BitVec 32 := Scf.iv c0_i32_113 c1_i32_115 k0_t6
  let c1_i32_397 : BitVec 32 := 1#32
  let v248 : BitVec 32 := Scalar.muli arg16 c1_i32_397
  let v249 : BitVec 32 := Scalar.addi c0_i32_398 v248
  let v268 : Index := Scalar.indexCast v249
  let c0_410 : Index := 0#32
  let c0_411 : Index := 0#32
  ![0, 17, v268.toNat, 0, 0]
def k0_mult19 (k0_t6 : Fin k0_t6_loop.trips) : BitVec 32 :=
  let c0_i32_398 : BitVec 32 := 0#32
  let c0_i32_113 : BitVec 32 := 0#32
  let c1_i32_115 : BitVec 32 := 1#32
  let arg16 : BitVec 32 := Scf.iv c0_i32_113 c1_i32_115 k0_t6
  let c1_i32_397 : BitVec 32 := 1#32
  let v248 : BitVec 32 := Scalar.muli arg16 c1_i32_397
  let v249 : BitVec 32 := Scalar.addi c0_i32_398 v248
  let c128_i32_412 : BitVec 32 := 128#32
  let v272 : BitVec 32 := Scalar.muli v249 c128_i32_412
  v272
def k0_off70 (k0_t6 : Fin k0_t6_loop.trips) : Fin 4 → Nat :=
  let c1_413 : Index := 1#32
  let c2 : Index := 2#32
  let c0_414 : Index := 0#32
  let c0_i32_398 : BitVec 32 := 0#32
  let c0_i32_113 : BitVec 32 := 0#32
  let c1_i32_115 : BitVec 32 := 1#32
  let arg16 : BitVec 32 := Scf.iv c0_i32_113 c1_i32_115 k0_t6
  let c1_i32_397 : BitVec 32 := 1#32
  let v248 : BitVec 32 := Scalar.muli arg16 c1_i32_397
  let v249 : BitVec 32 := Scalar.addi c0_i32_398 v248
  let c128_i32_412 : BitVec 32 := 128#32
  let v272 : BitVec 32 := Scalar.muli v249 c128_i32_412
  let v273 : BitVec 32 := v272
  let v274 : Index := Scalar.indexCast v273
  ![1, 2, 0, v274.toNat]
def k0_off71 (k0_t6 : Fin k0_t6_loop.trips) : Fin 5 → Nat :=
  let c0_415 : Index := 0#32
  let c18 : Index := 18#32
  let c0_i32_398 : BitVec 32 := 0#32
  let c0_i32_113 : BitVec 32 := 0#32
  let c1_i32_115 : BitVec 32 := 1#32
  let arg16 : BitVec 32 := Scf.iv c0_i32_113 c1_i32_115 k0_t6
  let c1_i32_397 : BitVec 32 := 1#32
  let v248 : BitVec 32 := Scalar.muli arg16 c1_i32_397
  let v249 : BitVec 32 := Scalar.addi c0_i32_398 v248
  let v279 : Index := Scalar.indexCast v249
  let c0_416 : Index := 0#32
  let c0_417 : Index := 0#32
  ![0, 18, v279.toNat, 0, 0]
def k0_mult20 (k0_t6 : Fin k0_t6_loop.trips) : BitVec 32 :=
  let c0_i32_398 : BitVec 32 := 0#32
  let c0_i32_113 : BitVec 32 := 0#32
  let c1_i32_115 : BitVec 32 := 1#32
  let arg16 : BitVec 32 := Scf.iv c0_i32_113 c1_i32_115 k0_t6
  let c1_i32_397 : BitVec 32 := 1#32
  let v248 : BitVec 32 := Scalar.muli arg16 c1_i32_397
  let v249 : BitVec 32 := Scalar.addi c0_i32_398 v248
  let c128_i32_418 : BitVec 32 := 128#32
  let v283 : BitVec 32 := Scalar.muli v249 c128_i32_418
  v283
def k0_off72 (k0_t6 : Fin k0_t6_loop.trips) : Fin 4 → Nat :=
  let c1_419 : Index := 1#32
  let c3 : Index := 3#32
  let c0_420 : Index := 0#32
  let c0_i32_398 : BitVec 32 := 0#32
  let c0_i32_113 : BitVec 32 := 0#32
  let c1_i32_115 : BitVec 32 := 1#32
  let arg16 : BitVec 32 := Scf.iv c0_i32_113 c1_i32_115 k0_t6
  let c1_i32_397 : BitVec 32 := 1#32
  let v248 : BitVec 32 := Scalar.muli arg16 c1_i32_397
  let v249 : BitVec 32 := Scalar.addi c0_i32_398 v248
  let c128_i32_418 : BitVec 32 := 128#32
  let v283 : BitVec 32 := Scalar.muli v249 c128_i32_418
  let v284 : BitVec 32 := v283
  let v285 : Index := Scalar.indexCast v284
  ![1, 3, 0, v285.toNat]
def k0_off73 (k0_t6 : Fin k0_t6_loop.trips) : Fin 5 → Nat :=
  let c0_421 : Index := 0#32
  let c19 : Index := 19#32
  let c0_i32_398 : BitVec 32 := 0#32
  let c0_i32_113 : BitVec 32 := 0#32
  let c1_i32_115 : BitVec 32 := 1#32
  let arg16 : BitVec 32 := Scf.iv c0_i32_113 c1_i32_115 k0_t6
  let c1_i32_397 : BitVec 32 := 1#32
  let v248 : BitVec 32 := Scalar.muli arg16 c1_i32_397
  let v249 : BitVec 32 := Scalar.addi c0_i32_398 v248
  let v290 : Index := Scalar.indexCast v249
  let c0_422 : Index := 0#32
  let c0_423 : Index := 0#32
  ![0, 19, v290.toNat, 0, 0]
@[reducible] def k0_t7_loop : Scf.Loop 32 :=
  let c0_i32_132 : BitVec 32 := 0#32
  let c30_i32_133 : BitVec 32 := 30#32
  let v92 : BitVec 32 := Scalar.addi c0_i32_132 c30_i32_133
  let c1_i32_134 : BitVec 32 := 1#32
  ⟨c0_i32_132, v92, c1_i32_134⟩
def k0_mult21 (k0_t7 : Fin k0_t7_loop.trips) : BitVec 32 :=
  let c0_i32_398 : BitVec 32 := 0#32
  let c0_i32_132 : BitVec 32 := 0#32
  let c1_i32_134 : BitVec 32 := 1#32
  let arg16 : BitVec 32 := Scf.iv c0_i32_132 c1_i32_134 k0_t7
  let c1_i32_397 : BitVec 32 := 1#32
  let v248 : BitVec 32 := Scalar.muli arg16 c1_i32_397
  let v249 : BitVec 32 := Scalar.addi c0_i32_398 v248
  let c128_i32_399 : BitVec 32 := 128#32
  let v250 : BitVec 32 := Scalar.muli v249 c128_i32_399
  v250
def k0_off74 (k0_t7 : Fin k0_t7_loop.trips) : Fin 4 → Nat :=
  let c2 : Index := 2#32
  let c0_400 : Index := 0#32
  let c0_401 : Index := 0#32
  let c0_i32_398 : BitVec 32 := 0#32
  let c0_i32_132 : BitVec 32 := 0#32
  let c1_i32_134 : BitVec 32 := 1#32
  let arg16 : BitVec 32 := Scf.iv c0_i32_132 c1_i32_134 k0_t7
  let c1_i32_397 : BitVec 32 := 1#32
  let v248 : BitVec 32 := Scalar.muli arg16 c1_i32_397
  let v249 : BitVec 32 := Scalar.addi c0_i32_398 v248
  let c128_i32_399 : BitVec 32 := 128#32
  let v250 : BitVec 32 := Scalar.muli v249 c128_i32_399
  let v251 : BitVec 32 := v250
  let v252 : Index := Scalar.indexCast v251
  ![2, 0, 0, v252.toNat]
def k0_off75 (k0_t7 : Fin k0_t7_loop.trips) : Fin 5 → Nat :=
  let c0_402 : Index := 0#32
  let c20 : Index := 20#32
  let c0_i32_398 : BitVec 32 := 0#32
  let c0_i32_132 : BitVec 32 := 0#32
  let c1_i32_134 : BitVec 32 := 1#32
  let arg16 : BitVec 32 := Scf.iv c0_i32_132 c1_i32_134 k0_t7
  let c1_i32_397 : BitVec 32 := 1#32
  let v248 : BitVec 32 := Scalar.muli arg16 c1_i32_397
  let v249 : BitVec 32 := Scalar.addi c0_i32_398 v248
  let v257 : Index := Scalar.indexCast v249
  let c0_403 : Index := 0#32
  let c0_404 : Index := 0#32
  ![0, 20, v257.toNat, 0, 0]
def k0_mult22 (k0_t7 : Fin k0_t7_loop.trips) : BitVec 32 :=
  let c0_i32_398 : BitVec 32 := 0#32
  let c0_i32_132 : BitVec 32 := 0#32
  let c1_i32_134 : BitVec 32 := 1#32
  let arg16 : BitVec 32 := Scf.iv c0_i32_132 c1_i32_134 k0_t7
  let c1_i32_397 : BitVec 32 := 1#32
  let v248 : BitVec 32 := Scalar.muli arg16 c1_i32_397
  let v249 : BitVec 32 := Scalar.addi c0_i32_398 v248
  let c128_i32_405 : BitVec 32 := 128#32
  let v261 : BitVec 32 := Scalar.muli v249 c128_i32_405
  v261
def k0_off76 (k0_t7 : Fin k0_t7_loop.trips) : Fin 4 → Nat :=
  let c2_406 : Index := 2#32
  let c1 : Index := 1#32
  let c0_407 : Index := 0#32
  let c0_i32_398 : BitVec 32 := 0#32
  let c0_i32_132 : BitVec 32 := 0#32
  let c1_i32_134 : BitVec 32 := 1#32
  let arg16 : BitVec 32 := Scf.iv c0_i32_132 c1_i32_134 k0_t7
  let c1_i32_397 : BitVec 32 := 1#32
  let v248 : BitVec 32 := Scalar.muli arg16 c1_i32_397
  let v249 : BitVec 32 := Scalar.addi c0_i32_398 v248
  let c128_i32_405 : BitVec 32 := 128#32
  let v261 : BitVec 32 := Scalar.muli v249 c128_i32_405
  let v262 : BitVec 32 := v261
  let v263 : Index := Scalar.indexCast v262
  ![2, 1, 0, v263.toNat]
def k0_off77 (k0_t7 : Fin k0_t7_loop.trips) : Fin 5 → Nat :=
  let c0_408 : Index := 0#32
  let c21 : Index := 21#32
  let c0_i32_398 : BitVec 32 := 0#32
  let c0_i32_132 : BitVec 32 := 0#32
  let c1_i32_134 : BitVec 32 := 1#32
  let arg16 : BitVec 32 := Scf.iv c0_i32_132 c1_i32_134 k0_t7
  let c1_i32_397 : BitVec 32 := 1#32
  let v248 : BitVec 32 := Scalar.muli arg16 c1_i32_397
  let v249 : BitVec 32 := Scalar.addi c0_i32_398 v248
  let v268 : Index := Scalar.indexCast v249
  let c0_409 : Index := 0#32
  let c0_410 : Index := 0#32
  ![0, 21, v268.toNat, 0, 0]
def k0_mult23 (k0_t7 : Fin k0_t7_loop.trips) : BitVec 32 :=
  let c0_i32_398 : BitVec 32 := 0#32
  let c0_i32_132 : BitVec 32 := 0#32
  let c1_i32_134 : BitVec 32 := 1#32
  let arg16 : BitVec 32 := Scf.iv c0_i32_132 c1_i32_134 k0_t7
  let c1_i32_397 : BitVec 32 := 1#32
  let v248 : BitVec 32 := Scalar.muli arg16 c1_i32_397
  let v249 : BitVec 32 := Scalar.addi c0_i32_398 v248
  let c128_i32_411 : BitVec 32 := 128#32
  let v272 : BitVec 32 := Scalar.muli v249 c128_i32_411
  v272
def k0_off78 (k0_t7 : Fin k0_t7_loop.trips) : Fin 4 → Nat :=
  let c2_412 : Index := 2#32
  let c2_413 : Index := 2#32
  let c0_414 : Index := 0#32
  let c0_i32_398 : BitVec 32 := 0#32
  let c0_i32_132 : BitVec 32 := 0#32
  let c1_i32_134 : BitVec 32 := 1#32
  let arg16 : BitVec 32 := Scf.iv c0_i32_132 c1_i32_134 k0_t7
  let c1_i32_397 : BitVec 32 := 1#32
  let v248 : BitVec 32 := Scalar.muli arg16 c1_i32_397
  let v249 : BitVec 32 := Scalar.addi c0_i32_398 v248
  let c128_i32_411 : BitVec 32 := 128#32
  let v272 : BitVec 32 := Scalar.muli v249 c128_i32_411
  let v273 : BitVec 32 := v272
  let v274 : Index := Scalar.indexCast v273
  ![2, 2, 0, v274.toNat]
def k0_off79 (k0_t7 : Fin k0_t7_loop.trips) : Fin 5 → Nat :=
  let c0_415 : Index := 0#32
  let c22 : Index := 22#32
  let c0_i32_398 : BitVec 32 := 0#32
  let c0_i32_132 : BitVec 32 := 0#32
  let c1_i32_134 : BitVec 32 := 1#32
  let arg16 : BitVec 32 := Scf.iv c0_i32_132 c1_i32_134 k0_t7
  let c1_i32_397 : BitVec 32 := 1#32
  let v248 : BitVec 32 := Scalar.muli arg16 c1_i32_397
  let v249 : BitVec 32 := Scalar.addi c0_i32_398 v248
  let v279 : Index := Scalar.indexCast v249
  let c0_416 : Index := 0#32
  let c0_417 : Index := 0#32
  ![0, 22, v279.toNat, 0, 0]
def k0_mult24 (k0_t7 : Fin k0_t7_loop.trips) : BitVec 32 :=
  let c0_i32_398 : BitVec 32 := 0#32
  let c0_i32_132 : BitVec 32 := 0#32
  let c1_i32_134 : BitVec 32 := 1#32
  let arg16 : BitVec 32 := Scf.iv c0_i32_132 c1_i32_134 k0_t7
  let c1_i32_397 : BitVec 32 := 1#32
  let v248 : BitVec 32 := Scalar.muli arg16 c1_i32_397
  let v249 : BitVec 32 := Scalar.addi c0_i32_398 v248
  let c128_i32_418 : BitVec 32 := 128#32
  let v283 : BitVec 32 := Scalar.muli v249 c128_i32_418
  v283
def k0_off80 (k0_t7 : Fin k0_t7_loop.trips) : Fin 4 → Nat :=
  let c2_419 : Index := 2#32
  let c3 : Index := 3#32
  let c0_420 : Index := 0#32
  let c0_i32_398 : BitVec 32 := 0#32
  let c0_i32_132 : BitVec 32 := 0#32
  let c1_i32_134 : BitVec 32 := 1#32
  let arg16 : BitVec 32 := Scf.iv c0_i32_132 c1_i32_134 k0_t7
  let c1_i32_397 : BitVec 32 := 1#32
  let v248 : BitVec 32 := Scalar.muli arg16 c1_i32_397
  let v249 : BitVec 32 := Scalar.addi c0_i32_398 v248
  let c128_i32_418 : BitVec 32 := 128#32
  let v283 : BitVec 32 := Scalar.muli v249 c128_i32_418
  let v284 : BitVec 32 := v283
  let v285 : Index := Scalar.indexCast v284
  ![2, 3, 0, v285.toNat]
def k0_off81 (k0_t7 : Fin k0_t7_loop.trips) : Fin 5 → Nat :=
  let c0_421 : Index := 0#32
  let c23 : Index := 23#32
  let c0_i32_398 : BitVec 32 := 0#32
  let c0_i32_132 : BitVec 32 := 0#32
  let c1_i32_134 : BitVec 32 := 1#32
  let arg16 : BitVec 32 := Scf.iv c0_i32_132 c1_i32_134 k0_t7
  let c1_i32_397 : BitVec 32 := 1#32
  let v248 : BitVec 32 := Scalar.muli arg16 c1_i32_397
  let v249 : BitVec 32 := Scalar.addi c0_i32_398 v248
  let v290 : Index := Scalar.indexCast v249
  let c0_422 : Index := 0#32
  let c0_423 : Index := 0#32
  ![0, 23, v290.toNat, 0, 0]
@[reducible] def k0_t8_loop : Scf.Loop 32 :=
  let c0_i32_151 : BitVec 32 := 0#32
  let c30_i32_152 : BitVec 32 := 30#32
  let v103 : BitVec 32 := Scalar.addi c0_i32_151 c30_i32_152
  let c1_i32_153 : BitVec 32 := 1#32
  ⟨c0_i32_151, v103, c1_i32_153⟩
def k0_mult25 (k0_t8 : Fin k0_t8_loop.trips) : BitVec 32 :=
  let c0_i32_398 : BitVec 32 := 0#32
  let c0_i32_151 : BitVec 32 := 0#32
  let c1_i32_153 : BitVec 32 := 1#32
  let arg16 : BitVec 32 := Scf.iv c0_i32_151 c1_i32_153 k0_t8
  let c1_i32_397 : BitVec 32 := 1#32
  let v248 : BitVec 32 := Scalar.muli arg16 c1_i32_397
  let v249 : BitVec 32 := Scalar.addi c0_i32_398 v248
  let c128_i32_399 : BitVec 32 := 128#32
  let v250 : BitVec 32 := Scalar.muli v249 c128_i32_399
  v250
def k0_off82 (k0_t8 : Fin k0_t8_loop.trips) : Fin 4 → Nat :=
  let c0_400 : Index := 0#32
  let c0_401 : Index := 0#32
  let c0_402 : Index := 0#32
  let c0_i32_398 : BitVec 32 := 0#32
  let c0_i32_151 : BitVec 32 := 0#32
  let c1_i32_153 : BitVec 32 := 1#32
  let arg16 : BitVec 32 := Scf.iv c0_i32_151 c1_i32_153 k0_t8
  let c1_i32_397 : BitVec 32 := 1#32
  let v248 : BitVec 32 := Scalar.muli arg16 c1_i32_397
  let v249 : BitVec 32 := Scalar.addi c0_i32_398 v248
  let c128_i32_399 : BitVec 32 := 128#32
  let v250 : BitVec 32 := Scalar.muli v249 c128_i32_399
  let v251 : BitVec 32 := v250
  let v252 : Index := Scalar.indexCast v251
  ![0, 0, 0, v252.toNat]
def k0_off83 (k0_t8 : Fin k0_t8_loop.trips) : Fin 5 → Nat :=
  let c0_403 : Index := 0#32
  let c24 : Index := 24#32
  let c0_i32_398 : BitVec 32 := 0#32
  let c0_i32_151 : BitVec 32 := 0#32
  let c1_i32_153 : BitVec 32 := 1#32
  let arg16 : BitVec 32 := Scf.iv c0_i32_151 c1_i32_153 k0_t8
  let c1_i32_397 : BitVec 32 := 1#32
  let v248 : BitVec 32 := Scalar.muli arg16 c1_i32_397
  let v249 : BitVec 32 := Scalar.addi c0_i32_398 v248
  let v257 : Index := Scalar.indexCast v249
  let c0_404 : Index := 0#32
  let c0_405 : Index := 0#32
  ![0, 24, v257.toNat, 0, 0]
def k0_mult26 (k0_t8 : Fin k0_t8_loop.trips) : BitVec 32 :=
  let c0_i32_398 : BitVec 32 := 0#32
  let c0_i32_151 : BitVec 32 := 0#32
  let c1_i32_153 : BitVec 32 := 1#32
  let arg16 : BitVec 32 := Scf.iv c0_i32_151 c1_i32_153 k0_t8
  let c1_i32_397 : BitVec 32 := 1#32
  let v248 : BitVec 32 := Scalar.muli arg16 c1_i32_397
  let v249 : BitVec 32 := Scalar.addi c0_i32_398 v248
  let c128_i32_406 : BitVec 32 := 128#32
  let v261 : BitVec 32 := Scalar.muli v249 c128_i32_406
  v261
def k0_off84 (k0_t8 : Fin k0_t8_loop.trips) : Fin 4 → Nat :=
  let c0_407 : Index := 0#32
  let c1 : Index := 1#32
  let c0_408 : Index := 0#32
  let c0_i32_398 : BitVec 32 := 0#32
  let c0_i32_151 : BitVec 32 := 0#32
  let c1_i32_153 : BitVec 32 := 1#32
  let arg16 : BitVec 32 := Scf.iv c0_i32_151 c1_i32_153 k0_t8
  let c1_i32_397 : BitVec 32 := 1#32
  let v248 : BitVec 32 := Scalar.muli arg16 c1_i32_397
  let v249 : BitVec 32 := Scalar.addi c0_i32_398 v248
  let c128_i32_406 : BitVec 32 := 128#32
  let v261 : BitVec 32 := Scalar.muli v249 c128_i32_406
  let v262 : BitVec 32 := v261
  let v263 : Index := Scalar.indexCast v262
  ![0, 1, 0, v263.toNat]
def k0_off85 (k0_t8 : Fin k0_t8_loop.trips) : Fin 5 → Nat :=
  let c0_409 : Index := 0#32
  let c25 : Index := 25#32
  let c0_i32_398 : BitVec 32 := 0#32
  let c0_i32_151 : BitVec 32 := 0#32
  let c1_i32_153 : BitVec 32 := 1#32
  let arg16 : BitVec 32 := Scf.iv c0_i32_151 c1_i32_153 k0_t8
  let c1_i32_397 : BitVec 32 := 1#32
  let v248 : BitVec 32 := Scalar.muli arg16 c1_i32_397
  let v249 : BitVec 32 := Scalar.addi c0_i32_398 v248
  let v268 : Index := Scalar.indexCast v249
  let c0_410 : Index := 0#32
  let c0_411 : Index := 0#32
  ![0, 25, v268.toNat, 0, 0]
def k0_mult27 (k0_t8 : Fin k0_t8_loop.trips) : BitVec 32 :=
  let c0_i32_398 : BitVec 32 := 0#32
  let c0_i32_151 : BitVec 32 := 0#32
  let c1_i32_153 : BitVec 32 := 1#32
  let arg16 : BitVec 32 := Scf.iv c0_i32_151 c1_i32_153 k0_t8
  let c1_i32_397 : BitVec 32 := 1#32
  let v248 : BitVec 32 := Scalar.muli arg16 c1_i32_397
  let v249 : BitVec 32 := Scalar.addi c0_i32_398 v248
  let c128_i32_412 : BitVec 32 := 128#32
  let v272 : BitVec 32 := Scalar.muli v249 c128_i32_412
  v272
def k0_off86 (k0_t8 : Fin k0_t8_loop.trips) : Fin 4 → Nat :=
  let c0_413 : Index := 0#32
  let c2 : Index := 2#32
  let c0_414 : Index := 0#32
  let c0_i32_398 : BitVec 32 := 0#32
  let c0_i32_151 : BitVec 32 := 0#32
  let c1_i32_153 : BitVec 32 := 1#32
  let arg16 : BitVec 32 := Scf.iv c0_i32_151 c1_i32_153 k0_t8
  let c1_i32_397 : BitVec 32 := 1#32
  let v248 : BitVec 32 := Scalar.muli arg16 c1_i32_397
  let v249 : BitVec 32 := Scalar.addi c0_i32_398 v248
  let c128_i32_412 : BitVec 32 := 128#32
  let v272 : BitVec 32 := Scalar.muli v249 c128_i32_412
  let v273 : BitVec 32 := v272
  let v274 : Index := Scalar.indexCast v273
  ![0, 2, 0, v274.toNat]
def k0_off87 (k0_t8 : Fin k0_t8_loop.trips) : Fin 5 → Nat :=
  let c0_415 : Index := 0#32
  let c26 : Index := 26#32
  let c0_i32_398 : BitVec 32 := 0#32
  let c0_i32_151 : BitVec 32 := 0#32
  let c1_i32_153 : BitVec 32 := 1#32
  let arg16 : BitVec 32 := Scf.iv c0_i32_151 c1_i32_153 k0_t8
  let c1_i32_397 : BitVec 32 := 1#32
  let v248 : BitVec 32 := Scalar.muli arg16 c1_i32_397
  let v249 : BitVec 32 := Scalar.addi c0_i32_398 v248
  let v279 : Index := Scalar.indexCast v249
  let c0_416 : Index := 0#32
  let c0_417 : Index := 0#32
  ![0, 26, v279.toNat, 0, 0]
def k0_mult28 (k0_t8 : Fin k0_t8_loop.trips) : BitVec 32 :=
  let c0_i32_398 : BitVec 32 := 0#32
  let c0_i32_151 : BitVec 32 := 0#32
  let c1_i32_153 : BitVec 32 := 1#32
  let arg16 : BitVec 32 := Scf.iv c0_i32_151 c1_i32_153 k0_t8
  let c1_i32_397 : BitVec 32 := 1#32
  let v248 : BitVec 32 := Scalar.muli arg16 c1_i32_397
  let v249 : BitVec 32 := Scalar.addi c0_i32_398 v248
  let c128_i32_418 : BitVec 32 := 128#32
  let v283 : BitVec 32 := Scalar.muli v249 c128_i32_418
  v283
def k0_off88 (k0_t8 : Fin k0_t8_loop.trips) : Fin 4 → Nat :=
  let c0_419 : Index := 0#32
  let c3 : Index := 3#32
  let c0_420 : Index := 0#32
  let c0_i32_398 : BitVec 32 := 0#32
  let c0_i32_151 : BitVec 32 := 0#32
  let c1_i32_153 : BitVec 32 := 1#32
  let arg16 : BitVec 32 := Scf.iv c0_i32_151 c1_i32_153 k0_t8
  let c1_i32_397 : BitVec 32 := 1#32
  let v248 : BitVec 32 := Scalar.muli arg16 c1_i32_397
  let v249 : BitVec 32 := Scalar.addi c0_i32_398 v248
  let c128_i32_418 : BitVec 32 := 128#32
  let v283 : BitVec 32 := Scalar.muli v249 c128_i32_418
  let v284 : BitVec 32 := v283
  let v285 : Index := Scalar.indexCast v284
  ![0, 3, 0, v285.toNat]
def k0_off89 (k0_t8 : Fin k0_t8_loop.trips) : Fin 5 → Nat :=
  let c0_421 : Index := 0#32
  let c27 : Index := 27#32
  let c0_i32_398 : BitVec 32 := 0#32
  let c0_i32_151 : BitVec 32 := 0#32
  let c1_i32_153 : BitVec 32 := 1#32
  let arg16 : BitVec 32 := Scf.iv c0_i32_151 c1_i32_153 k0_t8
  let c1_i32_397 : BitVec 32 := 1#32
  let v248 : BitVec 32 := Scalar.muli arg16 c1_i32_397
  let v249 : BitVec 32 := Scalar.addi c0_i32_398 v248
  let v290 : Index := Scalar.indexCast v249
  let c0_422 : Index := 0#32
  let c0_423 : Index := 0#32
  ![0, 27, v290.toNat, 0, 0]
@[reducible] def k0_t9_loop : Scf.Loop 32 :=
  let c0_i32_171 : BitVec 32 := 0#32
  let c30_i32_172 : BitVec 32 := 30#32
  let v114 : BitVec 32 := Scalar.addi c0_i32_171 c30_i32_172
  let c1_i32_173 : BitVec 32 := 1#32
  ⟨c0_i32_171, v114, c1_i32_173⟩
def k0_mult29 (k0_t9 : Fin k0_t9_loop.trips) : BitVec 32 :=
  let c0_i32_398 : BitVec 32 := 0#32
  let c0_i32_171 : BitVec 32 := 0#32
  let c1_i32_173 : BitVec 32 := 1#32
  let arg16 : BitVec 32 := Scf.iv c0_i32_171 c1_i32_173 k0_t9
  let c1_i32_397 : BitVec 32 := 1#32
  let v248 : BitVec 32 := Scalar.muli arg16 c1_i32_397
  let v249 : BitVec 32 := Scalar.addi c0_i32_398 v248
  let c128_i32_399 : BitVec 32 := 128#32
  let v250 : BitVec 32 := Scalar.muli v249 c128_i32_399
  v250
def k0_off90 (k0_t9 : Fin k0_t9_loop.trips) : Fin 4 → Nat :=
  let c1 : Index := 1#32
  let c0_400 : Index := 0#32
  let c0_401 : Index := 0#32
  let c0_i32_398 : BitVec 32 := 0#32
  let c0_i32_171 : BitVec 32 := 0#32
  let c1_i32_173 : BitVec 32 := 1#32
  let arg16 : BitVec 32 := Scf.iv c0_i32_171 c1_i32_173 k0_t9
  let c1_i32_397 : BitVec 32 := 1#32
  let v248 : BitVec 32 := Scalar.muli arg16 c1_i32_397
  let v249 : BitVec 32 := Scalar.addi c0_i32_398 v248
  let c128_i32_399 : BitVec 32 := 128#32
  let v250 : BitVec 32 := Scalar.muli v249 c128_i32_399
  let v251 : BitVec 32 := v250
  let v252 : Index := Scalar.indexCast v251
  ![1, 0, 0, v252.toNat]
def k0_off91 (k0_t9 : Fin k0_t9_loop.trips) : Fin 5 → Nat :=
  let c0_402 : Index := 0#32
  let c28 : Index := 28#32
  let c0_i32_398 : BitVec 32 := 0#32
  let c0_i32_171 : BitVec 32 := 0#32
  let c1_i32_173 : BitVec 32 := 1#32
  let arg16 : BitVec 32 := Scf.iv c0_i32_171 c1_i32_173 k0_t9
  let c1_i32_397 : BitVec 32 := 1#32
  let v248 : BitVec 32 := Scalar.muli arg16 c1_i32_397
  let v249 : BitVec 32 := Scalar.addi c0_i32_398 v248
  let v257 : Index := Scalar.indexCast v249
  let c0_403 : Index := 0#32
  let c0_404 : Index := 0#32
  ![0, 28, v257.toNat, 0, 0]
def k0_mult30 (k0_t9 : Fin k0_t9_loop.trips) : BitVec 32 :=
  let c0_i32_398 : BitVec 32 := 0#32
  let c0_i32_171 : BitVec 32 := 0#32
  let c1_i32_173 : BitVec 32 := 1#32
  let arg16 : BitVec 32 := Scf.iv c0_i32_171 c1_i32_173 k0_t9
  let c1_i32_397 : BitVec 32 := 1#32
  let v248 : BitVec 32 := Scalar.muli arg16 c1_i32_397
  let v249 : BitVec 32 := Scalar.addi c0_i32_398 v248
  let c128_i32_405 : BitVec 32 := 128#32
  let v261 : BitVec 32 := Scalar.muli v249 c128_i32_405
  v261
def k0_off92 (k0_t9 : Fin k0_t9_loop.trips) : Fin 4 → Nat :=
  let c1_406 : Index := 1#32
  let c1_407 : Index := 1#32
  let c0_408 : Index := 0#32
  let c0_i32_398 : BitVec 32 := 0#32
  let c0_i32_171 : BitVec 32 := 0#32
  let c1_i32_173 : BitVec 32 := 1#32
  let arg16 : BitVec 32 := Scf.iv c0_i32_171 c1_i32_173 k0_t9
  let c1_i32_397 : BitVec 32 := 1#32
  let v248 : BitVec 32 := Scalar.muli arg16 c1_i32_397
  let v249 : BitVec 32 := Scalar.addi c0_i32_398 v248
  let c128_i32_405 : BitVec 32 := 128#32
  let v261 : BitVec 32 := Scalar.muli v249 c128_i32_405
  let v262 : BitVec 32 := v261
  let v263 : Index := Scalar.indexCast v262
  ![1, 1, 0, v263.toNat]
def k0_off93 (k0_t9 : Fin k0_t9_loop.trips) : Fin 5 → Nat :=
  let c0_409 : Index := 0#32
  let c29 : Index := 29#32
  let c0_i32_398 : BitVec 32 := 0#32
  let c0_i32_171 : BitVec 32 := 0#32
  let c1_i32_173 : BitVec 32 := 1#32
  let arg16 : BitVec 32 := Scf.iv c0_i32_171 c1_i32_173 k0_t9
  let c1_i32_397 : BitVec 32 := 1#32
  let v248 : BitVec 32 := Scalar.muli arg16 c1_i32_397
  let v249 : BitVec 32 := Scalar.addi c0_i32_398 v248
  let v268 : Index := Scalar.indexCast v249
  let c0_410 : Index := 0#32
  let c0_411 : Index := 0#32
  ![0, 29, v268.toNat, 0, 0]
def k0_mult31 (k0_t9 : Fin k0_t9_loop.trips) : BitVec 32 :=
  let c0_i32_398 : BitVec 32 := 0#32
  let c0_i32_171 : BitVec 32 := 0#32
  let c1_i32_173 : BitVec 32 := 1#32
  let arg16 : BitVec 32 := Scf.iv c0_i32_171 c1_i32_173 k0_t9
  let c1_i32_397 : BitVec 32 := 1#32
  let v248 : BitVec 32 := Scalar.muli arg16 c1_i32_397
  let v249 : BitVec 32 := Scalar.addi c0_i32_398 v248
  let c128_i32_412 : BitVec 32 := 128#32
  let v272 : BitVec 32 := Scalar.muli v249 c128_i32_412
  v272
def k0_off94 (k0_t9 : Fin k0_t9_loop.trips) : Fin 4 → Nat :=
  let c1_413 : Index := 1#32
  let c2 : Index := 2#32
  let c0_414 : Index := 0#32
  let c0_i32_398 : BitVec 32 := 0#32
  let c0_i32_171 : BitVec 32 := 0#32
  let c1_i32_173 : BitVec 32 := 1#32
  let arg16 : BitVec 32 := Scf.iv c0_i32_171 c1_i32_173 k0_t9
  let c1_i32_397 : BitVec 32 := 1#32
  let v248 : BitVec 32 := Scalar.muli arg16 c1_i32_397
  let v249 : BitVec 32 := Scalar.addi c0_i32_398 v248
  let c128_i32_412 : BitVec 32 := 128#32
  let v272 : BitVec 32 := Scalar.muli v249 c128_i32_412
  let v273 : BitVec 32 := v272
  let v274 : Index := Scalar.indexCast v273
  ![1, 2, 0, v274.toNat]
def k0_off95 (k0_t9 : Fin k0_t9_loop.trips) : Fin 5 → Nat :=
  let c0_415 : Index := 0#32
  let c30 : Index := 30#32
  let c0_i32_398 : BitVec 32 := 0#32
  let c0_i32_171 : BitVec 32 := 0#32
  let c1_i32_173 : BitVec 32 := 1#32
  let arg16 : BitVec 32 := Scf.iv c0_i32_171 c1_i32_173 k0_t9
  let c1_i32_397 : BitVec 32 := 1#32
  let v248 : BitVec 32 := Scalar.muli arg16 c1_i32_397
  let v249 : BitVec 32 := Scalar.addi c0_i32_398 v248
  let v279 : Index := Scalar.indexCast v249
  let c0_416 : Index := 0#32
  let c0_417 : Index := 0#32
  ![0, 30, v279.toNat, 0, 0]
def k0_mult32 (k0_t9 : Fin k0_t9_loop.trips) : BitVec 32 :=
  let c0_i32_398 : BitVec 32 := 0#32
  let c0_i32_171 : BitVec 32 := 0#32
  let c1_i32_173 : BitVec 32 := 1#32
  let arg16 : BitVec 32 := Scf.iv c0_i32_171 c1_i32_173 k0_t9
  let c1_i32_397 : BitVec 32 := 1#32
  let v248 : BitVec 32 := Scalar.muli arg16 c1_i32_397
  let v249 : BitVec 32 := Scalar.addi c0_i32_398 v248
  let c128_i32_418 : BitVec 32 := 128#32
  let v283 : BitVec 32 := Scalar.muli v249 c128_i32_418
  v283
def k0_off96 (k0_t9 : Fin k0_t9_loop.trips) : Fin 4 → Nat :=
  let c1_419 : Index := 1#32
  let c3 : Index := 3#32
  let c0_420 : Index := 0#32
  let c0_i32_398 : BitVec 32 := 0#32
  let c0_i32_171 : BitVec 32 := 0#32
  let c1_i32_173 : BitVec 32 := 1#32
  let arg16 : BitVec 32 := Scf.iv c0_i32_171 c1_i32_173 k0_t9
  let c1_i32_397 : BitVec 32 := 1#32
  let v248 : BitVec 32 := Scalar.muli arg16 c1_i32_397
  let v249 : BitVec 32 := Scalar.addi c0_i32_398 v248
  let c128_i32_418 : BitVec 32 := 128#32
  let v283 : BitVec 32 := Scalar.muli v249 c128_i32_418
  let v284 : BitVec 32 := v283
  let v285 : Index := Scalar.indexCast v284
  ![1, 3, 0, v285.toNat]
def k0_off97 (k0_t9 : Fin k0_t9_loop.trips) : Fin 5 → Nat :=
  let c0_421 : Index := 0#32
  let c31 : Index := 31#32
  let c0_i32_398 : BitVec 32 := 0#32
  let c0_i32_171 : BitVec 32 := 0#32
  let c1_i32_173 : BitVec 32 := 1#32
  let arg16 : BitVec 32 := Scf.iv c0_i32_171 c1_i32_173 k0_t9
  let c1_i32_397 : BitVec 32 := 1#32
  let v248 : BitVec 32 := Scalar.muli arg16 c1_i32_397
  let v249 : BitVec 32 := Scalar.addi c0_i32_398 v248
  let v290 : Index := Scalar.indexCast v249
  let c0_422 : Index := 0#32
  let c0_423 : Index := 0#32
  ![0, 31, v290.toNat, 0, 0]
@[reducible] def k0_t10_loop : Scf.Loop 32 :=
  let c0_i32_191 : BitVec 32 := 0#32
  let c30_i32_192 : BitVec 32 := 30#32
  let v125 : BitVec 32 := Scalar.addi c0_i32_191 c30_i32_192
  let c1_i32_193 : BitVec 32 := 1#32
  ⟨c0_i32_191, v125, c1_i32_193⟩
def k0_mult33 (k0_t10 : Fin k0_t10_loop.trips) : BitVec 32 :=
  let c0_i32_398 : BitVec 32 := 0#32
  let c0_i32_191 : BitVec 32 := 0#32
  let c1_i32_193 : BitVec 32 := 1#32
  let arg16 : BitVec 32 := Scf.iv c0_i32_191 c1_i32_193 k0_t10
  let c1_i32_397 : BitVec 32 := 1#32
  let v248 : BitVec 32 := Scalar.muli arg16 c1_i32_397
  let v249 : BitVec 32 := Scalar.addi c0_i32_398 v248
  let c128_i32_399 : BitVec 32 := 128#32
  let v250 : BitVec 32 := Scalar.muli v249 c128_i32_399
  v250
def k0_off98 (k0_t10 : Fin k0_t10_loop.trips) : Fin 4 → Nat :=
  let c2 : Index := 2#32
  let c0_400 : Index := 0#32
  let c0_401 : Index := 0#32
  let c0_i32_398 : BitVec 32 := 0#32
  let c0_i32_191 : BitVec 32 := 0#32
  let c1_i32_193 : BitVec 32 := 1#32
  let arg16 : BitVec 32 := Scf.iv c0_i32_191 c1_i32_193 k0_t10
  let c1_i32_397 : BitVec 32 := 1#32
  let v248 : BitVec 32 := Scalar.muli arg16 c1_i32_397
  let v249 : BitVec 32 := Scalar.addi c0_i32_398 v248
  let c128_i32_399 : BitVec 32 := 128#32
  let v250 : BitVec 32 := Scalar.muli v249 c128_i32_399
  let v251 : BitVec 32 := v250
  let v252 : Index := Scalar.indexCast v251
  ![2, 0, 0, v252.toNat]
def k0_off99 (k0_t10 : Fin k0_t10_loop.trips) : Fin 5 → Nat :=
  let c0_402 : Index := 0#32
  let c32 : Index := 32#32
  let c0_i32_398 : BitVec 32 := 0#32
  let c0_i32_191 : BitVec 32 := 0#32
  let c1_i32_193 : BitVec 32 := 1#32
  let arg16 : BitVec 32 := Scf.iv c0_i32_191 c1_i32_193 k0_t10
  let c1_i32_397 : BitVec 32 := 1#32
  let v248 : BitVec 32 := Scalar.muli arg16 c1_i32_397
  let v249 : BitVec 32 := Scalar.addi c0_i32_398 v248
  let v257 : Index := Scalar.indexCast v249
  let c0_403 : Index := 0#32
  let c0_404 : Index := 0#32
  ![0, 32, v257.toNat, 0, 0]
def k0_mult34 (k0_t10 : Fin k0_t10_loop.trips) : BitVec 32 :=
  let c0_i32_398 : BitVec 32 := 0#32
  let c0_i32_191 : BitVec 32 := 0#32
  let c1_i32_193 : BitVec 32 := 1#32
  let arg16 : BitVec 32 := Scf.iv c0_i32_191 c1_i32_193 k0_t10
  let c1_i32_397 : BitVec 32 := 1#32
  let v248 : BitVec 32 := Scalar.muli arg16 c1_i32_397
  let v249 : BitVec 32 := Scalar.addi c0_i32_398 v248
  let c128_i32_405 : BitVec 32 := 128#32
  let v261 : BitVec 32 := Scalar.muli v249 c128_i32_405
  v261
def k0_off100 (k0_t10 : Fin k0_t10_loop.trips) : Fin 4 → Nat :=
  let c2_406 : Index := 2#32
  let c1 : Index := 1#32
  let c0_407 : Index := 0#32
  let c0_i32_398 : BitVec 32 := 0#32
  let c0_i32_191 : BitVec 32 := 0#32
  let c1_i32_193 : BitVec 32 := 1#32
  let arg16 : BitVec 32 := Scf.iv c0_i32_191 c1_i32_193 k0_t10
  let c1_i32_397 : BitVec 32 := 1#32
  let v248 : BitVec 32 := Scalar.muli arg16 c1_i32_397
  let v249 : BitVec 32 := Scalar.addi c0_i32_398 v248
  let c128_i32_405 : BitVec 32 := 128#32
  let v261 : BitVec 32 := Scalar.muli v249 c128_i32_405
  let v262 : BitVec 32 := v261
  let v263 : Index := Scalar.indexCast v262
  ![2, 1, 0, v263.toNat]
def k0_off101 (k0_t10 : Fin k0_t10_loop.trips) : Fin 5 → Nat :=
  let c0_408 : Index := 0#32
  let c33 : Index := 33#32
  let c0_i32_398 : BitVec 32 := 0#32
  let c0_i32_191 : BitVec 32 := 0#32
  let c1_i32_193 : BitVec 32 := 1#32
  let arg16 : BitVec 32 := Scf.iv c0_i32_191 c1_i32_193 k0_t10
  let c1_i32_397 : BitVec 32 := 1#32
  let v248 : BitVec 32 := Scalar.muli arg16 c1_i32_397
  let v249 : BitVec 32 := Scalar.addi c0_i32_398 v248
  let v268 : Index := Scalar.indexCast v249
  let c0_409 : Index := 0#32
  let c0_410 : Index := 0#32
  ![0, 33, v268.toNat, 0, 0]
def k0_mult35 (k0_t10 : Fin k0_t10_loop.trips) : BitVec 32 :=
  let c0_i32_398 : BitVec 32 := 0#32
  let c0_i32_191 : BitVec 32 := 0#32
  let c1_i32_193 : BitVec 32 := 1#32
  let arg16 : BitVec 32 := Scf.iv c0_i32_191 c1_i32_193 k0_t10
  let c1_i32_397 : BitVec 32 := 1#32
  let v248 : BitVec 32 := Scalar.muli arg16 c1_i32_397
  let v249 : BitVec 32 := Scalar.addi c0_i32_398 v248
  let c128_i32_411 : BitVec 32 := 128#32
  let v272 : BitVec 32 := Scalar.muli v249 c128_i32_411
  v272
def k0_off102 (k0_t10 : Fin k0_t10_loop.trips) : Fin 4 → Nat :=
  let c2_412 : Index := 2#32
  let c2_413 : Index := 2#32
  let c0_414 : Index := 0#32
  let c0_i32_398 : BitVec 32 := 0#32
  let c0_i32_191 : BitVec 32 := 0#32
  let c1_i32_193 : BitVec 32 := 1#32
  let arg16 : BitVec 32 := Scf.iv c0_i32_191 c1_i32_193 k0_t10
  let c1_i32_397 : BitVec 32 := 1#32
  let v248 : BitVec 32 := Scalar.muli arg16 c1_i32_397
  let v249 : BitVec 32 := Scalar.addi c0_i32_398 v248
  let c128_i32_411 : BitVec 32 := 128#32
  let v272 : BitVec 32 := Scalar.muli v249 c128_i32_411
  let v273 : BitVec 32 := v272
  let v274 : Index := Scalar.indexCast v273
  ![2, 2, 0, v274.toNat]
def k0_off103 (k0_t10 : Fin k0_t10_loop.trips) : Fin 5 → Nat :=
  let c0_415 : Index := 0#32
  let c34 : Index := 34#32
  let c0_i32_398 : BitVec 32 := 0#32
  let c0_i32_191 : BitVec 32 := 0#32
  let c1_i32_193 : BitVec 32 := 1#32
  let arg16 : BitVec 32 := Scf.iv c0_i32_191 c1_i32_193 k0_t10
  let c1_i32_397 : BitVec 32 := 1#32
  let v248 : BitVec 32 := Scalar.muli arg16 c1_i32_397
  let v249 : BitVec 32 := Scalar.addi c0_i32_398 v248
  let v279 : Index := Scalar.indexCast v249
  let c0_416 : Index := 0#32
  let c0_417 : Index := 0#32
  ![0, 34, v279.toNat, 0, 0]
def k0_mult36 (k0_t10 : Fin k0_t10_loop.trips) : BitVec 32 :=
  let c0_i32_398 : BitVec 32 := 0#32
  let c0_i32_191 : BitVec 32 := 0#32
  let c1_i32_193 : BitVec 32 := 1#32
  let arg16 : BitVec 32 := Scf.iv c0_i32_191 c1_i32_193 k0_t10
  let c1_i32_397 : BitVec 32 := 1#32
  let v248 : BitVec 32 := Scalar.muli arg16 c1_i32_397
  let v249 : BitVec 32 := Scalar.addi c0_i32_398 v248
  let c128_i32_418 : BitVec 32 := 128#32
  let v283 : BitVec 32 := Scalar.muli v249 c128_i32_418
  v283
def k0_off104 (k0_t10 : Fin k0_t10_loop.trips) : Fin 4 → Nat :=
  let c2_419 : Index := 2#32
  let c3 : Index := 3#32
  let c0_420 : Index := 0#32
  let c0_i32_398 : BitVec 32 := 0#32
  let c0_i32_191 : BitVec 32 := 0#32
  let c1_i32_193 : BitVec 32 := 1#32
  let arg16 : BitVec 32 := Scf.iv c0_i32_191 c1_i32_193 k0_t10
  let c1_i32_397 : BitVec 32 := 1#32
  let v248 : BitVec 32 := Scalar.muli arg16 c1_i32_397
  let v249 : BitVec 32 := Scalar.addi c0_i32_398 v248
  let c128_i32_418 : BitVec 32 := 128#32
  let v283 : BitVec 32 := Scalar.muli v249 c128_i32_418
  let v284 : BitVec 32 := v283
  let v285 : Index := Scalar.indexCast v284
  ![2, 3, 0, v285.toNat]
def k0_off105 (k0_t10 : Fin k0_t10_loop.trips) : Fin 5 → Nat :=
  let c0_421 : Index := 0#32
  let c35 : Index := 35#32
  let c0_i32_398 : BitVec 32 := 0#32
  let c0_i32_191 : BitVec 32 := 0#32
  let c1_i32_193 : BitVec 32 := 1#32
  let arg16 : BitVec 32 := Scf.iv c0_i32_191 c1_i32_193 k0_t10
  let c1_i32_397 : BitVec 32 := 1#32
  let v248 : BitVec 32 := Scalar.muli arg16 c1_i32_397
  let v249 : BitVec 32 := Scalar.addi c0_i32_398 v248
  let v290 : Index := Scalar.indexCast v249
  let c0_422 : Index := 0#32
  let c0_423 : Index := 0#32
  ![0, 35, v290.toNat, 0, 0]
@[reducible] def k0_t11_loop : Scf.Loop 32 :=
  let c0_i32_211 : BitVec 32 := 0#32
  let c30_i32_212 : BitVec 32 := 30#32
  let v136 : BitVec 32 := Scalar.addi c0_i32_211 c30_i32_212
  let c1_i32_213 : BitVec 32 := 1#32
  ⟨c0_i32_211, v136, c1_i32_213⟩
def k0_mult37 (k0_t11 : Fin k0_t11_loop.trips) : BitVec 32 :=
  let c0_i32_398 : BitVec 32 := 0#32
  let c0_i32_211 : BitVec 32 := 0#32
  let c1_i32_213 : BitVec 32 := 1#32
  let arg16 : BitVec 32 := Scf.iv c0_i32_211 c1_i32_213 k0_t11
  let c1_i32_397 : BitVec 32 := 1#32
  let v248 : BitVec 32 := Scalar.muli arg16 c1_i32_397
  let v249 : BitVec 32 := Scalar.addi c0_i32_398 v248
  let c128_i32_399 : BitVec 32 := 128#32
  let v250 : BitVec 32 := Scalar.muli v249 c128_i32_399
  v250
def k0_off106 (k0_t11 : Fin k0_t11_loop.trips) : Fin 4 → Nat :=
  let c0_400 : Index := 0#32
  let c0_401 : Index := 0#32
  let c0_402 : Index := 0#32
  let c0_i32_398 : BitVec 32 := 0#32
  let c0_i32_211 : BitVec 32 := 0#32
  let c1_i32_213 : BitVec 32 := 1#32
  let arg16 : BitVec 32 := Scf.iv c0_i32_211 c1_i32_213 k0_t11
  let c1_i32_397 : BitVec 32 := 1#32
  let v248 : BitVec 32 := Scalar.muli arg16 c1_i32_397
  let v249 : BitVec 32 := Scalar.addi c0_i32_398 v248
  let c128_i32_399 : BitVec 32 := 128#32
  let v250 : BitVec 32 := Scalar.muli v249 c128_i32_399
  let v251 : BitVec 32 := v250
  let v252 : Index := Scalar.indexCast v251
  ![0, 0, 0, v252.toNat]
def k0_off107 (k0_t11 : Fin k0_t11_loop.trips) : Fin 5 → Nat :=
  let c1 : Index := 1#32
  let c0_403 : Index := 0#32
  let c0_i32_398 : BitVec 32 := 0#32
  let c0_i32_211 : BitVec 32 := 0#32
  let c1_i32_213 : BitVec 32 := 1#32
  let arg16 : BitVec 32 := Scf.iv c0_i32_211 c1_i32_213 k0_t11
  let c1_i32_397 : BitVec 32 := 1#32
  let v248 : BitVec 32 := Scalar.muli arg16 c1_i32_397
  let v249 : BitVec 32 := Scalar.addi c0_i32_398 v248
  let v257 : Index := Scalar.indexCast v249
  let c0_404 : Index := 0#32
  let c0_405 : Index := 0#32
  ![1, 0, v257.toNat, 0, 0]
def k0_mult38 (k0_t11 : Fin k0_t11_loop.trips) : BitVec 32 :=
  let c0_i32_398 : BitVec 32 := 0#32
  let c0_i32_211 : BitVec 32 := 0#32
  let c1_i32_213 : BitVec 32 := 1#32
  let arg16 : BitVec 32 := Scf.iv c0_i32_211 c1_i32_213 k0_t11
  let c1_i32_397 : BitVec 32 := 1#32
  let v248 : BitVec 32 := Scalar.muli arg16 c1_i32_397
  let v249 : BitVec 32 := Scalar.addi c0_i32_398 v248
  let c128_i32_406 : BitVec 32 := 128#32
  let v261 : BitVec 32 := Scalar.muli v249 c128_i32_406
  v261
def k0_off108 (k0_t11 : Fin k0_t11_loop.trips) : Fin 4 → Nat :=
  let c0_407 : Index := 0#32
  let c1_408 : Index := 1#32
  let c0_409 : Index := 0#32
  let c0_i32_398 : BitVec 32 := 0#32
  let c0_i32_211 : BitVec 32 := 0#32
  let c1_i32_213 : BitVec 32 := 1#32
  let arg16 : BitVec 32 := Scf.iv c0_i32_211 c1_i32_213 k0_t11
  let c1_i32_397 : BitVec 32 := 1#32
  let v248 : BitVec 32 := Scalar.muli arg16 c1_i32_397
  let v249 : BitVec 32 := Scalar.addi c0_i32_398 v248
  let c128_i32_406 : BitVec 32 := 128#32
  let v261 : BitVec 32 := Scalar.muli v249 c128_i32_406
  let v262 : BitVec 32 := v261
  let v263 : Index := Scalar.indexCast v262
  ![0, 1, 0, v263.toNat]
def k0_off109 (k0_t11 : Fin k0_t11_loop.trips) : Fin 5 → Nat :=
  let c1_410 : Index := 1#32
  let c1_411 : Index := 1#32
  let c0_i32_398 : BitVec 32 := 0#32
  let c0_i32_211 : BitVec 32 := 0#32
  let c1_i32_213 : BitVec 32 := 1#32
  let arg16 : BitVec 32 := Scf.iv c0_i32_211 c1_i32_213 k0_t11
  let c1_i32_397 : BitVec 32 := 1#32
  let v248 : BitVec 32 := Scalar.muli arg16 c1_i32_397
  let v249 : BitVec 32 := Scalar.addi c0_i32_398 v248
  let v268 : Index := Scalar.indexCast v249
  let c0_412 : Index := 0#32
  let c0_413 : Index := 0#32
  ![1, 1, v268.toNat, 0, 0]
def k0_mult39 (k0_t11 : Fin k0_t11_loop.trips) : BitVec 32 :=
  let c0_i32_398 : BitVec 32 := 0#32
  let c0_i32_211 : BitVec 32 := 0#32
  let c1_i32_213 : BitVec 32 := 1#32
  let arg16 : BitVec 32 := Scf.iv c0_i32_211 c1_i32_213 k0_t11
  let c1_i32_397 : BitVec 32 := 1#32
  let v248 : BitVec 32 := Scalar.muli arg16 c1_i32_397
  let v249 : BitVec 32 := Scalar.addi c0_i32_398 v248
  let c128_i32_414 : BitVec 32 := 128#32
  let v272 : BitVec 32 := Scalar.muli v249 c128_i32_414
  v272
def k0_off110 (k0_t11 : Fin k0_t11_loop.trips) : Fin 4 → Nat :=
  let c0_415 : Index := 0#32
  let c2 : Index := 2#32
  let c0_416 : Index := 0#32
  let c0_i32_398 : BitVec 32 := 0#32
  let c0_i32_211 : BitVec 32 := 0#32
  let c1_i32_213 : BitVec 32 := 1#32
  let arg16 : BitVec 32 := Scf.iv c0_i32_211 c1_i32_213 k0_t11
  let c1_i32_397 : BitVec 32 := 1#32
  let v248 : BitVec 32 := Scalar.muli arg16 c1_i32_397
  let v249 : BitVec 32 := Scalar.addi c0_i32_398 v248
  let c128_i32_414 : BitVec 32 := 128#32
  let v272 : BitVec 32 := Scalar.muli v249 c128_i32_414
  let v273 : BitVec 32 := v272
  let v274 : Index := Scalar.indexCast v273
  ![0, 2, 0, v274.toNat]
def k0_off111 (k0_t11 : Fin k0_t11_loop.trips) : Fin 5 → Nat :=
  let c1_417 : Index := 1#32
  let c2_418 : Index := 2#32
  let c0_i32_398 : BitVec 32 := 0#32
  let c0_i32_211 : BitVec 32 := 0#32
  let c1_i32_213 : BitVec 32 := 1#32
  let arg16 : BitVec 32 := Scf.iv c0_i32_211 c1_i32_213 k0_t11
  let c1_i32_397 : BitVec 32 := 1#32
  let v248 : BitVec 32 := Scalar.muli arg16 c1_i32_397
  let v249 : BitVec 32 := Scalar.addi c0_i32_398 v248
  let v279 : Index := Scalar.indexCast v249
  let c0_419 : Index := 0#32
  let c0_420 : Index := 0#32
  ![1, 2, v279.toNat, 0, 0]
def k0_mult40 (k0_t11 : Fin k0_t11_loop.trips) : BitVec 32 :=
  let c0_i32_398 : BitVec 32 := 0#32
  let c0_i32_211 : BitVec 32 := 0#32
  let c1_i32_213 : BitVec 32 := 1#32
  let arg16 : BitVec 32 := Scf.iv c0_i32_211 c1_i32_213 k0_t11
  let c1_i32_397 : BitVec 32 := 1#32
  let v248 : BitVec 32 := Scalar.muli arg16 c1_i32_397
  let v249 : BitVec 32 := Scalar.addi c0_i32_398 v248
  let c128_i32_421 : BitVec 32 := 128#32
  let v283 : BitVec 32 := Scalar.muli v249 c128_i32_421
  v283
def k0_off112 (k0_t11 : Fin k0_t11_loop.trips) : Fin 4 → Nat :=
  let c0_422 : Index := 0#32
  let c3 : Index := 3#32
  let c0_423 : Index := 0#32
  let c0_i32_398 : BitVec 32 := 0#32
  let c0_i32_211 : BitVec 32 := 0#32
  let c1_i32_213 : BitVec 32 := 1#32
  let arg16 : BitVec 32 := Scf.iv c0_i32_211 c1_i32_213 k0_t11
  let c1_i32_397 : BitVec 32 := 1#32
  let v248 : BitVec 32 := Scalar.muli arg16 c1_i32_397
  let v249 : BitVec 32 := Scalar.addi c0_i32_398 v248
  let c128_i32_421 : BitVec 32 := 128#32
  let v283 : BitVec 32 := Scalar.muli v249 c128_i32_421
  let v284 : BitVec 32 := v283
  let v285 : Index := Scalar.indexCast v284
  ![0, 3, 0, v285.toNat]
def k0_off113 (k0_t11 : Fin k0_t11_loop.trips) : Fin 5 → Nat :=
  let c1_424 : Index := 1#32
  let c3_425 : Index := 3#32
  let c0_i32_398 : BitVec 32 := 0#32
  let c0_i32_211 : BitVec 32 := 0#32
  let c1_i32_213 : BitVec 32 := 1#32
  let arg16 : BitVec 32 := Scf.iv c0_i32_211 c1_i32_213 k0_t11
  let c1_i32_397 : BitVec 32 := 1#32
  let v248 : BitVec 32 := Scalar.muli arg16 c1_i32_397
  let v249 : BitVec 32 := Scalar.addi c0_i32_398 v248
  let v290 : Index := Scalar.indexCast v249
  let c0_426 : Index := 0#32
  let c0_427 : Index := 0#32
  ![1, 3, v290.toNat, 0, 0]
@[reducible] def k0_t12_loop : Scf.Loop 32 :=
  let c0_i32_231 : BitVec 32 := 0#32
  let c30_i32_232 : BitVec 32 := 30#32
  let v147 : BitVec 32 := Scalar.addi c0_i32_231 c30_i32_232
  let c1_i32_233 : BitVec 32 := 1#32
  ⟨c0_i32_231, v147, c1_i32_233⟩
def k0_mult41 (k0_t12 : Fin k0_t12_loop.trips) : BitVec 32 :=
  let c0_i32_398 : BitVec 32 := 0#32
  let c0_i32_231 : BitVec 32 := 0#32
  let c1_i32_233 : BitVec 32 := 1#32
  let arg16 : BitVec 32 := Scf.iv c0_i32_231 c1_i32_233 k0_t12
  let c1_i32_397 : BitVec 32 := 1#32
  let v248 : BitVec 32 := Scalar.muli arg16 c1_i32_397
  let v249 : BitVec 32 := Scalar.addi c0_i32_398 v248
  let c128_i32_399 : BitVec 32 := 128#32
  let v250 : BitVec 32 := Scalar.muli v249 c128_i32_399
  v250
def k0_off114 (k0_t12 : Fin k0_t12_loop.trips) : Fin 4 → Nat :=
  let c1 : Index := 1#32
  let c0_400 : Index := 0#32
  let c0_401 : Index := 0#32
  let c0_i32_398 : BitVec 32 := 0#32
  let c0_i32_231 : BitVec 32 := 0#32
  let c1_i32_233 : BitVec 32 := 1#32
  let arg16 : BitVec 32 := Scf.iv c0_i32_231 c1_i32_233 k0_t12
  let c1_i32_397 : BitVec 32 := 1#32
  let v248 : BitVec 32 := Scalar.muli arg16 c1_i32_397
  let v249 : BitVec 32 := Scalar.addi c0_i32_398 v248
  let c128_i32_399 : BitVec 32 := 128#32
  let v250 : BitVec 32 := Scalar.muli v249 c128_i32_399
  let v251 : BitVec 32 := v250
  let v252 : Index := Scalar.indexCast v251
  ![1, 0, 0, v252.toNat]
def k0_off115 (k0_t12 : Fin k0_t12_loop.trips) : Fin 5 → Nat :=
  let c1_402 : Index := 1#32
  let c4 : Index := 4#32
  let c0_i32_398 : BitVec 32 := 0#32
  let c0_i32_231 : BitVec 32 := 0#32
  let c1_i32_233 : BitVec 32 := 1#32
  let arg16 : BitVec 32 := Scf.iv c0_i32_231 c1_i32_233 k0_t12
  let c1_i32_397 : BitVec 32 := 1#32
  let v248 : BitVec 32 := Scalar.muli arg16 c1_i32_397
  let v249 : BitVec 32 := Scalar.addi c0_i32_398 v248
  let v257 : Index := Scalar.indexCast v249
  let c0_403 : Index := 0#32
  let c0_404 : Index := 0#32
  ![1, 4, v257.toNat, 0, 0]
def k0_mult42 (k0_t12 : Fin k0_t12_loop.trips) : BitVec 32 :=
  let c0_i32_398 : BitVec 32 := 0#32
  let c0_i32_231 : BitVec 32 := 0#32
  let c1_i32_233 : BitVec 32 := 1#32
  let arg16 : BitVec 32 := Scf.iv c0_i32_231 c1_i32_233 k0_t12
  let c1_i32_397 : BitVec 32 := 1#32
  let v248 : BitVec 32 := Scalar.muli arg16 c1_i32_397
  let v249 : BitVec 32 := Scalar.addi c0_i32_398 v248
  let c128_i32_405 : BitVec 32 := 128#32
  let v261 : BitVec 32 := Scalar.muli v249 c128_i32_405
  v261
def k0_off116 (k0_t12 : Fin k0_t12_loop.trips) : Fin 4 → Nat :=
  let c1_406 : Index := 1#32
  let c1_407 : Index := 1#32
  let c0_408 : Index := 0#32
  let c0_i32_398 : BitVec 32 := 0#32
  let c0_i32_231 : BitVec 32 := 0#32
  let c1_i32_233 : BitVec 32 := 1#32
  let arg16 : BitVec 32 := Scf.iv c0_i32_231 c1_i32_233 k0_t12
  let c1_i32_397 : BitVec 32 := 1#32
  let v248 : BitVec 32 := Scalar.muli arg16 c1_i32_397
  let v249 : BitVec 32 := Scalar.addi c0_i32_398 v248
  let c128_i32_405 : BitVec 32 := 128#32
  let v261 : BitVec 32 := Scalar.muli v249 c128_i32_405
  let v262 : BitVec 32 := v261
  let v263 : Index := Scalar.indexCast v262
  ![1, 1, 0, v263.toNat]
def k0_off117 (k0_t12 : Fin k0_t12_loop.trips) : Fin 5 → Nat :=
  let c1_409 : Index := 1#32
  let c5 : Index := 5#32
  let c0_i32_398 : BitVec 32 := 0#32
  let c0_i32_231 : BitVec 32 := 0#32
  let c1_i32_233 : BitVec 32 := 1#32
  let arg16 : BitVec 32 := Scf.iv c0_i32_231 c1_i32_233 k0_t12
  let c1_i32_397 : BitVec 32 := 1#32
  let v248 : BitVec 32 := Scalar.muli arg16 c1_i32_397
  let v249 : BitVec 32 := Scalar.addi c0_i32_398 v248
  let v268 : Index := Scalar.indexCast v249
  let c0_410 : Index := 0#32
  let c0_411 : Index := 0#32
  ![1, 5, v268.toNat, 0, 0]
def k0_mult43 (k0_t12 : Fin k0_t12_loop.trips) : BitVec 32 :=
  let c0_i32_398 : BitVec 32 := 0#32
  let c0_i32_231 : BitVec 32 := 0#32
  let c1_i32_233 : BitVec 32 := 1#32
  let arg16 : BitVec 32 := Scf.iv c0_i32_231 c1_i32_233 k0_t12
  let c1_i32_397 : BitVec 32 := 1#32
  let v248 : BitVec 32 := Scalar.muli arg16 c1_i32_397
  let v249 : BitVec 32 := Scalar.addi c0_i32_398 v248
  let c128_i32_412 : BitVec 32 := 128#32
  let v272 : BitVec 32 := Scalar.muli v249 c128_i32_412
  v272
def k0_off118 (k0_t12 : Fin k0_t12_loop.trips) : Fin 4 → Nat :=
  let c1_413 : Index := 1#32
  let c2 : Index := 2#32
  let c0_414 : Index := 0#32
  let c0_i32_398 : BitVec 32 := 0#32
  let c0_i32_231 : BitVec 32 := 0#32
  let c1_i32_233 : BitVec 32 := 1#32
  let arg16 : BitVec 32 := Scf.iv c0_i32_231 c1_i32_233 k0_t12
  let c1_i32_397 : BitVec 32 := 1#32
  let v248 : BitVec 32 := Scalar.muli arg16 c1_i32_397
  let v249 : BitVec 32 := Scalar.addi c0_i32_398 v248
  let c128_i32_412 : BitVec 32 := 128#32
  let v272 : BitVec 32 := Scalar.muli v249 c128_i32_412
  let v273 : BitVec 32 := v272
  let v274 : Index := Scalar.indexCast v273
  ![1, 2, 0, v274.toNat]
def k0_off119 (k0_t12 : Fin k0_t12_loop.trips) : Fin 5 → Nat :=
  let c1_415 : Index := 1#32
  let c6 : Index := 6#32
  let c0_i32_398 : BitVec 32 := 0#32
  let c0_i32_231 : BitVec 32 := 0#32
  let c1_i32_233 : BitVec 32 := 1#32
  let arg16 : BitVec 32 := Scf.iv c0_i32_231 c1_i32_233 k0_t12
  let c1_i32_397 : BitVec 32 := 1#32
  let v248 : BitVec 32 := Scalar.muli arg16 c1_i32_397
  let v249 : BitVec 32 := Scalar.addi c0_i32_398 v248
  let v279 : Index := Scalar.indexCast v249
  let c0_416 : Index := 0#32
  let c0_417 : Index := 0#32
  ![1, 6, v279.toNat, 0, 0]
def k0_mult44 (k0_t12 : Fin k0_t12_loop.trips) : BitVec 32 :=
  let c0_i32_398 : BitVec 32 := 0#32
  let c0_i32_231 : BitVec 32 := 0#32
  let c1_i32_233 : BitVec 32 := 1#32
  let arg16 : BitVec 32 := Scf.iv c0_i32_231 c1_i32_233 k0_t12
  let c1_i32_397 : BitVec 32 := 1#32
  let v248 : BitVec 32 := Scalar.muli arg16 c1_i32_397
  let v249 : BitVec 32 := Scalar.addi c0_i32_398 v248
  let c128_i32_418 : BitVec 32 := 128#32
  let v283 : BitVec 32 := Scalar.muli v249 c128_i32_418
  v283
def k0_off120 (k0_t12 : Fin k0_t12_loop.trips) : Fin 4 → Nat :=
  let c1_419 : Index := 1#32
  let c3 : Index := 3#32
  let c0_420 : Index := 0#32
  let c0_i32_398 : BitVec 32 := 0#32
  let c0_i32_231 : BitVec 32 := 0#32
  let c1_i32_233 : BitVec 32 := 1#32
  let arg16 : BitVec 32 := Scf.iv c0_i32_231 c1_i32_233 k0_t12
  let c1_i32_397 : BitVec 32 := 1#32
  let v248 : BitVec 32 := Scalar.muli arg16 c1_i32_397
  let v249 : BitVec 32 := Scalar.addi c0_i32_398 v248
  let c128_i32_418 : BitVec 32 := 128#32
  let v283 : BitVec 32 := Scalar.muli v249 c128_i32_418
  let v284 : BitVec 32 := v283
  let v285 : Index := Scalar.indexCast v284
  ![1, 3, 0, v285.toNat]
def k0_off121 (k0_t12 : Fin k0_t12_loop.trips) : Fin 5 → Nat :=
  let c1_421 : Index := 1#32
  let c7 : Index := 7#32
  let c0_i32_398 : BitVec 32 := 0#32
  let c0_i32_231 : BitVec 32 := 0#32
  let c1_i32_233 : BitVec 32 := 1#32
  let arg16 : BitVec 32 := Scf.iv c0_i32_231 c1_i32_233 k0_t12
  let c1_i32_397 : BitVec 32 := 1#32
  let v248 : BitVec 32 := Scalar.muli arg16 c1_i32_397
  let v249 : BitVec 32 := Scalar.addi c0_i32_398 v248
  let v290 : Index := Scalar.indexCast v249
  let c0_422 : Index := 0#32
  let c0_423 : Index := 0#32
  ![1, 7, v290.toNat, 0, 0]
@[reducible] def k0_t13_loop : Scf.Loop 32 :=
  let c0_i32_251 : BitVec 32 := 0#32
  let c30_i32_252 : BitVec 32 := 30#32
  let v158 : BitVec 32 := Scalar.addi c0_i32_251 c30_i32_252
  let c1_i32_253 : BitVec 32 := 1#32
  ⟨c0_i32_251, v158, c1_i32_253⟩
def k0_mult45 (k0_t13 : Fin k0_t13_loop.trips) : BitVec 32 :=
  let c0_i32_398 : BitVec 32 := 0#32
  let c0_i32_251 : BitVec 32 := 0#32
  let c1_i32_253 : BitVec 32 := 1#32
  let arg16 : BitVec 32 := Scf.iv c0_i32_251 c1_i32_253 k0_t13
  let c1_i32_397 : BitVec 32 := 1#32
  let v248 : BitVec 32 := Scalar.muli arg16 c1_i32_397
  let v249 : BitVec 32 := Scalar.addi c0_i32_398 v248
  let c128_i32_399 : BitVec 32 := 128#32
  let v250 : BitVec 32 := Scalar.muli v249 c128_i32_399
  v250
def k0_off122 (k0_t13 : Fin k0_t13_loop.trips) : Fin 4 → Nat :=
  let c2 : Index := 2#32
  let c0_400 : Index := 0#32
  let c0_401 : Index := 0#32
  let c0_i32_398 : BitVec 32 := 0#32
  let c0_i32_251 : BitVec 32 := 0#32
  let c1_i32_253 : BitVec 32 := 1#32
  let arg16 : BitVec 32 := Scf.iv c0_i32_251 c1_i32_253 k0_t13
  let c1_i32_397 : BitVec 32 := 1#32
  let v248 : BitVec 32 := Scalar.muli arg16 c1_i32_397
  let v249 : BitVec 32 := Scalar.addi c0_i32_398 v248
  let c128_i32_399 : BitVec 32 := 128#32
  let v250 : BitVec 32 := Scalar.muli v249 c128_i32_399
  let v251 : BitVec 32 := v250
  let v252 : Index := Scalar.indexCast v251
  ![2, 0, 0, v252.toNat]
def k0_off123 (k0_t13 : Fin k0_t13_loop.trips) : Fin 5 → Nat :=
  let c1 : Index := 1#32
  let c8 : Index := 8#32
  let c0_i32_398 : BitVec 32 := 0#32
  let c0_i32_251 : BitVec 32 := 0#32
  let c1_i32_253 : BitVec 32 := 1#32
  let arg16 : BitVec 32 := Scf.iv c0_i32_251 c1_i32_253 k0_t13
  let c1_i32_397 : BitVec 32 := 1#32
  let v248 : BitVec 32 := Scalar.muli arg16 c1_i32_397
  let v249 : BitVec 32 := Scalar.addi c0_i32_398 v248
  let v257 : Index := Scalar.indexCast v249
  let c0_402 : Index := 0#32
  let c0_403 : Index := 0#32
  ![1, 8, v257.toNat, 0, 0]
def k0_mult46 (k0_t13 : Fin k0_t13_loop.trips) : BitVec 32 :=
  let c0_i32_398 : BitVec 32 := 0#32
  let c0_i32_251 : BitVec 32 := 0#32
  let c1_i32_253 : BitVec 32 := 1#32
  let arg16 : BitVec 32 := Scf.iv c0_i32_251 c1_i32_253 k0_t13
  let c1_i32_397 : BitVec 32 := 1#32
  let v248 : BitVec 32 := Scalar.muli arg16 c1_i32_397
  let v249 : BitVec 32 := Scalar.addi c0_i32_398 v248
  let c128_i32_404 : BitVec 32 := 128#32
  let v261 : BitVec 32 := Scalar.muli v249 c128_i32_404
  v261
def k0_off124 (k0_t13 : Fin k0_t13_loop.trips) : Fin 4 → Nat :=
  let c2_405 : Index := 2#32
  let c1_406 : Index := 1#32
  let c0_407 : Index := 0#32
  let c0_i32_398 : BitVec 32 := 0#32
  let c0_i32_251 : BitVec 32 := 0#32
  let c1_i32_253 : BitVec 32 := 1#32
  let arg16 : BitVec 32 := Scf.iv c0_i32_251 c1_i32_253 k0_t13
  let c1_i32_397 : BitVec 32 := 1#32
  let v248 : BitVec 32 := Scalar.muli arg16 c1_i32_397
  let v249 : BitVec 32 := Scalar.addi c0_i32_398 v248
  let c128_i32_404 : BitVec 32 := 128#32
  let v261 : BitVec 32 := Scalar.muli v249 c128_i32_404
  let v262 : BitVec 32 := v261
  let v263 : Index := Scalar.indexCast v262
  ![2, 1, 0, v263.toNat]
def k0_off125 (k0_t13 : Fin k0_t13_loop.trips) : Fin 5 → Nat :=
  let c1_408 : Index := 1#32
  let c9 : Index := 9#32
  let c0_i32_398 : BitVec 32 := 0#32
  let c0_i32_251 : BitVec 32 := 0#32
  let c1_i32_253 : BitVec 32 := 1#32
  let arg16 : BitVec 32 := Scf.iv c0_i32_251 c1_i32_253 k0_t13
  let c1_i32_397 : BitVec 32 := 1#32
  let v248 : BitVec 32 := Scalar.muli arg16 c1_i32_397
  let v249 : BitVec 32 := Scalar.addi c0_i32_398 v248
  let v268 : Index := Scalar.indexCast v249
  let c0_409 : Index := 0#32
  let c0_410 : Index := 0#32
  ![1, 9, v268.toNat, 0, 0]
def k0_mult47 (k0_t13 : Fin k0_t13_loop.trips) : BitVec 32 :=
  let c0_i32_398 : BitVec 32 := 0#32
  let c0_i32_251 : BitVec 32 := 0#32
  let c1_i32_253 : BitVec 32 := 1#32
  let arg16 : BitVec 32 := Scf.iv c0_i32_251 c1_i32_253 k0_t13
  let c1_i32_397 : BitVec 32 := 1#32
  let v248 : BitVec 32 := Scalar.muli arg16 c1_i32_397
  let v249 : BitVec 32 := Scalar.addi c0_i32_398 v248
  let c128_i32_411 : BitVec 32 := 128#32
  let v272 : BitVec 32 := Scalar.muli v249 c128_i32_411
  v272
def k0_off126 (k0_t13 : Fin k0_t13_loop.trips) : Fin 4 → Nat :=
  let c2_412 : Index := 2#32
  let c2_413 : Index := 2#32
  let c0_414 : Index := 0#32
  let c0_i32_398 : BitVec 32 := 0#32
  let c0_i32_251 : BitVec 32 := 0#32
  let c1_i32_253 : BitVec 32 := 1#32
  let arg16 : BitVec 32 := Scf.iv c0_i32_251 c1_i32_253 k0_t13
  let c1_i32_397 : BitVec 32 := 1#32
  let v248 : BitVec 32 := Scalar.muli arg16 c1_i32_397
  let v249 : BitVec 32 := Scalar.addi c0_i32_398 v248
  let c128_i32_411 : BitVec 32 := 128#32
  let v272 : BitVec 32 := Scalar.muli v249 c128_i32_411
  let v273 : BitVec 32 := v272
  let v274 : Index := Scalar.indexCast v273
  ![2, 2, 0, v274.toNat]
def k0_off127 (k0_t13 : Fin k0_t13_loop.trips) : Fin 5 → Nat :=
  let c1_415 : Index := 1#32
  let c10 : Index := 10#32
  let c0_i32_398 : BitVec 32 := 0#32
  let c0_i32_251 : BitVec 32 := 0#32
  let c1_i32_253 : BitVec 32 := 1#32
  let arg16 : BitVec 32 := Scf.iv c0_i32_251 c1_i32_253 k0_t13
  let c1_i32_397 : BitVec 32 := 1#32
  let v248 : BitVec 32 := Scalar.muli arg16 c1_i32_397
  let v249 : BitVec 32 := Scalar.addi c0_i32_398 v248
  let v279 : Index := Scalar.indexCast v249
  let c0_416 : Index := 0#32
  let c0_417 : Index := 0#32
  ![1, 10, v279.toNat, 0, 0]
def k0_mult48 (k0_t13 : Fin k0_t13_loop.trips) : BitVec 32 :=
  let c0_i32_398 : BitVec 32 := 0#32
  let c0_i32_251 : BitVec 32 := 0#32
  let c1_i32_253 : BitVec 32 := 1#32
  let arg16 : BitVec 32 := Scf.iv c0_i32_251 c1_i32_253 k0_t13
  let c1_i32_397 : BitVec 32 := 1#32
  let v248 : BitVec 32 := Scalar.muli arg16 c1_i32_397
  let v249 : BitVec 32 := Scalar.addi c0_i32_398 v248
  let c128_i32_418 : BitVec 32 := 128#32
  let v283 : BitVec 32 := Scalar.muli v249 c128_i32_418
  v283
def k0_off128 (k0_t13 : Fin k0_t13_loop.trips) : Fin 4 → Nat :=
  let c2_419 : Index := 2#32
  let c3 : Index := 3#32
  let c0_420 : Index := 0#32
  let c0_i32_398 : BitVec 32 := 0#32
  let c0_i32_251 : BitVec 32 := 0#32
  let c1_i32_253 : BitVec 32 := 1#32
  let arg16 : BitVec 32 := Scf.iv c0_i32_251 c1_i32_253 k0_t13
  let c1_i32_397 : BitVec 32 := 1#32
  let v248 : BitVec 32 := Scalar.muli arg16 c1_i32_397
  let v249 : BitVec 32 := Scalar.addi c0_i32_398 v248
  let c128_i32_418 : BitVec 32 := 128#32
  let v283 : BitVec 32 := Scalar.muli v249 c128_i32_418
  let v284 : BitVec 32 := v283
  let v285 : Index := Scalar.indexCast v284
  ![2, 3, 0, v285.toNat]
def k0_off129 (k0_t13 : Fin k0_t13_loop.trips) : Fin 5 → Nat :=
  let c1_421 : Index := 1#32
  let c11 : Index := 11#32
  let c0_i32_398 : BitVec 32 := 0#32
  let c0_i32_251 : BitVec 32 := 0#32
  let c1_i32_253 : BitVec 32 := 1#32
  let arg16 : BitVec 32 := Scf.iv c0_i32_251 c1_i32_253 k0_t13
  let c1_i32_397 : BitVec 32 := 1#32
  let v248 : BitVec 32 := Scalar.muli arg16 c1_i32_397
  let v249 : BitVec 32 := Scalar.addi c0_i32_398 v248
  let v290 : Index := Scalar.indexCast v249
  let c0_422 : Index := 0#32
  let c0_423 : Index := 0#32
  ![1, 11, v290.toNat, 0, 0]
@[reducible] def k0_t14_loop : Scf.Loop 32 :=
  let c0_i32_271 : BitVec 32 := 0#32
  let c30_i32_272 : BitVec 32 := 30#32
  let v169 : BitVec 32 := Scalar.addi c0_i32_271 c30_i32_272
  let c1_i32_273 : BitVec 32 := 1#32
  ⟨c0_i32_271, v169, c1_i32_273⟩
def k0_mult49 (k0_t14 : Fin k0_t14_loop.trips) : BitVec 32 :=
  let c0_i32_398 : BitVec 32 := 0#32
  let c0_i32_271 : BitVec 32 := 0#32
  let c1_i32_273 : BitVec 32 := 1#32
  let arg16 : BitVec 32 := Scf.iv c0_i32_271 c1_i32_273 k0_t14
  let c1_i32_397 : BitVec 32 := 1#32
  let v248 : BitVec 32 := Scalar.muli arg16 c1_i32_397
  let v249 : BitVec 32 := Scalar.addi c0_i32_398 v248
  let c128_i32_399 : BitVec 32 := 128#32
  let v250 : BitVec 32 := Scalar.muli v249 c128_i32_399
  v250
def k0_off130 (k0_t14 : Fin k0_t14_loop.trips) : Fin 4 → Nat :=
  let c0_400 : Index := 0#32
  let c0_401 : Index := 0#32
  let c0_402 : Index := 0#32
  let c0_i32_398 : BitVec 32 := 0#32
  let c0_i32_271 : BitVec 32 := 0#32
  let c1_i32_273 : BitVec 32 := 1#32
  let arg16 : BitVec 32 := Scf.iv c0_i32_271 c1_i32_273 k0_t14
  let c1_i32_397 : BitVec 32 := 1#32
  let v248 : BitVec 32 := Scalar.muli arg16 c1_i32_397
  let v249 : BitVec 32 := Scalar.addi c0_i32_398 v248
  let c128_i32_399 : BitVec 32 := 128#32
  let v250 : BitVec 32 := Scalar.muli v249 c128_i32_399
  let v251 : BitVec 32 := v250
  let v252 : Index := Scalar.indexCast v251
  ![0, 0, 0, v252.toNat]
def k0_off131 (k0_t14 : Fin k0_t14_loop.trips) : Fin 5 → Nat :=
  let c1 : Index := 1#32
  let c12 : Index := 12#32
  let c0_i32_398 : BitVec 32 := 0#32
  let c0_i32_271 : BitVec 32 := 0#32
  let c1_i32_273 : BitVec 32 := 1#32
  let arg16 : BitVec 32 := Scf.iv c0_i32_271 c1_i32_273 k0_t14
  let c1_i32_397 : BitVec 32 := 1#32
  let v248 : BitVec 32 := Scalar.muli arg16 c1_i32_397
  let v249 : BitVec 32 := Scalar.addi c0_i32_398 v248
  let v257 : Index := Scalar.indexCast v249
  let c0_403 : Index := 0#32
  let c0_404 : Index := 0#32
  ![1, 12, v257.toNat, 0, 0]
def k0_mult50 (k0_t14 : Fin k0_t14_loop.trips) : BitVec 32 :=
  let c0_i32_398 : BitVec 32 := 0#32
  let c0_i32_271 : BitVec 32 := 0#32
  let c1_i32_273 : BitVec 32 := 1#32
  let arg16 : BitVec 32 := Scf.iv c0_i32_271 c1_i32_273 k0_t14
  let c1_i32_397 : BitVec 32 := 1#32
  let v248 : BitVec 32 := Scalar.muli arg16 c1_i32_397
  let v249 : BitVec 32 := Scalar.addi c0_i32_398 v248
  let c128_i32_405 : BitVec 32 := 128#32
  let v261 : BitVec 32 := Scalar.muli v249 c128_i32_405
  v261
def k0_off132 (k0_t14 : Fin k0_t14_loop.trips) : Fin 4 → Nat :=
  let c0_406 : Index := 0#32
  let c1_407 : Index := 1#32
  let c0_408 : Index := 0#32
  let c0_i32_398 : BitVec 32 := 0#32
  let c0_i32_271 : BitVec 32 := 0#32
  let c1_i32_273 : BitVec 32 := 1#32
  let arg16 : BitVec 32 := Scf.iv c0_i32_271 c1_i32_273 k0_t14
  let c1_i32_397 : BitVec 32 := 1#32
  let v248 : BitVec 32 := Scalar.muli arg16 c1_i32_397
  let v249 : BitVec 32 := Scalar.addi c0_i32_398 v248
  let c128_i32_405 : BitVec 32 := 128#32
  let v261 : BitVec 32 := Scalar.muli v249 c128_i32_405
  let v262 : BitVec 32 := v261
  let v263 : Index := Scalar.indexCast v262
  ![0, 1, 0, v263.toNat]
def k0_off133 (k0_t14 : Fin k0_t14_loop.trips) : Fin 5 → Nat :=
  let c1_409 : Index := 1#32
  let c13 : Index := 13#32
  let c0_i32_398 : BitVec 32 := 0#32
  let c0_i32_271 : BitVec 32 := 0#32
  let c1_i32_273 : BitVec 32 := 1#32
  let arg16 : BitVec 32 := Scf.iv c0_i32_271 c1_i32_273 k0_t14
  let c1_i32_397 : BitVec 32 := 1#32
  let v248 : BitVec 32 := Scalar.muli arg16 c1_i32_397
  let v249 : BitVec 32 := Scalar.addi c0_i32_398 v248
  let v268 : Index := Scalar.indexCast v249
  let c0_410 : Index := 0#32
  let c0_411 : Index := 0#32
  ![1, 13, v268.toNat, 0, 0]
def k0_mult51 (k0_t14 : Fin k0_t14_loop.trips) : BitVec 32 :=
  let c0_i32_398 : BitVec 32 := 0#32
  let c0_i32_271 : BitVec 32 := 0#32
  let c1_i32_273 : BitVec 32 := 1#32
  let arg16 : BitVec 32 := Scf.iv c0_i32_271 c1_i32_273 k0_t14
  let c1_i32_397 : BitVec 32 := 1#32
  let v248 : BitVec 32 := Scalar.muli arg16 c1_i32_397
  let v249 : BitVec 32 := Scalar.addi c0_i32_398 v248
  let c128_i32_412 : BitVec 32 := 128#32
  let v272 : BitVec 32 := Scalar.muli v249 c128_i32_412
  v272
def k0_off134 (k0_t14 : Fin k0_t14_loop.trips) : Fin 4 → Nat :=
  let c0_413 : Index := 0#32
  let c2 : Index := 2#32
  let c0_414 : Index := 0#32
  let c0_i32_398 : BitVec 32 := 0#32
  let c0_i32_271 : BitVec 32 := 0#32
  let c1_i32_273 : BitVec 32 := 1#32
  let arg16 : BitVec 32 := Scf.iv c0_i32_271 c1_i32_273 k0_t14
  let c1_i32_397 : BitVec 32 := 1#32
  let v248 : BitVec 32 := Scalar.muli arg16 c1_i32_397
  let v249 : BitVec 32 := Scalar.addi c0_i32_398 v248
  let c128_i32_412 : BitVec 32 := 128#32
  let v272 : BitVec 32 := Scalar.muli v249 c128_i32_412
  let v273 : BitVec 32 := v272
  let v274 : Index := Scalar.indexCast v273
  ![0, 2, 0, v274.toNat]
def k0_off135 (k0_t14 : Fin k0_t14_loop.trips) : Fin 5 → Nat :=
  let c1_415 : Index := 1#32
  let c14 : Index := 14#32
  let c0_i32_398 : BitVec 32 := 0#32
  let c0_i32_271 : BitVec 32 := 0#32
  let c1_i32_273 : BitVec 32 := 1#32
  let arg16 : BitVec 32 := Scf.iv c0_i32_271 c1_i32_273 k0_t14
  let c1_i32_397 : BitVec 32 := 1#32
  let v248 : BitVec 32 := Scalar.muli arg16 c1_i32_397
  let v249 : BitVec 32 := Scalar.addi c0_i32_398 v248
  let v279 : Index := Scalar.indexCast v249
  let c0_416 : Index := 0#32
  let c0_417 : Index := 0#32
  ![1, 14, v279.toNat, 0, 0]
def k0_mult52 (k0_t14 : Fin k0_t14_loop.trips) : BitVec 32 :=
  let c0_i32_398 : BitVec 32 := 0#32
  let c0_i32_271 : BitVec 32 := 0#32
  let c1_i32_273 : BitVec 32 := 1#32
  let arg16 : BitVec 32 := Scf.iv c0_i32_271 c1_i32_273 k0_t14
  let c1_i32_397 : BitVec 32 := 1#32
  let v248 : BitVec 32 := Scalar.muli arg16 c1_i32_397
  let v249 : BitVec 32 := Scalar.addi c0_i32_398 v248
  let c128_i32_418 : BitVec 32 := 128#32
  let v283 : BitVec 32 := Scalar.muli v249 c128_i32_418
  v283
def k0_off136 (k0_t14 : Fin k0_t14_loop.trips) : Fin 4 → Nat :=
  let c0_419 : Index := 0#32
  let c3 : Index := 3#32
  let c0_420 : Index := 0#32
  let c0_i32_398 : BitVec 32 := 0#32
  let c0_i32_271 : BitVec 32 := 0#32
  let c1_i32_273 : BitVec 32 := 1#32
  let arg16 : BitVec 32 := Scf.iv c0_i32_271 c1_i32_273 k0_t14
  let c1_i32_397 : BitVec 32 := 1#32
  let v248 : BitVec 32 := Scalar.muli arg16 c1_i32_397
  let v249 : BitVec 32 := Scalar.addi c0_i32_398 v248
  let c128_i32_418 : BitVec 32 := 128#32
  let v283 : BitVec 32 := Scalar.muli v249 c128_i32_418
  let v284 : BitVec 32 := v283
  let v285 : Index := Scalar.indexCast v284
  ![0, 3, 0, v285.toNat]
def k0_off137 (k0_t14 : Fin k0_t14_loop.trips) : Fin 5 → Nat :=
  let c1_421 : Index := 1#32
  let c15 : Index := 15#32
  let c0_i32_398 : BitVec 32 := 0#32
  let c0_i32_271 : BitVec 32 := 0#32
  let c1_i32_273 : BitVec 32 := 1#32
  let arg16 : BitVec 32 := Scf.iv c0_i32_271 c1_i32_273 k0_t14
  let c1_i32_397 : BitVec 32 := 1#32
  let v248 : BitVec 32 := Scalar.muli arg16 c1_i32_397
  let v249 : BitVec 32 := Scalar.addi c0_i32_398 v248
  let v290 : Index := Scalar.indexCast v249
  let c0_422 : Index := 0#32
  let c0_423 : Index := 0#32
  ![1, 15, v290.toNat, 0, 0]
@[reducible] def k0_t15_loop : Scf.Loop 32 :=
  let c0_i32_291 : BitVec 32 := 0#32
  let c30_i32_292 : BitVec 32 := 30#32
  let v180 : BitVec 32 := Scalar.addi c0_i32_291 c30_i32_292
  let c1_i32_293 : BitVec 32 := 1#32
  ⟨c0_i32_291, v180, c1_i32_293⟩
def k0_mult53 (k0_t15 : Fin k0_t15_loop.trips) : BitVec 32 :=
  let c0_i32_398 : BitVec 32 := 0#32
  let c0_i32_291 : BitVec 32 := 0#32
  let c1_i32_293 : BitVec 32 := 1#32
  let arg16 : BitVec 32 := Scf.iv c0_i32_291 c1_i32_293 k0_t15
  let c1_i32_397 : BitVec 32 := 1#32
  let v248 : BitVec 32 := Scalar.muli arg16 c1_i32_397
  let v249 : BitVec 32 := Scalar.addi c0_i32_398 v248
  let c128_i32_399 : BitVec 32 := 128#32
  let v250 : BitVec 32 := Scalar.muli v249 c128_i32_399
  v250
def k0_off138 (k0_t15 : Fin k0_t15_loop.trips) : Fin 4 → Nat :=
  let c1 : Index := 1#32
  let c0_400 : Index := 0#32
  let c0_401 : Index := 0#32
  let c0_i32_398 : BitVec 32 := 0#32
  let c0_i32_291 : BitVec 32 := 0#32
  let c1_i32_293 : BitVec 32 := 1#32
  let arg16 : BitVec 32 := Scf.iv c0_i32_291 c1_i32_293 k0_t15
  let c1_i32_397 : BitVec 32 := 1#32
  let v248 : BitVec 32 := Scalar.muli arg16 c1_i32_397
  let v249 : BitVec 32 := Scalar.addi c0_i32_398 v248
  let c128_i32_399 : BitVec 32 := 128#32
  let v250 : BitVec 32 := Scalar.muli v249 c128_i32_399
  let v251 : BitVec 32 := v250
  let v252 : Index := Scalar.indexCast v251
  ![1, 0, 0, v252.toNat]
def k0_off139 (k0_t15 : Fin k0_t15_loop.trips) : Fin 5 → Nat :=
  let c1_402 : Index := 1#32
  let c16 : Index := 16#32
  let c0_i32_398 : BitVec 32 := 0#32
  let c0_i32_291 : BitVec 32 := 0#32
  let c1_i32_293 : BitVec 32 := 1#32
  let arg16 : BitVec 32 := Scf.iv c0_i32_291 c1_i32_293 k0_t15
  let c1_i32_397 : BitVec 32 := 1#32
  let v248 : BitVec 32 := Scalar.muli arg16 c1_i32_397
  let v249 : BitVec 32 := Scalar.addi c0_i32_398 v248
  let v257 : Index := Scalar.indexCast v249
  let c0_403 : Index := 0#32
  let c0_404 : Index := 0#32
  ![1, 16, v257.toNat, 0, 0]
def k0_mult54 (k0_t15 : Fin k0_t15_loop.trips) : BitVec 32 :=
  let c0_i32_398 : BitVec 32 := 0#32
  let c0_i32_291 : BitVec 32 := 0#32
  let c1_i32_293 : BitVec 32 := 1#32
  let arg16 : BitVec 32 := Scf.iv c0_i32_291 c1_i32_293 k0_t15
  let c1_i32_397 : BitVec 32 := 1#32
  let v248 : BitVec 32 := Scalar.muli arg16 c1_i32_397
  let v249 : BitVec 32 := Scalar.addi c0_i32_398 v248
  let c128_i32_405 : BitVec 32 := 128#32
  let v261 : BitVec 32 := Scalar.muli v249 c128_i32_405
  v261
def k0_off140 (k0_t15 : Fin k0_t15_loop.trips) : Fin 4 → Nat :=
  let c1_406 : Index := 1#32
  let c1_407 : Index := 1#32
  let c0_408 : Index := 0#32
  let c0_i32_398 : BitVec 32 := 0#32
  let c0_i32_291 : BitVec 32 := 0#32
  let c1_i32_293 : BitVec 32 := 1#32
  let arg16 : BitVec 32 := Scf.iv c0_i32_291 c1_i32_293 k0_t15
  let c1_i32_397 : BitVec 32 := 1#32
  let v248 : BitVec 32 := Scalar.muli arg16 c1_i32_397
  let v249 : BitVec 32 := Scalar.addi c0_i32_398 v248
  let c128_i32_405 : BitVec 32 := 128#32
  let v261 : BitVec 32 := Scalar.muli v249 c128_i32_405
  let v262 : BitVec 32 := v261
  let v263 : Index := Scalar.indexCast v262
  ![1, 1, 0, v263.toNat]
def k0_off141 (k0_t15 : Fin k0_t15_loop.trips) : Fin 5 → Nat :=
  let c1_409 : Index := 1#32
  let c17 : Index := 17#32
  let c0_i32_398 : BitVec 32 := 0#32
  let c0_i32_291 : BitVec 32 := 0#32
  let c1_i32_293 : BitVec 32 := 1#32
  let arg16 : BitVec 32 := Scf.iv c0_i32_291 c1_i32_293 k0_t15
  let c1_i32_397 : BitVec 32 := 1#32
  let v248 : BitVec 32 := Scalar.muli arg16 c1_i32_397
  let v249 : BitVec 32 := Scalar.addi c0_i32_398 v248
  let v268 : Index := Scalar.indexCast v249
  let c0_410 : Index := 0#32
  let c0_411 : Index := 0#32
  ![1, 17, v268.toNat, 0, 0]
def k0_mult55 (k0_t15 : Fin k0_t15_loop.trips) : BitVec 32 :=
  let c0_i32_398 : BitVec 32 := 0#32
  let c0_i32_291 : BitVec 32 := 0#32
  let c1_i32_293 : BitVec 32 := 1#32
  let arg16 : BitVec 32 := Scf.iv c0_i32_291 c1_i32_293 k0_t15
  let c1_i32_397 : BitVec 32 := 1#32
  let v248 : BitVec 32 := Scalar.muli arg16 c1_i32_397
  let v249 : BitVec 32 := Scalar.addi c0_i32_398 v248
  let c128_i32_412 : BitVec 32 := 128#32
  let v272 : BitVec 32 := Scalar.muli v249 c128_i32_412
  v272
def k0_off142 (k0_t15 : Fin k0_t15_loop.trips) : Fin 4 → Nat :=
  let c1_413 : Index := 1#32
  let c2 : Index := 2#32
  let c0_414 : Index := 0#32
  let c0_i32_398 : BitVec 32 := 0#32
  let c0_i32_291 : BitVec 32 := 0#32
  let c1_i32_293 : BitVec 32 := 1#32
  let arg16 : BitVec 32 := Scf.iv c0_i32_291 c1_i32_293 k0_t15
  let c1_i32_397 : BitVec 32 := 1#32
  let v248 : BitVec 32 := Scalar.muli arg16 c1_i32_397
  let v249 : BitVec 32 := Scalar.addi c0_i32_398 v248
  let c128_i32_412 : BitVec 32 := 128#32
  let v272 : BitVec 32 := Scalar.muli v249 c128_i32_412
  let v273 : BitVec 32 := v272
  let v274 : Index := Scalar.indexCast v273
  ![1, 2, 0, v274.toNat]
def k0_off143 (k0_t15 : Fin k0_t15_loop.trips) : Fin 5 → Nat :=
  let c1_415 : Index := 1#32
  let c18 : Index := 18#32
  let c0_i32_398 : BitVec 32 := 0#32
  let c0_i32_291 : BitVec 32 := 0#32
  let c1_i32_293 : BitVec 32 := 1#32
  let arg16 : BitVec 32 := Scf.iv c0_i32_291 c1_i32_293 k0_t15
  let c1_i32_397 : BitVec 32 := 1#32
  let v248 : BitVec 32 := Scalar.muli arg16 c1_i32_397
  let v249 : BitVec 32 := Scalar.addi c0_i32_398 v248
  let v279 : Index := Scalar.indexCast v249
  let c0_416 : Index := 0#32
  let c0_417 : Index := 0#32
  ![1, 18, v279.toNat, 0, 0]
def k0_mult56 (k0_t15 : Fin k0_t15_loop.trips) : BitVec 32 :=
  let c0_i32_398 : BitVec 32 := 0#32
  let c0_i32_291 : BitVec 32 := 0#32
  let c1_i32_293 : BitVec 32 := 1#32
  let arg16 : BitVec 32 := Scf.iv c0_i32_291 c1_i32_293 k0_t15
  let c1_i32_397 : BitVec 32 := 1#32
  let v248 : BitVec 32 := Scalar.muli arg16 c1_i32_397
  let v249 : BitVec 32 := Scalar.addi c0_i32_398 v248
  let c128_i32_418 : BitVec 32 := 128#32
  let v283 : BitVec 32 := Scalar.muli v249 c128_i32_418
  v283
def k0_off144 (k0_t15 : Fin k0_t15_loop.trips) : Fin 4 → Nat :=
  let c1_419 : Index := 1#32
  let c3 : Index := 3#32
  let c0_420 : Index := 0#32
  let c0_i32_398 : BitVec 32 := 0#32
  let c0_i32_291 : BitVec 32 := 0#32
  let c1_i32_293 : BitVec 32 := 1#32
  let arg16 : BitVec 32 := Scf.iv c0_i32_291 c1_i32_293 k0_t15
  let c1_i32_397 : BitVec 32 := 1#32
  let v248 : BitVec 32 := Scalar.muli arg16 c1_i32_397
  let v249 : BitVec 32 := Scalar.addi c0_i32_398 v248
  let c128_i32_418 : BitVec 32 := 128#32
  let v283 : BitVec 32 := Scalar.muli v249 c128_i32_418
  let v284 : BitVec 32 := v283
  let v285 : Index := Scalar.indexCast v284
  ![1, 3, 0, v285.toNat]
def k0_off145 (k0_t15 : Fin k0_t15_loop.trips) : Fin 5 → Nat :=
  let c1_421 : Index := 1#32
  let c19 : Index := 19#32
  let c0_i32_398 : BitVec 32 := 0#32
  let c0_i32_291 : BitVec 32 := 0#32
  let c1_i32_293 : BitVec 32 := 1#32
  let arg16 : BitVec 32 := Scf.iv c0_i32_291 c1_i32_293 k0_t15
  let c1_i32_397 : BitVec 32 := 1#32
  let v248 : BitVec 32 := Scalar.muli arg16 c1_i32_397
  let v249 : BitVec 32 := Scalar.addi c0_i32_398 v248
  let v290 : Index := Scalar.indexCast v249
  let c0_422 : Index := 0#32
  let c0_423 : Index := 0#32
  ![1, 19, v290.toNat, 0, 0]
@[reducible] def k0_t16_loop : Scf.Loop 32 :=
  let c0_i32_311 : BitVec 32 := 0#32
  let c30_i32_312 : BitVec 32 := 30#32
  let v191 : BitVec 32 := Scalar.addi c0_i32_311 c30_i32_312
  let c1_i32_313 : BitVec 32 := 1#32
  ⟨c0_i32_311, v191, c1_i32_313⟩
def k0_mult57 (k0_t16 : Fin k0_t16_loop.trips) : BitVec 32 :=
  let c0_i32_398 : BitVec 32 := 0#32
  let c0_i32_311 : BitVec 32 := 0#32
  let c1_i32_313 : BitVec 32 := 1#32
  let arg16 : BitVec 32 := Scf.iv c0_i32_311 c1_i32_313 k0_t16
  let c1_i32_397 : BitVec 32 := 1#32
  let v248 : BitVec 32 := Scalar.muli arg16 c1_i32_397
  let v249 : BitVec 32 := Scalar.addi c0_i32_398 v248
  let c128_i32_399 : BitVec 32 := 128#32
  let v250 : BitVec 32 := Scalar.muli v249 c128_i32_399
  v250
def k0_off146 (k0_t16 : Fin k0_t16_loop.trips) : Fin 4 → Nat :=
  let c2 : Index := 2#32
  let c0_400 : Index := 0#32
  let c0_401 : Index := 0#32
  let c0_i32_398 : BitVec 32 := 0#32
  let c0_i32_311 : BitVec 32 := 0#32
  let c1_i32_313 : BitVec 32 := 1#32
  let arg16 : BitVec 32 := Scf.iv c0_i32_311 c1_i32_313 k0_t16
  let c1_i32_397 : BitVec 32 := 1#32
  let v248 : BitVec 32 := Scalar.muli arg16 c1_i32_397
  let v249 : BitVec 32 := Scalar.addi c0_i32_398 v248
  let c128_i32_399 : BitVec 32 := 128#32
  let v250 : BitVec 32 := Scalar.muli v249 c128_i32_399
  let v251 : BitVec 32 := v250
  let v252 : Index := Scalar.indexCast v251
  ![2, 0, 0, v252.toNat]
def k0_off147 (k0_t16 : Fin k0_t16_loop.trips) : Fin 5 → Nat :=
  let c1 : Index := 1#32
  let c20 : Index := 20#32
  let c0_i32_398 : BitVec 32 := 0#32
  let c0_i32_311 : BitVec 32 := 0#32
  let c1_i32_313 : BitVec 32 := 1#32
  let arg16 : BitVec 32 := Scf.iv c0_i32_311 c1_i32_313 k0_t16
  let c1_i32_397 : BitVec 32 := 1#32
  let v248 : BitVec 32 := Scalar.muli arg16 c1_i32_397
  let v249 : BitVec 32 := Scalar.addi c0_i32_398 v248
  let v257 : Index := Scalar.indexCast v249
  let c0_402 : Index := 0#32
  let c0_403 : Index := 0#32
  ![1, 20, v257.toNat, 0, 0]
def k0_mult58 (k0_t16 : Fin k0_t16_loop.trips) : BitVec 32 :=
  let c0_i32_398 : BitVec 32 := 0#32
  let c0_i32_311 : BitVec 32 := 0#32
  let c1_i32_313 : BitVec 32 := 1#32
  let arg16 : BitVec 32 := Scf.iv c0_i32_311 c1_i32_313 k0_t16
  let c1_i32_397 : BitVec 32 := 1#32
  let v248 : BitVec 32 := Scalar.muli arg16 c1_i32_397
  let v249 : BitVec 32 := Scalar.addi c0_i32_398 v248
  let c128_i32_404 : BitVec 32 := 128#32
  let v261 : BitVec 32 := Scalar.muli v249 c128_i32_404
  v261
def k0_off148 (k0_t16 : Fin k0_t16_loop.trips) : Fin 4 → Nat :=
  let c2_405 : Index := 2#32
  let c1_406 : Index := 1#32
  let c0_407 : Index := 0#32
  let c0_i32_398 : BitVec 32 := 0#32
  let c0_i32_311 : BitVec 32 := 0#32
  let c1_i32_313 : BitVec 32 := 1#32
  let arg16 : BitVec 32 := Scf.iv c0_i32_311 c1_i32_313 k0_t16
  let c1_i32_397 : BitVec 32 := 1#32
  let v248 : BitVec 32 := Scalar.muli arg16 c1_i32_397
  let v249 : BitVec 32 := Scalar.addi c0_i32_398 v248
  let c128_i32_404 : BitVec 32 := 128#32
  let v261 : BitVec 32 := Scalar.muli v249 c128_i32_404
  let v262 : BitVec 32 := v261
  let v263 : Index := Scalar.indexCast v262
  ![2, 1, 0, v263.toNat]
def k0_off149 (k0_t16 : Fin k0_t16_loop.trips) : Fin 5 → Nat :=
  let c1_408 : Index := 1#32
  let c21 : Index := 21#32
  let c0_i32_398 : BitVec 32 := 0#32
  let c0_i32_311 : BitVec 32 := 0#32
  let c1_i32_313 : BitVec 32 := 1#32
  let arg16 : BitVec 32 := Scf.iv c0_i32_311 c1_i32_313 k0_t16
  let c1_i32_397 : BitVec 32 := 1#32
  let v248 : BitVec 32 := Scalar.muli arg16 c1_i32_397
  let v249 : BitVec 32 := Scalar.addi c0_i32_398 v248
  let v268 : Index := Scalar.indexCast v249
  let c0_409 : Index := 0#32
  let c0_410 : Index := 0#32
  ![1, 21, v268.toNat, 0, 0]
def k0_mult59 (k0_t16 : Fin k0_t16_loop.trips) : BitVec 32 :=
  let c0_i32_398 : BitVec 32 := 0#32
  let c0_i32_311 : BitVec 32 := 0#32
  let c1_i32_313 : BitVec 32 := 1#32
  let arg16 : BitVec 32 := Scf.iv c0_i32_311 c1_i32_313 k0_t16
  let c1_i32_397 : BitVec 32 := 1#32
  let v248 : BitVec 32 := Scalar.muli arg16 c1_i32_397
  let v249 : BitVec 32 := Scalar.addi c0_i32_398 v248
  let c128_i32_411 : BitVec 32 := 128#32
  let v272 : BitVec 32 := Scalar.muli v249 c128_i32_411
  v272
def k0_off150 (k0_t16 : Fin k0_t16_loop.trips) : Fin 4 → Nat :=
  let c2_412 : Index := 2#32
  let c2_413 : Index := 2#32
  let c0_414 : Index := 0#32
  let c0_i32_398 : BitVec 32 := 0#32
  let c0_i32_311 : BitVec 32 := 0#32
  let c1_i32_313 : BitVec 32 := 1#32
  let arg16 : BitVec 32 := Scf.iv c0_i32_311 c1_i32_313 k0_t16
  let c1_i32_397 : BitVec 32 := 1#32
  let v248 : BitVec 32 := Scalar.muli arg16 c1_i32_397
  let v249 : BitVec 32 := Scalar.addi c0_i32_398 v248
  let c128_i32_411 : BitVec 32 := 128#32
  let v272 : BitVec 32 := Scalar.muli v249 c128_i32_411
  let v273 : BitVec 32 := v272
  let v274 : Index := Scalar.indexCast v273
  ![2, 2, 0, v274.toNat]
def k0_off151 (k0_t16 : Fin k0_t16_loop.trips) : Fin 5 → Nat :=
  let c1_415 : Index := 1#32
  let c22 : Index := 22#32
  let c0_i32_398 : BitVec 32 := 0#32
  let c0_i32_311 : BitVec 32 := 0#32
  let c1_i32_313 : BitVec 32 := 1#32
  let arg16 : BitVec 32 := Scf.iv c0_i32_311 c1_i32_313 k0_t16
  let c1_i32_397 : BitVec 32 := 1#32
  let v248 : BitVec 32 := Scalar.muli arg16 c1_i32_397
  let v249 : BitVec 32 := Scalar.addi c0_i32_398 v248
  let v279 : Index := Scalar.indexCast v249
  let c0_416 : Index := 0#32
  let c0_417 : Index := 0#32
  ![1, 22, v279.toNat, 0, 0]
def k0_mult60 (k0_t16 : Fin k0_t16_loop.trips) : BitVec 32 :=
  let c0_i32_398 : BitVec 32 := 0#32
  let c0_i32_311 : BitVec 32 := 0#32
  let c1_i32_313 : BitVec 32 := 1#32
  let arg16 : BitVec 32 := Scf.iv c0_i32_311 c1_i32_313 k0_t16
  let c1_i32_397 : BitVec 32 := 1#32
  let v248 : BitVec 32 := Scalar.muli arg16 c1_i32_397
  let v249 : BitVec 32 := Scalar.addi c0_i32_398 v248
  let c128_i32_418 : BitVec 32 := 128#32
  let v283 : BitVec 32 := Scalar.muli v249 c128_i32_418
  v283
def k0_off152 (k0_t16 : Fin k0_t16_loop.trips) : Fin 4 → Nat :=
  let c2_419 : Index := 2#32
  let c3 : Index := 3#32
  let c0_420 : Index := 0#32
  let c0_i32_398 : BitVec 32 := 0#32
  let c0_i32_311 : BitVec 32 := 0#32
  let c1_i32_313 : BitVec 32 := 1#32
  let arg16 : BitVec 32 := Scf.iv c0_i32_311 c1_i32_313 k0_t16
  let c1_i32_397 : BitVec 32 := 1#32
  let v248 : BitVec 32 := Scalar.muli arg16 c1_i32_397
  let v249 : BitVec 32 := Scalar.addi c0_i32_398 v248
  let c128_i32_418 : BitVec 32 := 128#32
  let v283 : BitVec 32 := Scalar.muli v249 c128_i32_418
  let v284 : BitVec 32 := v283
  let v285 : Index := Scalar.indexCast v284
  ![2, 3, 0, v285.toNat]
def k0_off153 (k0_t16 : Fin k0_t16_loop.trips) : Fin 5 → Nat :=
  let c1_421 : Index := 1#32
  let c23 : Index := 23#32
  let c0_i32_398 : BitVec 32 := 0#32
  let c0_i32_311 : BitVec 32 := 0#32
  let c1_i32_313 : BitVec 32 := 1#32
  let arg16 : BitVec 32 := Scf.iv c0_i32_311 c1_i32_313 k0_t16
  let c1_i32_397 : BitVec 32 := 1#32
  let v248 : BitVec 32 := Scalar.muli arg16 c1_i32_397
  let v249 : BitVec 32 := Scalar.addi c0_i32_398 v248
  let v290 : Index := Scalar.indexCast v249
  let c0_422 : Index := 0#32
  let c0_423 : Index := 0#32
  ![1, 23, v290.toNat, 0, 0]
@[reducible] def k0_t17_loop : Scf.Loop 32 :=
  let c0_i32_331 : BitVec 32 := 0#32
  let c30_i32_332 : BitVec 32 := 30#32
  let v202 : BitVec 32 := Scalar.addi c0_i32_331 c30_i32_332
  let c1_i32_333 : BitVec 32 := 1#32
  ⟨c0_i32_331, v202, c1_i32_333⟩
def k0_mult61 (k0_t17 : Fin k0_t17_loop.trips) : BitVec 32 :=
  let c0_i32_398 : BitVec 32 := 0#32
  let c0_i32_331 : BitVec 32 := 0#32
  let c1_i32_333 : BitVec 32 := 1#32
  let arg16 : BitVec 32 := Scf.iv c0_i32_331 c1_i32_333 k0_t17
  let c1_i32_397 : BitVec 32 := 1#32
  let v248 : BitVec 32 := Scalar.muli arg16 c1_i32_397
  let v249 : BitVec 32 := Scalar.addi c0_i32_398 v248
  let c128_i32_399 : BitVec 32 := 128#32
  let v250 : BitVec 32 := Scalar.muli v249 c128_i32_399
  v250
def k0_off154 (k0_t17 : Fin k0_t17_loop.trips) : Fin 4 → Nat :=
  let c0_400 : Index := 0#32
  let c0_401 : Index := 0#32
  let c0_402 : Index := 0#32
  let c0_i32_398 : BitVec 32 := 0#32
  let c0_i32_331 : BitVec 32 := 0#32
  let c1_i32_333 : BitVec 32 := 1#32
  let arg16 : BitVec 32 := Scf.iv c0_i32_331 c1_i32_333 k0_t17
  let c1_i32_397 : BitVec 32 := 1#32
  let v248 : BitVec 32 := Scalar.muli arg16 c1_i32_397
  let v249 : BitVec 32 := Scalar.addi c0_i32_398 v248
  let c128_i32_399 : BitVec 32 := 128#32
  let v250 : BitVec 32 := Scalar.muli v249 c128_i32_399
  let v251 : BitVec 32 := v250
  let v252 : Index := Scalar.indexCast v251
  ![0, 0, 0, v252.toNat]
def k0_off155 (k0_t17 : Fin k0_t17_loop.trips) : Fin 5 → Nat :=
  let c1 : Index := 1#32
  let c24 : Index := 24#32
  let c0_i32_398 : BitVec 32 := 0#32
  let c0_i32_331 : BitVec 32 := 0#32
  let c1_i32_333 : BitVec 32 := 1#32
  let arg16 : BitVec 32 := Scf.iv c0_i32_331 c1_i32_333 k0_t17
  let c1_i32_397 : BitVec 32 := 1#32
  let v248 : BitVec 32 := Scalar.muli arg16 c1_i32_397
  let v249 : BitVec 32 := Scalar.addi c0_i32_398 v248
  let v257 : Index := Scalar.indexCast v249
  let c0_403 : Index := 0#32
  let c0_404 : Index := 0#32
  ![1, 24, v257.toNat, 0, 0]
def k0_mult62 (k0_t17 : Fin k0_t17_loop.trips) : BitVec 32 :=
  let c0_i32_398 : BitVec 32 := 0#32
  let c0_i32_331 : BitVec 32 := 0#32
  let c1_i32_333 : BitVec 32 := 1#32
  let arg16 : BitVec 32 := Scf.iv c0_i32_331 c1_i32_333 k0_t17
  let c1_i32_397 : BitVec 32 := 1#32
  let v248 : BitVec 32 := Scalar.muli arg16 c1_i32_397
  let v249 : BitVec 32 := Scalar.addi c0_i32_398 v248
  let c128_i32_405 : BitVec 32 := 128#32
  let v261 : BitVec 32 := Scalar.muli v249 c128_i32_405
  v261
def k0_off156 (k0_t17 : Fin k0_t17_loop.trips) : Fin 4 → Nat :=
  let c0_406 : Index := 0#32
  let c1_407 : Index := 1#32
  let c0_408 : Index := 0#32
  let c0_i32_398 : BitVec 32 := 0#32
  let c0_i32_331 : BitVec 32 := 0#32
  let c1_i32_333 : BitVec 32 := 1#32
  let arg16 : BitVec 32 := Scf.iv c0_i32_331 c1_i32_333 k0_t17
  let c1_i32_397 : BitVec 32 := 1#32
  let v248 : BitVec 32 := Scalar.muli arg16 c1_i32_397
  let v249 : BitVec 32 := Scalar.addi c0_i32_398 v248
  let c128_i32_405 : BitVec 32 := 128#32
  let v261 : BitVec 32 := Scalar.muli v249 c128_i32_405
  let v262 : BitVec 32 := v261
  let v263 : Index := Scalar.indexCast v262
  ![0, 1, 0, v263.toNat]
def k0_off157 (k0_t17 : Fin k0_t17_loop.trips) : Fin 5 → Nat :=
  let c1_409 : Index := 1#32
  let c25 : Index := 25#32
  let c0_i32_398 : BitVec 32 := 0#32
  let c0_i32_331 : BitVec 32 := 0#32
  let c1_i32_333 : BitVec 32 := 1#32
  let arg16 : BitVec 32 := Scf.iv c0_i32_331 c1_i32_333 k0_t17
  let c1_i32_397 : BitVec 32 := 1#32
  let v248 : BitVec 32 := Scalar.muli arg16 c1_i32_397
  let v249 : BitVec 32 := Scalar.addi c0_i32_398 v248
  let v268 : Index := Scalar.indexCast v249
  let c0_410 : Index := 0#32
  let c0_411 : Index := 0#32
  ![1, 25, v268.toNat, 0, 0]
def k0_mult63 (k0_t17 : Fin k0_t17_loop.trips) : BitVec 32 :=
  let c0_i32_398 : BitVec 32 := 0#32
  let c0_i32_331 : BitVec 32 := 0#32
  let c1_i32_333 : BitVec 32 := 1#32
  let arg16 : BitVec 32 := Scf.iv c0_i32_331 c1_i32_333 k0_t17
  let c1_i32_397 : BitVec 32 := 1#32
  let v248 : BitVec 32 := Scalar.muli arg16 c1_i32_397
  let v249 : BitVec 32 := Scalar.addi c0_i32_398 v248
  let c128_i32_412 : BitVec 32 := 128#32
  let v272 : BitVec 32 := Scalar.muli v249 c128_i32_412
  v272
def k0_off158 (k0_t17 : Fin k0_t17_loop.trips) : Fin 4 → Nat :=
  let c0_413 : Index := 0#32
  let c2 : Index := 2#32
  let c0_414 : Index := 0#32
  let c0_i32_398 : BitVec 32 := 0#32
  let c0_i32_331 : BitVec 32 := 0#32
  let c1_i32_333 : BitVec 32 := 1#32
  let arg16 : BitVec 32 := Scf.iv c0_i32_331 c1_i32_333 k0_t17
  let c1_i32_397 : BitVec 32 := 1#32
  let v248 : BitVec 32 := Scalar.muli arg16 c1_i32_397
  let v249 : BitVec 32 := Scalar.addi c0_i32_398 v248
  let c128_i32_412 : BitVec 32 := 128#32
  let v272 : BitVec 32 := Scalar.muli v249 c128_i32_412
  let v273 : BitVec 32 := v272
  let v274 : Index := Scalar.indexCast v273
  ![0, 2, 0, v274.toNat]
def k0_off159 (k0_t17 : Fin k0_t17_loop.trips) : Fin 5 → Nat :=
  let c1_415 : Index := 1#32
  let c26 : Index := 26#32
  let c0_i32_398 : BitVec 32 := 0#32
  let c0_i32_331 : BitVec 32 := 0#32
  let c1_i32_333 : BitVec 32 := 1#32
  let arg16 : BitVec 32 := Scf.iv c0_i32_331 c1_i32_333 k0_t17
  let c1_i32_397 : BitVec 32 := 1#32
  let v248 : BitVec 32 := Scalar.muli arg16 c1_i32_397
  let v249 : BitVec 32 := Scalar.addi c0_i32_398 v248
  let v279 : Index := Scalar.indexCast v249
  let c0_416 : Index := 0#32
  let c0_417 : Index := 0#32
  ![1, 26, v279.toNat, 0, 0]
def k0_mult64 (k0_t17 : Fin k0_t17_loop.trips) : BitVec 32 :=
  let c0_i32_398 : BitVec 32 := 0#32
  let c0_i32_331 : BitVec 32 := 0#32
  let c1_i32_333 : BitVec 32 := 1#32
  let arg16 : BitVec 32 := Scf.iv c0_i32_331 c1_i32_333 k0_t17
  let c1_i32_397 : BitVec 32 := 1#32
  let v248 : BitVec 32 := Scalar.muli arg16 c1_i32_397
  let v249 : BitVec 32 := Scalar.addi c0_i32_398 v248
  let c128_i32_418 : BitVec 32 := 128#32
  let v283 : BitVec 32 := Scalar.muli v249 c128_i32_418
  v283
def k0_off160 (k0_t17 : Fin k0_t17_loop.trips) : Fin 4 → Nat :=
  let c0_419 : Index := 0#32
  let c3 : Index := 3#32
  let c0_420 : Index := 0#32
  let c0_i32_398 : BitVec 32 := 0#32
  let c0_i32_331 : BitVec 32 := 0#32
  let c1_i32_333 : BitVec 32 := 1#32
  let arg16 : BitVec 32 := Scf.iv c0_i32_331 c1_i32_333 k0_t17
  let c1_i32_397 : BitVec 32 := 1#32
  let v248 : BitVec 32 := Scalar.muli arg16 c1_i32_397
  let v249 : BitVec 32 := Scalar.addi c0_i32_398 v248
  let c128_i32_418 : BitVec 32 := 128#32
  let v283 : BitVec 32 := Scalar.muli v249 c128_i32_418
  let v284 : BitVec 32 := v283
  let v285 : Index := Scalar.indexCast v284
  ![0, 3, 0, v285.toNat]
def k0_off161 (k0_t17 : Fin k0_t17_loop.trips) : Fin 5 → Nat :=
  let c1_421 : Index := 1#32
  let c27 : Index := 27#32
  let c0_i32_398 : BitVec 32 := 0#32
  let c0_i32_331 : BitVec 32 := 0#32
  let c1_i32_333 : BitVec 32 := 1#32
  let arg16 : BitVec 32 := Scf.iv c0_i32_331 c1_i32_333 k0_t17
  let c1_i32_397 : BitVec 32 := 1#32
  let v248 : BitVec 32 := Scalar.muli arg16 c1_i32_397
  let v249 : BitVec 32 := Scalar.addi c0_i32_398 v248
  let v290 : Index := Scalar.indexCast v249
  let c0_422 : Index := 0#32
  let c0_423 : Index := 0#32
  ![1, 27, v290.toNat, 0, 0]
@[reducible] def k0_t18_loop : Scf.Loop 32 :=
  let c0_i32_343 : BitVec 32 := 0#32
  let c30_i32_344 : BitVec 32 := 30#32
  let v208 : BitVec 32 := Scalar.addi c0_i32_343 c30_i32_344
  let c1_i32_345 : BitVec 32 := 1#32
  ⟨c0_i32_343, v208, c1_i32_345⟩
def k0_mult65 (k0_t18 : Fin k0_t18_loop.trips) : BitVec 32 :=
  let c0_i32_398 : BitVec 32 := 0#32
  let c0_i32_343 : BitVec 32 := 0#32
  let c1_i32_345 : BitVec 32 := 1#32
  let arg16 : BitVec 32 := Scf.iv c0_i32_343 c1_i32_345 k0_t18
  let c1_i32_397 : BitVec 32 := 1#32
  let v248 : BitVec 32 := Scalar.muli arg16 c1_i32_397
  let v249 : BitVec 32 := Scalar.addi c0_i32_398 v248
  let c128_i32_399 : BitVec 32 := 128#32
  let v250 : BitVec 32 := Scalar.muli v249 c128_i32_399
  v250
def k0_off162 (k0_t18 : Fin k0_t18_loop.trips) : Fin 4 → Nat :=
  let c1 : Index := 1#32
  let c0_400 : Index := 0#32
  let c0_401 : Index := 0#32
  let c0_i32_398 : BitVec 32 := 0#32
  let c0_i32_343 : BitVec 32 := 0#32
  let c1_i32_345 : BitVec 32 := 1#32
  let arg16 : BitVec 32 := Scf.iv c0_i32_343 c1_i32_345 k0_t18
  let c1_i32_397 : BitVec 32 := 1#32
  let v248 : BitVec 32 := Scalar.muli arg16 c1_i32_397
  let v249 : BitVec 32 := Scalar.addi c0_i32_398 v248
  let c128_i32_399 : BitVec 32 := 128#32
  let v250 : BitVec 32 := Scalar.muli v249 c128_i32_399
  let v251 : BitVec 32 := v250
  let v252 : Index := Scalar.indexCast v251
  ![1, 0, 0, v252.toNat]
def k0_off163 (k0_t18 : Fin k0_t18_loop.trips) : Fin 5 → Nat :=
  let c1_402 : Index := 1#32
  let c28 : Index := 28#32
  let c0_i32_398 : BitVec 32 := 0#32
  let c0_i32_343 : BitVec 32 := 0#32
  let c1_i32_345 : BitVec 32 := 1#32
  let arg16 : BitVec 32 := Scf.iv c0_i32_343 c1_i32_345 k0_t18
  let c1_i32_397 : BitVec 32 := 1#32
  let v248 : BitVec 32 := Scalar.muli arg16 c1_i32_397
  let v249 : BitVec 32 := Scalar.addi c0_i32_398 v248
  let v257 : Index := Scalar.indexCast v249
  let c0_403 : Index := 0#32
  let c0_404 : Index := 0#32
  ![1, 28, v257.toNat, 0, 0]
def k0_mult66 (k0_t18 : Fin k0_t18_loop.trips) : BitVec 32 :=
  let c0_i32_398 : BitVec 32 := 0#32
  let c0_i32_343 : BitVec 32 := 0#32
  let c1_i32_345 : BitVec 32 := 1#32
  let arg16 : BitVec 32 := Scf.iv c0_i32_343 c1_i32_345 k0_t18
  let c1_i32_397 : BitVec 32 := 1#32
  let v248 : BitVec 32 := Scalar.muli arg16 c1_i32_397
  let v249 : BitVec 32 := Scalar.addi c0_i32_398 v248
  let c128_i32_405 : BitVec 32 := 128#32
  let v261 : BitVec 32 := Scalar.muli v249 c128_i32_405
  v261
def k0_off164 (k0_t18 : Fin k0_t18_loop.trips) : Fin 4 → Nat :=
  let c1_406 : Index := 1#32
  let c1_407 : Index := 1#32
  let c0_408 : Index := 0#32
  let c0_i32_398 : BitVec 32 := 0#32
  let c0_i32_343 : BitVec 32 := 0#32
  let c1_i32_345 : BitVec 32 := 1#32
  let arg16 : BitVec 32 := Scf.iv c0_i32_343 c1_i32_345 k0_t18
  let c1_i32_397 : BitVec 32 := 1#32
  let v248 : BitVec 32 := Scalar.muli arg16 c1_i32_397
  let v249 : BitVec 32 := Scalar.addi c0_i32_398 v248
  let c128_i32_405 : BitVec 32 := 128#32
  let v261 : BitVec 32 := Scalar.muli v249 c128_i32_405
  let v262 : BitVec 32 := v261
  let v263 : Index := Scalar.indexCast v262
  ![1, 1, 0, v263.toNat]
def k0_off165 (k0_t18 : Fin k0_t18_loop.trips) : Fin 5 → Nat :=
  let c1_409 : Index := 1#32
  let c29 : Index := 29#32
  let c0_i32_398 : BitVec 32 := 0#32
  let c0_i32_343 : BitVec 32 := 0#32
  let c1_i32_345 : BitVec 32 := 1#32
  let arg16 : BitVec 32 := Scf.iv c0_i32_343 c1_i32_345 k0_t18
  let c1_i32_397 : BitVec 32 := 1#32
  let v248 : BitVec 32 := Scalar.muli arg16 c1_i32_397
  let v249 : BitVec 32 := Scalar.addi c0_i32_398 v248
  let v268 : Index := Scalar.indexCast v249
  let c0_410 : Index := 0#32
  let c0_411 : Index := 0#32
  ![1, 29, v268.toNat, 0, 0]
def k0_mult67 (k0_t18 : Fin k0_t18_loop.trips) : BitVec 32 :=
  let c0_i32_398 : BitVec 32 := 0#32
  let c0_i32_343 : BitVec 32 := 0#32
  let c1_i32_345 : BitVec 32 := 1#32
  let arg16 : BitVec 32 := Scf.iv c0_i32_343 c1_i32_345 k0_t18
  let c1_i32_397 : BitVec 32 := 1#32
  let v248 : BitVec 32 := Scalar.muli arg16 c1_i32_397
  let v249 : BitVec 32 := Scalar.addi c0_i32_398 v248
  let c128_i32_412 : BitVec 32 := 128#32
  let v272 : BitVec 32 := Scalar.muli v249 c128_i32_412
  v272
def k0_off166 (k0_t18 : Fin k0_t18_loop.trips) : Fin 4 → Nat :=
  let c1_413 : Index := 1#32
  let c2 : Index := 2#32
  let c0_414 : Index := 0#32
  let c0_i32_398 : BitVec 32 := 0#32
  let c0_i32_343 : BitVec 32 := 0#32
  let c1_i32_345 : BitVec 32 := 1#32
  let arg16 : BitVec 32 := Scf.iv c0_i32_343 c1_i32_345 k0_t18
  let c1_i32_397 : BitVec 32 := 1#32
  let v248 : BitVec 32 := Scalar.muli arg16 c1_i32_397
  let v249 : BitVec 32 := Scalar.addi c0_i32_398 v248
  let c128_i32_412 : BitVec 32 := 128#32
  let v272 : BitVec 32 := Scalar.muli v249 c128_i32_412
  let v273 : BitVec 32 := v272
  let v274 : Index := Scalar.indexCast v273
  ![1, 2, 0, v274.toNat]
def k0_off167 (k0_t18 : Fin k0_t18_loop.trips) : Fin 5 → Nat :=
  let c1_415 : Index := 1#32
  let c30 : Index := 30#32
  let c0_i32_398 : BitVec 32 := 0#32
  let c0_i32_343 : BitVec 32 := 0#32
  let c1_i32_345 : BitVec 32 := 1#32
  let arg16 : BitVec 32 := Scf.iv c0_i32_343 c1_i32_345 k0_t18
  let c1_i32_397 : BitVec 32 := 1#32
  let v248 : BitVec 32 := Scalar.muli arg16 c1_i32_397
  let v249 : BitVec 32 := Scalar.addi c0_i32_398 v248
  let v279 : Index := Scalar.indexCast v249
  let c0_416 : Index := 0#32
  let c0_417 : Index := 0#32
  ![1, 30, v279.toNat, 0, 0]
def k0_mult68 (k0_t18 : Fin k0_t18_loop.trips) : BitVec 32 :=
  let c0_i32_398 : BitVec 32 := 0#32
  let c0_i32_343 : BitVec 32 := 0#32
  let c1_i32_345 : BitVec 32 := 1#32
  let arg16 : BitVec 32 := Scf.iv c0_i32_343 c1_i32_345 k0_t18
  let c1_i32_397 : BitVec 32 := 1#32
  let v248 : BitVec 32 := Scalar.muli arg16 c1_i32_397
  let v249 : BitVec 32 := Scalar.addi c0_i32_398 v248
  let c128_i32_418 : BitVec 32 := 128#32
  let v283 : BitVec 32 := Scalar.muli v249 c128_i32_418
  v283
def k0_off168 (k0_t18 : Fin k0_t18_loop.trips) : Fin 4 → Nat :=
  let c1_419 : Index := 1#32
  let c3 : Index := 3#32
  let c0_420 : Index := 0#32
  let c0_i32_398 : BitVec 32 := 0#32
  let c0_i32_343 : BitVec 32 := 0#32
  let c1_i32_345 : BitVec 32 := 1#32
  let arg16 : BitVec 32 := Scf.iv c0_i32_343 c1_i32_345 k0_t18
  let c1_i32_397 : BitVec 32 := 1#32
  let v248 : BitVec 32 := Scalar.muli arg16 c1_i32_397
  let v249 : BitVec 32 := Scalar.addi c0_i32_398 v248
  let c128_i32_418 : BitVec 32 := 128#32
  let v283 : BitVec 32 := Scalar.muli v249 c128_i32_418
  let v284 : BitVec 32 := v283
  let v285 : Index := Scalar.indexCast v284
  ![1, 3, 0, v285.toNat]
def k0_off169 (k0_t18 : Fin k0_t18_loop.trips) : Fin 5 → Nat :=
  let c1_421 : Index := 1#32
  let c31 : Index := 31#32
  let c0_i32_398 : BitVec 32 := 0#32
  let c0_i32_343 : BitVec 32 := 0#32
  let c1_i32_345 : BitVec 32 := 1#32
  let arg16 : BitVec 32 := Scf.iv c0_i32_343 c1_i32_345 k0_t18
  let c1_i32_397 : BitVec 32 := 1#32
  let v248 : BitVec 32 := Scalar.muli arg16 c1_i32_397
  let v249 : BitVec 32 := Scalar.addi c0_i32_398 v248
  let v290 : Index := Scalar.indexCast v249
  let c0_422 : Index := 0#32
  let c0_423 : Index := 0#32
  ![1, 31, v290.toNat, 0, 0]
@[reducible] def k0_t19_loop : Scf.Loop 32 :=
  let c0_i32_355 : BitVec 32 := 0#32
  let c30_i32_356 : BitVec 32 := 30#32
  let v214 : BitVec 32 := Scalar.addi c0_i32_355 c30_i32_356
  let c1_i32_357 : BitVec 32 := 1#32
  ⟨c0_i32_355, v214, c1_i32_357⟩
def k0_mult69 (k0_t19 : Fin k0_t19_loop.trips) : BitVec 32 :=
  let c0_i32_398 : BitVec 32 := 0#32
  let c0_i32_355 : BitVec 32 := 0#32
  let c1_i32_357 : BitVec 32 := 1#32
  let arg16 : BitVec 32 := Scf.iv c0_i32_355 c1_i32_357 k0_t19
  let c1_i32_397 : BitVec 32 := 1#32
  let v248 : BitVec 32 := Scalar.muli arg16 c1_i32_397
  let v249 : BitVec 32 := Scalar.addi c0_i32_398 v248
  let c128_i32_399 : BitVec 32 := 128#32
  let v250 : BitVec 32 := Scalar.muli v249 c128_i32_399
  v250
def k0_off170 (k0_t19 : Fin k0_t19_loop.trips) : Fin 4 → Nat :=
  let c2 : Index := 2#32
  let c0_400 : Index := 0#32
  let c0_401 : Index := 0#32
  let c0_i32_398 : BitVec 32 := 0#32
  let c0_i32_355 : BitVec 32 := 0#32
  let c1_i32_357 : BitVec 32 := 1#32
  let arg16 : BitVec 32 := Scf.iv c0_i32_355 c1_i32_357 k0_t19
  let c1_i32_397 : BitVec 32 := 1#32
  let v248 : BitVec 32 := Scalar.muli arg16 c1_i32_397
  let v249 : BitVec 32 := Scalar.addi c0_i32_398 v248
  let c128_i32_399 : BitVec 32 := 128#32
  let v250 : BitVec 32 := Scalar.muli v249 c128_i32_399
  let v251 : BitVec 32 := v250
  let v252 : Index := Scalar.indexCast v251
  ![2, 0, 0, v252.toNat]
def k0_off171 (k0_t19 : Fin k0_t19_loop.trips) : Fin 5 → Nat :=
  let c1 : Index := 1#32
  let c32 : Index := 32#32
  let c0_i32_398 : BitVec 32 := 0#32
  let c0_i32_355 : BitVec 32 := 0#32
  let c1_i32_357 : BitVec 32 := 1#32
  let arg16 : BitVec 32 := Scf.iv c0_i32_355 c1_i32_357 k0_t19
  let c1_i32_397 : BitVec 32 := 1#32
  let v248 : BitVec 32 := Scalar.muli arg16 c1_i32_397
  let v249 : BitVec 32 := Scalar.addi c0_i32_398 v248
  let v257 : Index := Scalar.indexCast v249
  let c0_402 : Index := 0#32
  let c0_403 : Index := 0#32
  ![1, 32, v257.toNat, 0, 0]
def k0_mult70 (k0_t19 : Fin k0_t19_loop.trips) : BitVec 32 :=
  let c0_i32_398 : BitVec 32 := 0#32
  let c0_i32_355 : BitVec 32 := 0#32
  let c1_i32_357 : BitVec 32 := 1#32
  let arg16 : BitVec 32 := Scf.iv c0_i32_355 c1_i32_357 k0_t19
  let c1_i32_397 : BitVec 32 := 1#32
  let v248 : BitVec 32 := Scalar.muli arg16 c1_i32_397
  let v249 : BitVec 32 := Scalar.addi c0_i32_398 v248
  let c128_i32_404 : BitVec 32 := 128#32
  let v261 : BitVec 32 := Scalar.muli v249 c128_i32_404
  v261
def k0_off172 (k0_t19 : Fin k0_t19_loop.trips) : Fin 4 → Nat :=
  let c2_405 : Index := 2#32
  let c1_406 : Index := 1#32
  let c0_407 : Index := 0#32
  let c0_i32_398 : BitVec 32 := 0#32
  let c0_i32_355 : BitVec 32 := 0#32
  let c1_i32_357 : BitVec 32 := 1#32
  let arg16 : BitVec 32 := Scf.iv c0_i32_355 c1_i32_357 k0_t19
  let c1_i32_397 : BitVec 32 := 1#32
  let v248 : BitVec 32 := Scalar.muli arg16 c1_i32_397
  let v249 : BitVec 32 := Scalar.addi c0_i32_398 v248
  let c128_i32_404 : BitVec 32 := 128#32
  let v261 : BitVec 32 := Scalar.muli v249 c128_i32_404
  let v262 : BitVec 32 := v261
  let v263 : Index := Scalar.indexCast v262
  ![2, 1, 0, v263.toNat]
def k0_off173 (k0_t19 : Fin k0_t19_loop.trips) : Fin 5 → Nat :=
  let c1_408 : Index := 1#32
  let c33 : Index := 33#32
  let c0_i32_398 : BitVec 32 := 0#32
  let c0_i32_355 : BitVec 32 := 0#32
  let c1_i32_357 : BitVec 32 := 1#32
  let arg16 : BitVec 32 := Scf.iv c0_i32_355 c1_i32_357 k0_t19
  let c1_i32_397 : BitVec 32 := 1#32
  let v248 : BitVec 32 := Scalar.muli arg16 c1_i32_397
  let v249 : BitVec 32 := Scalar.addi c0_i32_398 v248
  let v268 : Index := Scalar.indexCast v249
  let c0_409 : Index := 0#32
  let c0_410 : Index := 0#32
  ![1, 33, v268.toNat, 0, 0]
def k0_mult71 (k0_t19 : Fin k0_t19_loop.trips) : BitVec 32 :=
  let c0_i32_398 : BitVec 32 := 0#32
  let c0_i32_355 : BitVec 32 := 0#32
  let c1_i32_357 : BitVec 32 := 1#32
  let arg16 : BitVec 32 := Scf.iv c0_i32_355 c1_i32_357 k0_t19
  let c1_i32_397 : BitVec 32 := 1#32
  let v248 : BitVec 32 := Scalar.muli arg16 c1_i32_397
  let v249 : BitVec 32 := Scalar.addi c0_i32_398 v248
  let c128_i32_411 : BitVec 32 := 128#32
  let v272 : BitVec 32 := Scalar.muli v249 c128_i32_411
  v272
def k0_off174 (k0_t19 : Fin k0_t19_loop.trips) : Fin 4 → Nat :=
  let c2_412 : Index := 2#32
  let c2_413 : Index := 2#32
  let c0_414 : Index := 0#32
  let c0_i32_398 : BitVec 32 := 0#32
  let c0_i32_355 : BitVec 32 := 0#32
  let c1_i32_357 : BitVec 32 := 1#32
  let arg16 : BitVec 32 := Scf.iv c0_i32_355 c1_i32_357 k0_t19
  let c1_i32_397 : BitVec 32 := 1#32
  let v248 : BitVec 32 := Scalar.muli arg16 c1_i32_397
  let v249 : BitVec 32 := Scalar.addi c0_i32_398 v248
  let c128_i32_411 : BitVec 32 := 128#32
  let v272 : BitVec 32 := Scalar.muli v249 c128_i32_411
  let v273 : BitVec 32 := v272
  let v274 : Index := Scalar.indexCast v273
  ![2, 2, 0, v274.toNat]
def k0_off175 (k0_t19 : Fin k0_t19_loop.trips) : Fin 5 → Nat :=
  let c1_415 : Index := 1#32
  let c34 : Index := 34#32
  let c0_i32_398 : BitVec 32 := 0#32
  let c0_i32_355 : BitVec 32 := 0#32
  let c1_i32_357 : BitVec 32 := 1#32
  let arg16 : BitVec 32 := Scf.iv c0_i32_355 c1_i32_357 k0_t19
  let c1_i32_397 : BitVec 32 := 1#32
  let v248 : BitVec 32 := Scalar.muli arg16 c1_i32_397
  let v249 : BitVec 32 := Scalar.addi c0_i32_398 v248
  let v279 : Index := Scalar.indexCast v249
  let c0_416 : Index := 0#32
  let c0_417 : Index := 0#32
  ![1, 34, v279.toNat, 0, 0]
def k0_mult72 (k0_t19 : Fin k0_t19_loop.trips) : BitVec 32 :=
  let c0_i32_398 : BitVec 32 := 0#32
  let c0_i32_355 : BitVec 32 := 0#32
  let c1_i32_357 : BitVec 32 := 1#32
  let arg16 : BitVec 32 := Scf.iv c0_i32_355 c1_i32_357 k0_t19
  let c1_i32_397 : BitVec 32 := 1#32
  let v248 : BitVec 32 := Scalar.muli arg16 c1_i32_397
  let v249 : BitVec 32 := Scalar.addi c0_i32_398 v248
  let c128_i32_418 : BitVec 32 := 128#32
  let v283 : BitVec 32 := Scalar.muli v249 c128_i32_418
  v283
def k0_off176 (k0_t19 : Fin k0_t19_loop.trips) : Fin 4 → Nat :=
  let c2_419 : Index := 2#32
  let c3 : Index := 3#32
  let c0_420 : Index := 0#32
  let c0_i32_398 : BitVec 32 := 0#32
  let c0_i32_355 : BitVec 32 := 0#32
  let c1_i32_357 : BitVec 32 := 1#32
  let arg16 : BitVec 32 := Scf.iv c0_i32_355 c1_i32_357 k0_t19
  let c1_i32_397 : BitVec 32 := 1#32
  let v248 : BitVec 32 := Scalar.muli arg16 c1_i32_397
  let v249 : BitVec 32 := Scalar.addi c0_i32_398 v248
  let c128_i32_418 : BitVec 32 := 128#32
  let v283 : BitVec 32 := Scalar.muli v249 c128_i32_418
  let v284 : BitVec 32 := v283
  let v285 : Index := Scalar.indexCast v284
  ![2, 3, 0, v285.toNat]
def k0_off177 (k0_t19 : Fin k0_t19_loop.trips) : Fin 5 → Nat :=
  let c1_421 : Index := 1#32
  let c35 : Index := 35#32
  let c0_i32_398 : BitVec 32 := 0#32
  let c0_i32_355 : BitVec 32 := 0#32
  let c1_i32_357 : BitVec 32 := 1#32
  let arg16 : BitVec 32 := Scf.iv c0_i32_355 c1_i32_357 k0_t19
  let c1_i32_397 : BitVec 32 := 1#32
  let v248 : BitVec 32 := Scalar.muli arg16 c1_i32_397
  let v249 : BitVec 32 := Scalar.addi c0_i32_398 v248
  let v290 : Index := Scalar.indexCast v249
  let c0_422 : Index := 0#32
  let c0_423 : Index := 0#32
  ![1, 35, v290.toNat, 0, 0]
@[reducible] def k0_t20_loop : Scf.Loop 32 :=
  let c0_i32_359 : BitVec 32 := 0#32
  let c384_i32_360 : BitVec 32 := 384#32
  let v215 : BitVec 32 := Scalar.addi c0_i32_359 c384_i32_360
  let c1_i32_361 : BitVec 32 := 1#32
  ⟨c0_i32_359, v215, c1_i32_361⟩
def k0_cond5 (k0_t20 : Fin k0_t20_loop.trips) : BitVec 1 :=
  let c0_i32_398 : BitVec 32 := 0#32
  let c0_i32_359 : BitVec 32 := 0#32
  let c1_i32_361 : BitVec 32 := 1#32
  let arg16 : BitVec 32 := Scf.iv c0_i32_359 c1_i32_361 k0_t20
  let c1_i32_397 : BitVec 32 := 1#32
  let v248 : BitVec 32 := Scalar.muli arg16 c1_i32_397
  let v249 : BitVec 32 := Scalar.addi c0_i32_398 v248
  let c4_i32_399 : BitVec 32 := 4#32
  let v250 : BitVec 1 := Scalar.cmpi .sge v249 c4_i32_399
  let v251 : BitVec 32 := Scalar.extui v250
  let c0_i32_400 : BitVec 32 := 0#32
  let v252 : BitVec 1 := Scalar.cmpi .ne v251 c0_i32_400
  v252

def k0_off178 (k0_t20 : Fin k0_t20_loop.trips) : Fin 1 → Nat :=
  let c0_i32_398 : BitVec 32 := 0#32
  let c0_i32_359 : BitVec 32 := 0#32
  let c1_i32_361 : BitVec 32 := 1#32
  let arg16 : BitVec 32 := Scf.iv c0_i32_359 c1_i32_361 k0_t20
  let c1_i32_397 : BitVec 32 := 1#32
  let v248 : BitVec 32 := Scalar.muli arg16 c1_i32_397
  let v249 : BitVec 32 := Scalar.addi c0_i32_398 v248
  let c4_i32_433 : BitVec 32 := 4#32
  let v324 : BitVec 32 := Scalar.subi v249 c4_i32_433
  let c4_i32_448 : BitVec 32 := 4#32
  let c0_i32_449 : BitVec 32 := 0#32
  let v353 : BitVec 1 := Scalar.cmpi .eq c4_i32_448 c0_i32_449
  let c1_i32_450 : BitVec 32 := 1#32
  let v354 : BitVec 32 := Scalar.select v353 c1_i32_450 c4_i32_448
  let v355 : BitVec 32 := Scalar.remsi v324 v354
  let c0_i32_452 : BitVec 32 := 0#32
  let v357 : BitVec 1 := Scalar.cmpi .slt v355 c0_i32_452
  let c0_i32_453 : BitVec 32 := 0#32
  let v358 : BitVec 1 := Scalar.cmpi .slt v354 c0_i32_453
  let v359 : BitVec 1 := Scalar.xori v357 v358
  let c0_i32_451 : BitVec 32 := 0#32
  let v356 : BitVec 1 := Scalar.cmpi .ne v355 c0_i32_451
  let v360 : BitVec 1 := Scalar.andi v359 v356
  let v361 : BitVec 32 := Scalar.addi v355 v354
  let v362 : BitVec 32 := Scalar.select v360 v361 v355
  ![v362.toNat]
def k0_off179 (k0_t20 : Fin k0_t20_loop.trips) : Fin 4 → Nat :=
  let c0_i32_398 : BitVec 32 := 0#32
  let c0_i32_359 : BitVec 32 := 0#32
  let c1_i32_361 : BitVec 32 := 1#32
  let arg16 : BitVec 32 := Scf.iv c0_i32_359 c1_i32_361 k0_t20
  let c1_i32_397 : BitVec 32 := 1#32
  let v248 : BitVec 32 := Scalar.muli arg16 c1_i32_397
  let v249 : BitVec 32 := Scalar.addi c0_i32_398 v248
  let c4_i32_433 : BitVec 32 := 4#32
  let v324 : BitVec 32 := Scalar.subi v249 c4_i32_433
  let c0_i32_435 : BitVec 32 := 0#32
  let v326 : BitVec 1 := Scalar.cmpi .sgt v324 c0_i32_435
  let v327 : BitVec 32 := Scalar.extui v326
  let c0_i32_436 : BitVec 32 := 0#32
  let v328 : BitVec 1 := Scalar.cmpi .slt v324 c0_i32_436
  let v329 : BitVec 32 := Scalar.extui v328
  let v330 : BitVec 32 := Scalar.subi v327 v329
  let c64_i32_434 : BitVec 32 := 64#32
  let c0_i32_437 : BitVec 32 := 0#32
  let v331 : BitVec 1 := Scalar.cmpi .sgt c64_i32_434 c0_i32_437
  let v332 : BitVec 32 := Scalar.extui v331
  let c0_i32_438 : BitVec 32 := 0#32
  let v333 : BitVec 1 := Scalar.cmpi .slt c64_i32_434 c0_i32_438
  let v334 : BitVec 32 := Scalar.extui v333
  let v335 : BitVec 32 := Scalar.subi v332 v334
  let v336 : BitVec 1 := Scalar.cmpi .ne v330 v335
  let v337 : BitVec 32 := Scalar.remsi v324 c64_i32_434
  let c0_i32_439 : BitVec 32 := 0#32
  let v338 : BitVec 1 := Scalar.cmpi .ne v337 c0_i32_439
  let v339 : BitVec 1 := Scalar.andi v336 v338
  let v325 : BitVec 32 := Scalar.divsi v324 c64_i32_434
  let c1_i32_440 : BitVec 32 := 1#32
  let v340 : BitVec 32 := Scalar.subi v325 c1_i32_440
  let v341 : BitVec 32 := Scalar.select v339 v340 v325
  let c0_i32_454 : BitVec 32 := 0#32
  let c64_i32_441 : BitVec 32 := 64#32
  let c0_i32_442 : BitVec 32 := 0#32
  let v342 : BitVec 1 := Scalar.cmpi .eq c64_i32_441 c0_i32_442
  let c1_i32_443 : BitVec 32 := 1#32
  let v343 : BitVec 32 := Scalar.select v342 c1_i32_443 c64_i32_441
  let v344 : BitVec 32 := Scalar.remsi v324 v343
  let c0_i32_445 : BitVec 32 := 0#32
  let v346 : BitVec 1 := Scalar.cmpi .slt v344 c0_i32_445
  let c0_i32_446 : BitVec 32 := 0#32
  let v347 : BitVec 1 := Scalar.cmpi .slt v343 c0_i32_446
  let v348 : BitVec 1 := Scalar.xori v346 v347
  let c0_i32_444 : BitVec 32 := 0#32
  let v345 : BitVec 1 := Scalar.cmpi .ne v344 c0_i32_444
  let v349 : BitVec 1 := Scalar.andi v348 v345
  let v350 : BitVec 32 := Scalar.addi v344 v343
  let v351 : BitVec 32 := Scalar.select v349 v350 v344
  let c128_i32_447 : BitVec 32 := 128#32
  let v352 : BitVec 32 := Scalar.muli v351 c128_i32_447
  let c0_i32_455 : BitVec 32 := 0#32
  ![v341.toNat, 0, v352.toNat, 0]
def k0_off180 (k0_t20 : Fin k0_t20_loop.trips) : Fin 1 → Nat :=
  let c0_i32_398 : BitVec 32 := 0#32
  let c0_i32_359 : BitVec 32 := 0#32
  let c1_i32_361 : BitVec 32 := 1#32
  let arg16 : BitVec 32 := Scf.iv c0_i32_359 c1_i32_361 k0_t20
  let c1_i32_397 : BitVec 32 := 1#32
  let v248 : BitVec 32 := Scalar.muli arg16 c1_i32_397
  let v249 : BitVec 32 := Scalar.addi c0_i32_398 v248
  let c0_i32_401 : BitVec 32 := 0#32
  let v254 : BitVec 1 := Scalar.cmpi .sgt v249 c0_i32_401
  let v255 : BitVec 32 := Scalar.extui v254
  let c0_i32_402 : BitVec 32 := 0#32
  let v256 : BitVec 1 := Scalar.cmpi .slt v249 c0_i32_402
  let v257 : BitVec 32 := Scalar.extui v256
  let v258 : BitVec 32 := Scalar.subi v255 v257
  let c64_i32 : BitVec 32 := 64#32
  let c0_i32_403 : BitVec 32 := 0#32
  let v259 : BitVec 1 := Scalar.cmpi .sgt c64_i32 c0_i32_403
  let v260 : BitVec 32 := Scalar.extui v259
  let c0_i32_404 : BitVec 32 := 0#32
  let v261 : BitVec 1 := Scalar.cmpi .slt c64_i32 c0_i32_404
  let v262 : BitVec 32 := Scalar.extui v261
  let v263 : BitVec 32 := Scalar.subi v260 v262
  let v264 : BitVec 1 := Scalar.cmpi .ne v258 v263
  let v265 : BitVec 32 := Scalar.remsi v249 c64_i32
  let c0_i32_405 : BitVec 32 := 0#32
  let v266 : BitVec 1 := Scalar.cmpi .ne v265 c0_i32_405
  let v267 : BitVec 1 := Scalar.andi v264 v266
  let v253 : BitVec 32 := Scalar.divsi v249 c64_i32
  let c1_i32_406 : BitVec 32 := 1#32
  let v268 : BitVec 32 := Scalar.subi v253 c1_i32_406
  let v269 : BitVec 32 := Scalar.select v267 v268 v253
  let v280 : Index := Scalar.indexCast v269
  ![v280.toNat]
def k0_off181 (k0_t20 : Fin k0_t20_loop.trips) : Fin 1 → Nat :=
  let c0_i32_398 : BitVec 32 := 0#32
  let c0_i32_359 : BitVec 32 := 0#32
  let c1_i32_361 : BitVec 32 := 1#32
  let arg16 : BitVec 32 := Scf.iv c0_i32_359 c1_i32_361 k0_t20
  let c1_i32_397 : BitVec 32 := 1#32
  let v248 : BitVec 32 := Scalar.muli arg16 c1_i32_397
  let v249 : BitVec 32 := Scalar.addi c0_i32_398 v248
  let c4_i32_433 : BitVec 32 := 4#32
  let c0_i32_434 : BitVec 32 := 0#32
  let v324 : BitVec 1 := Scalar.cmpi .eq c4_i32_433 c0_i32_434
  let c1_i32_435 : BitVec 32 := 1#32
  let v325 : BitVec 32 := Scalar.select v324 c1_i32_435 c4_i32_433
  let v326 : BitVec 32 := Scalar.remsi v249 v325
  let c0_i32_437 : BitVec 32 := 0#32
  let v328 : BitVec 1 := Scalar.cmpi .slt v326 c0_i32_437
  let c0_i32_438 : BitVec 32 := 0#32
  let v329 : BitVec 1 := Scalar.cmpi .slt v325 c0_i32_438
  let v330 : BitVec 1 := Scalar.xori v328 v329
  let c0_i32_436 : BitVec 32 := 0#32
  let v327 : BitVec 1 := Scalar.cmpi .ne v326 c0_i32_436
  let v331 : BitVec 1 := Scalar.andi v330 v327
  let v332 : BitVec 32 := Scalar.addi v326 v325
  let v333 : BitVec 32 := Scalar.select v331 v332 v326
  ![v333.toNat]
def k0_off182 (k0_t20 : Fin k0_t20_loop.trips) : Fin 5 → Nat :=
  let c0_i32_398 : BitVec 32 := 0#32
  let c0_i32_359 : BitVec 32 := 0#32
  let c1_i32_361 : BitVec 32 := 1#32
  let arg16 : BitVec 32 := Scf.iv c0_i32_359 c1_i32_361 k0_t20
  let c1_i32_397 : BitVec 32 := 1#32
  let v248 : BitVec 32 := Scalar.muli arg16 c1_i32_397
  let v249 : BitVec 32 := Scalar.addi c0_i32_398 v248
  let c4_i32_433 : BitVec 32 := 4#32
  let c0_i32_434 : BitVec 32 := 0#32
  let v324 : BitVec 1 := Scalar.cmpi .eq c4_i32_433 c0_i32_434
  let c1_i32_435 : BitVec 32 := 1#32
  let v325 : BitVec 32 := Scalar.select v324 c1_i32_435 c4_i32_433
  let v326 : BitVec 32 := Scalar.remsi v249 v325
  let c0_i32_437 : BitVec 32 := 0#32
  let v328 : BitVec 1 := Scalar.cmpi .slt v326 c0_i32_437
  let c0_i32_438 : BitVec 32 := 0#32
  let v329 : BitVec 1 := Scalar.cmpi .slt v325 c0_i32_438
  let v330 : BitVec 1 := Scalar.xori v328 v329
  let c0_i32_436 : BitVec 32 := 0#32
  let v327 : BitVec 1 := Scalar.cmpi .ne v326 c0_i32_436
  let v331 : BitVec 1 := Scalar.andi v330 v327
  let v332 : BitVec 32 := Scalar.addi v326 v325
  let v333 : BitVec 32 := Scalar.select v331 v332 v326
  let c0_i32_439 : BitVec 32 := 0#32
  let c0_i32_440 : BitVec 32 := 0#32
  let c0_i32_441 : BitVec 32 := 0#32
  let c0_i32_442 : BitVec 32 := 0#32
  ![v333.toNat, 0, 0, 0, 0]
def k0_off183 (k0_t20 : Fin k0_t20_loop.trips) : Fin 5 → Nat :=
  let c0_i32_398 : BitVec 32 := 0#32
  let c0_i32_359 : BitVec 32 := 0#32
  let c1_i32_361 : BitVec 32 := 1#32
  let arg16 : BitVec 32 := Scf.iv c0_i32_359 c1_i32_361 k0_t20
  let c1_i32_397 : BitVec 32 := 1#32
  let v248 : BitVec 32 := Scalar.muli arg16 c1_i32_397
  let v249 : BitVec 32 := Scalar.addi c0_i32_398 v248
  let c4_i32_433 : BitVec 32 := 4#32
  let c0_i32_434 : BitVec 32 := 0#32
  let v324 : BitVec 1 := Scalar.cmpi .eq c4_i32_433 c0_i32_434
  let c1_i32_435 : BitVec 32 := 1#32
  let v325 : BitVec 32 := Scalar.select v324 c1_i32_435 c4_i32_433
  let v326 : BitVec 32 := Scalar.remsi v249 v325
  let c0_i32_437 : BitVec 32 := 0#32
  let v328 : BitVec 1 := Scalar.cmpi .slt v326 c0_i32_437
  let c0_i32_438 : BitVec 32 := 0#32
  let v329 : BitVec 1 := Scalar.cmpi .slt v325 c0_i32_438
  let v330 : BitVec 1 := Scalar.xori v328 v329
  let c0_i32_436 : BitVec 32 := 0#32
  let v327 : BitVec 1 := Scalar.cmpi .ne v326 c0_i32_436
  let v331 : BitVec 1 := Scalar.andi v330 v327
  let v332 : BitVec 32 := Scalar.addi v326 v325
  let v333 : BitVec 32 := Scalar.select v331 v332 v326
  let c1_i32_446 : BitVec 32 := 1#32
  let c0_i32_447 : BitVec 32 := 0#32
  let c0_i32_448 : BitVec 32 := 0#32
  let c0_i32_449 : BitVec 32 := 0#32
  ![v333.toNat, 1, 0, 0, 0]
@[reducible] def k0_t21_loop : Scf.Loop 32 :=
  let c0_i32_478 : BitVec 32 := 0#32
  let c8_i32_479 : BitVec 32 := 8#32
  let v391 : BitVec 32 := Scalar.addi c0_i32_478 c8_i32_479
  let c1_i32_480 : BitVec 32 := 1#32
  ⟨c0_i32_478, v391, c1_i32_480⟩
def k0_off184 (k0_t20 : Fin k0_t20_loop.trips) (k0_t21 : Fin k0_t21_loop.trips) : Fin 2 → Nat :=
  let c0_i32_398 : BitVec 32 := 0#32
  let c0_i32_359 : BitVec 32 := 0#32
  let c1_i32_361 : BitVec 32 := 1#32
  let arg16 : BitVec 32 := Scf.iv c0_i32_359 c1_i32_361 k0_t20
  let c1_i32_397 : BitVec 32 := 1#32
  let v248 : BitVec 32 := Scalar.muli arg16 c1_i32_397
  let v249 : BitVec 32 := Scalar.addi c0_i32_398 v248
  let c0_i32_454 : BitVec 32 := 0#32
  let v345 : BitVec 1 := Scalar.cmpi .sgt v249 c0_i32_454
  let v346 : BitVec 32 := Scalar.extui v345
  let c0_i32_455 : BitVec 32 := 0#32
  let v347 : BitVec 1 := Scalar.cmpi .slt v249 c0_i32_455
  let v348 : BitVec 32 := Scalar.extui v347
  let v349 : BitVec 32 := Scalar.subi v346 v348
  let c64_i32_453 : BitVec 32 := 64#32
  let c0_i32_456 : BitVec 32 := 0#32
  let v350 : BitVec 1 := Scalar.cmpi .sgt c64_i32_453 c0_i32_456
  let v351 : BitVec 32 := Scalar.extui v350
  let c0_i32_457 : BitVec 32 := 0#32
  let v352 : BitVec 1 := Scalar.cmpi .slt c64_i32_453 c0_i32_457
  let v353 : BitVec 32 := Scalar.extui v352
  let v354 : BitVec 32 := Scalar.subi v351 v353
  let v355 : BitVec 1 := Scalar.cmpi .ne v349 v354
  let v356 : BitVec 32 := Scalar.remsi v249 c64_i32_453
  let c0_i32_458 : BitVec 32 := 0#32
  let v357 : BitVec 1 := Scalar.cmpi .ne v356 c0_i32_458
  let v358 : BitVec 1 := Scalar.andi v355 v357
  let v344 : BitVec 32 := Scalar.divsi v249 c64_i32_453
  let c1_i32_459 : BitVec 32 := 1#32
  let v359 : BitVec 32 := Scalar.subi v344 c1_i32_459
  let v360 : BitVec 32 := Scalar.select v358 v359 v344
  let v504 : Index := Scalar.indexCast v360
  let c64_i32_460 : BitVec 32 := 64#32
  let c0_i32_461 : BitVec 32 := 0#32
  let v361 : BitVec 1 := Scalar.cmpi .eq c64_i32_460 c0_i32_461
  let c1_i32_462 : BitVec 32 := 1#32
  let v362 : BitVec 32 := Scalar.select v361 c1_i32_462 c64_i32_460
  let v363 : BitVec 32 := Scalar.remsi v249 v362
  let c0_i32_464 : BitVec 32 := 0#32
  let v365 : BitVec 1 := Scalar.cmpi .slt v363 c0_i32_464
  let c0_i32_465 : BitVec 32 := 0#32
  let v366 : BitVec 1 := Scalar.cmpi .slt v362 c0_i32_465
  let v367 : BitVec 1 := Scalar.xori v365 v366
  let c0_i32_463 : BitVec 32 := 0#32
  let v364 : BitVec 1 := Scalar.cmpi .ne v363 c0_i32_463
  let v368 : BitVec 1 := Scalar.andi v367 v364
  let v369 : BitVec 32 := Scalar.addi v363 v362
  let v370 : BitVec 32 := Scalar.select v368 v369 v363
  let c8_i32_548 : BitVec 32 := 8#32
  let v502 : BitVec 32 := Scalar.muli v370 c8_i32_548
  let c0_i32_547 : BitVec 32 := 0#32
  let c0_i32_478 : BitVec 32 := 0#32
  let c1_i32_480 : BitVec 32 := 1#32
  let arg17 : BitVec 32 := Scf.iv c0_i32_478 c1_i32_480 k0_t21
  let c1_i32_546 : BitVec 32 := 1#32
  let v500 : BitVec 32 := Scalar.muli arg17 c1_i32_546
  let v501 : BitVec 32 := Scalar.addi c0_i32_547 v500
  let v503 : BitVec 32 := Scalar.addi v502 v501
  let v505 : Index := Scalar.indexCast v503
  ![v504.toNat, v505.toNat]
def k0_off185 (k0_t20 : Fin k0_t20_loop.trips) : Fin 1 → Nat :=
  let c0_i32_398 : BitVec 32 := 0#32
  let c0_i32_359 : BitVec 32 := 0#32
  let c1_i32_361 : BitVec 32 := 1#32
  let arg16 : BitVec 32 := Scf.iv c0_i32_359 c1_i32_361 k0_t20
  let c1_i32_397 : BitVec 32 := 1#32
  let v248 : BitVec 32 := Scalar.muli arg16 c1_i32_397
  let v249 : BitVec 32 := Scalar.addi c0_i32_398 v248
  let c0_i32_454 : BitVec 32 := 0#32
  let v345 : BitVec 1 := Scalar.cmpi .sgt v249 c0_i32_454
  let v346 : BitVec 32 := Scalar.extui v345
  let c0_i32_455 : BitVec 32 := 0#32
  let v347 : BitVec 1 := Scalar.cmpi .slt v249 c0_i32_455
  let v348 : BitVec 32 := Scalar.extui v347
  let v349 : BitVec 32 := Scalar.subi v346 v348
  let c64_i32_453 : BitVec 32 := 64#32
  let c0_i32_456 : BitVec 32 := 0#32
  let v350 : BitVec 1 := Scalar.cmpi .sgt c64_i32_453 c0_i32_456
  let v351 : BitVec 32 := Scalar.extui v350
  let c0_i32_457 : BitVec 32 := 0#32
  let v352 : BitVec 1 := Scalar.cmpi .slt c64_i32_453 c0_i32_457
  let v353 : BitVec 32 := Scalar.extui v352
  let v354 : BitVec 32 := Scalar.subi v351 v353
  let v355 : BitVec 1 := Scalar.cmpi .ne v349 v354
  let v356 : BitVec 32 := Scalar.remsi v249 c64_i32_453
  let c0_i32_458 : BitVec 32 := 0#32
  let v357 : BitVec 1 := Scalar.cmpi .ne v356 c0_i32_458
  let v358 : BitVec 1 := Scalar.andi v355 v357
  let v344 : BitVec 32 := Scalar.divsi v249 c64_i32_453
  let c1_i32_459 : BitVec 32 := 1#32
  let v359 : BitVec 32 := Scalar.subi v344 c1_i32_459
  let v360 : BitVec 32 := Scalar.select v358 v359 v344
  let v507 : Index := Scalar.indexCast v360
  ![v507.toNat]
def k0_off186 (k0_t20 : Fin k0_t20_loop.trips) (k0_t21 : Fin k0_t21_loop.trips) : Fin 5 → Nat :=
  let c0_i32_398 : BitVec 32 := 0#32
  let c0_i32_359 : BitVec 32 := 0#32
  let c1_i32_361 : BitVec 32 := 1#32
  let arg16 : BitVec 32 := Scf.iv c0_i32_359 c1_i32_361 k0_t20
  let c1_i32_397 : BitVec 32 := 1#32
  let v248 : BitVec 32 := Scalar.muli arg16 c1_i32_397
  let v249 : BitVec 32 := Scalar.addi c0_i32_398 v248
  let c4_i32_466 : BitVec 32 := 4#32
  let c0_i32_467 : BitVec 32 := 0#32
  let v371 : BitVec 1 := Scalar.cmpi .eq c4_i32_466 c0_i32_467
  let c1_i32_468 : BitVec 32 := 1#32
  let v372 : BitVec 32 := Scalar.select v371 c1_i32_468 c4_i32_466
  let v373 : BitVec 32 := Scalar.remsi v249 v372
  let c0_i32_470 : BitVec 32 := 0#32
  let v375 : BitVec 1 := Scalar.cmpi .slt v373 c0_i32_470
  let c0_i32_471 : BitVec 32 := 0#32
  let v376 : BitVec 1 := Scalar.cmpi .slt v372 c0_i32_471
  let v377 : BitVec 1 := Scalar.xori v375 v376
  let c0_i32_469 : BitVec 32 := 0#32
  let v374 : BitVec 1 := Scalar.cmpi .ne v373 c0_i32_469
  let v378 : BitVec 1 := Scalar.andi v377 v374
  let v379 : BitVec 32 := Scalar.addi v373 v372
  let v380 : BitVec 32 := Scalar.select v378 v379 v373
  let v557 : Index := Scalar.indexCast v380
  let c0_568 : Index := 0#32
  let c0_i32_547 : BitVec 32 := 0#32
  let c0_i32_478 : BitVec 32 := 0#32
  let c1_i32_480 : BitVec 32 := 1#32
  let arg17 : BitVec 32 := Scf.iv c0_i32_478 c1_i32_480 k0_t21
  let c1_i32_546 : BitVec 32 := 1#32
  let v500 : BitVec 32 := Scalar.muli arg17 c1_i32_546
  let v501 : BitVec 32 := Scalar.addi c0_i32_547 v500
  let v558 : Index := Scalar.indexCast v501
  let c0_569 : Index := 0#32
  let c0_570 : Index := 0#32
  ![v557.toNat, 0, v558.toNat, 0, 0]
def k0_off187 (v506 : BitVec 32) : Fin 5 → Nat :=
  let c0_571 : Index := 0#32
  let c0_572 : Index := 0#32
  let c0_i32_558 : BitVec 32 := 0#32
  let v525 : BitVec 1 := Scalar.cmpi .sgt v506 c0_i32_558
  let v526 : BitVec 32 := Scalar.extui v525
  let c0_i32_559 : BitVec 32 := 0#32
  let v527 : BitVec 1 := Scalar.cmpi .slt v506 c0_i32_559
  let v528 : BitVec 32 := Scalar.extui v527
  let v529 : BitVec 32 := Scalar.subi v526 v528
  let c128_i32_557 : BitVec 32 := 128#32
  let c0_i32_560 : BitVec 32 := 0#32
  let v530 : BitVec 1 := Scalar.cmpi .sgt c128_i32_557 c0_i32_560
  let v531 : BitVec 32 := Scalar.extui v530
  let c0_i32_561 : BitVec 32 := 0#32
  let v532 : BitVec 1 := Scalar.cmpi .slt c128_i32_557 c0_i32_561
  let v533 : BitVec 32 := Scalar.extui v532
  let v534 : BitVec 32 := Scalar.subi v531 v533
  let v535 : BitVec 1 := Scalar.cmpi .ne v529 v534
  let v536 : BitVec 32 := Scalar.remsi v506 c128_i32_557
  let c0_i32_562 : BitVec 32 := 0#32
  let v537 : BitVec 1 := Scalar.cmpi .ne v536 c0_i32_562
  let v538 : BitVec 1 := Scalar.andi v535 v537
  let v524 : BitVec 32 := Scalar.divsi v506 c128_i32_557
  let c1_i32_563 : BitVec 32 := 1#32
  let v539 : BitVec 32 := Scalar.subi v524 c1_i32_563
  let v540 : BitVec 32 := Scalar.select v538 v539 v524
  let v562 : Index := Scalar.indexCast v540
  let c0_573 : Index := 0#32
  let c0_574 : Index := 0#32
  ![0, 0, v562.toNat, 0, 0]
def k0_cond6 (k0_t20 : Fin k0_t20_loop.trips) (v281 : BitVec 32) : BitVec 1 :=
  let c0_i32_398 : BitVec 32 := 0#32
  let c0_i32_359 : BitVec 32 := 0#32
  let c1_i32_361 : BitVec 32 := 1#32
  let arg16 : BitVec 32 := Scf.iv c0_i32_359 c1_i32_361 k0_t20
  let c1_i32_397 : BitVec 32 := 1#32
  let v248 : BitVec 32 := Scalar.muli arg16 c1_i32_397
  let v249 : BitVec 32 := Scalar.addi c0_i32_398 v248
  let c64_i32_407 : BitVec 32 := 64#32
  let c0_i32_408 : BitVec 32 := 0#32
  let v270 : BitVec 1 := Scalar.cmpi .eq c64_i32_407 c0_i32_408
  let c1_i32_409 : BitVec 32 := 1#32
  let v271 : BitVec 32 := Scalar.select v270 c1_i32_409 c64_i32_407
  let v272 : BitVec 32 := Scalar.remsi v249 v271
  let c0_i32_411 : BitVec 32 := 0#32
  let v274 : BitVec 1 := Scalar.cmpi .slt v272 c0_i32_411
  let c0_i32_412 : BitVec 32 := 0#32
  let v275 : BitVec 1 := Scalar.cmpi .slt v271 c0_i32_412
  let v276 : BitVec 1 := Scalar.xori v274 v275
  let c0_i32_410 : BitVec 32 := 0#32
  let v273 : BitVec 1 := Scalar.cmpi .ne v272 c0_i32_410
  let v277 : BitVec 1 := Scalar.andi v276 v273
  let v278 : BitVec 32 := Scalar.addi v272 v271
  let v279 : BitVec 32 := Scalar.select v277 v278 v272
  let c128_i32_413 : BitVec 32 := 128#32
  let v282 : BitVec 32 := Scalar.muli v279 c128_i32_413
  let v283 : BitVec 1 := Scalar.cmpi .sgt v281 v282
  let v284 : BitVec 32 := Scalar.extui v283
  let c0_i32_414 : BitVec 32 := 0#32
  let v285 : BitVec 1 := Scalar.cmpi .ne v284 c0_i32_414
  v285

def k0_mult73 (k0_t21 : Fin k0_t21_loop.trips) : BitVec 32 :=
  let c0_i32_547 : BitVec 32 := 0#32
  let c0_i32_478 : BitVec 32 := 0#32
  let c1_i32_480 : BitVec 32 := 1#32
  let arg17 : BitVec 32 := Scf.iv c0_i32_478 c1_i32_480 k0_t21
  let c1_i32_546 : BitVec 32 := 1#32
  let v500 : BitVec 32 := Scalar.muli arg17 c1_i32_546
  let v501 : BitVec 32 := Scalar.addi c0_i32_547 v500
  let c16_i32_577 : BitVec 32 := 16#32
  let v579 : BitVec 32 := Scalar.muli v501 c16_i32_577
  v579
def k0_off188 (k0_t20 : Fin k0_t20_loop.trips) (k0_t21 : Fin k0_t21_loop.trips) : Fin 5 → Nat :=
  let c0_i32_398 : BitVec 32 := 0#32
  let c0_i32_359 : BitVec 32 := 0#32
  let c1_i32_361 : BitVec 32 := 1#32
  let arg16 : BitVec 32 := Scf.iv c0_i32_359 c1_i32_361 k0_t20
  let c1_i32_397 : BitVec 32 := 1#32
  let v248 : BitVec 32 := Scalar.muli arg16 c1_i32_397
  let v249 : BitVec 32 := Scalar.addi c0_i32_398 v248
  let c4_i32_472 : BitVec 32 := 4#32
  let c0_i32_473 : BitVec 32 := 0#32
  let v381 : BitVec 1 := Scalar.cmpi .eq c4_i32_472 c0_i32_473
  let c1_i32_474 : BitVec 32 := 1#32
  let v382 : BitVec 32 := Scalar.select v381 c1_i32_474 c4_i32_472
  let v383 : BitVec 32 := Scalar.remsi v249 v382
  let c0_i32_476 : BitVec 32 := 0#32
  let v385 : BitVec 1 := Scalar.cmpi .slt v383 c0_i32_476
  let c0_i32_477 : BitVec 32 := 0#32
  let v386 : BitVec 1 := Scalar.cmpi .slt v382 c0_i32_477
  let v387 : BitVec 1 := Scalar.xori v385 v386
  let c0_i32_475 : BitVec 32 := 0#32
  let v384 : BitVec 1 := Scalar.cmpi .ne v383 c0_i32_475
  let v388 : BitVec 1 := Scalar.andi v387 v384
  let v389 : BitVec 32 := Scalar.addi v383 v382
  let v390 : BitVec 32 := Scalar.select v388 v389 v383
  let v581 : Index := Scalar.indexCast v390
  let c0_578 : Index := 0#32
  let c0_579 : Index := 0#32
  let c0_i32_547 : BitVec 32 := 0#32
  let c0_i32_478 : BitVec 32 := 0#32
  let c1_i32_480 : BitVec 32 := 1#32
  let arg17 : BitVec 32 := Scf.iv c0_i32_478 c1_i32_480 k0_t21
  let c1_i32_546 : BitVec 32 := 1#32
  let v500 : BitVec 32 := Scalar.muli arg17 c1_i32_546
  let v501 : BitVec 32 := Scalar.addi c0_i32_547 v500
  let c16_i32_577 : BitVec 32 := 16#32
  let v579 : BitVec 32 := Scalar.muli v501 c16_i32_577
  let v580 : BitVec 32 := v579
  let v582 : Index := Scalar.indexCast v580
  let c0_580 : Index := 0#32
  ![v581.toNat, 0, 0, v582.toNat, 0]
def k0_off189 (v506 : BitVec 32) : Fin 5 → Nat :=
  let c0_581 : Index := 0#32
  let c1 : Index := 1#32
  let c0_i32_558 : BitVec 32 := 0#32
  let v525 : BitVec 1 := Scalar.cmpi .sgt v506 c0_i32_558
  let v526 : BitVec 32 := Scalar.extui v525
  let c0_i32_559 : BitVec 32 := 0#32
  let v527 : BitVec 1 := Scalar.cmpi .slt v506 c0_i32_559
  let v528 : BitVec 32 := Scalar.extui v527
  let v529 : BitVec 32 := Scalar.subi v526 v528
  let c128_i32_557 : BitVec 32 := 128#32
  let c0_i32_560 : BitVec 32 := 0#32
  let v530 : BitVec 1 := Scalar.cmpi .sgt c128_i32_557 c0_i32_560
  let v531 : BitVec 32 := Scalar.extui v530
  let c0_i32_561 : BitVec 32 := 0#32
  let v532 : BitVec 1 := Scalar.cmpi .slt c128_i32_557 c0_i32_561
  let v533 : BitVec 32 := Scalar.extui v532
  let v534 : BitVec 32 := Scalar.subi v531 v533
  let v535 : BitVec 1 := Scalar.cmpi .ne v529 v534
  let v536 : BitVec 32 := Scalar.remsi v506 c128_i32_557
  let c0_i32_562 : BitVec 32 := 0#32
  let v537 : BitVec 1 := Scalar.cmpi .ne v536 c0_i32_562
  let v538 : BitVec 1 := Scalar.andi v535 v537
  let v524 : BitVec 32 := Scalar.divsi v506 c128_i32_557
  let c1_i32_563 : BitVec 32 := 1#32
  let v539 : BitVec 32 := Scalar.subi v524 c1_i32_563
  let v540 : BitVec 32 := Scalar.select v538 v539 v524
  let v586 : Index := Scalar.indexCast v540
  let c0_582 : Index := 0#32
  let c0_583 : Index := 0#32
  ![0, 1, v586.toNat, 0, 0]
def k0_mult74 (k0_t21 : Fin k0_t21_loop.trips) : BitVec 32 :=
  let c0_i32_547 : BitVec 32 := 0#32
  let c0_i32_478 : BitVec 32 := 0#32
  let c1_i32_480 : BitVec 32 := 1#32
  let arg17 : BitVec 32 := Scf.iv c0_i32_478 c1_i32_480 k0_t21
  let c1_i32_546 : BitVec 32 := 1#32
  let v500 : BitVec 32 := Scalar.muli arg17 c1_i32_546
  let v501 : BitVec 32 := Scalar.addi c0_i32_547 v500
  let c16_i32_586 : BitVec 32 := 16#32
  let v603 : BitVec 32 := Scalar.muli v501 c16_i32_586
  v603
def k0_off190 (k0_t20 : Fin k0_t20_loop.trips) (k0_t21 : Fin k0_t21_loop.trips) : Fin 5 → Nat :=
  let c0_i32_398 : BitVec 32 := 0#32
  let c0_i32_359 : BitVec 32 := 0#32
  let c1_i32_361 : BitVec 32 := 1#32
  let arg16 : BitVec 32 := Scf.iv c0_i32_359 c1_i32_361 k0_t20
  let c1_i32_397 : BitVec 32 := 1#32
  let v248 : BitVec 32 := Scalar.muli arg16 c1_i32_397
  let v249 : BitVec 32 := Scalar.addi c0_i32_398 v248
  let c4_i32_472 : BitVec 32 := 4#32
  let c0_i32_473 : BitVec 32 := 0#32
  let v381 : BitVec 1 := Scalar.cmpi .eq c4_i32_472 c0_i32_473
  let c1_i32_474 : BitVec 32 := 1#32
  let v382 : BitVec 32 := Scalar.select v381 c1_i32_474 c4_i32_472
  let v383 : BitVec 32 := Scalar.remsi v249 v382
  let c0_i32_476 : BitVec 32 := 0#32
  let v385 : BitVec 1 := Scalar.cmpi .slt v383 c0_i32_476
  let c0_i32_477 : BitVec 32 := 0#32
  let v386 : BitVec 1 := Scalar.cmpi .slt v382 c0_i32_477
  let v387 : BitVec 1 := Scalar.xori v385 v386
  let c0_i32_475 : BitVec 32 := 0#32
  let v384 : BitVec 1 := Scalar.cmpi .ne v383 c0_i32_475
  let v388 : BitVec 1 := Scalar.andi v387 v384
  let v389 : BitVec 32 := Scalar.addi v383 v382
  let v390 : BitVec 32 := Scalar.select v388 v389 v383
  let v605 : Index := Scalar.indexCast v390
  let c0_587 : Index := 0#32
  let c1_588 : Index := 1#32
  let c0_i32_547 : BitVec 32 := 0#32
  let c0_i32_478 : BitVec 32 := 0#32
  let c1_i32_480 : BitVec 32 := 1#32
  let arg17 : BitVec 32 := Scf.iv c0_i32_478 c1_i32_480 k0_t21
  let c1_i32_546 : BitVec 32 := 1#32
  let v500 : BitVec 32 := Scalar.muli arg17 c1_i32_546
  let v501 : BitVec 32 := Scalar.addi c0_i32_547 v500
  let c16_i32_586 : BitVec 32 := 16#32
  let v603 : BitVec 32 := Scalar.muli v501 c16_i32_586
  let v604 : BitVec 32 := v603
  let v606 : Index := Scalar.indexCast v604
  let c0_589 : Index := 0#32
  ![v605.toNat, 0, 1, v606.toNat, 0]
def k0_off191 (k0_t20 : Fin k0_t20_loop.trips) (k0_t21 : Fin k0_t21_loop.trips) : Fin 5 → Nat :=
  let c0_i32_398 : BitVec 32 := 0#32
  let c0_i32_359 : BitVec 32 := 0#32
  let c1_i32_361 : BitVec 32 := 1#32
  let arg16 : BitVec 32 := Scf.iv c0_i32_359 c1_i32_361 k0_t20
  let c1_i32_397 : BitVec 32 := 1#32
  let v248 : BitVec 32 := Scalar.muli arg16 c1_i32_397
  let v249 : BitVec 32 := Scalar.addi c0_i32_398 v248
  let c4_i32_466 : BitVec 32 := 4#32
  let c0_i32_467 : BitVec 32 := 0#32
  let v371 : BitVec 1 := Scalar.cmpi .eq c4_i32_466 c0_i32_467
  let c1_i32_468 : BitVec 32 := 1#32
  let v372 : BitVec 32 := Scalar.select v371 c1_i32_468 c4_i32_466
  let v373 : BitVec 32 := Scalar.remsi v249 v372
  let c0_i32_470 : BitVec 32 := 0#32
  let v375 : BitVec 1 := Scalar.cmpi .slt v373 c0_i32_470
  let c0_i32_471 : BitVec 32 := 0#32
  let v376 : BitVec 1 := Scalar.cmpi .slt v372 c0_i32_471
  let v377 : BitVec 1 := Scalar.xori v375 v376
  let c0_i32_469 : BitVec 32 := 0#32
  let v374 : BitVec 1 := Scalar.cmpi .ne v373 c0_i32_469
  let v378 : BitVec 1 := Scalar.andi v377 v374
  let v379 : BitVec 32 := Scalar.addi v373 v372
  let v380 : BitVec 32 := Scalar.select v378 v379 v373
  let v610 : Index := Scalar.indexCast v380
  let c0_590 : Index := 0#32
  let c0_i32_547 : BitVec 32 := 0#32
  let c0_i32_478 : BitVec 32 := 0#32
  let c1_i32_480 : BitVec 32 := 1#32
  let arg17 : BitVec 32 := Scf.iv c0_i32_478 c1_i32_480 k0_t21
  let c1_i32_546 : BitVec 32 := 1#32
  let v500 : BitVec 32 := Scalar.muli arg17 c1_i32_546
  let v501 : BitVec 32 := Scalar.addi c0_i32_547 v500
  let v611 : Index := Scalar.indexCast v501
  let c32 : Index := 32#32
  let c0_591 : Index := 0#32
  ![v610.toNat, 0, v611.toNat, 32, 0]
def k0_off192 (v506 : BitVec 32) : Fin 5 → Nat :=
  let c0_592 : Index := 0#32
  let c2 : Index := 2#32
  let c0_i32_558 : BitVec 32 := 0#32
  let v525 : BitVec 1 := Scalar.cmpi .sgt v506 c0_i32_558
  let v526 : BitVec 32 := Scalar.extui v525
  let c0_i32_559 : BitVec 32 := 0#32
  let v527 : BitVec 1 := Scalar.cmpi .slt v506 c0_i32_559
  let v528 : BitVec 32 := Scalar.extui v527
  let v529 : BitVec 32 := Scalar.subi v526 v528
  let c128_i32_557 : BitVec 32 := 128#32
  let c0_i32_560 : BitVec 32 := 0#32
  let v530 : BitVec 1 := Scalar.cmpi .sgt c128_i32_557 c0_i32_560
  let v531 : BitVec 32 := Scalar.extui v530
  let c0_i32_561 : BitVec 32 := 0#32
  let v532 : BitVec 1 := Scalar.cmpi .slt c128_i32_557 c0_i32_561
  let v533 : BitVec 32 := Scalar.extui v532
  let v534 : BitVec 32 := Scalar.subi v531 v533
  let v535 : BitVec 1 := Scalar.cmpi .ne v529 v534
  let v536 : BitVec 32 := Scalar.remsi v506 c128_i32_557
  let c0_i32_562 : BitVec 32 := 0#32
  let v537 : BitVec 1 := Scalar.cmpi .ne v536 c0_i32_562
  let v538 : BitVec 1 := Scalar.andi v535 v537
  let v524 : BitVec 32 := Scalar.divsi v506 c128_i32_557
  let c1_i32_563 : BitVec 32 := 1#32
  let v539 : BitVec 32 := Scalar.subi v524 c1_i32_563
  let v540 : BitVec 32 := Scalar.select v538 v539 v524
  let v615 : Index := Scalar.indexCast v540
  let c0_593 : Index := 0#32
  let c0_594 : Index := 0#32
  ![0, 2, v615.toNat, 0, 0]
def k0_mult75 (k0_t21 : Fin k0_t21_loop.trips) : BitVec 32 :=
  let c0_i32_547 : BitVec 32 := 0#32
  let c0_i32_478 : BitVec 32 := 0#32
  let c1_i32_480 : BitVec 32 := 1#32
  let arg17 : BitVec 32 := Scf.iv c0_i32_478 c1_i32_480 k0_t21
  let c1_i32_546 : BitVec 32 := 1#32
  let v500 : BitVec 32 := Scalar.muli arg17 c1_i32_546
  let v501 : BitVec 32 := Scalar.addi c0_i32_547 v500
  let c16_i32_597 : BitVec 32 := 16#32
  let v632 : BitVec 32 := Scalar.muli v501 c16_i32_597
  v632
def k0_off193 (k0_t20 : Fin k0_t20_loop.trips) (k0_t21 : Fin k0_t21_loop.trips) : Fin 5 → Nat :=
  let c0_i32_398 : BitVec 32 := 0#32
  let c0_i32_359 : BitVec 32 := 0#32
  let c1_i32_361 : BitVec 32 := 1#32
  let arg16 : BitVec 32 := Scf.iv c0_i32_359 c1_i32_361 k0_t20
  let c1_i32_397 : BitVec 32 := 1#32
  let v248 : BitVec 32 := Scalar.muli arg16 c1_i32_397
  let v249 : BitVec 32 := Scalar.addi c0_i32_398 v248
  let c4_i32_472 : BitVec 32 := 4#32
  let c0_i32_473 : BitVec 32 := 0#32
  let v381 : BitVec 1 := Scalar.cmpi .eq c4_i32_472 c0_i32_473
  let c1_i32_474 : BitVec 32 := 1#32
  let v382 : BitVec 32 := Scalar.select v381 c1_i32_474 c4_i32_472
  let v383 : BitVec 32 := Scalar.remsi v249 v382
  let c0_i32_476 : BitVec 32 := 0#32
  let v385 : BitVec 1 := Scalar.cmpi .slt v383 c0_i32_476
  let c0_i32_477 : BitVec 32 := 0#32
  let v386 : BitVec 1 := Scalar.cmpi .slt v382 c0_i32_477
  let v387 : BitVec 1 := Scalar.xori v385 v386
  let c0_i32_475 : BitVec 32 := 0#32
  let v384 : BitVec 1 := Scalar.cmpi .ne v383 c0_i32_475
  let v388 : BitVec 1 := Scalar.andi v387 v384
  let v389 : BitVec 32 := Scalar.addi v383 v382
  let v390 : BitVec 32 := Scalar.select v388 v389 v383
  let v634 : Index := Scalar.indexCast v390
  let c0_598 : Index := 0#32
  let c2_599 : Index := 2#32
  let c0_i32_547 : BitVec 32 := 0#32
  let c0_i32_478 : BitVec 32 := 0#32
  let c1_i32_480 : BitVec 32 := 1#32
  let arg17 : BitVec 32 := Scf.iv c0_i32_478 c1_i32_480 k0_t21
  let c1_i32_546 : BitVec 32 := 1#32
  let v500 : BitVec 32 := Scalar.muli arg17 c1_i32_546
  let v501 : BitVec 32 := Scalar.addi c0_i32_547 v500
  let c16_i32_597 : BitVec 32 := 16#32
  let v632 : BitVec 32 := Scalar.muli v501 c16_i32_597
  let v633 : BitVec 32 := v632
  let v635 : Index := Scalar.indexCast v633
  let c0_600 : Index := 0#32
  ![v634.toNat, 0, 2, v635.toNat, 0]
def k0_off194 (v506 : BitVec 32) : Fin 5 → Nat :=
  let c0_601 : Index := 0#32
  let c3 : Index := 3#32
  let c0_i32_558 : BitVec 32 := 0#32
  let v525 : BitVec 1 := Scalar.cmpi .sgt v506 c0_i32_558
  let v526 : BitVec 32 := Scalar.extui v525
  let c0_i32_559 : BitVec 32 := 0#32
  let v527 : BitVec 1 := Scalar.cmpi .slt v506 c0_i32_559
  let v528 : BitVec 32 := Scalar.extui v527
  let v529 : BitVec 32 := Scalar.subi v526 v528
  let c128_i32_557 : BitVec 32 := 128#32
  let c0_i32_560 : BitVec 32 := 0#32
  let v530 : BitVec 1 := Scalar.cmpi .sgt c128_i32_557 c0_i32_560
  let v531 : BitVec 32 := Scalar.extui v530
  let c0_i32_561 : BitVec 32 := 0#32
  let v532 : BitVec 1 := Scalar.cmpi .slt c128_i32_557 c0_i32_561
  let v533 : BitVec 32 := Scalar.extui v532
  let v534 : BitVec 32 := Scalar.subi v531 v533
  let v535 : BitVec 1 := Scalar.cmpi .ne v529 v534
  let v536 : BitVec 32 := Scalar.remsi v506 c128_i32_557
  let c0_i32_562 : BitVec 32 := 0#32
  let v537 : BitVec 1 := Scalar.cmpi .ne v536 c0_i32_562
  let v538 : BitVec 1 := Scalar.andi v535 v537
  let v524 : BitVec 32 := Scalar.divsi v506 c128_i32_557
  let c1_i32_563 : BitVec 32 := 1#32
  let v539 : BitVec 32 := Scalar.subi v524 c1_i32_563
  let v540 : BitVec 32 := Scalar.select v538 v539 v524
  let v639 : Index := Scalar.indexCast v540
  let c0_602 : Index := 0#32
  let c0_603 : Index := 0#32
  ![0, 3, v639.toNat, 0, 0]
def k0_mult76 (k0_t21 : Fin k0_t21_loop.trips) : BitVec 32 :=
  let c0_i32_547 : BitVec 32 := 0#32
  let c0_i32_478 : BitVec 32 := 0#32
  let c1_i32_480 : BitVec 32 := 1#32
  let arg17 : BitVec 32 := Scf.iv c0_i32_478 c1_i32_480 k0_t21
  let c1_i32_546 : BitVec 32 := 1#32
  let v500 : BitVec 32 := Scalar.muli arg17 c1_i32_546
  let v501 : BitVec 32 := Scalar.addi c0_i32_547 v500
  let c16_i32_606 : BitVec 32 := 16#32
  let v656 : BitVec 32 := Scalar.muli v501 c16_i32_606
  v656
def k0_off195 (k0_t20 : Fin k0_t20_loop.trips) (k0_t21 : Fin k0_t21_loop.trips) : Fin 5 → Nat :=
  let c0_i32_398 : BitVec 32 := 0#32
  let c0_i32_359 : BitVec 32 := 0#32
  let c1_i32_361 : BitVec 32 := 1#32
  let arg16 : BitVec 32 := Scf.iv c0_i32_359 c1_i32_361 k0_t20
  let c1_i32_397 : BitVec 32 := 1#32
  let v248 : BitVec 32 := Scalar.muli arg16 c1_i32_397
  let v249 : BitVec 32 := Scalar.addi c0_i32_398 v248
  let c4_i32_472 : BitVec 32 := 4#32
  let c0_i32_473 : BitVec 32 := 0#32
  let v381 : BitVec 1 := Scalar.cmpi .eq c4_i32_472 c0_i32_473
  let c1_i32_474 : BitVec 32 := 1#32
  let v382 : BitVec 32 := Scalar.select v381 c1_i32_474 c4_i32_472
  let v383 : BitVec 32 := Scalar.remsi v249 v382
  let c0_i32_476 : BitVec 32 := 0#32
  let v385 : BitVec 1 := Scalar.cmpi .slt v383 c0_i32_476
  let c0_i32_477 : BitVec 32 := 0#32
  let v386 : BitVec 1 := Scalar.cmpi .slt v382 c0_i32_477
  let v387 : BitVec 1 := Scalar.xori v385 v386
  let c0_i32_475 : BitVec 32 := 0#32
  let v384 : BitVec 1 := Scalar.cmpi .ne v383 c0_i32_475
  let v388 : BitVec 1 := Scalar.andi v387 v384
  let v389 : BitVec 32 := Scalar.addi v383 v382
  let v390 : BitVec 32 := Scalar.select v388 v389 v383
  let v658 : Index := Scalar.indexCast v390
  let c0_607 : Index := 0#32
  let c3_608 : Index := 3#32
  let c0_i32_547 : BitVec 32 := 0#32
  let c0_i32_478 : BitVec 32 := 0#32
  let c1_i32_480 : BitVec 32 := 1#32
  let arg17 : BitVec 32 := Scf.iv c0_i32_478 c1_i32_480 k0_t21
  let c1_i32_546 : BitVec 32 := 1#32
  let v500 : BitVec 32 := Scalar.muli arg17 c1_i32_546
  let v501 : BitVec 32 := Scalar.addi c0_i32_547 v500
  let c16_i32_606 : BitVec 32 := 16#32
  let v656 : BitVec 32 := Scalar.muli v501 c16_i32_606
  let v657 : BitVec 32 := v656
  let v659 : Index := Scalar.indexCast v657
  let c0_609 : Index := 0#32
  ![v658.toNat, 0, 3, v659.toNat, 0]
def k0_off196 (k0_t20 : Fin k0_t20_loop.trips) (k0_t21 : Fin k0_t21_loop.trips) : Fin 5 → Nat :=
  let c0_i32_398 : BitVec 32 := 0#32
  let c0_i32_359 : BitVec 32 := 0#32
  let c1_i32_361 : BitVec 32 := 1#32
  let arg16 : BitVec 32 := Scf.iv c0_i32_359 c1_i32_361 k0_t20
  let c1_i32_397 : BitVec 32 := 1#32
  let v248 : BitVec 32 := Scalar.muli arg16 c1_i32_397
  let v249 : BitVec 32 := Scalar.addi c0_i32_398 v248
  let c4_i32_466 : BitVec 32 := 4#32
  let c0_i32_467 : BitVec 32 := 0#32
  let v371 : BitVec 1 := Scalar.cmpi .eq c4_i32_466 c0_i32_467
  let c1_i32_468 : BitVec 32 := 1#32
  let v372 : BitVec 32 := Scalar.select v371 c1_i32_468 c4_i32_466
  let v373 : BitVec 32 := Scalar.remsi v249 v372
  let c0_i32_470 : BitVec 32 := 0#32
  let v375 : BitVec 1 := Scalar.cmpi .slt v373 c0_i32_470
  let c0_i32_471 : BitVec 32 := 0#32
  let v376 : BitVec 1 := Scalar.cmpi .slt v372 c0_i32_471
  let v377 : BitVec 1 := Scalar.xori v375 v376
  let c0_i32_469 : BitVec 32 := 0#32
  let v374 : BitVec 1 := Scalar.cmpi .ne v373 c0_i32_469
  let v378 : BitVec 1 := Scalar.andi v377 v374
  let v379 : BitVec 32 := Scalar.addi v373 v372
  let v380 : BitVec 32 := Scalar.select v378 v379 v373
  let v663 : Index := Scalar.indexCast v380
  let c0_610 : Index := 0#32
  let c0_i32_547 : BitVec 32 := 0#32
  let c0_i32_478 : BitVec 32 := 0#32
  let c1_i32_480 : BitVec 32 := 1#32
  let arg17 : BitVec 32 := Scf.iv c0_i32_478 c1_i32_480 k0_t21
  let c1_i32_546 : BitVec 32 := 1#32
  let v500 : BitVec 32 := Scalar.muli arg17 c1_i32_546
  let v501 : BitVec 32 := Scalar.addi c0_i32_547 v500
  let v664 : Index := Scalar.indexCast v501
  let c64 : Index := 64#32
  let c0_611 : Index := 0#32
  ![v663.toNat, 0, v664.toNat, 64, 0]
def k0_off197 (v506 : BitVec 32) : Fin 5 → Nat :=
  let c0_612 : Index := 0#32
  let c4 : Index := 4#32
  let c0_i32_558 : BitVec 32 := 0#32
  let v525 : BitVec 1 := Scalar.cmpi .sgt v506 c0_i32_558
  let v526 : BitVec 32 := Scalar.extui v525
  let c0_i32_559 : BitVec 32 := 0#32
  let v527 : BitVec 1 := Scalar.cmpi .slt v506 c0_i32_559
  let v528 : BitVec 32 := Scalar.extui v527
  let v529 : BitVec 32 := Scalar.subi v526 v528
  let c128_i32_557 : BitVec 32 := 128#32
  let c0_i32_560 : BitVec 32 := 0#32
  let v530 : BitVec 1 := Scalar.cmpi .sgt c128_i32_557 c0_i32_560
  let v531 : BitVec 32 := Scalar.extui v530
  let c0_i32_561 : BitVec 32 := 0#32
  let v532 : BitVec 1 := Scalar.cmpi .slt c128_i32_557 c0_i32_561
  let v533 : BitVec 32 := Scalar.extui v532
  let v534 : BitVec 32 := Scalar.subi v531 v533
  let v535 : BitVec 1 := Scalar.cmpi .ne v529 v534
  let v536 : BitVec 32 := Scalar.remsi v506 c128_i32_557
  let c0_i32_562 : BitVec 32 := 0#32
  let v537 : BitVec 1 := Scalar.cmpi .ne v536 c0_i32_562
  let v538 : BitVec 1 := Scalar.andi v535 v537
  let v524 : BitVec 32 := Scalar.divsi v506 c128_i32_557
  let c1_i32_563 : BitVec 32 := 1#32
  let v539 : BitVec 32 := Scalar.subi v524 c1_i32_563
  let v540 : BitVec 32 := Scalar.select v538 v539 v524
  let v668 : Index := Scalar.indexCast v540
  let c0_613 : Index := 0#32
  let c0_614 : Index := 0#32
  ![0, 4, v668.toNat, 0, 0]
def k0_mult77 (k0_t21 : Fin k0_t21_loop.trips) : BitVec 32 :=
  let c0_i32_547 : BitVec 32 := 0#32
  let c0_i32_478 : BitVec 32 := 0#32
  let c1_i32_480 : BitVec 32 := 1#32
  let arg17 : BitVec 32 := Scf.iv c0_i32_478 c1_i32_480 k0_t21
  let c1_i32_546 : BitVec 32 := 1#32
  let v500 : BitVec 32 := Scalar.muli arg17 c1_i32_546
  let v501 : BitVec 32 := Scalar.addi c0_i32_547 v500
  let c16_i32_617 : BitVec 32 := 16#32
  let v685 : BitVec 32 := Scalar.muli v501 c16_i32_617
  v685
def k0_off198 (k0_t20 : Fin k0_t20_loop.trips) (k0_t21 : Fin k0_t21_loop.trips) : Fin 5 → Nat :=
  let c0_i32_398 : BitVec 32 := 0#32
  let c0_i32_359 : BitVec 32 := 0#32
  let c1_i32_361 : BitVec 32 := 1#32
  let arg16 : BitVec 32 := Scf.iv c0_i32_359 c1_i32_361 k0_t20
  let c1_i32_397 : BitVec 32 := 1#32
  let v248 : BitVec 32 := Scalar.muli arg16 c1_i32_397
  let v249 : BitVec 32 := Scalar.addi c0_i32_398 v248
  let c4_i32_472 : BitVec 32 := 4#32
  let c0_i32_473 : BitVec 32 := 0#32
  let v381 : BitVec 1 := Scalar.cmpi .eq c4_i32_472 c0_i32_473
  let c1_i32_474 : BitVec 32 := 1#32
  let v382 : BitVec 32 := Scalar.select v381 c1_i32_474 c4_i32_472
  let v383 : BitVec 32 := Scalar.remsi v249 v382
  let c0_i32_476 : BitVec 32 := 0#32
  let v385 : BitVec 1 := Scalar.cmpi .slt v383 c0_i32_476
  let c0_i32_477 : BitVec 32 := 0#32
  let v386 : BitVec 1 := Scalar.cmpi .slt v382 c0_i32_477
  let v387 : BitVec 1 := Scalar.xori v385 v386
  let c0_i32_475 : BitVec 32 := 0#32
  let v384 : BitVec 1 := Scalar.cmpi .ne v383 c0_i32_475
  let v388 : BitVec 1 := Scalar.andi v387 v384
  let v389 : BitVec 32 := Scalar.addi v383 v382
  let v390 : BitVec 32 := Scalar.select v388 v389 v383
  let v687 : Index := Scalar.indexCast v390
  let c0_618 : Index := 0#32
  let c4_619 : Index := 4#32
  let c0_i32_547 : BitVec 32 := 0#32
  let c0_i32_478 : BitVec 32 := 0#32
  let c1_i32_480 : BitVec 32 := 1#32
  let arg17 : BitVec 32 := Scf.iv c0_i32_478 c1_i32_480 k0_t21
  let c1_i32_546 : BitVec 32 := 1#32
  let v500 : BitVec 32 := Scalar.muli arg17 c1_i32_546
  let v501 : BitVec 32 := Scalar.addi c0_i32_547 v500
  let c16_i32_617 : BitVec 32 := 16#32
  let v685 : BitVec 32 := Scalar.muli v501 c16_i32_617
  let v686 : BitVec 32 := v685
  let v688 : Index := Scalar.indexCast v686
  let c0_620 : Index := 0#32
  ![v687.toNat, 0, 4, v688.toNat, 0]
def k0_off199 (v506 : BitVec 32) : Fin 5 → Nat :=
  let c0_621 : Index := 0#32
  let c5 : Index := 5#32
  let c0_i32_558 : BitVec 32 := 0#32
  let v525 : BitVec 1 := Scalar.cmpi .sgt v506 c0_i32_558
  let v526 : BitVec 32 := Scalar.extui v525
  let c0_i32_559 : BitVec 32 := 0#32
  let v527 : BitVec 1 := Scalar.cmpi .slt v506 c0_i32_559
  let v528 : BitVec 32 := Scalar.extui v527
  let v529 : BitVec 32 := Scalar.subi v526 v528
  let c128_i32_557 : BitVec 32 := 128#32
  let c0_i32_560 : BitVec 32 := 0#32
  let v530 : BitVec 1 := Scalar.cmpi .sgt c128_i32_557 c0_i32_560
  let v531 : BitVec 32 := Scalar.extui v530
  let c0_i32_561 : BitVec 32 := 0#32
  let v532 : BitVec 1 := Scalar.cmpi .slt c128_i32_557 c0_i32_561
  let v533 : BitVec 32 := Scalar.extui v532
  let v534 : BitVec 32 := Scalar.subi v531 v533
  let v535 : BitVec 1 := Scalar.cmpi .ne v529 v534
  let v536 : BitVec 32 := Scalar.remsi v506 c128_i32_557
  let c0_i32_562 : BitVec 32 := 0#32
  let v537 : BitVec 1 := Scalar.cmpi .ne v536 c0_i32_562
  let v538 : BitVec 1 := Scalar.andi v535 v537
  let v524 : BitVec 32 := Scalar.divsi v506 c128_i32_557
  let c1_i32_563 : BitVec 32 := 1#32
  let v539 : BitVec 32 := Scalar.subi v524 c1_i32_563
  let v540 : BitVec 32 := Scalar.select v538 v539 v524
  let v692 : Index := Scalar.indexCast v540
  let c0_622 : Index := 0#32
  let c0_623 : Index := 0#32
  ![0, 5, v692.toNat, 0, 0]
def k0_mult78 (k0_t21 : Fin k0_t21_loop.trips) : BitVec 32 :=
  let c0_i32_547 : BitVec 32 := 0#32
  let c0_i32_478 : BitVec 32 := 0#32
  let c1_i32_480 : BitVec 32 := 1#32
  let arg17 : BitVec 32 := Scf.iv c0_i32_478 c1_i32_480 k0_t21
  let c1_i32_546 : BitVec 32 := 1#32
  let v500 : BitVec 32 := Scalar.muli arg17 c1_i32_546
  let v501 : BitVec 32 := Scalar.addi c0_i32_547 v500
  let c16_i32_626 : BitVec 32 := 16#32
  let v709 : BitVec 32 := Scalar.muli v501 c16_i32_626
  v709
def k0_off200 (k0_t20 : Fin k0_t20_loop.trips) (k0_t21 : Fin k0_t21_loop.trips) : Fin 5 → Nat :=
  let c0_i32_398 : BitVec 32 := 0#32
  let c0_i32_359 : BitVec 32 := 0#32
  let c1_i32_361 : BitVec 32 := 1#32
  let arg16 : BitVec 32 := Scf.iv c0_i32_359 c1_i32_361 k0_t20
  let c1_i32_397 : BitVec 32 := 1#32
  let v248 : BitVec 32 := Scalar.muli arg16 c1_i32_397
  let v249 : BitVec 32 := Scalar.addi c0_i32_398 v248
  let c4_i32_472 : BitVec 32 := 4#32
  let c0_i32_473 : BitVec 32 := 0#32
  let v381 : BitVec 1 := Scalar.cmpi .eq c4_i32_472 c0_i32_473
  let c1_i32_474 : BitVec 32 := 1#32
  let v382 : BitVec 32 := Scalar.select v381 c1_i32_474 c4_i32_472
  let v383 : BitVec 32 := Scalar.remsi v249 v382
  let c0_i32_476 : BitVec 32 := 0#32
  let v385 : BitVec 1 := Scalar.cmpi .slt v383 c0_i32_476
  let c0_i32_477 : BitVec 32 := 0#32
  let v386 : BitVec 1 := Scalar.cmpi .slt v382 c0_i32_477
  let v387 : BitVec 1 := Scalar.xori v385 v386
  let c0_i32_475 : BitVec 32 := 0#32
  let v384 : BitVec 1 := Scalar.cmpi .ne v383 c0_i32_475
  let v388 : BitVec 1 := Scalar.andi v387 v384
  let v389 : BitVec 32 := Scalar.addi v383 v382
  let v390 : BitVec 32 := Scalar.select v388 v389 v383
  let v711 : Index := Scalar.indexCast v390
  let c0_627 : Index := 0#32
  let c5_628 : Index := 5#32
  let c0_i32_547 : BitVec 32 := 0#32
  let c0_i32_478 : BitVec 32 := 0#32
  let c1_i32_480 : BitVec 32 := 1#32
  let arg17 : BitVec 32 := Scf.iv c0_i32_478 c1_i32_480 k0_t21
  let c1_i32_546 : BitVec 32 := 1#32
  let v500 : BitVec 32 := Scalar.muli arg17 c1_i32_546
  let v501 : BitVec 32 := Scalar.addi c0_i32_547 v500
  let c16_i32_626 : BitVec 32 := 16#32
  let v709 : BitVec 32 := Scalar.muli v501 c16_i32_626
  let v710 : BitVec 32 := v709
  let v712 : Index := Scalar.indexCast v710
  let c0_629 : Index := 0#32
  ![v711.toNat, 0, 5, v712.toNat, 0]
def k0_off201 (k0_t20 : Fin k0_t20_loop.trips) (k0_t21 : Fin k0_t21_loop.trips) : Fin 5 → Nat :=
  let c0_i32_398 : BitVec 32 := 0#32
  let c0_i32_359 : BitVec 32 := 0#32
  let c1_i32_361 : BitVec 32 := 1#32
  let arg16 : BitVec 32 := Scf.iv c0_i32_359 c1_i32_361 k0_t20
  let c1_i32_397 : BitVec 32 := 1#32
  let v248 : BitVec 32 := Scalar.muli arg16 c1_i32_397
  let v249 : BitVec 32 := Scalar.addi c0_i32_398 v248
  let c4_i32_466 : BitVec 32 := 4#32
  let c0_i32_467 : BitVec 32 := 0#32
  let v371 : BitVec 1 := Scalar.cmpi .eq c4_i32_466 c0_i32_467
  let c1_i32_468 : BitVec 32 := 1#32
  let v372 : BitVec 32 := Scalar.select v371 c1_i32_468 c4_i32_466
  let v373 : BitVec 32 := Scalar.remsi v249 v372
  let c0_i32_470 : BitVec 32 := 0#32
  let v375 : BitVec 1 := Scalar.cmpi .slt v373 c0_i32_470
  let c0_i32_471 : BitVec 32 := 0#32
  let v376 : BitVec 1 := Scalar.cmpi .slt v372 c0_i32_471
  let v377 : BitVec 1 := Scalar.xori v375 v376
  let c0_i32_469 : BitVec 32 := 0#32
  let v374 : BitVec 1 := Scalar.cmpi .ne v373 c0_i32_469
  let v378 : BitVec 1 := Scalar.andi v377 v374
  let v379 : BitVec 32 := Scalar.addi v373 v372
  let v380 : BitVec 32 := Scalar.select v378 v379 v373
  let v716 : Index := Scalar.indexCast v380
  let c0_630 : Index := 0#32
  let c0_i32_547 : BitVec 32 := 0#32
  let c0_i32_478 : BitVec 32 := 0#32
  let c1_i32_480 : BitVec 32 := 1#32
  let arg17 : BitVec 32 := Scf.iv c0_i32_478 c1_i32_480 k0_t21
  let c1_i32_546 : BitVec 32 := 1#32
  let v500 : BitVec 32 := Scalar.muli arg17 c1_i32_546
  let v501 : BitVec 32 := Scalar.addi c0_i32_547 v500
  let v717 : Index := Scalar.indexCast v501
  let c96 : Index := 96#32
  let c0_631 : Index := 0#32
  ![v716.toNat, 0, v717.toNat, 96, 0]
def k0_off202 (v506 : BitVec 32) : Fin 5 → Nat :=
  let c0_632 : Index := 0#32
  let c6 : Index := 6#32
  let c0_i32_558 : BitVec 32 := 0#32
  let v525 : BitVec 1 := Scalar.cmpi .sgt v506 c0_i32_558
  let v526 : BitVec 32 := Scalar.extui v525
  let c0_i32_559 : BitVec 32 := 0#32
  let v527 : BitVec 1 := Scalar.cmpi .slt v506 c0_i32_559
  let v528 : BitVec 32 := Scalar.extui v527
  let v529 : BitVec 32 := Scalar.subi v526 v528
  let c128_i32_557 : BitVec 32 := 128#32
  let c0_i32_560 : BitVec 32 := 0#32
  let v530 : BitVec 1 := Scalar.cmpi .sgt c128_i32_557 c0_i32_560
  let v531 : BitVec 32 := Scalar.extui v530
  let c0_i32_561 : BitVec 32 := 0#32
  let v532 : BitVec 1 := Scalar.cmpi .slt c128_i32_557 c0_i32_561
  let v533 : BitVec 32 := Scalar.extui v532
  let v534 : BitVec 32 := Scalar.subi v531 v533
  let v535 : BitVec 1 := Scalar.cmpi .ne v529 v534
  let v536 : BitVec 32 := Scalar.remsi v506 c128_i32_557
  let c0_i32_562 : BitVec 32 := 0#32
  let v537 : BitVec 1 := Scalar.cmpi .ne v536 c0_i32_562
  let v538 : BitVec 1 := Scalar.andi v535 v537
  let v524 : BitVec 32 := Scalar.divsi v506 c128_i32_557
  let c1_i32_563 : BitVec 32 := 1#32
  let v539 : BitVec 32 := Scalar.subi v524 c1_i32_563
  let v540 : BitVec 32 := Scalar.select v538 v539 v524
  let v721 : Index := Scalar.indexCast v540
  let c0_633 : Index := 0#32
  let c0_634 : Index := 0#32
  ![0, 6, v721.toNat, 0, 0]
def k0_mult79 (k0_t21 : Fin k0_t21_loop.trips) : BitVec 32 :=
  let c0_i32_547 : BitVec 32 := 0#32
  let c0_i32_478 : BitVec 32 := 0#32
  let c1_i32_480 : BitVec 32 := 1#32
  let arg17 : BitVec 32 := Scf.iv c0_i32_478 c1_i32_480 k0_t21
  let c1_i32_546 : BitVec 32 := 1#32
  let v500 : BitVec 32 := Scalar.muli arg17 c1_i32_546
  let v501 : BitVec 32 := Scalar.addi c0_i32_547 v500
  let c16_i32_637 : BitVec 32 := 16#32
  let v738 : BitVec 32 := Scalar.muli v501 c16_i32_637
  v738
def k0_off203 (k0_t20 : Fin k0_t20_loop.trips) (k0_t21 : Fin k0_t21_loop.trips) : Fin 5 → Nat :=
  let c0_i32_398 : BitVec 32 := 0#32
  let c0_i32_359 : BitVec 32 := 0#32
  let c1_i32_361 : BitVec 32 := 1#32
  let arg16 : BitVec 32 := Scf.iv c0_i32_359 c1_i32_361 k0_t20
  let c1_i32_397 : BitVec 32 := 1#32
  let v248 : BitVec 32 := Scalar.muli arg16 c1_i32_397
  let v249 : BitVec 32 := Scalar.addi c0_i32_398 v248
  let c4_i32_472 : BitVec 32 := 4#32
  let c0_i32_473 : BitVec 32 := 0#32
  let v381 : BitVec 1 := Scalar.cmpi .eq c4_i32_472 c0_i32_473
  let c1_i32_474 : BitVec 32 := 1#32
  let v382 : BitVec 32 := Scalar.select v381 c1_i32_474 c4_i32_472
  let v383 : BitVec 32 := Scalar.remsi v249 v382
  let c0_i32_476 : BitVec 32 := 0#32
  let v385 : BitVec 1 := Scalar.cmpi .slt v383 c0_i32_476
  let c0_i32_477 : BitVec 32 := 0#32
  let v386 : BitVec 1 := Scalar.cmpi .slt v382 c0_i32_477
  let v387 : BitVec 1 := Scalar.xori v385 v386
  let c0_i32_475 : BitVec 32 := 0#32
  let v384 : BitVec 1 := Scalar.cmpi .ne v383 c0_i32_475
  let v388 : BitVec 1 := Scalar.andi v387 v384
  let v389 : BitVec 32 := Scalar.addi v383 v382
  let v390 : BitVec 32 := Scalar.select v388 v389 v383
  let v740 : Index := Scalar.indexCast v390
  let c0_638 : Index := 0#32
  let c6_639 : Index := 6#32
  let c0_i32_547 : BitVec 32 := 0#32
  let c0_i32_478 : BitVec 32 := 0#32
  let c1_i32_480 : BitVec 32 := 1#32
  let arg17 : BitVec 32 := Scf.iv c0_i32_478 c1_i32_480 k0_t21
  let c1_i32_546 : BitVec 32 := 1#32
  let v500 : BitVec 32 := Scalar.muli arg17 c1_i32_546
  let v501 : BitVec 32 := Scalar.addi c0_i32_547 v500
  let c16_i32_637 : BitVec 32 := 16#32
  let v738 : BitVec 32 := Scalar.muli v501 c16_i32_637
  let v739 : BitVec 32 := v738
  let v741 : Index := Scalar.indexCast v739
  let c0_640 : Index := 0#32
  ![v740.toNat, 0, 6, v741.toNat, 0]
def k0_off204 (v506 : BitVec 32) : Fin 5 → Nat :=
  let c0_641 : Index := 0#32
  let c7 : Index := 7#32
  let c0_i32_558 : BitVec 32 := 0#32
  let v525 : BitVec 1 := Scalar.cmpi .sgt v506 c0_i32_558
  let v526 : BitVec 32 := Scalar.extui v525
  let c0_i32_559 : BitVec 32 := 0#32
  let v527 : BitVec 1 := Scalar.cmpi .slt v506 c0_i32_559
  let v528 : BitVec 32 := Scalar.extui v527
  let v529 : BitVec 32 := Scalar.subi v526 v528
  let c128_i32_557 : BitVec 32 := 128#32
  let c0_i32_560 : BitVec 32 := 0#32
  let v530 : BitVec 1 := Scalar.cmpi .sgt c128_i32_557 c0_i32_560
  let v531 : BitVec 32 := Scalar.extui v530
  let c0_i32_561 : BitVec 32 := 0#32
  let v532 : BitVec 1 := Scalar.cmpi .slt c128_i32_557 c0_i32_561
  let v533 : BitVec 32 := Scalar.extui v532
  let v534 : BitVec 32 := Scalar.subi v531 v533
  let v535 : BitVec 1 := Scalar.cmpi .ne v529 v534
  let v536 : BitVec 32 := Scalar.remsi v506 c128_i32_557
  let c0_i32_562 : BitVec 32 := 0#32
  let v537 : BitVec 1 := Scalar.cmpi .ne v536 c0_i32_562
  let v538 : BitVec 1 := Scalar.andi v535 v537
  let v524 : BitVec 32 := Scalar.divsi v506 c128_i32_557
  let c1_i32_563 : BitVec 32 := 1#32
  let v539 : BitVec 32 := Scalar.subi v524 c1_i32_563
  let v540 : BitVec 32 := Scalar.select v538 v539 v524
  let v745 : Index := Scalar.indexCast v540
  let c0_642 : Index := 0#32
  let c0_643 : Index := 0#32
  ![0, 7, v745.toNat, 0, 0]
def k0_mult80 (k0_t21 : Fin k0_t21_loop.trips) : BitVec 32 :=
  let c0_i32_547 : BitVec 32 := 0#32
  let c0_i32_478 : BitVec 32 := 0#32
  let c1_i32_480 : BitVec 32 := 1#32
  let arg17 : BitVec 32 := Scf.iv c0_i32_478 c1_i32_480 k0_t21
  let c1_i32_546 : BitVec 32 := 1#32
  let v500 : BitVec 32 := Scalar.muli arg17 c1_i32_546
  let v501 : BitVec 32 := Scalar.addi c0_i32_547 v500
  let c16_i32_646 : BitVec 32 := 16#32
  let v762 : BitVec 32 := Scalar.muli v501 c16_i32_646
  v762
def k0_off205 (k0_t20 : Fin k0_t20_loop.trips) (k0_t21 : Fin k0_t21_loop.trips) : Fin 5 → Nat :=
  let c0_i32_398 : BitVec 32 := 0#32
  let c0_i32_359 : BitVec 32 := 0#32
  let c1_i32_361 : BitVec 32 := 1#32
  let arg16 : BitVec 32 := Scf.iv c0_i32_359 c1_i32_361 k0_t20
  let c1_i32_397 : BitVec 32 := 1#32
  let v248 : BitVec 32 := Scalar.muli arg16 c1_i32_397
  let v249 : BitVec 32 := Scalar.addi c0_i32_398 v248
  let c4_i32_472 : BitVec 32 := 4#32
  let c0_i32_473 : BitVec 32 := 0#32
  let v381 : BitVec 1 := Scalar.cmpi .eq c4_i32_472 c0_i32_473
  let c1_i32_474 : BitVec 32 := 1#32
  let v382 : BitVec 32 := Scalar.select v381 c1_i32_474 c4_i32_472
  let v383 : BitVec 32 := Scalar.remsi v249 v382
  let c0_i32_476 : BitVec 32 := 0#32
  let v385 : BitVec 1 := Scalar.cmpi .slt v383 c0_i32_476
  let c0_i32_477 : BitVec 32 := 0#32
  let v386 : BitVec 1 := Scalar.cmpi .slt v382 c0_i32_477
  let v387 : BitVec 1 := Scalar.xori v385 v386
  let c0_i32_475 : BitVec 32 := 0#32
  let v384 : BitVec 1 := Scalar.cmpi .ne v383 c0_i32_475
  let v388 : BitVec 1 := Scalar.andi v387 v384
  let v389 : BitVec 32 := Scalar.addi v383 v382
  let v390 : BitVec 32 := Scalar.select v388 v389 v383
  let v764 : Index := Scalar.indexCast v390
  let c0_647 : Index := 0#32
  let c7_648 : Index := 7#32
  let c0_i32_547 : BitVec 32 := 0#32
  let c0_i32_478 : BitVec 32 := 0#32
  let c1_i32_480 : BitVec 32 := 1#32
  let arg17 : BitVec 32 := Scf.iv c0_i32_478 c1_i32_480 k0_t21
  let c1_i32_546 : BitVec 32 := 1#32
  let v500 : BitVec 32 := Scalar.muli arg17 c1_i32_546
  let v501 : BitVec 32 := Scalar.addi c0_i32_547 v500
  let c16_i32_646 : BitVec 32 := 16#32
  let v762 : BitVec 32 := Scalar.muli v501 c16_i32_646
  let v763 : BitVec 32 := v762
  let v765 : Index := Scalar.indexCast v763
  let c0_649 : Index := 0#32
  ![v764.toNat, 0, 7, v765.toNat, 0]
def k0_off206 (k0_t20 : Fin k0_t20_loop.trips) (k0_t21 : Fin k0_t21_loop.trips) : Fin 5 → Nat :=
  let c0_i32_398 : BitVec 32 := 0#32
  let c0_i32_359 : BitVec 32 := 0#32
  let c1_i32_361 : BitVec 32 := 1#32
  let arg16 : BitVec 32 := Scf.iv c0_i32_359 c1_i32_361 k0_t20
  let c1_i32_397 : BitVec 32 := 1#32
  let v248 : BitVec 32 := Scalar.muli arg16 c1_i32_397
  let v249 : BitVec 32 := Scalar.addi c0_i32_398 v248
  let c4_i32_466 : BitVec 32 := 4#32
  let c0_i32_467 : BitVec 32 := 0#32
  let v371 : BitVec 1 := Scalar.cmpi .eq c4_i32_466 c0_i32_467
  let c1_i32_468 : BitVec 32 := 1#32
  let v372 : BitVec 32 := Scalar.select v371 c1_i32_468 c4_i32_466
  let v373 : BitVec 32 := Scalar.remsi v249 v372
  let c0_i32_470 : BitVec 32 := 0#32
  let v375 : BitVec 1 := Scalar.cmpi .slt v373 c0_i32_470
  let c0_i32_471 : BitVec 32 := 0#32
  let v376 : BitVec 1 := Scalar.cmpi .slt v372 c0_i32_471
  let v377 : BitVec 1 := Scalar.xori v375 v376
  let c0_i32_469 : BitVec 32 := 0#32
  let v374 : BitVec 1 := Scalar.cmpi .ne v373 c0_i32_469
  let v378 : BitVec 1 := Scalar.andi v377 v374
  let v379 : BitVec 32 := Scalar.addi v373 v372
  let v380 : BitVec 32 := Scalar.select v378 v379 v373
  let v769 : Index := Scalar.indexCast v380
  let c0_650 : Index := 0#32
  let c0_i32_547 : BitVec 32 := 0#32
  let c0_i32_478 : BitVec 32 := 0#32
  let c1_i32_480 : BitVec 32 := 1#32
  let arg17 : BitVec 32 := Scf.iv c0_i32_478 c1_i32_480 k0_t21
  let c1_i32_546 : BitVec 32 := 1#32
  let v500 : BitVec 32 := Scalar.muli arg17 c1_i32_546
  let v501 : BitVec 32 := Scalar.addi c0_i32_547 v500
  let v770 : Index := Scalar.indexCast v501
  let c128 : Index := 128#32
  let c0_651 : Index := 0#32
  ![v769.toNat, 0, v770.toNat, 128, 0]
def k0_off207 (v506 : BitVec 32) : Fin 5 → Nat :=
  let c0_652 : Index := 0#32
  let c8 : Index := 8#32
  let c0_i32_558 : BitVec 32 := 0#32
  let v525 : BitVec 1 := Scalar.cmpi .sgt v506 c0_i32_558
  let v526 : BitVec 32 := Scalar.extui v525
  let c0_i32_559 : BitVec 32 := 0#32
  let v527 : BitVec 1 := Scalar.cmpi .slt v506 c0_i32_559
  let v528 : BitVec 32 := Scalar.extui v527
  let v529 : BitVec 32 := Scalar.subi v526 v528
  let c128_i32_557 : BitVec 32 := 128#32
  let c0_i32_560 : BitVec 32 := 0#32
  let v530 : BitVec 1 := Scalar.cmpi .sgt c128_i32_557 c0_i32_560
  let v531 : BitVec 32 := Scalar.extui v530
  let c0_i32_561 : BitVec 32 := 0#32
  let v532 : BitVec 1 := Scalar.cmpi .slt c128_i32_557 c0_i32_561
  let v533 : BitVec 32 := Scalar.extui v532
  let v534 : BitVec 32 := Scalar.subi v531 v533
  let v535 : BitVec 1 := Scalar.cmpi .ne v529 v534
  let v536 : BitVec 32 := Scalar.remsi v506 c128_i32_557
  let c0_i32_562 : BitVec 32 := 0#32
  let v537 : BitVec 1 := Scalar.cmpi .ne v536 c0_i32_562
  let v538 : BitVec 1 := Scalar.andi v535 v537
  let v524 : BitVec 32 := Scalar.divsi v506 c128_i32_557
  let c1_i32_563 : BitVec 32 := 1#32
  let v539 : BitVec 32 := Scalar.subi v524 c1_i32_563
  let v540 : BitVec 32 := Scalar.select v538 v539 v524
  let v774 : Index := Scalar.indexCast v540
  let c0_653 : Index := 0#32
  let c0_654 : Index := 0#32
  ![0, 8, v774.toNat, 0, 0]
def k0_mult81 (k0_t21 : Fin k0_t21_loop.trips) : BitVec 32 :=
  let c0_i32_547 : BitVec 32 := 0#32
  let c0_i32_478 : BitVec 32 := 0#32
  let c1_i32_480 : BitVec 32 := 1#32
  let arg17 : BitVec 32 := Scf.iv c0_i32_478 c1_i32_480 k0_t21
  let c1_i32_546 : BitVec 32 := 1#32
  let v500 : BitVec 32 := Scalar.muli arg17 c1_i32_546
  let v501 : BitVec 32 := Scalar.addi c0_i32_547 v500
  let c16_i32_657 : BitVec 32 := 16#32
  let v791 : BitVec 32 := Scalar.muli v501 c16_i32_657
  v791
def k0_off208 (k0_t20 : Fin k0_t20_loop.trips) (k0_t21 : Fin k0_t21_loop.trips) : Fin 5 → Nat :=
  let c0_i32_398 : BitVec 32 := 0#32
  let c0_i32_359 : BitVec 32 := 0#32
  let c1_i32_361 : BitVec 32 := 1#32
  let arg16 : BitVec 32 := Scf.iv c0_i32_359 c1_i32_361 k0_t20
  let c1_i32_397 : BitVec 32 := 1#32
  let v248 : BitVec 32 := Scalar.muli arg16 c1_i32_397
  let v249 : BitVec 32 := Scalar.addi c0_i32_398 v248
  let c4_i32_472 : BitVec 32 := 4#32
  let c0_i32_473 : BitVec 32 := 0#32
  let v381 : BitVec 1 := Scalar.cmpi .eq c4_i32_472 c0_i32_473
  let c1_i32_474 : BitVec 32 := 1#32
  let v382 : BitVec 32 := Scalar.select v381 c1_i32_474 c4_i32_472
  let v383 : BitVec 32 := Scalar.remsi v249 v382
  let c0_i32_476 : BitVec 32 := 0#32
  let v385 : BitVec 1 := Scalar.cmpi .slt v383 c0_i32_476
  let c0_i32_477 : BitVec 32 := 0#32
  let v386 : BitVec 1 := Scalar.cmpi .slt v382 c0_i32_477
  let v387 : BitVec 1 := Scalar.xori v385 v386
  let c0_i32_475 : BitVec 32 := 0#32
  let v384 : BitVec 1 := Scalar.cmpi .ne v383 c0_i32_475
  let v388 : BitVec 1 := Scalar.andi v387 v384
  let v389 : BitVec 32 := Scalar.addi v383 v382
  let v390 : BitVec 32 := Scalar.select v388 v389 v383
  let v793 : Index := Scalar.indexCast v390
  let c0_658 : Index := 0#32
  let c8_659 : Index := 8#32
  let c0_i32_547 : BitVec 32 := 0#32
  let c0_i32_478 : BitVec 32 := 0#32
  let c1_i32_480 : BitVec 32 := 1#32
  let arg17 : BitVec 32 := Scf.iv c0_i32_478 c1_i32_480 k0_t21
  let c1_i32_546 : BitVec 32 := 1#32
  let v500 : BitVec 32 := Scalar.muli arg17 c1_i32_546
  let v501 : BitVec 32 := Scalar.addi c0_i32_547 v500
  let c16_i32_657 : BitVec 32 := 16#32
  let v791 : BitVec 32 := Scalar.muli v501 c16_i32_657
  let v792 : BitVec 32 := v791
  let v794 : Index := Scalar.indexCast v792
  let c0_660 : Index := 0#32
  ![v793.toNat, 0, 8, v794.toNat, 0]
def k0_off209 (v506 : BitVec 32) : Fin 5 → Nat :=
  let c0_661 : Index := 0#32
  let c9 : Index := 9#32
  let c0_i32_558 : BitVec 32 := 0#32
  let v525 : BitVec 1 := Scalar.cmpi .sgt v506 c0_i32_558
  let v526 : BitVec 32 := Scalar.extui v525
  let c0_i32_559 : BitVec 32 := 0#32
  let v527 : BitVec 1 := Scalar.cmpi .slt v506 c0_i32_559
  let v528 : BitVec 32 := Scalar.extui v527
  let v529 : BitVec 32 := Scalar.subi v526 v528
  let c128_i32_557 : BitVec 32 := 128#32
  let c0_i32_560 : BitVec 32 := 0#32
  let v530 : BitVec 1 := Scalar.cmpi .sgt c128_i32_557 c0_i32_560
  let v531 : BitVec 32 := Scalar.extui v530
  let c0_i32_561 : BitVec 32 := 0#32
  let v532 : BitVec 1 := Scalar.cmpi .slt c128_i32_557 c0_i32_561
  let v533 : BitVec 32 := Scalar.extui v532
  let v534 : BitVec 32 := Scalar.subi v531 v533
  let v535 : BitVec 1 := Scalar.cmpi .ne v529 v534
  let v536 : BitVec 32 := Scalar.remsi v506 c128_i32_557
  let c0_i32_562 : BitVec 32 := 0#32
  let v537 : BitVec 1 := Scalar.cmpi .ne v536 c0_i32_562
  let v538 : BitVec 1 := Scalar.andi v535 v537
  let v524 : BitVec 32 := Scalar.divsi v506 c128_i32_557
  let c1_i32_563 : BitVec 32 := 1#32
  let v539 : BitVec 32 := Scalar.subi v524 c1_i32_563
  let v540 : BitVec 32 := Scalar.select v538 v539 v524
  let v798 : Index := Scalar.indexCast v540
  let c0_662 : Index := 0#32
  let c0_663 : Index := 0#32
  ![0, 9, v798.toNat, 0, 0]
def k0_mult82 (k0_t21 : Fin k0_t21_loop.trips) : BitVec 32 :=
  let c0_i32_547 : BitVec 32 := 0#32
  let c0_i32_478 : BitVec 32 := 0#32
  let c1_i32_480 : BitVec 32 := 1#32
  let arg17 : BitVec 32 := Scf.iv c0_i32_478 c1_i32_480 k0_t21
  let c1_i32_546 : BitVec 32 := 1#32
  let v500 : BitVec 32 := Scalar.muli arg17 c1_i32_546
  let v501 : BitVec 32 := Scalar.addi c0_i32_547 v500
  let c16_i32_666 : BitVec 32 := 16#32
  let v815 : BitVec 32 := Scalar.muli v501 c16_i32_666
  v815
def k0_off210 (k0_t20 : Fin k0_t20_loop.trips) (k0_t21 : Fin k0_t21_loop.trips) : Fin 5 → Nat :=
  let c0_i32_398 : BitVec 32 := 0#32
  let c0_i32_359 : BitVec 32 := 0#32
  let c1_i32_361 : BitVec 32 := 1#32
  let arg16 : BitVec 32 := Scf.iv c0_i32_359 c1_i32_361 k0_t20
  let c1_i32_397 : BitVec 32 := 1#32
  let v248 : BitVec 32 := Scalar.muli arg16 c1_i32_397
  let v249 : BitVec 32 := Scalar.addi c0_i32_398 v248
  let c4_i32_472 : BitVec 32 := 4#32
  let c0_i32_473 : BitVec 32 := 0#32
  let v381 : BitVec 1 := Scalar.cmpi .eq c4_i32_472 c0_i32_473
  let c1_i32_474 : BitVec 32 := 1#32
  let v382 : BitVec 32 := Scalar.select v381 c1_i32_474 c4_i32_472
  let v383 : BitVec 32 := Scalar.remsi v249 v382
  let c0_i32_476 : BitVec 32 := 0#32
  let v385 : BitVec 1 := Scalar.cmpi .slt v383 c0_i32_476
  let c0_i32_477 : BitVec 32 := 0#32
  let v386 : BitVec 1 := Scalar.cmpi .slt v382 c0_i32_477
  let v387 : BitVec 1 := Scalar.xori v385 v386
  let c0_i32_475 : BitVec 32 := 0#32
  let v384 : BitVec 1 := Scalar.cmpi .ne v383 c0_i32_475
  let v388 : BitVec 1 := Scalar.andi v387 v384
  let v389 : BitVec 32 := Scalar.addi v383 v382
  let v390 : BitVec 32 := Scalar.select v388 v389 v383
  let v817 : Index := Scalar.indexCast v390
  let c0_667 : Index := 0#32
  let c9_668 : Index := 9#32
  let c0_i32_547 : BitVec 32 := 0#32
  let c0_i32_478 : BitVec 32 := 0#32
  let c1_i32_480 : BitVec 32 := 1#32
  let arg17 : BitVec 32 := Scf.iv c0_i32_478 c1_i32_480 k0_t21
  let c1_i32_546 : BitVec 32 := 1#32
  let v500 : BitVec 32 := Scalar.muli arg17 c1_i32_546
  let v501 : BitVec 32 := Scalar.addi c0_i32_547 v500
  let c16_i32_666 : BitVec 32 := 16#32
  let v815 : BitVec 32 := Scalar.muli v501 c16_i32_666
  let v816 : BitVec 32 := v815
  let v818 : Index := Scalar.indexCast v816
  let c0_669 : Index := 0#32
  ![v817.toNat, 0, 9, v818.toNat, 0]
def k0_off211 (k0_t20 : Fin k0_t20_loop.trips) (k0_t21 : Fin k0_t21_loop.trips) : Fin 5 → Nat :=
  let c0_i32_398 : BitVec 32 := 0#32
  let c0_i32_359 : BitVec 32 := 0#32
  let c1_i32_361 : BitVec 32 := 1#32
  let arg16 : BitVec 32 := Scf.iv c0_i32_359 c1_i32_361 k0_t20
  let c1_i32_397 : BitVec 32 := 1#32
  let v248 : BitVec 32 := Scalar.muli arg16 c1_i32_397
  let v249 : BitVec 32 := Scalar.addi c0_i32_398 v248
  let c4_i32_466 : BitVec 32 := 4#32
  let c0_i32_467 : BitVec 32 := 0#32
  let v371 : BitVec 1 := Scalar.cmpi .eq c4_i32_466 c0_i32_467
  let c1_i32_468 : BitVec 32 := 1#32
  let v372 : BitVec 32 := Scalar.select v371 c1_i32_468 c4_i32_466
  let v373 : BitVec 32 := Scalar.remsi v249 v372
  let c0_i32_470 : BitVec 32 := 0#32
  let v375 : BitVec 1 := Scalar.cmpi .slt v373 c0_i32_470
  let c0_i32_471 : BitVec 32 := 0#32
  let v376 : BitVec 1 := Scalar.cmpi .slt v372 c0_i32_471
  let v377 : BitVec 1 := Scalar.xori v375 v376
  let c0_i32_469 : BitVec 32 := 0#32
  let v374 : BitVec 1 := Scalar.cmpi .ne v373 c0_i32_469
  let v378 : BitVec 1 := Scalar.andi v377 v374
  let v379 : BitVec 32 := Scalar.addi v373 v372
  let v380 : BitVec 32 := Scalar.select v378 v379 v373
  let v822 : Index := Scalar.indexCast v380
  let c0_670 : Index := 0#32
  let c0_i32_547 : BitVec 32 := 0#32
  let c0_i32_478 : BitVec 32 := 0#32
  let c1_i32_480 : BitVec 32 := 1#32
  let arg17 : BitVec 32 := Scf.iv c0_i32_478 c1_i32_480 k0_t21
  let c1_i32_546 : BitVec 32 := 1#32
  let v500 : BitVec 32 := Scalar.muli arg17 c1_i32_546
  let v501 : BitVec 32 := Scalar.addi c0_i32_547 v500
  let v823 : Index := Scalar.indexCast v501
  let c160 : Index := 160#32
  let c0_671 : Index := 0#32
  ![v822.toNat, 0, v823.toNat, 160, 0]
def k0_off212 (v506 : BitVec 32) : Fin 5 → Nat :=
  let c0_672 : Index := 0#32
  let c10 : Index := 10#32
  let c0_i32_558 : BitVec 32 := 0#32
  let v525 : BitVec 1 := Scalar.cmpi .sgt v506 c0_i32_558
  let v526 : BitVec 32 := Scalar.extui v525
  let c0_i32_559 : BitVec 32 := 0#32
  let v527 : BitVec 1 := Scalar.cmpi .slt v506 c0_i32_559
  let v528 : BitVec 32 := Scalar.extui v527
  let v529 : BitVec 32 := Scalar.subi v526 v528
  let c128_i32_557 : BitVec 32 := 128#32
  let c0_i32_560 : BitVec 32 := 0#32
  let v530 : BitVec 1 := Scalar.cmpi .sgt c128_i32_557 c0_i32_560
  let v531 : BitVec 32 := Scalar.extui v530
  let c0_i32_561 : BitVec 32 := 0#32
  let v532 : BitVec 1 := Scalar.cmpi .slt c128_i32_557 c0_i32_561
  let v533 : BitVec 32 := Scalar.extui v532
  let v534 : BitVec 32 := Scalar.subi v531 v533
  let v535 : BitVec 1 := Scalar.cmpi .ne v529 v534
  let v536 : BitVec 32 := Scalar.remsi v506 c128_i32_557
  let c0_i32_562 : BitVec 32 := 0#32
  let v537 : BitVec 1 := Scalar.cmpi .ne v536 c0_i32_562
  let v538 : BitVec 1 := Scalar.andi v535 v537
  let v524 : BitVec 32 := Scalar.divsi v506 c128_i32_557
  let c1_i32_563 : BitVec 32 := 1#32
  let v539 : BitVec 32 := Scalar.subi v524 c1_i32_563
  let v540 : BitVec 32 := Scalar.select v538 v539 v524
  let v827 : Index := Scalar.indexCast v540
  let c0_673 : Index := 0#32
  let c0_674 : Index := 0#32
  ![0, 10, v827.toNat, 0, 0]
def k0_mult83 (k0_t21 : Fin k0_t21_loop.trips) : BitVec 32 :=
  let c0_i32_547 : BitVec 32 := 0#32
  let c0_i32_478 : BitVec 32 := 0#32
  let c1_i32_480 : BitVec 32 := 1#32
  let arg17 : BitVec 32 := Scf.iv c0_i32_478 c1_i32_480 k0_t21
  let c1_i32_546 : BitVec 32 := 1#32
  let v500 : BitVec 32 := Scalar.muli arg17 c1_i32_546
  let v501 : BitVec 32 := Scalar.addi c0_i32_547 v500
  let c16_i32_677 : BitVec 32 := 16#32
  let v844 : BitVec 32 := Scalar.muli v501 c16_i32_677
  v844
def k0_off213 (k0_t20 : Fin k0_t20_loop.trips) (k0_t21 : Fin k0_t21_loop.trips) : Fin 5 → Nat :=
  let c0_i32_398 : BitVec 32 := 0#32
  let c0_i32_359 : BitVec 32 := 0#32
  let c1_i32_361 : BitVec 32 := 1#32
  let arg16 : BitVec 32 := Scf.iv c0_i32_359 c1_i32_361 k0_t20
  let c1_i32_397 : BitVec 32 := 1#32
  let v248 : BitVec 32 := Scalar.muli arg16 c1_i32_397
  let v249 : BitVec 32 := Scalar.addi c0_i32_398 v248
  let c4_i32_472 : BitVec 32 := 4#32
  let c0_i32_473 : BitVec 32 := 0#32
  let v381 : BitVec 1 := Scalar.cmpi .eq c4_i32_472 c0_i32_473
  let c1_i32_474 : BitVec 32 := 1#32
  let v382 : BitVec 32 := Scalar.select v381 c1_i32_474 c4_i32_472
  let v383 : BitVec 32 := Scalar.remsi v249 v382
  let c0_i32_476 : BitVec 32 := 0#32
  let v385 : BitVec 1 := Scalar.cmpi .slt v383 c0_i32_476
  let c0_i32_477 : BitVec 32 := 0#32
  let v386 : BitVec 1 := Scalar.cmpi .slt v382 c0_i32_477
  let v387 : BitVec 1 := Scalar.xori v385 v386
  let c0_i32_475 : BitVec 32 := 0#32
  let v384 : BitVec 1 := Scalar.cmpi .ne v383 c0_i32_475
  let v388 : BitVec 1 := Scalar.andi v387 v384
  let v389 : BitVec 32 := Scalar.addi v383 v382
  let v390 : BitVec 32 := Scalar.select v388 v389 v383
  let v846 : Index := Scalar.indexCast v390
  let c0_678 : Index := 0#32
  let c10_679 : Index := 10#32
  let c0_i32_547 : BitVec 32 := 0#32
  let c0_i32_478 : BitVec 32 := 0#32
  let c1_i32_480 : BitVec 32 := 1#32
  let arg17 : BitVec 32 := Scf.iv c0_i32_478 c1_i32_480 k0_t21
  let c1_i32_546 : BitVec 32 := 1#32
  let v500 : BitVec 32 := Scalar.muli arg17 c1_i32_546
  let v501 : BitVec 32 := Scalar.addi c0_i32_547 v500
  let c16_i32_677 : BitVec 32 := 16#32
  let v844 : BitVec 32 := Scalar.muli v501 c16_i32_677
  let v845 : BitVec 32 := v844
  let v847 : Index := Scalar.indexCast v845
  let c0_680 : Index := 0#32
  ![v846.toNat, 0, 10, v847.toNat, 0]
def k0_off214 (v506 : BitVec 32) : Fin 5 → Nat :=
  let c0_681 : Index := 0#32
  let c11 : Index := 11#32
  let c0_i32_558 : BitVec 32 := 0#32
  let v525 : BitVec 1 := Scalar.cmpi .sgt v506 c0_i32_558
  let v526 : BitVec 32 := Scalar.extui v525
  let c0_i32_559 : BitVec 32 := 0#32
  let v527 : BitVec 1 := Scalar.cmpi .slt v506 c0_i32_559
  let v528 : BitVec 32 := Scalar.extui v527
  let v529 : BitVec 32 := Scalar.subi v526 v528
  let c128_i32_557 : BitVec 32 := 128#32
  let c0_i32_560 : BitVec 32 := 0#32
  let v530 : BitVec 1 := Scalar.cmpi .sgt c128_i32_557 c0_i32_560
  let v531 : BitVec 32 := Scalar.extui v530
  let c0_i32_561 : BitVec 32 := 0#32
  let v532 : BitVec 1 := Scalar.cmpi .slt c128_i32_557 c0_i32_561
  let v533 : BitVec 32 := Scalar.extui v532
  let v534 : BitVec 32 := Scalar.subi v531 v533
  let v535 : BitVec 1 := Scalar.cmpi .ne v529 v534
  let v536 : BitVec 32 := Scalar.remsi v506 c128_i32_557
  let c0_i32_562 : BitVec 32 := 0#32
  let v537 : BitVec 1 := Scalar.cmpi .ne v536 c0_i32_562
  let v538 : BitVec 1 := Scalar.andi v535 v537
  let v524 : BitVec 32 := Scalar.divsi v506 c128_i32_557
  let c1_i32_563 : BitVec 32 := 1#32
  let v539 : BitVec 32 := Scalar.subi v524 c1_i32_563
  let v540 : BitVec 32 := Scalar.select v538 v539 v524
  let v851 : Index := Scalar.indexCast v540
  let c0_682 : Index := 0#32
  let c0_683 : Index := 0#32
  ![0, 11, v851.toNat, 0, 0]
def k0_mult84 (k0_t21 : Fin k0_t21_loop.trips) : BitVec 32 :=
  let c0_i32_547 : BitVec 32 := 0#32
  let c0_i32_478 : BitVec 32 := 0#32
  let c1_i32_480 : BitVec 32 := 1#32
  let arg17 : BitVec 32 := Scf.iv c0_i32_478 c1_i32_480 k0_t21
  let c1_i32_546 : BitVec 32 := 1#32
  let v500 : BitVec 32 := Scalar.muli arg17 c1_i32_546
  let v501 : BitVec 32 := Scalar.addi c0_i32_547 v500
  let c16_i32_686 : BitVec 32 := 16#32
  let v868 : BitVec 32 := Scalar.muli v501 c16_i32_686
  v868
def k0_off215 (k0_t20 : Fin k0_t20_loop.trips) (k0_t21 : Fin k0_t21_loop.trips) : Fin 5 → Nat :=
  let c0_i32_398 : BitVec 32 := 0#32
  let c0_i32_359 : BitVec 32 := 0#32
  let c1_i32_361 : BitVec 32 := 1#32
  let arg16 : BitVec 32 := Scf.iv c0_i32_359 c1_i32_361 k0_t20
  let c1_i32_397 : BitVec 32 := 1#32
  let v248 : BitVec 32 := Scalar.muli arg16 c1_i32_397
  let v249 : BitVec 32 := Scalar.addi c0_i32_398 v248
  let c4_i32_472 : BitVec 32 := 4#32
  let c0_i32_473 : BitVec 32 := 0#32
  let v381 : BitVec 1 := Scalar.cmpi .eq c4_i32_472 c0_i32_473
  let c1_i32_474 : BitVec 32 := 1#32
  let v382 : BitVec 32 := Scalar.select v381 c1_i32_474 c4_i32_472
  let v383 : BitVec 32 := Scalar.remsi v249 v382
  let c0_i32_476 : BitVec 32 := 0#32
  let v385 : BitVec 1 := Scalar.cmpi .slt v383 c0_i32_476
  let c0_i32_477 : BitVec 32 := 0#32
  let v386 : BitVec 1 := Scalar.cmpi .slt v382 c0_i32_477
  let v387 : BitVec 1 := Scalar.xori v385 v386
  let c0_i32_475 : BitVec 32 := 0#32
  let v384 : BitVec 1 := Scalar.cmpi .ne v383 c0_i32_475
  let v388 : BitVec 1 := Scalar.andi v387 v384
  let v389 : BitVec 32 := Scalar.addi v383 v382
  let v390 : BitVec 32 := Scalar.select v388 v389 v383
  let v870 : Index := Scalar.indexCast v390
  let c0_687 : Index := 0#32
  let c11_688 : Index := 11#32
  let c0_i32_547 : BitVec 32 := 0#32
  let c0_i32_478 : BitVec 32 := 0#32
  let c1_i32_480 : BitVec 32 := 1#32
  let arg17 : BitVec 32 := Scf.iv c0_i32_478 c1_i32_480 k0_t21
  let c1_i32_546 : BitVec 32 := 1#32
  let v500 : BitVec 32 := Scalar.muli arg17 c1_i32_546
  let v501 : BitVec 32 := Scalar.addi c0_i32_547 v500
  let c16_i32_686 : BitVec 32 := 16#32
  let v868 : BitVec 32 := Scalar.muli v501 c16_i32_686
  let v869 : BitVec 32 := v868
  let v871 : Index := Scalar.indexCast v869
  let c0_689 : Index := 0#32
  ![v870.toNat, 0, 11, v871.toNat, 0]
def k0_off216 (k0_t20 : Fin k0_t20_loop.trips) (k0_t21 : Fin k0_t21_loop.trips) : Fin 5 → Nat :=
  let c0_i32_398 : BitVec 32 := 0#32
  let c0_i32_359 : BitVec 32 := 0#32
  let c1_i32_361 : BitVec 32 := 1#32
  let arg16 : BitVec 32 := Scf.iv c0_i32_359 c1_i32_361 k0_t20
  let c1_i32_397 : BitVec 32 := 1#32
  let v248 : BitVec 32 := Scalar.muli arg16 c1_i32_397
  let v249 : BitVec 32 := Scalar.addi c0_i32_398 v248
  let c4_i32_466 : BitVec 32 := 4#32
  let c0_i32_467 : BitVec 32 := 0#32
  let v371 : BitVec 1 := Scalar.cmpi .eq c4_i32_466 c0_i32_467
  let c1_i32_468 : BitVec 32 := 1#32
  let v372 : BitVec 32 := Scalar.select v371 c1_i32_468 c4_i32_466
  let v373 : BitVec 32 := Scalar.remsi v249 v372
  let c0_i32_470 : BitVec 32 := 0#32
  let v375 : BitVec 1 := Scalar.cmpi .slt v373 c0_i32_470
  let c0_i32_471 : BitVec 32 := 0#32
  let v376 : BitVec 1 := Scalar.cmpi .slt v372 c0_i32_471
  let v377 : BitVec 1 := Scalar.xori v375 v376
  let c0_i32_469 : BitVec 32 := 0#32
  let v374 : BitVec 1 := Scalar.cmpi .ne v373 c0_i32_469
  let v378 : BitVec 1 := Scalar.andi v377 v374
  let v379 : BitVec 32 := Scalar.addi v373 v372
  let v380 : BitVec 32 := Scalar.select v378 v379 v373
  let v875 : Index := Scalar.indexCast v380
  let c0_690 : Index := 0#32
  let c0_i32_547 : BitVec 32 := 0#32
  let c0_i32_478 : BitVec 32 := 0#32
  let c1_i32_480 : BitVec 32 := 1#32
  let arg17 : BitVec 32 := Scf.iv c0_i32_478 c1_i32_480 k0_t21
  let c1_i32_546 : BitVec 32 := 1#32
  let v500 : BitVec 32 := Scalar.muli arg17 c1_i32_546
  let v501 : BitVec 32 := Scalar.addi c0_i32_547 v500
  let v876 : Index := Scalar.indexCast v501
  let c192 : Index := 192#32
  let c0_691 : Index := 0#32
  ![v875.toNat, 0, v876.toNat, 192, 0]
def k0_off217 (v506 : BitVec 32) : Fin 5 → Nat :=
  let c0_692 : Index := 0#32
  let c12 : Index := 12#32
  let c0_i32_558 : BitVec 32 := 0#32
  let v525 : BitVec 1 := Scalar.cmpi .sgt v506 c0_i32_558
  let v526 : BitVec 32 := Scalar.extui v525
  let c0_i32_559 : BitVec 32 := 0#32
  let v527 : BitVec 1 := Scalar.cmpi .slt v506 c0_i32_559
  let v528 : BitVec 32 := Scalar.extui v527
  let v529 : BitVec 32 := Scalar.subi v526 v528
  let c128_i32_557 : BitVec 32 := 128#32
  let c0_i32_560 : BitVec 32 := 0#32
  let v530 : BitVec 1 := Scalar.cmpi .sgt c128_i32_557 c0_i32_560
  let v531 : BitVec 32 := Scalar.extui v530
  let c0_i32_561 : BitVec 32 := 0#32
  let v532 : BitVec 1 := Scalar.cmpi .slt c128_i32_557 c0_i32_561
  let v533 : BitVec 32 := Scalar.extui v532
  let v534 : BitVec 32 := Scalar.subi v531 v533
  let v535 : BitVec 1 := Scalar.cmpi .ne v529 v534
  let v536 : BitVec 32 := Scalar.remsi v506 c128_i32_557
  let c0_i32_562 : BitVec 32 := 0#32
  let v537 : BitVec 1 := Scalar.cmpi .ne v536 c0_i32_562
  let v538 : BitVec 1 := Scalar.andi v535 v537
  let v524 : BitVec 32 := Scalar.divsi v506 c128_i32_557
  let c1_i32_563 : BitVec 32 := 1#32
  let v539 : BitVec 32 := Scalar.subi v524 c1_i32_563
  let v540 : BitVec 32 := Scalar.select v538 v539 v524
  let v880 : Index := Scalar.indexCast v540
  let c0_693 : Index := 0#32
  let c0_694 : Index := 0#32
  ![0, 12, v880.toNat, 0, 0]
def k0_mult85 (k0_t21 : Fin k0_t21_loop.trips) : BitVec 32 :=
  let c0_i32_547 : BitVec 32 := 0#32
  let c0_i32_478 : BitVec 32 := 0#32
  let c1_i32_480 : BitVec 32 := 1#32
  let arg17 : BitVec 32 := Scf.iv c0_i32_478 c1_i32_480 k0_t21
  let c1_i32_546 : BitVec 32 := 1#32
  let v500 : BitVec 32 := Scalar.muli arg17 c1_i32_546
  let v501 : BitVec 32 := Scalar.addi c0_i32_547 v500
  let c16_i32_697 : BitVec 32 := 16#32
  let v897 : BitVec 32 := Scalar.muli v501 c16_i32_697
  v897
def k0_off218 (k0_t20 : Fin k0_t20_loop.trips) (k0_t21 : Fin k0_t21_loop.trips) : Fin 5 → Nat :=
  let c0_i32_398 : BitVec 32 := 0#32
  let c0_i32_359 : BitVec 32 := 0#32
  let c1_i32_361 : BitVec 32 := 1#32
  let arg16 : BitVec 32 := Scf.iv c0_i32_359 c1_i32_361 k0_t20
  let c1_i32_397 : BitVec 32 := 1#32
  let v248 : BitVec 32 := Scalar.muli arg16 c1_i32_397
  let v249 : BitVec 32 := Scalar.addi c0_i32_398 v248
  let c4_i32_472 : BitVec 32 := 4#32
  let c0_i32_473 : BitVec 32 := 0#32
  let v381 : BitVec 1 := Scalar.cmpi .eq c4_i32_472 c0_i32_473
  let c1_i32_474 : BitVec 32 := 1#32
  let v382 : BitVec 32 := Scalar.select v381 c1_i32_474 c4_i32_472
  let v383 : BitVec 32 := Scalar.remsi v249 v382
  let c0_i32_476 : BitVec 32 := 0#32
  let v385 : BitVec 1 := Scalar.cmpi .slt v383 c0_i32_476
  let c0_i32_477 : BitVec 32 := 0#32
  let v386 : BitVec 1 := Scalar.cmpi .slt v382 c0_i32_477
  let v387 : BitVec 1 := Scalar.xori v385 v386
  let c0_i32_475 : BitVec 32 := 0#32
  let v384 : BitVec 1 := Scalar.cmpi .ne v383 c0_i32_475
  let v388 : BitVec 1 := Scalar.andi v387 v384
  let v389 : BitVec 32 := Scalar.addi v383 v382
  let v390 : BitVec 32 := Scalar.select v388 v389 v383
  let v899 : Index := Scalar.indexCast v390
  let c0_698 : Index := 0#32
  let c12_699 : Index := 12#32
  let c0_i32_547 : BitVec 32 := 0#32
  let c0_i32_478 : BitVec 32 := 0#32
  let c1_i32_480 : BitVec 32 := 1#32
  let arg17 : BitVec 32 := Scf.iv c0_i32_478 c1_i32_480 k0_t21
  let c1_i32_546 : BitVec 32 := 1#32
  let v500 : BitVec 32 := Scalar.muli arg17 c1_i32_546
  let v501 : BitVec 32 := Scalar.addi c0_i32_547 v500
  let c16_i32_697 : BitVec 32 := 16#32
  let v897 : BitVec 32 := Scalar.muli v501 c16_i32_697
  let v898 : BitVec 32 := v897
  let v900 : Index := Scalar.indexCast v898
  let c0_700 : Index := 0#32
  ![v899.toNat, 0, 12, v900.toNat, 0]
def k0_off219 (v506 : BitVec 32) : Fin 5 → Nat :=
  let c0_701 : Index := 0#32
  let c13 : Index := 13#32
  let c0_i32_558 : BitVec 32 := 0#32
  let v525 : BitVec 1 := Scalar.cmpi .sgt v506 c0_i32_558
  let v526 : BitVec 32 := Scalar.extui v525
  let c0_i32_559 : BitVec 32 := 0#32
  let v527 : BitVec 1 := Scalar.cmpi .slt v506 c0_i32_559
  let v528 : BitVec 32 := Scalar.extui v527
  let v529 : BitVec 32 := Scalar.subi v526 v528
  let c128_i32_557 : BitVec 32 := 128#32
  let c0_i32_560 : BitVec 32 := 0#32
  let v530 : BitVec 1 := Scalar.cmpi .sgt c128_i32_557 c0_i32_560
  let v531 : BitVec 32 := Scalar.extui v530
  let c0_i32_561 : BitVec 32 := 0#32
  let v532 : BitVec 1 := Scalar.cmpi .slt c128_i32_557 c0_i32_561
  let v533 : BitVec 32 := Scalar.extui v532
  let v534 : BitVec 32 := Scalar.subi v531 v533
  let v535 : BitVec 1 := Scalar.cmpi .ne v529 v534
  let v536 : BitVec 32 := Scalar.remsi v506 c128_i32_557
  let c0_i32_562 : BitVec 32 := 0#32
  let v537 : BitVec 1 := Scalar.cmpi .ne v536 c0_i32_562
  let v538 : BitVec 1 := Scalar.andi v535 v537
  let v524 : BitVec 32 := Scalar.divsi v506 c128_i32_557
  let c1_i32_563 : BitVec 32 := 1#32
  let v539 : BitVec 32 := Scalar.subi v524 c1_i32_563
  let v540 : BitVec 32 := Scalar.select v538 v539 v524
  let v904 : Index := Scalar.indexCast v540
  let c0_702 : Index := 0#32
  let c0_703 : Index := 0#32
  ![0, 13, v904.toNat, 0, 0]
def k0_mult86 (k0_t21 : Fin k0_t21_loop.trips) : BitVec 32 :=
  let c0_i32_547 : BitVec 32 := 0#32
  let c0_i32_478 : BitVec 32 := 0#32
  let c1_i32_480 : BitVec 32 := 1#32
  let arg17 : BitVec 32 := Scf.iv c0_i32_478 c1_i32_480 k0_t21
  let c1_i32_546 : BitVec 32 := 1#32
  let v500 : BitVec 32 := Scalar.muli arg17 c1_i32_546
  let v501 : BitVec 32 := Scalar.addi c0_i32_547 v500
  let c16_i32_706 : BitVec 32 := 16#32
  let v921 : BitVec 32 := Scalar.muli v501 c16_i32_706
  v921
def k0_off220 (k0_t20 : Fin k0_t20_loop.trips) (k0_t21 : Fin k0_t21_loop.trips) : Fin 5 → Nat :=
  let c0_i32_398 : BitVec 32 := 0#32
  let c0_i32_359 : BitVec 32 := 0#32
  let c1_i32_361 : BitVec 32 := 1#32
  let arg16 : BitVec 32 := Scf.iv c0_i32_359 c1_i32_361 k0_t20
  let c1_i32_397 : BitVec 32 := 1#32
  let v248 : BitVec 32 := Scalar.muli arg16 c1_i32_397
  let v249 : BitVec 32 := Scalar.addi c0_i32_398 v248
  let c4_i32_472 : BitVec 32 := 4#32
  let c0_i32_473 : BitVec 32 := 0#32
  let v381 : BitVec 1 := Scalar.cmpi .eq c4_i32_472 c0_i32_473
  let c1_i32_474 : BitVec 32 := 1#32
  let v382 : BitVec 32 := Scalar.select v381 c1_i32_474 c4_i32_472
  let v383 : BitVec 32 := Scalar.remsi v249 v382
  let c0_i32_476 : BitVec 32 := 0#32
  let v385 : BitVec 1 := Scalar.cmpi .slt v383 c0_i32_476
  let c0_i32_477 : BitVec 32 := 0#32
  let v386 : BitVec 1 := Scalar.cmpi .slt v382 c0_i32_477
  let v387 : BitVec 1 := Scalar.xori v385 v386
  let c0_i32_475 : BitVec 32 := 0#32
  let v384 : BitVec 1 := Scalar.cmpi .ne v383 c0_i32_475
  let v388 : BitVec 1 := Scalar.andi v387 v384
  let v389 : BitVec 32 := Scalar.addi v383 v382
  let v390 : BitVec 32 := Scalar.select v388 v389 v383
  let v923 : Index := Scalar.indexCast v390
  let c0_707 : Index := 0#32
  let c13_708 : Index := 13#32
  let c0_i32_547 : BitVec 32 := 0#32
  let c0_i32_478 : BitVec 32 := 0#32
  let c1_i32_480 : BitVec 32 := 1#32
  let arg17 : BitVec 32 := Scf.iv c0_i32_478 c1_i32_480 k0_t21
  let c1_i32_546 : BitVec 32 := 1#32
  let v500 : BitVec 32 := Scalar.muli arg17 c1_i32_546
  let v501 : BitVec 32 := Scalar.addi c0_i32_547 v500
  let c16_i32_706 : BitVec 32 := 16#32
  let v921 : BitVec 32 := Scalar.muli v501 c16_i32_706
  let v922 : BitVec 32 := v921
  let v924 : Index := Scalar.indexCast v922
  let c0_709 : Index := 0#32
  ![v923.toNat, 0, 13, v924.toNat, 0]
def k0_off221 (k0_t20 : Fin k0_t20_loop.trips) (k0_t21 : Fin k0_t21_loop.trips) : Fin 5 → Nat :=
  let c0_i32_398 : BitVec 32 := 0#32
  let c0_i32_359 : BitVec 32 := 0#32
  let c1_i32_361 : BitVec 32 := 1#32
  let arg16 : BitVec 32 := Scf.iv c0_i32_359 c1_i32_361 k0_t20
  let c1_i32_397 : BitVec 32 := 1#32
  let v248 : BitVec 32 := Scalar.muli arg16 c1_i32_397
  let v249 : BitVec 32 := Scalar.addi c0_i32_398 v248
  let c4_i32_466 : BitVec 32 := 4#32
  let c0_i32_467 : BitVec 32 := 0#32
  let v371 : BitVec 1 := Scalar.cmpi .eq c4_i32_466 c0_i32_467
  let c1_i32_468 : BitVec 32 := 1#32
  let v372 : BitVec 32 := Scalar.select v371 c1_i32_468 c4_i32_466
  let v373 : BitVec 32 := Scalar.remsi v249 v372
  let c0_i32_470 : BitVec 32 := 0#32
  let v375 : BitVec 1 := Scalar.cmpi .slt v373 c0_i32_470
  let c0_i32_471 : BitVec 32 := 0#32
  let v376 : BitVec 1 := Scalar.cmpi .slt v372 c0_i32_471
  let v377 : BitVec 1 := Scalar.xori v375 v376
  let c0_i32_469 : BitVec 32 := 0#32
  let v374 : BitVec 1 := Scalar.cmpi .ne v373 c0_i32_469
  let v378 : BitVec 1 := Scalar.andi v377 v374
  let v379 : BitVec 32 := Scalar.addi v373 v372
  let v380 : BitVec 32 := Scalar.select v378 v379 v373
  let v928 : Index := Scalar.indexCast v380
  let c0_710 : Index := 0#32
  let c0_i32_547 : BitVec 32 := 0#32
  let c0_i32_478 : BitVec 32 := 0#32
  let c1_i32_480 : BitVec 32 := 1#32
  let arg17 : BitVec 32 := Scf.iv c0_i32_478 c1_i32_480 k0_t21
  let c1_i32_546 : BitVec 32 := 1#32
  let v500 : BitVec 32 := Scalar.muli arg17 c1_i32_546
  let v501 : BitVec 32 := Scalar.addi c0_i32_547 v500
  let v929 : Index := Scalar.indexCast v501
  let c224 : Index := 224#32
  let c0_711 : Index := 0#32
  ![v928.toNat, 0, v929.toNat, 224, 0]
def k0_off222 (v506 : BitVec 32) : Fin 5 → Nat :=
  let c0_712 : Index := 0#32
  let c14 : Index := 14#32
  let c0_i32_558 : BitVec 32 := 0#32
  let v525 : BitVec 1 := Scalar.cmpi .sgt v506 c0_i32_558
  let v526 : BitVec 32 := Scalar.extui v525
  let c0_i32_559 : BitVec 32 := 0#32
  let v527 : BitVec 1 := Scalar.cmpi .slt v506 c0_i32_559
  let v528 : BitVec 32 := Scalar.extui v527
  let v529 : BitVec 32 := Scalar.subi v526 v528
  let c128_i32_557 : BitVec 32 := 128#32
  let c0_i32_560 : BitVec 32 := 0#32
  let v530 : BitVec 1 := Scalar.cmpi .sgt c128_i32_557 c0_i32_560
  let v531 : BitVec 32 := Scalar.extui v530
  let c0_i32_561 : BitVec 32 := 0#32
  let v532 : BitVec 1 := Scalar.cmpi .slt c128_i32_557 c0_i32_561
  let v533 : BitVec 32 := Scalar.extui v532
  let v534 : BitVec 32 := Scalar.subi v531 v533
  let v535 : BitVec 1 := Scalar.cmpi .ne v529 v534
  let v536 : BitVec 32 := Scalar.remsi v506 c128_i32_557
  let c0_i32_562 : BitVec 32 := 0#32
  let v537 : BitVec 1 := Scalar.cmpi .ne v536 c0_i32_562
  let v538 : BitVec 1 := Scalar.andi v535 v537
  let v524 : BitVec 32 := Scalar.divsi v506 c128_i32_557
  let c1_i32_563 : BitVec 32 := 1#32
  let v539 : BitVec 32 := Scalar.subi v524 c1_i32_563
  let v540 : BitVec 32 := Scalar.select v538 v539 v524
  let v933 : Index := Scalar.indexCast v540
  let c0_713 : Index := 0#32
  let c0_714 : Index := 0#32
  ![0, 14, v933.toNat, 0, 0]
def k0_mult87 (k0_t21 : Fin k0_t21_loop.trips) : BitVec 32 :=
  let c0_i32_547 : BitVec 32 := 0#32
  let c0_i32_478 : BitVec 32 := 0#32
  let c1_i32_480 : BitVec 32 := 1#32
  let arg17 : BitVec 32 := Scf.iv c0_i32_478 c1_i32_480 k0_t21
  let c1_i32_546 : BitVec 32 := 1#32
  let v500 : BitVec 32 := Scalar.muli arg17 c1_i32_546
  let v501 : BitVec 32 := Scalar.addi c0_i32_547 v500
  let c16_i32_717 : BitVec 32 := 16#32
  let v950 : BitVec 32 := Scalar.muli v501 c16_i32_717
  v950
def k0_off223 (k0_t20 : Fin k0_t20_loop.trips) (k0_t21 : Fin k0_t21_loop.trips) : Fin 5 → Nat :=
  let c0_i32_398 : BitVec 32 := 0#32
  let c0_i32_359 : BitVec 32 := 0#32
  let c1_i32_361 : BitVec 32 := 1#32
  let arg16 : BitVec 32 := Scf.iv c0_i32_359 c1_i32_361 k0_t20
  let c1_i32_397 : BitVec 32 := 1#32
  let v248 : BitVec 32 := Scalar.muli arg16 c1_i32_397
  let v249 : BitVec 32 := Scalar.addi c0_i32_398 v248
  let c4_i32_472 : BitVec 32 := 4#32
  let c0_i32_473 : BitVec 32 := 0#32
  let v381 : BitVec 1 := Scalar.cmpi .eq c4_i32_472 c0_i32_473
  let c1_i32_474 : BitVec 32 := 1#32
  let v382 : BitVec 32 := Scalar.select v381 c1_i32_474 c4_i32_472
  let v383 : BitVec 32 := Scalar.remsi v249 v382
  let c0_i32_476 : BitVec 32 := 0#32
  let v385 : BitVec 1 := Scalar.cmpi .slt v383 c0_i32_476
  let c0_i32_477 : BitVec 32 := 0#32
  let v386 : BitVec 1 := Scalar.cmpi .slt v382 c0_i32_477
  let v387 : BitVec 1 := Scalar.xori v385 v386
  let c0_i32_475 : BitVec 32 := 0#32
  let v384 : BitVec 1 := Scalar.cmpi .ne v383 c0_i32_475
  let v388 : BitVec 1 := Scalar.andi v387 v384
  let v389 : BitVec 32 := Scalar.addi v383 v382
  let v390 : BitVec 32 := Scalar.select v388 v389 v383
  let v952 : Index := Scalar.indexCast v390
  let c0_718 : Index := 0#32
  let c14_719 : Index := 14#32
  let c0_i32_547 : BitVec 32 := 0#32
  let c0_i32_478 : BitVec 32 := 0#32
  let c1_i32_480 : BitVec 32 := 1#32
  let arg17 : BitVec 32 := Scf.iv c0_i32_478 c1_i32_480 k0_t21
  let c1_i32_546 : BitVec 32 := 1#32
  let v500 : BitVec 32 := Scalar.muli arg17 c1_i32_546
  let v501 : BitVec 32 := Scalar.addi c0_i32_547 v500
  let c16_i32_717 : BitVec 32 := 16#32
  let v950 : BitVec 32 := Scalar.muli v501 c16_i32_717
  let v951 : BitVec 32 := v950
  let v953 : Index := Scalar.indexCast v951
  let c0_720 : Index := 0#32
  ![v952.toNat, 0, 14, v953.toNat, 0]
def k0_off224 (v506 : BitVec 32) : Fin 5 → Nat :=
  let c0_721 : Index := 0#32
  let c15 : Index := 15#32
  let c0_i32_558 : BitVec 32 := 0#32
  let v525 : BitVec 1 := Scalar.cmpi .sgt v506 c0_i32_558
  let v526 : BitVec 32 := Scalar.extui v525
  let c0_i32_559 : BitVec 32 := 0#32
  let v527 : BitVec 1 := Scalar.cmpi .slt v506 c0_i32_559
  let v528 : BitVec 32 := Scalar.extui v527
  let v529 : BitVec 32 := Scalar.subi v526 v528
  let c128_i32_557 : BitVec 32 := 128#32
  let c0_i32_560 : BitVec 32 := 0#32
  let v530 : BitVec 1 := Scalar.cmpi .sgt c128_i32_557 c0_i32_560
  let v531 : BitVec 32 := Scalar.extui v530
  let c0_i32_561 : BitVec 32 := 0#32
  let v532 : BitVec 1 := Scalar.cmpi .slt c128_i32_557 c0_i32_561
  let v533 : BitVec 32 := Scalar.extui v532
  let v534 : BitVec 32 := Scalar.subi v531 v533
  let v535 : BitVec 1 := Scalar.cmpi .ne v529 v534
  let v536 : BitVec 32 := Scalar.remsi v506 c128_i32_557
  let c0_i32_562 : BitVec 32 := 0#32
  let v537 : BitVec 1 := Scalar.cmpi .ne v536 c0_i32_562
  let v538 : BitVec 1 := Scalar.andi v535 v537
  let v524 : BitVec 32 := Scalar.divsi v506 c128_i32_557
  let c1_i32_563 : BitVec 32 := 1#32
  let v539 : BitVec 32 := Scalar.subi v524 c1_i32_563
  let v540 : BitVec 32 := Scalar.select v538 v539 v524
  let v957 : Index := Scalar.indexCast v540
  let c0_722 : Index := 0#32
  let c0_723 : Index := 0#32
  ![0, 15, v957.toNat, 0, 0]
def k0_mult88 (k0_t21 : Fin k0_t21_loop.trips) : BitVec 32 :=
  let c0_i32_547 : BitVec 32 := 0#32
  let c0_i32_478 : BitVec 32 := 0#32
  let c1_i32_480 : BitVec 32 := 1#32
  let arg17 : BitVec 32 := Scf.iv c0_i32_478 c1_i32_480 k0_t21
  let c1_i32_546 : BitVec 32 := 1#32
  let v500 : BitVec 32 := Scalar.muli arg17 c1_i32_546
  let v501 : BitVec 32 := Scalar.addi c0_i32_547 v500
  let c16_i32_726 : BitVec 32 := 16#32
  let v974 : BitVec 32 := Scalar.muli v501 c16_i32_726
  v974
def k0_off225 (k0_t20 : Fin k0_t20_loop.trips) (k0_t21 : Fin k0_t21_loop.trips) : Fin 5 → Nat :=
  let c0_i32_398 : BitVec 32 := 0#32
  let c0_i32_359 : BitVec 32 := 0#32
  let c1_i32_361 : BitVec 32 := 1#32
  let arg16 : BitVec 32 := Scf.iv c0_i32_359 c1_i32_361 k0_t20
  let c1_i32_397 : BitVec 32 := 1#32
  let v248 : BitVec 32 := Scalar.muli arg16 c1_i32_397
  let v249 : BitVec 32 := Scalar.addi c0_i32_398 v248
  let c4_i32_472 : BitVec 32 := 4#32
  let c0_i32_473 : BitVec 32 := 0#32
  let v381 : BitVec 1 := Scalar.cmpi .eq c4_i32_472 c0_i32_473
  let c1_i32_474 : BitVec 32 := 1#32
  let v382 : BitVec 32 := Scalar.select v381 c1_i32_474 c4_i32_472
  let v383 : BitVec 32 := Scalar.remsi v249 v382
  let c0_i32_476 : BitVec 32 := 0#32
  let v385 : BitVec 1 := Scalar.cmpi .slt v383 c0_i32_476
  let c0_i32_477 : BitVec 32 := 0#32
  let v386 : BitVec 1 := Scalar.cmpi .slt v382 c0_i32_477
  let v387 : BitVec 1 := Scalar.xori v385 v386
  let c0_i32_475 : BitVec 32 := 0#32
  let v384 : BitVec 1 := Scalar.cmpi .ne v383 c0_i32_475
  let v388 : BitVec 1 := Scalar.andi v387 v384
  let v389 : BitVec 32 := Scalar.addi v383 v382
  let v390 : BitVec 32 := Scalar.select v388 v389 v383
  let v976 : Index := Scalar.indexCast v390
  let c0_727 : Index := 0#32
  let c15_728 : Index := 15#32
  let c0_i32_547 : BitVec 32 := 0#32
  let c0_i32_478 : BitVec 32 := 0#32
  let c1_i32_480 : BitVec 32 := 1#32
  let arg17 : BitVec 32 := Scf.iv c0_i32_478 c1_i32_480 k0_t21
  let c1_i32_546 : BitVec 32 := 1#32
  let v500 : BitVec 32 := Scalar.muli arg17 c1_i32_546
  let v501 : BitVec 32 := Scalar.addi c0_i32_547 v500
  let c16_i32_726 : BitVec 32 := 16#32
  let v974 : BitVec 32 := Scalar.muli v501 c16_i32_726
  let v975 : BitVec 32 := v974
  let v977 : Index := Scalar.indexCast v975
  let c0_729 : Index := 0#32
  ![v976.toNat, 0, 15, v977.toNat, 0]
def k0_off226 (k0_t20 : Fin k0_t20_loop.trips) (k0_t21 : Fin k0_t21_loop.trips) : Fin 5 → Nat :=
  let c0_i32_398 : BitVec 32 := 0#32
  let c0_i32_359 : BitVec 32 := 0#32
  let c1_i32_361 : BitVec 32 := 1#32
  let arg16 : BitVec 32 := Scf.iv c0_i32_359 c1_i32_361 k0_t20
  let c1_i32_397 : BitVec 32 := 1#32
  let v248 : BitVec 32 := Scalar.muli arg16 c1_i32_397
  let v249 : BitVec 32 := Scalar.addi c0_i32_398 v248
  let c4_i32_466 : BitVec 32 := 4#32
  let c0_i32_467 : BitVec 32 := 0#32
  let v371 : BitVec 1 := Scalar.cmpi .eq c4_i32_466 c0_i32_467
  let c1_i32_468 : BitVec 32 := 1#32
  let v372 : BitVec 32 := Scalar.select v371 c1_i32_468 c4_i32_466
  let v373 : BitVec 32 := Scalar.remsi v249 v372
  let c0_i32_470 : BitVec 32 := 0#32
  let v375 : BitVec 1 := Scalar.cmpi .slt v373 c0_i32_470
  let c0_i32_471 : BitVec 32 := 0#32
  let v376 : BitVec 1 := Scalar.cmpi .slt v372 c0_i32_471
  let v377 : BitVec 1 := Scalar.xori v375 v376
  let c0_i32_469 : BitVec 32 := 0#32
  let v374 : BitVec 1 := Scalar.cmpi .ne v373 c0_i32_469
  let v378 : BitVec 1 := Scalar.andi v377 v374
  let v379 : BitVec 32 := Scalar.addi v373 v372
  let v380 : BitVec 32 := Scalar.select v378 v379 v373
  let v981 : Index := Scalar.indexCast v380
  let c0_730 : Index := 0#32
  let c0_i32_547 : BitVec 32 := 0#32
  let c0_i32_478 : BitVec 32 := 0#32
  let c1_i32_480 : BitVec 32 := 1#32
  let arg17 : BitVec 32 := Scf.iv c0_i32_478 c1_i32_480 k0_t21
  let c1_i32_546 : BitVec 32 := 1#32
  let v500 : BitVec 32 := Scalar.muli arg17 c1_i32_546
  let v501 : BitVec 32 := Scalar.addi c0_i32_547 v500
  let v982 : Index := Scalar.indexCast v501
  let c256 : Index := 256#32
  let c0_731 : Index := 0#32
  ![v981.toNat, 0, v982.toNat, 256, 0]
def k0_off227 (v506 : BitVec 32) : Fin 5 → Nat :=
  let c0_732 : Index := 0#32
  let c16 : Index := 16#32
  let c0_i32_558 : BitVec 32 := 0#32
  let v525 : BitVec 1 := Scalar.cmpi .sgt v506 c0_i32_558
  let v526 : BitVec 32 := Scalar.extui v525
  let c0_i32_559 : BitVec 32 := 0#32
  let v527 : BitVec 1 := Scalar.cmpi .slt v506 c0_i32_559
  let v528 : BitVec 32 := Scalar.extui v527
  let v529 : BitVec 32 := Scalar.subi v526 v528
  let c128_i32_557 : BitVec 32 := 128#32
  let c0_i32_560 : BitVec 32 := 0#32
  let v530 : BitVec 1 := Scalar.cmpi .sgt c128_i32_557 c0_i32_560
  let v531 : BitVec 32 := Scalar.extui v530
  let c0_i32_561 : BitVec 32 := 0#32
  let v532 : BitVec 1 := Scalar.cmpi .slt c128_i32_557 c0_i32_561
  let v533 : BitVec 32 := Scalar.extui v532
  let v534 : BitVec 32 := Scalar.subi v531 v533
  let v535 : BitVec 1 := Scalar.cmpi .ne v529 v534
  let v536 : BitVec 32 := Scalar.remsi v506 c128_i32_557
  let c0_i32_562 : BitVec 32 := 0#32
  let v537 : BitVec 1 := Scalar.cmpi .ne v536 c0_i32_562
  let v538 : BitVec 1 := Scalar.andi v535 v537
  let v524 : BitVec 32 := Scalar.divsi v506 c128_i32_557
  let c1_i32_563 : BitVec 32 := 1#32
  let v539 : BitVec 32 := Scalar.subi v524 c1_i32_563
  let v540 : BitVec 32 := Scalar.select v538 v539 v524
  let v986 : Index := Scalar.indexCast v540
  let c0_733 : Index := 0#32
  let c0_734 : Index := 0#32
  ![0, 16, v986.toNat, 0, 0]
def k0_mult89 (k0_t21 : Fin k0_t21_loop.trips) : BitVec 32 :=
  let c0_i32_547 : BitVec 32 := 0#32
  let c0_i32_478 : BitVec 32 := 0#32
  let c1_i32_480 : BitVec 32 := 1#32
  let arg17 : BitVec 32 := Scf.iv c0_i32_478 c1_i32_480 k0_t21
  let c1_i32_546 : BitVec 32 := 1#32
  let v500 : BitVec 32 := Scalar.muli arg17 c1_i32_546
  let v501 : BitVec 32 := Scalar.addi c0_i32_547 v500
  let c16_i32_737 : BitVec 32 := 16#32
  let v1003 : BitVec 32 := Scalar.muli v501 c16_i32_737
  v1003
def k0_off228 (k0_t20 : Fin k0_t20_loop.trips) (k0_t21 : Fin k0_t21_loop.trips) : Fin 5 → Nat :=
  let c0_i32_398 : BitVec 32 := 0#32
  let c0_i32_359 : BitVec 32 := 0#32
  let c1_i32_361 : BitVec 32 := 1#32
  let arg16 : BitVec 32 := Scf.iv c0_i32_359 c1_i32_361 k0_t20
  let c1_i32_397 : BitVec 32 := 1#32
  let v248 : BitVec 32 := Scalar.muli arg16 c1_i32_397
  let v249 : BitVec 32 := Scalar.addi c0_i32_398 v248
  let c4_i32_472 : BitVec 32 := 4#32
  let c0_i32_473 : BitVec 32 := 0#32
  let v381 : BitVec 1 := Scalar.cmpi .eq c4_i32_472 c0_i32_473
  let c1_i32_474 : BitVec 32 := 1#32
  let v382 : BitVec 32 := Scalar.select v381 c1_i32_474 c4_i32_472
  let v383 : BitVec 32 := Scalar.remsi v249 v382
  let c0_i32_476 : BitVec 32 := 0#32
  let v385 : BitVec 1 := Scalar.cmpi .slt v383 c0_i32_476
  let c0_i32_477 : BitVec 32 := 0#32
  let v386 : BitVec 1 := Scalar.cmpi .slt v382 c0_i32_477
  let v387 : BitVec 1 := Scalar.xori v385 v386
  let c0_i32_475 : BitVec 32 := 0#32
  let v384 : BitVec 1 := Scalar.cmpi .ne v383 c0_i32_475
  let v388 : BitVec 1 := Scalar.andi v387 v384
  let v389 : BitVec 32 := Scalar.addi v383 v382
  let v390 : BitVec 32 := Scalar.select v388 v389 v383
  let v1005 : Index := Scalar.indexCast v390
  let c0_738 : Index := 0#32
  let c16_739 : Index := 16#32
  let c0_i32_547 : BitVec 32 := 0#32
  let c0_i32_478 : BitVec 32 := 0#32
  let c1_i32_480 : BitVec 32 := 1#32
  let arg17 : BitVec 32 := Scf.iv c0_i32_478 c1_i32_480 k0_t21
  let c1_i32_546 : BitVec 32 := 1#32
  let v500 : BitVec 32 := Scalar.muli arg17 c1_i32_546
  let v501 : BitVec 32 := Scalar.addi c0_i32_547 v500
  let c16_i32_737 : BitVec 32 := 16#32
  let v1003 : BitVec 32 := Scalar.muli v501 c16_i32_737
  let v1004 : BitVec 32 := v1003
  let v1006 : Index := Scalar.indexCast v1004
  let c0_740 : Index := 0#32
  ![v1005.toNat, 0, 16, v1006.toNat, 0]
def k0_off229 (v506 : BitVec 32) : Fin 5 → Nat :=
  let c0_741 : Index := 0#32
  let c17 : Index := 17#32
  let c0_i32_558 : BitVec 32 := 0#32
  let v525 : BitVec 1 := Scalar.cmpi .sgt v506 c0_i32_558
  let v526 : BitVec 32 := Scalar.extui v525
  let c0_i32_559 : BitVec 32 := 0#32
  let v527 : BitVec 1 := Scalar.cmpi .slt v506 c0_i32_559
  let v528 : BitVec 32 := Scalar.extui v527
  let v529 : BitVec 32 := Scalar.subi v526 v528
  let c128_i32_557 : BitVec 32 := 128#32
  let c0_i32_560 : BitVec 32 := 0#32
  let v530 : BitVec 1 := Scalar.cmpi .sgt c128_i32_557 c0_i32_560
  let v531 : BitVec 32 := Scalar.extui v530
  let c0_i32_561 : BitVec 32 := 0#32
  let v532 : BitVec 1 := Scalar.cmpi .slt c128_i32_557 c0_i32_561
  let v533 : BitVec 32 := Scalar.extui v532
  let v534 : BitVec 32 := Scalar.subi v531 v533
  let v535 : BitVec 1 := Scalar.cmpi .ne v529 v534
  let v536 : BitVec 32 := Scalar.remsi v506 c128_i32_557
  let c0_i32_562 : BitVec 32 := 0#32
  let v537 : BitVec 1 := Scalar.cmpi .ne v536 c0_i32_562
  let v538 : BitVec 1 := Scalar.andi v535 v537
  let v524 : BitVec 32 := Scalar.divsi v506 c128_i32_557
  let c1_i32_563 : BitVec 32 := 1#32
  let v539 : BitVec 32 := Scalar.subi v524 c1_i32_563
  let v540 : BitVec 32 := Scalar.select v538 v539 v524
  let v1010 : Index := Scalar.indexCast v540
  let c0_742 : Index := 0#32
  let c0_743 : Index := 0#32
  ![0, 17, v1010.toNat, 0, 0]
def k0_mult90 (k0_t21 : Fin k0_t21_loop.trips) : BitVec 32 :=
  let c0_i32_547 : BitVec 32 := 0#32
  let c0_i32_478 : BitVec 32 := 0#32
  let c1_i32_480 : BitVec 32 := 1#32
  let arg17 : BitVec 32 := Scf.iv c0_i32_478 c1_i32_480 k0_t21
  let c1_i32_546 : BitVec 32 := 1#32
  let v500 : BitVec 32 := Scalar.muli arg17 c1_i32_546
  let v501 : BitVec 32 := Scalar.addi c0_i32_547 v500
  let c16_i32_746 : BitVec 32 := 16#32
  let v1027 : BitVec 32 := Scalar.muli v501 c16_i32_746
  v1027
def k0_off230 (k0_t20 : Fin k0_t20_loop.trips) (k0_t21 : Fin k0_t21_loop.trips) : Fin 5 → Nat :=
  let c0_i32_398 : BitVec 32 := 0#32
  let c0_i32_359 : BitVec 32 := 0#32
  let c1_i32_361 : BitVec 32 := 1#32
  let arg16 : BitVec 32 := Scf.iv c0_i32_359 c1_i32_361 k0_t20
  let c1_i32_397 : BitVec 32 := 1#32
  let v248 : BitVec 32 := Scalar.muli arg16 c1_i32_397
  let v249 : BitVec 32 := Scalar.addi c0_i32_398 v248
  let c4_i32_472 : BitVec 32 := 4#32
  let c0_i32_473 : BitVec 32 := 0#32
  let v381 : BitVec 1 := Scalar.cmpi .eq c4_i32_472 c0_i32_473
  let c1_i32_474 : BitVec 32 := 1#32
  let v382 : BitVec 32 := Scalar.select v381 c1_i32_474 c4_i32_472
  let v383 : BitVec 32 := Scalar.remsi v249 v382
  let c0_i32_476 : BitVec 32 := 0#32
  let v385 : BitVec 1 := Scalar.cmpi .slt v383 c0_i32_476
  let c0_i32_477 : BitVec 32 := 0#32
  let v386 : BitVec 1 := Scalar.cmpi .slt v382 c0_i32_477
  let v387 : BitVec 1 := Scalar.xori v385 v386
  let c0_i32_475 : BitVec 32 := 0#32
  let v384 : BitVec 1 := Scalar.cmpi .ne v383 c0_i32_475
  let v388 : BitVec 1 := Scalar.andi v387 v384
  let v389 : BitVec 32 := Scalar.addi v383 v382
  let v390 : BitVec 32 := Scalar.select v388 v389 v383
  let v1029 : Index := Scalar.indexCast v390
  let c0_747 : Index := 0#32
  let c17_748 : Index := 17#32
  let c0_i32_547 : BitVec 32 := 0#32
  let c0_i32_478 : BitVec 32 := 0#32
  let c1_i32_480 : BitVec 32 := 1#32
  let arg17 : BitVec 32 := Scf.iv c0_i32_478 c1_i32_480 k0_t21
  let c1_i32_546 : BitVec 32 := 1#32
  let v500 : BitVec 32 := Scalar.muli arg17 c1_i32_546
  let v501 : BitVec 32 := Scalar.addi c0_i32_547 v500
  let c16_i32_746 : BitVec 32 := 16#32
  let v1027 : BitVec 32 := Scalar.muli v501 c16_i32_746
  let v1028 : BitVec 32 := v1027
  let v1030 : Index := Scalar.indexCast v1028
  let c0_749 : Index := 0#32
  ![v1029.toNat, 0, 17, v1030.toNat, 0]
def k0_off231 (k0_t20 : Fin k0_t20_loop.trips) (k0_t21 : Fin k0_t21_loop.trips) : Fin 5 → Nat :=
  let c0_i32_398 : BitVec 32 := 0#32
  let c0_i32_359 : BitVec 32 := 0#32
  let c1_i32_361 : BitVec 32 := 1#32
  let arg16 : BitVec 32 := Scf.iv c0_i32_359 c1_i32_361 k0_t20
  let c1_i32_397 : BitVec 32 := 1#32
  let v248 : BitVec 32 := Scalar.muli arg16 c1_i32_397
  let v249 : BitVec 32 := Scalar.addi c0_i32_398 v248
  let c4_i32_466 : BitVec 32 := 4#32
  let c0_i32_467 : BitVec 32 := 0#32
  let v371 : BitVec 1 := Scalar.cmpi .eq c4_i32_466 c0_i32_467
  let c1_i32_468 : BitVec 32 := 1#32
  let v372 : BitVec 32 := Scalar.select v371 c1_i32_468 c4_i32_466
  let v373 : BitVec 32 := Scalar.remsi v249 v372
  let c0_i32_470 : BitVec 32 := 0#32
  let v375 : BitVec 1 := Scalar.cmpi .slt v373 c0_i32_470
  let c0_i32_471 : BitVec 32 := 0#32
  let v376 : BitVec 1 := Scalar.cmpi .slt v372 c0_i32_471
  let v377 : BitVec 1 := Scalar.xori v375 v376
  let c0_i32_469 : BitVec 32 := 0#32
  let v374 : BitVec 1 := Scalar.cmpi .ne v373 c0_i32_469
  let v378 : BitVec 1 := Scalar.andi v377 v374
  let v379 : BitVec 32 := Scalar.addi v373 v372
  let v380 : BitVec 32 := Scalar.select v378 v379 v373
  let v1034 : Index := Scalar.indexCast v380
  let c0_750 : Index := 0#32
  let c0_i32_547 : BitVec 32 := 0#32
  let c0_i32_478 : BitVec 32 := 0#32
  let c1_i32_480 : BitVec 32 := 1#32
  let arg17 : BitVec 32 := Scf.iv c0_i32_478 c1_i32_480 k0_t21
  let c1_i32_546 : BitVec 32 := 1#32
  let v500 : BitVec 32 := Scalar.muli arg17 c1_i32_546
  let v501 : BitVec 32 := Scalar.addi c0_i32_547 v500
  let v1035 : Index := Scalar.indexCast v501
  let c288 : Index := 288#32
  let c0_751 : Index := 0#32
  ![v1034.toNat, 0, v1035.toNat, 288, 0]
def k0_off232 (v506 : BitVec 32) : Fin 5 → Nat :=
  let c0_752 : Index := 0#32
  let c18 : Index := 18#32
  let c0_i32_558 : BitVec 32 := 0#32
  let v525 : BitVec 1 := Scalar.cmpi .sgt v506 c0_i32_558
  let v526 : BitVec 32 := Scalar.extui v525
  let c0_i32_559 : BitVec 32 := 0#32
  let v527 : BitVec 1 := Scalar.cmpi .slt v506 c0_i32_559
  let v528 : BitVec 32 := Scalar.extui v527
  let v529 : BitVec 32 := Scalar.subi v526 v528
  let c128_i32_557 : BitVec 32 := 128#32
  let c0_i32_560 : BitVec 32 := 0#32
  let v530 : BitVec 1 := Scalar.cmpi .sgt c128_i32_557 c0_i32_560
  let v531 : BitVec 32 := Scalar.extui v530
  let c0_i32_561 : BitVec 32 := 0#32
  let v532 : BitVec 1 := Scalar.cmpi .slt c128_i32_557 c0_i32_561
  let v533 : BitVec 32 := Scalar.extui v532
  let v534 : BitVec 32 := Scalar.subi v531 v533
  let v535 : BitVec 1 := Scalar.cmpi .ne v529 v534
  let v536 : BitVec 32 := Scalar.remsi v506 c128_i32_557
  let c0_i32_562 : BitVec 32 := 0#32
  let v537 : BitVec 1 := Scalar.cmpi .ne v536 c0_i32_562
  let v538 : BitVec 1 := Scalar.andi v535 v537
  let v524 : BitVec 32 := Scalar.divsi v506 c128_i32_557
  let c1_i32_563 : BitVec 32 := 1#32
  let v539 : BitVec 32 := Scalar.subi v524 c1_i32_563
  let v540 : BitVec 32 := Scalar.select v538 v539 v524
  let v1039 : Index := Scalar.indexCast v540
  let c0_753 : Index := 0#32
  let c0_754 : Index := 0#32
  ![0, 18, v1039.toNat, 0, 0]
def k0_mult91 (k0_t21 : Fin k0_t21_loop.trips) : BitVec 32 :=
  let c0_i32_547 : BitVec 32 := 0#32
  let c0_i32_478 : BitVec 32 := 0#32
  let c1_i32_480 : BitVec 32 := 1#32
  let arg17 : BitVec 32 := Scf.iv c0_i32_478 c1_i32_480 k0_t21
  let c1_i32_546 : BitVec 32 := 1#32
  let v500 : BitVec 32 := Scalar.muli arg17 c1_i32_546
  let v501 : BitVec 32 := Scalar.addi c0_i32_547 v500
  let c16_i32_757 : BitVec 32 := 16#32
  let v1056 : BitVec 32 := Scalar.muli v501 c16_i32_757
  v1056
def k0_off233 (k0_t20 : Fin k0_t20_loop.trips) (k0_t21 : Fin k0_t21_loop.trips) : Fin 5 → Nat :=
  let c0_i32_398 : BitVec 32 := 0#32
  let c0_i32_359 : BitVec 32 := 0#32
  let c1_i32_361 : BitVec 32 := 1#32
  let arg16 : BitVec 32 := Scf.iv c0_i32_359 c1_i32_361 k0_t20
  let c1_i32_397 : BitVec 32 := 1#32
  let v248 : BitVec 32 := Scalar.muli arg16 c1_i32_397
  let v249 : BitVec 32 := Scalar.addi c0_i32_398 v248
  let c4_i32_472 : BitVec 32 := 4#32
  let c0_i32_473 : BitVec 32 := 0#32
  let v381 : BitVec 1 := Scalar.cmpi .eq c4_i32_472 c0_i32_473
  let c1_i32_474 : BitVec 32 := 1#32
  let v382 : BitVec 32 := Scalar.select v381 c1_i32_474 c4_i32_472
  let v383 : BitVec 32 := Scalar.remsi v249 v382
  let c0_i32_476 : BitVec 32 := 0#32
  let v385 : BitVec 1 := Scalar.cmpi .slt v383 c0_i32_476
  let c0_i32_477 : BitVec 32 := 0#32
  let v386 : BitVec 1 := Scalar.cmpi .slt v382 c0_i32_477
  let v387 : BitVec 1 := Scalar.xori v385 v386
  let c0_i32_475 : BitVec 32 := 0#32
  let v384 : BitVec 1 := Scalar.cmpi .ne v383 c0_i32_475
  let v388 : BitVec 1 := Scalar.andi v387 v384
  let v389 : BitVec 32 := Scalar.addi v383 v382
  let v390 : BitVec 32 := Scalar.select v388 v389 v383
  let v1058 : Index := Scalar.indexCast v390
  let c0_758 : Index := 0#32
  let c18_759 : Index := 18#32
  let c0_i32_547 : BitVec 32 := 0#32
  let c0_i32_478 : BitVec 32 := 0#32
  let c1_i32_480 : BitVec 32 := 1#32
  let arg17 : BitVec 32 := Scf.iv c0_i32_478 c1_i32_480 k0_t21
  let c1_i32_546 : BitVec 32 := 1#32
  let v500 : BitVec 32 := Scalar.muli arg17 c1_i32_546
  let v501 : BitVec 32 := Scalar.addi c0_i32_547 v500
  let c16_i32_757 : BitVec 32 := 16#32
  let v1056 : BitVec 32 := Scalar.muli v501 c16_i32_757
  let v1057 : BitVec 32 := v1056
  let v1059 : Index := Scalar.indexCast v1057
  let c0_760 : Index := 0#32
  ![v1058.toNat, 0, 18, v1059.toNat, 0]
def k0_off234 (v506 : BitVec 32) : Fin 5 → Nat :=
  let c0_761 : Index := 0#32
  let c19 : Index := 19#32
  let c0_i32_558 : BitVec 32 := 0#32
  let v525 : BitVec 1 := Scalar.cmpi .sgt v506 c0_i32_558
  let v526 : BitVec 32 := Scalar.extui v525
  let c0_i32_559 : BitVec 32 := 0#32
  let v527 : BitVec 1 := Scalar.cmpi .slt v506 c0_i32_559
  let v528 : BitVec 32 := Scalar.extui v527
  let v529 : BitVec 32 := Scalar.subi v526 v528
  let c128_i32_557 : BitVec 32 := 128#32
  let c0_i32_560 : BitVec 32 := 0#32
  let v530 : BitVec 1 := Scalar.cmpi .sgt c128_i32_557 c0_i32_560
  let v531 : BitVec 32 := Scalar.extui v530
  let c0_i32_561 : BitVec 32 := 0#32
  let v532 : BitVec 1 := Scalar.cmpi .slt c128_i32_557 c0_i32_561
  let v533 : BitVec 32 := Scalar.extui v532
  let v534 : BitVec 32 := Scalar.subi v531 v533
  let v535 : BitVec 1 := Scalar.cmpi .ne v529 v534
  let v536 : BitVec 32 := Scalar.remsi v506 c128_i32_557
  let c0_i32_562 : BitVec 32 := 0#32
  let v537 : BitVec 1 := Scalar.cmpi .ne v536 c0_i32_562
  let v538 : BitVec 1 := Scalar.andi v535 v537
  let v524 : BitVec 32 := Scalar.divsi v506 c128_i32_557
  let c1_i32_563 : BitVec 32 := 1#32
  let v539 : BitVec 32 := Scalar.subi v524 c1_i32_563
  let v540 : BitVec 32 := Scalar.select v538 v539 v524
  let v1063 : Index := Scalar.indexCast v540
  let c0_762 : Index := 0#32
  let c0_763 : Index := 0#32
  ![0, 19, v1063.toNat, 0, 0]
def k0_mult92 (k0_t21 : Fin k0_t21_loop.trips) : BitVec 32 :=
  let c0_i32_547 : BitVec 32 := 0#32
  let c0_i32_478 : BitVec 32 := 0#32
  let c1_i32_480 : BitVec 32 := 1#32
  let arg17 : BitVec 32 := Scf.iv c0_i32_478 c1_i32_480 k0_t21
  let c1_i32_546 : BitVec 32 := 1#32
  let v500 : BitVec 32 := Scalar.muli arg17 c1_i32_546
  let v501 : BitVec 32 := Scalar.addi c0_i32_547 v500
  let c16_i32_766 : BitVec 32 := 16#32
  let v1080 : BitVec 32 := Scalar.muli v501 c16_i32_766
  v1080
def k0_off235 (k0_t20 : Fin k0_t20_loop.trips) (k0_t21 : Fin k0_t21_loop.trips) : Fin 5 → Nat :=
  let c0_i32_398 : BitVec 32 := 0#32
  let c0_i32_359 : BitVec 32 := 0#32
  let c1_i32_361 : BitVec 32 := 1#32
  let arg16 : BitVec 32 := Scf.iv c0_i32_359 c1_i32_361 k0_t20
  let c1_i32_397 : BitVec 32 := 1#32
  let v248 : BitVec 32 := Scalar.muli arg16 c1_i32_397
  let v249 : BitVec 32 := Scalar.addi c0_i32_398 v248
  let c4_i32_472 : BitVec 32 := 4#32
  let c0_i32_473 : BitVec 32 := 0#32
  let v381 : BitVec 1 := Scalar.cmpi .eq c4_i32_472 c0_i32_473
  let c1_i32_474 : BitVec 32 := 1#32
  let v382 : BitVec 32 := Scalar.select v381 c1_i32_474 c4_i32_472
  let v383 : BitVec 32 := Scalar.remsi v249 v382
  let c0_i32_476 : BitVec 32 := 0#32
  let v385 : BitVec 1 := Scalar.cmpi .slt v383 c0_i32_476
  let c0_i32_477 : BitVec 32 := 0#32
  let v386 : BitVec 1 := Scalar.cmpi .slt v382 c0_i32_477
  let v387 : BitVec 1 := Scalar.xori v385 v386
  let c0_i32_475 : BitVec 32 := 0#32
  let v384 : BitVec 1 := Scalar.cmpi .ne v383 c0_i32_475
  let v388 : BitVec 1 := Scalar.andi v387 v384
  let v389 : BitVec 32 := Scalar.addi v383 v382
  let v390 : BitVec 32 := Scalar.select v388 v389 v383
  let v1082 : Index := Scalar.indexCast v390
  let c0_767 : Index := 0#32
  let c19_768 : Index := 19#32
  let c0_i32_547 : BitVec 32 := 0#32
  let c0_i32_478 : BitVec 32 := 0#32
  let c1_i32_480 : BitVec 32 := 1#32
  let arg17 : BitVec 32 := Scf.iv c0_i32_478 c1_i32_480 k0_t21
  let c1_i32_546 : BitVec 32 := 1#32
  let v500 : BitVec 32 := Scalar.muli arg17 c1_i32_546
  let v501 : BitVec 32 := Scalar.addi c0_i32_547 v500
  let c16_i32_766 : BitVec 32 := 16#32
  let v1080 : BitVec 32 := Scalar.muli v501 c16_i32_766
  let v1081 : BitVec 32 := v1080
  let v1083 : Index := Scalar.indexCast v1081
  let c0_769 : Index := 0#32
  ![v1082.toNat, 0, 19, v1083.toNat, 0]
def k0_off236 (k0_t20 : Fin k0_t20_loop.trips) (k0_t21 : Fin k0_t21_loop.trips) : Fin 5 → Nat :=
  let c0_i32_398 : BitVec 32 := 0#32
  let c0_i32_359 : BitVec 32 := 0#32
  let c1_i32_361 : BitVec 32 := 1#32
  let arg16 : BitVec 32 := Scf.iv c0_i32_359 c1_i32_361 k0_t20
  let c1_i32_397 : BitVec 32 := 1#32
  let v248 : BitVec 32 := Scalar.muli arg16 c1_i32_397
  let v249 : BitVec 32 := Scalar.addi c0_i32_398 v248
  let c4_i32_466 : BitVec 32 := 4#32
  let c0_i32_467 : BitVec 32 := 0#32
  let v371 : BitVec 1 := Scalar.cmpi .eq c4_i32_466 c0_i32_467
  let c1_i32_468 : BitVec 32 := 1#32
  let v372 : BitVec 32 := Scalar.select v371 c1_i32_468 c4_i32_466
  let v373 : BitVec 32 := Scalar.remsi v249 v372
  let c0_i32_470 : BitVec 32 := 0#32
  let v375 : BitVec 1 := Scalar.cmpi .slt v373 c0_i32_470
  let c0_i32_471 : BitVec 32 := 0#32
  let v376 : BitVec 1 := Scalar.cmpi .slt v372 c0_i32_471
  let v377 : BitVec 1 := Scalar.xori v375 v376
  let c0_i32_469 : BitVec 32 := 0#32
  let v374 : BitVec 1 := Scalar.cmpi .ne v373 c0_i32_469
  let v378 : BitVec 1 := Scalar.andi v377 v374
  let v379 : BitVec 32 := Scalar.addi v373 v372
  let v380 : BitVec 32 := Scalar.select v378 v379 v373
  let v1087 : Index := Scalar.indexCast v380
  let c0_770 : Index := 0#32
  let c0_i32_547 : BitVec 32 := 0#32
  let c0_i32_478 : BitVec 32 := 0#32
  let c1_i32_480 : BitVec 32 := 1#32
  let arg17 : BitVec 32 := Scf.iv c0_i32_478 c1_i32_480 k0_t21
  let c1_i32_546 : BitVec 32 := 1#32
  let v500 : BitVec 32 := Scalar.muli arg17 c1_i32_546
  let v501 : BitVec 32 := Scalar.addi c0_i32_547 v500
  let v1088 : Index := Scalar.indexCast v501
  let c320 : Index := 320#32
  let c0_771 : Index := 0#32
  ![v1087.toNat, 0, v1088.toNat, 320, 0]
def k0_off237 (v506 : BitVec 32) : Fin 5 → Nat :=
  let c0_772 : Index := 0#32
  let c20 : Index := 20#32
  let c0_i32_558 : BitVec 32 := 0#32
  let v525 : BitVec 1 := Scalar.cmpi .sgt v506 c0_i32_558
  let v526 : BitVec 32 := Scalar.extui v525
  let c0_i32_559 : BitVec 32 := 0#32
  let v527 : BitVec 1 := Scalar.cmpi .slt v506 c0_i32_559
  let v528 : BitVec 32 := Scalar.extui v527
  let v529 : BitVec 32 := Scalar.subi v526 v528
  let c128_i32_557 : BitVec 32 := 128#32
  let c0_i32_560 : BitVec 32 := 0#32
  let v530 : BitVec 1 := Scalar.cmpi .sgt c128_i32_557 c0_i32_560
  let v531 : BitVec 32 := Scalar.extui v530
  let c0_i32_561 : BitVec 32 := 0#32
  let v532 : BitVec 1 := Scalar.cmpi .slt c128_i32_557 c0_i32_561
  let v533 : BitVec 32 := Scalar.extui v532
  let v534 : BitVec 32 := Scalar.subi v531 v533
  let v535 : BitVec 1 := Scalar.cmpi .ne v529 v534
  let v536 : BitVec 32 := Scalar.remsi v506 c128_i32_557
  let c0_i32_562 : BitVec 32 := 0#32
  let v537 : BitVec 1 := Scalar.cmpi .ne v536 c0_i32_562
  let v538 : BitVec 1 := Scalar.andi v535 v537
  let v524 : BitVec 32 := Scalar.divsi v506 c128_i32_557
  let c1_i32_563 : BitVec 32 := 1#32
  let v539 : BitVec 32 := Scalar.subi v524 c1_i32_563
  let v540 : BitVec 32 := Scalar.select v538 v539 v524
  let v1092 : Index := Scalar.indexCast v540
  let c0_773 : Index := 0#32
  let c0_774 : Index := 0#32
  ![0, 20, v1092.toNat, 0, 0]
def k0_mult93 (k0_t21 : Fin k0_t21_loop.trips) : BitVec 32 :=
  let c0_i32_547 : BitVec 32 := 0#32
  let c0_i32_478 : BitVec 32 := 0#32
  let c1_i32_480 : BitVec 32 := 1#32
  let arg17 : BitVec 32 := Scf.iv c0_i32_478 c1_i32_480 k0_t21
  let c1_i32_546 : BitVec 32 := 1#32
  let v500 : BitVec 32 := Scalar.muli arg17 c1_i32_546
  let v501 : BitVec 32 := Scalar.addi c0_i32_547 v500
  let c16_i32_777 : BitVec 32 := 16#32
  let v1109 : BitVec 32 := Scalar.muli v501 c16_i32_777
  v1109
def k0_off238 (k0_t20 : Fin k0_t20_loop.trips) (k0_t21 : Fin k0_t21_loop.trips) : Fin 5 → Nat :=
  let c0_i32_398 : BitVec 32 := 0#32
  let c0_i32_359 : BitVec 32 := 0#32
  let c1_i32_361 : BitVec 32 := 1#32
  let arg16 : BitVec 32 := Scf.iv c0_i32_359 c1_i32_361 k0_t20
  let c1_i32_397 : BitVec 32 := 1#32
  let v248 : BitVec 32 := Scalar.muli arg16 c1_i32_397
  let v249 : BitVec 32 := Scalar.addi c0_i32_398 v248
  let c4_i32_472 : BitVec 32 := 4#32
  let c0_i32_473 : BitVec 32 := 0#32
  let v381 : BitVec 1 := Scalar.cmpi .eq c4_i32_472 c0_i32_473
  let c1_i32_474 : BitVec 32 := 1#32
  let v382 : BitVec 32 := Scalar.select v381 c1_i32_474 c4_i32_472
  let v383 : BitVec 32 := Scalar.remsi v249 v382
  let c0_i32_476 : BitVec 32 := 0#32
  let v385 : BitVec 1 := Scalar.cmpi .slt v383 c0_i32_476
  let c0_i32_477 : BitVec 32 := 0#32
  let v386 : BitVec 1 := Scalar.cmpi .slt v382 c0_i32_477
  let v387 : BitVec 1 := Scalar.xori v385 v386
  let c0_i32_475 : BitVec 32 := 0#32
  let v384 : BitVec 1 := Scalar.cmpi .ne v383 c0_i32_475
  let v388 : BitVec 1 := Scalar.andi v387 v384
  let v389 : BitVec 32 := Scalar.addi v383 v382
  let v390 : BitVec 32 := Scalar.select v388 v389 v383
  let v1111 : Index := Scalar.indexCast v390
  let c0_778 : Index := 0#32
  let c20_779 : Index := 20#32
  let c0_i32_547 : BitVec 32 := 0#32
  let c0_i32_478 : BitVec 32 := 0#32
  let c1_i32_480 : BitVec 32 := 1#32
  let arg17 : BitVec 32 := Scf.iv c0_i32_478 c1_i32_480 k0_t21
  let c1_i32_546 : BitVec 32 := 1#32
  let v500 : BitVec 32 := Scalar.muli arg17 c1_i32_546
  let v501 : BitVec 32 := Scalar.addi c0_i32_547 v500
  let c16_i32_777 : BitVec 32 := 16#32
  let v1109 : BitVec 32 := Scalar.muli v501 c16_i32_777
  let v1110 : BitVec 32 := v1109
  let v1112 : Index := Scalar.indexCast v1110
  let c0_780 : Index := 0#32
  ![v1111.toNat, 0, 20, v1112.toNat, 0]
def k0_off239 (v506 : BitVec 32) : Fin 5 → Nat :=
  let c0_781 : Index := 0#32
  let c21 : Index := 21#32
  let c0_i32_558 : BitVec 32 := 0#32
  let v525 : BitVec 1 := Scalar.cmpi .sgt v506 c0_i32_558
  let v526 : BitVec 32 := Scalar.extui v525
  let c0_i32_559 : BitVec 32 := 0#32
  let v527 : BitVec 1 := Scalar.cmpi .slt v506 c0_i32_559
  let v528 : BitVec 32 := Scalar.extui v527
  let v529 : BitVec 32 := Scalar.subi v526 v528
  let c128_i32_557 : BitVec 32 := 128#32
  let c0_i32_560 : BitVec 32 := 0#32
  let v530 : BitVec 1 := Scalar.cmpi .sgt c128_i32_557 c0_i32_560
  let v531 : BitVec 32 := Scalar.extui v530
  let c0_i32_561 : BitVec 32 := 0#32
  let v532 : BitVec 1 := Scalar.cmpi .slt c128_i32_557 c0_i32_561
  let v533 : BitVec 32 := Scalar.extui v532
  let v534 : BitVec 32 := Scalar.subi v531 v533
  let v535 : BitVec 1 := Scalar.cmpi .ne v529 v534
  let v536 : BitVec 32 := Scalar.remsi v506 c128_i32_557
  let c0_i32_562 : BitVec 32 := 0#32
  let v537 : BitVec 1 := Scalar.cmpi .ne v536 c0_i32_562
  let v538 : BitVec 1 := Scalar.andi v535 v537
  let v524 : BitVec 32 := Scalar.divsi v506 c128_i32_557
  let c1_i32_563 : BitVec 32 := 1#32
  let v539 : BitVec 32 := Scalar.subi v524 c1_i32_563
  let v540 : BitVec 32 := Scalar.select v538 v539 v524
  let v1116 : Index := Scalar.indexCast v540
  let c0_782 : Index := 0#32
  let c0_783 : Index := 0#32
  ![0, 21, v1116.toNat, 0, 0]
def k0_mult94 (k0_t21 : Fin k0_t21_loop.trips) : BitVec 32 :=
  let c0_i32_547 : BitVec 32 := 0#32
  let c0_i32_478 : BitVec 32 := 0#32
  let c1_i32_480 : BitVec 32 := 1#32
  let arg17 : BitVec 32 := Scf.iv c0_i32_478 c1_i32_480 k0_t21
  let c1_i32_546 : BitVec 32 := 1#32
  let v500 : BitVec 32 := Scalar.muli arg17 c1_i32_546
  let v501 : BitVec 32 := Scalar.addi c0_i32_547 v500
  let c16_i32_786 : BitVec 32 := 16#32
  let v1133 : BitVec 32 := Scalar.muli v501 c16_i32_786
  v1133
def k0_off240 (k0_t20 : Fin k0_t20_loop.trips) (k0_t21 : Fin k0_t21_loop.trips) : Fin 5 → Nat :=
  let c0_i32_398 : BitVec 32 := 0#32
  let c0_i32_359 : BitVec 32 := 0#32
  let c1_i32_361 : BitVec 32 := 1#32
  let arg16 : BitVec 32 := Scf.iv c0_i32_359 c1_i32_361 k0_t20
  let c1_i32_397 : BitVec 32 := 1#32
  let v248 : BitVec 32 := Scalar.muli arg16 c1_i32_397
  let v249 : BitVec 32 := Scalar.addi c0_i32_398 v248
  let c4_i32_472 : BitVec 32 := 4#32
  let c0_i32_473 : BitVec 32 := 0#32
  let v381 : BitVec 1 := Scalar.cmpi .eq c4_i32_472 c0_i32_473
  let c1_i32_474 : BitVec 32 := 1#32
  let v382 : BitVec 32 := Scalar.select v381 c1_i32_474 c4_i32_472
  let v383 : BitVec 32 := Scalar.remsi v249 v382
  let c0_i32_476 : BitVec 32 := 0#32
  let v385 : BitVec 1 := Scalar.cmpi .slt v383 c0_i32_476
  let c0_i32_477 : BitVec 32 := 0#32
  let v386 : BitVec 1 := Scalar.cmpi .slt v382 c0_i32_477
  let v387 : BitVec 1 := Scalar.xori v385 v386
  let c0_i32_475 : BitVec 32 := 0#32
  let v384 : BitVec 1 := Scalar.cmpi .ne v383 c0_i32_475
  let v388 : BitVec 1 := Scalar.andi v387 v384
  let v389 : BitVec 32 := Scalar.addi v383 v382
  let v390 : BitVec 32 := Scalar.select v388 v389 v383
  let v1135 : Index := Scalar.indexCast v390
  let c0_787 : Index := 0#32
  let c21_788 : Index := 21#32
  let c0_i32_547 : BitVec 32 := 0#32
  let c0_i32_478 : BitVec 32 := 0#32
  let c1_i32_480 : BitVec 32 := 1#32
  let arg17 : BitVec 32 := Scf.iv c0_i32_478 c1_i32_480 k0_t21
  let c1_i32_546 : BitVec 32 := 1#32
  let v500 : BitVec 32 := Scalar.muli arg17 c1_i32_546
  let v501 : BitVec 32 := Scalar.addi c0_i32_547 v500
  let c16_i32_786 : BitVec 32 := 16#32
  let v1133 : BitVec 32 := Scalar.muli v501 c16_i32_786
  let v1134 : BitVec 32 := v1133
  let v1136 : Index := Scalar.indexCast v1134
  let c0_789 : Index := 0#32
  ![v1135.toNat, 0, 21, v1136.toNat, 0]
def k0_off241 (k0_t20 : Fin k0_t20_loop.trips) (k0_t21 : Fin k0_t21_loop.trips) : Fin 5 → Nat :=
  let c0_i32_398 : BitVec 32 := 0#32
  let c0_i32_359 : BitVec 32 := 0#32
  let c1_i32_361 : BitVec 32 := 1#32
  let arg16 : BitVec 32 := Scf.iv c0_i32_359 c1_i32_361 k0_t20
  let c1_i32_397 : BitVec 32 := 1#32
  let v248 : BitVec 32 := Scalar.muli arg16 c1_i32_397
  let v249 : BitVec 32 := Scalar.addi c0_i32_398 v248
  let c4_i32_466 : BitVec 32 := 4#32
  let c0_i32_467 : BitVec 32 := 0#32
  let v371 : BitVec 1 := Scalar.cmpi .eq c4_i32_466 c0_i32_467
  let c1_i32_468 : BitVec 32 := 1#32
  let v372 : BitVec 32 := Scalar.select v371 c1_i32_468 c4_i32_466
  let v373 : BitVec 32 := Scalar.remsi v249 v372
  let c0_i32_470 : BitVec 32 := 0#32
  let v375 : BitVec 1 := Scalar.cmpi .slt v373 c0_i32_470
  let c0_i32_471 : BitVec 32 := 0#32
  let v376 : BitVec 1 := Scalar.cmpi .slt v372 c0_i32_471
  let v377 : BitVec 1 := Scalar.xori v375 v376
  let c0_i32_469 : BitVec 32 := 0#32
  let v374 : BitVec 1 := Scalar.cmpi .ne v373 c0_i32_469
  let v378 : BitVec 1 := Scalar.andi v377 v374
  let v379 : BitVec 32 := Scalar.addi v373 v372
  let v380 : BitVec 32 := Scalar.select v378 v379 v373
  let v1140 : Index := Scalar.indexCast v380
  let c0_790 : Index := 0#32
  let c0_i32_547 : BitVec 32 := 0#32
  let c0_i32_478 : BitVec 32 := 0#32
  let c1_i32_480 : BitVec 32 := 1#32
  let arg17 : BitVec 32 := Scf.iv c0_i32_478 c1_i32_480 k0_t21
  let c1_i32_546 : BitVec 32 := 1#32
  let v500 : BitVec 32 := Scalar.muli arg17 c1_i32_546
  let v501 : BitVec 32 := Scalar.addi c0_i32_547 v500
  let v1141 : Index := Scalar.indexCast v501
  let c352 : Index := 352#32
  let c0_791 : Index := 0#32
  ![v1140.toNat, 0, v1141.toNat, 352, 0]
def k0_off242 (v506 : BitVec 32) : Fin 5 → Nat :=
  let c0_792 : Index := 0#32
  let c22 : Index := 22#32
  let c0_i32_558 : BitVec 32 := 0#32
  let v525 : BitVec 1 := Scalar.cmpi .sgt v506 c0_i32_558
  let v526 : BitVec 32 := Scalar.extui v525
  let c0_i32_559 : BitVec 32 := 0#32
  let v527 : BitVec 1 := Scalar.cmpi .slt v506 c0_i32_559
  let v528 : BitVec 32 := Scalar.extui v527
  let v529 : BitVec 32 := Scalar.subi v526 v528
  let c128_i32_557 : BitVec 32 := 128#32
  let c0_i32_560 : BitVec 32 := 0#32
  let v530 : BitVec 1 := Scalar.cmpi .sgt c128_i32_557 c0_i32_560
  let v531 : BitVec 32 := Scalar.extui v530
  let c0_i32_561 : BitVec 32 := 0#32
  let v532 : BitVec 1 := Scalar.cmpi .slt c128_i32_557 c0_i32_561
  let v533 : BitVec 32 := Scalar.extui v532
  let v534 : BitVec 32 := Scalar.subi v531 v533
  let v535 : BitVec 1 := Scalar.cmpi .ne v529 v534
  let v536 : BitVec 32 := Scalar.remsi v506 c128_i32_557
  let c0_i32_562 : BitVec 32 := 0#32
  let v537 : BitVec 1 := Scalar.cmpi .ne v536 c0_i32_562
  let v538 : BitVec 1 := Scalar.andi v535 v537
  let v524 : BitVec 32 := Scalar.divsi v506 c128_i32_557
  let c1_i32_563 : BitVec 32 := 1#32
  let v539 : BitVec 32 := Scalar.subi v524 c1_i32_563
  let v540 : BitVec 32 := Scalar.select v538 v539 v524
  let v1145 : Index := Scalar.indexCast v540
  let c0_793 : Index := 0#32
  let c0_794 : Index := 0#32
  ![0, 22, v1145.toNat, 0, 0]
def k0_mult95 (k0_t21 : Fin k0_t21_loop.trips) : BitVec 32 :=
  let c0_i32_547 : BitVec 32 := 0#32
  let c0_i32_478 : BitVec 32 := 0#32
  let c1_i32_480 : BitVec 32 := 1#32
  let arg17 : BitVec 32 := Scf.iv c0_i32_478 c1_i32_480 k0_t21
  let c1_i32_546 : BitVec 32 := 1#32
  let v500 : BitVec 32 := Scalar.muli arg17 c1_i32_546
  let v501 : BitVec 32 := Scalar.addi c0_i32_547 v500
  let c16_i32_797 : BitVec 32 := 16#32
  let v1162 : BitVec 32 := Scalar.muli v501 c16_i32_797
  v1162
def k0_off243 (k0_t20 : Fin k0_t20_loop.trips) (k0_t21 : Fin k0_t21_loop.trips) : Fin 5 → Nat :=
  let c0_i32_398 : BitVec 32 := 0#32
  let c0_i32_359 : BitVec 32 := 0#32
  let c1_i32_361 : BitVec 32 := 1#32
  let arg16 : BitVec 32 := Scf.iv c0_i32_359 c1_i32_361 k0_t20
  let c1_i32_397 : BitVec 32 := 1#32
  let v248 : BitVec 32 := Scalar.muli arg16 c1_i32_397
  let v249 : BitVec 32 := Scalar.addi c0_i32_398 v248
  let c4_i32_472 : BitVec 32 := 4#32
  let c0_i32_473 : BitVec 32 := 0#32
  let v381 : BitVec 1 := Scalar.cmpi .eq c4_i32_472 c0_i32_473
  let c1_i32_474 : BitVec 32 := 1#32
  let v382 : BitVec 32 := Scalar.select v381 c1_i32_474 c4_i32_472
  let v383 : BitVec 32 := Scalar.remsi v249 v382
  let c0_i32_476 : BitVec 32 := 0#32
  let v385 : BitVec 1 := Scalar.cmpi .slt v383 c0_i32_476
  let c0_i32_477 : BitVec 32 := 0#32
  let v386 : BitVec 1 := Scalar.cmpi .slt v382 c0_i32_477
  let v387 : BitVec 1 := Scalar.xori v385 v386
  let c0_i32_475 : BitVec 32 := 0#32
  let v384 : BitVec 1 := Scalar.cmpi .ne v383 c0_i32_475
  let v388 : BitVec 1 := Scalar.andi v387 v384
  let v389 : BitVec 32 := Scalar.addi v383 v382
  let v390 : BitVec 32 := Scalar.select v388 v389 v383
  let v1164 : Index := Scalar.indexCast v390
  let c0_798 : Index := 0#32
  let c22_799 : Index := 22#32
  let c0_i32_547 : BitVec 32 := 0#32
  let c0_i32_478 : BitVec 32 := 0#32
  let c1_i32_480 : BitVec 32 := 1#32
  let arg17 : BitVec 32 := Scf.iv c0_i32_478 c1_i32_480 k0_t21
  let c1_i32_546 : BitVec 32 := 1#32
  let v500 : BitVec 32 := Scalar.muli arg17 c1_i32_546
  let v501 : BitVec 32 := Scalar.addi c0_i32_547 v500
  let c16_i32_797 : BitVec 32 := 16#32
  let v1162 : BitVec 32 := Scalar.muli v501 c16_i32_797
  let v1163 : BitVec 32 := v1162
  let v1165 : Index := Scalar.indexCast v1163
  let c0_800 : Index := 0#32
  ![v1164.toNat, 0, 22, v1165.toNat, 0]
def k0_off244 (v506 : BitVec 32) : Fin 5 → Nat :=
  let c0_801 : Index := 0#32
  let c23 : Index := 23#32
  let c0_i32_558 : BitVec 32 := 0#32
  let v525 : BitVec 1 := Scalar.cmpi .sgt v506 c0_i32_558
  let v526 : BitVec 32 := Scalar.extui v525
  let c0_i32_559 : BitVec 32 := 0#32
  let v527 : BitVec 1 := Scalar.cmpi .slt v506 c0_i32_559
  let v528 : BitVec 32 := Scalar.extui v527
  let v529 : BitVec 32 := Scalar.subi v526 v528
  let c128_i32_557 : BitVec 32 := 128#32
  let c0_i32_560 : BitVec 32 := 0#32
  let v530 : BitVec 1 := Scalar.cmpi .sgt c128_i32_557 c0_i32_560
  let v531 : BitVec 32 := Scalar.extui v530
  let c0_i32_561 : BitVec 32 := 0#32
  let v532 : BitVec 1 := Scalar.cmpi .slt c128_i32_557 c0_i32_561
  let v533 : BitVec 32 := Scalar.extui v532
  let v534 : BitVec 32 := Scalar.subi v531 v533
  let v535 : BitVec 1 := Scalar.cmpi .ne v529 v534
  let v536 : BitVec 32 := Scalar.remsi v506 c128_i32_557
  let c0_i32_562 : BitVec 32 := 0#32
  let v537 : BitVec 1 := Scalar.cmpi .ne v536 c0_i32_562
  let v538 : BitVec 1 := Scalar.andi v535 v537
  let v524 : BitVec 32 := Scalar.divsi v506 c128_i32_557
  let c1_i32_563 : BitVec 32 := 1#32
  let v539 : BitVec 32 := Scalar.subi v524 c1_i32_563
  let v540 : BitVec 32 := Scalar.select v538 v539 v524
  let v1169 : Index := Scalar.indexCast v540
  let c0_802 : Index := 0#32
  let c0_803 : Index := 0#32
  ![0, 23, v1169.toNat, 0, 0]
def k0_mult96 (k0_t21 : Fin k0_t21_loop.trips) : BitVec 32 :=
  let c0_i32_547 : BitVec 32 := 0#32
  let c0_i32_478 : BitVec 32 := 0#32
  let c1_i32_480 : BitVec 32 := 1#32
  let arg17 : BitVec 32 := Scf.iv c0_i32_478 c1_i32_480 k0_t21
  let c1_i32_546 : BitVec 32 := 1#32
  let v500 : BitVec 32 := Scalar.muli arg17 c1_i32_546
  let v501 : BitVec 32 := Scalar.addi c0_i32_547 v500
  let c16_i32_806 : BitVec 32 := 16#32
  let v1186 : BitVec 32 := Scalar.muli v501 c16_i32_806
  v1186
def k0_off245 (k0_t20 : Fin k0_t20_loop.trips) (k0_t21 : Fin k0_t21_loop.trips) : Fin 5 → Nat :=
  let c0_i32_398 : BitVec 32 := 0#32
  let c0_i32_359 : BitVec 32 := 0#32
  let c1_i32_361 : BitVec 32 := 1#32
  let arg16 : BitVec 32 := Scf.iv c0_i32_359 c1_i32_361 k0_t20
  let c1_i32_397 : BitVec 32 := 1#32
  let v248 : BitVec 32 := Scalar.muli arg16 c1_i32_397
  let v249 : BitVec 32 := Scalar.addi c0_i32_398 v248
  let c4_i32_472 : BitVec 32 := 4#32
  let c0_i32_473 : BitVec 32 := 0#32
  let v381 : BitVec 1 := Scalar.cmpi .eq c4_i32_472 c0_i32_473
  let c1_i32_474 : BitVec 32 := 1#32
  let v382 : BitVec 32 := Scalar.select v381 c1_i32_474 c4_i32_472
  let v383 : BitVec 32 := Scalar.remsi v249 v382
  let c0_i32_476 : BitVec 32 := 0#32
  let v385 : BitVec 1 := Scalar.cmpi .slt v383 c0_i32_476
  let c0_i32_477 : BitVec 32 := 0#32
  let v386 : BitVec 1 := Scalar.cmpi .slt v382 c0_i32_477
  let v387 : BitVec 1 := Scalar.xori v385 v386
  let c0_i32_475 : BitVec 32 := 0#32
  let v384 : BitVec 1 := Scalar.cmpi .ne v383 c0_i32_475
  let v388 : BitVec 1 := Scalar.andi v387 v384
  let v389 : BitVec 32 := Scalar.addi v383 v382
  let v390 : BitVec 32 := Scalar.select v388 v389 v383
  let v1188 : Index := Scalar.indexCast v390
  let c0_807 : Index := 0#32
  let c23_808 : Index := 23#32
  let c0_i32_547 : BitVec 32 := 0#32
  let c0_i32_478 : BitVec 32 := 0#32
  let c1_i32_480 : BitVec 32 := 1#32
  let arg17 : BitVec 32 := Scf.iv c0_i32_478 c1_i32_480 k0_t21
  let c1_i32_546 : BitVec 32 := 1#32
  let v500 : BitVec 32 := Scalar.muli arg17 c1_i32_546
  let v501 : BitVec 32 := Scalar.addi c0_i32_547 v500
  let c16_i32_806 : BitVec 32 := 16#32
  let v1186 : BitVec 32 := Scalar.muli v501 c16_i32_806
  let v1187 : BitVec 32 := v1186
  let v1189 : Index := Scalar.indexCast v1187
  let c0_809 : Index := 0#32
  ![v1188.toNat, 0, 23, v1189.toNat, 0]
def k0_off246 (k0_t20 : Fin k0_t20_loop.trips) (k0_t21 : Fin k0_t21_loop.trips) : Fin 5 → Nat :=
  let c0_i32_398 : BitVec 32 := 0#32
  let c0_i32_359 : BitVec 32 := 0#32
  let c1_i32_361 : BitVec 32 := 1#32
  let arg16 : BitVec 32 := Scf.iv c0_i32_359 c1_i32_361 k0_t20
  let c1_i32_397 : BitVec 32 := 1#32
  let v248 : BitVec 32 := Scalar.muli arg16 c1_i32_397
  let v249 : BitVec 32 := Scalar.addi c0_i32_398 v248
  let c4_i32_466 : BitVec 32 := 4#32
  let c0_i32_467 : BitVec 32 := 0#32
  let v371 : BitVec 1 := Scalar.cmpi .eq c4_i32_466 c0_i32_467
  let c1_i32_468 : BitVec 32 := 1#32
  let v372 : BitVec 32 := Scalar.select v371 c1_i32_468 c4_i32_466
  let v373 : BitVec 32 := Scalar.remsi v249 v372
  let c0_i32_470 : BitVec 32 := 0#32
  let v375 : BitVec 1 := Scalar.cmpi .slt v373 c0_i32_470
  let c0_i32_471 : BitVec 32 := 0#32
  let v376 : BitVec 1 := Scalar.cmpi .slt v372 c0_i32_471
  let v377 : BitVec 1 := Scalar.xori v375 v376
  let c0_i32_469 : BitVec 32 := 0#32
  let v374 : BitVec 1 := Scalar.cmpi .ne v373 c0_i32_469
  let v378 : BitVec 1 := Scalar.andi v377 v374
  let v379 : BitVec 32 := Scalar.addi v373 v372
  let v380 : BitVec 32 := Scalar.select v378 v379 v373
  let v1193 : Index := Scalar.indexCast v380
  let c0_810 : Index := 0#32
  let c0_i32_547 : BitVec 32 := 0#32
  let c0_i32_478 : BitVec 32 := 0#32
  let c1_i32_480 : BitVec 32 := 1#32
  let arg17 : BitVec 32 := Scf.iv c0_i32_478 c1_i32_480 k0_t21
  let c1_i32_546 : BitVec 32 := 1#32
  let v500 : BitVec 32 := Scalar.muli arg17 c1_i32_546
  let v501 : BitVec 32 := Scalar.addi c0_i32_547 v500
  let v1194 : Index := Scalar.indexCast v501
  let c384 : Index := 384#32
  let c0_811 : Index := 0#32
  ![v1193.toNat, 0, v1194.toNat, 384, 0]
def k0_off247 (v506 : BitVec 32) : Fin 5 → Nat :=
  let c0_812 : Index := 0#32
  let c24 : Index := 24#32
  let c0_i32_558 : BitVec 32 := 0#32
  let v525 : BitVec 1 := Scalar.cmpi .sgt v506 c0_i32_558
  let v526 : BitVec 32 := Scalar.extui v525
  let c0_i32_559 : BitVec 32 := 0#32
  let v527 : BitVec 1 := Scalar.cmpi .slt v506 c0_i32_559
  let v528 : BitVec 32 := Scalar.extui v527
  let v529 : BitVec 32 := Scalar.subi v526 v528
  let c128_i32_557 : BitVec 32 := 128#32
  let c0_i32_560 : BitVec 32 := 0#32
  let v530 : BitVec 1 := Scalar.cmpi .sgt c128_i32_557 c0_i32_560
  let v531 : BitVec 32 := Scalar.extui v530
  let c0_i32_561 : BitVec 32 := 0#32
  let v532 : BitVec 1 := Scalar.cmpi .slt c128_i32_557 c0_i32_561
  let v533 : BitVec 32 := Scalar.extui v532
  let v534 : BitVec 32 := Scalar.subi v531 v533
  let v535 : BitVec 1 := Scalar.cmpi .ne v529 v534
  let v536 : BitVec 32 := Scalar.remsi v506 c128_i32_557
  let c0_i32_562 : BitVec 32 := 0#32
  let v537 : BitVec 1 := Scalar.cmpi .ne v536 c0_i32_562
  let v538 : BitVec 1 := Scalar.andi v535 v537
  let v524 : BitVec 32 := Scalar.divsi v506 c128_i32_557
  let c1_i32_563 : BitVec 32 := 1#32
  let v539 : BitVec 32 := Scalar.subi v524 c1_i32_563
  let v540 : BitVec 32 := Scalar.select v538 v539 v524
  let v1198 : Index := Scalar.indexCast v540
  let c0_813 : Index := 0#32
  let c0_814 : Index := 0#32
  ![0, 24, v1198.toNat, 0, 0]
def k0_mult97 (k0_t21 : Fin k0_t21_loop.trips) : BitVec 32 :=
  let c0_i32_547 : BitVec 32 := 0#32
  let c0_i32_478 : BitVec 32 := 0#32
  let c1_i32_480 : BitVec 32 := 1#32
  let arg17 : BitVec 32 := Scf.iv c0_i32_478 c1_i32_480 k0_t21
  let c1_i32_546 : BitVec 32 := 1#32
  let v500 : BitVec 32 := Scalar.muli arg17 c1_i32_546
  let v501 : BitVec 32 := Scalar.addi c0_i32_547 v500
  let c16_i32_817 : BitVec 32 := 16#32
  let v1215 : BitVec 32 := Scalar.muli v501 c16_i32_817
  v1215
def k0_off248 (k0_t20 : Fin k0_t20_loop.trips) (k0_t21 : Fin k0_t21_loop.trips) : Fin 5 → Nat :=
  let c0_i32_398 : BitVec 32 := 0#32
  let c0_i32_359 : BitVec 32 := 0#32
  let c1_i32_361 : BitVec 32 := 1#32
  let arg16 : BitVec 32 := Scf.iv c0_i32_359 c1_i32_361 k0_t20
  let c1_i32_397 : BitVec 32 := 1#32
  let v248 : BitVec 32 := Scalar.muli arg16 c1_i32_397
  let v249 : BitVec 32 := Scalar.addi c0_i32_398 v248
  let c4_i32_472 : BitVec 32 := 4#32
  let c0_i32_473 : BitVec 32 := 0#32
  let v381 : BitVec 1 := Scalar.cmpi .eq c4_i32_472 c0_i32_473
  let c1_i32_474 : BitVec 32 := 1#32
  let v382 : BitVec 32 := Scalar.select v381 c1_i32_474 c4_i32_472
  let v383 : BitVec 32 := Scalar.remsi v249 v382
  let c0_i32_476 : BitVec 32 := 0#32
  let v385 : BitVec 1 := Scalar.cmpi .slt v383 c0_i32_476
  let c0_i32_477 : BitVec 32 := 0#32
  let v386 : BitVec 1 := Scalar.cmpi .slt v382 c0_i32_477
  let v387 : BitVec 1 := Scalar.xori v385 v386
  let c0_i32_475 : BitVec 32 := 0#32
  let v384 : BitVec 1 := Scalar.cmpi .ne v383 c0_i32_475
  let v388 : BitVec 1 := Scalar.andi v387 v384
  let v389 : BitVec 32 := Scalar.addi v383 v382
  let v390 : BitVec 32 := Scalar.select v388 v389 v383
  let v1217 : Index := Scalar.indexCast v390
  let c0_818 : Index := 0#32
  let c24_819 : Index := 24#32
  let c0_i32_547 : BitVec 32 := 0#32
  let c0_i32_478 : BitVec 32 := 0#32
  let c1_i32_480 : BitVec 32 := 1#32
  let arg17 : BitVec 32 := Scf.iv c0_i32_478 c1_i32_480 k0_t21
  let c1_i32_546 : BitVec 32 := 1#32
  let v500 : BitVec 32 := Scalar.muli arg17 c1_i32_546
  let v501 : BitVec 32 := Scalar.addi c0_i32_547 v500
  let c16_i32_817 : BitVec 32 := 16#32
  let v1215 : BitVec 32 := Scalar.muli v501 c16_i32_817
  let v1216 : BitVec 32 := v1215
  let v1218 : Index := Scalar.indexCast v1216
  let c0_820 : Index := 0#32
  ![v1217.toNat, 0, 24, v1218.toNat, 0]
def k0_off249 (v506 : BitVec 32) : Fin 5 → Nat :=
  let c0_821 : Index := 0#32
  let c25 : Index := 25#32
  let c0_i32_558 : BitVec 32 := 0#32
  let v525 : BitVec 1 := Scalar.cmpi .sgt v506 c0_i32_558
  let v526 : BitVec 32 := Scalar.extui v525
  let c0_i32_559 : BitVec 32 := 0#32
  let v527 : BitVec 1 := Scalar.cmpi .slt v506 c0_i32_559
  let v528 : BitVec 32 := Scalar.extui v527
  let v529 : BitVec 32 := Scalar.subi v526 v528
  let c128_i32_557 : BitVec 32 := 128#32
  let c0_i32_560 : BitVec 32 := 0#32
  let v530 : BitVec 1 := Scalar.cmpi .sgt c128_i32_557 c0_i32_560
  let v531 : BitVec 32 := Scalar.extui v530
  let c0_i32_561 : BitVec 32 := 0#32
  let v532 : BitVec 1 := Scalar.cmpi .slt c128_i32_557 c0_i32_561
  let v533 : BitVec 32 := Scalar.extui v532
  let v534 : BitVec 32 := Scalar.subi v531 v533
  let v535 : BitVec 1 := Scalar.cmpi .ne v529 v534
  let v536 : BitVec 32 := Scalar.remsi v506 c128_i32_557
  let c0_i32_562 : BitVec 32 := 0#32
  let v537 : BitVec 1 := Scalar.cmpi .ne v536 c0_i32_562
  let v538 : BitVec 1 := Scalar.andi v535 v537
  let v524 : BitVec 32 := Scalar.divsi v506 c128_i32_557
  let c1_i32_563 : BitVec 32 := 1#32
  let v539 : BitVec 32 := Scalar.subi v524 c1_i32_563
  let v540 : BitVec 32 := Scalar.select v538 v539 v524
  let v1222 : Index := Scalar.indexCast v540
  let c0_822 : Index := 0#32
  let c0_823 : Index := 0#32
  ![0, 25, v1222.toNat, 0, 0]
def k0_mult98 (k0_t21 : Fin k0_t21_loop.trips) : BitVec 32 :=
  let c0_i32_547 : BitVec 32 := 0#32
  let c0_i32_478 : BitVec 32 := 0#32
  let c1_i32_480 : BitVec 32 := 1#32
  let arg17 : BitVec 32 := Scf.iv c0_i32_478 c1_i32_480 k0_t21
  let c1_i32_546 : BitVec 32 := 1#32
  let v500 : BitVec 32 := Scalar.muli arg17 c1_i32_546
  let v501 : BitVec 32 := Scalar.addi c0_i32_547 v500
  let c16_i32_826 : BitVec 32 := 16#32
  let v1239 : BitVec 32 := Scalar.muli v501 c16_i32_826
  v1239
def k0_off250 (k0_t20 : Fin k0_t20_loop.trips) (k0_t21 : Fin k0_t21_loop.trips) : Fin 5 → Nat :=
  let c0_i32_398 : BitVec 32 := 0#32
  let c0_i32_359 : BitVec 32 := 0#32
  let c1_i32_361 : BitVec 32 := 1#32
  let arg16 : BitVec 32 := Scf.iv c0_i32_359 c1_i32_361 k0_t20
  let c1_i32_397 : BitVec 32 := 1#32
  let v248 : BitVec 32 := Scalar.muli arg16 c1_i32_397
  let v249 : BitVec 32 := Scalar.addi c0_i32_398 v248
  let c4_i32_472 : BitVec 32 := 4#32
  let c0_i32_473 : BitVec 32 := 0#32
  let v381 : BitVec 1 := Scalar.cmpi .eq c4_i32_472 c0_i32_473
  let c1_i32_474 : BitVec 32 := 1#32
  let v382 : BitVec 32 := Scalar.select v381 c1_i32_474 c4_i32_472
  let v383 : BitVec 32 := Scalar.remsi v249 v382
  let c0_i32_476 : BitVec 32 := 0#32
  let v385 : BitVec 1 := Scalar.cmpi .slt v383 c0_i32_476
  let c0_i32_477 : BitVec 32 := 0#32
  let v386 : BitVec 1 := Scalar.cmpi .slt v382 c0_i32_477
  let v387 : BitVec 1 := Scalar.xori v385 v386
  let c0_i32_475 : BitVec 32 := 0#32
  let v384 : BitVec 1 := Scalar.cmpi .ne v383 c0_i32_475
  let v388 : BitVec 1 := Scalar.andi v387 v384
  let v389 : BitVec 32 := Scalar.addi v383 v382
  let v390 : BitVec 32 := Scalar.select v388 v389 v383
  let v1241 : Index := Scalar.indexCast v390
  let c0_827 : Index := 0#32
  let c25_828 : Index := 25#32
  let c0_i32_547 : BitVec 32 := 0#32
  let c0_i32_478 : BitVec 32 := 0#32
  let c1_i32_480 : BitVec 32 := 1#32
  let arg17 : BitVec 32 := Scf.iv c0_i32_478 c1_i32_480 k0_t21
  let c1_i32_546 : BitVec 32 := 1#32
  let v500 : BitVec 32 := Scalar.muli arg17 c1_i32_546
  let v501 : BitVec 32 := Scalar.addi c0_i32_547 v500
  let c16_i32_826 : BitVec 32 := 16#32
  let v1239 : BitVec 32 := Scalar.muli v501 c16_i32_826
  let v1240 : BitVec 32 := v1239
  let v1242 : Index := Scalar.indexCast v1240
  let c0_829 : Index := 0#32
  ![v1241.toNat, 0, 25, v1242.toNat, 0]
def k0_off251 (k0_t20 : Fin k0_t20_loop.trips) (k0_t21 : Fin k0_t21_loop.trips) : Fin 5 → Nat :=
  let c0_i32_398 : BitVec 32 := 0#32
  let c0_i32_359 : BitVec 32 := 0#32
  let c1_i32_361 : BitVec 32 := 1#32
  let arg16 : BitVec 32 := Scf.iv c0_i32_359 c1_i32_361 k0_t20
  let c1_i32_397 : BitVec 32 := 1#32
  let v248 : BitVec 32 := Scalar.muli arg16 c1_i32_397
  let v249 : BitVec 32 := Scalar.addi c0_i32_398 v248
  let c4_i32_466 : BitVec 32 := 4#32
  let c0_i32_467 : BitVec 32 := 0#32
  let v371 : BitVec 1 := Scalar.cmpi .eq c4_i32_466 c0_i32_467
  let c1_i32_468 : BitVec 32 := 1#32
  let v372 : BitVec 32 := Scalar.select v371 c1_i32_468 c4_i32_466
  let v373 : BitVec 32 := Scalar.remsi v249 v372
  let c0_i32_470 : BitVec 32 := 0#32
  let v375 : BitVec 1 := Scalar.cmpi .slt v373 c0_i32_470
  let c0_i32_471 : BitVec 32 := 0#32
  let v376 : BitVec 1 := Scalar.cmpi .slt v372 c0_i32_471
  let v377 : BitVec 1 := Scalar.xori v375 v376
  let c0_i32_469 : BitVec 32 := 0#32
  let v374 : BitVec 1 := Scalar.cmpi .ne v373 c0_i32_469
  let v378 : BitVec 1 := Scalar.andi v377 v374
  let v379 : BitVec 32 := Scalar.addi v373 v372
  let v380 : BitVec 32 := Scalar.select v378 v379 v373
  let v1246 : Index := Scalar.indexCast v380
  let c0_830 : Index := 0#32
  let c0_i32_547 : BitVec 32 := 0#32
  let c0_i32_478 : BitVec 32 := 0#32
  let c1_i32_480 : BitVec 32 := 1#32
  let arg17 : BitVec 32 := Scf.iv c0_i32_478 c1_i32_480 k0_t21
  let c1_i32_546 : BitVec 32 := 1#32
  let v500 : BitVec 32 := Scalar.muli arg17 c1_i32_546
  let v501 : BitVec 32 := Scalar.addi c0_i32_547 v500
  let v1247 : Index := Scalar.indexCast v501
  let c416 : Index := 416#32
  let c0_831 : Index := 0#32
  ![v1246.toNat, 0, v1247.toNat, 416, 0]
def k0_off252 (v506 : BitVec 32) : Fin 5 → Nat :=
  let c0_832 : Index := 0#32
  let c26 : Index := 26#32
  let c0_i32_558 : BitVec 32 := 0#32
  let v525 : BitVec 1 := Scalar.cmpi .sgt v506 c0_i32_558
  let v526 : BitVec 32 := Scalar.extui v525
  let c0_i32_559 : BitVec 32 := 0#32
  let v527 : BitVec 1 := Scalar.cmpi .slt v506 c0_i32_559
  let v528 : BitVec 32 := Scalar.extui v527
  let v529 : BitVec 32 := Scalar.subi v526 v528
  let c128_i32_557 : BitVec 32 := 128#32
  let c0_i32_560 : BitVec 32 := 0#32
  let v530 : BitVec 1 := Scalar.cmpi .sgt c128_i32_557 c0_i32_560
  let v531 : BitVec 32 := Scalar.extui v530
  let c0_i32_561 : BitVec 32 := 0#32
  let v532 : BitVec 1 := Scalar.cmpi .slt c128_i32_557 c0_i32_561
  let v533 : BitVec 32 := Scalar.extui v532
  let v534 : BitVec 32 := Scalar.subi v531 v533
  let v535 : BitVec 1 := Scalar.cmpi .ne v529 v534
  let v536 : BitVec 32 := Scalar.remsi v506 c128_i32_557
  let c0_i32_562 : BitVec 32 := 0#32
  let v537 : BitVec 1 := Scalar.cmpi .ne v536 c0_i32_562
  let v538 : BitVec 1 := Scalar.andi v535 v537
  let v524 : BitVec 32 := Scalar.divsi v506 c128_i32_557
  let c1_i32_563 : BitVec 32 := 1#32
  let v539 : BitVec 32 := Scalar.subi v524 c1_i32_563
  let v540 : BitVec 32 := Scalar.select v538 v539 v524
  let v1251 : Index := Scalar.indexCast v540
  let c0_833 : Index := 0#32
  let c0_834 : Index := 0#32
  ![0, 26, v1251.toNat, 0, 0]
def k0_mult99 (k0_t21 : Fin k0_t21_loop.trips) : BitVec 32 :=
  let c0_i32_547 : BitVec 32 := 0#32
  let c0_i32_478 : BitVec 32 := 0#32
  let c1_i32_480 : BitVec 32 := 1#32
  let arg17 : BitVec 32 := Scf.iv c0_i32_478 c1_i32_480 k0_t21
  let c1_i32_546 : BitVec 32 := 1#32
  let v500 : BitVec 32 := Scalar.muli arg17 c1_i32_546
  let v501 : BitVec 32 := Scalar.addi c0_i32_547 v500
  let c16_i32_837 : BitVec 32 := 16#32
  let v1268 : BitVec 32 := Scalar.muli v501 c16_i32_837
  v1268
def k0_off253 (k0_t20 : Fin k0_t20_loop.trips) (k0_t21 : Fin k0_t21_loop.trips) : Fin 5 → Nat :=
  let c0_i32_398 : BitVec 32 := 0#32
  let c0_i32_359 : BitVec 32 := 0#32
  let c1_i32_361 : BitVec 32 := 1#32
  let arg16 : BitVec 32 := Scf.iv c0_i32_359 c1_i32_361 k0_t20
  let c1_i32_397 : BitVec 32 := 1#32
  let v248 : BitVec 32 := Scalar.muli arg16 c1_i32_397
  let v249 : BitVec 32 := Scalar.addi c0_i32_398 v248
  let c4_i32_472 : BitVec 32 := 4#32
  let c0_i32_473 : BitVec 32 := 0#32
  let v381 : BitVec 1 := Scalar.cmpi .eq c4_i32_472 c0_i32_473
  let c1_i32_474 : BitVec 32 := 1#32
  let v382 : BitVec 32 := Scalar.select v381 c1_i32_474 c4_i32_472
  let v383 : BitVec 32 := Scalar.remsi v249 v382
  let c0_i32_476 : BitVec 32 := 0#32
  let v385 : BitVec 1 := Scalar.cmpi .slt v383 c0_i32_476
  let c0_i32_477 : BitVec 32 := 0#32
  let v386 : BitVec 1 := Scalar.cmpi .slt v382 c0_i32_477
  let v387 : BitVec 1 := Scalar.xori v385 v386
  let c0_i32_475 : BitVec 32 := 0#32
  let v384 : BitVec 1 := Scalar.cmpi .ne v383 c0_i32_475
  let v388 : BitVec 1 := Scalar.andi v387 v384
  let v389 : BitVec 32 := Scalar.addi v383 v382
  let v390 : BitVec 32 := Scalar.select v388 v389 v383
  let v1270 : Index := Scalar.indexCast v390
  let c0_838 : Index := 0#32
  let c26_839 : Index := 26#32
  let c0_i32_547 : BitVec 32 := 0#32
  let c0_i32_478 : BitVec 32 := 0#32
  let c1_i32_480 : BitVec 32 := 1#32
  let arg17 : BitVec 32 := Scf.iv c0_i32_478 c1_i32_480 k0_t21
  let c1_i32_546 : BitVec 32 := 1#32
  let v500 : BitVec 32 := Scalar.muli arg17 c1_i32_546
  let v501 : BitVec 32 := Scalar.addi c0_i32_547 v500
  let c16_i32_837 : BitVec 32 := 16#32
  let v1268 : BitVec 32 := Scalar.muli v501 c16_i32_837
  let v1269 : BitVec 32 := v1268
  let v1271 : Index := Scalar.indexCast v1269
  let c0_840 : Index := 0#32
  ![v1270.toNat, 0, 26, v1271.toNat, 0]
def k0_off254 (v506 : BitVec 32) : Fin 5 → Nat :=
  let c0_841 : Index := 0#32
  let c27 : Index := 27#32
  let c0_i32_558 : BitVec 32 := 0#32
  let v525 : BitVec 1 := Scalar.cmpi .sgt v506 c0_i32_558
  let v526 : BitVec 32 := Scalar.extui v525
  let c0_i32_559 : BitVec 32 := 0#32
  let v527 : BitVec 1 := Scalar.cmpi .slt v506 c0_i32_559
  let v528 : BitVec 32 := Scalar.extui v527
  let v529 : BitVec 32 := Scalar.subi v526 v528
  let c128_i32_557 : BitVec 32 := 128#32
  let c0_i32_560 : BitVec 32 := 0#32
  let v530 : BitVec 1 := Scalar.cmpi .sgt c128_i32_557 c0_i32_560
  let v531 : BitVec 32 := Scalar.extui v530
  let c0_i32_561 : BitVec 32 := 0#32
  let v532 : BitVec 1 := Scalar.cmpi .slt c128_i32_557 c0_i32_561
  let v533 : BitVec 32 := Scalar.extui v532
  let v534 : BitVec 32 := Scalar.subi v531 v533
  let v535 : BitVec 1 := Scalar.cmpi .ne v529 v534
  let v536 : BitVec 32 := Scalar.remsi v506 c128_i32_557
  let c0_i32_562 : BitVec 32 := 0#32
  let v537 : BitVec 1 := Scalar.cmpi .ne v536 c0_i32_562
  let v538 : BitVec 1 := Scalar.andi v535 v537
  let v524 : BitVec 32 := Scalar.divsi v506 c128_i32_557
  let c1_i32_563 : BitVec 32 := 1#32
  let v539 : BitVec 32 := Scalar.subi v524 c1_i32_563
  let v540 : BitVec 32 := Scalar.select v538 v539 v524
  let v1275 : Index := Scalar.indexCast v540
  let c0_842 : Index := 0#32
  let c0_843 : Index := 0#32
  ![0, 27, v1275.toNat, 0, 0]
def k0_mult100 (k0_t21 : Fin k0_t21_loop.trips) : BitVec 32 :=
  let c0_i32_547 : BitVec 32 := 0#32
  let c0_i32_478 : BitVec 32 := 0#32
  let c1_i32_480 : BitVec 32 := 1#32
  let arg17 : BitVec 32 := Scf.iv c0_i32_478 c1_i32_480 k0_t21
  let c1_i32_546 : BitVec 32 := 1#32
  let v500 : BitVec 32 := Scalar.muli arg17 c1_i32_546
  let v501 : BitVec 32 := Scalar.addi c0_i32_547 v500
  let c16_i32_846 : BitVec 32 := 16#32
  let v1292 : BitVec 32 := Scalar.muli v501 c16_i32_846
  v1292
def k0_off255 (k0_t20 : Fin k0_t20_loop.trips) (k0_t21 : Fin k0_t21_loop.trips) : Fin 5 → Nat :=
  let c0_i32_398 : BitVec 32 := 0#32
  let c0_i32_359 : BitVec 32 := 0#32
  let c1_i32_361 : BitVec 32 := 1#32
  let arg16 : BitVec 32 := Scf.iv c0_i32_359 c1_i32_361 k0_t20
  let c1_i32_397 : BitVec 32 := 1#32
  let v248 : BitVec 32 := Scalar.muli arg16 c1_i32_397
  let v249 : BitVec 32 := Scalar.addi c0_i32_398 v248
  let c4_i32_472 : BitVec 32 := 4#32
  let c0_i32_473 : BitVec 32 := 0#32
  let v381 : BitVec 1 := Scalar.cmpi .eq c4_i32_472 c0_i32_473
  let c1_i32_474 : BitVec 32 := 1#32
  let v382 : BitVec 32 := Scalar.select v381 c1_i32_474 c4_i32_472
  let v383 : BitVec 32 := Scalar.remsi v249 v382
  let c0_i32_476 : BitVec 32 := 0#32
  let v385 : BitVec 1 := Scalar.cmpi .slt v383 c0_i32_476
  let c0_i32_477 : BitVec 32 := 0#32
  let v386 : BitVec 1 := Scalar.cmpi .slt v382 c0_i32_477
  let v387 : BitVec 1 := Scalar.xori v385 v386
  let c0_i32_475 : BitVec 32 := 0#32
  let v384 : BitVec 1 := Scalar.cmpi .ne v383 c0_i32_475
  let v388 : BitVec 1 := Scalar.andi v387 v384
  let v389 : BitVec 32 := Scalar.addi v383 v382
  let v390 : BitVec 32 := Scalar.select v388 v389 v383
  let v1294 : Index := Scalar.indexCast v390
  let c0_847 : Index := 0#32
  let c27_848 : Index := 27#32
  let c0_i32_547 : BitVec 32 := 0#32
  let c0_i32_478 : BitVec 32 := 0#32
  let c1_i32_480 : BitVec 32 := 1#32
  let arg17 : BitVec 32 := Scf.iv c0_i32_478 c1_i32_480 k0_t21
  let c1_i32_546 : BitVec 32 := 1#32
  let v500 : BitVec 32 := Scalar.muli arg17 c1_i32_546
  let v501 : BitVec 32 := Scalar.addi c0_i32_547 v500
  let c16_i32_846 : BitVec 32 := 16#32
  let v1292 : BitVec 32 := Scalar.muli v501 c16_i32_846
  let v1293 : BitVec 32 := v1292
  let v1295 : Index := Scalar.indexCast v1293
  let c0_849 : Index := 0#32
  ![v1294.toNat, 0, 27, v1295.toNat, 0]
def k0_off256 (k0_t20 : Fin k0_t20_loop.trips) (k0_t21 : Fin k0_t21_loop.trips) : Fin 5 → Nat :=
  let c0_i32_398 : BitVec 32 := 0#32
  let c0_i32_359 : BitVec 32 := 0#32
  let c1_i32_361 : BitVec 32 := 1#32
  let arg16 : BitVec 32 := Scf.iv c0_i32_359 c1_i32_361 k0_t20
  let c1_i32_397 : BitVec 32 := 1#32
  let v248 : BitVec 32 := Scalar.muli arg16 c1_i32_397
  let v249 : BitVec 32 := Scalar.addi c0_i32_398 v248
  let c4_i32_466 : BitVec 32 := 4#32
  let c0_i32_467 : BitVec 32 := 0#32
  let v371 : BitVec 1 := Scalar.cmpi .eq c4_i32_466 c0_i32_467
  let c1_i32_468 : BitVec 32 := 1#32
  let v372 : BitVec 32 := Scalar.select v371 c1_i32_468 c4_i32_466
  let v373 : BitVec 32 := Scalar.remsi v249 v372
  let c0_i32_470 : BitVec 32 := 0#32
  let v375 : BitVec 1 := Scalar.cmpi .slt v373 c0_i32_470
  let c0_i32_471 : BitVec 32 := 0#32
  let v376 : BitVec 1 := Scalar.cmpi .slt v372 c0_i32_471
  let v377 : BitVec 1 := Scalar.xori v375 v376
  let c0_i32_469 : BitVec 32 := 0#32
  let v374 : BitVec 1 := Scalar.cmpi .ne v373 c0_i32_469
  let v378 : BitVec 1 := Scalar.andi v377 v374
  let v379 : BitVec 32 := Scalar.addi v373 v372
  let v380 : BitVec 32 := Scalar.select v378 v379 v373
  let v1299 : Index := Scalar.indexCast v380
  let c0_850 : Index := 0#32
  let c0_i32_547 : BitVec 32 := 0#32
  let c0_i32_478 : BitVec 32 := 0#32
  let c1_i32_480 : BitVec 32 := 1#32
  let arg17 : BitVec 32 := Scf.iv c0_i32_478 c1_i32_480 k0_t21
  let c1_i32_546 : BitVec 32 := 1#32
  let v500 : BitVec 32 := Scalar.muli arg17 c1_i32_546
  let v501 : BitVec 32 := Scalar.addi c0_i32_547 v500
  let v1300 : Index := Scalar.indexCast v501
  let c448 : Index := 448#32
  let c0_851 : Index := 0#32
  ![v1299.toNat, 0, v1300.toNat, 448, 0]
def k0_off257 (v506 : BitVec 32) : Fin 5 → Nat :=
  let c0_852 : Index := 0#32
  let c28 : Index := 28#32
  let c0_i32_558 : BitVec 32 := 0#32
  let v525 : BitVec 1 := Scalar.cmpi .sgt v506 c0_i32_558
  let v526 : BitVec 32 := Scalar.extui v525
  let c0_i32_559 : BitVec 32 := 0#32
  let v527 : BitVec 1 := Scalar.cmpi .slt v506 c0_i32_559
  let v528 : BitVec 32 := Scalar.extui v527
  let v529 : BitVec 32 := Scalar.subi v526 v528
  let c128_i32_557 : BitVec 32 := 128#32
  let c0_i32_560 : BitVec 32 := 0#32
  let v530 : BitVec 1 := Scalar.cmpi .sgt c128_i32_557 c0_i32_560
  let v531 : BitVec 32 := Scalar.extui v530
  let c0_i32_561 : BitVec 32 := 0#32
  let v532 : BitVec 1 := Scalar.cmpi .slt c128_i32_557 c0_i32_561
  let v533 : BitVec 32 := Scalar.extui v532
  let v534 : BitVec 32 := Scalar.subi v531 v533
  let v535 : BitVec 1 := Scalar.cmpi .ne v529 v534
  let v536 : BitVec 32 := Scalar.remsi v506 c128_i32_557
  let c0_i32_562 : BitVec 32 := 0#32
  let v537 : BitVec 1 := Scalar.cmpi .ne v536 c0_i32_562
  let v538 : BitVec 1 := Scalar.andi v535 v537
  let v524 : BitVec 32 := Scalar.divsi v506 c128_i32_557
  let c1_i32_563 : BitVec 32 := 1#32
  let v539 : BitVec 32 := Scalar.subi v524 c1_i32_563
  let v540 : BitVec 32 := Scalar.select v538 v539 v524
  let v1304 : Index := Scalar.indexCast v540
  let c0_853 : Index := 0#32
  let c0_854 : Index := 0#32
  ![0, 28, v1304.toNat, 0, 0]
def k0_mult101 (k0_t21 : Fin k0_t21_loop.trips) : BitVec 32 :=
  let c0_i32_547 : BitVec 32 := 0#32
  let c0_i32_478 : BitVec 32 := 0#32
  let c1_i32_480 : BitVec 32 := 1#32
  let arg17 : BitVec 32 := Scf.iv c0_i32_478 c1_i32_480 k0_t21
  let c1_i32_546 : BitVec 32 := 1#32
  let v500 : BitVec 32 := Scalar.muli arg17 c1_i32_546
  let v501 : BitVec 32 := Scalar.addi c0_i32_547 v500
  let c16_i32_857 : BitVec 32 := 16#32
  let v1321 : BitVec 32 := Scalar.muli v501 c16_i32_857
  v1321
def k0_off258 (k0_t20 : Fin k0_t20_loop.trips) (k0_t21 : Fin k0_t21_loop.trips) : Fin 5 → Nat :=
  let c0_i32_398 : BitVec 32 := 0#32
  let c0_i32_359 : BitVec 32 := 0#32
  let c1_i32_361 : BitVec 32 := 1#32
  let arg16 : BitVec 32 := Scf.iv c0_i32_359 c1_i32_361 k0_t20
  let c1_i32_397 : BitVec 32 := 1#32
  let v248 : BitVec 32 := Scalar.muli arg16 c1_i32_397
  let v249 : BitVec 32 := Scalar.addi c0_i32_398 v248
  let c4_i32_472 : BitVec 32 := 4#32
  let c0_i32_473 : BitVec 32 := 0#32
  let v381 : BitVec 1 := Scalar.cmpi .eq c4_i32_472 c0_i32_473
  let c1_i32_474 : BitVec 32 := 1#32
  let v382 : BitVec 32 := Scalar.select v381 c1_i32_474 c4_i32_472
  let v383 : BitVec 32 := Scalar.remsi v249 v382
  let c0_i32_476 : BitVec 32 := 0#32
  let v385 : BitVec 1 := Scalar.cmpi .slt v383 c0_i32_476
  let c0_i32_477 : BitVec 32 := 0#32
  let v386 : BitVec 1 := Scalar.cmpi .slt v382 c0_i32_477
  let v387 : BitVec 1 := Scalar.xori v385 v386
  let c0_i32_475 : BitVec 32 := 0#32
  let v384 : BitVec 1 := Scalar.cmpi .ne v383 c0_i32_475
  let v388 : BitVec 1 := Scalar.andi v387 v384
  let v389 : BitVec 32 := Scalar.addi v383 v382
  let v390 : BitVec 32 := Scalar.select v388 v389 v383
  let v1323 : Index := Scalar.indexCast v390
  let c0_858 : Index := 0#32
  let c28_859 : Index := 28#32
  let c0_i32_547 : BitVec 32 := 0#32
  let c0_i32_478 : BitVec 32 := 0#32
  let c1_i32_480 : BitVec 32 := 1#32
  let arg17 : BitVec 32 := Scf.iv c0_i32_478 c1_i32_480 k0_t21
  let c1_i32_546 : BitVec 32 := 1#32
  let v500 : BitVec 32 := Scalar.muli arg17 c1_i32_546
  let v501 : BitVec 32 := Scalar.addi c0_i32_547 v500
  let c16_i32_857 : BitVec 32 := 16#32
  let v1321 : BitVec 32 := Scalar.muli v501 c16_i32_857
  let v1322 : BitVec 32 := v1321
  let v1324 : Index := Scalar.indexCast v1322
  let c0_860 : Index := 0#32
  ![v1323.toNat, 0, 28, v1324.toNat, 0]
def k0_off259 (v506 : BitVec 32) : Fin 5 → Nat :=
  let c0_861 : Index := 0#32
  let c29 : Index := 29#32
  let c0_i32_558 : BitVec 32 := 0#32
  let v525 : BitVec 1 := Scalar.cmpi .sgt v506 c0_i32_558
  let v526 : BitVec 32 := Scalar.extui v525
  let c0_i32_559 : BitVec 32 := 0#32
  let v527 : BitVec 1 := Scalar.cmpi .slt v506 c0_i32_559
  let v528 : BitVec 32 := Scalar.extui v527
  let v529 : BitVec 32 := Scalar.subi v526 v528
  let c128_i32_557 : BitVec 32 := 128#32
  let c0_i32_560 : BitVec 32 := 0#32
  let v530 : BitVec 1 := Scalar.cmpi .sgt c128_i32_557 c0_i32_560
  let v531 : BitVec 32 := Scalar.extui v530
  let c0_i32_561 : BitVec 32 := 0#32
  let v532 : BitVec 1 := Scalar.cmpi .slt c128_i32_557 c0_i32_561
  let v533 : BitVec 32 := Scalar.extui v532
  let v534 : BitVec 32 := Scalar.subi v531 v533
  let v535 : BitVec 1 := Scalar.cmpi .ne v529 v534
  let v536 : BitVec 32 := Scalar.remsi v506 c128_i32_557
  let c0_i32_562 : BitVec 32 := 0#32
  let v537 : BitVec 1 := Scalar.cmpi .ne v536 c0_i32_562
  let v538 : BitVec 1 := Scalar.andi v535 v537
  let v524 : BitVec 32 := Scalar.divsi v506 c128_i32_557
  let c1_i32_563 : BitVec 32 := 1#32
  let v539 : BitVec 32 := Scalar.subi v524 c1_i32_563
  let v540 : BitVec 32 := Scalar.select v538 v539 v524
  let v1328 : Index := Scalar.indexCast v540
  let c0_862 : Index := 0#32
  let c0_863 : Index := 0#32
  ![0, 29, v1328.toNat, 0, 0]
def k0_mult102 (k0_t21 : Fin k0_t21_loop.trips) : BitVec 32 :=
  let c0_i32_547 : BitVec 32 := 0#32
  let c0_i32_478 : BitVec 32 := 0#32
  let c1_i32_480 : BitVec 32 := 1#32
  let arg17 : BitVec 32 := Scf.iv c0_i32_478 c1_i32_480 k0_t21
  let c1_i32_546 : BitVec 32 := 1#32
  let v500 : BitVec 32 := Scalar.muli arg17 c1_i32_546
  let v501 : BitVec 32 := Scalar.addi c0_i32_547 v500
  let c16_i32_866 : BitVec 32 := 16#32
  let v1345 : BitVec 32 := Scalar.muli v501 c16_i32_866
  v1345
def k0_off260 (k0_t20 : Fin k0_t20_loop.trips) (k0_t21 : Fin k0_t21_loop.trips) : Fin 5 → Nat :=
  let c0_i32_398 : BitVec 32 := 0#32
  let c0_i32_359 : BitVec 32 := 0#32
  let c1_i32_361 : BitVec 32 := 1#32
  let arg16 : BitVec 32 := Scf.iv c0_i32_359 c1_i32_361 k0_t20
  let c1_i32_397 : BitVec 32 := 1#32
  let v248 : BitVec 32 := Scalar.muli arg16 c1_i32_397
  let v249 : BitVec 32 := Scalar.addi c0_i32_398 v248
  let c4_i32_472 : BitVec 32 := 4#32
  let c0_i32_473 : BitVec 32 := 0#32
  let v381 : BitVec 1 := Scalar.cmpi .eq c4_i32_472 c0_i32_473
  let c1_i32_474 : BitVec 32 := 1#32
  let v382 : BitVec 32 := Scalar.select v381 c1_i32_474 c4_i32_472
  let v383 : BitVec 32 := Scalar.remsi v249 v382
  let c0_i32_476 : BitVec 32 := 0#32
  let v385 : BitVec 1 := Scalar.cmpi .slt v383 c0_i32_476
  let c0_i32_477 : BitVec 32 := 0#32
  let v386 : BitVec 1 := Scalar.cmpi .slt v382 c0_i32_477
  let v387 : BitVec 1 := Scalar.xori v385 v386
  let c0_i32_475 : BitVec 32 := 0#32
  let v384 : BitVec 1 := Scalar.cmpi .ne v383 c0_i32_475
  let v388 : BitVec 1 := Scalar.andi v387 v384
  let v389 : BitVec 32 := Scalar.addi v383 v382
  let v390 : BitVec 32 := Scalar.select v388 v389 v383
  let v1347 : Index := Scalar.indexCast v390
  let c0_867 : Index := 0#32
  let c29_868 : Index := 29#32
  let c0_i32_547 : BitVec 32 := 0#32
  let c0_i32_478 : BitVec 32 := 0#32
  let c1_i32_480 : BitVec 32 := 1#32
  let arg17 : BitVec 32 := Scf.iv c0_i32_478 c1_i32_480 k0_t21
  let c1_i32_546 : BitVec 32 := 1#32
  let v500 : BitVec 32 := Scalar.muli arg17 c1_i32_546
  let v501 : BitVec 32 := Scalar.addi c0_i32_547 v500
  let c16_i32_866 : BitVec 32 := 16#32
  let v1345 : BitVec 32 := Scalar.muli v501 c16_i32_866
  let v1346 : BitVec 32 := v1345
  let v1348 : Index := Scalar.indexCast v1346
  let c0_869 : Index := 0#32
  ![v1347.toNat, 0, 29, v1348.toNat, 0]
def k0_off261 (k0_t20 : Fin k0_t20_loop.trips) (k0_t21 : Fin k0_t21_loop.trips) : Fin 5 → Nat :=
  let c0_i32_398 : BitVec 32 := 0#32
  let c0_i32_359 : BitVec 32 := 0#32
  let c1_i32_361 : BitVec 32 := 1#32
  let arg16 : BitVec 32 := Scf.iv c0_i32_359 c1_i32_361 k0_t20
  let c1_i32_397 : BitVec 32 := 1#32
  let v248 : BitVec 32 := Scalar.muli arg16 c1_i32_397
  let v249 : BitVec 32 := Scalar.addi c0_i32_398 v248
  let c4_i32_466 : BitVec 32 := 4#32
  let c0_i32_467 : BitVec 32 := 0#32
  let v371 : BitVec 1 := Scalar.cmpi .eq c4_i32_466 c0_i32_467
  let c1_i32_468 : BitVec 32 := 1#32
  let v372 : BitVec 32 := Scalar.select v371 c1_i32_468 c4_i32_466
  let v373 : BitVec 32 := Scalar.remsi v249 v372
  let c0_i32_470 : BitVec 32 := 0#32
  let v375 : BitVec 1 := Scalar.cmpi .slt v373 c0_i32_470
  let c0_i32_471 : BitVec 32 := 0#32
  let v376 : BitVec 1 := Scalar.cmpi .slt v372 c0_i32_471
  let v377 : BitVec 1 := Scalar.xori v375 v376
  let c0_i32_469 : BitVec 32 := 0#32
  let v374 : BitVec 1 := Scalar.cmpi .ne v373 c0_i32_469
  let v378 : BitVec 1 := Scalar.andi v377 v374
  let v379 : BitVec 32 := Scalar.addi v373 v372
  let v380 : BitVec 32 := Scalar.select v378 v379 v373
  let v1352 : Index := Scalar.indexCast v380
  let c0_870 : Index := 0#32
  let c0_i32_547 : BitVec 32 := 0#32
  let c0_i32_478 : BitVec 32 := 0#32
  let c1_i32_480 : BitVec 32 := 1#32
  let arg17 : BitVec 32 := Scf.iv c0_i32_478 c1_i32_480 k0_t21
  let c1_i32_546 : BitVec 32 := 1#32
  let v500 : BitVec 32 := Scalar.muli arg17 c1_i32_546
  let v501 : BitVec 32 := Scalar.addi c0_i32_547 v500
  let v1353 : Index := Scalar.indexCast v501
  let c480 : Index := 480#32
  let c0_871 : Index := 0#32
  ![v1352.toNat, 0, v1353.toNat, 480, 0]
def k0_off262 (v506 : BitVec 32) : Fin 5 → Nat :=
  let c0_872 : Index := 0#32
  let c30 : Index := 30#32
  let c0_i32_558 : BitVec 32 := 0#32
  let v525 : BitVec 1 := Scalar.cmpi .sgt v506 c0_i32_558
  let v526 : BitVec 32 := Scalar.extui v525
  let c0_i32_559 : BitVec 32 := 0#32
  let v527 : BitVec 1 := Scalar.cmpi .slt v506 c0_i32_559
  let v528 : BitVec 32 := Scalar.extui v527
  let v529 : BitVec 32 := Scalar.subi v526 v528
  let c128_i32_557 : BitVec 32 := 128#32
  let c0_i32_560 : BitVec 32 := 0#32
  let v530 : BitVec 1 := Scalar.cmpi .sgt c128_i32_557 c0_i32_560
  let v531 : BitVec 32 := Scalar.extui v530
  let c0_i32_561 : BitVec 32 := 0#32
  let v532 : BitVec 1 := Scalar.cmpi .slt c128_i32_557 c0_i32_561
  let v533 : BitVec 32 := Scalar.extui v532
  let v534 : BitVec 32 := Scalar.subi v531 v533
  let v535 : BitVec 1 := Scalar.cmpi .ne v529 v534
  let v536 : BitVec 32 := Scalar.remsi v506 c128_i32_557
  let c0_i32_562 : BitVec 32 := 0#32
  let v537 : BitVec 1 := Scalar.cmpi .ne v536 c0_i32_562
  let v538 : BitVec 1 := Scalar.andi v535 v537
  let v524 : BitVec 32 := Scalar.divsi v506 c128_i32_557
  let c1_i32_563 : BitVec 32 := 1#32
  let v539 : BitVec 32 := Scalar.subi v524 c1_i32_563
  let v540 : BitVec 32 := Scalar.select v538 v539 v524
  let v1357 : Index := Scalar.indexCast v540
  let c0_873 : Index := 0#32
  let c0_874 : Index := 0#32
  ![0, 30, v1357.toNat, 0, 0]
def k0_mult103 (k0_t21 : Fin k0_t21_loop.trips) : BitVec 32 :=
  let c0_i32_547 : BitVec 32 := 0#32
  let c0_i32_478 : BitVec 32 := 0#32
  let c1_i32_480 : BitVec 32 := 1#32
  let arg17 : BitVec 32 := Scf.iv c0_i32_478 c1_i32_480 k0_t21
  let c1_i32_546 : BitVec 32 := 1#32
  let v500 : BitVec 32 := Scalar.muli arg17 c1_i32_546
  let v501 : BitVec 32 := Scalar.addi c0_i32_547 v500
  let c16_i32_877 : BitVec 32 := 16#32
  let v1374 : BitVec 32 := Scalar.muli v501 c16_i32_877
  v1374
def k0_off263 (k0_t20 : Fin k0_t20_loop.trips) (k0_t21 : Fin k0_t21_loop.trips) : Fin 5 → Nat :=
  let c0_i32_398 : BitVec 32 := 0#32
  let c0_i32_359 : BitVec 32 := 0#32
  let c1_i32_361 : BitVec 32 := 1#32
  let arg16 : BitVec 32 := Scf.iv c0_i32_359 c1_i32_361 k0_t20
  let c1_i32_397 : BitVec 32 := 1#32
  let v248 : BitVec 32 := Scalar.muli arg16 c1_i32_397
  let v249 : BitVec 32 := Scalar.addi c0_i32_398 v248
  let c4_i32_472 : BitVec 32 := 4#32
  let c0_i32_473 : BitVec 32 := 0#32
  let v381 : BitVec 1 := Scalar.cmpi .eq c4_i32_472 c0_i32_473
  let c1_i32_474 : BitVec 32 := 1#32
  let v382 : BitVec 32 := Scalar.select v381 c1_i32_474 c4_i32_472
  let v383 : BitVec 32 := Scalar.remsi v249 v382
  let c0_i32_476 : BitVec 32 := 0#32
  let v385 : BitVec 1 := Scalar.cmpi .slt v383 c0_i32_476
  let c0_i32_477 : BitVec 32 := 0#32
  let v386 : BitVec 1 := Scalar.cmpi .slt v382 c0_i32_477
  let v387 : BitVec 1 := Scalar.xori v385 v386
  let c0_i32_475 : BitVec 32 := 0#32
  let v384 : BitVec 1 := Scalar.cmpi .ne v383 c0_i32_475
  let v388 : BitVec 1 := Scalar.andi v387 v384
  let v389 : BitVec 32 := Scalar.addi v383 v382
  let v390 : BitVec 32 := Scalar.select v388 v389 v383
  let v1376 : Index := Scalar.indexCast v390
  let c0_878 : Index := 0#32
  let c30_879 : Index := 30#32
  let c0_i32_547 : BitVec 32 := 0#32
  let c0_i32_478 : BitVec 32 := 0#32
  let c1_i32_480 : BitVec 32 := 1#32
  let arg17 : BitVec 32 := Scf.iv c0_i32_478 c1_i32_480 k0_t21
  let c1_i32_546 : BitVec 32 := 1#32
  let v500 : BitVec 32 := Scalar.muli arg17 c1_i32_546
  let v501 : BitVec 32 := Scalar.addi c0_i32_547 v500
  let c16_i32_877 : BitVec 32 := 16#32
  let v1374 : BitVec 32 := Scalar.muli v501 c16_i32_877
  let v1375 : BitVec 32 := v1374
  let v1377 : Index := Scalar.indexCast v1375
  let c0_880 : Index := 0#32
  ![v1376.toNat, 0, 30, v1377.toNat, 0]
def k0_off264 (v506 : BitVec 32) : Fin 5 → Nat :=
  let c0_881 : Index := 0#32
  let c31 : Index := 31#32
  let c0_i32_558 : BitVec 32 := 0#32
  let v525 : BitVec 1 := Scalar.cmpi .sgt v506 c0_i32_558
  let v526 : BitVec 32 := Scalar.extui v525
  let c0_i32_559 : BitVec 32 := 0#32
  let v527 : BitVec 1 := Scalar.cmpi .slt v506 c0_i32_559
  let v528 : BitVec 32 := Scalar.extui v527
  let v529 : BitVec 32 := Scalar.subi v526 v528
  let c128_i32_557 : BitVec 32 := 128#32
  let c0_i32_560 : BitVec 32 := 0#32
  let v530 : BitVec 1 := Scalar.cmpi .sgt c128_i32_557 c0_i32_560
  let v531 : BitVec 32 := Scalar.extui v530
  let c0_i32_561 : BitVec 32 := 0#32
  let v532 : BitVec 1 := Scalar.cmpi .slt c128_i32_557 c0_i32_561
  let v533 : BitVec 32 := Scalar.extui v532
  let v534 : BitVec 32 := Scalar.subi v531 v533
  let v535 : BitVec 1 := Scalar.cmpi .ne v529 v534
  let v536 : BitVec 32 := Scalar.remsi v506 c128_i32_557
  let c0_i32_562 : BitVec 32 := 0#32
  let v537 : BitVec 1 := Scalar.cmpi .ne v536 c0_i32_562
  let v538 : BitVec 1 := Scalar.andi v535 v537
  let v524 : BitVec 32 := Scalar.divsi v506 c128_i32_557
  let c1_i32_563 : BitVec 32 := 1#32
  let v539 : BitVec 32 := Scalar.subi v524 c1_i32_563
  let v540 : BitVec 32 := Scalar.select v538 v539 v524
  let v1381 : Index := Scalar.indexCast v540
  let c0_882 : Index := 0#32
  let c0_883 : Index := 0#32
  ![0, 31, v1381.toNat, 0, 0]
def k0_mult104 (k0_t21 : Fin k0_t21_loop.trips) : BitVec 32 :=
  let c0_i32_547 : BitVec 32 := 0#32
  let c0_i32_478 : BitVec 32 := 0#32
  let c1_i32_480 : BitVec 32 := 1#32
  let arg17 : BitVec 32 := Scf.iv c0_i32_478 c1_i32_480 k0_t21
  let c1_i32_546 : BitVec 32 := 1#32
  let v500 : BitVec 32 := Scalar.muli arg17 c1_i32_546
  let v501 : BitVec 32 := Scalar.addi c0_i32_547 v500
  let c16_i32_886 : BitVec 32 := 16#32
  let v1398 : BitVec 32 := Scalar.muli v501 c16_i32_886
  v1398
def k0_off265 (k0_t20 : Fin k0_t20_loop.trips) (k0_t21 : Fin k0_t21_loop.trips) : Fin 5 → Nat :=
  let c0_i32_398 : BitVec 32 := 0#32
  let c0_i32_359 : BitVec 32 := 0#32
  let c1_i32_361 : BitVec 32 := 1#32
  let arg16 : BitVec 32 := Scf.iv c0_i32_359 c1_i32_361 k0_t20
  let c1_i32_397 : BitVec 32 := 1#32
  let v248 : BitVec 32 := Scalar.muli arg16 c1_i32_397
  let v249 : BitVec 32 := Scalar.addi c0_i32_398 v248
  let c4_i32_472 : BitVec 32 := 4#32
  let c0_i32_473 : BitVec 32 := 0#32
  let v381 : BitVec 1 := Scalar.cmpi .eq c4_i32_472 c0_i32_473
  let c1_i32_474 : BitVec 32 := 1#32
  let v382 : BitVec 32 := Scalar.select v381 c1_i32_474 c4_i32_472
  let v383 : BitVec 32 := Scalar.remsi v249 v382
  let c0_i32_476 : BitVec 32 := 0#32
  let v385 : BitVec 1 := Scalar.cmpi .slt v383 c0_i32_476
  let c0_i32_477 : BitVec 32 := 0#32
  let v386 : BitVec 1 := Scalar.cmpi .slt v382 c0_i32_477
  let v387 : BitVec 1 := Scalar.xori v385 v386
  let c0_i32_475 : BitVec 32 := 0#32
  let v384 : BitVec 1 := Scalar.cmpi .ne v383 c0_i32_475
  let v388 : BitVec 1 := Scalar.andi v387 v384
  let v389 : BitVec 32 := Scalar.addi v383 v382
  let v390 : BitVec 32 := Scalar.select v388 v389 v383
  let v1400 : Index := Scalar.indexCast v390
  let c0_887 : Index := 0#32
  let c31_888 : Index := 31#32
  let c0_i32_547 : BitVec 32 := 0#32
  let c0_i32_478 : BitVec 32 := 0#32
  let c1_i32_480 : BitVec 32 := 1#32
  let arg17 : BitVec 32 := Scf.iv c0_i32_478 c1_i32_480 k0_t21
  let c1_i32_546 : BitVec 32 := 1#32
  let v500 : BitVec 32 := Scalar.muli arg17 c1_i32_546
  let v501 : BitVec 32 := Scalar.addi c0_i32_547 v500
  let c16_i32_886 : BitVec 32 := 16#32
  let v1398 : BitVec 32 := Scalar.muli v501 c16_i32_886
  let v1399 : BitVec 32 := v1398
  let v1401 : Index := Scalar.indexCast v1399
  let c0_889 : Index := 0#32
  ![v1400.toNat, 0, 31, v1401.toNat, 0]
def k0_off266 (k0_t20 : Fin k0_t20_loop.trips) (k0_t21 : Fin k0_t21_loop.trips) : Fin 5 → Nat :=
  let c0_i32_398 : BitVec 32 := 0#32
  let c0_i32_359 : BitVec 32 := 0#32
  let c1_i32_361 : BitVec 32 := 1#32
  let arg16 : BitVec 32 := Scf.iv c0_i32_359 c1_i32_361 k0_t20
  let c1_i32_397 : BitVec 32 := 1#32
  let v248 : BitVec 32 := Scalar.muli arg16 c1_i32_397
  let v249 : BitVec 32 := Scalar.addi c0_i32_398 v248
  let c4_i32_466 : BitVec 32 := 4#32
  let c0_i32_467 : BitVec 32 := 0#32
  let v371 : BitVec 1 := Scalar.cmpi .eq c4_i32_466 c0_i32_467
  let c1_i32_468 : BitVec 32 := 1#32
  let v372 : BitVec 32 := Scalar.select v371 c1_i32_468 c4_i32_466
  let v373 : BitVec 32 := Scalar.remsi v249 v372
  let c0_i32_470 : BitVec 32 := 0#32
  let v375 : BitVec 1 := Scalar.cmpi .slt v373 c0_i32_470
  let c0_i32_471 : BitVec 32 := 0#32
  let v376 : BitVec 1 := Scalar.cmpi .slt v372 c0_i32_471
  let v377 : BitVec 1 := Scalar.xori v375 v376
  let c0_i32_469 : BitVec 32 := 0#32
  let v374 : BitVec 1 := Scalar.cmpi .ne v373 c0_i32_469
  let v378 : BitVec 1 := Scalar.andi v377 v374
  let v379 : BitVec 32 := Scalar.addi v373 v372
  let v380 : BitVec 32 := Scalar.select v378 v379 v373
  let v1405 : Index := Scalar.indexCast v380
  let c0_890 : Index := 0#32
  let c0_i32_547 : BitVec 32 := 0#32
  let c0_i32_478 : BitVec 32 := 0#32
  let c1_i32_480 : BitVec 32 := 1#32
  let arg17 : BitVec 32 := Scf.iv c0_i32_478 c1_i32_480 k0_t21
  let c1_i32_546 : BitVec 32 := 1#32
  let v500 : BitVec 32 := Scalar.muli arg17 c1_i32_546
  let v501 : BitVec 32 := Scalar.addi c0_i32_547 v500
  let v1406 : Index := Scalar.indexCast v501
  let c512 : Index := 512#32
  let c0_891 : Index := 0#32
  ![v1405.toNat, 0, v1406.toNat, 512, 0]
def k0_off267 (v506 : BitVec 32) : Fin 5 → Nat :=
  let c0_892 : Index := 0#32
  let c32_893 : Index := 32#32
  let c0_i32_558 : BitVec 32 := 0#32
  let v525 : BitVec 1 := Scalar.cmpi .sgt v506 c0_i32_558
  let v526 : BitVec 32 := Scalar.extui v525
  let c0_i32_559 : BitVec 32 := 0#32
  let v527 : BitVec 1 := Scalar.cmpi .slt v506 c0_i32_559
  let v528 : BitVec 32 := Scalar.extui v527
  let v529 : BitVec 32 := Scalar.subi v526 v528
  let c128_i32_557 : BitVec 32 := 128#32
  let c0_i32_560 : BitVec 32 := 0#32
  let v530 : BitVec 1 := Scalar.cmpi .sgt c128_i32_557 c0_i32_560
  let v531 : BitVec 32 := Scalar.extui v530
  let c0_i32_561 : BitVec 32 := 0#32
  let v532 : BitVec 1 := Scalar.cmpi .slt c128_i32_557 c0_i32_561
  let v533 : BitVec 32 := Scalar.extui v532
  let v534 : BitVec 32 := Scalar.subi v531 v533
  let v535 : BitVec 1 := Scalar.cmpi .ne v529 v534
  let v536 : BitVec 32 := Scalar.remsi v506 c128_i32_557
  let c0_i32_562 : BitVec 32 := 0#32
  let v537 : BitVec 1 := Scalar.cmpi .ne v536 c0_i32_562
  let v538 : BitVec 1 := Scalar.andi v535 v537
  let v524 : BitVec 32 := Scalar.divsi v506 c128_i32_557
  let c1_i32_563 : BitVec 32 := 1#32
  let v539 : BitVec 32 := Scalar.subi v524 c1_i32_563
  let v540 : BitVec 32 := Scalar.select v538 v539 v524
  let v1410 : Index := Scalar.indexCast v540
  let c0_894 : Index := 0#32
  let c0_895 : Index := 0#32
  ![0, 32, v1410.toNat, 0, 0]
def k0_mult105 (k0_t21 : Fin k0_t21_loop.trips) : BitVec 32 :=
  let c0_i32_547 : BitVec 32 := 0#32
  let c0_i32_478 : BitVec 32 := 0#32
  let c1_i32_480 : BitVec 32 := 1#32
  let arg17 : BitVec 32 := Scf.iv c0_i32_478 c1_i32_480 k0_t21
  let c1_i32_546 : BitVec 32 := 1#32
  let v500 : BitVec 32 := Scalar.muli arg17 c1_i32_546
  let v501 : BitVec 32 := Scalar.addi c0_i32_547 v500
  let c16_i32_898 : BitVec 32 := 16#32
  let v1427 : BitVec 32 := Scalar.muli v501 c16_i32_898
  v1427
def k0_off268 (k0_t20 : Fin k0_t20_loop.trips) (k0_t21 : Fin k0_t21_loop.trips) : Fin 5 → Nat :=
  let c0_i32_398 : BitVec 32 := 0#32
  let c0_i32_359 : BitVec 32 := 0#32
  let c1_i32_361 : BitVec 32 := 1#32
  let arg16 : BitVec 32 := Scf.iv c0_i32_359 c1_i32_361 k0_t20
  let c1_i32_397 : BitVec 32 := 1#32
  let v248 : BitVec 32 := Scalar.muli arg16 c1_i32_397
  let v249 : BitVec 32 := Scalar.addi c0_i32_398 v248
  let c4_i32_472 : BitVec 32 := 4#32
  let c0_i32_473 : BitVec 32 := 0#32
  let v381 : BitVec 1 := Scalar.cmpi .eq c4_i32_472 c0_i32_473
  let c1_i32_474 : BitVec 32 := 1#32
  let v382 : BitVec 32 := Scalar.select v381 c1_i32_474 c4_i32_472
  let v383 : BitVec 32 := Scalar.remsi v249 v382
  let c0_i32_476 : BitVec 32 := 0#32
  let v385 : BitVec 1 := Scalar.cmpi .slt v383 c0_i32_476
  let c0_i32_477 : BitVec 32 := 0#32
  let v386 : BitVec 1 := Scalar.cmpi .slt v382 c0_i32_477
  let v387 : BitVec 1 := Scalar.xori v385 v386
  let c0_i32_475 : BitVec 32 := 0#32
  let v384 : BitVec 1 := Scalar.cmpi .ne v383 c0_i32_475
  let v388 : BitVec 1 := Scalar.andi v387 v384
  let v389 : BitVec 32 := Scalar.addi v383 v382
  let v390 : BitVec 32 := Scalar.select v388 v389 v383
  let v1429 : Index := Scalar.indexCast v390
  let c0_899 : Index := 0#32
  let c32_900 : Index := 32#32
  let c0_i32_547 : BitVec 32 := 0#32
  let c0_i32_478 : BitVec 32 := 0#32
  let c1_i32_480 : BitVec 32 := 1#32
  let arg17 : BitVec 32 := Scf.iv c0_i32_478 c1_i32_480 k0_t21
  let c1_i32_546 : BitVec 32 := 1#32
  let v500 : BitVec 32 := Scalar.muli arg17 c1_i32_546
  let v501 : BitVec 32 := Scalar.addi c0_i32_547 v500
  let c16_i32_898 : BitVec 32 := 16#32
  let v1427 : BitVec 32 := Scalar.muli v501 c16_i32_898
  let v1428 : BitVec 32 := v1427
  let v1430 : Index := Scalar.indexCast v1428
  let c0_901 : Index := 0#32
  ![v1429.toNat, 0, 32, v1430.toNat, 0]
def k0_off269 (v506 : BitVec 32) : Fin 5 → Nat :=
  let c0_902 : Index := 0#32
  let c33 : Index := 33#32
  let c0_i32_558 : BitVec 32 := 0#32
  let v525 : BitVec 1 := Scalar.cmpi .sgt v506 c0_i32_558
  let v526 : BitVec 32 := Scalar.extui v525
  let c0_i32_559 : BitVec 32 := 0#32
  let v527 : BitVec 1 := Scalar.cmpi .slt v506 c0_i32_559
  let v528 : BitVec 32 := Scalar.extui v527
  let v529 : BitVec 32 := Scalar.subi v526 v528
  let c128_i32_557 : BitVec 32 := 128#32
  let c0_i32_560 : BitVec 32 := 0#32
  let v530 : BitVec 1 := Scalar.cmpi .sgt c128_i32_557 c0_i32_560
  let v531 : BitVec 32 := Scalar.extui v530
  let c0_i32_561 : BitVec 32 := 0#32
  let v532 : BitVec 1 := Scalar.cmpi .slt c128_i32_557 c0_i32_561
  let v533 : BitVec 32 := Scalar.extui v532
  let v534 : BitVec 32 := Scalar.subi v531 v533
  let v535 : BitVec 1 := Scalar.cmpi .ne v529 v534
  let v536 : BitVec 32 := Scalar.remsi v506 c128_i32_557
  let c0_i32_562 : BitVec 32 := 0#32
  let v537 : BitVec 1 := Scalar.cmpi .ne v536 c0_i32_562
  let v538 : BitVec 1 := Scalar.andi v535 v537
  let v524 : BitVec 32 := Scalar.divsi v506 c128_i32_557
  let c1_i32_563 : BitVec 32 := 1#32
  let v539 : BitVec 32 := Scalar.subi v524 c1_i32_563
  let v540 : BitVec 32 := Scalar.select v538 v539 v524
  let v1434 : Index := Scalar.indexCast v540
  let c0_903 : Index := 0#32
  let c0_904 : Index := 0#32
  ![0, 33, v1434.toNat, 0, 0]
def k0_mult106 (k0_t21 : Fin k0_t21_loop.trips) : BitVec 32 :=
  let c0_i32_547 : BitVec 32 := 0#32
  let c0_i32_478 : BitVec 32 := 0#32
  let c1_i32_480 : BitVec 32 := 1#32
  let arg17 : BitVec 32 := Scf.iv c0_i32_478 c1_i32_480 k0_t21
  let c1_i32_546 : BitVec 32 := 1#32
  let v500 : BitVec 32 := Scalar.muli arg17 c1_i32_546
  let v501 : BitVec 32 := Scalar.addi c0_i32_547 v500
  let c16_i32_907 : BitVec 32 := 16#32
  let v1451 : BitVec 32 := Scalar.muli v501 c16_i32_907
  v1451
def k0_off270 (k0_t20 : Fin k0_t20_loop.trips) (k0_t21 : Fin k0_t21_loop.trips) : Fin 5 → Nat :=
  let c0_i32_398 : BitVec 32 := 0#32
  let c0_i32_359 : BitVec 32 := 0#32
  let c1_i32_361 : BitVec 32 := 1#32
  let arg16 : BitVec 32 := Scf.iv c0_i32_359 c1_i32_361 k0_t20
  let c1_i32_397 : BitVec 32 := 1#32
  let v248 : BitVec 32 := Scalar.muli arg16 c1_i32_397
  let v249 : BitVec 32 := Scalar.addi c0_i32_398 v248
  let c4_i32_472 : BitVec 32 := 4#32
  let c0_i32_473 : BitVec 32 := 0#32
  let v381 : BitVec 1 := Scalar.cmpi .eq c4_i32_472 c0_i32_473
  let c1_i32_474 : BitVec 32 := 1#32
  let v382 : BitVec 32 := Scalar.select v381 c1_i32_474 c4_i32_472
  let v383 : BitVec 32 := Scalar.remsi v249 v382
  let c0_i32_476 : BitVec 32 := 0#32
  let v385 : BitVec 1 := Scalar.cmpi .slt v383 c0_i32_476
  let c0_i32_477 : BitVec 32 := 0#32
  let v386 : BitVec 1 := Scalar.cmpi .slt v382 c0_i32_477
  let v387 : BitVec 1 := Scalar.xori v385 v386
  let c0_i32_475 : BitVec 32 := 0#32
  let v384 : BitVec 1 := Scalar.cmpi .ne v383 c0_i32_475
  let v388 : BitVec 1 := Scalar.andi v387 v384
  let v389 : BitVec 32 := Scalar.addi v383 v382
  let v390 : BitVec 32 := Scalar.select v388 v389 v383
  let v1453 : Index := Scalar.indexCast v390
  let c0_908 : Index := 0#32
  let c33_909 : Index := 33#32
  let c0_i32_547 : BitVec 32 := 0#32
  let c0_i32_478 : BitVec 32 := 0#32
  let c1_i32_480 : BitVec 32 := 1#32
  let arg17 : BitVec 32 := Scf.iv c0_i32_478 c1_i32_480 k0_t21
  let c1_i32_546 : BitVec 32 := 1#32
  let v500 : BitVec 32 := Scalar.muli arg17 c1_i32_546
  let v501 : BitVec 32 := Scalar.addi c0_i32_547 v500
  let c16_i32_907 : BitVec 32 := 16#32
  let v1451 : BitVec 32 := Scalar.muli v501 c16_i32_907
  let v1452 : BitVec 32 := v1451
  let v1454 : Index := Scalar.indexCast v1452
  let c0_910 : Index := 0#32
  ![v1453.toNat, 0, 33, v1454.toNat, 0]
def k0_off271 (k0_t20 : Fin k0_t20_loop.trips) (k0_t21 : Fin k0_t21_loop.trips) : Fin 5 → Nat :=
  let c0_i32_398 : BitVec 32 := 0#32
  let c0_i32_359 : BitVec 32 := 0#32
  let c1_i32_361 : BitVec 32 := 1#32
  let arg16 : BitVec 32 := Scf.iv c0_i32_359 c1_i32_361 k0_t20
  let c1_i32_397 : BitVec 32 := 1#32
  let v248 : BitVec 32 := Scalar.muli arg16 c1_i32_397
  let v249 : BitVec 32 := Scalar.addi c0_i32_398 v248
  let c4_i32_466 : BitVec 32 := 4#32
  let c0_i32_467 : BitVec 32 := 0#32
  let v371 : BitVec 1 := Scalar.cmpi .eq c4_i32_466 c0_i32_467
  let c1_i32_468 : BitVec 32 := 1#32
  let v372 : BitVec 32 := Scalar.select v371 c1_i32_468 c4_i32_466
  let v373 : BitVec 32 := Scalar.remsi v249 v372
  let c0_i32_470 : BitVec 32 := 0#32
  let v375 : BitVec 1 := Scalar.cmpi .slt v373 c0_i32_470
  let c0_i32_471 : BitVec 32 := 0#32
  let v376 : BitVec 1 := Scalar.cmpi .slt v372 c0_i32_471
  let v377 : BitVec 1 := Scalar.xori v375 v376
  let c0_i32_469 : BitVec 32 := 0#32
  let v374 : BitVec 1 := Scalar.cmpi .ne v373 c0_i32_469
  let v378 : BitVec 1 := Scalar.andi v377 v374
  let v379 : BitVec 32 := Scalar.addi v373 v372
  let v380 : BitVec 32 := Scalar.select v378 v379 v373
  let v1458 : Index := Scalar.indexCast v380
  let c0_911 : Index := 0#32
  let c0_i32_547 : BitVec 32 := 0#32
  let c0_i32_478 : BitVec 32 := 0#32
  let c1_i32_480 : BitVec 32 := 1#32
  let arg17 : BitVec 32 := Scf.iv c0_i32_478 c1_i32_480 k0_t21
  let c1_i32_546 : BitVec 32 := 1#32
  let v500 : BitVec 32 := Scalar.muli arg17 c1_i32_546
  let v501 : BitVec 32 := Scalar.addi c0_i32_547 v500
  let v1459 : Index := Scalar.indexCast v501
  let c544 : Index := 544#32
  let c0_912 : Index := 0#32
  ![v1458.toNat, 0, v1459.toNat, 544, 0]
def k0_off272 (v506 : BitVec 32) : Fin 5 → Nat :=
  let c0_913 : Index := 0#32
  let c34 : Index := 34#32
  let c0_i32_558 : BitVec 32 := 0#32
  let v525 : BitVec 1 := Scalar.cmpi .sgt v506 c0_i32_558
  let v526 : BitVec 32 := Scalar.extui v525
  let c0_i32_559 : BitVec 32 := 0#32
  let v527 : BitVec 1 := Scalar.cmpi .slt v506 c0_i32_559
  let v528 : BitVec 32 := Scalar.extui v527
  let v529 : BitVec 32 := Scalar.subi v526 v528
  let c128_i32_557 : BitVec 32 := 128#32
  let c0_i32_560 : BitVec 32 := 0#32
  let v530 : BitVec 1 := Scalar.cmpi .sgt c128_i32_557 c0_i32_560
  let v531 : BitVec 32 := Scalar.extui v530
  let c0_i32_561 : BitVec 32 := 0#32
  let v532 : BitVec 1 := Scalar.cmpi .slt c128_i32_557 c0_i32_561
  let v533 : BitVec 32 := Scalar.extui v532
  let v534 : BitVec 32 := Scalar.subi v531 v533
  let v535 : BitVec 1 := Scalar.cmpi .ne v529 v534
  let v536 : BitVec 32 := Scalar.remsi v506 c128_i32_557
  let c0_i32_562 : BitVec 32 := 0#32
  let v537 : BitVec 1 := Scalar.cmpi .ne v536 c0_i32_562
  let v538 : BitVec 1 := Scalar.andi v535 v537
  let v524 : BitVec 32 := Scalar.divsi v506 c128_i32_557
  let c1_i32_563 : BitVec 32 := 1#32
  let v539 : BitVec 32 := Scalar.subi v524 c1_i32_563
  let v540 : BitVec 32 := Scalar.select v538 v539 v524
  let v1463 : Index := Scalar.indexCast v540
  let c0_914 : Index := 0#32
  let c0_915 : Index := 0#32
  ![0, 34, v1463.toNat, 0, 0]
def k0_mult107 (k0_t21 : Fin k0_t21_loop.trips) : BitVec 32 :=
  let c0_i32_547 : BitVec 32 := 0#32
  let c0_i32_478 : BitVec 32 := 0#32
  let c1_i32_480 : BitVec 32 := 1#32
  let arg17 : BitVec 32 := Scf.iv c0_i32_478 c1_i32_480 k0_t21
  let c1_i32_546 : BitVec 32 := 1#32
  let v500 : BitVec 32 := Scalar.muli arg17 c1_i32_546
  let v501 : BitVec 32 := Scalar.addi c0_i32_547 v500
  let c16_i32_918 : BitVec 32 := 16#32
  let v1480 : BitVec 32 := Scalar.muli v501 c16_i32_918
  v1480
def k0_off273 (k0_t20 : Fin k0_t20_loop.trips) (k0_t21 : Fin k0_t21_loop.trips) : Fin 5 → Nat :=
  let c0_i32_398 : BitVec 32 := 0#32
  let c0_i32_359 : BitVec 32 := 0#32
  let c1_i32_361 : BitVec 32 := 1#32
  let arg16 : BitVec 32 := Scf.iv c0_i32_359 c1_i32_361 k0_t20
  let c1_i32_397 : BitVec 32 := 1#32
  let v248 : BitVec 32 := Scalar.muli arg16 c1_i32_397
  let v249 : BitVec 32 := Scalar.addi c0_i32_398 v248
  let c4_i32_472 : BitVec 32 := 4#32
  let c0_i32_473 : BitVec 32 := 0#32
  let v381 : BitVec 1 := Scalar.cmpi .eq c4_i32_472 c0_i32_473
  let c1_i32_474 : BitVec 32 := 1#32
  let v382 : BitVec 32 := Scalar.select v381 c1_i32_474 c4_i32_472
  let v383 : BitVec 32 := Scalar.remsi v249 v382
  let c0_i32_476 : BitVec 32 := 0#32
  let v385 : BitVec 1 := Scalar.cmpi .slt v383 c0_i32_476
  let c0_i32_477 : BitVec 32 := 0#32
  let v386 : BitVec 1 := Scalar.cmpi .slt v382 c0_i32_477
  let v387 : BitVec 1 := Scalar.xori v385 v386
  let c0_i32_475 : BitVec 32 := 0#32
  let v384 : BitVec 1 := Scalar.cmpi .ne v383 c0_i32_475
  let v388 : BitVec 1 := Scalar.andi v387 v384
  let v389 : BitVec 32 := Scalar.addi v383 v382
  let v390 : BitVec 32 := Scalar.select v388 v389 v383
  let v1482 : Index := Scalar.indexCast v390
  let c0_919 : Index := 0#32
  let c34_920 : Index := 34#32
  let c0_i32_547 : BitVec 32 := 0#32
  let c0_i32_478 : BitVec 32 := 0#32
  let c1_i32_480 : BitVec 32 := 1#32
  let arg17 : BitVec 32 := Scf.iv c0_i32_478 c1_i32_480 k0_t21
  let c1_i32_546 : BitVec 32 := 1#32
  let v500 : BitVec 32 := Scalar.muli arg17 c1_i32_546
  let v501 : BitVec 32 := Scalar.addi c0_i32_547 v500
  let c16_i32_918 : BitVec 32 := 16#32
  let v1480 : BitVec 32 := Scalar.muli v501 c16_i32_918
  let v1481 : BitVec 32 := v1480
  let v1483 : Index := Scalar.indexCast v1481
  let c0_921 : Index := 0#32
  ![v1482.toNat, 0, 34, v1483.toNat, 0]
def k0_off274 (v506 : BitVec 32) : Fin 5 → Nat :=
  let c0_922 : Index := 0#32
  let c35 : Index := 35#32
  let c0_i32_558 : BitVec 32 := 0#32
  let v525 : BitVec 1 := Scalar.cmpi .sgt v506 c0_i32_558
  let v526 : BitVec 32 := Scalar.extui v525
  let c0_i32_559 : BitVec 32 := 0#32
  let v527 : BitVec 1 := Scalar.cmpi .slt v506 c0_i32_559
  let v528 : BitVec 32 := Scalar.extui v527
  let v529 : BitVec 32 := Scalar.subi v526 v528
  let c128_i32_557 : BitVec 32 := 128#32
  let c0_i32_560 : BitVec 32 := 0#32
  let v530 : BitVec 1 := Scalar.cmpi .sgt c128_i32_557 c0_i32_560
  let v531 : BitVec 32 := Scalar.extui v530
  let c0_i32_561 : BitVec 32 := 0#32
  let v532 : BitVec 1 := Scalar.cmpi .slt c128_i32_557 c0_i32_561
  let v533 : BitVec 32 := Scalar.extui v532
  let v534 : BitVec 32 := Scalar.subi v531 v533
  let v535 : BitVec 1 := Scalar.cmpi .ne v529 v534
  let v536 : BitVec 32 := Scalar.remsi v506 c128_i32_557
  let c0_i32_562 : BitVec 32 := 0#32
  let v537 : BitVec 1 := Scalar.cmpi .ne v536 c0_i32_562
  let v538 : BitVec 1 := Scalar.andi v535 v537
  let v524 : BitVec 32 := Scalar.divsi v506 c128_i32_557
  let c1_i32_563 : BitVec 32 := 1#32
  let v539 : BitVec 32 := Scalar.subi v524 c1_i32_563
  let v540 : BitVec 32 := Scalar.select v538 v539 v524
  let v1487 : Index := Scalar.indexCast v540
  let c0_923 : Index := 0#32
  let c0_924 : Index := 0#32
  ![0, 35, v1487.toNat, 0, 0]
def k0_mult108 (k0_t21 : Fin k0_t21_loop.trips) : BitVec 32 :=
  let c0_i32_547 : BitVec 32 := 0#32
  let c0_i32_478 : BitVec 32 := 0#32
  let c1_i32_480 : BitVec 32 := 1#32
  let arg17 : BitVec 32 := Scf.iv c0_i32_478 c1_i32_480 k0_t21
  let c1_i32_546 : BitVec 32 := 1#32
  let v500 : BitVec 32 := Scalar.muli arg17 c1_i32_546
  let v501 : BitVec 32 := Scalar.addi c0_i32_547 v500
  let c16_i32_927 : BitVec 32 := 16#32
  let v1504 : BitVec 32 := Scalar.muli v501 c16_i32_927
  v1504
def k0_off275 (k0_t20 : Fin k0_t20_loop.trips) (k0_t21 : Fin k0_t21_loop.trips) : Fin 5 → Nat :=
  let c0_i32_398 : BitVec 32 := 0#32
  let c0_i32_359 : BitVec 32 := 0#32
  let c1_i32_361 : BitVec 32 := 1#32
  let arg16 : BitVec 32 := Scf.iv c0_i32_359 c1_i32_361 k0_t20
  let c1_i32_397 : BitVec 32 := 1#32
  let v248 : BitVec 32 := Scalar.muli arg16 c1_i32_397
  let v249 : BitVec 32 := Scalar.addi c0_i32_398 v248
  let c4_i32_472 : BitVec 32 := 4#32
  let c0_i32_473 : BitVec 32 := 0#32
  let v381 : BitVec 1 := Scalar.cmpi .eq c4_i32_472 c0_i32_473
  let c1_i32_474 : BitVec 32 := 1#32
  let v382 : BitVec 32 := Scalar.select v381 c1_i32_474 c4_i32_472
  let v383 : BitVec 32 := Scalar.remsi v249 v382
  let c0_i32_476 : BitVec 32 := 0#32
  let v385 : BitVec 1 := Scalar.cmpi .slt v383 c0_i32_476
  let c0_i32_477 : BitVec 32 := 0#32
  let v386 : BitVec 1 := Scalar.cmpi .slt v382 c0_i32_477
  let v387 : BitVec 1 := Scalar.xori v385 v386
  let c0_i32_475 : BitVec 32 := 0#32
  let v384 : BitVec 1 := Scalar.cmpi .ne v383 c0_i32_475
  let v388 : BitVec 1 := Scalar.andi v387 v384
  let v389 : BitVec 32 := Scalar.addi v383 v382
  let v390 : BitVec 32 := Scalar.select v388 v389 v383
  let v1506 : Index := Scalar.indexCast v390
  let c0_928 : Index := 0#32
  let c35_929 : Index := 35#32
  let c0_i32_547 : BitVec 32 := 0#32
  let c0_i32_478 : BitVec 32 := 0#32
  let c1_i32_480 : BitVec 32 := 1#32
  let arg17 : BitVec 32 := Scf.iv c0_i32_478 c1_i32_480 k0_t21
  let c1_i32_546 : BitVec 32 := 1#32
  let v500 : BitVec 32 := Scalar.muli arg17 c1_i32_546
  let v501 : BitVec 32 := Scalar.addi c0_i32_547 v500
  let c16_i32_927 : BitVec 32 := 16#32
  let v1504 : BitVec 32 := Scalar.muli v501 c16_i32_927
  let v1505 : BitVec 32 := v1504
  let v1507 : Index := Scalar.indexCast v1505
  let c0_930 : Index := 0#32
  ![v1506.toNat, 0, 35, v1507.toNat, 0]
def k0_off276 (k0_t20 : Fin k0_t20_loop.trips) (k0_t21 : Fin k0_t21_loop.trips) : Fin 5 → Nat :=
  let c0_i32_398 : BitVec 32 := 0#32
  let c0_i32_359 : BitVec 32 := 0#32
  let c1_i32_361 : BitVec 32 := 1#32
  let arg16 : BitVec 32 := Scf.iv c0_i32_359 c1_i32_361 k0_t20
  let c1_i32_397 : BitVec 32 := 1#32
  let v248 : BitVec 32 := Scalar.muli arg16 c1_i32_397
  let v249 : BitVec 32 := Scalar.addi c0_i32_398 v248
  let c4_i32_466 : BitVec 32 := 4#32
  let c0_i32_467 : BitVec 32 := 0#32
  let v371 : BitVec 1 := Scalar.cmpi .eq c4_i32_466 c0_i32_467
  let c1_i32_468 : BitVec 32 := 1#32
  let v372 : BitVec 32 := Scalar.select v371 c1_i32_468 c4_i32_466
  let v373 : BitVec 32 := Scalar.remsi v249 v372
  let c0_i32_470 : BitVec 32 := 0#32
  let v375 : BitVec 1 := Scalar.cmpi .slt v373 c0_i32_470
  let c0_i32_471 : BitVec 32 := 0#32
  let v376 : BitVec 1 := Scalar.cmpi .slt v372 c0_i32_471
  let v377 : BitVec 1 := Scalar.xori v375 v376
  let c0_i32_469 : BitVec 32 := 0#32
  let v374 : BitVec 1 := Scalar.cmpi .ne v373 c0_i32_469
  let v378 : BitVec 1 := Scalar.andi v377 v374
  let v379 : BitVec 32 := Scalar.addi v373 v372
  let v380 : BitVec 32 := Scalar.select v378 v379 v373
  let v1511 : Index := Scalar.indexCast v380
  let c1_931 : Index := 1#32
  let c0_i32_547 : BitVec 32 := 0#32
  let c0_i32_478 : BitVec 32 := 0#32
  let c1_i32_480 : BitVec 32 := 1#32
  let arg17 : BitVec 32 := Scf.iv c0_i32_478 c1_i32_480 k0_t21
  let c1_i32_546 : BitVec 32 := 1#32
  let v500 : BitVec 32 := Scalar.muli arg17 c1_i32_546
  let v501 : BitVec 32 := Scalar.addi c0_i32_547 v500
  let v1512 : Index := Scalar.indexCast v501
  let c0_932 : Index := 0#32
  let c0_933 : Index := 0#32
  ![v1511.toNat, 1, v1512.toNat, 0, 0]
def k0_off277 (v506 : BitVec 32) : Fin 5 → Nat :=
  let c1_934 : Index := 1#32
  let c0_935 : Index := 0#32
  let c0_i32_558 : BitVec 32 := 0#32
  let v525 : BitVec 1 := Scalar.cmpi .sgt v506 c0_i32_558
  let v526 : BitVec 32 := Scalar.extui v525
  let c0_i32_559 : BitVec 32 := 0#32
  let v527 : BitVec 1 := Scalar.cmpi .slt v506 c0_i32_559
  let v528 : BitVec 32 := Scalar.extui v527
  let v529 : BitVec 32 := Scalar.subi v526 v528
  let c128_i32_557 : BitVec 32 := 128#32
  let c0_i32_560 : BitVec 32 := 0#32
  let v530 : BitVec 1 := Scalar.cmpi .sgt c128_i32_557 c0_i32_560
  let v531 : BitVec 32 := Scalar.extui v530
  let c0_i32_561 : BitVec 32 := 0#32
  let v532 : BitVec 1 := Scalar.cmpi .slt c128_i32_557 c0_i32_561
  let v533 : BitVec 32 := Scalar.extui v532
  let v534 : BitVec 32 := Scalar.subi v531 v533
  let v535 : BitVec 1 := Scalar.cmpi .ne v529 v534
  let v536 : BitVec 32 := Scalar.remsi v506 c128_i32_557
  let c0_i32_562 : BitVec 32 := 0#32
  let v537 : BitVec 1 := Scalar.cmpi .ne v536 c0_i32_562
  let v538 : BitVec 1 := Scalar.andi v535 v537
  let v524 : BitVec 32 := Scalar.divsi v506 c128_i32_557
  let c1_i32_563 : BitVec 32 := 1#32
  let v539 : BitVec 32 := Scalar.subi v524 c1_i32_563
  let v540 : BitVec 32 := Scalar.select v538 v539 v524
  let v1516 : Index := Scalar.indexCast v540
  let c0_936 : Index := 0#32
  let c0_937 : Index := 0#32
  ![1, 0, v1516.toNat, 0, 0]
def k0_mult109 (k0_t21 : Fin k0_t21_loop.trips) : BitVec 32 :=
  let c0_i32_547 : BitVec 32 := 0#32
  let c0_i32_478 : BitVec 32 := 0#32
  let c1_i32_480 : BitVec 32 := 1#32
  let arg17 : BitVec 32 := Scf.iv c0_i32_478 c1_i32_480 k0_t21
  let c1_i32_546 : BitVec 32 := 1#32
  let v500 : BitVec 32 := Scalar.muli arg17 c1_i32_546
  let v501 : BitVec 32 := Scalar.addi c0_i32_547 v500
  let c16_i32_940 : BitVec 32 := 16#32
  let v1533 : BitVec 32 := Scalar.muli v501 c16_i32_940
  v1533
def k0_off278 (k0_t20 : Fin k0_t20_loop.trips) (k0_t21 : Fin k0_t21_loop.trips) : Fin 5 → Nat :=
  let c0_i32_398 : BitVec 32 := 0#32
  let c0_i32_359 : BitVec 32 := 0#32
  let c1_i32_361 : BitVec 32 := 1#32
  let arg16 : BitVec 32 := Scf.iv c0_i32_359 c1_i32_361 k0_t20
  let c1_i32_397 : BitVec 32 := 1#32
  let v248 : BitVec 32 := Scalar.muli arg16 c1_i32_397
  let v249 : BitVec 32 := Scalar.addi c0_i32_398 v248
  let c4_i32_472 : BitVec 32 := 4#32
  let c0_i32_473 : BitVec 32 := 0#32
  let v381 : BitVec 1 := Scalar.cmpi .eq c4_i32_472 c0_i32_473
  let c1_i32_474 : BitVec 32 := 1#32
  let v382 : BitVec 32 := Scalar.select v381 c1_i32_474 c4_i32_472
  let v383 : BitVec 32 := Scalar.remsi v249 v382
  let c0_i32_476 : BitVec 32 := 0#32
  let v385 : BitVec 1 := Scalar.cmpi .slt v383 c0_i32_476
  let c0_i32_477 : BitVec 32 := 0#32
  let v386 : BitVec 1 := Scalar.cmpi .slt v382 c0_i32_477
  let v387 : BitVec 1 := Scalar.xori v385 v386
  let c0_i32_475 : BitVec 32 := 0#32
  let v384 : BitVec 1 := Scalar.cmpi .ne v383 c0_i32_475
  let v388 : BitVec 1 := Scalar.andi v387 v384
  let v389 : BitVec 32 := Scalar.addi v383 v382
  let v390 : BitVec 32 := Scalar.select v388 v389 v383
  let v1535 : Index := Scalar.indexCast v390
  let c1_941 : Index := 1#32
  let c0_942 : Index := 0#32
  let c0_i32_547 : BitVec 32 := 0#32
  let c0_i32_478 : BitVec 32 := 0#32
  let c1_i32_480 : BitVec 32 := 1#32
  let arg17 : BitVec 32 := Scf.iv c0_i32_478 c1_i32_480 k0_t21
  let c1_i32_546 : BitVec 32 := 1#32
  let v500 : BitVec 32 := Scalar.muli arg17 c1_i32_546
  let v501 : BitVec 32 := Scalar.addi c0_i32_547 v500
  let c16_i32_940 : BitVec 32 := 16#32
  let v1533 : BitVec 32 := Scalar.muli v501 c16_i32_940
  let v1534 : BitVec 32 := v1533
  let v1536 : Index := Scalar.indexCast v1534
  let c0_943 : Index := 0#32
  ![v1535.toNat, 1, 0, v1536.toNat, 0]
def k0_off279 (v506 : BitVec 32) : Fin 5 → Nat :=
  let c1_944 : Index := 1#32
  let c1_945 : Index := 1#32
  let c0_i32_558 : BitVec 32 := 0#32
  let v525 : BitVec 1 := Scalar.cmpi .sgt v506 c0_i32_558
  let v526 : BitVec 32 := Scalar.extui v525
  let c0_i32_559 : BitVec 32 := 0#32
  let v527 : BitVec 1 := Scalar.cmpi .slt v506 c0_i32_559
  let v528 : BitVec 32 := Scalar.extui v527
  let v529 : BitVec 32 := Scalar.subi v526 v528
  let c128_i32_557 : BitVec 32 := 128#32
  let c0_i32_560 : BitVec 32 := 0#32
  let v530 : BitVec 1 := Scalar.cmpi .sgt c128_i32_557 c0_i32_560
  let v531 : BitVec 32 := Scalar.extui v530
  let c0_i32_561 : BitVec 32 := 0#32
  let v532 : BitVec 1 := Scalar.cmpi .slt c128_i32_557 c0_i32_561
  let v533 : BitVec 32 := Scalar.extui v532
  let v534 : BitVec 32 := Scalar.subi v531 v533
  let v535 : BitVec 1 := Scalar.cmpi .ne v529 v534
  let v536 : BitVec 32 := Scalar.remsi v506 c128_i32_557
  let c0_i32_562 : BitVec 32 := 0#32
  let v537 : BitVec 1 := Scalar.cmpi .ne v536 c0_i32_562
  let v538 : BitVec 1 := Scalar.andi v535 v537
  let v524 : BitVec 32 := Scalar.divsi v506 c128_i32_557
  let c1_i32_563 : BitVec 32 := 1#32
  let v539 : BitVec 32 := Scalar.subi v524 c1_i32_563
  let v540 : BitVec 32 := Scalar.select v538 v539 v524
  let v1540 : Index := Scalar.indexCast v540
  let c0_946 : Index := 0#32
  let c0_947 : Index := 0#32
  ![1, 1, v1540.toNat, 0, 0]
def k0_mult110 (k0_t21 : Fin k0_t21_loop.trips) : BitVec 32 :=
  let c0_i32_547 : BitVec 32 := 0#32
  let c0_i32_478 : BitVec 32 := 0#32
  let c1_i32_480 : BitVec 32 := 1#32
  let arg17 : BitVec 32 := Scf.iv c0_i32_478 c1_i32_480 k0_t21
  let c1_i32_546 : BitVec 32 := 1#32
  let v500 : BitVec 32 := Scalar.muli arg17 c1_i32_546
  let v501 : BitVec 32 := Scalar.addi c0_i32_547 v500
  let c16_i32_950 : BitVec 32 := 16#32
  let v1557 : BitVec 32 := Scalar.muli v501 c16_i32_950
  v1557
def k0_off280 (k0_t20 : Fin k0_t20_loop.trips) (k0_t21 : Fin k0_t21_loop.trips) : Fin 5 → Nat :=
  let c0_i32_398 : BitVec 32 := 0#32
  let c0_i32_359 : BitVec 32 := 0#32
  let c1_i32_361 : BitVec 32 := 1#32
  let arg16 : BitVec 32 := Scf.iv c0_i32_359 c1_i32_361 k0_t20
  let c1_i32_397 : BitVec 32 := 1#32
  let v248 : BitVec 32 := Scalar.muli arg16 c1_i32_397
  let v249 : BitVec 32 := Scalar.addi c0_i32_398 v248
  let c4_i32_472 : BitVec 32 := 4#32
  let c0_i32_473 : BitVec 32 := 0#32
  let v381 : BitVec 1 := Scalar.cmpi .eq c4_i32_472 c0_i32_473
  let c1_i32_474 : BitVec 32 := 1#32
  let v382 : BitVec 32 := Scalar.select v381 c1_i32_474 c4_i32_472
  let v383 : BitVec 32 := Scalar.remsi v249 v382
  let c0_i32_476 : BitVec 32 := 0#32
  let v385 : BitVec 1 := Scalar.cmpi .slt v383 c0_i32_476
  let c0_i32_477 : BitVec 32 := 0#32
  let v386 : BitVec 1 := Scalar.cmpi .slt v382 c0_i32_477
  let v387 : BitVec 1 := Scalar.xori v385 v386
  let c0_i32_475 : BitVec 32 := 0#32
  let v384 : BitVec 1 := Scalar.cmpi .ne v383 c0_i32_475
  let v388 : BitVec 1 := Scalar.andi v387 v384
  let v389 : BitVec 32 := Scalar.addi v383 v382
  let v390 : BitVec 32 := Scalar.select v388 v389 v383
  let v1559 : Index := Scalar.indexCast v390
  let c1_951 : Index := 1#32
  let c1_952 : Index := 1#32
  let c0_i32_547 : BitVec 32 := 0#32
  let c0_i32_478 : BitVec 32 := 0#32
  let c1_i32_480 : BitVec 32 := 1#32
  let arg17 : BitVec 32 := Scf.iv c0_i32_478 c1_i32_480 k0_t21
  let c1_i32_546 : BitVec 32 := 1#32
  let v500 : BitVec 32 := Scalar.muli arg17 c1_i32_546
  let v501 : BitVec 32 := Scalar.addi c0_i32_547 v500
  let c16_i32_950 : BitVec 32 := 16#32
  let v1557 : BitVec 32 := Scalar.muli v501 c16_i32_950
  let v1558 : BitVec 32 := v1557
  let v1560 : Index := Scalar.indexCast v1558
  let c0_953 : Index := 0#32
  ![v1559.toNat, 1, 1, v1560.toNat, 0]
def k0_off281 (k0_t20 : Fin k0_t20_loop.trips) (k0_t21 : Fin k0_t21_loop.trips) : Fin 5 → Nat :=
  let c0_i32_398 : BitVec 32 := 0#32
  let c0_i32_359 : BitVec 32 := 0#32
  let c1_i32_361 : BitVec 32 := 1#32
  let arg16 : BitVec 32 := Scf.iv c0_i32_359 c1_i32_361 k0_t20
  let c1_i32_397 : BitVec 32 := 1#32
  let v248 : BitVec 32 := Scalar.muli arg16 c1_i32_397
  let v249 : BitVec 32 := Scalar.addi c0_i32_398 v248
  let c4_i32_466 : BitVec 32 := 4#32
  let c0_i32_467 : BitVec 32 := 0#32
  let v371 : BitVec 1 := Scalar.cmpi .eq c4_i32_466 c0_i32_467
  let c1_i32_468 : BitVec 32 := 1#32
  let v372 : BitVec 32 := Scalar.select v371 c1_i32_468 c4_i32_466
  let v373 : BitVec 32 := Scalar.remsi v249 v372
  let c0_i32_470 : BitVec 32 := 0#32
  let v375 : BitVec 1 := Scalar.cmpi .slt v373 c0_i32_470
  let c0_i32_471 : BitVec 32 := 0#32
  let v376 : BitVec 1 := Scalar.cmpi .slt v372 c0_i32_471
  let v377 : BitVec 1 := Scalar.xori v375 v376
  let c0_i32_469 : BitVec 32 := 0#32
  let v374 : BitVec 1 := Scalar.cmpi .ne v373 c0_i32_469
  let v378 : BitVec 1 := Scalar.andi v377 v374
  let v379 : BitVec 32 := Scalar.addi v373 v372
  let v380 : BitVec 32 := Scalar.select v378 v379 v373
  let v1564 : Index := Scalar.indexCast v380
  let c1_954 : Index := 1#32
  let c0_i32_547 : BitVec 32 := 0#32
  let c0_i32_478 : BitVec 32 := 0#32
  let c1_i32_480 : BitVec 32 := 1#32
  let arg17 : BitVec 32 := Scf.iv c0_i32_478 c1_i32_480 k0_t21
  let c1_i32_546 : BitVec 32 := 1#32
  let v500 : BitVec 32 := Scalar.muli arg17 c1_i32_546
  let v501 : BitVec 32 := Scalar.addi c0_i32_547 v500
  let v1565 : Index := Scalar.indexCast v501
  let c32_955 : Index := 32#32
  let c0_956 : Index := 0#32
  ![v1564.toNat, 1, v1565.toNat, 32, 0]
def k0_off282 (v506 : BitVec 32) : Fin 5 → Nat :=
  let c1_957 : Index := 1#32
  let c2_958 : Index := 2#32
  let c0_i32_558 : BitVec 32 := 0#32
  let v525 : BitVec 1 := Scalar.cmpi .sgt v506 c0_i32_558
  let v526 : BitVec 32 := Scalar.extui v525
  let c0_i32_559 : BitVec 32 := 0#32
  let v527 : BitVec 1 := Scalar.cmpi .slt v506 c0_i32_559
  let v528 : BitVec 32 := Scalar.extui v527
  let v529 : BitVec 32 := Scalar.subi v526 v528
  let c128_i32_557 : BitVec 32 := 128#32
  let c0_i32_560 : BitVec 32 := 0#32
  let v530 : BitVec 1 := Scalar.cmpi .sgt c128_i32_557 c0_i32_560
  let v531 : BitVec 32 := Scalar.extui v530
  let c0_i32_561 : BitVec 32 := 0#32
  let v532 : BitVec 1 := Scalar.cmpi .slt c128_i32_557 c0_i32_561
  let v533 : BitVec 32 := Scalar.extui v532
  let v534 : BitVec 32 := Scalar.subi v531 v533
  let v535 : BitVec 1 := Scalar.cmpi .ne v529 v534
  let v536 : BitVec 32 := Scalar.remsi v506 c128_i32_557
  let c0_i32_562 : BitVec 32 := 0#32
  let v537 : BitVec 1 := Scalar.cmpi .ne v536 c0_i32_562
  let v538 : BitVec 1 := Scalar.andi v535 v537
  let v524 : BitVec 32 := Scalar.divsi v506 c128_i32_557
  let c1_i32_563 : BitVec 32 := 1#32
  let v539 : BitVec 32 := Scalar.subi v524 c1_i32_563
  let v540 : BitVec 32 := Scalar.select v538 v539 v524
  let v1569 : Index := Scalar.indexCast v540
  let c0_959 : Index := 0#32
  let c0_960 : Index := 0#32
  ![1, 2, v1569.toNat, 0, 0]
def k0_mult111 (k0_t21 : Fin k0_t21_loop.trips) : BitVec 32 :=
  let c0_i32_547 : BitVec 32 := 0#32
  let c0_i32_478 : BitVec 32 := 0#32
  let c1_i32_480 : BitVec 32 := 1#32
  let arg17 : BitVec 32 := Scf.iv c0_i32_478 c1_i32_480 k0_t21
  let c1_i32_546 : BitVec 32 := 1#32
  let v500 : BitVec 32 := Scalar.muli arg17 c1_i32_546
  let v501 : BitVec 32 := Scalar.addi c0_i32_547 v500
  let c16_i32_963 : BitVec 32 := 16#32
  let v1586 : BitVec 32 := Scalar.muli v501 c16_i32_963
  v1586
def k0_off283 (k0_t20 : Fin k0_t20_loop.trips) (k0_t21 : Fin k0_t21_loop.trips) : Fin 5 → Nat :=
  let c0_i32_398 : BitVec 32 := 0#32
  let c0_i32_359 : BitVec 32 := 0#32
  let c1_i32_361 : BitVec 32 := 1#32
  let arg16 : BitVec 32 := Scf.iv c0_i32_359 c1_i32_361 k0_t20
  let c1_i32_397 : BitVec 32 := 1#32
  let v248 : BitVec 32 := Scalar.muli arg16 c1_i32_397
  let v249 : BitVec 32 := Scalar.addi c0_i32_398 v248
  let c4_i32_472 : BitVec 32 := 4#32
  let c0_i32_473 : BitVec 32 := 0#32
  let v381 : BitVec 1 := Scalar.cmpi .eq c4_i32_472 c0_i32_473
  let c1_i32_474 : BitVec 32 := 1#32
  let v382 : BitVec 32 := Scalar.select v381 c1_i32_474 c4_i32_472
  let v383 : BitVec 32 := Scalar.remsi v249 v382
  let c0_i32_476 : BitVec 32 := 0#32
  let v385 : BitVec 1 := Scalar.cmpi .slt v383 c0_i32_476
  let c0_i32_477 : BitVec 32 := 0#32
  let v386 : BitVec 1 := Scalar.cmpi .slt v382 c0_i32_477
  let v387 : BitVec 1 := Scalar.xori v385 v386
  let c0_i32_475 : BitVec 32 := 0#32
  let v384 : BitVec 1 := Scalar.cmpi .ne v383 c0_i32_475
  let v388 : BitVec 1 := Scalar.andi v387 v384
  let v389 : BitVec 32 := Scalar.addi v383 v382
  let v390 : BitVec 32 := Scalar.select v388 v389 v383
  let v1588 : Index := Scalar.indexCast v390
  let c1_964 : Index := 1#32
  let c2_965 : Index := 2#32
  let c0_i32_547 : BitVec 32 := 0#32
  let c0_i32_478 : BitVec 32 := 0#32
  let c1_i32_480 : BitVec 32 := 1#32
  let arg17 : BitVec 32 := Scf.iv c0_i32_478 c1_i32_480 k0_t21
  let c1_i32_546 : BitVec 32 := 1#32
  let v500 : BitVec 32 := Scalar.muli arg17 c1_i32_546
  let v501 : BitVec 32 := Scalar.addi c0_i32_547 v500
  let c16_i32_963 : BitVec 32 := 16#32
  let v1586 : BitVec 32 := Scalar.muli v501 c16_i32_963
  let v1587 : BitVec 32 := v1586
  let v1589 : Index := Scalar.indexCast v1587
  let c0_966 : Index := 0#32
  ![v1588.toNat, 1, 2, v1589.toNat, 0]
def k0_off284 (v506 : BitVec 32) : Fin 5 → Nat :=
  let c1_967 : Index := 1#32
  let c3_968 : Index := 3#32
  let c0_i32_558 : BitVec 32 := 0#32
  let v525 : BitVec 1 := Scalar.cmpi .sgt v506 c0_i32_558
  let v526 : BitVec 32 := Scalar.extui v525
  let c0_i32_559 : BitVec 32 := 0#32
  let v527 : BitVec 1 := Scalar.cmpi .slt v506 c0_i32_559
  let v528 : BitVec 32 := Scalar.extui v527
  let v529 : BitVec 32 := Scalar.subi v526 v528
  let c128_i32_557 : BitVec 32 := 128#32
  let c0_i32_560 : BitVec 32 := 0#32
  let v530 : BitVec 1 := Scalar.cmpi .sgt c128_i32_557 c0_i32_560
  let v531 : BitVec 32 := Scalar.extui v530
  let c0_i32_561 : BitVec 32 := 0#32
  let v532 : BitVec 1 := Scalar.cmpi .slt c128_i32_557 c0_i32_561
  let v533 : BitVec 32 := Scalar.extui v532
  let v534 : BitVec 32 := Scalar.subi v531 v533
  let v535 : BitVec 1 := Scalar.cmpi .ne v529 v534
  let v536 : BitVec 32 := Scalar.remsi v506 c128_i32_557
  let c0_i32_562 : BitVec 32 := 0#32
  let v537 : BitVec 1 := Scalar.cmpi .ne v536 c0_i32_562
  let v538 : BitVec 1 := Scalar.andi v535 v537
  let v524 : BitVec 32 := Scalar.divsi v506 c128_i32_557
  let c1_i32_563 : BitVec 32 := 1#32
  let v539 : BitVec 32 := Scalar.subi v524 c1_i32_563
  let v540 : BitVec 32 := Scalar.select v538 v539 v524
  let v1593 : Index := Scalar.indexCast v540
  let c0_969 : Index := 0#32
  let c0_970 : Index := 0#32
  ![1, 3, v1593.toNat, 0, 0]
def k0_mult112 (k0_t21 : Fin k0_t21_loop.trips) : BitVec 32 :=
  let c0_i32_547 : BitVec 32 := 0#32
  let c0_i32_478 : BitVec 32 := 0#32
  let c1_i32_480 : BitVec 32 := 1#32
  let arg17 : BitVec 32 := Scf.iv c0_i32_478 c1_i32_480 k0_t21
  let c1_i32_546 : BitVec 32 := 1#32
  let v500 : BitVec 32 := Scalar.muli arg17 c1_i32_546
  let v501 : BitVec 32 := Scalar.addi c0_i32_547 v500
  let c16_i32_973 : BitVec 32 := 16#32
  let v1610 : BitVec 32 := Scalar.muli v501 c16_i32_973
  v1610
def k0_off285 (k0_t20 : Fin k0_t20_loop.trips) (k0_t21 : Fin k0_t21_loop.trips) : Fin 5 → Nat :=
  let c0_i32_398 : BitVec 32 := 0#32
  let c0_i32_359 : BitVec 32 := 0#32
  let c1_i32_361 : BitVec 32 := 1#32
  let arg16 : BitVec 32 := Scf.iv c0_i32_359 c1_i32_361 k0_t20
  let c1_i32_397 : BitVec 32 := 1#32
  let v248 : BitVec 32 := Scalar.muli arg16 c1_i32_397
  let v249 : BitVec 32 := Scalar.addi c0_i32_398 v248
  let c4_i32_472 : BitVec 32 := 4#32
  let c0_i32_473 : BitVec 32 := 0#32
  let v381 : BitVec 1 := Scalar.cmpi .eq c4_i32_472 c0_i32_473
  let c1_i32_474 : BitVec 32 := 1#32
  let v382 : BitVec 32 := Scalar.select v381 c1_i32_474 c4_i32_472
  let v383 : BitVec 32 := Scalar.remsi v249 v382
  let c0_i32_476 : BitVec 32 := 0#32
  let v385 : BitVec 1 := Scalar.cmpi .slt v383 c0_i32_476
  let c0_i32_477 : BitVec 32 := 0#32
  let v386 : BitVec 1 := Scalar.cmpi .slt v382 c0_i32_477
  let v387 : BitVec 1 := Scalar.xori v385 v386
  let c0_i32_475 : BitVec 32 := 0#32
  let v384 : BitVec 1 := Scalar.cmpi .ne v383 c0_i32_475
  let v388 : BitVec 1 := Scalar.andi v387 v384
  let v389 : BitVec 32 := Scalar.addi v383 v382
  let v390 : BitVec 32 := Scalar.select v388 v389 v383
  let v1612 : Index := Scalar.indexCast v390
  let c1_974 : Index := 1#32
  let c3_975 : Index := 3#32
  let c0_i32_547 : BitVec 32 := 0#32
  let c0_i32_478 : BitVec 32 := 0#32
  let c1_i32_480 : BitVec 32 := 1#32
  let arg17 : BitVec 32 := Scf.iv c0_i32_478 c1_i32_480 k0_t21
  let c1_i32_546 : BitVec 32 := 1#32
  let v500 : BitVec 32 := Scalar.muli arg17 c1_i32_546
  let v501 : BitVec 32 := Scalar.addi c0_i32_547 v500
  let c16_i32_973 : BitVec 32 := 16#32
  let v1610 : BitVec 32 := Scalar.muli v501 c16_i32_973
  let v1611 : BitVec 32 := v1610
  let v1613 : Index := Scalar.indexCast v1611
  let c0_976 : Index := 0#32
  ![v1612.toNat, 1, 3, v1613.toNat, 0]
def k0_off286 (k0_t20 : Fin k0_t20_loop.trips) (k0_t21 : Fin k0_t21_loop.trips) : Fin 5 → Nat :=
  let c0_i32_398 : BitVec 32 := 0#32
  let c0_i32_359 : BitVec 32 := 0#32
  let c1_i32_361 : BitVec 32 := 1#32
  let arg16 : BitVec 32 := Scf.iv c0_i32_359 c1_i32_361 k0_t20
  let c1_i32_397 : BitVec 32 := 1#32
  let v248 : BitVec 32 := Scalar.muli arg16 c1_i32_397
  let v249 : BitVec 32 := Scalar.addi c0_i32_398 v248
  let c4_i32_466 : BitVec 32 := 4#32
  let c0_i32_467 : BitVec 32 := 0#32
  let v371 : BitVec 1 := Scalar.cmpi .eq c4_i32_466 c0_i32_467
  let c1_i32_468 : BitVec 32 := 1#32
  let v372 : BitVec 32 := Scalar.select v371 c1_i32_468 c4_i32_466
  let v373 : BitVec 32 := Scalar.remsi v249 v372
  let c0_i32_470 : BitVec 32 := 0#32
  let v375 : BitVec 1 := Scalar.cmpi .slt v373 c0_i32_470
  let c0_i32_471 : BitVec 32 := 0#32
  let v376 : BitVec 1 := Scalar.cmpi .slt v372 c0_i32_471
  let v377 : BitVec 1 := Scalar.xori v375 v376
  let c0_i32_469 : BitVec 32 := 0#32
  let v374 : BitVec 1 := Scalar.cmpi .ne v373 c0_i32_469
  let v378 : BitVec 1 := Scalar.andi v377 v374
  let v379 : BitVec 32 := Scalar.addi v373 v372
  let v380 : BitVec 32 := Scalar.select v378 v379 v373
  let v1617 : Index := Scalar.indexCast v380
  let c1_977 : Index := 1#32
  let c0_i32_547 : BitVec 32 := 0#32
  let c0_i32_478 : BitVec 32 := 0#32
  let c1_i32_480 : BitVec 32 := 1#32
  let arg17 : BitVec 32 := Scf.iv c0_i32_478 c1_i32_480 k0_t21
  let c1_i32_546 : BitVec 32 := 1#32
  let v500 : BitVec 32 := Scalar.muli arg17 c1_i32_546
  let v501 : BitVec 32 := Scalar.addi c0_i32_547 v500
  let v1618 : Index := Scalar.indexCast v501
  let c64_978 : Index := 64#32
  let c0_979 : Index := 0#32
  ![v1617.toNat, 1, v1618.toNat, 64, 0]
def k0_off287 (v506 : BitVec 32) : Fin 5 → Nat :=
  let c1_980 : Index := 1#32
  let c4_981 : Index := 4#32
  let c0_i32_558 : BitVec 32 := 0#32
  let v525 : BitVec 1 := Scalar.cmpi .sgt v506 c0_i32_558
  let v526 : BitVec 32 := Scalar.extui v525
  let c0_i32_559 : BitVec 32 := 0#32
  let v527 : BitVec 1 := Scalar.cmpi .slt v506 c0_i32_559
  let v528 : BitVec 32 := Scalar.extui v527
  let v529 : BitVec 32 := Scalar.subi v526 v528
  let c128_i32_557 : BitVec 32 := 128#32
  let c0_i32_560 : BitVec 32 := 0#32
  let v530 : BitVec 1 := Scalar.cmpi .sgt c128_i32_557 c0_i32_560
  let v531 : BitVec 32 := Scalar.extui v530
  let c0_i32_561 : BitVec 32 := 0#32
  let v532 : BitVec 1 := Scalar.cmpi .slt c128_i32_557 c0_i32_561
  let v533 : BitVec 32 := Scalar.extui v532
  let v534 : BitVec 32 := Scalar.subi v531 v533
  let v535 : BitVec 1 := Scalar.cmpi .ne v529 v534
  let v536 : BitVec 32 := Scalar.remsi v506 c128_i32_557
  let c0_i32_562 : BitVec 32 := 0#32
  let v537 : BitVec 1 := Scalar.cmpi .ne v536 c0_i32_562
  let v538 : BitVec 1 := Scalar.andi v535 v537
  let v524 : BitVec 32 := Scalar.divsi v506 c128_i32_557
  let c1_i32_563 : BitVec 32 := 1#32
  let v539 : BitVec 32 := Scalar.subi v524 c1_i32_563
  let v540 : BitVec 32 := Scalar.select v538 v539 v524
  let v1622 : Index := Scalar.indexCast v540
  let c0_982 : Index := 0#32
  let c0_983 : Index := 0#32
  ![1, 4, v1622.toNat, 0, 0]
def k0_mult113 (k0_t21 : Fin k0_t21_loop.trips) : BitVec 32 :=
  let c0_i32_547 : BitVec 32 := 0#32
  let c0_i32_478 : BitVec 32 := 0#32
  let c1_i32_480 : BitVec 32 := 1#32
  let arg17 : BitVec 32 := Scf.iv c0_i32_478 c1_i32_480 k0_t21
  let c1_i32_546 : BitVec 32 := 1#32
  let v500 : BitVec 32 := Scalar.muli arg17 c1_i32_546
  let v501 : BitVec 32 := Scalar.addi c0_i32_547 v500
  let c16_i32_986 : BitVec 32 := 16#32
  let v1639 : BitVec 32 := Scalar.muli v501 c16_i32_986
  v1639
def k0_off288 (k0_t20 : Fin k0_t20_loop.trips) (k0_t21 : Fin k0_t21_loop.trips) : Fin 5 → Nat :=
  let c0_i32_398 : BitVec 32 := 0#32
  let c0_i32_359 : BitVec 32 := 0#32
  let c1_i32_361 : BitVec 32 := 1#32
  let arg16 : BitVec 32 := Scf.iv c0_i32_359 c1_i32_361 k0_t20
  let c1_i32_397 : BitVec 32 := 1#32
  let v248 : BitVec 32 := Scalar.muli arg16 c1_i32_397
  let v249 : BitVec 32 := Scalar.addi c0_i32_398 v248
  let c4_i32_472 : BitVec 32 := 4#32
  let c0_i32_473 : BitVec 32 := 0#32
  let v381 : BitVec 1 := Scalar.cmpi .eq c4_i32_472 c0_i32_473
  let c1_i32_474 : BitVec 32 := 1#32
  let v382 : BitVec 32 := Scalar.select v381 c1_i32_474 c4_i32_472
  let v383 : BitVec 32 := Scalar.remsi v249 v382
  let c0_i32_476 : BitVec 32 := 0#32
  let v385 : BitVec 1 := Scalar.cmpi .slt v383 c0_i32_476
  let c0_i32_477 : BitVec 32 := 0#32
  let v386 : BitVec 1 := Scalar.cmpi .slt v382 c0_i32_477
  let v387 : BitVec 1 := Scalar.xori v385 v386
  let c0_i32_475 : BitVec 32 := 0#32
  let v384 : BitVec 1 := Scalar.cmpi .ne v383 c0_i32_475
  let v388 : BitVec 1 := Scalar.andi v387 v384
  let v389 : BitVec 32 := Scalar.addi v383 v382
  let v390 : BitVec 32 := Scalar.select v388 v389 v383
  let v1641 : Index := Scalar.indexCast v390
  let c1_987 : Index := 1#32
  let c4_988 : Index := 4#32
  let c0_i32_547 : BitVec 32 := 0#32
  let c0_i32_478 : BitVec 32 := 0#32
  let c1_i32_480 : BitVec 32 := 1#32
  let arg17 : BitVec 32 := Scf.iv c0_i32_478 c1_i32_480 k0_t21
  let c1_i32_546 : BitVec 32 := 1#32
  let v500 : BitVec 32 := Scalar.muli arg17 c1_i32_546
  let v501 : BitVec 32 := Scalar.addi c0_i32_547 v500
  let c16_i32_986 : BitVec 32 := 16#32
  let v1639 : BitVec 32 := Scalar.muli v501 c16_i32_986
  let v1640 : BitVec 32 := v1639
  let v1642 : Index := Scalar.indexCast v1640
  let c0_989 : Index := 0#32
  ![v1641.toNat, 1, 4, v1642.toNat, 0]
def k0_off289 (v506 : BitVec 32) : Fin 5 → Nat :=
  let c1_990 : Index := 1#32
  let c5_991 : Index := 5#32
  let c0_i32_558 : BitVec 32 := 0#32
  let v525 : BitVec 1 := Scalar.cmpi .sgt v506 c0_i32_558
  let v526 : BitVec 32 := Scalar.extui v525
  let c0_i32_559 : BitVec 32 := 0#32
  let v527 : BitVec 1 := Scalar.cmpi .slt v506 c0_i32_559
  let v528 : BitVec 32 := Scalar.extui v527
  let v529 : BitVec 32 := Scalar.subi v526 v528
  let c128_i32_557 : BitVec 32 := 128#32
  let c0_i32_560 : BitVec 32 := 0#32
  let v530 : BitVec 1 := Scalar.cmpi .sgt c128_i32_557 c0_i32_560
  let v531 : BitVec 32 := Scalar.extui v530
  let c0_i32_561 : BitVec 32 := 0#32
  let v532 : BitVec 1 := Scalar.cmpi .slt c128_i32_557 c0_i32_561
  let v533 : BitVec 32 := Scalar.extui v532
  let v534 : BitVec 32 := Scalar.subi v531 v533
  let v535 : BitVec 1 := Scalar.cmpi .ne v529 v534
  let v536 : BitVec 32 := Scalar.remsi v506 c128_i32_557
  let c0_i32_562 : BitVec 32 := 0#32
  let v537 : BitVec 1 := Scalar.cmpi .ne v536 c0_i32_562
  let v538 : BitVec 1 := Scalar.andi v535 v537
  let v524 : BitVec 32 := Scalar.divsi v506 c128_i32_557
  let c1_i32_563 : BitVec 32 := 1#32
  let v539 : BitVec 32 := Scalar.subi v524 c1_i32_563
  let v540 : BitVec 32 := Scalar.select v538 v539 v524
  let v1646 : Index := Scalar.indexCast v540
  let c0_992 : Index := 0#32
  let c0_993 : Index := 0#32
  ![1, 5, v1646.toNat, 0, 0]
def k0_mult114 (k0_t21 : Fin k0_t21_loop.trips) : BitVec 32 :=
  let c0_i32_547 : BitVec 32 := 0#32
  let c0_i32_478 : BitVec 32 := 0#32
  let c1_i32_480 : BitVec 32 := 1#32
  let arg17 : BitVec 32 := Scf.iv c0_i32_478 c1_i32_480 k0_t21
  let c1_i32_546 : BitVec 32 := 1#32
  let v500 : BitVec 32 := Scalar.muli arg17 c1_i32_546
  let v501 : BitVec 32 := Scalar.addi c0_i32_547 v500
  let c16_i32_996 : BitVec 32 := 16#32
  let v1663 : BitVec 32 := Scalar.muli v501 c16_i32_996
  v1663
def k0_off290 (k0_t20 : Fin k0_t20_loop.trips) (k0_t21 : Fin k0_t21_loop.trips) : Fin 5 → Nat :=
  let c0_i32_398 : BitVec 32 := 0#32
  let c0_i32_359 : BitVec 32 := 0#32
  let c1_i32_361 : BitVec 32 := 1#32
  let arg16 : BitVec 32 := Scf.iv c0_i32_359 c1_i32_361 k0_t20
  let c1_i32_397 : BitVec 32 := 1#32
  let v248 : BitVec 32 := Scalar.muli arg16 c1_i32_397
  let v249 : BitVec 32 := Scalar.addi c0_i32_398 v248
  let c4_i32_472 : BitVec 32 := 4#32
  let c0_i32_473 : BitVec 32 := 0#32
  let v381 : BitVec 1 := Scalar.cmpi .eq c4_i32_472 c0_i32_473
  let c1_i32_474 : BitVec 32 := 1#32
  let v382 : BitVec 32 := Scalar.select v381 c1_i32_474 c4_i32_472
  let v383 : BitVec 32 := Scalar.remsi v249 v382
  let c0_i32_476 : BitVec 32 := 0#32
  let v385 : BitVec 1 := Scalar.cmpi .slt v383 c0_i32_476
  let c0_i32_477 : BitVec 32 := 0#32
  let v386 : BitVec 1 := Scalar.cmpi .slt v382 c0_i32_477
  let v387 : BitVec 1 := Scalar.xori v385 v386
  let c0_i32_475 : BitVec 32 := 0#32
  let v384 : BitVec 1 := Scalar.cmpi .ne v383 c0_i32_475
  let v388 : BitVec 1 := Scalar.andi v387 v384
  let v389 : BitVec 32 := Scalar.addi v383 v382
  let v390 : BitVec 32 := Scalar.select v388 v389 v383
  let v1665 : Index := Scalar.indexCast v390
  let c1_997 : Index := 1#32
  let c5_998 : Index := 5#32
  let c0_i32_547 : BitVec 32 := 0#32
  let c0_i32_478 : BitVec 32 := 0#32
  let c1_i32_480 : BitVec 32 := 1#32
  let arg17 : BitVec 32 := Scf.iv c0_i32_478 c1_i32_480 k0_t21
  let c1_i32_546 : BitVec 32 := 1#32
  let v500 : BitVec 32 := Scalar.muli arg17 c1_i32_546
  let v501 : BitVec 32 := Scalar.addi c0_i32_547 v500
  let c16_i32_996 : BitVec 32 := 16#32
  let v1663 : BitVec 32 := Scalar.muli v501 c16_i32_996
  let v1664 : BitVec 32 := v1663
  let v1666 : Index := Scalar.indexCast v1664
  let c0_999 : Index := 0#32
  ![v1665.toNat, 1, 5, v1666.toNat, 0]
def k0_off291 (k0_t20 : Fin k0_t20_loop.trips) (k0_t21 : Fin k0_t21_loop.trips) : Fin 5 → Nat :=
  let c0_i32_398 : BitVec 32 := 0#32
  let c0_i32_359 : BitVec 32 := 0#32
  let c1_i32_361 : BitVec 32 := 1#32
  let arg16 : BitVec 32 := Scf.iv c0_i32_359 c1_i32_361 k0_t20
  let c1_i32_397 : BitVec 32 := 1#32
  let v248 : BitVec 32 := Scalar.muli arg16 c1_i32_397
  let v249 : BitVec 32 := Scalar.addi c0_i32_398 v248
  let c4_i32_466 : BitVec 32 := 4#32
  let c0_i32_467 : BitVec 32 := 0#32
  let v371 : BitVec 1 := Scalar.cmpi .eq c4_i32_466 c0_i32_467
  let c1_i32_468 : BitVec 32 := 1#32
  let v372 : BitVec 32 := Scalar.select v371 c1_i32_468 c4_i32_466
  let v373 : BitVec 32 := Scalar.remsi v249 v372
  let c0_i32_470 : BitVec 32 := 0#32
  let v375 : BitVec 1 := Scalar.cmpi .slt v373 c0_i32_470
  let c0_i32_471 : BitVec 32 := 0#32
  let v376 : BitVec 1 := Scalar.cmpi .slt v372 c0_i32_471
  let v377 : BitVec 1 := Scalar.xori v375 v376
  let c0_i32_469 : BitVec 32 := 0#32
  let v374 : BitVec 1 := Scalar.cmpi .ne v373 c0_i32_469
  let v378 : BitVec 1 := Scalar.andi v377 v374
  let v379 : BitVec 32 := Scalar.addi v373 v372
  let v380 : BitVec 32 := Scalar.select v378 v379 v373
  let v1670 : Index := Scalar.indexCast v380
  let c1_1000 : Index := 1#32
  let c0_i32_547 : BitVec 32 := 0#32
  let c0_i32_478 : BitVec 32 := 0#32
  let c1_i32_480 : BitVec 32 := 1#32
  let arg17 : BitVec 32 := Scf.iv c0_i32_478 c1_i32_480 k0_t21
  let c1_i32_546 : BitVec 32 := 1#32
  let v500 : BitVec 32 := Scalar.muli arg17 c1_i32_546
  let v501 : BitVec 32 := Scalar.addi c0_i32_547 v500
  let v1671 : Index := Scalar.indexCast v501
  let c96_1001 : Index := 96#32
  let c0_1002 : Index := 0#32
  ![v1670.toNat, 1, v1671.toNat, 96, 0]
def k0_off292 (v506 : BitVec 32) : Fin 5 → Nat :=
  let c1_1003 : Index := 1#32
  let c6_1004 : Index := 6#32
  let c0_i32_558 : BitVec 32 := 0#32
  let v525 : BitVec 1 := Scalar.cmpi .sgt v506 c0_i32_558
  let v526 : BitVec 32 := Scalar.extui v525
  let c0_i32_559 : BitVec 32 := 0#32
  let v527 : BitVec 1 := Scalar.cmpi .slt v506 c0_i32_559
  let v528 : BitVec 32 := Scalar.extui v527
  let v529 : BitVec 32 := Scalar.subi v526 v528
  let c128_i32_557 : BitVec 32 := 128#32
  let c0_i32_560 : BitVec 32 := 0#32
  let v530 : BitVec 1 := Scalar.cmpi .sgt c128_i32_557 c0_i32_560
  let v531 : BitVec 32 := Scalar.extui v530
  let c0_i32_561 : BitVec 32 := 0#32
  let v532 : BitVec 1 := Scalar.cmpi .slt c128_i32_557 c0_i32_561
  let v533 : BitVec 32 := Scalar.extui v532
  let v534 : BitVec 32 := Scalar.subi v531 v533
  let v535 : BitVec 1 := Scalar.cmpi .ne v529 v534
  let v536 : BitVec 32 := Scalar.remsi v506 c128_i32_557
  let c0_i32_562 : BitVec 32 := 0#32
  let v537 : BitVec 1 := Scalar.cmpi .ne v536 c0_i32_562
  let v538 : BitVec 1 := Scalar.andi v535 v537
  let v524 : BitVec 32 := Scalar.divsi v506 c128_i32_557
  let c1_i32_563 : BitVec 32 := 1#32
  let v539 : BitVec 32 := Scalar.subi v524 c1_i32_563
  let v540 : BitVec 32 := Scalar.select v538 v539 v524
  let v1675 : Index := Scalar.indexCast v540
  let c0_1005 : Index := 0#32
  let c0_1006 : Index := 0#32
  ![1, 6, v1675.toNat, 0, 0]
def k0_mult115 (k0_t21 : Fin k0_t21_loop.trips) : BitVec 32 :=
  let c0_i32_547 : BitVec 32 := 0#32
  let c0_i32_478 : BitVec 32 := 0#32
  let c1_i32_480 : BitVec 32 := 1#32
  let arg17 : BitVec 32 := Scf.iv c0_i32_478 c1_i32_480 k0_t21
  let c1_i32_546 : BitVec 32 := 1#32
  let v500 : BitVec 32 := Scalar.muli arg17 c1_i32_546
  let v501 : BitVec 32 := Scalar.addi c0_i32_547 v500
  let c16_i32_1009 : BitVec 32 := 16#32
  let v1692 : BitVec 32 := Scalar.muli v501 c16_i32_1009
  v1692
def k0_off293 (k0_t20 : Fin k0_t20_loop.trips) (k0_t21 : Fin k0_t21_loop.trips) : Fin 5 → Nat :=
  let c0_i32_398 : BitVec 32 := 0#32
  let c0_i32_359 : BitVec 32 := 0#32
  let c1_i32_361 : BitVec 32 := 1#32
  let arg16 : BitVec 32 := Scf.iv c0_i32_359 c1_i32_361 k0_t20
  let c1_i32_397 : BitVec 32 := 1#32
  let v248 : BitVec 32 := Scalar.muli arg16 c1_i32_397
  let v249 : BitVec 32 := Scalar.addi c0_i32_398 v248
  let c4_i32_472 : BitVec 32 := 4#32
  let c0_i32_473 : BitVec 32 := 0#32
  let v381 : BitVec 1 := Scalar.cmpi .eq c4_i32_472 c0_i32_473
  let c1_i32_474 : BitVec 32 := 1#32
  let v382 : BitVec 32 := Scalar.select v381 c1_i32_474 c4_i32_472
  let v383 : BitVec 32 := Scalar.remsi v249 v382
  let c0_i32_476 : BitVec 32 := 0#32
  let v385 : BitVec 1 := Scalar.cmpi .slt v383 c0_i32_476
  let c0_i32_477 : BitVec 32 := 0#32
  let v386 : BitVec 1 := Scalar.cmpi .slt v382 c0_i32_477
  let v387 : BitVec 1 := Scalar.xori v385 v386
  let c0_i32_475 : BitVec 32 := 0#32
  let v384 : BitVec 1 := Scalar.cmpi .ne v383 c0_i32_475
  let v388 : BitVec 1 := Scalar.andi v387 v384
  let v389 : BitVec 32 := Scalar.addi v383 v382
  let v390 : BitVec 32 := Scalar.select v388 v389 v383
  let v1694 : Index := Scalar.indexCast v390
  let c1_1010 : Index := 1#32
  let c6_1011 : Index := 6#32
  let c0_i32_547 : BitVec 32 := 0#32
  let c0_i32_478 : BitVec 32 := 0#32
  let c1_i32_480 : BitVec 32 := 1#32
  let arg17 : BitVec 32 := Scf.iv c0_i32_478 c1_i32_480 k0_t21
  let c1_i32_546 : BitVec 32 := 1#32
  let v500 : BitVec 32 := Scalar.muli arg17 c1_i32_546
  let v501 : BitVec 32 := Scalar.addi c0_i32_547 v500
  let c16_i32_1009 : BitVec 32 := 16#32
  let v1692 : BitVec 32 := Scalar.muli v501 c16_i32_1009
  let v1693 : BitVec 32 := v1692
  let v1695 : Index := Scalar.indexCast v1693
  let c0_1012 : Index := 0#32
  ![v1694.toNat, 1, 6, v1695.toNat, 0]
def k0_off294 (v506 : BitVec 32) : Fin 5 → Nat :=
  let c1_1013 : Index := 1#32
  let c7_1014 : Index := 7#32
  let c0_i32_558 : BitVec 32 := 0#32
  let v525 : BitVec 1 := Scalar.cmpi .sgt v506 c0_i32_558
  let v526 : BitVec 32 := Scalar.extui v525
  let c0_i32_559 : BitVec 32 := 0#32
  let v527 : BitVec 1 := Scalar.cmpi .slt v506 c0_i32_559
  let v528 : BitVec 32 := Scalar.extui v527
  let v529 : BitVec 32 := Scalar.subi v526 v528
  let c128_i32_557 : BitVec 32 := 128#32
  let c0_i32_560 : BitVec 32 := 0#32
  let v530 : BitVec 1 := Scalar.cmpi .sgt c128_i32_557 c0_i32_560
  let v531 : BitVec 32 := Scalar.extui v530
  let c0_i32_561 : BitVec 32 := 0#32
  let v532 : BitVec 1 := Scalar.cmpi .slt c128_i32_557 c0_i32_561
  let v533 : BitVec 32 := Scalar.extui v532
  let v534 : BitVec 32 := Scalar.subi v531 v533
  let v535 : BitVec 1 := Scalar.cmpi .ne v529 v534
  let v536 : BitVec 32 := Scalar.remsi v506 c128_i32_557
  let c0_i32_562 : BitVec 32 := 0#32
  let v537 : BitVec 1 := Scalar.cmpi .ne v536 c0_i32_562
  let v538 : BitVec 1 := Scalar.andi v535 v537
  let v524 : BitVec 32 := Scalar.divsi v506 c128_i32_557
  let c1_i32_563 : BitVec 32 := 1#32
  let v539 : BitVec 32 := Scalar.subi v524 c1_i32_563
  let v540 : BitVec 32 := Scalar.select v538 v539 v524
  let v1699 : Index := Scalar.indexCast v540
  let c0_1015 : Index := 0#32
  let c0_1016 : Index := 0#32
  ![1, 7, v1699.toNat, 0, 0]
def k0_mult116 (k0_t21 : Fin k0_t21_loop.trips) : BitVec 32 :=
  let c0_i32_547 : BitVec 32 := 0#32
  let c0_i32_478 : BitVec 32 := 0#32
  let c1_i32_480 : BitVec 32 := 1#32
  let arg17 : BitVec 32 := Scf.iv c0_i32_478 c1_i32_480 k0_t21
  let c1_i32_546 : BitVec 32 := 1#32
  let v500 : BitVec 32 := Scalar.muli arg17 c1_i32_546
  let v501 : BitVec 32 := Scalar.addi c0_i32_547 v500
  let c16_i32_1019 : BitVec 32 := 16#32
  let v1716 : BitVec 32 := Scalar.muli v501 c16_i32_1019
  v1716
def k0_off295 (k0_t20 : Fin k0_t20_loop.trips) (k0_t21 : Fin k0_t21_loop.trips) : Fin 5 → Nat :=
  let c0_i32_398 : BitVec 32 := 0#32
  let c0_i32_359 : BitVec 32 := 0#32
  let c1_i32_361 : BitVec 32 := 1#32
  let arg16 : BitVec 32 := Scf.iv c0_i32_359 c1_i32_361 k0_t20
  let c1_i32_397 : BitVec 32 := 1#32
  let v248 : BitVec 32 := Scalar.muli arg16 c1_i32_397
  let v249 : BitVec 32 := Scalar.addi c0_i32_398 v248
  let c4_i32_472 : BitVec 32 := 4#32
  let c0_i32_473 : BitVec 32 := 0#32
  let v381 : BitVec 1 := Scalar.cmpi .eq c4_i32_472 c0_i32_473
  let c1_i32_474 : BitVec 32 := 1#32
  let v382 : BitVec 32 := Scalar.select v381 c1_i32_474 c4_i32_472
  let v383 : BitVec 32 := Scalar.remsi v249 v382
  let c0_i32_476 : BitVec 32 := 0#32
  let v385 : BitVec 1 := Scalar.cmpi .slt v383 c0_i32_476
  let c0_i32_477 : BitVec 32 := 0#32
  let v386 : BitVec 1 := Scalar.cmpi .slt v382 c0_i32_477
  let v387 : BitVec 1 := Scalar.xori v385 v386
  let c0_i32_475 : BitVec 32 := 0#32
  let v384 : BitVec 1 := Scalar.cmpi .ne v383 c0_i32_475
  let v388 : BitVec 1 := Scalar.andi v387 v384
  let v389 : BitVec 32 := Scalar.addi v383 v382
  let v390 : BitVec 32 := Scalar.select v388 v389 v383
  let v1718 : Index := Scalar.indexCast v390
  let c1_1020 : Index := 1#32
  let c7_1021 : Index := 7#32
  let c0_i32_547 : BitVec 32 := 0#32
  let c0_i32_478 : BitVec 32 := 0#32
  let c1_i32_480 : BitVec 32 := 1#32
  let arg17 : BitVec 32 := Scf.iv c0_i32_478 c1_i32_480 k0_t21
  let c1_i32_546 : BitVec 32 := 1#32
  let v500 : BitVec 32 := Scalar.muli arg17 c1_i32_546
  let v501 : BitVec 32 := Scalar.addi c0_i32_547 v500
  let c16_i32_1019 : BitVec 32 := 16#32
  let v1716 : BitVec 32 := Scalar.muli v501 c16_i32_1019
  let v1717 : BitVec 32 := v1716
  let v1719 : Index := Scalar.indexCast v1717
  let c0_1022 : Index := 0#32
  ![v1718.toNat, 1, 7, v1719.toNat, 0]
def k0_off296 (k0_t20 : Fin k0_t20_loop.trips) (k0_t21 : Fin k0_t21_loop.trips) : Fin 5 → Nat :=
  let c0_i32_398 : BitVec 32 := 0#32
  let c0_i32_359 : BitVec 32 := 0#32
  let c1_i32_361 : BitVec 32 := 1#32
  let arg16 : BitVec 32 := Scf.iv c0_i32_359 c1_i32_361 k0_t20
  let c1_i32_397 : BitVec 32 := 1#32
  let v248 : BitVec 32 := Scalar.muli arg16 c1_i32_397
  let v249 : BitVec 32 := Scalar.addi c0_i32_398 v248
  let c4_i32_466 : BitVec 32 := 4#32
  let c0_i32_467 : BitVec 32 := 0#32
  let v371 : BitVec 1 := Scalar.cmpi .eq c4_i32_466 c0_i32_467
  let c1_i32_468 : BitVec 32 := 1#32
  let v372 : BitVec 32 := Scalar.select v371 c1_i32_468 c4_i32_466
  let v373 : BitVec 32 := Scalar.remsi v249 v372
  let c0_i32_470 : BitVec 32 := 0#32
  let v375 : BitVec 1 := Scalar.cmpi .slt v373 c0_i32_470
  let c0_i32_471 : BitVec 32 := 0#32
  let v376 : BitVec 1 := Scalar.cmpi .slt v372 c0_i32_471
  let v377 : BitVec 1 := Scalar.xori v375 v376
  let c0_i32_469 : BitVec 32 := 0#32
  let v374 : BitVec 1 := Scalar.cmpi .ne v373 c0_i32_469
  let v378 : BitVec 1 := Scalar.andi v377 v374
  let v379 : BitVec 32 := Scalar.addi v373 v372
  let v380 : BitVec 32 := Scalar.select v378 v379 v373
  let v1723 : Index := Scalar.indexCast v380
  let c1_1023 : Index := 1#32
  let c0_i32_547 : BitVec 32 := 0#32
  let c0_i32_478 : BitVec 32 := 0#32
  let c1_i32_480 : BitVec 32 := 1#32
  let arg17 : BitVec 32 := Scf.iv c0_i32_478 c1_i32_480 k0_t21
  let c1_i32_546 : BitVec 32 := 1#32
  let v500 : BitVec 32 := Scalar.muli arg17 c1_i32_546
  let v501 : BitVec 32 := Scalar.addi c0_i32_547 v500
  let v1724 : Index := Scalar.indexCast v501
  let c128_1024 : Index := 128#32
  let c0_1025 : Index := 0#32
  ![v1723.toNat, 1, v1724.toNat, 128, 0]
def k0_off297 (v506 : BitVec 32) : Fin 5 → Nat :=
  let c1_1026 : Index := 1#32
  let c8_1027 : Index := 8#32
  let c0_i32_558 : BitVec 32 := 0#32
  let v525 : BitVec 1 := Scalar.cmpi .sgt v506 c0_i32_558
  let v526 : BitVec 32 := Scalar.extui v525
  let c0_i32_559 : BitVec 32 := 0#32
  let v527 : BitVec 1 := Scalar.cmpi .slt v506 c0_i32_559
  let v528 : BitVec 32 := Scalar.extui v527
  let v529 : BitVec 32 := Scalar.subi v526 v528
  let c128_i32_557 : BitVec 32 := 128#32
  let c0_i32_560 : BitVec 32 := 0#32
  let v530 : BitVec 1 := Scalar.cmpi .sgt c128_i32_557 c0_i32_560
  let v531 : BitVec 32 := Scalar.extui v530
  let c0_i32_561 : BitVec 32 := 0#32
  let v532 : BitVec 1 := Scalar.cmpi .slt c128_i32_557 c0_i32_561
  let v533 : BitVec 32 := Scalar.extui v532
  let v534 : BitVec 32 := Scalar.subi v531 v533
  let v535 : BitVec 1 := Scalar.cmpi .ne v529 v534
  let v536 : BitVec 32 := Scalar.remsi v506 c128_i32_557
  let c0_i32_562 : BitVec 32 := 0#32
  let v537 : BitVec 1 := Scalar.cmpi .ne v536 c0_i32_562
  let v538 : BitVec 1 := Scalar.andi v535 v537
  let v524 : BitVec 32 := Scalar.divsi v506 c128_i32_557
  let c1_i32_563 : BitVec 32 := 1#32
  let v539 : BitVec 32 := Scalar.subi v524 c1_i32_563
  let v540 : BitVec 32 := Scalar.select v538 v539 v524
  let v1728 : Index := Scalar.indexCast v540
  let c0_1028 : Index := 0#32
  let c0_1029 : Index := 0#32
  ![1, 8, v1728.toNat, 0, 0]
def k0_mult117 (k0_t21 : Fin k0_t21_loop.trips) : BitVec 32 :=
  let c0_i32_547 : BitVec 32 := 0#32
  let c0_i32_478 : BitVec 32 := 0#32
  let c1_i32_480 : BitVec 32 := 1#32
  let arg17 : BitVec 32 := Scf.iv c0_i32_478 c1_i32_480 k0_t21
  let c1_i32_546 : BitVec 32 := 1#32
  let v500 : BitVec 32 := Scalar.muli arg17 c1_i32_546
  let v501 : BitVec 32 := Scalar.addi c0_i32_547 v500
  let c16_i32_1032 : BitVec 32 := 16#32
  let v1745 : BitVec 32 := Scalar.muli v501 c16_i32_1032
  v1745
def k0_off298 (k0_t20 : Fin k0_t20_loop.trips) (k0_t21 : Fin k0_t21_loop.trips) : Fin 5 → Nat :=
  let c0_i32_398 : BitVec 32 := 0#32
  let c0_i32_359 : BitVec 32 := 0#32
  let c1_i32_361 : BitVec 32 := 1#32
  let arg16 : BitVec 32 := Scf.iv c0_i32_359 c1_i32_361 k0_t20
  let c1_i32_397 : BitVec 32 := 1#32
  let v248 : BitVec 32 := Scalar.muli arg16 c1_i32_397
  let v249 : BitVec 32 := Scalar.addi c0_i32_398 v248
  let c4_i32_472 : BitVec 32 := 4#32
  let c0_i32_473 : BitVec 32 := 0#32
  let v381 : BitVec 1 := Scalar.cmpi .eq c4_i32_472 c0_i32_473
  let c1_i32_474 : BitVec 32 := 1#32
  let v382 : BitVec 32 := Scalar.select v381 c1_i32_474 c4_i32_472
  let v383 : BitVec 32 := Scalar.remsi v249 v382
  let c0_i32_476 : BitVec 32 := 0#32
  let v385 : BitVec 1 := Scalar.cmpi .slt v383 c0_i32_476
  let c0_i32_477 : BitVec 32 := 0#32
  let v386 : BitVec 1 := Scalar.cmpi .slt v382 c0_i32_477
  let v387 : BitVec 1 := Scalar.xori v385 v386
  let c0_i32_475 : BitVec 32 := 0#32
  let v384 : BitVec 1 := Scalar.cmpi .ne v383 c0_i32_475
  let v388 : BitVec 1 := Scalar.andi v387 v384
  let v389 : BitVec 32 := Scalar.addi v383 v382
  let v390 : BitVec 32 := Scalar.select v388 v389 v383
  let v1747 : Index := Scalar.indexCast v390
  let c1_1033 : Index := 1#32
  let c8_1034 : Index := 8#32
  let c0_i32_547 : BitVec 32 := 0#32
  let c0_i32_478 : BitVec 32 := 0#32
  let c1_i32_480 : BitVec 32 := 1#32
  let arg17 : BitVec 32 := Scf.iv c0_i32_478 c1_i32_480 k0_t21
  let c1_i32_546 : BitVec 32 := 1#32
  let v500 : BitVec 32 := Scalar.muli arg17 c1_i32_546
  let v501 : BitVec 32 := Scalar.addi c0_i32_547 v500
  let c16_i32_1032 : BitVec 32 := 16#32
  let v1745 : BitVec 32 := Scalar.muli v501 c16_i32_1032
  let v1746 : BitVec 32 := v1745
  let v1748 : Index := Scalar.indexCast v1746
  let c0_1035 : Index := 0#32
  ![v1747.toNat, 1, 8, v1748.toNat, 0]
def k0_off299 (v506 : BitVec 32) : Fin 5 → Nat :=
  let c1_1036 : Index := 1#32
  let c9_1037 : Index := 9#32
  let c0_i32_558 : BitVec 32 := 0#32
  let v525 : BitVec 1 := Scalar.cmpi .sgt v506 c0_i32_558
  let v526 : BitVec 32 := Scalar.extui v525
  let c0_i32_559 : BitVec 32 := 0#32
  let v527 : BitVec 1 := Scalar.cmpi .slt v506 c0_i32_559
  let v528 : BitVec 32 := Scalar.extui v527
  let v529 : BitVec 32 := Scalar.subi v526 v528
  let c128_i32_557 : BitVec 32 := 128#32
  let c0_i32_560 : BitVec 32 := 0#32
  let v530 : BitVec 1 := Scalar.cmpi .sgt c128_i32_557 c0_i32_560
  let v531 : BitVec 32 := Scalar.extui v530
  let c0_i32_561 : BitVec 32 := 0#32
  let v532 : BitVec 1 := Scalar.cmpi .slt c128_i32_557 c0_i32_561
  let v533 : BitVec 32 := Scalar.extui v532
  let v534 : BitVec 32 := Scalar.subi v531 v533
  let v535 : BitVec 1 := Scalar.cmpi .ne v529 v534
  let v536 : BitVec 32 := Scalar.remsi v506 c128_i32_557
  let c0_i32_562 : BitVec 32 := 0#32
  let v537 : BitVec 1 := Scalar.cmpi .ne v536 c0_i32_562
  let v538 : BitVec 1 := Scalar.andi v535 v537
  let v524 : BitVec 32 := Scalar.divsi v506 c128_i32_557
  let c1_i32_563 : BitVec 32 := 1#32
  let v539 : BitVec 32 := Scalar.subi v524 c1_i32_563
  let v540 : BitVec 32 := Scalar.select v538 v539 v524
  let v1752 : Index := Scalar.indexCast v540
  let c0_1038 : Index := 0#32
  let c0_1039 : Index := 0#32
  ![1, 9, v1752.toNat, 0, 0]
def k0_mult118 (k0_t21 : Fin k0_t21_loop.trips) : BitVec 32 :=
  let c0_i32_547 : BitVec 32 := 0#32
  let c0_i32_478 : BitVec 32 := 0#32
  let c1_i32_480 : BitVec 32 := 1#32
  let arg17 : BitVec 32 := Scf.iv c0_i32_478 c1_i32_480 k0_t21
  let c1_i32_546 : BitVec 32 := 1#32
  let v500 : BitVec 32 := Scalar.muli arg17 c1_i32_546
  let v501 : BitVec 32 := Scalar.addi c0_i32_547 v500
  let c16_i32_1042 : BitVec 32 := 16#32
  let v1769 : BitVec 32 := Scalar.muli v501 c16_i32_1042
  v1769
def k0_off300 (k0_t20 : Fin k0_t20_loop.trips) (k0_t21 : Fin k0_t21_loop.trips) : Fin 5 → Nat :=
  let c0_i32_398 : BitVec 32 := 0#32
  let c0_i32_359 : BitVec 32 := 0#32
  let c1_i32_361 : BitVec 32 := 1#32
  let arg16 : BitVec 32 := Scf.iv c0_i32_359 c1_i32_361 k0_t20
  let c1_i32_397 : BitVec 32 := 1#32
  let v248 : BitVec 32 := Scalar.muli arg16 c1_i32_397
  let v249 : BitVec 32 := Scalar.addi c0_i32_398 v248
  let c4_i32_472 : BitVec 32 := 4#32
  let c0_i32_473 : BitVec 32 := 0#32
  let v381 : BitVec 1 := Scalar.cmpi .eq c4_i32_472 c0_i32_473
  let c1_i32_474 : BitVec 32 := 1#32
  let v382 : BitVec 32 := Scalar.select v381 c1_i32_474 c4_i32_472
  let v383 : BitVec 32 := Scalar.remsi v249 v382
  let c0_i32_476 : BitVec 32 := 0#32
  let v385 : BitVec 1 := Scalar.cmpi .slt v383 c0_i32_476
  let c0_i32_477 : BitVec 32 := 0#32
  let v386 : BitVec 1 := Scalar.cmpi .slt v382 c0_i32_477
  let v387 : BitVec 1 := Scalar.xori v385 v386
  let c0_i32_475 : BitVec 32 := 0#32
  let v384 : BitVec 1 := Scalar.cmpi .ne v383 c0_i32_475
  let v388 : BitVec 1 := Scalar.andi v387 v384
  let v389 : BitVec 32 := Scalar.addi v383 v382
  let v390 : BitVec 32 := Scalar.select v388 v389 v383
  let v1771 : Index := Scalar.indexCast v390
  let c1_1043 : Index := 1#32
  let c9_1044 : Index := 9#32
  let c0_i32_547 : BitVec 32 := 0#32
  let c0_i32_478 : BitVec 32 := 0#32
  let c1_i32_480 : BitVec 32 := 1#32
  let arg17 : BitVec 32 := Scf.iv c0_i32_478 c1_i32_480 k0_t21
  let c1_i32_546 : BitVec 32 := 1#32
  let v500 : BitVec 32 := Scalar.muli arg17 c1_i32_546
  let v501 : BitVec 32 := Scalar.addi c0_i32_547 v500
  let c16_i32_1042 : BitVec 32 := 16#32
  let v1769 : BitVec 32 := Scalar.muli v501 c16_i32_1042
  let v1770 : BitVec 32 := v1769
  let v1772 : Index := Scalar.indexCast v1770
  let c0_1045 : Index := 0#32
  ![v1771.toNat, 1, 9, v1772.toNat, 0]
def k0_off301 (k0_t20 : Fin k0_t20_loop.trips) (k0_t21 : Fin k0_t21_loop.trips) : Fin 5 → Nat :=
  let c0_i32_398 : BitVec 32 := 0#32
  let c0_i32_359 : BitVec 32 := 0#32
  let c1_i32_361 : BitVec 32 := 1#32
  let arg16 : BitVec 32 := Scf.iv c0_i32_359 c1_i32_361 k0_t20
  let c1_i32_397 : BitVec 32 := 1#32
  let v248 : BitVec 32 := Scalar.muli arg16 c1_i32_397
  let v249 : BitVec 32 := Scalar.addi c0_i32_398 v248
  let c4_i32_466 : BitVec 32 := 4#32
  let c0_i32_467 : BitVec 32 := 0#32
  let v371 : BitVec 1 := Scalar.cmpi .eq c4_i32_466 c0_i32_467
  let c1_i32_468 : BitVec 32 := 1#32
  let v372 : BitVec 32 := Scalar.select v371 c1_i32_468 c4_i32_466
  let v373 : BitVec 32 := Scalar.remsi v249 v372
  let c0_i32_470 : BitVec 32 := 0#32
  let v375 : BitVec 1 := Scalar.cmpi .slt v373 c0_i32_470
  let c0_i32_471 : BitVec 32 := 0#32
  let v376 : BitVec 1 := Scalar.cmpi .slt v372 c0_i32_471
  let v377 : BitVec 1 := Scalar.xori v375 v376
  let c0_i32_469 : BitVec 32 := 0#32
  let v374 : BitVec 1 := Scalar.cmpi .ne v373 c0_i32_469
  let v378 : BitVec 1 := Scalar.andi v377 v374
  let v379 : BitVec 32 := Scalar.addi v373 v372
  let v380 : BitVec 32 := Scalar.select v378 v379 v373
  let v1776 : Index := Scalar.indexCast v380
  let c1_1046 : Index := 1#32
  let c0_i32_547 : BitVec 32 := 0#32
  let c0_i32_478 : BitVec 32 := 0#32
  let c1_i32_480 : BitVec 32 := 1#32
  let arg17 : BitVec 32 := Scf.iv c0_i32_478 c1_i32_480 k0_t21
  let c1_i32_546 : BitVec 32 := 1#32
  let v500 : BitVec 32 := Scalar.muli arg17 c1_i32_546
  let v501 : BitVec 32 := Scalar.addi c0_i32_547 v500
  let v1777 : Index := Scalar.indexCast v501
  let c160_1047 : Index := 160#32
  let c0_1048 : Index := 0#32
  ![v1776.toNat, 1, v1777.toNat, 160, 0]
def k0_off302 (v506 : BitVec 32) : Fin 5 → Nat :=
  let c1_1049 : Index := 1#32
  let c10_1050 : Index := 10#32
  let c0_i32_558 : BitVec 32 := 0#32
  let v525 : BitVec 1 := Scalar.cmpi .sgt v506 c0_i32_558
  let v526 : BitVec 32 := Scalar.extui v525
  let c0_i32_559 : BitVec 32 := 0#32
  let v527 : BitVec 1 := Scalar.cmpi .slt v506 c0_i32_559
  let v528 : BitVec 32 := Scalar.extui v527
  let v529 : BitVec 32 := Scalar.subi v526 v528
  let c128_i32_557 : BitVec 32 := 128#32
  let c0_i32_560 : BitVec 32 := 0#32
  let v530 : BitVec 1 := Scalar.cmpi .sgt c128_i32_557 c0_i32_560
  let v531 : BitVec 32 := Scalar.extui v530
  let c0_i32_561 : BitVec 32 := 0#32
  let v532 : BitVec 1 := Scalar.cmpi .slt c128_i32_557 c0_i32_561
  let v533 : BitVec 32 := Scalar.extui v532
  let v534 : BitVec 32 := Scalar.subi v531 v533
  let v535 : BitVec 1 := Scalar.cmpi .ne v529 v534
  let v536 : BitVec 32 := Scalar.remsi v506 c128_i32_557
  let c0_i32_562 : BitVec 32 := 0#32
  let v537 : BitVec 1 := Scalar.cmpi .ne v536 c0_i32_562
  let v538 : BitVec 1 := Scalar.andi v535 v537
  let v524 : BitVec 32 := Scalar.divsi v506 c128_i32_557
  let c1_i32_563 : BitVec 32 := 1#32
  let v539 : BitVec 32 := Scalar.subi v524 c1_i32_563
  let v540 : BitVec 32 := Scalar.select v538 v539 v524
  let v1781 : Index := Scalar.indexCast v540
  let c0_1051 : Index := 0#32
  let c0_1052 : Index := 0#32
  ![1, 10, v1781.toNat, 0, 0]
def k0_mult119 (k0_t21 : Fin k0_t21_loop.trips) : BitVec 32 :=
  let c0_i32_547 : BitVec 32 := 0#32
  let c0_i32_478 : BitVec 32 := 0#32
  let c1_i32_480 : BitVec 32 := 1#32
  let arg17 : BitVec 32 := Scf.iv c0_i32_478 c1_i32_480 k0_t21
  let c1_i32_546 : BitVec 32 := 1#32
  let v500 : BitVec 32 := Scalar.muli arg17 c1_i32_546
  let v501 : BitVec 32 := Scalar.addi c0_i32_547 v500
  let c16_i32_1055 : BitVec 32 := 16#32
  let v1798 : BitVec 32 := Scalar.muli v501 c16_i32_1055
  v1798
def k0_off303 (k0_t20 : Fin k0_t20_loop.trips) (k0_t21 : Fin k0_t21_loop.trips) : Fin 5 → Nat :=
  let c0_i32_398 : BitVec 32 := 0#32
  let c0_i32_359 : BitVec 32 := 0#32
  let c1_i32_361 : BitVec 32 := 1#32
  let arg16 : BitVec 32 := Scf.iv c0_i32_359 c1_i32_361 k0_t20
  let c1_i32_397 : BitVec 32 := 1#32
  let v248 : BitVec 32 := Scalar.muli arg16 c1_i32_397
  let v249 : BitVec 32 := Scalar.addi c0_i32_398 v248
  let c4_i32_472 : BitVec 32 := 4#32
  let c0_i32_473 : BitVec 32 := 0#32
  let v381 : BitVec 1 := Scalar.cmpi .eq c4_i32_472 c0_i32_473
  let c1_i32_474 : BitVec 32 := 1#32
  let v382 : BitVec 32 := Scalar.select v381 c1_i32_474 c4_i32_472
  let v383 : BitVec 32 := Scalar.remsi v249 v382
  let c0_i32_476 : BitVec 32 := 0#32
  let v385 : BitVec 1 := Scalar.cmpi .slt v383 c0_i32_476
  let c0_i32_477 : BitVec 32 := 0#32
  let v386 : BitVec 1 := Scalar.cmpi .slt v382 c0_i32_477
  let v387 : BitVec 1 := Scalar.xori v385 v386
  let c0_i32_475 : BitVec 32 := 0#32
  let v384 : BitVec 1 := Scalar.cmpi .ne v383 c0_i32_475
  let v388 : BitVec 1 := Scalar.andi v387 v384
  let v389 : BitVec 32 := Scalar.addi v383 v382
  let v390 : BitVec 32 := Scalar.select v388 v389 v383
  let v1800 : Index := Scalar.indexCast v390
  let c1_1056 : Index := 1#32
  let c10_1057 : Index := 10#32
  let c0_i32_547 : BitVec 32 := 0#32
  let c0_i32_478 : BitVec 32 := 0#32
  let c1_i32_480 : BitVec 32 := 1#32
  let arg17 : BitVec 32 := Scf.iv c0_i32_478 c1_i32_480 k0_t21
  let c1_i32_546 : BitVec 32 := 1#32
  let v500 : BitVec 32 := Scalar.muli arg17 c1_i32_546
  let v501 : BitVec 32 := Scalar.addi c0_i32_547 v500
  let c16_i32_1055 : BitVec 32 := 16#32
  let v1798 : BitVec 32 := Scalar.muli v501 c16_i32_1055
  let v1799 : BitVec 32 := v1798
  let v1801 : Index := Scalar.indexCast v1799
  let c0_1058 : Index := 0#32
  ![v1800.toNat, 1, 10, v1801.toNat, 0]
def k0_off304 (v506 : BitVec 32) : Fin 5 → Nat :=
  let c1_1059 : Index := 1#32
  let c11_1060 : Index := 11#32
  let c0_i32_558 : BitVec 32 := 0#32
  let v525 : BitVec 1 := Scalar.cmpi .sgt v506 c0_i32_558
  let v526 : BitVec 32 := Scalar.extui v525
  let c0_i32_559 : BitVec 32 := 0#32
  let v527 : BitVec 1 := Scalar.cmpi .slt v506 c0_i32_559
  let v528 : BitVec 32 := Scalar.extui v527
  let v529 : BitVec 32 := Scalar.subi v526 v528
  let c128_i32_557 : BitVec 32 := 128#32
  let c0_i32_560 : BitVec 32 := 0#32
  let v530 : BitVec 1 := Scalar.cmpi .sgt c128_i32_557 c0_i32_560
  let v531 : BitVec 32 := Scalar.extui v530
  let c0_i32_561 : BitVec 32 := 0#32
  let v532 : BitVec 1 := Scalar.cmpi .slt c128_i32_557 c0_i32_561
  let v533 : BitVec 32 := Scalar.extui v532
  let v534 : BitVec 32 := Scalar.subi v531 v533
  let v535 : BitVec 1 := Scalar.cmpi .ne v529 v534
  let v536 : BitVec 32 := Scalar.remsi v506 c128_i32_557
  let c0_i32_562 : BitVec 32 := 0#32
  let v537 : BitVec 1 := Scalar.cmpi .ne v536 c0_i32_562
  let v538 : BitVec 1 := Scalar.andi v535 v537
  let v524 : BitVec 32 := Scalar.divsi v506 c128_i32_557
  let c1_i32_563 : BitVec 32 := 1#32
  let v539 : BitVec 32 := Scalar.subi v524 c1_i32_563
  let v540 : BitVec 32 := Scalar.select v538 v539 v524
  let v1805 : Index := Scalar.indexCast v540
  let c0_1061 : Index := 0#32
  let c0_1062 : Index := 0#32
  ![1, 11, v1805.toNat, 0, 0]
def k0_mult120 (k0_t21 : Fin k0_t21_loop.trips) : BitVec 32 :=
  let c0_i32_547 : BitVec 32 := 0#32
  let c0_i32_478 : BitVec 32 := 0#32
  let c1_i32_480 : BitVec 32 := 1#32
  let arg17 : BitVec 32 := Scf.iv c0_i32_478 c1_i32_480 k0_t21
  let c1_i32_546 : BitVec 32 := 1#32
  let v500 : BitVec 32 := Scalar.muli arg17 c1_i32_546
  let v501 : BitVec 32 := Scalar.addi c0_i32_547 v500
  let c16_i32_1065 : BitVec 32 := 16#32
  let v1822 : BitVec 32 := Scalar.muli v501 c16_i32_1065
  v1822
def k0_off305 (k0_t20 : Fin k0_t20_loop.trips) (k0_t21 : Fin k0_t21_loop.trips) : Fin 5 → Nat :=
  let c0_i32_398 : BitVec 32 := 0#32
  let c0_i32_359 : BitVec 32 := 0#32
  let c1_i32_361 : BitVec 32 := 1#32
  let arg16 : BitVec 32 := Scf.iv c0_i32_359 c1_i32_361 k0_t20
  let c1_i32_397 : BitVec 32 := 1#32
  let v248 : BitVec 32 := Scalar.muli arg16 c1_i32_397
  let v249 : BitVec 32 := Scalar.addi c0_i32_398 v248
  let c4_i32_472 : BitVec 32 := 4#32
  let c0_i32_473 : BitVec 32 := 0#32
  let v381 : BitVec 1 := Scalar.cmpi .eq c4_i32_472 c0_i32_473
  let c1_i32_474 : BitVec 32 := 1#32
  let v382 : BitVec 32 := Scalar.select v381 c1_i32_474 c4_i32_472
  let v383 : BitVec 32 := Scalar.remsi v249 v382
  let c0_i32_476 : BitVec 32 := 0#32
  let v385 : BitVec 1 := Scalar.cmpi .slt v383 c0_i32_476
  let c0_i32_477 : BitVec 32 := 0#32
  let v386 : BitVec 1 := Scalar.cmpi .slt v382 c0_i32_477
  let v387 : BitVec 1 := Scalar.xori v385 v386
  let c0_i32_475 : BitVec 32 := 0#32
  let v384 : BitVec 1 := Scalar.cmpi .ne v383 c0_i32_475
  let v388 : BitVec 1 := Scalar.andi v387 v384
  let v389 : BitVec 32 := Scalar.addi v383 v382
  let v390 : BitVec 32 := Scalar.select v388 v389 v383
  let v1824 : Index := Scalar.indexCast v390
  let c1_1066 : Index := 1#32
  let c11_1067 : Index := 11#32
  let c0_i32_547 : BitVec 32 := 0#32
  let c0_i32_478 : BitVec 32 := 0#32
  let c1_i32_480 : BitVec 32 := 1#32
  let arg17 : BitVec 32 := Scf.iv c0_i32_478 c1_i32_480 k0_t21
  let c1_i32_546 : BitVec 32 := 1#32
  let v500 : BitVec 32 := Scalar.muli arg17 c1_i32_546
  let v501 : BitVec 32 := Scalar.addi c0_i32_547 v500
  let c16_i32_1065 : BitVec 32 := 16#32
  let v1822 : BitVec 32 := Scalar.muli v501 c16_i32_1065
  let v1823 : BitVec 32 := v1822
  let v1825 : Index := Scalar.indexCast v1823
  let c0_1068 : Index := 0#32
  ![v1824.toNat, 1, 11, v1825.toNat, 0]
def k0_off306 (k0_t20 : Fin k0_t20_loop.trips) (k0_t21 : Fin k0_t21_loop.trips) : Fin 5 → Nat :=
  let c0_i32_398 : BitVec 32 := 0#32
  let c0_i32_359 : BitVec 32 := 0#32
  let c1_i32_361 : BitVec 32 := 1#32
  let arg16 : BitVec 32 := Scf.iv c0_i32_359 c1_i32_361 k0_t20
  let c1_i32_397 : BitVec 32 := 1#32
  let v248 : BitVec 32 := Scalar.muli arg16 c1_i32_397
  let v249 : BitVec 32 := Scalar.addi c0_i32_398 v248
  let c4_i32_466 : BitVec 32 := 4#32
  let c0_i32_467 : BitVec 32 := 0#32
  let v371 : BitVec 1 := Scalar.cmpi .eq c4_i32_466 c0_i32_467
  let c1_i32_468 : BitVec 32 := 1#32
  let v372 : BitVec 32 := Scalar.select v371 c1_i32_468 c4_i32_466
  let v373 : BitVec 32 := Scalar.remsi v249 v372
  let c0_i32_470 : BitVec 32 := 0#32
  let v375 : BitVec 1 := Scalar.cmpi .slt v373 c0_i32_470
  let c0_i32_471 : BitVec 32 := 0#32
  let v376 : BitVec 1 := Scalar.cmpi .slt v372 c0_i32_471
  let v377 : BitVec 1 := Scalar.xori v375 v376
  let c0_i32_469 : BitVec 32 := 0#32
  let v374 : BitVec 1 := Scalar.cmpi .ne v373 c0_i32_469
  let v378 : BitVec 1 := Scalar.andi v377 v374
  let v379 : BitVec 32 := Scalar.addi v373 v372
  let v380 : BitVec 32 := Scalar.select v378 v379 v373
  let v1829 : Index := Scalar.indexCast v380
  let c1_1069 : Index := 1#32
  let c0_i32_547 : BitVec 32 := 0#32
  let c0_i32_478 : BitVec 32 := 0#32
  let c1_i32_480 : BitVec 32 := 1#32
  let arg17 : BitVec 32 := Scf.iv c0_i32_478 c1_i32_480 k0_t21
  let c1_i32_546 : BitVec 32 := 1#32
  let v500 : BitVec 32 := Scalar.muli arg17 c1_i32_546
  let v501 : BitVec 32 := Scalar.addi c0_i32_547 v500
  let v1830 : Index := Scalar.indexCast v501
  let c192_1070 : Index := 192#32
  let c0_1071 : Index := 0#32
  ![v1829.toNat, 1, v1830.toNat, 192, 0]
def k0_off307 (v506 : BitVec 32) : Fin 5 → Nat :=
  let c1_1072 : Index := 1#32
  let c12_1073 : Index := 12#32
  let c0_i32_558 : BitVec 32 := 0#32
  let v525 : BitVec 1 := Scalar.cmpi .sgt v506 c0_i32_558
  let v526 : BitVec 32 := Scalar.extui v525
  let c0_i32_559 : BitVec 32 := 0#32
  let v527 : BitVec 1 := Scalar.cmpi .slt v506 c0_i32_559
  let v528 : BitVec 32 := Scalar.extui v527
  let v529 : BitVec 32 := Scalar.subi v526 v528
  let c128_i32_557 : BitVec 32 := 128#32
  let c0_i32_560 : BitVec 32 := 0#32
  let v530 : BitVec 1 := Scalar.cmpi .sgt c128_i32_557 c0_i32_560
  let v531 : BitVec 32 := Scalar.extui v530
  let c0_i32_561 : BitVec 32 := 0#32
  let v532 : BitVec 1 := Scalar.cmpi .slt c128_i32_557 c0_i32_561
  let v533 : BitVec 32 := Scalar.extui v532
  let v534 : BitVec 32 := Scalar.subi v531 v533
  let v535 : BitVec 1 := Scalar.cmpi .ne v529 v534
  let v536 : BitVec 32 := Scalar.remsi v506 c128_i32_557
  let c0_i32_562 : BitVec 32 := 0#32
  let v537 : BitVec 1 := Scalar.cmpi .ne v536 c0_i32_562
  let v538 : BitVec 1 := Scalar.andi v535 v537
  let v524 : BitVec 32 := Scalar.divsi v506 c128_i32_557
  let c1_i32_563 : BitVec 32 := 1#32
  let v539 : BitVec 32 := Scalar.subi v524 c1_i32_563
  let v540 : BitVec 32 := Scalar.select v538 v539 v524
  let v1834 : Index := Scalar.indexCast v540
  let c0_1074 : Index := 0#32
  let c0_1075 : Index := 0#32
  ![1, 12, v1834.toNat, 0, 0]
def k0_mult121 (k0_t21 : Fin k0_t21_loop.trips) : BitVec 32 :=
  let c0_i32_547 : BitVec 32 := 0#32
  let c0_i32_478 : BitVec 32 := 0#32
  let c1_i32_480 : BitVec 32 := 1#32
  let arg17 : BitVec 32 := Scf.iv c0_i32_478 c1_i32_480 k0_t21
  let c1_i32_546 : BitVec 32 := 1#32
  let v500 : BitVec 32 := Scalar.muli arg17 c1_i32_546
  let v501 : BitVec 32 := Scalar.addi c0_i32_547 v500
  let c16_i32_1078 : BitVec 32 := 16#32
  let v1851 : BitVec 32 := Scalar.muli v501 c16_i32_1078
  v1851
def k0_off308 (k0_t20 : Fin k0_t20_loop.trips) (k0_t21 : Fin k0_t21_loop.trips) : Fin 5 → Nat :=
  let c0_i32_398 : BitVec 32 := 0#32
  let c0_i32_359 : BitVec 32 := 0#32
  let c1_i32_361 : BitVec 32 := 1#32
  let arg16 : BitVec 32 := Scf.iv c0_i32_359 c1_i32_361 k0_t20
  let c1_i32_397 : BitVec 32 := 1#32
  let v248 : BitVec 32 := Scalar.muli arg16 c1_i32_397
  let v249 : BitVec 32 := Scalar.addi c0_i32_398 v248
  let c4_i32_472 : BitVec 32 := 4#32
  let c0_i32_473 : BitVec 32 := 0#32
  let v381 : BitVec 1 := Scalar.cmpi .eq c4_i32_472 c0_i32_473
  let c1_i32_474 : BitVec 32 := 1#32
  let v382 : BitVec 32 := Scalar.select v381 c1_i32_474 c4_i32_472
  let v383 : BitVec 32 := Scalar.remsi v249 v382
  let c0_i32_476 : BitVec 32 := 0#32
  let v385 : BitVec 1 := Scalar.cmpi .slt v383 c0_i32_476
  let c0_i32_477 : BitVec 32 := 0#32
  let v386 : BitVec 1 := Scalar.cmpi .slt v382 c0_i32_477
  let v387 : BitVec 1 := Scalar.xori v385 v386
  let c0_i32_475 : BitVec 32 := 0#32
  let v384 : BitVec 1 := Scalar.cmpi .ne v383 c0_i32_475
  let v388 : BitVec 1 := Scalar.andi v387 v384
  let v389 : BitVec 32 := Scalar.addi v383 v382
  let v390 : BitVec 32 := Scalar.select v388 v389 v383
  let v1853 : Index := Scalar.indexCast v390
  let c1_1079 : Index := 1#32
  let c12_1080 : Index := 12#32
  let c0_i32_547 : BitVec 32 := 0#32
  let c0_i32_478 : BitVec 32 := 0#32
  let c1_i32_480 : BitVec 32 := 1#32
  let arg17 : BitVec 32 := Scf.iv c0_i32_478 c1_i32_480 k0_t21
  let c1_i32_546 : BitVec 32 := 1#32
  let v500 : BitVec 32 := Scalar.muli arg17 c1_i32_546
  let v501 : BitVec 32 := Scalar.addi c0_i32_547 v500
  let c16_i32_1078 : BitVec 32 := 16#32
  let v1851 : BitVec 32 := Scalar.muli v501 c16_i32_1078
  let v1852 : BitVec 32 := v1851
  let v1854 : Index := Scalar.indexCast v1852
  let c0_1081 : Index := 0#32
  ![v1853.toNat, 1, 12, v1854.toNat, 0]
def k0_off309 (v506 : BitVec 32) : Fin 5 → Nat :=
  let c1_1082 : Index := 1#32
  let c13_1083 : Index := 13#32
  let c0_i32_558 : BitVec 32 := 0#32
  let v525 : BitVec 1 := Scalar.cmpi .sgt v506 c0_i32_558
  let v526 : BitVec 32 := Scalar.extui v525
  let c0_i32_559 : BitVec 32 := 0#32
  let v527 : BitVec 1 := Scalar.cmpi .slt v506 c0_i32_559
  let v528 : BitVec 32 := Scalar.extui v527
  let v529 : BitVec 32 := Scalar.subi v526 v528
  let c128_i32_557 : BitVec 32 := 128#32
  let c0_i32_560 : BitVec 32 := 0#32
  let v530 : BitVec 1 := Scalar.cmpi .sgt c128_i32_557 c0_i32_560
  let v531 : BitVec 32 := Scalar.extui v530
  let c0_i32_561 : BitVec 32 := 0#32
  let v532 : BitVec 1 := Scalar.cmpi .slt c128_i32_557 c0_i32_561
  let v533 : BitVec 32 := Scalar.extui v532
  let v534 : BitVec 32 := Scalar.subi v531 v533
  let v535 : BitVec 1 := Scalar.cmpi .ne v529 v534
  let v536 : BitVec 32 := Scalar.remsi v506 c128_i32_557
  let c0_i32_562 : BitVec 32 := 0#32
  let v537 : BitVec 1 := Scalar.cmpi .ne v536 c0_i32_562
  let v538 : BitVec 1 := Scalar.andi v535 v537
  let v524 : BitVec 32 := Scalar.divsi v506 c128_i32_557
  let c1_i32_563 : BitVec 32 := 1#32
  let v539 : BitVec 32 := Scalar.subi v524 c1_i32_563
  let v540 : BitVec 32 := Scalar.select v538 v539 v524
  let v1858 : Index := Scalar.indexCast v540
  let c0_1084 : Index := 0#32
  let c0_1085 : Index := 0#32
  ![1, 13, v1858.toNat, 0, 0]
def k0_mult122 (k0_t21 : Fin k0_t21_loop.trips) : BitVec 32 :=
  let c0_i32_547 : BitVec 32 := 0#32
  let c0_i32_478 : BitVec 32 := 0#32
  let c1_i32_480 : BitVec 32 := 1#32
  let arg17 : BitVec 32 := Scf.iv c0_i32_478 c1_i32_480 k0_t21
  let c1_i32_546 : BitVec 32 := 1#32
  let v500 : BitVec 32 := Scalar.muli arg17 c1_i32_546
  let v501 : BitVec 32 := Scalar.addi c0_i32_547 v500
  let c16_i32_1088 : BitVec 32 := 16#32
  let v1875 : BitVec 32 := Scalar.muli v501 c16_i32_1088
  v1875
def k0_off310 (k0_t20 : Fin k0_t20_loop.trips) (k0_t21 : Fin k0_t21_loop.trips) : Fin 5 → Nat :=
  let c0_i32_398 : BitVec 32 := 0#32
  let c0_i32_359 : BitVec 32 := 0#32
  let c1_i32_361 : BitVec 32 := 1#32
  let arg16 : BitVec 32 := Scf.iv c0_i32_359 c1_i32_361 k0_t20
  let c1_i32_397 : BitVec 32 := 1#32
  let v248 : BitVec 32 := Scalar.muli arg16 c1_i32_397
  let v249 : BitVec 32 := Scalar.addi c0_i32_398 v248
  let c4_i32_472 : BitVec 32 := 4#32
  let c0_i32_473 : BitVec 32 := 0#32
  let v381 : BitVec 1 := Scalar.cmpi .eq c4_i32_472 c0_i32_473
  let c1_i32_474 : BitVec 32 := 1#32
  let v382 : BitVec 32 := Scalar.select v381 c1_i32_474 c4_i32_472
  let v383 : BitVec 32 := Scalar.remsi v249 v382
  let c0_i32_476 : BitVec 32 := 0#32
  let v385 : BitVec 1 := Scalar.cmpi .slt v383 c0_i32_476
  let c0_i32_477 : BitVec 32 := 0#32
  let v386 : BitVec 1 := Scalar.cmpi .slt v382 c0_i32_477
  let v387 : BitVec 1 := Scalar.xori v385 v386
  let c0_i32_475 : BitVec 32 := 0#32
  let v384 : BitVec 1 := Scalar.cmpi .ne v383 c0_i32_475
  let v388 : BitVec 1 := Scalar.andi v387 v384
  let v389 : BitVec 32 := Scalar.addi v383 v382
  let v390 : BitVec 32 := Scalar.select v388 v389 v383
  let v1877 : Index := Scalar.indexCast v390
  let c1_1089 : Index := 1#32
  let c13_1090 : Index := 13#32
  let c0_i32_547 : BitVec 32 := 0#32
  let c0_i32_478 : BitVec 32 := 0#32
  let c1_i32_480 : BitVec 32 := 1#32
  let arg17 : BitVec 32 := Scf.iv c0_i32_478 c1_i32_480 k0_t21
  let c1_i32_546 : BitVec 32 := 1#32
  let v500 : BitVec 32 := Scalar.muli arg17 c1_i32_546
  let v501 : BitVec 32 := Scalar.addi c0_i32_547 v500
  let c16_i32_1088 : BitVec 32 := 16#32
  let v1875 : BitVec 32 := Scalar.muli v501 c16_i32_1088
  let v1876 : BitVec 32 := v1875
  let v1878 : Index := Scalar.indexCast v1876
  let c0_1091 : Index := 0#32
  ![v1877.toNat, 1, 13, v1878.toNat, 0]
def k0_off311 (k0_t20 : Fin k0_t20_loop.trips) (k0_t21 : Fin k0_t21_loop.trips) : Fin 5 → Nat :=
  let c0_i32_398 : BitVec 32 := 0#32
  let c0_i32_359 : BitVec 32 := 0#32
  let c1_i32_361 : BitVec 32 := 1#32
  let arg16 : BitVec 32 := Scf.iv c0_i32_359 c1_i32_361 k0_t20
  let c1_i32_397 : BitVec 32 := 1#32
  let v248 : BitVec 32 := Scalar.muli arg16 c1_i32_397
  let v249 : BitVec 32 := Scalar.addi c0_i32_398 v248
  let c4_i32_466 : BitVec 32 := 4#32
  let c0_i32_467 : BitVec 32 := 0#32
  let v371 : BitVec 1 := Scalar.cmpi .eq c4_i32_466 c0_i32_467
  let c1_i32_468 : BitVec 32 := 1#32
  let v372 : BitVec 32 := Scalar.select v371 c1_i32_468 c4_i32_466
  let v373 : BitVec 32 := Scalar.remsi v249 v372
  let c0_i32_470 : BitVec 32 := 0#32
  let v375 : BitVec 1 := Scalar.cmpi .slt v373 c0_i32_470
  let c0_i32_471 : BitVec 32 := 0#32
  let v376 : BitVec 1 := Scalar.cmpi .slt v372 c0_i32_471
  let v377 : BitVec 1 := Scalar.xori v375 v376
  let c0_i32_469 : BitVec 32 := 0#32
  let v374 : BitVec 1 := Scalar.cmpi .ne v373 c0_i32_469
  let v378 : BitVec 1 := Scalar.andi v377 v374
  let v379 : BitVec 32 := Scalar.addi v373 v372
  let v380 : BitVec 32 := Scalar.select v378 v379 v373
  let v1882 : Index := Scalar.indexCast v380
  let c1_1092 : Index := 1#32
  let c0_i32_547 : BitVec 32 := 0#32
  let c0_i32_478 : BitVec 32 := 0#32
  let c1_i32_480 : BitVec 32 := 1#32
  let arg17 : BitVec 32 := Scf.iv c0_i32_478 c1_i32_480 k0_t21
  let c1_i32_546 : BitVec 32 := 1#32
  let v500 : BitVec 32 := Scalar.muli arg17 c1_i32_546
  let v501 : BitVec 32 := Scalar.addi c0_i32_547 v500
  let v1883 : Index := Scalar.indexCast v501
  let c224_1093 : Index := 224#32
  let c0_1094 : Index := 0#32
  ![v1882.toNat, 1, v1883.toNat, 224, 0]
def k0_off312 (v506 : BitVec 32) : Fin 5 → Nat :=
  let c1_1095 : Index := 1#32
  let c14_1096 : Index := 14#32
  let c0_i32_558 : BitVec 32 := 0#32
  let v525 : BitVec 1 := Scalar.cmpi .sgt v506 c0_i32_558
  let v526 : BitVec 32 := Scalar.extui v525
  let c0_i32_559 : BitVec 32 := 0#32
  let v527 : BitVec 1 := Scalar.cmpi .slt v506 c0_i32_559
  let v528 : BitVec 32 := Scalar.extui v527
  let v529 : BitVec 32 := Scalar.subi v526 v528
  let c128_i32_557 : BitVec 32 := 128#32
  let c0_i32_560 : BitVec 32 := 0#32
  let v530 : BitVec 1 := Scalar.cmpi .sgt c128_i32_557 c0_i32_560
  let v531 : BitVec 32 := Scalar.extui v530
  let c0_i32_561 : BitVec 32 := 0#32
  let v532 : BitVec 1 := Scalar.cmpi .slt c128_i32_557 c0_i32_561
  let v533 : BitVec 32 := Scalar.extui v532
  let v534 : BitVec 32 := Scalar.subi v531 v533
  let v535 : BitVec 1 := Scalar.cmpi .ne v529 v534
  let v536 : BitVec 32 := Scalar.remsi v506 c128_i32_557
  let c0_i32_562 : BitVec 32 := 0#32
  let v537 : BitVec 1 := Scalar.cmpi .ne v536 c0_i32_562
  let v538 : BitVec 1 := Scalar.andi v535 v537
  let v524 : BitVec 32 := Scalar.divsi v506 c128_i32_557
  let c1_i32_563 : BitVec 32 := 1#32
  let v539 : BitVec 32 := Scalar.subi v524 c1_i32_563
  let v540 : BitVec 32 := Scalar.select v538 v539 v524
  let v1887 : Index := Scalar.indexCast v540
  let c0_1097 : Index := 0#32
  let c0_1098 : Index := 0#32
  ![1, 14, v1887.toNat, 0, 0]
def k0_mult123 (k0_t21 : Fin k0_t21_loop.trips) : BitVec 32 :=
  let c0_i32_547 : BitVec 32 := 0#32
  let c0_i32_478 : BitVec 32 := 0#32
  let c1_i32_480 : BitVec 32 := 1#32
  let arg17 : BitVec 32 := Scf.iv c0_i32_478 c1_i32_480 k0_t21
  let c1_i32_546 : BitVec 32 := 1#32
  let v500 : BitVec 32 := Scalar.muli arg17 c1_i32_546
  let v501 : BitVec 32 := Scalar.addi c0_i32_547 v500
  let c16_i32_1101 : BitVec 32 := 16#32
  let v1904 : BitVec 32 := Scalar.muli v501 c16_i32_1101
  v1904
def k0_off313 (k0_t20 : Fin k0_t20_loop.trips) (k0_t21 : Fin k0_t21_loop.trips) : Fin 5 → Nat :=
  let c0_i32_398 : BitVec 32 := 0#32
  let c0_i32_359 : BitVec 32 := 0#32
  let c1_i32_361 : BitVec 32 := 1#32
  let arg16 : BitVec 32 := Scf.iv c0_i32_359 c1_i32_361 k0_t20
  let c1_i32_397 : BitVec 32 := 1#32
  let v248 : BitVec 32 := Scalar.muli arg16 c1_i32_397
  let v249 : BitVec 32 := Scalar.addi c0_i32_398 v248
  let c4_i32_472 : BitVec 32 := 4#32
  let c0_i32_473 : BitVec 32 := 0#32
  let v381 : BitVec 1 := Scalar.cmpi .eq c4_i32_472 c0_i32_473
  let c1_i32_474 : BitVec 32 := 1#32
  let v382 : BitVec 32 := Scalar.select v381 c1_i32_474 c4_i32_472
  let v383 : BitVec 32 := Scalar.remsi v249 v382
  let c0_i32_476 : BitVec 32 := 0#32
  let v385 : BitVec 1 := Scalar.cmpi .slt v383 c0_i32_476
  let c0_i32_477 : BitVec 32 := 0#32
  let v386 : BitVec 1 := Scalar.cmpi .slt v382 c0_i32_477
  let v387 : BitVec 1 := Scalar.xori v385 v386
  let c0_i32_475 : BitVec 32 := 0#32
  let v384 : BitVec 1 := Scalar.cmpi .ne v383 c0_i32_475
  let v388 : BitVec 1 := Scalar.andi v387 v384
  let v389 : BitVec 32 := Scalar.addi v383 v382
  let v390 : BitVec 32 := Scalar.select v388 v389 v383
  let v1906 : Index := Scalar.indexCast v390
  let c1_1102 : Index := 1#32
  let c14_1103 : Index := 14#32
  let c0_i32_547 : BitVec 32 := 0#32
  let c0_i32_478 : BitVec 32 := 0#32
  let c1_i32_480 : BitVec 32 := 1#32
  let arg17 : BitVec 32 := Scf.iv c0_i32_478 c1_i32_480 k0_t21
  let c1_i32_546 : BitVec 32 := 1#32
  let v500 : BitVec 32 := Scalar.muli arg17 c1_i32_546
  let v501 : BitVec 32 := Scalar.addi c0_i32_547 v500
  let c16_i32_1101 : BitVec 32 := 16#32
  let v1904 : BitVec 32 := Scalar.muli v501 c16_i32_1101
  let v1905 : BitVec 32 := v1904
  let v1907 : Index := Scalar.indexCast v1905
  let c0_1104 : Index := 0#32
  ![v1906.toNat, 1, 14, v1907.toNat, 0]
def k0_off314 (v506 : BitVec 32) : Fin 5 → Nat :=
  let c1_1105 : Index := 1#32
  let c15_1106 : Index := 15#32
  let c0_i32_558 : BitVec 32 := 0#32
  let v525 : BitVec 1 := Scalar.cmpi .sgt v506 c0_i32_558
  let v526 : BitVec 32 := Scalar.extui v525
  let c0_i32_559 : BitVec 32 := 0#32
  let v527 : BitVec 1 := Scalar.cmpi .slt v506 c0_i32_559
  let v528 : BitVec 32 := Scalar.extui v527
  let v529 : BitVec 32 := Scalar.subi v526 v528
  let c128_i32_557 : BitVec 32 := 128#32
  let c0_i32_560 : BitVec 32 := 0#32
  let v530 : BitVec 1 := Scalar.cmpi .sgt c128_i32_557 c0_i32_560
  let v531 : BitVec 32 := Scalar.extui v530
  let c0_i32_561 : BitVec 32 := 0#32
  let v532 : BitVec 1 := Scalar.cmpi .slt c128_i32_557 c0_i32_561
  let v533 : BitVec 32 := Scalar.extui v532
  let v534 : BitVec 32 := Scalar.subi v531 v533
  let v535 : BitVec 1 := Scalar.cmpi .ne v529 v534
  let v536 : BitVec 32 := Scalar.remsi v506 c128_i32_557
  let c0_i32_562 : BitVec 32 := 0#32
  let v537 : BitVec 1 := Scalar.cmpi .ne v536 c0_i32_562
  let v538 : BitVec 1 := Scalar.andi v535 v537
  let v524 : BitVec 32 := Scalar.divsi v506 c128_i32_557
  let c1_i32_563 : BitVec 32 := 1#32
  let v539 : BitVec 32 := Scalar.subi v524 c1_i32_563
  let v540 : BitVec 32 := Scalar.select v538 v539 v524
  let v1911 : Index := Scalar.indexCast v540
  let c0_1107 : Index := 0#32
  let c0_1108 : Index := 0#32
  ![1, 15, v1911.toNat, 0, 0]
def k0_mult124 (k0_t21 : Fin k0_t21_loop.trips) : BitVec 32 :=
  let c0_i32_547 : BitVec 32 := 0#32
  let c0_i32_478 : BitVec 32 := 0#32
  let c1_i32_480 : BitVec 32 := 1#32
  let arg17 : BitVec 32 := Scf.iv c0_i32_478 c1_i32_480 k0_t21
  let c1_i32_546 : BitVec 32 := 1#32
  let v500 : BitVec 32 := Scalar.muli arg17 c1_i32_546
  let v501 : BitVec 32 := Scalar.addi c0_i32_547 v500
  let c16_i32_1111 : BitVec 32 := 16#32
  let v1928 : BitVec 32 := Scalar.muli v501 c16_i32_1111
  v1928
def k0_off315 (k0_t20 : Fin k0_t20_loop.trips) (k0_t21 : Fin k0_t21_loop.trips) : Fin 5 → Nat :=
  let c0_i32_398 : BitVec 32 := 0#32
  let c0_i32_359 : BitVec 32 := 0#32
  let c1_i32_361 : BitVec 32 := 1#32
  let arg16 : BitVec 32 := Scf.iv c0_i32_359 c1_i32_361 k0_t20
  let c1_i32_397 : BitVec 32 := 1#32
  let v248 : BitVec 32 := Scalar.muli arg16 c1_i32_397
  let v249 : BitVec 32 := Scalar.addi c0_i32_398 v248
  let c4_i32_472 : BitVec 32 := 4#32
  let c0_i32_473 : BitVec 32 := 0#32
  let v381 : BitVec 1 := Scalar.cmpi .eq c4_i32_472 c0_i32_473
  let c1_i32_474 : BitVec 32 := 1#32
  let v382 : BitVec 32 := Scalar.select v381 c1_i32_474 c4_i32_472
  let v383 : BitVec 32 := Scalar.remsi v249 v382
  let c0_i32_476 : BitVec 32 := 0#32
  let v385 : BitVec 1 := Scalar.cmpi .slt v383 c0_i32_476
  let c0_i32_477 : BitVec 32 := 0#32
  let v386 : BitVec 1 := Scalar.cmpi .slt v382 c0_i32_477
  let v387 : BitVec 1 := Scalar.xori v385 v386
  let c0_i32_475 : BitVec 32 := 0#32
  let v384 : BitVec 1 := Scalar.cmpi .ne v383 c0_i32_475
  let v388 : BitVec 1 := Scalar.andi v387 v384
  let v389 : BitVec 32 := Scalar.addi v383 v382
  let v390 : BitVec 32 := Scalar.select v388 v389 v383
  let v1930 : Index := Scalar.indexCast v390
  let c1_1112 : Index := 1#32
  let c15_1113 : Index := 15#32
  let c0_i32_547 : BitVec 32 := 0#32
  let c0_i32_478 : BitVec 32 := 0#32
  let c1_i32_480 : BitVec 32 := 1#32
  let arg17 : BitVec 32 := Scf.iv c0_i32_478 c1_i32_480 k0_t21
  let c1_i32_546 : BitVec 32 := 1#32
  let v500 : BitVec 32 := Scalar.muli arg17 c1_i32_546
  let v501 : BitVec 32 := Scalar.addi c0_i32_547 v500
  let c16_i32_1111 : BitVec 32 := 16#32
  let v1928 : BitVec 32 := Scalar.muli v501 c16_i32_1111
  let v1929 : BitVec 32 := v1928
  let v1931 : Index := Scalar.indexCast v1929
  let c0_1114 : Index := 0#32
  ![v1930.toNat, 1, 15, v1931.toNat, 0]
def k0_off316 (k0_t20 : Fin k0_t20_loop.trips) (k0_t21 : Fin k0_t21_loop.trips) : Fin 5 → Nat :=
  let c0_i32_398 : BitVec 32 := 0#32
  let c0_i32_359 : BitVec 32 := 0#32
  let c1_i32_361 : BitVec 32 := 1#32
  let arg16 : BitVec 32 := Scf.iv c0_i32_359 c1_i32_361 k0_t20
  let c1_i32_397 : BitVec 32 := 1#32
  let v248 : BitVec 32 := Scalar.muli arg16 c1_i32_397
  let v249 : BitVec 32 := Scalar.addi c0_i32_398 v248
  let c4_i32_466 : BitVec 32 := 4#32
  let c0_i32_467 : BitVec 32 := 0#32
  let v371 : BitVec 1 := Scalar.cmpi .eq c4_i32_466 c0_i32_467
  let c1_i32_468 : BitVec 32 := 1#32
  let v372 : BitVec 32 := Scalar.select v371 c1_i32_468 c4_i32_466
  let v373 : BitVec 32 := Scalar.remsi v249 v372
  let c0_i32_470 : BitVec 32 := 0#32
  let v375 : BitVec 1 := Scalar.cmpi .slt v373 c0_i32_470
  let c0_i32_471 : BitVec 32 := 0#32
  let v376 : BitVec 1 := Scalar.cmpi .slt v372 c0_i32_471
  let v377 : BitVec 1 := Scalar.xori v375 v376
  let c0_i32_469 : BitVec 32 := 0#32
  let v374 : BitVec 1 := Scalar.cmpi .ne v373 c0_i32_469
  let v378 : BitVec 1 := Scalar.andi v377 v374
  let v379 : BitVec 32 := Scalar.addi v373 v372
  let v380 : BitVec 32 := Scalar.select v378 v379 v373
  let v1935 : Index := Scalar.indexCast v380
  let c1_1115 : Index := 1#32
  let c0_i32_547 : BitVec 32 := 0#32
  let c0_i32_478 : BitVec 32 := 0#32
  let c1_i32_480 : BitVec 32 := 1#32
  let arg17 : BitVec 32 := Scf.iv c0_i32_478 c1_i32_480 k0_t21
  let c1_i32_546 : BitVec 32 := 1#32
  let v500 : BitVec 32 := Scalar.muli arg17 c1_i32_546
  let v501 : BitVec 32 := Scalar.addi c0_i32_547 v500
  let v1936 : Index := Scalar.indexCast v501
  let c256_1116 : Index := 256#32
  let c0_1117 : Index := 0#32
  ![v1935.toNat, 1, v1936.toNat, 256, 0]
def k0_off317 (v506 : BitVec 32) : Fin 5 → Nat :=
  let c1_1118 : Index := 1#32
  let c16_1119 : Index := 16#32
  let c0_i32_558 : BitVec 32 := 0#32
  let v525 : BitVec 1 := Scalar.cmpi .sgt v506 c0_i32_558
  let v526 : BitVec 32 := Scalar.extui v525
  let c0_i32_559 : BitVec 32 := 0#32
  let v527 : BitVec 1 := Scalar.cmpi .slt v506 c0_i32_559
  let v528 : BitVec 32 := Scalar.extui v527
  let v529 : BitVec 32 := Scalar.subi v526 v528
  let c128_i32_557 : BitVec 32 := 128#32
  let c0_i32_560 : BitVec 32 := 0#32
  let v530 : BitVec 1 := Scalar.cmpi .sgt c128_i32_557 c0_i32_560
  let v531 : BitVec 32 := Scalar.extui v530
  let c0_i32_561 : BitVec 32 := 0#32
  let v532 : BitVec 1 := Scalar.cmpi .slt c128_i32_557 c0_i32_561
  let v533 : BitVec 32 := Scalar.extui v532
  let v534 : BitVec 32 := Scalar.subi v531 v533
  let v535 : BitVec 1 := Scalar.cmpi .ne v529 v534
  let v536 : BitVec 32 := Scalar.remsi v506 c128_i32_557
  let c0_i32_562 : BitVec 32 := 0#32
  let v537 : BitVec 1 := Scalar.cmpi .ne v536 c0_i32_562
  let v538 : BitVec 1 := Scalar.andi v535 v537
  let v524 : BitVec 32 := Scalar.divsi v506 c128_i32_557
  let c1_i32_563 : BitVec 32 := 1#32
  let v539 : BitVec 32 := Scalar.subi v524 c1_i32_563
  let v540 : BitVec 32 := Scalar.select v538 v539 v524
  let v1940 : Index := Scalar.indexCast v540
  let c0_1120 : Index := 0#32
  let c0_1121 : Index := 0#32
  ![1, 16, v1940.toNat, 0, 0]
def k0_mult125 (k0_t21 : Fin k0_t21_loop.trips) : BitVec 32 :=
  let c0_i32_547 : BitVec 32 := 0#32
  let c0_i32_478 : BitVec 32 := 0#32
  let c1_i32_480 : BitVec 32 := 1#32
  let arg17 : BitVec 32 := Scf.iv c0_i32_478 c1_i32_480 k0_t21
  let c1_i32_546 : BitVec 32 := 1#32
  let v500 : BitVec 32 := Scalar.muli arg17 c1_i32_546
  let v501 : BitVec 32 := Scalar.addi c0_i32_547 v500
  let c16_i32_1124 : BitVec 32 := 16#32
  let v1957 : BitVec 32 := Scalar.muli v501 c16_i32_1124
  v1957
def k0_off318 (k0_t20 : Fin k0_t20_loop.trips) (k0_t21 : Fin k0_t21_loop.trips) : Fin 5 → Nat :=
  let c0_i32_398 : BitVec 32 := 0#32
  let c0_i32_359 : BitVec 32 := 0#32
  let c1_i32_361 : BitVec 32 := 1#32
  let arg16 : BitVec 32 := Scf.iv c0_i32_359 c1_i32_361 k0_t20
  let c1_i32_397 : BitVec 32 := 1#32
  let v248 : BitVec 32 := Scalar.muli arg16 c1_i32_397
  let v249 : BitVec 32 := Scalar.addi c0_i32_398 v248
  let c4_i32_472 : BitVec 32 := 4#32
  let c0_i32_473 : BitVec 32 := 0#32
  let v381 : BitVec 1 := Scalar.cmpi .eq c4_i32_472 c0_i32_473
  let c1_i32_474 : BitVec 32 := 1#32
  let v382 : BitVec 32 := Scalar.select v381 c1_i32_474 c4_i32_472
  let v383 : BitVec 32 := Scalar.remsi v249 v382
  let c0_i32_476 : BitVec 32 := 0#32
  let v385 : BitVec 1 := Scalar.cmpi .slt v383 c0_i32_476
  let c0_i32_477 : BitVec 32 := 0#32
  let v386 : BitVec 1 := Scalar.cmpi .slt v382 c0_i32_477
  let v387 : BitVec 1 := Scalar.xori v385 v386
  let c0_i32_475 : BitVec 32 := 0#32
  let v384 : BitVec 1 := Scalar.cmpi .ne v383 c0_i32_475
  let v388 : BitVec 1 := Scalar.andi v387 v384
  let v389 : BitVec 32 := Scalar.addi v383 v382
  let v390 : BitVec 32 := Scalar.select v388 v389 v383
  let v1959 : Index := Scalar.indexCast v390
  let c1_1125 : Index := 1#32
  let c16_1126 : Index := 16#32
  let c0_i32_547 : BitVec 32 := 0#32
  let c0_i32_478 : BitVec 32 := 0#32
  let c1_i32_480 : BitVec 32 := 1#32
  let arg17 : BitVec 32 := Scf.iv c0_i32_478 c1_i32_480 k0_t21
  let c1_i32_546 : BitVec 32 := 1#32
  let v500 : BitVec 32 := Scalar.muli arg17 c1_i32_546
  let v501 : BitVec 32 := Scalar.addi c0_i32_547 v500
  let c16_i32_1124 : BitVec 32 := 16#32
  let v1957 : BitVec 32 := Scalar.muli v501 c16_i32_1124
  let v1958 : BitVec 32 := v1957
  let v1960 : Index := Scalar.indexCast v1958
  let c0_1127 : Index := 0#32
  ![v1959.toNat, 1, 16, v1960.toNat, 0]
def k0_off319 (v506 : BitVec 32) : Fin 5 → Nat :=
  let c1_1128 : Index := 1#32
  let c17_1129 : Index := 17#32
  let c0_i32_558 : BitVec 32 := 0#32
  let v525 : BitVec 1 := Scalar.cmpi .sgt v506 c0_i32_558
  let v526 : BitVec 32 := Scalar.extui v525
  let c0_i32_559 : BitVec 32 := 0#32
  let v527 : BitVec 1 := Scalar.cmpi .slt v506 c0_i32_559
  let v528 : BitVec 32 := Scalar.extui v527
  let v529 : BitVec 32 := Scalar.subi v526 v528
  let c128_i32_557 : BitVec 32 := 128#32
  let c0_i32_560 : BitVec 32 := 0#32
  let v530 : BitVec 1 := Scalar.cmpi .sgt c128_i32_557 c0_i32_560
  let v531 : BitVec 32 := Scalar.extui v530
  let c0_i32_561 : BitVec 32 := 0#32
  let v532 : BitVec 1 := Scalar.cmpi .slt c128_i32_557 c0_i32_561
  let v533 : BitVec 32 := Scalar.extui v532
  let v534 : BitVec 32 := Scalar.subi v531 v533
  let v535 : BitVec 1 := Scalar.cmpi .ne v529 v534
  let v536 : BitVec 32 := Scalar.remsi v506 c128_i32_557
  let c0_i32_562 : BitVec 32 := 0#32
  let v537 : BitVec 1 := Scalar.cmpi .ne v536 c0_i32_562
  let v538 : BitVec 1 := Scalar.andi v535 v537
  let v524 : BitVec 32 := Scalar.divsi v506 c128_i32_557
  let c1_i32_563 : BitVec 32 := 1#32
  let v539 : BitVec 32 := Scalar.subi v524 c1_i32_563
  let v540 : BitVec 32 := Scalar.select v538 v539 v524
  let v1964 : Index := Scalar.indexCast v540
  let c0_1130 : Index := 0#32
  let c0_1131 : Index := 0#32
  ![1, 17, v1964.toNat, 0, 0]
def k0_mult126 (k0_t21 : Fin k0_t21_loop.trips) : BitVec 32 :=
  let c0_i32_547 : BitVec 32 := 0#32
  let c0_i32_478 : BitVec 32 := 0#32
  let c1_i32_480 : BitVec 32 := 1#32
  let arg17 : BitVec 32 := Scf.iv c0_i32_478 c1_i32_480 k0_t21
  let c1_i32_546 : BitVec 32 := 1#32
  let v500 : BitVec 32 := Scalar.muli arg17 c1_i32_546
  let v501 : BitVec 32 := Scalar.addi c0_i32_547 v500
  let c16_i32_1134 : BitVec 32 := 16#32
  let v1981 : BitVec 32 := Scalar.muli v501 c16_i32_1134
  v1981
def k0_off320 (k0_t20 : Fin k0_t20_loop.trips) (k0_t21 : Fin k0_t21_loop.trips) : Fin 5 → Nat :=
  let c0_i32_398 : BitVec 32 := 0#32
  let c0_i32_359 : BitVec 32 := 0#32
  let c1_i32_361 : BitVec 32 := 1#32
  let arg16 : BitVec 32 := Scf.iv c0_i32_359 c1_i32_361 k0_t20
  let c1_i32_397 : BitVec 32 := 1#32
  let v248 : BitVec 32 := Scalar.muli arg16 c1_i32_397
  let v249 : BitVec 32 := Scalar.addi c0_i32_398 v248
  let c4_i32_472 : BitVec 32 := 4#32
  let c0_i32_473 : BitVec 32 := 0#32
  let v381 : BitVec 1 := Scalar.cmpi .eq c4_i32_472 c0_i32_473
  let c1_i32_474 : BitVec 32 := 1#32
  let v382 : BitVec 32 := Scalar.select v381 c1_i32_474 c4_i32_472
  let v383 : BitVec 32 := Scalar.remsi v249 v382
  let c0_i32_476 : BitVec 32 := 0#32
  let v385 : BitVec 1 := Scalar.cmpi .slt v383 c0_i32_476
  let c0_i32_477 : BitVec 32 := 0#32
  let v386 : BitVec 1 := Scalar.cmpi .slt v382 c0_i32_477
  let v387 : BitVec 1 := Scalar.xori v385 v386
  let c0_i32_475 : BitVec 32 := 0#32
  let v384 : BitVec 1 := Scalar.cmpi .ne v383 c0_i32_475
  let v388 : BitVec 1 := Scalar.andi v387 v384
  let v389 : BitVec 32 := Scalar.addi v383 v382
  let v390 : BitVec 32 := Scalar.select v388 v389 v383
  let v1983 : Index := Scalar.indexCast v390
  let c1_1135 : Index := 1#32
  let c17_1136 : Index := 17#32
  let c0_i32_547 : BitVec 32 := 0#32
  let c0_i32_478 : BitVec 32 := 0#32
  let c1_i32_480 : BitVec 32 := 1#32
  let arg17 : BitVec 32 := Scf.iv c0_i32_478 c1_i32_480 k0_t21
  let c1_i32_546 : BitVec 32 := 1#32
  let v500 : BitVec 32 := Scalar.muli arg17 c1_i32_546
  let v501 : BitVec 32 := Scalar.addi c0_i32_547 v500
  let c16_i32_1134 : BitVec 32 := 16#32
  let v1981 : BitVec 32 := Scalar.muli v501 c16_i32_1134
  let v1982 : BitVec 32 := v1981
  let v1984 : Index := Scalar.indexCast v1982
  let c0_1137 : Index := 0#32
  ![v1983.toNat, 1, 17, v1984.toNat, 0]
def k0_off321 (k0_t20 : Fin k0_t20_loop.trips) (k0_t21 : Fin k0_t21_loop.trips) : Fin 5 → Nat :=
  let c0_i32_398 : BitVec 32 := 0#32
  let c0_i32_359 : BitVec 32 := 0#32
  let c1_i32_361 : BitVec 32 := 1#32
  let arg16 : BitVec 32 := Scf.iv c0_i32_359 c1_i32_361 k0_t20
  let c1_i32_397 : BitVec 32 := 1#32
  let v248 : BitVec 32 := Scalar.muli arg16 c1_i32_397
  let v249 : BitVec 32 := Scalar.addi c0_i32_398 v248
  let c4_i32_466 : BitVec 32 := 4#32
  let c0_i32_467 : BitVec 32 := 0#32
  let v371 : BitVec 1 := Scalar.cmpi .eq c4_i32_466 c0_i32_467
  let c1_i32_468 : BitVec 32 := 1#32
  let v372 : BitVec 32 := Scalar.select v371 c1_i32_468 c4_i32_466
  let v373 : BitVec 32 := Scalar.remsi v249 v372
  let c0_i32_470 : BitVec 32 := 0#32
  let v375 : BitVec 1 := Scalar.cmpi .slt v373 c0_i32_470
  let c0_i32_471 : BitVec 32 := 0#32
  let v376 : BitVec 1 := Scalar.cmpi .slt v372 c0_i32_471
  let v377 : BitVec 1 := Scalar.xori v375 v376
  let c0_i32_469 : BitVec 32 := 0#32
  let v374 : BitVec 1 := Scalar.cmpi .ne v373 c0_i32_469
  let v378 : BitVec 1 := Scalar.andi v377 v374
  let v379 : BitVec 32 := Scalar.addi v373 v372
  let v380 : BitVec 32 := Scalar.select v378 v379 v373
  let v1988 : Index := Scalar.indexCast v380
  let c1_1138 : Index := 1#32
  let c0_i32_547 : BitVec 32 := 0#32
  let c0_i32_478 : BitVec 32 := 0#32
  let c1_i32_480 : BitVec 32 := 1#32
  let arg17 : BitVec 32 := Scf.iv c0_i32_478 c1_i32_480 k0_t21
  let c1_i32_546 : BitVec 32 := 1#32
  let v500 : BitVec 32 := Scalar.muli arg17 c1_i32_546
  let v501 : BitVec 32 := Scalar.addi c0_i32_547 v500
  let v1989 : Index := Scalar.indexCast v501
  let c288_1139 : Index := 288#32
  let c0_1140 : Index := 0#32
  ![v1988.toNat, 1, v1989.toNat, 288, 0]
def k0_off322 (v506 : BitVec 32) : Fin 5 → Nat :=
  let c1_1141 : Index := 1#32
  let c18_1142 : Index := 18#32
  let c0_i32_558 : BitVec 32 := 0#32
  let v525 : BitVec 1 := Scalar.cmpi .sgt v506 c0_i32_558
  let v526 : BitVec 32 := Scalar.extui v525
  let c0_i32_559 : BitVec 32 := 0#32
  let v527 : BitVec 1 := Scalar.cmpi .slt v506 c0_i32_559
  let v528 : BitVec 32 := Scalar.extui v527
  let v529 : BitVec 32 := Scalar.subi v526 v528
  let c128_i32_557 : BitVec 32 := 128#32
  let c0_i32_560 : BitVec 32 := 0#32
  let v530 : BitVec 1 := Scalar.cmpi .sgt c128_i32_557 c0_i32_560
  let v531 : BitVec 32 := Scalar.extui v530
  let c0_i32_561 : BitVec 32 := 0#32
  let v532 : BitVec 1 := Scalar.cmpi .slt c128_i32_557 c0_i32_561
  let v533 : BitVec 32 := Scalar.extui v532
  let v534 : BitVec 32 := Scalar.subi v531 v533
  let v535 : BitVec 1 := Scalar.cmpi .ne v529 v534
  let v536 : BitVec 32 := Scalar.remsi v506 c128_i32_557
  let c0_i32_562 : BitVec 32 := 0#32
  let v537 : BitVec 1 := Scalar.cmpi .ne v536 c0_i32_562
  let v538 : BitVec 1 := Scalar.andi v535 v537
  let v524 : BitVec 32 := Scalar.divsi v506 c128_i32_557
  let c1_i32_563 : BitVec 32 := 1#32
  let v539 : BitVec 32 := Scalar.subi v524 c1_i32_563
  let v540 : BitVec 32 := Scalar.select v538 v539 v524
  let v1993 : Index := Scalar.indexCast v540
  let c0_1143 : Index := 0#32
  let c0_1144 : Index := 0#32
  ![1, 18, v1993.toNat, 0, 0]
def k0_mult127 (k0_t21 : Fin k0_t21_loop.trips) : BitVec 32 :=
  let c0_i32_547 : BitVec 32 := 0#32
  let c0_i32_478 : BitVec 32 := 0#32
  let c1_i32_480 : BitVec 32 := 1#32
  let arg17 : BitVec 32 := Scf.iv c0_i32_478 c1_i32_480 k0_t21
  let c1_i32_546 : BitVec 32 := 1#32
  let v500 : BitVec 32 := Scalar.muli arg17 c1_i32_546
  let v501 : BitVec 32 := Scalar.addi c0_i32_547 v500
  let c16_i32_1147 : BitVec 32 := 16#32
  let v2010 : BitVec 32 := Scalar.muli v501 c16_i32_1147
  v2010
def k0_off323 (k0_t20 : Fin k0_t20_loop.trips) (k0_t21 : Fin k0_t21_loop.trips) : Fin 5 → Nat :=
  let c0_i32_398 : BitVec 32 := 0#32
  let c0_i32_359 : BitVec 32 := 0#32
  let c1_i32_361 : BitVec 32 := 1#32
  let arg16 : BitVec 32 := Scf.iv c0_i32_359 c1_i32_361 k0_t20
  let c1_i32_397 : BitVec 32 := 1#32
  let v248 : BitVec 32 := Scalar.muli arg16 c1_i32_397
  let v249 : BitVec 32 := Scalar.addi c0_i32_398 v248
  let c4_i32_472 : BitVec 32 := 4#32
  let c0_i32_473 : BitVec 32 := 0#32
  let v381 : BitVec 1 := Scalar.cmpi .eq c4_i32_472 c0_i32_473
  let c1_i32_474 : BitVec 32 := 1#32
  let v382 : BitVec 32 := Scalar.select v381 c1_i32_474 c4_i32_472
  let v383 : BitVec 32 := Scalar.remsi v249 v382
  let c0_i32_476 : BitVec 32 := 0#32
  let v385 : BitVec 1 := Scalar.cmpi .slt v383 c0_i32_476
  let c0_i32_477 : BitVec 32 := 0#32
  let v386 : BitVec 1 := Scalar.cmpi .slt v382 c0_i32_477
  let v387 : BitVec 1 := Scalar.xori v385 v386
  let c0_i32_475 : BitVec 32 := 0#32
  let v384 : BitVec 1 := Scalar.cmpi .ne v383 c0_i32_475
  let v388 : BitVec 1 := Scalar.andi v387 v384
  let v389 : BitVec 32 := Scalar.addi v383 v382
  let v390 : BitVec 32 := Scalar.select v388 v389 v383
  let v2012 : Index := Scalar.indexCast v390
  let c1_1148 : Index := 1#32
  let c18_1149 : Index := 18#32
  let c0_i32_547 : BitVec 32 := 0#32
  let c0_i32_478 : BitVec 32 := 0#32
  let c1_i32_480 : BitVec 32 := 1#32
  let arg17 : BitVec 32 := Scf.iv c0_i32_478 c1_i32_480 k0_t21
  let c1_i32_546 : BitVec 32 := 1#32
  let v500 : BitVec 32 := Scalar.muli arg17 c1_i32_546
  let v501 : BitVec 32 := Scalar.addi c0_i32_547 v500
  let c16_i32_1147 : BitVec 32 := 16#32
  let v2010 : BitVec 32 := Scalar.muli v501 c16_i32_1147
  let v2011 : BitVec 32 := v2010
  let v2013 : Index := Scalar.indexCast v2011
  let c0_1150 : Index := 0#32
  ![v2012.toNat, 1, 18, v2013.toNat, 0]
def k0_off324 (v506 : BitVec 32) : Fin 5 → Nat :=
  let c1_1151 : Index := 1#32
  let c19_1152 : Index := 19#32
  let c0_i32_558 : BitVec 32 := 0#32
  let v525 : BitVec 1 := Scalar.cmpi .sgt v506 c0_i32_558
  let v526 : BitVec 32 := Scalar.extui v525
  let c0_i32_559 : BitVec 32 := 0#32
  let v527 : BitVec 1 := Scalar.cmpi .slt v506 c0_i32_559
  let v528 : BitVec 32 := Scalar.extui v527
  let v529 : BitVec 32 := Scalar.subi v526 v528
  let c128_i32_557 : BitVec 32 := 128#32
  let c0_i32_560 : BitVec 32 := 0#32
  let v530 : BitVec 1 := Scalar.cmpi .sgt c128_i32_557 c0_i32_560
  let v531 : BitVec 32 := Scalar.extui v530
  let c0_i32_561 : BitVec 32 := 0#32
  let v532 : BitVec 1 := Scalar.cmpi .slt c128_i32_557 c0_i32_561
  let v533 : BitVec 32 := Scalar.extui v532
  let v534 : BitVec 32 := Scalar.subi v531 v533
  let v535 : BitVec 1 := Scalar.cmpi .ne v529 v534
  let v536 : BitVec 32 := Scalar.remsi v506 c128_i32_557
  let c0_i32_562 : BitVec 32 := 0#32
  let v537 : BitVec 1 := Scalar.cmpi .ne v536 c0_i32_562
  let v538 : BitVec 1 := Scalar.andi v535 v537
  let v524 : BitVec 32 := Scalar.divsi v506 c128_i32_557
  let c1_i32_563 : BitVec 32 := 1#32
  let v539 : BitVec 32 := Scalar.subi v524 c1_i32_563
  let v540 : BitVec 32 := Scalar.select v538 v539 v524
  let v2017 : Index := Scalar.indexCast v540
  let c0_1153 : Index := 0#32
  let c0_1154 : Index := 0#32
  ![1, 19, v2017.toNat, 0, 0]
def k0_mult128 (k0_t21 : Fin k0_t21_loop.trips) : BitVec 32 :=
  let c0_i32_547 : BitVec 32 := 0#32
  let c0_i32_478 : BitVec 32 := 0#32
  let c1_i32_480 : BitVec 32 := 1#32
  let arg17 : BitVec 32 := Scf.iv c0_i32_478 c1_i32_480 k0_t21
  let c1_i32_546 : BitVec 32 := 1#32
  let v500 : BitVec 32 := Scalar.muli arg17 c1_i32_546
  let v501 : BitVec 32 := Scalar.addi c0_i32_547 v500
  let c16_i32_1157 : BitVec 32 := 16#32
  let v2034 : BitVec 32 := Scalar.muli v501 c16_i32_1157
  v2034
def k0_off325 (k0_t20 : Fin k0_t20_loop.trips) (k0_t21 : Fin k0_t21_loop.trips) : Fin 5 → Nat :=
  let c0_i32_398 : BitVec 32 := 0#32
  let c0_i32_359 : BitVec 32 := 0#32
  let c1_i32_361 : BitVec 32 := 1#32
  let arg16 : BitVec 32 := Scf.iv c0_i32_359 c1_i32_361 k0_t20
  let c1_i32_397 : BitVec 32 := 1#32
  let v248 : BitVec 32 := Scalar.muli arg16 c1_i32_397
  let v249 : BitVec 32 := Scalar.addi c0_i32_398 v248
  let c4_i32_472 : BitVec 32 := 4#32
  let c0_i32_473 : BitVec 32 := 0#32
  let v381 : BitVec 1 := Scalar.cmpi .eq c4_i32_472 c0_i32_473
  let c1_i32_474 : BitVec 32 := 1#32
  let v382 : BitVec 32 := Scalar.select v381 c1_i32_474 c4_i32_472
  let v383 : BitVec 32 := Scalar.remsi v249 v382
  let c0_i32_476 : BitVec 32 := 0#32
  let v385 : BitVec 1 := Scalar.cmpi .slt v383 c0_i32_476
  let c0_i32_477 : BitVec 32 := 0#32
  let v386 : BitVec 1 := Scalar.cmpi .slt v382 c0_i32_477
  let v387 : BitVec 1 := Scalar.xori v385 v386
  let c0_i32_475 : BitVec 32 := 0#32
  let v384 : BitVec 1 := Scalar.cmpi .ne v383 c0_i32_475
  let v388 : BitVec 1 := Scalar.andi v387 v384
  let v389 : BitVec 32 := Scalar.addi v383 v382
  let v390 : BitVec 32 := Scalar.select v388 v389 v383
  let v2036 : Index := Scalar.indexCast v390
  let c1_1158 : Index := 1#32
  let c19_1159 : Index := 19#32
  let c0_i32_547 : BitVec 32 := 0#32
  let c0_i32_478 : BitVec 32 := 0#32
  let c1_i32_480 : BitVec 32 := 1#32
  let arg17 : BitVec 32 := Scf.iv c0_i32_478 c1_i32_480 k0_t21
  let c1_i32_546 : BitVec 32 := 1#32
  let v500 : BitVec 32 := Scalar.muli arg17 c1_i32_546
  let v501 : BitVec 32 := Scalar.addi c0_i32_547 v500
  let c16_i32_1157 : BitVec 32 := 16#32
  let v2034 : BitVec 32 := Scalar.muli v501 c16_i32_1157
  let v2035 : BitVec 32 := v2034
  let v2037 : Index := Scalar.indexCast v2035
  let c0_1160 : Index := 0#32
  ![v2036.toNat, 1, 19, v2037.toNat, 0]
def k0_off326 (k0_t20 : Fin k0_t20_loop.trips) (k0_t21 : Fin k0_t21_loop.trips) : Fin 5 → Nat :=
  let c0_i32_398 : BitVec 32 := 0#32
  let c0_i32_359 : BitVec 32 := 0#32
  let c1_i32_361 : BitVec 32 := 1#32
  let arg16 : BitVec 32 := Scf.iv c0_i32_359 c1_i32_361 k0_t20
  let c1_i32_397 : BitVec 32 := 1#32
  let v248 : BitVec 32 := Scalar.muli arg16 c1_i32_397
  let v249 : BitVec 32 := Scalar.addi c0_i32_398 v248
  let c4_i32_466 : BitVec 32 := 4#32
  let c0_i32_467 : BitVec 32 := 0#32
  let v371 : BitVec 1 := Scalar.cmpi .eq c4_i32_466 c0_i32_467
  let c1_i32_468 : BitVec 32 := 1#32
  let v372 : BitVec 32 := Scalar.select v371 c1_i32_468 c4_i32_466
  let v373 : BitVec 32 := Scalar.remsi v249 v372
  let c0_i32_470 : BitVec 32 := 0#32
  let v375 : BitVec 1 := Scalar.cmpi .slt v373 c0_i32_470
  let c0_i32_471 : BitVec 32 := 0#32
  let v376 : BitVec 1 := Scalar.cmpi .slt v372 c0_i32_471
  let v377 : BitVec 1 := Scalar.xori v375 v376
  let c0_i32_469 : BitVec 32 := 0#32
  let v374 : BitVec 1 := Scalar.cmpi .ne v373 c0_i32_469
  let v378 : BitVec 1 := Scalar.andi v377 v374
  let v379 : BitVec 32 := Scalar.addi v373 v372
  let v380 : BitVec 32 := Scalar.select v378 v379 v373
  let v2041 : Index := Scalar.indexCast v380
  let c1_1161 : Index := 1#32
  let c0_i32_547 : BitVec 32 := 0#32
  let c0_i32_478 : BitVec 32 := 0#32
  let c1_i32_480 : BitVec 32 := 1#32
  let arg17 : BitVec 32 := Scf.iv c0_i32_478 c1_i32_480 k0_t21
  let c1_i32_546 : BitVec 32 := 1#32
  let v500 : BitVec 32 := Scalar.muli arg17 c1_i32_546
  let v501 : BitVec 32 := Scalar.addi c0_i32_547 v500
  let v2042 : Index := Scalar.indexCast v501
  let c320_1162 : Index := 320#32
  let c0_1163 : Index := 0#32
  ![v2041.toNat, 1, v2042.toNat, 320, 0]
def k0_off327 (v506 : BitVec 32) : Fin 5 → Nat :=
  let c1_1164 : Index := 1#32
  let c20_1165 : Index := 20#32
  let c0_i32_558 : BitVec 32 := 0#32
  let v525 : BitVec 1 := Scalar.cmpi .sgt v506 c0_i32_558
  let v526 : BitVec 32 := Scalar.extui v525
  let c0_i32_559 : BitVec 32 := 0#32
  let v527 : BitVec 1 := Scalar.cmpi .slt v506 c0_i32_559
  let v528 : BitVec 32 := Scalar.extui v527
  let v529 : BitVec 32 := Scalar.subi v526 v528
  let c128_i32_557 : BitVec 32 := 128#32
  let c0_i32_560 : BitVec 32 := 0#32
  let v530 : BitVec 1 := Scalar.cmpi .sgt c128_i32_557 c0_i32_560
  let v531 : BitVec 32 := Scalar.extui v530
  let c0_i32_561 : BitVec 32 := 0#32
  let v532 : BitVec 1 := Scalar.cmpi .slt c128_i32_557 c0_i32_561
  let v533 : BitVec 32 := Scalar.extui v532
  let v534 : BitVec 32 := Scalar.subi v531 v533
  let v535 : BitVec 1 := Scalar.cmpi .ne v529 v534
  let v536 : BitVec 32 := Scalar.remsi v506 c128_i32_557
  let c0_i32_562 : BitVec 32 := 0#32
  let v537 : BitVec 1 := Scalar.cmpi .ne v536 c0_i32_562
  let v538 : BitVec 1 := Scalar.andi v535 v537
  let v524 : BitVec 32 := Scalar.divsi v506 c128_i32_557
  let c1_i32_563 : BitVec 32 := 1#32
  let v539 : BitVec 32 := Scalar.subi v524 c1_i32_563
  let v540 : BitVec 32 := Scalar.select v538 v539 v524
  let v2046 : Index := Scalar.indexCast v540
  let c0_1166 : Index := 0#32
  let c0_1167 : Index := 0#32
  ![1, 20, v2046.toNat, 0, 0]
def k0_mult129 (k0_t21 : Fin k0_t21_loop.trips) : BitVec 32 :=
  let c0_i32_547 : BitVec 32 := 0#32
  let c0_i32_478 : BitVec 32 := 0#32
  let c1_i32_480 : BitVec 32 := 1#32
  let arg17 : BitVec 32 := Scf.iv c0_i32_478 c1_i32_480 k0_t21
  let c1_i32_546 : BitVec 32 := 1#32
  let v500 : BitVec 32 := Scalar.muli arg17 c1_i32_546
  let v501 : BitVec 32 := Scalar.addi c0_i32_547 v500
  let c16_i32_1170 : BitVec 32 := 16#32
  let v2063 : BitVec 32 := Scalar.muli v501 c16_i32_1170
  v2063
def k0_off328 (k0_t20 : Fin k0_t20_loop.trips) (k0_t21 : Fin k0_t21_loop.trips) : Fin 5 → Nat :=
  let c0_i32_398 : BitVec 32 := 0#32
  let c0_i32_359 : BitVec 32 := 0#32
  let c1_i32_361 : BitVec 32 := 1#32
  let arg16 : BitVec 32 := Scf.iv c0_i32_359 c1_i32_361 k0_t20
  let c1_i32_397 : BitVec 32 := 1#32
  let v248 : BitVec 32 := Scalar.muli arg16 c1_i32_397
  let v249 : BitVec 32 := Scalar.addi c0_i32_398 v248
  let c4_i32_472 : BitVec 32 := 4#32
  let c0_i32_473 : BitVec 32 := 0#32
  let v381 : BitVec 1 := Scalar.cmpi .eq c4_i32_472 c0_i32_473
  let c1_i32_474 : BitVec 32 := 1#32
  let v382 : BitVec 32 := Scalar.select v381 c1_i32_474 c4_i32_472
  let v383 : BitVec 32 := Scalar.remsi v249 v382
  let c0_i32_476 : BitVec 32 := 0#32
  let v385 : BitVec 1 := Scalar.cmpi .slt v383 c0_i32_476
  let c0_i32_477 : BitVec 32 := 0#32
  let v386 : BitVec 1 := Scalar.cmpi .slt v382 c0_i32_477
  let v387 : BitVec 1 := Scalar.xori v385 v386
  let c0_i32_475 : BitVec 32 := 0#32
  let v384 : BitVec 1 := Scalar.cmpi .ne v383 c0_i32_475
  let v388 : BitVec 1 := Scalar.andi v387 v384
  let v389 : BitVec 32 := Scalar.addi v383 v382
  let v390 : BitVec 32 := Scalar.select v388 v389 v383
  let v2065 : Index := Scalar.indexCast v390
  let c1_1171 : Index := 1#32
  let c20_1172 : Index := 20#32
  let c0_i32_547 : BitVec 32 := 0#32
  let c0_i32_478 : BitVec 32 := 0#32
  let c1_i32_480 : BitVec 32 := 1#32
  let arg17 : BitVec 32 := Scf.iv c0_i32_478 c1_i32_480 k0_t21
  let c1_i32_546 : BitVec 32 := 1#32
  let v500 : BitVec 32 := Scalar.muli arg17 c1_i32_546
  let v501 : BitVec 32 := Scalar.addi c0_i32_547 v500
  let c16_i32_1170 : BitVec 32 := 16#32
  let v2063 : BitVec 32 := Scalar.muli v501 c16_i32_1170
  let v2064 : BitVec 32 := v2063
  let v2066 : Index := Scalar.indexCast v2064
  let c0_1173 : Index := 0#32
  ![v2065.toNat, 1, 20, v2066.toNat, 0]
def k0_off329 (v506 : BitVec 32) : Fin 5 → Nat :=
  let c1_1174 : Index := 1#32
  let c21_1175 : Index := 21#32
  let c0_i32_558 : BitVec 32 := 0#32
  let v525 : BitVec 1 := Scalar.cmpi .sgt v506 c0_i32_558
  let v526 : BitVec 32 := Scalar.extui v525
  let c0_i32_559 : BitVec 32 := 0#32
  let v527 : BitVec 1 := Scalar.cmpi .slt v506 c0_i32_559
  let v528 : BitVec 32 := Scalar.extui v527
  let v529 : BitVec 32 := Scalar.subi v526 v528
  let c128_i32_557 : BitVec 32 := 128#32
  let c0_i32_560 : BitVec 32 := 0#32
  let v530 : BitVec 1 := Scalar.cmpi .sgt c128_i32_557 c0_i32_560
  let v531 : BitVec 32 := Scalar.extui v530
  let c0_i32_561 : BitVec 32 := 0#32
  let v532 : BitVec 1 := Scalar.cmpi .slt c128_i32_557 c0_i32_561
  let v533 : BitVec 32 := Scalar.extui v532
  let v534 : BitVec 32 := Scalar.subi v531 v533
  let v535 : BitVec 1 := Scalar.cmpi .ne v529 v534
  let v536 : BitVec 32 := Scalar.remsi v506 c128_i32_557
  let c0_i32_562 : BitVec 32 := 0#32
  let v537 : BitVec 1 := Scalar.cmpi .ne v536 c0_i32_562
  let v538 : BitVec 1 := Scalar.andi v535 v537
  let v524 : BitVec 32 := Scalar.divsi v506 c128_i32_557
  let c1_i32_563 : BitVec 32 := 1#32
  let v539 : BitVec 32 := Scalar.subi v524 c1_i32_563
  let v540 : BitVec 32 := Scalar.select v538 v539 v524
  let v2070 : Index := Scalar.indexCast v540
  let c0_1176 : Index := 0#32
  let c0_1177 : Index := 0#32
  ![1, 21, v2070.toNat, 0, 0]
def k0_mult130 (k0_t21 : Fin k0_t21_loop.trips) : BitVec 32 :=
  let c0_i32_547 : BitVec 32 := 0#32
  let c0_i32_478 : BitVec 32 := 0#32
  let c1_i32_480 : BitVec 32 := 1#32
  let arg17 : BitVec 32 := Scf.iv c0_i32_478 c1_i32_480 k0_t21
  let c1_i32_546 : BitVec 32 := 1#32
  let v500 : BitVec 32 := Scalar.muli arg17 c1_i32_546
  let v501 : BitVec 32 := Scalar.addi c0_i32_547 v500
  let c16_i32_1180 : BitVec 32 := 16#32
  let v2087 : BitVec 32 := Scalar.muli v501 c16_i32_1180
  v2087
def k0_off330 (k0_t20 : Fin k0_t20_loop.trips) (k0_t21 : Fin k0_t21_loop.trips) : Fin 5 → Nat :=
  let c0_i32_398 : BitVec 32 := 0#32
  let c0_i32_359 : BitVec 32 := 0#32
  let c1_i32_361 : BitVec 32 := 1#32
  let arg16 : BitVec 32 := Scf.iv c0_i32_359 c1_i32_361 k0_t20
  let c1_i32_397 : BitVec 32 := 1#32
  let v248 : BitVec 32 := Scalar.muli arg16 c1_i32_397
  let v249 : BitVec 32 := Scalar.addi c0_i32_398 v248
  let c4_i32_472 : BitVec 32 := 4#32
  let c0_i32_473 : BitVec 32 := 0#32
  let v381 : BitVec 1 := Scalar.cmpi .eq c4_i32_472 c0_i32_473
  let c1_i32_474 : BitVec 32 := 1#32
  let v382 : BitVec 32 := Scalar.select v381 c1_i32_474 c4_i32_472
  let v383 : BitVec 32 := Scalar.remsi v249 v382
  let c0_i32_476 : BitVec 32 := 0#32
  let v385 : BitVec 1 := Scalar.cmpi .slt v383 c0_i32_476
  let c0_i32_477 : BitVec 32 := 0#32
  let v386 : BitVec 1 := Scalar.cmpi .slt v382 c0_i32_477
  let v387 : BitVec 1 := Scalar.xori v385 v386
  let c0_i32_475 : BitVec 32 := 0#32
  let v384 : BitVec 1 := Scalar.cmpi .ne v383 c0_i32_475
  let v388 : BitVec 1 := Scalar.andi v387 v384
  let v389 : BitVec 32 := Scalar.addi v383 v382
  let v390 : BitVec 32 := Scalar.select v388 v389 v383
  let v2089 : Index := Scalar.indexCast v390
  let c1_1181 : Index := 1#32
  let c21_1182 : Index := 21#32
  let c0_i32_547 : BitVec 32 := 0#32
  let c0_i32_478 : BitVec 32 := 0#32
  let c1_i32_480 : BitVec 32 := 1#32
  let arg17 : BitVec 32 := Scf.iv c0_i32_478 c1_i32_480 k0_t21
  let c1_i32_546 : BitVec 32 := 1#32
  let v500 : BitVec 32 := Scalar.muli arg17 c1_i32_546
  let v501 : BitVec 32 := Scalar.addi c0_i32_547 v500
  let c16_i32_1180 : BitVec 32 := 16#32
  let v2087 : BitVec 32 := Scalar.muli v501 c16_i32_1180
  let v2088 : BitVec 32 := v2087
  let v2090 : Index := Scalar.indexCast v2088
  let c0_1183 : Index := 0#32
  ![v2089.toNat, 1, 21, v2090.toNat, 0]
def k0_off331 (k0_t20 : Fin k0_t20_loop.trips) (k0_t21 : Fin k0_t21_loop.trips) : Fin 5 → Nat :=
  let c0_i32_398 : BitVec 32 := 0#32
  let c0_i32_359 : BitVec 32 := 0#32
  let c1_i32_361 : BitVec 32 := 1#32
  let arg16 : BitVec 32 := Scf.iv c0_i32_359 c1_i32_361 k0_t20
  let c1_i32_397 : BitVec 32 := 1#32
  let v248 : BitVec 32 := Scalar.muli arg16 c1_i32_397
  let v249 : BitVec 32 := Scalar.addi c0_i32_398 v248
  let c4_i32_466 : BitVec 32 := 4#32
  let c0_i32_467 : BitVec 32 := 0#32
  let v371 : BitVec 1 := Scalar.cmpi .eq c4_i32_466 c0_i32_467
  let c1_i32_468 : BitVec 32 := 1#32
  let v372 : BitVec 32 := Scalar.select v371 c1_i32_468 c4_i32_466
  let v373 : BitVec 32 := Scalar.remsi v249 v372
  let c0_i32_470 : BitVec 32 := 0#32
  let v375 : BitVec 1 := Scalar.cmpi .slt v373 c0_i32_470
  let c0_i32_471 : BitVec 32 := 0#32
  let v376 : BitVec 1 := Scalar.cmpi .slt v372 c0_i32_471
  let v377 : BitVec 1 := Scalar.xori v375 v376
  let c0_i32_469 : BitVec 32 := 0#32
  let v374 : BitVec 1 := Scalar.cmpi .ne v373 c0_i32_469
  let v378 : BitVec 1 := Scalar.andi v377 v374
  let v379 : BitVec 32 := Scalar.addi v373 v372
  let v380 : BitVec 32 := Scalar.select v378 v379 v373
  let v2094 : Index := Scalar.indexCast v380
  let c1_1184 : Index := 1#32
  let c0_i32_547 : BitVec 32 := 0#32
  let c0_i32_478 : BitVec 32 := 0#32
  let c1_i32_480 : BitVec 32 := 1#32
  let arg17 : BitVec 32 := Scf.iv c0_i32_478 c1_i32_480 k0_t21
  let c1_i32_546 : BitVec 32 := 1#32
  let v500 : BitVec 32 := Scalar.muli arg17 c1_i32_546
  let v501 : BitVec 32 := Scalar.addi c0_i32_547 v500
  let v2095 : Index := Scalar.indexCast v501
  let c352_1185 : Index := 352#32
  let c0_1186 : Index := 0#32
  ![v2094.toNat, 1, v2095.toNat, 352, 0]
def k0_off332 (v506 : BitVec 32) : Fin 5 → Nat :=
  let c1_1187 : Index := 1#32
  let c22_1188 : Index := 22#32
  let c0_i32_558 : BitVec 32 := 0#32
  let v525 : BitVec 1 := Scalar.cmpi .sgt v506 c0_i32_558
  let v526 : BitVec 32 := Scalar.extui v525
  let c0_i32_559 : BitVec 32 := 0#32
  let v527 : BitVec 1 := Scalar.cmpi .slt v506 c0_i32_559
  let v528 : BitVec 32 := Scalar.extui v527
  let v529 : BitVec 32 := Scalar.subi v526 v528
  let c128_i32_557 : BitVec 32 := 128#32
  let c0_i32_560 : BitVec 32 := 0#32
  let v530 : BitVec 1 := Scalar.cmpi .sgt c128_i32_557 c0_i32_560
  let v531 : BitVec 32 := Scalar.extui v530
  let c0_i32_561 : BitVec 32 := 0#32
  let v532 : BitVec 1 := Scalar.cmpi .slt c128_i32_557 c0_i32_561
  let v533 : BitVec 32 := Scalar.extui v532
  let v534 : BitVec 32 := Scalar.subi v531 v533
  let v535 : BitVec 1 := Scalar.cmpi .ne v529 v534
  let v536 : BitVec 32 := Scalar.remsi v506 c128_i32_557
  let c0_i32_562 : BitVec 32 := 0#32
  let v537 : BitVec 1 := Scalar.cmpi .ne v536 c0_i32_562
  let v538 : BitVec 1 := Scalar.andi v535 v537
  let v524 : BitVec 32 := Scalar.divsi v506 c128_i32_557
  let c1_i32_563 : BitVec 32 := 1#32
  let v539 : BitVec 32 := Scalar.subi v524 c1_i32_563
  let v540 : BitVec 32 := Scalar.select v538 v539 v524
  let v2099 : Index := Scalar.indexCast v540
  let c0_1189 : Index := 0#32
  let c0_1190 : Index := 0#32
  ![1, 22, v2099.toNat, 0, 0]
def k0_mult131 (k0_t21 : Fin k0_t21_loop.trips) : BitVec 32 :=
  let c0_i32_547 : BitVec 32 := 0#32
  let c0_i32_478 : BitVec 32 := 0#32
  let c1_i32_480 : BitVec 32 := 1#32
  let arg17 : BitVec 32 := Scf.iv c0_i32_478 c1_i32_480 k0_t21
  let c1_i32_546 : BitVec 32 := 1#32
  let v500 : BitVec 32 := Scalar.muli arg17 c1_i32_546
  let v501 : BitVec 32 := Scalar.addi c0_i32_547 v500
  let c16_i32_1193 : BitVec 32 := 16#32
  let v2116 : BitVec 32 := Scalar.muli v501 c16_i32_1193
  v2116
def k0_off333 (k0_t20 : Fin k0_t20_loop.trips) (k0_t21 : Fin k0_t21_loop.trips) : Fin 5 → Nat :=
  let c0_i32_398 : BitVec 32 := 0#32
  let c0_i32_359 : BitVec 32 := 0#32
  let c1_i32_361 : BitVec 32 := 1#32
  let arg16 : BitVec 32 := Scf.iv c0_i32_359 c1_i32_361 k0_t20
  let c1_i32_397 : BitVec 32 := 1#32
  let v248 : BitVec 32 := Scalar.muli arg16 c1_i32_397
  let v249 : BitVec 32 := Scalar.addi c0_i32_398 v248
  let c4_i32_472 : BitVec 32 := 4#32
  let c0_i32_473 : BitVec 32 := 0#32
  let v381 : BitVec 1 := Scalar.cmpi .eq c4_i32_472 c0_i32_473
  let c1_i32_474 : BitVec 32 := 1#32
  let v382 : BitVec 32 := Scalar.select v381 c1_i32_474 c4_i32_472
  let v383 : BitVec 32 := Scalar.remsi v249 v382
  let c0_i32_476 : BitVec 32 := 0#32
  let v385 : BitVec 1 := Scalar.cmpi .slt v383 c0_i32_476
  let c0_i32_477 : BitVec 32 := 0#32
  let v386 : BitVec 1 := Scalar.cmpi .slt v382 c0_i32_477
  let v387 : BitVec 1 := Scalar.xori v385 v386
  let c0_i32_475 : BitVec 32 := 0#32
  let v384 : BitVec 1 := Scalar.cmpi .ne v383 c0_i32_475
  let v388 : BitVec 1 := Scalar.andi v387 v384
  let v389 : BitVec 32 := Scalar.addi v383 v382
  let v390 : BitVec 32 := Scalar.select v388 v389 v383
  let v2118 : Index := Scalar.indexCast v390
  let c1_1194 : Index := 1#32
  let c22_1195 : Index := 22#32
  let c0_i32_547 : BitVec 32 := 0#32
  let c0_i32_478 : BitVec 32 := 0#32
  let c1_i32_480 : BitVec 32 := 1#32
  let arg17 : BitVec 32 := Scf.iv c0_i32_478 c1_i32_480 k0_t21
  let c1_i32_546 : BitVec 32 := 1#32
  let v500 : BitVec 32 := Scalar.muli arg17 c1_i32_546
  let v501 : BitVec 32 := Scalar.addi c0_i32_547 v500
  let c16_i32_1193 : BitVec 32 := 16#32
  let v2116 : BitVec 32 := Scalar.muli v501 c16_i32_1193
  let v2117 : BitVec 32 := v2116
  let v2119 : Index := Scalar.indexCast v2117
  let c0_1196 : Index := 0#32
  ![v2118.toNat, 1, 22, v2119.toNat, 0]
def k0_off334 (v506 : BitVec 32) : Fin 5 → Nat :=
  let c1_1197 : Index := 1#32
  let c23_1198 : Index := 23#32
  let c0_i32_558 : BitVec 32 := 0#32
  let v525 : BitVec 1 := Scalar.cmpi .sgt v506 c0_i32_558
  let v526 : BitVec 32 := Scalar.extui v525
  let c0_i32_559 : BitVec 32 := 0#32
  let v527 : BitVec 1 := Scalar.cmpi .slt v506 c0_i32_559
  let v528 : BitVec 32 := Scalar.extui v527
  let v529 : BitVec 32 := Scalar.subi v526 v528
  let c128_i32_557 : BitVec 32 := 128#32
  let c0_i32_560 : BitVec 32 := 0#32
  let v530 : BitVec 1 := Scalar.cmpi .sgt c128_i32_557 c0_i32_560
  let v531 : BitVec 32 := Scalar.extui v530
  let c0_i32_561 : BitVec 32 := 0#32
  let v532 : BitVec 1 := Scalar.cmpi .slt c128_i32_557 c0_i32_561
  let v533 : BitVec 32 := Scalar.extui v532
  let v534 : BitVec 32 := Scalar.subi v531 v533
  let v535 : BitVec 1 := Scalar.cmpi .ne v529 v534
  let v536 : BitVec 32 := Scalar.remsi v506 c128_i32_557
  let c0_i32_562 : BitVec 32 := 0#32
  let v537 : BitVec 1 := Scalar.cmpi .ne v536 c0_i32_562
  let v538 : BitVec 1 := Scalar.andi v535 v537
  let v524 : BitVec 32 := Scalar.divsi v506 c128_i32_557
  let c1_i32_563 : BitVec 32 := 1#32
  let v539 : BitVec 32 := Scalar.subi v524 c1_i32_563
  let v540 : BitVec 32 := Scalar.select v538 v539 v524
  let v2123 : Index := Scalar.indexCast v540
  let c0_1199 : Index := 0#32
  let c0_1200 : Index := 0#32
  ![1, 23, v2123.toNat, 0, 0]
def k0_mult132 (k0_t21 : Fin k0_t21_loop.trips) : BitVec 32 :=
  let c0_i32_547 : BitVec 32 := 0#32
  let c0_i32_478 : BitVec 32 := 0#32
  let c1_i32_480 : BitVec 32 := 1#32
  let arg17 : BitVec 32 := Scf.iv c0_i32_478 c1_i32_480 k0_t21
  let c1_i32_546 : BitVec 32 := 1#32
  let v500 : BitVec 32 := Scalar.muli arg17 c1_i32_546
  let v501 : BitVec 32 := Scalar.addi c0_i32_547 v500
  let c16_i32_1203 : BitVec 32 := 16#32
  let v2140 : BitVec 32 := Scalar.muli v501 c16_i32_1203
  v2140
def k0_off335 (k0_t20 : Fin k0_t20_loop.trips) (k0_t21 : Fin k0_t21_loop.trips) : Fin 5 → Nat :=
  let c0_i32_398 : BitVec 32 := 0#32
  let c0_i32_359 : BitVec 32 := 0#32
  let c1_i32_361 : BitVec 32 := 1#32
  let arg16 : BitVec 32 := Scf.iv c0_i32_359 c1_i32_361 k0_t20
  let c1_i32_397 : BitVec 32 := 1#32
  let v248 : BitVec 32 := Scalar.muli arg16 c1_i32_397
  let v249 : BitVec 32 := Scalar.addi c0_i32_398 v248
  let c4_i32_472 : BitVec 32 := 4#32
  let c0_i32_473 : BitVec 32 := 0#32
  let v381 : BitVec 1 := Scalar.cmpi .eq c4_i32_472 c0_i32_473
  let c1_i32_474 : BitVec 32 := 1#32
  let v382 : BitVec 32 := Scalar.select v381 c1_i32_474 c4_i32_472
  let v383 : BitVec 32 := Scalar.remsi v249 v382
  let c0_i32_476 : BitVec 32 := 0#32
  let v385 : BitVec 1 := Scalar.cmpi .slt v383 c0_i32_476
  let c0_i32_477 : BitVec 32 := 0#32
  let v386 : BitVec 1 := Scalar.cmpi .slt v382 c0_i32_477
  let v387 : BitVec 1 := Scalar.xori v385 v386
  let c0_i32_475 : BitVec 32 := 0#32
  let v384 : BitVec 1 := Scalar.cmpi .ne v383 c0_i32_475
  let v388 : BitVec 1 := Scalar.andi v387 v384
  let v389 : BitVec 32 := Scalar.addi v383 v382
  let v390 : BitVec 32 := Scalar.select v388 v389 v383
  let v2142 : Index := Scalar.indexCast v390
  let c1_1204 : Index := 1#32
  let c23_1205 : Index := 23#32
  let c0_i32_547 : BitVec 32 := 0#32
  let c0_i32_478 : BitVec 32 := 0#32
  let c1_i32_480 : BitVec 32 := 1#32
  let arg17 : BitVec 32 := Scf.iv c0_i32_478 c1_i32_480 k0_t21
  let c1_i32_546 : BitVec 32 := 1#32
  let v500 : BitVec 32 := Scalar.muli arg17 c1_i32_546
  let v501 : BitVec 32 := Scalar.addi c0_i32_547 v500
  let c16_i32_1203 : BitVec 32 := 16#32
  let v2140 : BitVec 32 := Scalar.muli v501 c16_i32_1203
  let v2141 : BitVec 32 := v2140
  let v2143 : Index := Scalar.indexCast v2141
  let c0_1206 : Index := 0#32
  ![v2142.toNat, 1, 23, v2143.toNat, 0]
def k0_off336 (k0_t20 : Fin k0_t20_loop.trips) (k0_t21 : Fin k0_t21_loop.trips) : Fin 5 → Nat :=
  let c0_i32_398 : BitVec 32 := 0#32
  let c0_i32_359 : BitVec 32 := 0#32
  let c1_i32_361 : BitVec 32 := 1#32
  let arg16 : BitVec 32 := Scf.iv c0_i32_359 c1_i32_361 k0_t20
  let c1_i32_397 : BitVec 32 := 1#32
  let v248 : BitVec 32 := Scalar.muli arg16 c1_i32_397
  let v249 : BitVec 32 := Scalar.addi c0_i32_398 v248
  let c4_i32_466 : BitVec 32 := 4#32
  let c0_i32_467 : BitVec 32 := 0#32
  let v371 : BitVec 1 := Scalar.cmpi .eq c4_i32_466 c0_i32_467
  let c1_i32_468 : BitVec 32 := 1#32
  let v372 : BitVec 32 := Scalar.select v371 c1_i32_468 c4_i32_466
  let v373 : BitVec 32 := Scalar.remsi v249 v372
  let c0_i32_470 : BitVec 32 := 0#32
  let v375 : BitVec 1 := Scalar.cmpi .slt v373 c0_i32_470
  let c0_i32_471 : BitVec 32 := 0#32
  let v376 : BitVec 1 := Scalar.cmpi .slt v372 c0_i32_471
  let v377 : BitVec 1 := Scalar.xori v375 v376
  let c0_i32_469 : BitVec 32 := 0#32
  let v374 : BitVec 1 := Scalar.cmpi .ne v373 c0_i32_469
  let v378 : BitVec 1 := Scalar.andi v377 v374
  let v379 : BitVec 32 := Scalar.addi v373 v372
  let v380 : BitVec 32 := Scalar.select v378 v379 v373
  let v2147 : Index := Scalar.indexCast v380
  let c1_1207 : Index := 1#32
  let c0_i32_547 : BitVec 32 := 0#32
  let c0_i32_478 : BitVec 32 := 0#32
  let c1_i32_480 : BitVec 32 := 1#32
  let arg17 : BitVec 32 := Scf.iv c0_i32_478 c1_i32_480 k0_t21
  let c1_i32_546 : BitVec 32 := 1#32
  let v500 : BitVec 32 := Scalar.muli arg17 c1_i32_546
  let v501 : BitVec 32 := Scalar.addi c0_i32_547 v500
  let v2148 : Index := Scalar.indexCast v501
  let c384_1208 : Index := 384#32
  let c0_1209 : Index := 0#32
  ![v2147.toNat, 1, v2148.toNat, 384, 0]
def k0_off337 (v506 : BitVec 32) : Fin 5 → Nat :=
  let c1_1210 : Index := 1#32
  let c24_1211 : Index := 24#32
  let c0_i32_558 : BitVec 32 := 0#32
  let v525 : BitVec 1 := Scalar.cmpi .sgt v506 c0_i32_558
  let v526 : BitVec 32 := Scalar.extui v525
  let c0_i32_559 : BitVec 32 := 0#32
  let v527 : BitVec 1 := Scalar.cmpi .slt v506 c0_i32_559
  let v528 : BitVec 32 := Scalar.extui v527
  let v529 : BitVec 32 := Scalar.subi v526 v528
  let c128_i32_557 : BitVec 32 := 128#32
  let c0_i32_560 : BitVec 32 := 0#32
  let v530 : BitVec 1 := Scalar.cmpi .sgt c128_i32_557 c0_i32_560
  let v531 : BitVec 32 := Scalar.extui v530
  let c0_i32_561 : BitVec 32 := 0#32
  let v532 : BitVec 1 := Scalar.cmpi .slt c128_i32_557 c0_i32_561
  let v533 : BitVec 32 := Scalar.extui v532
  let v534 : BitVec 32 := Scalar.subi v531 v533
  let v535 : BitVec 1 := Scalar.cmpi .ne v529 v534
  let v536 : BitVec 32 := Scalar.remsi v506 c128_i32_557
  let c0_i32_562 : BitVec 32 := 0#32
  let v537 : BitVec 1 := Scalar.cmpi .ne v536 c0_i32_562
  let v538 : BitVec 1 := Scalar.andi v535 v537
  let v524 : BitVec 32 := Scalar.divsi v506 c128_i32_557
  let c1_i32_563 : BitVec 32 := 1#32
  let v539 : BitVec 32 := Scalar.subi v524 c1_i32_563
  let v540 : BitVec 32 := Scalar.select v538 v539 v524
  let v2152 : Index := Scalar.indexCast v540
  let c0_1212 : Index := 0#32
  let c0_1213 : Index := 0#32
  ![1, 24, v2152.toNat, 0, 0]
def k0_mult133 (k0_t21 : Fin k0_t21_loop.trips) : BitVec 32 :=
  let c0_i32_547 : BitVec 32 := 0#32
  let c0_i32_478 : BitVec 32 := 0#32
  let c1_i32_480 : BitVec 32 := 1#32
  let arg17 : BitVec 32 := Scf.iv c0_i32_478 c1_i32_480 k0_t21
  let c1_i32_546 : BitVec 32 := 1#32
  let v500 : BitVec 32 := Scalar.muli arg17 c1_i32_546
  let v501 : BitVec 32 := Scalar.addi c0_i32_547 v500
  let c16_i32_1216 : BitVec 32 := 16#32
  let v2169 : BitVec 32 := Scalar.muli v501 c16_i32_1216
  v2169
def k0_off338 (k0_t20 : Fin k0_t20_loop.trips) (k0_t21 : Fin k0_t21_loop.trips) : Fin 5 → Nat :=
  let c0_i32_398 : BitVec 32 := 0#32
  let c0_i32_359 : BitVec 32 := 0#32
  let c1_i32_361 : BitVec 32 := 1#32
  let arg16 : BitVec 32 := Scf.iv c0_i32_359 c1_i32_361 k0_t20
  let c1_i32_397 : BitVec 32 := 1#32
  let v248 : BitVec 32 := Scalar.muli arg16 c1_i32_397
  let v249 : BitVec 32 := Scalar.addi c0_i32_398 v248
  let c4_i32_472 : BitVec 32 := 4#32
  let c0_i32_473 : BitVec 32 := 0#32
  let v381 : BitVec 1 := Scalar.cmpi .eq c4_i32_472 c0_i32_473
  let c1_i32_474 : BitVec 32 := 1#32
  let v382 : BitVec 32 := Scalar.select v381 c1_i32_474 c4_i32_472
  let v383 : BitVec 32 := Scalar.remsi v249 v382
  let c0_i32_476 : BitVec 32 := 0#32
  let v385 : BitVec 1 := Scalar.cmpi .slt v383 c0_i32_476
  let c0_i32_477 : BitVec 32 := 0#32
  let v386 : BitVec 1 := Scalar.cmpi .slt v382 c0_i32_477
  let v387 : BitVec 1 := Scalar.xori v385 v386
  let c0_i32_475 : BitVec 32 := 0#32
  let v384 : BitVec 1 := Scalar.cmpi .ne v383 c0_i32_475
  let v388 : BitVec 1 := Scalar.andi v387 v384
  let v389 : BitVec 32 := Scalar.addi v383 v382
  let v390 : BitVec 32 := Scalar.select v388 v389 v383
  let v2171 : Index := Scalar.indexCast v390
  let c1_1217 : Index := 1#32
  let c24_1218 : Index := 24#32
  let c0_i32_547 : BitVec 32 := 0#32
  let c0_i32_478 : BitVec 32 := 0#32
  let c1_i32_480 : BitVec 32 := 1#32
  let arg17 : BitVec 32 := Scf.iv c0_i32_478 c1_i32_480 k0_t21
  let c1_i32_546 : BitVec 32 := 1#32
  let v500 : BitVec 32 := Scalar.muli arg17 c1_i32_546
  let v501 : BitVec 32 := Scalar.addi c0_i32_547 v500
  let c16_i32_1216 : BitVec 32 := 16#32
  let v2169 : BitVec 32 := Scalar.muli v501 c16_i32_1216
  let v2170 : BitVec 32 := v2169
  let v2172 : Index := Scalar.indexCast v2170
  let c0_1219 : Index := 0#32
  ![v2171.toNat, 1, 24, v2172.toNat, 0]
def k0_off339 (v506 : BitVec 32) : Fin 5 → Nat :=
  let c1_1220 : Index := 1#32
  let c25_1221 : Index := 25#32
  let c0_i32_558 : BitVec 32 := 0#32
  let v525 : BitVec 1 := Scalar.cmpi .sgt v506 c0_i32_558
  let v526 : BitVec 32 := Scalar.extui v525
  let c0_i32_559 : BitVec 32 := 0#32
  let v527 : BitVec 1 := Scalar.cmpi .slt v506 c0_i32_559
  let v528 : BitVec 32 := Scalar.extui v527
  let v529 : BitVec 32 := Scalar.subi v526 v528
  let c128_i32_557 : BitVec 32 := 128#32
  let c0_i32_560 : BitVec 32 := 0#32
  let v530 : BitVec 1 := Scalar.cmpi .sgt c128_i32_557 c0_i32_560
  let v531 : BitVec 32 := Scalar.extui v530
  let c0_i32_561 : BitVec 32 := 0#32
  let v532 : BitVec 1 := Scalar.cmpi .slt c128_i32_557 c0_i32_561
  let v533 : BitVec 32 := Scalar.extui v532
  let v534 : BitVec 32 := Scalar.subi v531 v533
  let v535 : BitVec 1 := Scalar.cmpi .ne v529 v534
  let v536 : BitVec 32 := Scalar.remsi v506 c128_i32_557
  let c0_i32_562 : BitVec 32 := 0#32
  let v537 : BitVec 1 := Scalar.cmpi .ne v536 c0_i32_562
  let v538 : BitVec 1 := Scalar.andi v535 v537
  let v524 : BitVec 32 := Scalar.divsi v506 c128_i32_557
  let c1_i32_563 : BitVec 32 := 1#32
  let v539 : BitVec 32 := Scalar.subi v524 c1_i32_563
  let v540 : BitVec 32 := Scalar.select v538 v539 v524
  let v2176 : Index := Scalar.indexCast v540
  let c0_1222 : Index := 0#32
  let c0_1223 : Index := 0#32
  ![1, 25, v2176.toNat, 0, 0]
def k0_mult134 (k0_t21 : Fin k0_t21_loop.trips) : BitVec 32 :=
  let c0_i32_547 : BitVec 32 := 0#32
  let c0_i32_478 : BitVec 32 := 0#32
  let c1_i32_480 : BitVec 32 := 1#32
  let arg17 : BitVec 32 := Scf.iv c0_i32_478 c1_i32_480 k0_t21
  let c1_i32_546 : BitVec 32 := 1#32
  let v500 : BitVec 32 := Scalar.muli arg17 c1_i32_546
  let v501 : BitVec 32 := Scalar.addi c0_i32_547 v500
  let c16_i32_1226 : BitVec 32 := 16#32
  let v2193 : BitVec 32 := Scalar.muli v501 c16_i32_1226
  v2193
def k0_off340 (k0_t20 : Fin k0_t20_loop.trips) (k0_t21 : Fin k0_t21_loop.trips) : Fin 5 → Nat :=
  let c0_i32_398 : BitVec 32 := 0#32
  let c0_i32_359 : BitVec 32 := 0#32
  let c1_i32_361 : BitVec 32 := 1#32
  let arg16 : BitVec 32 := Scf.iv c0_i32_359 c1_i32_361 k0_t20
  let c1_i32_397 : BitVec 32 := 1#32
  let v248 : BitVec 32 := Scalar.muli arg16 c1_i32_397
  let v249 : BitVec 32 := Scalar.addi c0_i32_398 v248
  let c4_i32_472 : BitVec 32 := 4#32
  let c0_i32_473 : BitVec 32 := 0#32
  let v381 : BitVec 1 := Scalar.cmpi .eq c4_i32_472 c0_i32_473
  let c1_i32_474 : BitVec 32 := 1#32
  let v382 : BitVec 32 := Scalar.select v381 c1_i32_474 c4_i32_472
  let v383 : BitVec 32 := Scalar.remsi v249 v382
  let c0_i32_476 : BitVec 32 := 0#32
  let v385 : BitVec 1 := Scalar.cmpi .slt v383 c0_i32_476
  let c0_i32_477 : BitVec 32 := 0#32
  let v386 : BitVec 1 := Scalar.cmpi .slt v382 c0_i32_477
  let v387 : BitVec 1 := Scalar.xori v385 v386
  let c0_i32_475 : BitVec 32 := 0#32
  let v384 : BitVec 1 := Scalar.cmpi .ne v383 c0_i32_475
  let v388 : BitVec 1 := Scalar.andi v387 v384
  let v389 : BitVec 32 := Scalar.addi v383 v382
  let v390 : BitVec 32 := Scalar.select v388 v389 v383
  let v2195 : Index := Scalar.indexCast v390
  let c1_1227 : Index := 1#32
  let c25_1228 : Index := 25#32
  let c0_i32_547 : BitVec 32 := 0#32
  let c0_i32_478 : BitVec 32 := 0#32
  let c1_i32_480 : BitVec 32 := 1#32
  let arg17 : BitVec 32 := Scf.iv c0_i32_478 c1_i32_480 k0_t21
  let c1_i32_546 : BitVec 32 := 1#32
  let v500 : BitVec 32 := Scalar.muli arg17 c1_i32_546
  let v501 : BitVec 32 := Scalar.addi c0_i32_547 v500
  let c16_i32_1226 : BitVec 32 := 16#32
  let v2193 : BitVec 32 := Scalar.muli v501 c16_i32_1226
  let v2194 : BitVec 32 := v2193
  let v2196 : Index := Scalar.indexCast v2194
  let c0_1229 : Index := 0#32
  ![v2195.toNat, 1, 25, v2196.toNat, 0]
def k0_off341 (k0_t20 : Fin k0_t20_loop.trips) (k0_t21 : Fin k0_t21_loop.trips) : Fin 5 → Nat :=
  let c0_i32_398 : BitVec 32 := 0#32
  let c0_i32_359 : BitVec 32 := 0#32
  let c1_i32_361 : BitVec 32 := 1#32
  let arg16 : BitVec 32 := Scf.iv c0_i32_359 c1_i32_361 k0_t20
  let c1_i32_397 : BitVec 32 := 1#32
  let v248 : BitVec 32 := Scalar.muli arg16 c1_i32_397
  let v249 : BitVec 32 := Scalar.addi c0_i32_398 v248
  let c4_i32_466 : BitVec 32 := 4#32
  let c0_i32_467 : BitVec 32 := 0#32
  let v371 : BitVec 1 := Scalar.cmpi .eq c4_i32_466 c0_i32_467
  let c1_i32_468 : BitVec 32 := 1#32
  let v372 : BitVec 32 := Scalar.select v371 c1_i32_468 c4_i32_466
  let v373 : BitVec 32 := Scalar.remsi v249 v372
  let c0_i32_470 : BitVec 32 := 0#32
  let v375 : BitVec 1 := Scalar.cmpi .slt v373 c0_i32_470
  let c0_i32_471 : BitVec 32 := 0#32
  let v376 : BitVec 1 := Scalar.cmpi .slt v372 c0_i32_471
  let v377 : BitVec 1 := Scalar.xori v375 v376
  let c0_i32_469 : BitVec 32 := 0#32
  let v374 : BitVec 1 := Scalar.cmpi .ne v373 c0_i32_469
  let v378 : BitVec 1 := Scalar.andi v377 v374
  let v379 : BitVec 32 := Scalar.addi v373 v372
  let v380 : BitVec 32 := Scalar.select v378 v379 v373
  let v2200 : Index := Scalar.indexCast v380
  let c1_1230 : Index := 1#32
  let c0_i32_547 : BitVec 32 := 0#32
  let c0_i32_478 : BitVec 32 := 0#32
  let c1_i32_480 : BitVec 32 := 1#32
  let arg17 : BitVec 32 := Scf.iv c0_i32_478 c1_i32_480 k0_t21
  let c1_i32_546 : BitVec 32 := 1#32
  let v500 : BitVec 32 := Scalar.muli arg17 c1_i32_546
  let v501 : BitVec 32 := Scalar.addi c0_i32_547 v500
  let v2201 : Index := Scalar.indexCast v501
  let c416_1231 : Index := 416#32
  let c0_1232 : Index := 0#32
  ![v2200.toNat, 1, v2201.toNat, 416, 0]
def k0_off342 (v506 : BitVec 32) : Fin 5 → Nat :=
  let c1_1233 : Index := 1#32
  let c26_1234 : Index := 26#32
  let c0_i32_558 : BitVec 32 := 0#32
  let v525 : BitVec 1 := Scalar.cmpi .sgt v506 c0_i32_558
  let v526 : BitVec 32 := Scalar.extui v525
  let c0_i32_559 : BitVec 32 := 0#32
  let v527 : BitVec 1 := Scalar.cmpi .slt v506 c0_i32_559
  let v528 : BitVec 32 := Scalar.extui v527
  let v529 : BitVec 32 := Scalar.subi v526 v528
  let c128_i32_557 : BitVec 32 := 128#32
  let c0_i32_560 : BitVec 32 := 0#32
  let v530 : BitVec 1 := Scalar.cmpi .sgt c128_i32_557 c0_i32_560
  let v531 : BitVec 32 := Scalar.extui v530
  let c0_i32_561 : BitVec 32 := 0#32
  let v532 : BitVec 1 := Scalar.cmpi .slt c128_i32_557 c0_i32_561
  let v533 : BitVec 32 := Scalar.extui v532
  let v534 : BitVec 32 := Scalar.subi v531 v533
  let v535 : BitVec 1 := Scalar.cmpi .ne v529 v534
  let v536 : BitVec 32 := Scalar.remsi v506 c128_i32_557
  let c0_i32_562 : BitVec 32 := 0#32
  let v537 : BitVec 1 := Scalar.cmpi .ne v536 c0_i32_562
  let v538 : BitVec 1 := Scalar.andi v535 v537
  let v524 : BitVec 32 := Scalar.divsi v506 c128_i32_557
  let c1_i32_563 : BitVec 32 := 1#32
  let v539 : BitVec 32 := Scalar.subi v524 c1_i32_563
  let v540 : BitVec 32 := Scalar.select v538 v539 v524
  let v2205 : Index := Scalar.indexCast v540
  let c0_1235 : Index := 0#32
  let c0_1236 : Index := 0#32
  ![1, 26, v2205.toNat, 0, 0]
def k0_mult135 (k0_t21 : Fin k0_t21_loop.trips) : BitVec 32 :=
  let c0_i32_547 : BitVec 32 := 0#32
  let c0_i32_478 : BitVec 32 := 0#32
  let c1_i32_480 : BitVec 32 := 1#32
  let arg17 : BitVec 32 := Scf.iv c0_i32_478 c1_i32_480 k0_t21
  let c1_i32_546 : BitVec 32 := 1#32
  let v500 : BitVec 32 := Scalar.muli arg17 c1_i32_546
  let v501 : BitVec 32 := Scalar.addi c0_i32_547 v500
  let c16_i32_1239 : BitVec 32 := 16#32
  let v2222 : BitVec 32 := Scalar.muli v501 c16_i32_1239
  v2222
def k0_off343 (k0_t20 : Fin k0_t20_loop.trips) (k0_t21 : Fin k0_t21_loop.trips) : Fin 5 → Nat :=
  let c0_i32_398 : BitVec 32 := 0#32
  let c0_i32_359 : BitVec 32 := 0#32
  let c1_i32_361 : BitVec 32 := 1#32
  let arg16 : BitVec 32 := Scf.iv c0_i32_359 c1_i32_361 k0_t20
  let c1_i32_397 : BitVec 32 := 1#32
  let v248 : BitVec 32 := Scalar.muli arg16 c1_i32_397
  let v249 : BitVec 32 := Scalar.addi c0_i32_398 v248
  let c4_i32_472 : BitVec 32 := 4#32
  let c0_i32_473 : BitVec 32 := 0#32
  let v381 : BitVec 1 := Scalar.cmpi .eq c4_i32_472 c0_i32_473
  let c1_i32_474 : BitVec 32 := 1#32
  let v382 : BitVec 32 := Scalar.select v381 c1_i32_474 c4_i32_472
  let v383 : BitVec 32 := Scalar.remsi v249 v382
  let c0_i32_476 : BitVec 32 := 0#32
  let v385 : BitVec 1 := Scalar.cmpi .slt v383 c0_i32_476
  let c0_i32_477 : BitVec 32 := 0#32
  let v386 : BitVec 1 := Scalar.cmpi .slt v382 c0_i32_477
  let v387 : BitVec 1 := Scalar.xori v385 v386
  let c0_i32_475 : BitVec 32 := 0#32
  let v384 : BitVec 1 := Scalar.cmpi .ne v383 c0_i32_475
  let v388 : BitVec 1 := Scalar.andi v387 v384
  let v389 : BitVec 32 := Scalar.addi v383 v382
  let v390 : BitVec 32 := Scalar.select v388 v389 v383
  let v2224 : Index := Scalar.indexCast v390
  let c1_1240 : Index := 1#32
  let c26_1241 : Index := 26#32
  let c0_i32_547 : BitVec 32 := 0#32
  let c0_i32_478 : BitVec 32 := 0#32
  let c1_i32_480 : BitVec 32 := 1#32
  let arg17 : BitVec 32 := Scf.iv c0_i32_478 c1_i32_480 k0_t21
  let c1_i32_546 : BitVec 32 := 1#32
  let v500 : BitVec 32 := Scalar.muli arg17 c1_i32_546
  let v501 : BitVec 32 := Scalar.addi c0_i32_547 v500
  let c16_i32_1239 : BitVec 32 := 16#32
  let v2222 : BitVec 32 := Scalar.muli v501 c16_i32_1239
  let v2223 : BitVec 32 := v2222
  let v2225 : Index := Scalar.indexCast v2223
  let c0_1242 : Index := 0#32
  ![v2224.toNat, 1, 26, v2225.toNat, 0]
def k0_off344 (v506 : BitVec 32) : Fin 5 → Nat :=
  let c1_1243 : Index := 1#32
  let c27_1244 : Index := 27#32
  let c0_i32_558 : BitVec 32 := 0#32
  let v525 : BitVec 1 := Scalar.cmpi .sgt v506 c0_i32_558
  let v526 : BitVec 32 := Scalar.extui v525
  let c0_i32_559 : BitVec 32 := 0#32
  let v527 : BitVec 1 := Scalar.cmpi .slt v506 c0_i32_559
  let v528 : BitVec 32 := Scalar.extui v527
  let v529 : BitVec 32 := Scalar.subi v526 v528
  let c128_i32_557 : BitVec 32 := 128#32
  let c0_i32_560 : BitVec 32 := 0#32
  let v530 : BitVec 1 := Scalar.cmpi .sgt c128_i32_557 c0_i32_560
  let v531 : BitVec 32 := Scalar.extui v530
  let c0_i32_561 : BitVec 32 := 0#32
  let v532 : BitVec 1 := Scalar.cmpi .slt c128_i32_557 c0_i32_561
  let v533 : BitVec 32 := Scalar.extui v532
  let v534 : BitVec 32 := Scalar.subi v531 v533
  let v535 : BitVec 1 := Scalar.cmpi .ne v529 v534
  let v536 : BitVec 32 := Scalar.remsi v506 c128_i32_557
  let c0_i32_562 : BitVec 32 := 0#32
  let v537 : BitVec 1 := Scalar.cmpi .ne v536 c0_i32_562
  let v538 : BitVec 1 := Scalar.andi v535 v537
  let v524 : BitVec 32 := Scalar.divsi v506 c128_i32_557
  let c1_i32_563 : BitVec 32 := 1#32
  let v539 : BitVec 32 := Scalar.subi v524 c1_i32_563
  let v540 : BitVec 32 := Scalar.select v538 v539 v524
  let v2229 : Index := Scalar.indexCast v540
  let c0_1245 : Index := 0#32
  let c0_1246 : Index := 0#32
  ![1, 27, v2229.toNat, 0, 0]
def k0_mult136 (k0_t21 : Fin k0_t21_loop.trips) : BitVec 32 :=
  let c0_i32_547 : BitVec 32 := 0#32
  let c0_i32_478 : BitVec 32 := 0#32
  let c1_i32_480 : BitVec 32 := 1#32
  let arg17 : BitVec 32 := Scf.iv c0_i32_478 c1_i32_480 k0_t21
  let c1_i32_546 : BitVec 32 := 1#32
  let v500 : BitVec 32 := Scalar.muli arg17 c1_i32_546
  let v501 : BitVec 32 := Scalar.addi c0_i32_547 v500
  let c16_i32_1249 : BitVec 32 := 16#32
  let v2246 : BitVec 32 := Scalar.muli v501 c16_i32_1249
  v2246
def k0_off345 (k0_t20 : Fin k0_t20_loop.trips) (k0_t21 : Fin k0_t21_loop.trips) : Fin 5 → Nat :=
  let c0_i32_398 : BitVec 32 := 0#32
  let c0_i32_359 : BitVec 32 := 0#32
  let c1_i32_361 : BitVec 32 := 1#32
  let arg16 : BitVec 32 := Scf.iv c0_i32_359 c1_i32_361 k0_t20
  let c1_i32_397 : BitVec 32 := 1#32
  let v248 : BitVec 32 := Scalar.muli arg16 c1_i32_397
  let v249 : BitVec 32 := Scalar.addi c0_i32_398 v248
  let c4_i32_472 : BitVec 32 := 4#32
  let c0_i32_473 : BitVec 32 := 0#32
  let v381 : BitVec 1 := Scalar.cmpi .eq c4_i32_472 c0_i32_473
  let c1_i32_474 : BitVec 32 := 1#32
  let v382 : BitVec 32 := Scalar.select v381 c1_i32_474 c4_i32_472
  let v383 : BitVec 32 := Scalar.remsi v249 v382
  let c0_i32_476 : BitVec 32 := 0#32
  let v385 : BitVec 1 := Scalar.cmpi .slt v383 c0_i32_476
  let c0_i32_477 : BitVec 32 := 0#32
  let v386 : BitVec 1 := Scalar.cmpi .slt v382 c0_i32_477
  let v387 : BitVec 1 := Scalar.xori v385 v386
  let c0_i32_475 : BitVec 32 := 0#32
  let v384 : BitVec 1 := Scalar.cmpi .ne v383 c0_i32_475
  let v388 : BitVec 1 := Scalar.andi v387 v384
  let v389 : BitVec 32 := Scalar.addi v383 v382
  let v390 : BitVec 32 := Scalar.select v388 v389 v383
  let v2248 : Index := Scalar.indexCast v390
  let c1_1250 : Index := 1#32
  let c27_1251 : Index := 27#32
  let c0_i32_547 : BitVec 32 := 0#32
  let c0_i32_478 : BitVec 32 := 0#32
  let c1_i32_480 : BitVec 32 := 1#32
  let arg17 : BitVec 32 := Scf.iv c0_i32_478 c1_i32_480 k0_t21
  let c1_i32_546 : BitVec 32 := 1#32
  let v500 : BitVec 32 := Scalar.muli arg17 c1_i32_546
  let v501 : BitVec 32 := Scalar.addi c0_i32_547 v500
  let c16_i32_1249 : BitVec 32 := 16#32
  let v2246 : BitVec 32 := Scalar.muli v501 c16_i32_1249
  let v2247 : BitVec 32 := v2246
  let v2249 : Index := Scalar.indexCast v2247
  let c0_1252 : Index := 0#32
  ![v2248.toNat, 1, 27, v2249.toNat, 0]
def k0_off346 (k0_t20 : Fin k0_t20_loop.trips) (k0_t21 : Fin k0_t21_loop.trips) : Fin 5 → Nat :=
  let c0_i32_398 : BitVec 32 := 0#32
  let c0_i32_359 : BitVec 32 := 0#32
  let c1_i32_361 : BitVec 32 := 1#32
  let arg16 : BitVec 32 := Scf.iv c0_i32_359 c1_i32_361 k0_t20
  let c1_i32_397 : BitVec 32 := 1#32
  let v248 : BitVec 32 := Scalar.muli arg16 c1_i32_397
  let v249 : BitVec 32 := Scalar.addi c0_i32_398 v248
  let c4_i32_466 : BitVec 32 := 4#32
  let c0_i32_467 : BitVec 32 := 0#32
  let v371 : BitVec 1 := Scalar.cmpi .eq c4_i32_466 c0_i32_467
  let c1_i32_468 : BitVec 32 := 1#32
  let v372 : BitVec 32 := Scalar.select v371 c1_i32_468 c4_i32_466
  let v373 : BitVec 32 := Scalar.remsi v249 v372
  let c0_i32_470 : BitVec 32 := 0#32
  let v375 : BitVec 1 := Scalar.cmpi .slt v373 c0_i32_470
  let c0_i32_471 : BitVec 32 := 0#32
  let v376 : BitVec 1 := Scalar.cmpi .slt v372 c0_i32_471
  let v377 : BitVec 1 := Scalar.xori v375 v376
  let c0_i32_469 : BitVec 32 := 0#32
  let v374 : BitVec 1 := Scalar.cmpi .ne v373 c0_i32_469
  let v378 : BitVec 1 := Scalar.andi v377 v374
  let v379 : BitVec 32 := Scalar.addi v373 v372
  let v380 : BitVec 32 := Scalar.select v378 v379 v373
  let v2253 : Index := Scalar.indexCast v380
  let c1_1253 : Index := 1#32
  let c0_i32_547 : BitVec 32 := 0#32
  let c0_i32_478 : BitVec 32 := 0#32
  let c1_i32_480 : BitVec 32 := 1#32
  let arg17 : BitVec 32 := Scf.iv c0_i32_478 c1_i32_480 k0_t21
  let c1_i32_546 : BitVec 32 := 1#32
  let v500 : BitVec 32 := Scalar.muli arg17 c1_i32_546
  let v501 : BitVec 32 := Scalar.addi c0_i32_547 v500
  let v2254 : Index := Scalar.indexCast v501
  let c448_1254 : Index := 448#32
  let c0_1255 : Index := 0#32
  ![v2253.toNat, 1, v2254.toNat, 448, 0]
def k0_off347 (v506 : BitVec 32) : Fin 5 → Nat :=
  let c1_1256 : Index := 1#32
  let c28_1257 : Index := 28#32
  let c0_i32_558 : BitVec 32 := 0#32
  let v525 : BitVec 1 := Scalar.cmpi .sgt v506 c0_i32_558
  let v526 : BitVec 32 := Scalar.extui v525
  let c0_i32_559 : BitVec 32 := 0#32
  let v527 : BitVec 1 := Scalar.cmpi .slt v506 c0_i32_559
  let v528 : BitVec 32 := Scalar.extui v527
  let v529 : BitVec 32 := Scalar.subi v526 v528
  let c128_i32_557 : BitVec 32 := 128#32
  let c0_i32_560 : BitVec 32 := 0#32
  let v530 : BitVec 1 := Scalar.cmpi .sgt c128_i32_557 c0_i32_560
  let v531 : BitVec 32 := Scalar.extui v530
  let c0_i32_561 : BitVec 32 := 0#32
  let v532 : BitVec 1 := Scalar.cmpi .slt c128_i32_557 c0_i32_561
  let v533 : BitVec 32 := Scalar.extui v532
  let v534 : BitVec 32 := Scalar.subi v531 v533
  let v535 : BitVec 1 := Scalar.cmpi .ne v529 v534
  let v536 : BitVec 32 := Scalar.remsi v506 c128_i32_557
  let c0_i32_562 : BitVec 32 := 0#32
  let v537 : BitVec 1 := Scalar.cmpi .ne v536 c0_i32_562
  let v538 : BitVec 1 := Scalar.andi v535 v537
  let v524 : BitVec 32 := Scalar.divsi v506 c128_i32_557
  let c1_i32_563 : BitVec 32 := 1#32
  let v539 : BitVec 32 := Scalar.subi v524 c1_i32_563
  let v540 : BitVec 32 := Scalar.select v538 v539 v524
  let v2258 : Index := Scalar.indexCast v540
  let c0_1258 : Index := 0#32
  let c0_1259 : Index := 0#32
  ![1, 28, v2258.toNat, 0, 0]
def k0_mult137 (k0_t21 : Fin k0_t21_loop.trips) : BitVec 32 :=
  let c0_i32_547 : BitVec 32 := 0#32
  let c0_i32_478 : BitVec 32 := 0#32
  let c1_i32_480 : BitVec 32 := 1#32
  let arg17 : BitVec 32 := Scf.iv c0_i32_478 c1_i32_480 k0_t21
  let c1_i32_546 : BitVec 32 := 1#32
  let v500 : BitVec 32 := Scalar.muli arg17 c1_i32_546
  let v501 : BitVec 32 := Scalar.addi c0_i32_547 v500
  let c16_i32_1262 : BitVec 32 := 16#32
  let v2275 : BitVec 32 := Scalar.muli v501 c16_i32_1262
  v2275
def k0_off348 (k0_t20 : Fin k0_t20_loop.trips) (k0_t21 : Fin k0_t21_loop.trips) : Fin 5 → Nat :=
  let c0_i32_398 : BitVec 32 := 0#32
  let c0_i32_359 : BitVec 32 := 0#32
  let c1_i32_361 : BitVec 32 := 1#32
  let arg16 : BitVec 32 := Scf.iv c0_i32_359 c1_i32_361 k0_t20
  let c1_i32_397 : BitVec 32 := 1#32
  let v248 : BitVec 32 := Scalar.muli arg16 c1_i32_397
  let v249 : BitVec 32 := Scalar.addi c0_i32_398 v248
  let c4_i32_472 : BitVec 32 := 4#32
  let c0_i32_473 : BitVec 32 := 0#32
  let v381 : BitVec 1 := Scalar.cmpi .eq c4_i32_472 c0_i32_473
  let c1_i32_474 : BitVec 32 := 1#32
  let v382 : BitVec 32 := Scalar.select v381 c1_i32_474 c4_i32_472
  let v383 : BitVec 32 := Scalar.remsi v249 v382
  let c0_i32_476 : BitVec 32 := 0#32
  let v385 : BitVec 1 := Scalar.cmpi .slt v383 c0_i32_476
  let c0_i32_477 : BitVec 32 := 0#32
  let v386 : BitVec 1 := Scalar.cmpi .slt v382 c0_i32_477
  let v387 : BitVec 1 := Scalar.xori v385 v386
  let c0_i32_475 : BitVec 32 := 0#32
  let v384 : BitVec 1 := Scalar.cmpi .ne v383 c0_i32_475
  let v388 : BitVec 1 := Scalar.andi v387 v384
  let v389 : BitVec 32 := Scalar.addi v383 v382
  let v390 : BitVec 32 := Scalar.select v388 v389 v383
  let v2277 : Index := Scalar.indexCast v390
  let c1_1263 : Index := 1#32
  let c28_1264 : Index := 28#32
  let c0_i32_547 : BitVec 32 := 0#32
  let c0_i32_478 : BitVec 32 := 0#32
  let c1_i32_480 : BitVec 32 := 1#32
  let arg17 : BitVec 32 := Scf.iv c0_i32_478 c1_i32_480 k0_t21
  let c1_i32_546 : BitVec 32 := 1#32
  let v500 : BitVec 32 := Scalar.muli arg17 c1_i32_546
  let v501 : BitVec 32 := Scalar.addi c0_i32_547 v500
  let c16_i32_1262 : BitVec 32 := 16#32
  let v2275 : BitVec 32 := Scalar.muli v501 c16_i32_1262
  let v2276 : BitVec 32 := v2275
  let v2278 : Index := Scalar.indexCast v2276
  let c0_1265 : Index := 0#32
  ![v2277.toNat, 1, 28, v2278.toNat, 0]
def k0_off349 (v506 : BitVec 32) : Fin 5 → Nat :=
  let c1_1266 : Index := 1#32
  let c29_1267 : Index := 29#32
  let c0_i32_558 : BitVec 32 := 0#32
  let v525 : BitVec 1 := Scalar.cmpi .sgt v506 c0_i32_558
  let v526 : BitVec 32 := Scalar.extui v525
  let c0_i32_559 : BitVec 32 := 0#32
  let v527 : BitVec 1 := Scalar.cmpi .slt v506 c0_i32_559
  let v528 : BitVec 32 := Scalar.extui v527
  let v529 : BitVec 32 := Scalar.subi v526 v528
  let c128_i32_557 : BitVec 32 := 128#32
  let c0_i32_560 : BitVec 32 := 0#32
  let v530 : BitVec 1 := Scalar.cmpi .sgt c128_i32_557 c0_i32_560
  let v531 : BitVec 32 := Scalar.extui v530
  let c0_i32_561 : BitVec 32 := 0#32
  let v532 : BitVec 1 := Scalar.cmpi .slt c128_i32_557 c0_i32_561
  let v533 : BitVec 32 := Scalar.extui v532
  let v534 : BitVec 32 := Scalar.subi v531 v533
  let v535 : BitVec 1 := Scalar.cmpi .ne v529 v534
  let v536 : BitVec 32 := Scalar.remsi v506 c128_i32_557
  let c0_i32_562 : BitVec 32 := 0#32
  let v537 : BitVec 1 := Scalar.cmpi .ne v536 c0_i32_562
  let v538 : BitVec 1 := Scalar.andi v535 v537
  let v524 : BitVec 32 := Scalar.divsi v506 c128_i32_557
  let c1_i32_563 : BitVec 32 := 1#32
  let v539 : BitVec 32 := Scalar.subi v524 c1_i32_563
  let v540 : BitVec 32 := Scalar.select v538 v539 v524
  let v2282 : Index := Scalar.indexCast v540
  let c0_1268 : Index := 0#32
  let c0_1269 : Index := 0#32
  ![1, 29, v2282.toNat, 0, 0]
def k0_mult138 (k0_t21 : Fin k0_t21_loop.trips) : BitVec 32 :=
  let c0_i32_547 : BitVec 32 := 0#32
  let c0_i32_478 : BitVec 32 := 0#32
  let c1_i32_480 : BitVec 32 := 1#32
  let arg17 : BitVec 32 := Scf.iv c0_i32_478 c1_i32_480 k0_t21
  let c1_i32_546 : BitVec 32 := 1#32
  let v500 : BitVec 32 := Scalar.muli arg17 c1_i32_546
  let v501 : BitVec 32 := Scalar.addi c0_i32_547 v500
  let c16_i32_1272 : BitVec 32 := 16#32
  let v2299 : BitVec 32 := Scalar.muli v501 c16_i32_1272
  v2299
def k0_off350 (k0_t20 : Fin k0_t20_loop.trips) (k0_t21 : Fin k0_t21_loop.trips) : Fin 5 → Nat :=
  let c0_i32_398 : BitVec 32 := 0#32
  let c0_i32_359 : BitVec 32 := 0#32
  let c1_i32_361 : BitVec 32 := 1#32
  let arg16 : BitVec 32 := Scf.iv c0_i32_359 c1_i32_361 k0_t20
  let c1_i32_397 : BitVec 32 := 1#32
  let v248 : BitVec 32 := Scalar.muli arg16 c1_i32_397
  let v249 : BitVec 32 := Scalar.addi c0_i32_398 v248
  let c4_i32_472 : BitVec 32 := 4#32
  let c0_i32_473 : BitVec 32 := 0#32
  let v381 : BitVec 1 := Scalar.cmpi .eq c4_i32_472 c0_i32_473
  let c1_i32_474 : BitVec 32 := 1#32
  let v382 : BitVec 32 := Scalar.select v381 c1_i32_474 c4_i32_472
  let v383 : BitVec 32 := Scalar.remsi v249 v382
  let c0_i32_476 : BitVec 32 := 0#32
  let v385 : BitVec 1 := Scalar.cmpi .slt v383 c0_i32_476
  let c0_i32_477 : BitVec 32 := 0#32
  let v386 : BitVec 1 := Scalar.cmpi .slt v382 c0_i32_477
  let v387 : BitVec 1 := Scalar.xori v385 v386
  let c0_i32_475 : BitVec 32 := 0#32
  let v384 : BitVec 1 := Scalar.cmpi .ne v383 c0_i32_475
  let v388 : BitVec 1 := Scalar.andi v387 v384
  let v389 : BitVec 32 := Scalar.addi v383 v382
  let v390 : BitVec 32 := Scalar.select v388 v389 v383
  let v2301 : Index := Scalar.indexCast v390
  let c1_1273 : Index := 1#32
  let c29_1274 : Index := 29#32
  let c0_i32_547 : BitVec 32 := 0#32
  let c0_i32_478 : BitVec 32 := 0#32
  let c1_i32_480 : BitVec 32 := 1#32
  let arg17 : BitVec 32 := Scf.iv c0_i32_478 c1_i32_480 k0_t21
  let c1_i32_546 : BitVec 32 := 1#32
  let v500 : BitVec 32 := Scalar.muli arg17 c1_i32_546
  let v501 : BitVec 32 := Scalar.addi c0_i32_547 v500
  let c16_i32_1272 : BitVec 32 := 16#32
  let v2299 : BitVec 32 := Scalar.muli v501 c16_i32_1272
  let v2300 : BitVec 32 := v2299
  let v2302 : Index := Scalar.indexCast v2300
  let c0_1275 : Index := 0#32
  ![v2301.toNat, 1, 29, v2302.toNat, 0]
def k0_off351 (k0_t20 : Fin k0_t20_loop.trips) (k0_t21 : Fin k0_t21_loop.trips) : Fin 5 → Nat :=
  let c0_i32_398 : BitVec 32 := 0#32
  let c0_i32_359 : BitVec 32 := 0#32
  let c1_i32_361 : BitVec 32 := 1#32
  let arg16 : BitVec 32 := Scf.iv c0_i32_359 c1_i32_361 k0_t20
  let c1_i32_397 : BitVec 32 := 1#32
  let v248 : BitVec 32 := Scalar.muli arg16 c1_i32_397
  let v249 : BitVec 32 := Scalar.addi c0_i32_398 v248
  let c4_i32_466 : BitVec 32 := 4#32
  let c0_i32_467 : BitVec 32 := 0#32
  let v371 : BitVec 1 := Scalar.cmpi .eq c4_i32_466 c0_i32_467
  let c1_i32_468 : BitVec 32 := 1#32
  let v372 : BitVec 32 := Scalar.select v371 c1_i32_468 c4_i32_466
  let v373 : BitVec 32 := Scalar.remsi v249 v372
  let c0_i32_470 : BitVec 32 := 0#32
  let v375 : BitVec 1 := Scalar.cmpi .slt v373 c0_i32_470
  let c0_i32_471 : BitVec 32 := 0#32
  let v376 : BitVec 1 := Scalar.cmpi .slt v372 c0_i32_471
  let v377 : BitVec 1 := Scalar.xori v375 v376
  let c0_i32_469 : BitVec 32 := 0#32
  let v374 : BitVec 1 := Scalar.cmpi .ne v373 c0_i32_469
  let v378 : BitVec 1 := Scalar.andi v377 v374
  let v379 : BitVec 32 := Scalar.addi v373 v372
  let v380 : BitVec 32 := Scalar.select v378 v379 v373
  let v2306 : Index := Scalar.indexCast v380
  let c1_1276 : Index := 1#32
  let c0_i32_547 : BitVec 32 := 0#32
  let c0_i32_478 : BitVec 32 := 0#32
  let c1_i32_480 : BitVec 32 := 1#32
  let arg17 : BitVec 32 := Scf.iv c0_i32_478 c1_i32_480 k0_t21
  let c1_i32_546 : BitVec 32 := 1#32
  let v500 : BitVec 32 := Scalar.muli arg17 c1_i32_546
  let v501 : BitVec 32 := Scalar.addi c0_i32_547 v500
  let v2307 : Index := Scalar.indexCast v501
  let c480_1277 : Index := 480#32
  let c0_1278 : Index := 0#32
  ![v2306.toNat, 1, v2307.toNat, 480, 0]
def k0_off352 (v506 : BitVec 32) : Fin 5 → Nat :=
  let c1_1279 : Index := 1#32
  let c30_1280 : Index := 30#32
  let c0_i32_558 : BitVec 32 := 0#32
  let v525 : BitVec 1 := Scalar.cmpi .sgt v506 c0_i32_558
  let v526 : BitVec 32 := Scalar.extui v525
  let c0_i32_559 : BitVec 32 := 0#32
  let v527 : BitVec 1 := Scalar.cmpi .slt v506 c0_i32_559
  let v528 : BitVec 32 := Scalar.extui v527
  let v529 : BitVec 32 := Scalar.subi v526 v528
  let c128_i32_557 : BitVec 32 := 128#32
  let c0_i32_560 : BitVec 32 := 0#32
  let v530 : BitVec 1 := Scalar.cmpi .sgt c128_i32_557 c0_i32_560
  let v531 : BitVec 32 := Scalar.extui v530
  let c0_i32_561 : BitVec 32 := 0#32
  let v532 : BitVec 1 := Scalar.cmpi .slt c128_i32_557 c0_i32_561
  let v533 : BitVec 32 := Scalar.extui v532
  let v534 : BitVec 32 := Scalar.subi v531 v533
  let v535 : BitVec 1 := Scalar.cmpi .ne v529 v534
  let v536 : BitVec 32 := Scalar.remsi v506 c128_i32_557
  let c0_i32_562 : BitVec 32 := 0#32
  let v537 : BitVec 1 := Scalar.cmpi .ne v536 c0_i32_562
  let v538 : BitVec 1 := Scalar.andi v535 v537
  let v524 : BitVec 32 := Scalar.divsi v506 c128_i32_557
  let c1_i32_563 : BitVec 32 := 1#32
  let v539 : BitVec 32 := Scalar.subi v524 c1_i32_563
  let v540 : BitVec 32 := Scalar.select v538 v539 v524
  let v2311 : Index := Scalar.indexCast v540
  let c0_1281 : Index := 0#32
  let c0_1282 : Index := 0#32
  ![1, 30, v2311.toNat, 0, 0]
def k0_mult139 (k0_t21 : Fin k0_t21_loop.trips) : BitVec 32 :=
  let c0_i32_547 : BitVec 32 := 0#32
  let c0_i32_478 : BitVec 32 := 0#32
  let c1_i32_480 : BitVec 32 := 1#32
  let arg17 : BitVec 32 := Scf.iv c0_i32_478 c1_i32_480 k0_t21
  let c1_i32_546 : BitVec 32 := 1#32
  let v500 : BitVec 32 := Scalar.muli arg17 c1_i32_546
  let v501 : BitVec 32 := Scalar.addi c0_i32_547 v500
  let c16_i32_1285 : BitVec 32 := 16#32
  let v2328 : BitVec 32 := Scalar.muli v501 c16_i32_1285
  v2328
def k0_off353 (k0_t20 : Fin k0_t20_loop.trips) (k0_t21 : Fin k0_t21_loop.trips) : Fin 5 → Nat :=
  let c0_i32_398 : BitVec 32 := 0#32
  let c0_i32_359 : BitVec 32 := 0#32
  let c1_i32_361 : BitVec 32 := 1#32
  let arg16 : BitVec 32 := Scf.iv c0_i32_359 c1_i32_361 k0_t20
  let c1_i32_397 : BitVec 32 := 1#32
  let v248 : BitVec 32 := Scalar.muli arg16 c1_i32_397
  let v249 : BitVec 32 := Scalar.addi c0_i32_398 v248
  let c4_i32_472 : BitVec 32 := 4#32
  let c0_i32_473 : BitVec 32 := 0#32
  let v381 : BitVec 1 := Scalar.cmpi .eq c4_i32_472 c0_i32_473
  let c1_i32_474 : BitVec 32 := 1#32
  let v382 : BitVec 32 := Scalar.select v381 c1_i32_474 c4_i32_472
  let v383 : BitVec 32 := Scalar.remsi v249 v382
  let c0_i32_476 : BitVec 32 := 0#32
  let v385 : BitVec 1 := Scalar.cmpi .slt v383 c0_i32_476
  let c0_i32_477 : BitVec 32 := 0#32
  let v386 : BitVec 1 := Scalar.cmpi .slt v382 c0_i32_477
  let v387 : BitVec 1 := Scalar.xori v385 v386
  let c0_i32_475 : BitVec 32 := 0#32
  let v384 : BitVec 1 := Scalar.cmpi .ne v383 c0_i32_475
  let v388 : BitVec 1 := Scalar.andi v387 v384
  let v389 : BitVec 32 := Scalar.addi v383 v382
  let v390 : BitVec 32 := Scalar.select v388 v389 v383
  let v2330 : Index := Scalar.indexCast v390
  let c1_1286 : Index := 1#32
  let c30_1287 : Index := 30#32
  let c0_i32_547 : BitVec 32 := 0#32
  let c0_i32_478 : BitVec 32 := 0#32
  let c1_i32_480 : BitVec 32 := 1#32
  let arg17 : BitVec 32 := Scf.iv c0_i32_478 c1_i32_480 k0_t21
  let c1_i32_546 : BitVec 32 := 1#32
  let v500 : BitVec 32 := Scalar.muli arg17 c1_i32_546
  let v501 : BitVec 32 := Scalar.addi c0_i32_547 v500
  let c16_i32_1285 : BitVec 32 := 16#32
  let v2328 : BitVec 32 := Scalar.muli v501 c16_i32_1285
  let v2329 : BitVec 32 := v2328
  let v2331 : Index := Scalar.indexCast v2329
  let c0_1288 : Index := 0#32
  ![v2330.toNat, 1, 30, v2331.toNat, 0]
def k0_off354 (v506 : BitVec 32) : Fin 5 → Nat :=
  let c1_1289 : Index := 1#32
  let c31_1290 : Index := 31#32
  let c0_i32_558 : BitVec 32 := 0#32
  let v525 : BitVec 1 := Scalar.cmpi .sgt v506 c0_i32_558
  let v526 : BitVec 32 := Scalar.extui v525
  let c0_i32_559 : BitVec 32 := 0#32
  let v527 : BitVec 1 := Scalar.cmpi .slt v506 c0_i32_559
  let v528 : BitVec 32 := Scalar.extui v527
  let v529 : BitVec 32 := Scalar.subi v526 v528
  let c128_i32_557 : BitVec 32 := 128#32
  let c0_i32_560 : BitVec 32 := 0#32
  let v530 : BitVec 1 := Scalar.cmpi .sgt c128_i32_557 c0_i32_560
  let v531 : BitVec 32 := Scalar.extui v530
  let c0_i32_561 : BitVec 32 := 0#32
  let v532 : BitVec 1 := Scalar.cmpi .slt c128_i32_557 c0_i32_561
  let v533 : BitVec 32 := Scalar.extui v532
  let v534 : BitVec 32 := Scalar.subi v531 v533
  let v535 : BitVec 1 := Scalar.cmpi .ne v529 v534
  let v536 : BitVec 32 := Scalar.remsi v506 c128_i32_557
  let c0_i32_562 : BitVec 32 := 0#32
  let v537 : BitVec 1 := Scalar.cmpi .ne v536 c0_i32_562
  let v538 : BitVec 1 := Scalar.andi v535 v537
  let v524 : BitVec 32 := Scalar.divsi v506 c128_i32_557
  let c1_i32_563 : BitVec 32 := 1#32
  let v539 : BitVec 32 := Scalar.subi v524 c1_i32_563
  let v540 : BitVec 32 := Scalar.select v538 v539 v524
  let v2335 : Index := Scalar.indexCast v540
  let c0_1291 : Index := 0#32
  let c0_1292 : Index := 0#32
  ![1, 31, v2335.toNat, 0, 0]
def k0_mult140 (k0_t21 : Fin k0_t21_loop.trips) : BitVec 32 :=
  let c0_i32_547 : BitVec 32 := 0#32
  let c0_i32_478 : BitVec 32 := 0#32
  let c1_i32_480 : BitVec 32 := 1#32
  let arg17 : BitVec 32 := Scf.iv c0_i32_478 c1_i32_480 k0_t21
  let c1_i32_546 : BitVec 32 := 1#32
  let v500 : BitVec 32 := Scalar.muli arg17 c1_i32_546
  let v501 : BitVec 32 := Scalar.addi c0_i32_547 v500
  let c16_i32_1295 : BitVec 32 := 16#32
  let v2352 : BitVec 32 := Scalar.muli v501 c16_i32_1295
  v2352
def k0_off355 (k0_t20 : Fin k0_t20_loop.trips) (k0_t21 : Fin k0_t21_loop.trips) : Fin 5 → Nat :=
  let c0_i32_398 : BitVec 32 := 0#32
  let c0_i32_359 : BitVec 32 := 0#32
  let c1_i32_361 : BitVec 32 := 1#32
  let arg16 : BitVec 32 := Scf.iv c0_i32_359 c1_i32_361 k0_t20
  let c1_i32_397 : BitVec 32 := 1#32
  let v248 : BitVec 32 := Scalar.muli arg16 c1_i32_397
  let v249 : BitVec 32 := Scalar.addi c0_i32_398 v248
  let c4_i32_472 : BitVec 32 := 4#32
  let c0_i32_473 : BitVec 32 := 0#32
  let v381 : BitVec 1 := Scalar.cmpi .eq c4_i32_472 c0_i32_473
  let c1_i32_474 : BitVec 32 := 1#32
  let v382 : BitVec 32 := Scalar.select v381 c1_i32_474 c4_i32_472
  let v383 : BitVec 32 := Scalar.remsi v249 v382
  let c0_i32_476 : BitVec 32 := 0#32
  let v385 : BitVec 1 := Scalar.cmpi .slt v383 c0_i32_476
  let c0_i32_477 : BitVec 32 := 0#32
  let v386 : BitVec 1 := Scalar.cmpi .slt v382 c0_i32_477
  let v387 : BitVec 1 := Scalar.xori v385 v386
  let c0_i32_475 : BitVec 32 := 0#32
  let v384 : BitVec 1 := Scalar.cmpi .ne v383 c0_i32_475
  let v388 : BitVec 1 := Scalar.andi v387 v384
  let v389 : BitVec 32 := Scalar.addi v383 v382
  let v390 : BitVec 32 := Scalar.select v388 v389 v383
  let v2354 : Index := Scalar.indexCast v390
  let c1_1296 : Index := 1#32
  let c31_1297 : Index := 31#32
  let c0_i32_547 : BitVec 32 := 0#32
  let c0_i32_478 : BitVec 32 := 0#32
  let c1_i32_480 : BitVec 32 := 1#32
  let arg17 : BitVec 32 := Scf.iv c0_i32_478 c1_i32_480 k0_t21
  let c1_i32_546 : BitVec 32 := 1#32
  let v500 : BitVec 32 := Scalar.muli arg17 c1_i32_546
  let v501 : BitVec 32 := Scalar.addi c0_i32_547 v500
  let c16_i32_1295 : BitVec 32 := 16#32
  let v2352 : BitVec 32 := Scalar.muli v501 c16_i32_1295
  let v2353 : BitVec 32 := v2352
  let v2355 : Index := Scalar.indexCast v2353
  let c0_1298 : Index := 0#32
  ![v2354.toNat, 1, 31, v2355.toNat, 0]
def k0_off356 (k0_t20 : Fin k0_t20_loop.trips) (k0_t21 : Fin k0_t21_loop.trips) : Fin 5 → Nat :=
  let c0_i32_398 : BitVec 32 := 0#32
  let c0_i32_359 : BitVec 32 := 0#32
  let c1_i32_361 : BitVec 32 := 1#32
  let arg16 : BitVec 32 := Scf.iv c0_i32_359 c1_i32_361 k0_t20
  let c1_i32_397 : BitVec 32 := 1#32
  let v248 : BitVec 32 := Scalar.muli arg16 c1_i32_397
  let v249 : BitVec 32 := Scalar.addi c0_i32_398 v248
  let c4_i32_466 : BitVec 32 := 4#32
  let c0_i32_467 : BitVec 32 := 0#32
  let v371 : BitVec 1 := Scalar.cmpi .eq c4_i32_466 c0_i32_467
  let c1_i32_468 : BitVec 32 := 1#32
  let v372 : BitVec 32 := Scalar.select v371 c1_i32_468 c4_i32_466
  let v373 : BitVec 32 := Scalar.remsi v249 v372
  let c0_i32_470 : BitVec 32 := 0#32
  let v375 : BitVec 1 := Scalar.cmpi .slt v373 c0_i32_470
  let c0_i32_471 : BitVec 32 := 0#32
  let v376 : BitVec 1 := Scalar.cmpi .slt v372 c0_i32_471
  let v377 : BitVec 1 := Scalar.xori v375 v376
  let c0_i32_469 : BitVec 32 := 0#32
  let v374 : BitVec 1 := Scalar.cmpi .ne v373 c0_i32_469
  let v378 : BitVec 1 := Scalar.andi v377 v374
  let v379 : BitVec 32 := Scalar.addi v373 v372
  let v380 : BitVec 32 := Scalar.select v378 v379 v373
  let v2359 : Index := Scalar.indexCast v380
  let c1_1299 : Index := 1#32
  let c0_i32_547 : BitVec 32 := 0#32
  let c0_i32_478 : BitVec 32 := 0#32
  let c1_i32_480 : BitVec 32 := 1#32
  let arg17 : BitVec 32 := Scf.iv c0_i32_478 c1_i32_480 k0_t21
  let c1_i32_546 : BitVec 32 := 1#32
  let v500 : BitVec 32 := Scalar.muli arg17 c1_i32_546
  let v501 : BitVec 32 := Scalar.addi c0_i32_547 v500
  let v2360 : Index := Scalar.indexCast v501
  let c512_1300 : Index := 512#32
  let c0_1301 : Index := 0#32
  ![v2359.toNat, 1, v2360.toNat, 512, 0]
def k0_off357 (v506 : BitVec 32) : Fin 5 → Nat :=
  let c1_1302 : Index := 1#32
  let c32_1303 : Index := 32#32
  let c0_i32_558 : BitVec 32 := 0#32
  let v525 : BitVec 1 := Scalar.cmpi .sgt v506 c0_i32_558
  let v526 : BitVec 32 := Scalar.extui v525
  let c0_i32_559 : BitVec 32 := 0#32
  let v527 : BitVec 1 := Scalar.cmpi .slt v506 c0_i32_559
  let v528 : BitVec 32 := Scalar.extui v527
  let v529 : BitVec 32 := Scalar.subi v526 v528
  let c128_i32_557 : BitVec 32 := 128#32
  let c0_i32_560 : BitVec 32 := 0#32
  let v530 : BitVec 1 := Scalar.cmpi .sgt c128_i32_557 c0_i32_560
  let v531 : BitVec 32 := Scalar.extui v530
  let c0_i32_561 : BitVec 32 := 0#32
  let v532 : BitVec 1 := Scalar.cmpi .slt c128_i32_557 c0_i32_561
  let v533 : BitVec 32 := Scalar.extui v532
  let v534 : BitVec 32 := Scalar.subi v531 v533
  let v535 : BitVec 1 := Scalar.cmpi .ne v529 v534
  let v536 : BitVec 32 := Scalar.remsi v506 c128_i32_557
  let c0_i32_562 : BitVec 32 := 0#32
  let v537 : BitVec 1 := Scalar.cmpi .ne v536 c0_i32_562
  let v538 : BitVec 1 := Scalar.andi v535 v537
  let v524 : BitVec 32 := Scalar.divsi v506 c128_i32_557
  let c1_i32_563 : BitVec 32 := 1#32
  let v539 : BitVec 32 := Scalar.subi v524 c1_i32_563
  let v540 : BitVec 32 := Scalar.select v538 v539 v524
  let v2364 : Index := Scalar.indexCast v540
  let c0_1304 : Index := 0#32
  let c0_1305 : Index := 0#32
  ![1, 32, v2364.toNat, 0, 0]
def k0_mult141 (k0_t21 : Fin k0_t21_loop.trips) : BitVec 32 :=
  let c0_i32_547 : BitVec 32 := 0#32
  let c0_i32_478 : BitVec 32 := 0#32
  let c1_i32_480 : BitVec 32 := 1#32
  let arg17 : BitVec 32 := Scf.iv c0_i32_478 c1_i32_480 k0_t21
  let c1_i32_546 : BitVec 32 := 1#32
  let v500 : BitVec 32 := Scalar.muli arg17 c1_i32_546
  let v501 : BitVec 32 := Scalar.addi c0_i32_547 v500
  let c16_i32_1308 : BitVec 32 := 16#32
  let v2381 : BitVec 32 := Scalar.muli v501 c16_i32_1308
  v2381
def k0_off358 (k0_t20 : Fin k0_t20_loop.trips) (k0_t21 : Fin k0_t21_loop.trips) : Fin 5 → Nat :=
  let c0_i32_398 : BitVec 32 := 0#32
  let c0_i32_359 : BitVec 32 := 0#32
  let c1_i32_361 : BitVec 32 := 1#32
  let arg16 : BitVec 32 := Scf.iv c0_i32_359 c1_i32_361 k0_t20
  let c1_i32_397 : BitVec 32 := 1#32
  let v248 : BitVec 32 := Scalar.muli arg16 c1_i32_397
  let v249 : BitVec 32 := Scalar.addi c0_i32_398 v248
  let c4_i32_472 : BitVec 32 := 4#32
  let c0_i32_473 : BitVec 32 := 0#32
  let v381 : BitVec 1 := Scalar.cmpi .eq c4_i32_472 c0_i32_473
  let c1_i32_474 : BitVec 32 := 1#32
  let v382 : BitVec 32 := Scalar.select v381 c1_i32_474 c4_i32_472
  let v383 : BitVec 32 := Scalar.remsi v249 v382
  let c0_i32_476 : BitVec 32 := 0#32
  let v385 : BitVec 1 := Scalar.cmpi .slt v383 c0_i32_476
  let c0_i32_477 : BitVec 32 := 0#32
  let v386 : BitVec 1 := Scalar.cmpi .slt v382 c0_i32_477
  let v387 : BitVec 1 := Scalar.xori v385 v386
  let c0_i32_475 : BitVec 32 := 0#32
  let v384 : BitVec 1 := Scalar.cmpi .ne v383 c0_i32_475
  let v388 : BitVec 1 := Scalar.andi v387 v384
  let v389 : BitVec 32 := Scalar.addi v383 v382
  let v390 : BitVec 32 := Scalar.select v388 v389 v383
  let v2383 : Index := Scalar.indexCast v390
  let c1_1309 : Index := 1#32
  let c32_1310 : Index := 32#32
  let c0_i32_547 : BitVec 32 := 0#32
  let c0_i32_478 : BitVec 32 := 0#32
  let c1_i32_480 : BitVec 32 := 1#32
  let arg17 : BitVec 32 := Scf.iv c0_i32_478 c1_i32_480 k0_t21
  let c1_i32_546 : BitVec 32 := 1#32
  let v500 : BitVec 32 := Scalar.muli arg17 c1_i32_546
  let v501 : BitVec 32 := Scalar.addi c0_i32_547 v500
  let c16_i32_1308 : BitVec 32 := 16#32
  let v2381 : BitVec 32 := Scalar.muli v501 c16_i32_1308
  let v2382 : BitVec 32 := v2381
  let v2384 : Index := Scalar.indexCast v2382
  let c0_1311 : Index := 0#32
  ![v2383.toNat, 1, 32, v2384.toNat, 0]
def k0_off359 (v506 : BitVec 32) : Fin 5 → Nat :=
  let c1_1312 : Index := 1#32
  let c33_1313 : Index := 33#32
  let c0_i32_558 : BitVec 32 := 0#32
  let v525 : BitVec 1 := Scalar.cmpi .sgt v506 c0_i32_558
  let v526 : BitVec 32 := Scalar.extui v525
  let c0_i32_559 : BitVec 32 := 0#32
  let v527 : BitVec 1 := Scalar.cmpi .slt v506 c0_i32_559
  let v528 : BitVec 32 := Scalar.extui v527
  let v529 : BitVec 32 := Scalar.subi v526 v528
  let c128_i32_557 : BitVec 32 := 128#32
  let c0_i32_560 : BitVec 32 := 0#32
  let v530 : BitVec 1 := Scalar.cmpi .sgt c128_i32_557 c0_i32_560
  let v531 : BitVec 32 := Scalar.extui v530
  let c0_i32_561 : BitVec 32 := 0#32
  let v532 : BitVec 1 := Scalar.cmpi .slt c128_i32_557 c0_i32_561
  let v533 : BitVec 32 := Scalar.extui v532
  let v534 : BitVec 32 := Scalar.subi v531 v533
  let v535 : BitVec 1 := Scalar.cmpi .ne v529 v534
  let v536 : BitVec 32 := Scalar.remsi v506 c128_i32_557
  let c0_i32_562 : BitVec 32 := 0#32
  let v537 : BitVec 1 := Scalar.cmpi .ne v536 c0_i32_562
  let v538 : BitVec 1 := Scalar.andi v535 v537
  let v524 : BitVec 32 := Scalar.divsi v506 c128_i32_557
  let c1_i32_563 : BitVec 32 := 1#32
  let v539 : BitVec 32 := Scalar.subi v524 c1_i32_563
  let v540 : BitVec 32 := Scalar.select v538 v539 v524
  let v2388 : Index := Scalar.indexCast v540
  let c0_1314 : Index := 0#32
  let c0_1315 : Index := 0#32
  ![1, 33, v2388.toNat, 0, 0]
def k0_mult142 (k0_t21 : Fin k0_t21_loop.trips) : BitVec 32 :=
  let c0_i32_547 : BitVec 32 := 0#32
  let c0_i32_478 : BitVec 32 := 0#32
  let c1_i32_480 : BitVec 32 := 1#32
  let arg17 : BitVec 32 := Scf.iv c0_i32_478 c1_i32_480 k0_t21
  let c1_i32_546 : BitVec 32 := 1#32
  let v500 : BitVec 32 := Scalar.muli arg17 c1_i32_546
  let v501 : BitVec 32 := Scalar.addi c0_i32_547 v500
  let c16_i32_1318 : BitVec 32 := 16#32
  let v2405 : BitVec 32 := Scalar.muli v501 c16_i32_1318
  v2405
def k0_off360 (k0_t20 : Fin k0_t20_loop.trips) (k0_t21 : Fin k0_t21_loop.trips) : Fin 5 → Nat :=
  let c0_i32_398 : BitVec 32 := 0#32
  let c0_i32_359 : BitVec 32 := 0#32
  let c1_i32_361 : BitVec 32 := 1#32
  let arg16 : BitVec 32 := Scf.iv c0_i32_359 c1_i32_361 k0_t20
  let c1_i32_397 : BitVec 32 := 1#32
  let v248 : BitVec 32 := Scalar.muli arg16 c1_i32_397
  let v249 : BitVec 32 := Scalar.addi c0_i32_398 v248
  let c4_i32_472 : BitVec 32 := 4#32
  let c0_i32_473 : BitVec 32 := 0#32
  let v381 : BitVec 1 := Scalar.cmpi .eq c4_i32_472 c0_i32_473
  let c1_i32_474 : BitVec 32 := 1#32
  let v382 : BitVec 32 := Scalar.select v381 c1_i32_474 c4_i32_472
  let v383 : BitVec 32 := Scalar.remsi v249 v382
  let c0_i32_476 : BitVec 32 := 0#32
  let v385 : BitVec 1 := Scalar.cmpi .slt v383 c0_i32_476
  let c0_i32_477 : BitVec 32 := 0#32
  let v386 : BitVec 1 := Scalar.cmpi .slt v382 c0_i32_477
  let v387 : BitVec 1 := Scalar.xori v385 v386
  let c0_i32_475 : BitVec 32 := 0#32
  let v384 : BitVec 1 := Scalar.cmpi .ne v383 c0_i32_475
  let v388 : BitVec 1 := Scalar.andi v387 v384
  let v389 : BitVec 32 := Scalar.addi v383 v382
  let v390 : BitVec 32 := Scalar.select v388 v389 v383
  let v2407 : Index := Scalar.indexCast v390
  let c1_1319 : Index := 1#32
  let c33_1320 : Index := 33#32
  let c0_i32_547 : BitVec 32 := 0#32
  let c0_i32_478 : BitVec 32 := 0#32
  let c1_i32_480 : BitVec 32 := 1#32
  let arg17 : BitVec 32 := Scf.iv c0_i32_478 c1_i32_480 k0_t21
  let c1_i32_546 : BitVec 32 := 1#32
  let v500 : BitVec 32 := Scalar.muli arg17 c1_i32_546
  let v501 : BitVec 32 := Scalar.addi c0_i32_547 v500
  let c16_i32_1318 : BitVec 32 := 16#32
  let v2405 : BitVec 32 := Scalar.muli v501 c16_i32_1318
  let v2406 : BitVec 32 := v2405
  let v2408 : Index := Scalar.indexCast v2406
  let c0_1321 : Index := 0#32
  ![v2407.toNat, 1, 33, v2408.toNat, 0]
def k0_off361 (k0_t20 : Fin k0_t20_loop.trips) (k0_t21 : Fin k0_t21_loop.trips) : Fin 5 → Nat :=
  let c0_i32_398 : BitVec 32 := 0#32
  let c0_i32_359 : BitVec 32 := 0#32
  let c1_i32_361 : BitVec 32 := 1#32
  let arg16 : BitVec 32 := Scf.iv c0_i32_359 c1_i32_361 k0_t20
  let c1_i32_397 : BitVec 32 := 1#32
  let v248 : BitVec 32 := Scalar.muli arg16 c1_i32_397
  let v249 : BitVec 32 := Scalar.addi c0_i32_398 v248
  let c4_i32_466 : BitVec 32 := 4#32
  let c0_i32_467 : BitVec 32 := 0#32
  let v371 : BitVec 1 := Scalar.cmpi .eq c4_i32_466 c0_i32_467
  let c1_i32_468 : BitVec 32 := 1#32
  let v372 : BitVec 32 := Scalar.select v371 c1_i32_468 c4_i32_466
  let v373 : BitVec 32 := Scalar.remsi v249 v372
  let c0_i32_470 : BitVec 32 := 0#32
  let v375 : BitVec 1 := Scalar.cmpi .slt v373 c0_i32_470
  let c0_i32_471 : BitVec 32 := 0#32
  let v376 : BitVec 1 := Scalar.cmpi .slt v372 c0_i32_471
  let v377 : BitVec 1 := Scalar.xori v375 v376
  let c0_i32_469 : BitVec 32 := 0#32
  let v374 : BitVec 1 := Scalar.cmpi .ne v373 c0_i32_469
  let v378 : BitVec 1 := Scalar.andi v377 v374
  let v379 : BitVec 32 := Scalar.addi v373 v372
  let v380 : BitVec 32 := Scalar.select v378 v379 v373
  let v2412 : Index := Scalar.indexCast v380
  let c1_1322 : Index := 1#32
  let c0_i32_547 : BitVec 32 := 0#32
  let c0_i32_478 : BitVec 32 := 0#32
  let c1_i32_480 : BitVec 32 := 1#32
  let arg17 : BitVec 32 := Scf.iv c0_i32_478 c1_i32_480 k0_t21
  let c1_i32_546 : BitVec 32 := 1#32
  let v500 : BitVec 32 := Scalar.muli arg17 c1_i32_546
  let v501 : BitVec 32 := Scalar.addi c0_i32_547 v500
  let v2413 : Index := Scalar.indexCast v501
  let c544_1323 : Index := 544#32
  let c0_1324 : Index := 0#32
  ![v2412.toNat, 1, v2413.toNat, 544, 0]
def k0_off362 (v506 : BitVec 32) : Fin 5 → Nat :=
  let c1_1325 : Index := 1#32
  let c34_1326 : Index := 34#32
  let c0_i32_558 : BitVec 32 := 0#32
  let v525 : BitVec 1 := Scalar.cmpi .sgt v506 c0_i32_558
  let v526 : BitVec 32 := Scalar.extui v525
  let c0_i32_559 : BitVec 32 := 0#32
  let v527 : BitVec 1 := Scalar.cmpi .slt v506 c0_i32_559
  let v528 : BitVec 32 := Scalar.extui v527
  let v529 : BitVec 32 := Scalar.subi v526 v528
  let c128_i32_557 : BitVec 32 := 128#32
  let c0_i32_560 : BitVec 32 := 0#32
  let v530 : BitVec 1 := Scalar.cmpi .sgt c128_i32_557 c0_i32_560
  let v531 : BitVec 32 := Scalar.extui v530
  let c0_i32_561 : BitVec 32 := 0#32
  let v532 : BitVec 1 := Scalar.cmpi .slt c128_i32_557 c0_i32_561
  let v533 : BitVec 32 := Scalar.extui v532
  let v534 : BitVec 32 := Scalar.subi v531 v533
  let v535 : BitVec 1 := Scalar.cmpi .ne v529 v534
  let v536 : BitVec 32 := Scalar.remsi v506 c128_i32_557
  let c0_i32_562 : BitVec 32 := 0#32
  let v537 : BitVec 1 := Scalar.cmpi .ne v536 c0_i32_562
  let v538 : BitVec 1 := Scalar.andi v535 v537
  let v524 : BitVec 32 := Scalar.divsi v506 c128_i32_557
  let c1_i32_563 : BitVec 32 := 1#32
  let v539 : BitVec 32 := Scalar.subi v524 c1_i32_563
  let v540 : BitVec 32 := Scalar.select v538 v539 v524
  let v2417 : Index := Scalar.indexCast v540
  let c0_1327 : Index := 0#32
  let c0_1328 : Index := 0#32
  ![1, 34, v2417.toNat, 0, 0]
def k0_mult143 (k0_t21 : Fin k0_t21_loop.trips) : BitVec 32 :=
  let c0_i32_547 : BitVec 32 := 0#32
  let c0_i32_478 : BitVec 32 := 0#32
  let c1_i32_480 : BitVec 32 := 1#32
  let arg17 : BitVec 32 := Scf.iv c0_i32_478 c1_i32_480 k0_t21
  let c1_i32_546 : BitVec 32 := 1#32
  let v500 : BitVec 32 := Scalar.muli arg17 c1_i32_546
  let v501 : BitVec 32 := Scalar.addi c0_i32_547 v500
  let c16_i32_1331 : BitVec 32 := 16#32
  let v2434 : BitVec 32 := Scalar.muli v501 c16_i32_1331
  v2434
def k0_off363 (k0_t20 : Fin k0_t20_loop.trips) (k0_t21 : Fin k0_t21_loop.trips) : Fin 5 → Nat :=
  let c0_i32_398 : BitVec 32 := 0#32
  let c0_i32_359 : BitVec 32 := 0#32
  let c1_i32_361 : BitVec 32 := 1#32
  let arg16 : BitVec 32 := Scf.iv c0_i32_359 c1_i32_361 k0_t20
  let c1_i32_397 : BitVec 32 := 1#32
  let v248 : BitVec 32 := Scalar.muli arg16 c1_i32_397
  let v249 : BitVec 32 := Scalar.addi c0_i32_398 v248
  let c4_i32_472 : BitVec 32 := 4#32
  let c0_i32_473 : BitVec 32 := 0#32
  let v381 : BitVec 1 := Scalar.cmpi .eq c4_i32_472 c0_i32_473
  let c1_i32_474 : BitVec 32 := 1#32
  let v382 : BitVec 32 := Scalar.select v381 c1_i32_474 c4_i32_472
  let v383 : BitVec 32 := Scalar.remsi v249 v382
  let c0_i32_476 : BitVec 32 := 0#32
  let v385 : BitVec 1 := Scalar.cmpi .slt v383 c0_i32_476
  let c0_i32_477 : BitVec 32 := 0#32
  let v386 : BitVec 1 := Scalar.cmpi .slt v382 c0_i32_477
  let v387 : BitVec 1 := Scalar.xori v385 v386
  let c0_i32_475 : BitVec 32 := 0#32
  let v384 : BitVec 1 := Scalar.cmpi .ne v383 c0_i32_475
  let v388 : BitVec 1 := Scalar.andi v387 v384
  let v389 : BitVec 32 := Scalar.addi v383 v382
  let v390 : BitVec 32 := Scalar.select v388 v389 v383
  let v2436 : Index := Scalar.indexCast v390
  let c1_1332 : Index := 1#32
  let c34_1333 : Index := 34#32
  let c0_i32_547 : BitVec 32 := 0#32
  let c0_i32_478 : BitVec 32 := 0#32
  let c1_i32_480 : BitVec 32 := 1#32
  let arg17 : BitVec 32 := Scf.iv c0_i32_478 c1_i32_480 k0_t21
  let c1_i32_546 : BitVec 32 := 1#32
  let v500 : BitVec 32 := Scalar.muli arg17 c1_i32_546
  let v501 : BitVec 32 := Scalar.addi c0_i32_547 v500
  let c16_i32_1331 : BitVec 32 := 16#32
  let v2434 : BitVec 32 := Scalar.muli v501 c16_i32_1331
  let v2435 : BitVec 32 := v2434
  let v2437 : Index := Scalar.indexCast v2435
  let c0_1334 : Index := 0#32
  ![v2436.toNat, 1, 34, v2437.toNat, 0]
def k0_off364 (v506 : BitVec 32) : Fin 5 → Nat :=
  let c1_1335 : Index := 1#32
  let c35_1336 : Index := 35#32
  let c0_i32_558 : BitVec 32 := 0#32
  let v525 : BitVec 1 := Scalar.cmpi .sgt v506 c0_i32_558
  let v526 : BitVec 32 := Scalar.extui v525
  let c0_i32_559 : BitVec 32 := 0#32
  let v527 : BitVec 1 := Scalar.cmpi .slt v506 c0_i32_559
  let v528 : BitVec 32 := Scalar.extui v527
  let v529 : BitVec 32 := Scalar.subi v526 v528
  let c128_i32_557 : BitVec 32 := 128#32
  let c0_i32_560 : BitVec 32 := 0#32
  let v530 : BitVec 1 := Scalar.cmpi .sgt c128_i32_557 c0_i32_560
  let v531 : BitVec 32 := Scalar.extui v530
  let c0_i32_561 : BitVec 32 := 0#32
  let v532 : BitVec 1 := Scalar.cmpi .slt c128_i32_557 c0_i32_561
  let v533 : BitVec 32 := Scalar.extui v532
  let v534 : BitVec 32 := Scalar.subi v531 v533
  let v535 : BitVec 1 := Scalar.cmpi .ne v529 v534
  let v536 : BitVec 32 := Scalar.remsi v506 c128_i32_557
  let c0_i32_562 : BitVec 32 := 0#32
  let v537 : BitVec 1 := Scalar.cmpi .ne v536 c0_i32_562
  let v538 : BitVec 1 := Scalar.andi v535 v537
  let v524 : BitVec 32 := Scalar.divsi v506 c128_i32_557
  let c1_i32_563 : BitVec 32 := 1#32
  let v539 : BitVec 32 := Scalar.subi v524 c1_i32_563
  let v540 : BitVec 32 := Scalar.select v538 v539 v524
  let v2441 : Index := Scalar.indexCast v540
  let c0_1337 : Index := 0#32
  let c0_1338 : Index := 0#32
  ![1, 35, v2441.toNat, 0, 0]

def k0_chk33_0 (k0_t20 : Fin k0_t20_loop.trips) (v281 : BitVec 32) (v506 : BitVec 32) : Prop :=
  (∀ (k0_h6 : k0_cond6 k0_t20 v281 = 1#1), ∀ a, (k0_off187 v506) a + S1x1x1x8x128.size a ≤ S2x36x30x8x128.size a) ∧
  (∀ (k0_h6 : k0_cond6 k0_t20 v281 = 1#1), ∀ a, (k0_off189 v506) a + S1x1x1x8x128.size a ≤ S2x36x30x8x128.size a) ∧
  (∀ (k0_h6 : k0_cond6 k0_t20 v281 = 1#1), ∀ a, (k0_off192 v506) a + S1x1x1x8x128.size a ≤ S2x36x30x8x128.size a) ∧
  (∀ (k0_h6 : k0_cond6 k0_t20 v281 = 1#1), ∀ a, (k0_off194 v506) a + S1x1x1x8x128.size a ≤ S2x36x30x8x128.size a) ∧
  (∀ (k0_h6 : k0_cond6 k0_t20 v281 = 1#1), ∀ a, (k0_off197 v506) a + S1x1x1x8x128.size a ≤ S2x36x30x8x128.size a) ∧
  (∀ (k0_h6 : k0_cond6 k0_t20 v281 = 1#1), ∀ a, (k0_off199 v506) a + S1x1x1x8x128.size a ≤ S2x36x30x8x128.size a) ∧
  (∀ (k0_h6 : k0_cond6 k0_t20 v281 = 1#1), ∀ a, (k0_off202 v506) a + S1x1x1x8x128.size a ≤ S2x36x30x8x128.size a) ∧
  (∀ (k0_h6 : k0_cond6 k0_t20 v281 = 1#1), ∀ a, (k0_off204 v506) a + S1x1x1x8x128.size a ≤ S2x36x30x8x128.size a) ∧
  (∀ (k0_h6 : k0_cond6 k0_t20 v281 = 1#1), ∀ a, (k0_off207 v506) a + S1x1x1x8x128.size a ≤ S2x36x30x8x128.size a) ∧
  (∀ (k0_h6 : k0_cond6 k0_t20 v281 = 1#1), ∀ a, (k0_off209 v506) a + S1x1x1x8x128.size a ≤ S2x36x30x8x128.size a) ∧
  (∀ (k0_h6 : k0_cond6 k0_t20 v281 = 1#1), ∀ a, (k0_off212 v506) a + S1x1x1x8x128.size a ≤ S2x36x30x8x128.size a) ∧
  (∀ (k0_h6 : k0_cond6 k0_t20 v281 = 1#1), ∀ a, (k0_off214 v506) a + S1x1x1x8x128.size a ≤ S2x36x30x8x128.size a) ∧
  (∀ (k0_h6 : k0_cond6 k0_t20 v281 = 1#1), ∀ a, (k0_off217 v506) a + S1x1x1x8x128.size a ≤ S2x36x30x8x128.size a) ∧
  (∀ (k0_h6 : k0_cond6 k0_t20 v281 = 1#1), ∀ a, (k0_off219 v506) a + S1x1x1x8x128.size a ≤ S2x36x30x8x128.size a) ∧
  (∀ (k0_h6 : k0_cond6 k0_t20 v281 = 1#1), ∀ a, (k0_off222 v506) a + S1x1x1x8x128.size a ≤ S2x36x30x8x128.size a) ∧
  (∀ (k0_h6 : k0_cond6 k0_t20 v281 = 1#1), ∀ a, (k0_off224 v506) a + S1x1x1x8x128.size a ≤ S2x36x30x8x128.size a) ∧
  (∀ (k0_h6 : k0_cond6 k0_t20 v281 = 1#1), ∀ a, (k0_off227 v506) a + S1x1x1x8x128.size a ≤ S2x36x30x8x128.size a) ∧
  (∀ (k0_h6 : k0_cond6 k0_t20 v281 = 1#1), ∀ a, (k0_off229 v506) a + S1x1x1x8x128.size a ≤ S2x36x30x8x128.size a) ∧
  (∀ (k0_h6 : k0_cond6 k0_t20 v281 = 1#1), ∀ a, (k0_off232 v506) a + S1x1x1x8x128.size a ≤ S2x36x30x8x128.size a) ∧
  (∀ (k0_h6 : k0_cond6 k0_t20 v281 = 1#1), ∀ a, (k0_off234 v506) a + S1x1x1x8x128.size a ≤ S2x36x30x8x128.size a) ∧
  (∀ (k0_h6 : k0_cond6 k0_t20 v281 = 1#1), ∀ a, (k0_off237 v506) a + S1x1x1x8x128.size a ≤ S2x36x30x8x128.size a) ∧
  (∀ (k0_h6 : k0_cond6 k0_t20 v281 = 1#1), ∀ a, (k0_off239 v506) a + S1x1x1x8x128.size a ≤ S2x36x30x8x128.size a) ∧
  (∀ (k0_h6 : k0_cond6 k0_t20 v281 = 1#1), ∀ a, (k0_off242 v506) a + S1x1x1x8x128.size a ≤ S2x36x30x8x128.size a) ∧
  (∀ (k0_h6 : k0_cond6 k0_t20 v281 = 1#1), ∀ a, (k0_off244 v506) a + S1x1x1x8x128.size a ≤ S2x36x30x8x128.size a) ∧
  (∀ (k0_h6 : k0_cond6 k0_t20 v281 = 1#1), ∀ a, (k0_off247 v506) a + S1x1x1x8x128.size a ≤ S2x36x30x8x128.size a) ∧
  (∀ (k0_h6 : k0_cond6 k0_t20 v281 = 1#1), ∀ a, (k0_off249 v506) a + S1x1x1x8x128.size a ≤ S2x36x30x8x128.size a) ∧
  (∀ (k0_h6 : k0_cond6 k0_t20 v281 = 1#1), ∀ a, (k0_off252 v506) a + S1x1x1x8x128.size a ≤ S2x36x30x8x128.size a) ∧
  (∀ (k0_h6 : k0_cond6 k0_t20 v281 = 1#1), ∀ a, (k0_off254 v506) a + S1x1x1x8x128.size a ≤ S2x36x30x8x128.size a) ∧
  (∀ (k0_h6 : k0_cond6 k0_t20 v281 = 1#1), ∀ a, (k0_off257 v506) a + S1x1x1x8x128.size a ≤ S2x36x30x8x128.size a) ∧
  (∀ (k0_h6 : k0_cond6 k0_t20 v281 = 1#1), ∀ a, (k0_off259 v506) a + S1x1x1x8x128.size a ≤ S2x36x30x8x128.size a) ∧
  (∀ (k0_h6 : k0_cond6 k0_t20 v281 = 1#1), ∀ a, (k0_off262 v506) a + S1x1x1x8x128.size a ≤ S2x36x30x8x128.size a) ∧
  (∀ (k0_h6 : k0_cond6 k0_t20 v281 = 1#1), ∀ a, (k0_off264 v506) a + S1x1x1x8x128.size a ≤ S2x36x30x8x128.size a)
def k0_chk33_1 (k0_t20 : Fin k0_t20_loop.trips) (v281 : BitVec 32) (v506 : BitVec 32) : Prop :=
  (∀ (k0_h6 : k0_cond6 k0_t20 v281 = 1#1), ∀ a, (k0_off267 v506) a + S1x1x1x8x128.size a ≤ S2x36x30x8x128.size a) ∧
  (∀ (k0_h6 : k0_cond6 k0_t20 v281 = 1#1), ∀ a, (k0_off269 v506) a + S1x1x1x8x128.size a ≤ S2x36x30x8x128.size a) ∧
  (∀ (k0_h6 : k0_cond6 k0_t20 v281 = 1#1), ∀ a, (k0_off272 v506) a + S1x1x1x8x128.size a ≤ S2x36x30x8x128.size a) ∧
  (∀ (k0_h6 : k0_cond6 k0_t20 v281 = 1#1), ∀ a, (k0_off274 v506) a + S1x1x1x8x128.size a ≤ S2x36x30x8x128.size a) ∧
  (∀ (k0_h6 : k0_cond6 k0_t20 v281 = 1#1), ∀ a, (k0_off277 v506) a + S1x1x1x8x128.size a ≤ S2x36x30x8x128.size a) ∧
  (∀ (k0_h6 : k0_cond6 k0_t20 v281 = 1#1), ∀ a, (k0_off279 v506) a + S1x1x1x8x128.size a ≤ S2x36x30x8x128.size a) ∧
  (∀ (k0_h6 : k0_cond6 k0_t20 v281 = 1#1), ∀ a, (k0_off282 v506) a + S1x1x1x8x128.size a ≤ S2x36x30x8x128.size a) ∧
  (∀ (k0_h6 : k0_cond6 k0_t20 v281 = 1#1), ∀ a, (k0_off284 v506) a + S1x1x1x8x128.size a ≤ S2x36x30x8x128.size a) ∧
  (∀ (k0_h6 : k0_cond6 k0_t20 v281 = 1#1), ∀ a, (k0_off287 v506) a + S1x1x1x8x128.size a ≤ S2x36x30x8x128.size a) ∧
  (∀ (k0_h6 : k0_cond6 k0_t20 v281 = 1#1), ∀ a, (k0_off289 v506) a + S1x1x1x8x128.size a ≤ S2x36x30x8x128.size a) ∧
  (∀ (k0_h6 : k0_cond6 k0_t20 v281 = 1#1), ∀ a, (k0_off292 v506) a + S1x1x1x8x128.size a ≤ S2x36x30x8x128.size a) ∧
  (∀ (k0_h6 : k0_cond6 k0_t20 v281 = 1#1), ∀ a, (k0_off294 v506) a + S1x1x1x8x128.size a ≤ S2x36x30x8x128.size a) ∧
  (∀ (k0_h6 : k0_cond6 k0_t20 v281 = 1#1), ∀ a, (k0_off297 v506) a + S1x1x1x8x128.size a ≤ S2x36x30x8x128.size a) ∧
  (∀ (k0_h6 : k0_cond6 k0_t20 v281 = 1#1), ∀ a, (k0_off299 v506) a + S1x1x1x8x128.size a ≤ S2x36x30x8x128.size a) ∧
  (∀ (k0_h6 : k0_cond6 k0_t20 v281 = 1#1), ∀ a, (k0_off302 v506) a + S1x1x1x8x128.size a ≤ S2x36x30x8x128.size a) ∧
  (∀ (k0_h6 : k0_cond6 k0_t20 v281 = 1#1), ∀ a, (k0_off304 v506) a + S1x1x1x8x128.size a ≤ S2x36x30x8x128.size a) ∧
  (∀ (k0_h6 : k0_cond6 k0_t20 v281 = 1#1), ∀ a, (k0_off307 v506) a + S1x1x1x8x128.size a ≤ S2x36x30x8x128.size a) ∧
  (∀ (k0_h6 : k0_cond6 k0_t20 v281 = 1#1), ∀ a, (k0_off309 v506) a + S1x1x1x8x128.size a ≤ S2x36x30x8x128.size a) ∧
  (∀ (k0_h6 : k0_cond6 k0_t20 v281 = 1#1), ∀ a, (k0_off312 v506) a + S1x1x1x8x128.size a ≤ S2x36x30x8x128.size a) ∧
  (∀ (k0_h6 : k0_cond6 k0_t20 v281 = 1#1), ∀ a, (k0_off314 v506) a + S1x1x1x8x128.size a ≤ S2x36x30x8x128.size a) ∧
  (∀ (k0_h6 : k0_cond6 k0_t20 v281 = 1#1), ∀ a, (k0_off317 v506) a + S1x1x1x8x128.size a ≤ S2x36x30x8x128.size a) ∧
  (∀ (k0_h6 : k0_cond6 k0_t20 v281 = 1#1), ∀ a, (k0_off319 v506) a + S1x1x1x8x128.size a ≤ S2x36x30x8x128.size a) ∧
  (∀ (k0_h6 : k0_cond6 k0_t20 v281 = 1#1), ∀ a, (k0_off322 v506) a + S1x1x1x8x128.size a ≤ S2x36x30x8x128.size a) ∧
  (∀ (k0_h6 : k0_cond6 k0_t20 v281 = 1#1), ∀ a, (k0_off324 v506) a + S1x1x1x8x128.size a ≤ S2x36x30x8x128.size a) ∧
  (∀ (k0_h6 : k0_cond6 k0_t20 v281 = 1#1), ∀ a, (k0_off327 v506) a + S1x1x1x8x128.size a ≤ S2x36x30x8x128.size a) ∧
  (∀ (k0_h6 : k0_cond6 k0_t20 v281 = 1#1), ∀ a, (k0_off329 v506) a + S1x1x1x8x128.size a ≤ S2x36x30x8x128.size a) ∧
  (∀ (k0_h6 : k0_cond6 k0_t20 v281 = 1#1), ∀ a, (k0_off332 v506) a + S1x1x1x8x128.size a ≤ S2x36x30x8x128.size a) ∧
  (∀ (k0_h6 : k0_cond6 k0_t20 v281 = 1#1), ∀ a, (k0_off334 v506) a + S1x1x1x8x128.size a ≤ S2x36x30x8x128.size a) ∧
  (∀ (k0_h6 : k0_cond6 k0_t20 v281 = 1#1), ∀ a, (k0_off337 v506) a + S1x1x1x8x128.size a ≤ S2x36x30x8x128.size a) ∧
  (∀ (k0_h6 : k0_cond6 k0_t20 v281 = 1#1), ∀ a, (k0_off339 v506) a + S1x1x1x8x128.size a ≤ S2x36x30x8x128.size a) ∧
  (∀ (k0_h6 : k0_cond6 k0_t20 v281 = 1#1), ∀ a, (k0_off342 v506) a + S1x1x1x8x128.size a ≤ S2x36x30x8x128.size a) ∧
  (∀ (k0_h6 : k0_cond6 k0_t20 v281 = 1#1), ∀ a, (k0_off344 v506) a + S1x1x1x8x128.size a ≤ S2x36x30x8x128.size a)
def k0_chk33_2 (k0_t20 : Fin k0_t20_loop.trips) (v281 : BitVec 32) (v506 : BitVec 32) : Prop :=
  (∀ (k0_h6 : k0_cond6 k0_t20 v281 = 1#1), ∀ a, (k0_off347 v506) a + S1x1x1x8x128.size a ≤ S2x36x30x8x128.size a) ∧
  (∀ (k0_h6 : k0_cond6 k0_t20 v281 = 1#1), ∀ a, (k0_off349 v506) a + S1x1x1x8x128.size a ≤ S2x36x30x8x128.size a) ∧
  (∀ (k0_h6 : k0_cond6 k0_t20 v281 = 1#1), ∀ a, (k0_off352 v506) a + S1x1x1x8x128.size a ≤ S2x36x30x8x128.size a) ∧
  (∀ (k0_h6 : k0_cond6 k0_t20 v281 = 1#1), ∀ a, (k0_off354 v506) a + S1x1x1x8x128.size a ≤ S2x36x30x8x128.size a) ∧
  (∀ (k0_h6 : k0_cond6 k0_t20 v281 = 1#1), ∀ a, (k0_off357 v506) a + S1x1x1x8x128.size a ≤ S2x36x30x8x128.size a) ∧
  (∀ (k0_h6 : k0_cond6 k0_t20 v281 = 1#1), ∀ a, (k0_off359 v506) a + S1x1x1x8x128.size a ≤ S2x36x30x8x128.size a) ∧
  (∀ (k0_h6 : k0_cond6 k0_t20 v281 = 1#1), ∀ a, (k0_off362 v506) a + S1x1x1x8x128.size a ≤ S2x36x30x8x128.size a) ∧
  (∀ (k0_h6 : k0_cond6 k0_t20 v281 = 1#1), ∀ a, (k0_off364 v506) a + S1x1x1x8x128.size a ≤ S2x36x30x8x128.size a)
def k0_chk33 (k0_t20 : Fin k0_t20_loop.trips) (v281 : BitVec 32) (v506 : BitVec 32) : Prop :=
  k0_chk33_0 k0_t20 v281 v506 ∧
  k0_chk33_1 k0_t20 v281 v506 ∧
  k0_chk33_2 k0_t20 v281 v506
theorem k0_off187_inb : ∀ (k0_t20 : Fin k0_t20_loop.trips) (v281 : BitVec 32) (v506 : BitVec 32) (k0_hw33 : k0_chk33 k0_t20 v281 v506), ∀ (k0_h6 : k0_cond6 k0_t20 v281 = 1#1), ∀ a, (k0_off187 v506) a + S1x1x1x8x128.size a ≤ S2x36x30x8x128.size a := fun k0_t20 v281 v506 k0_hw33 k0_h6 => k0_hw33.1.1 k0_h6
theorem k0_off189_inb : ∀ (k0_t20 : Fin k0_t20_loop.trips) (v281 : BitVec 32) (v506 : BitVec 32) (k0_hw33 : k0_chk33 k0_t20 v281 v506), ∀ (k0_h6 : k0_cond6 k0_t20 v281 = 1#1), ∀ a, (k0_off189 v506) a + S1x1x1x8x128.size a ≤ S2x36x30x8x128.size a := fun k0_t20 v281 v506 k0_hw33 k0_h6 => k0_hw33.1.2.1 k0_h6
theorem k0_off192_inb : ∀ (k0_t20 : Fin k0_t20_loop.trips) (v281 : BitVec 32) (v506 : BitVec 32) (k0_hw33 : k0_chk33 k0_t20 v281 v506), ∀ (k0_h6 : k0_cond6 k0_t20 v281 = 1#1), ∀ a, (k0_off192 v506) a + S1x1x1x8x128.size a ≤ S2x36x30x8x128.size a := fun k0_t20 v281 v506 k0_hw33 k0_h6 => k0_hw33.1.2.2.1 k0_h6
theorem k0_off194_inb : ∀ (k0_t20 : Fin k0_t20_loop.trips) (v281 : BitVec 32) (v506 : BitVec 32) (k0_hw33 : k0_chk33 k0_t20 v281 v506), ∀ (k0_h6 : k0_cond6 k0_t20 v281 = 1#1), ∀ a, (k0_off194 v506) a + S1x1x1x8x128.size a ≤ S2x36x30x8x128.size a := fun k0_t20 v281 v506 k0_hw33 k0_h6 => k0_hw33.1.2.2.2.1 k0_h6
theorem k0_off197_inb : ∀ (k0_t20 : Fin k0_t20_loop.trips) (v281 : BitVec 32) (v506 : BitVec 32) (k0_hw33 : k0_chk33 k0_t20 v281 v506), ∀ (k0_h6 : k0_cond6 k0_t20 v281 = 1#1), ∀ a, (k0_off197 v506) a + S1x1x1x8x128.size a ≤ S2x36x30x8x128.size a := fun k0_t20 v281 v506 k0_hw33 k0_h6 => k0_hw33.1.2.2.2.2.1 k0_h6
theorem k0_off199_inb : ∀ (k0_t20 : Fin k0_t20_loop.trips) (v281 : BitVec 32) (v506 : BitVec 32) (k0_hw33 : k0_chk33 k0_t20 v281 v506), ∀ (k0_h6 : k0_cond6 k0_t20 v281 = 1#1), ∀ a, (k0_off199 v506) a + S1x1x1x8x128.size a ≤ S2x36x30x8x128.size a := fun k0_t20 v281 v506 k0_hw33 k0_h6 => k0_hw33.1.2.2.2.2.2.1 k0_h6
theorem k0_off202_inb : ∀ (k0_t20 : Fin k0_t20_loop.trips) (v281 : BitVec 32) (v506 : BitVec 32) (k0_hw33 : k0_chk33 k0_t20 v281 v506), ∀ (k0_h6 : k0_cond6 k0_t20 v281 = 1#1), ∀ a, (k0_off202 v506) a + S1x1x1x8x128.size a ≤ S2x36x30x8x128.size a := fun k0_t20 v281 v506 k0_hw33 k0_h6 => k0_hw33.1.2.2.2.2.2.2.1 k0_h6
theorem k0_off204_inb : ∀ (k0_t20 : Fin k0_t20_loop.trips) (v281 : BitVec 32) (v506 : BitVec 32) (k0_hw33 : k0_chk33 k0_t20 v281 v506), ∀ (k0_h6 : k0_cond6 k0_t20 v281 = 1#1), ∀ a, (k0_off204 v506) a + S1x1x1x8x128.size a ≤ S2x36x30x8x128.size a := fun k0_t20 v281 v506 k0_hw33 k0_h6 => k0_hw33.1.2.2.2.2.2.2.2.1 k0_h6
theorem k0_off207_inb : ∀ (k0_t20 : Fin k0_t20_loop.trips) (v281 : BitVec 32) (v506 : BitVec 32) (k0_hw33 : k0_chk33 k0_t20 v281 v506), ∀ (k0_h6 : k0_cond6 k0_t20 v281 = 1#1), ∀ a, (k0_off207 v506) a + S1x1x1x8x128.size a ≤ S2x36x30x8x128.size a := fun k0_t20 v281 v506 k0_hw33 k0_h6 => k0_hw33.1.2.2.2.2.2.2.2.2.1 k0_h6
theorem k0_off209_inb : ∀ (k0_t20 : Fin k0_t20_loop.trips) (v281 : BitVec 32) (v506 : BitVec 32) (k0_hw33 : k0_chk33 k0_t20 v281 v506), ∀ (k0_h6 : k0_cond6 k0_t20 v281 = 1#1), ∀ a, (k0_off209 v506) a + S1x1x1x8x128.size a ≤ S2x36x30x8x128.size a := fun k0_t20 v281 v506 k0_hw33 k0_h6 => k0_hw33.1.2.2.2.2.2.2.2.2.2.1 k0_h6
theorem k0_off212_inb : ∀ (k0_t20 : Fin k0_t20_loop.trips) (v281 : BitVec 32) (v506 : BitVec 32) (k0_hw33 : k0_chk33 k0_t20 v281 v506), ∀ (k0_h6 : k0_cond6 k0_t20 v281 = 1#1), ∀ a, (k0_off212 v506) a + S1x1x1x8x128.size a ≤ S2x36x30x8x128.size a := fun k0_t20 v281 v506 k0_hw33 k0_h6 => k0_hw33.1.2.2.2.2.2.2.2.2.2.2.1 k0_h6
theorem k0_off214_inb : ∀ (k0_t20 : Fin k0_t20_loop.trips) (v281 : BitVec 32) (v506 : BitVec 32) (k0_hw33 : k0_chk33 k0_t20 v281 v506), ∀ (k0_h6 : k0_cond6 k0_t20 v281 = 1#1), ∀ a, (k0_off214 v506) a + S1x1x1x8x128.size a ≤ S2x36x30x8x128.size a := fun k0_t20 v281 v506 k0_hw33 k0_h6 => k0_hw33.1.2.2.2.2.2.2.2.2.2.2.2.1 k0_h6
theorem k0_off217_inb : ∀ (k0_t20 : Fin k0_t20_loop.trips) (v281 : BitVec 32) (v506 : BitVec 32) (k0_hw33 : k0_chk33 k0_t20 v281 v506), ∀ (k0_h6 : k0_cond6 k0_t20 v281 = 1#1), ∀ a, (k0_off217 v506) a + S1x1x1x8x128.size a ≤ S2x36x30x8x128.size a := fun k0_t20 v281 v506 k0_hw33 k0_h6 => k0_hw33.1.2.2.2.2.2.2.2.2.2.2.2.2.1 k0_h6
theorem k0_off219_inb : ∀ (k0_t20 : Fin k0_t20_loop.trips) (v281 : BitVec 32) (v506 : BitVec 32) (k0_hw33 : k0_chk33 k0_t20 v281 v506), ∀ (k0_h6 : k0_cond6 k0_t20 v281 = 1#1), ∀ a, (k0_off219 v506) a + S1x1x1x8x128.size a ≤ S2x36x30x8x128.size a := fun k0_t20 v281 v506 k0_hw33 k0_h6 => k0_hw33.1.2.2.2.2.2.2.2.2.2.2.2.2.2.1 k0_h6
theorem k0_off222_inb : ∀ (k0_t20 : Fin k0_t20_loop.trips) (v281 : BitVec 32) (v506 : BitVec 32) (k0_hw33 : k0_chk33 k0_t20 v281 v506), ∀ (k0_h6 : k0_cond6 k0_t20 v281 = 1#1), ∀ a, (k0_off222 v506) a + S1x1x1x8x128.size a ≤ S2x36x30x8x128.size a := fun k0_t20 v281 v506 k0_hw33 k0_h6 => k0_hw33.1.2.2.2.2.2.2.2.2.2.2.2.2.2.2.1 k0_h6
theorem k0_off224_inb : ∀ (k0_t20 : Fin k0_t20_loop.trips) (v281 : BitVec 32) (v506 : BitVec 32) (k0_hw33 : k0_chk33 k0_t20 v281 v506), ∀ (k0_h6 : k0_cond6 k0_t20 v281 = 1#1), ∀ a, (k0_off224 v506) a + S1x1x1x8x128.size a ≤ S2x36x30x8x128.size a := fun k0_t20 v281 v506 k0_hw33 k0_h6 => k0_hw33.1.2.2.2.2.2.2.2.2.2.2.2.2.2.2.2.1 k0_h6
theorem k0_off227_inb : ∀ (k0_t20 : Fin k0_t20_loop.trips) (v281 : BitVec 32) (v506 : BitVec 32) (k0_hw33 : k0_chk33 k0_t20 v281 v506), ∀ (k0_h6 : k0_cond6 k0_t20 v281 = 1#1), ∀ a, (k0_off227 v506) a + S1x1x1x8x128.size a ≤ S2x36x30x8x128.size a := fun k0_t20 v281 v506 k0_hw33 k0_h6 => k0_hw33.1.2.2.2.2.2.2.2.2.2.2.2.2.2.2.2.2.1 k0_h6
theorem k0_off229_inb : ∀ (k0_t20 : Fin k0_t20_loop.trips) (v281 : BitVec 32) (v506 : BitVec 32) (k0_hw33 : k0_chk33 k0_t20 v281 v506), ∀ (k0_h6 : k0_cond6 k0_t20 v281 = 1#1), ∀ a, (k0_off229 v506) a + S1x1x1x8x128.size a ≤ S2x36x30x8x128.size a := fun k0_t20 v281 v506 k0_hw33 k0_h6 => k0_hw33.1.2.2.2.2.2.2.2.2.2.2.2.2.2.2.2.2.2.1 k0_h6
theorem k0_off232_inb : ∀ (k0_t20 : Fin k0_t20_loop.trips) (v281 : BitVec 32) (v506 : BitVec 32) (k0_hw33 : k0_chk33 k0_t20 v281 v506), ∀ (k0_h6 : k0_cond6 k0_t20 v281 = 1#1), ∀ a, (k0_off232 v506) a + S1x1x1x8x128.size a ≤ S2x36x30x8x128.size a := fun k0_t20 v281 v506 k0_hw33 k0_h6 => k0_hw33.1.2.2.2.2.2.2.2.2.2.2.2.2.2.2.2.2.2.2.1 k0_h6
theorem k0_off234_inb : ∀ (k0_t20 : Fin k0_t20_loop.trips) (v281 : BitVec 32) (v506 : BitVec 32) (k0_hw33 : k0_chk33 k0_t20 v281 v506), ∀ (k0_h6 : k0_cond6 k0_t20 v281 = 1#1), ∀ a, (k0_off234 v506) a + S1x1x1x8x128.size a ≤ S2x36x30x8x128.size a := fun k0_t20 v281 v506 k0_hw33 k0_h6 => k0_hw33.1.2.2.2.2.2.2.2.2.2.2.2.2.2.2.2.2.2.2.2.1 k0_h6
theorem k0_off237_inb : ∀ (k0_t20 : Fin k0_t20_loop.trips) (v281 : BitVec 32) (v506 : BitVec 32) (k0_hw33 : k0_chk33 k0_t20 v281 v506), ∀ (k0_h6 : k0_cond6 k0_t20 v281 = 1#1), ∀ a, (k0_off237 v506) a + S1x1x1x8x128.size a ≤ S2x36x30x8x128.size a := fun k0_t20 v281 v506 k0_hw33 k0_h6 => k0_hw33.1.2.2.2.2.2.2.2.2.2.2.2.2.2.2.2.2.2.2.2.2.1 k0_h6
theorem k0_off239_inb : ∀ (k0_t20 : Fin k0_t20_loop.trips) (v281 : BitVec 32) (v506 : BitVec 32) (k0_hw33 : k0_chk33 k0_t20 v281 v506), ∀ (k0_h6 : k0_cond6 k0_t20 v281 = 1#1), ∀ a, (k0_off239 v506) a + S1x1x1x8x128.size a ≤ S2x36x30x8x128.size a := fun k0_t20 v281 v506 k0_hw33 k0_h6 => k0_hw33.1.2.2.2.2.2.2.2.2.2.2.2.2.2.2.2.2.2.2.2.2.2.1 k0_h6
theorem k0_off242_inb : ∀ (k0_t20 : Fin k0_t20_loop.trips) (v281 : BitVec 32) (v506 : BitVec 32) (k0_hw33 : k0_chk33 k0_t20 v281 v506), ∀ (k0_h6 : k0_cond6 k0_t20 v281 = 1#1), ∀ a, (k0_off242 v506) a + S1x1x1x8x128.size a ≤ S2x36x30x8x128.size a := fun k0_t20 v281 v506 k0_hw33 k0_h6 => k0_hw33.1.2.2.2.2.2.2.2.2.2.2.2.2.2.2.2.2.2.2.2.2.2.2.1 k0_h6
theorem k0_off244_inb : ∀ (k0_t20 : Fin k0_t20_loop.trips) (v281 : BitVec 32) (v506 : BitVec 32) (k0_hw33 : k0_chk33 k0_t20 v281 v506), ∀ (k0_h6 : k0_cond6 k0_t20 v281 = 1#1), ∀ a, (k0_off244 v506) a + S1x1x1x8x128.size a ≤ S2x36x30x8x128.size a := fun k0_t20 v281 v506 k0_hw33 k0_h6 => k0_hw33.1.2.2.2.2.2.2.2.2.2.2.2.2.2.2.2.2.2.2.2.2.2.2.2.1 k0_h6
theorem k0_off247_inb : ∀ (k0_t20 : Fin k0_t20_loop.trips) (v281 : BitVec 32) (v506 : BitVec 32) (k0_hw33 : k0_chk33 k0_t20 v281 v506), ∀ (k0_h6 : k0_cond6 k0_t20 v281 = 1#1), ∀ a, (k0_off247 v506) a + S1x1x1x8x128.size a ≤ S2x36x30x8x128.size a := fun k0_t20 v281 v506 k0_hw33 k0_h6 => k0_hw33.1.2.2.2.2.2.2.2.2.2.2.2.2.2.2.2.2.2.2.2.2.2.2.2.2.1 k0_h6
theorem k0_off249_inb : ∀ (k0_t20 : Fin k0_t20_loop.trips) (v281 : BitVec 32) (v506 : BitVec 32) (k0_hw33 : k0_chk33 k0_t20 v281 v506), ∀ (k0_h6 : k0_cond6 k0_t20 v281 = 1#1), ∀ a, (k0_off249 v506) a + S1x1x1x8x128.size a ≤ S2x36x30x8x128.size a := fun k0_t20 v281 v506 k0_hw33 k0_h6 => k0_hw33.1.2.2.2.2.2.2.2.2.2.2.2.2.2.2.2.2.2.2.2.2.2.2.2.2.2.1 k0_h6
theorem k0_off252_inb : ∀ (k0_t20 : Fin k0_t20_loop.trips) (v281 : BitVec 32) (v506 : BitVec 32) (k0_hw33 : k0_chk33 k0_t20 v281 v506), ∀ (k0_h6 : k0_cond6 k0_t20 v281 = 1#1), ∀ a, (k0_off252 v506) a + S1x1x1x8x128.size a ≤ S2x36x30x8x128.size a := fun k0_t20 v281 v506 k0_hw33 k0_h6 => k0_hw33.1.2.2.2.2.2.2.2.2.2.2.2.2.2.2.2.2.2.2.2.2.2.2.2.2.2.2.1 k0_h6
theorem k0_off254_inb : ∀ (k0_t20 : Fin k0_t20_loop.trips) (v281 : BitVec 32) (v506 : BitVec 32) (k0_hw33 : k0_chk33 k0_t20 v281 v506), ∀ (k0_h6 : k0_cond6 k0_t20 v281 = 1#1), ∀ a, (k0_off254 v506) a + S1x1x1x8x128.size a ≤ S2x36x30x8x128.size a := fun k0_t20 v281 v506 k0_hw33 k0_h6 => k0_hw33.1.2.2.2.2.2.2.2.2.2.2.2.2.2.2.2.2.2.2.2.2.2.2.2.2.2.2.2.1 k0_h6
theorem k0_off257_inb : ∀ (k0_t20 : Fin k0_t20_loop.trips) (v281 : BitVec 32) (v506 : BitVec 32) (k0_hw33 : k0_chk33 k0_t20 v281 v506), ∀ (k0_h6 : k0_cond6 k0_t20 v281 = 1#1), ∀ a, (k0_off257 v506) a + S1x1x1x8x128.size a ≤ S2x36x30x8x128.size a := fun k0_t20 v281 v506 k0_hw33 k0_h6 => k0_hw33.1.2.2.2.2.2.2.2.2.2.2.2.2.2.2.2.2.2.2.2.2.2.2.2.2.2.2.2.2.1 k0_h6
theorem k0_off259_inb : ∀ (k0_t20 : Fin k0_t20_loop.trips) (v281 : BitVec 32) (v506 : BitVec 32) (k0_hw33 : k0_chk33 k0_t20 v281 v506), ∀ (k0_h6 : k0_cond6 k0_t20 v281 = 1#1), ∀ a, (k0_off259 v506) a + S1x1x1x8x128.size a ≤ S2x36x30x8x128.size a := fun k0_t20 v281 v506 k0_hw33 k0_h6 => k0_hw33.1.2.2.2.2.2.2.2.2.2.2.2.2.2.2.2.2.2.2.2.2.2.2.2.2.2.2.2.2.2.1 k0_h6
theorem k0_off262_inb : ∀ (k0_t20 : Fin k0_t20_loop.trips) (v281 : BitVec 32) (v506 : BitVec 32) (k0_hw33 : k0_chk33 k0_t20 v281 v506), ∀ (k0_h6 : k0_cond6 k0_t20 v281 = 1#1), ∀ a, (k0_off262 v506) a + S1x1x1x8x128.size a ≤ S2x36x30x8x128.size a := fun k0_t20 v281 v506 k0_hw33 k0_h6 => k0_hw33.1.2.2.2.2.2.2.2.2.2.2.2.2.2.2.2.2.2.2.2.2.2.2.2.2.2.2.2.2.2.2.1 k0_h6
theorem k0_off264_inb : ∀ (k0_t20 : Fin k0_t20_loop.trips) (v281 : BitVec 32) (v506 : BitVec 32) (k0_hw33 : k0_chk33 k0_t20 v281 v506), ∀ (k0_h6 : k0_cond6 k0_t20 v281 = 1#1), ∀ a, (k0_off264 v506) a + S1x1x1x8x128.size a ≤ S2x36x30x8x128.size a := fun k0_t20 v281 v506 k0_hw33 k0_h6 => k0_hw33.1.2.2.2.2.2.2.2.2.2.2.2.2.2.2.2.2.2.2.2.2.2.2.2.2.2.2.2.2.2.2.2 k0_h6
theorem k0_off267_inb : ∀ (k0_t20 : Fin k0_t20_loop.trips) (v281 : BitVec 32) (v506 : BitVec 32) (k0_hw33 : k0_chk33 k0_t20 v281 v506), ∀ (k0_h6 : k0_cond6 k0_t20 v281 = 1#1), ∀ a, (k0_off267 v506) a + S1x1x1x8x128.size a ≤ S2x36x30x8x128.size a := fun k0_t20 v281 v506 k0_hw33 k0_h6 => k0_hw33.2.1.1 k0_h6
theorem k0_off269_inb : ∀ (k0_t20 : Fin k0_t20_loop.trips) (v281 : BitVec 32) (v506 : BitVec 32) (k0_hw33 : k0_chk33 k0_t20 v281 v506), ∀ (k0_h6 : k0_cond6 k0_t20 v281 = 1#1), ∀ a, (k0_off269 v506) a + S1x1x1x8x128.size a ≤ S2x36x30x8x128.size a := fun k0_t20 v281 v506 k0_hw33 k0_h6 => k0_hw33.2.1.2.1 k0_h6
theorem k0_off272_inb : ∀ (k0_t20 : Fin k0_t20_loop.trips) (v281 : BitVec 32) (v506 : BitVec 32) (k0_hw33 : k0_chk33 k0_t20 v281 v506), ∀ (k0_h6 : k0_cond6 k0_t20 v281 = 1#1), ∀ a, (k0_off272 v506) a + S1x1x1x8x128.size a ≤ S2x36x30x8x128.size a := fun k0_t20 v281 v506 k0_hw33 k0_h6 => k0_hw33.2.1.2.2.1 k0_h6
theorem k0_off274_inb : ∀ (k0_t20 : Fin k0_t20_loop.trips) (v281 : BitVec 32) (v506 : BitVec 32) (k0_hw33 : k0_chk33 k0_t20 v281 v506), ∀ (k0_h6 : k0_cond6 k0_t20 v281 = 1#1), ∀ a, (k0_off274 v506) a + S1x1x1x8x128.size a ≤ S2x36x30x8x128.size a := fun k0_t20 v281 v506 k0_hw33 k0_h6 => k0_hw33.2.1.2.2.2.1 k0_h6
theorem k0_off277_inb : ∀ (k0_t20 : Fin k0_t20_loop.trips) (v281 : BitVec 32) (v506 : BitVec 32) (k0_hw33 : k0_chk33 k0_t20 v281 v506), ∀ (k0_h6 : k0_cond6 k0_t20 v281 = 1#1), ∀ a, (k0_off277 v506) a + S1x1x1x8x128.size a ≤ S2x36x30x8x128.size a := fun k0_t20 v281 v506 k0_hw33 k0_h6 => k0_hw33.2.1.2.2.2.2.1 k0_h6
theorem k0_off279_inb : ∀ (k0_t20 : Fin k0_t20_loop.trips) (v281 : BitVec 32) (v506 : BitVec 32) (k0_hw33 : k0_chk33 k0_t20 v281 v506), ∀ (k0_h6 : k0_cond6 k0_t20 v281 = 1#1), ∀ a, (k0_off279 v506) a + S1x1x1x8x128.size a ≤ S2x36x30x8x128.size a := fun k0_t20 v281 v506 k0_hw33 k0_h6 => k0_hw33.2.1.2.2.2.2.2.1 k0_h6
theorem k0_off282_inb : ∀ (k0_t20 : Fin k0_t20_loop.trips) (v281 : BitVec 32) (v506 : BitVec 32) (k0_hw33 : k0_chk33 k0_t20 v281 v506), ∀ (k0_h6 : k0_cond6 k0_t20 v281 = 1#1), ∀ a, (k0_off282 v506) a + S1x1x1x8x128.size a ≤ S2x36x30x8x128.size a := fun k0_t20 v281 v506 k0_hw33 k0_h6 => k0_hw33.2.1.2.2.2.2.2.2.1 k0_h6
theorem k0_off284_inb : ∀ (k0_t20 : Fin k0_t20_loop.trips) (v281 : BitVec 32) (v506 : BitVec 32) (k0_hw33 : k0_chk33 k0_t20 v281 v506), ∀ (k0_h6 : k0_cond6 k0_t20 v281 = 1#1), ∀ a, (k0_off284 v506) a + S1x1x1x8x128.size a ≤ S2x36x30x8x128.size a := fun k0_t20 v281 v506 k0_hw33 k0_h6 => k0_hw33.2.1.2.2.2.2.2.2.2.1 k0_h6
theorem k0_off287_inb : ∀ (k0_t20 : Fin k0_t20_loop.trips) (v281 : BitVec 32) (v506 : BitVec 32) (k0_hw33 : k0_chk33 k0_t20 v281 v506), ∀ (k0_h6 : k0_cond6 k0_t20 v281 = 1#1), ∀ a, (k0_off287 v506) a + S1x1x1x8x128.size a ≤ S2x36x30x8x128.size a := fun k0_t20 v281 v506 k0_hw33 k0_h6 => k0_hw33.2.1.2.2.2.2.2.2.2.2.1 k0_h6
theorem k0_off289_inb : ∀ (k0_t20 : Fin k0_t20_loop.trips) (v281 : BitVec 32) (v506 : BitVec 32) (k0_hw33 : k0_chk33 k0_t20 v281 v506), ∀ (k0_h6 : k0_cond6 k0_t20 v281 = 1#1), ∀ a, (k0_off289 v506) a + S1x1x1x8x128.size a ≤ S2x36x30x8x128.size a := fun k0_t20 v281 v506 k0_hw33 k0_h6 => k0_hw33.2.1.2.2.2.2.2.2.2.2.2.1 k0_h6
theorem k0_off292_inb : ∀ (k0_t20 : Fin k0_t20_loop.trips) (v281 : BitVec 32) (v506 : BitVec 32) (k0_hw33 : k0_chk33 k0_t20 v281 v506), ∀ (k0_h6 : k0_cond6 k0_t20 v281 = 1#1), ∀ a, (k0_off292 v506) a + S1x1x1x8x128.size a ≤ S2x36x30x8x128.size a := fun k0_t20 v281 v506 k0_hw33 k0_h6 => k0_hw33.2.1.2.2.2.2.2.2.2.2.2.2.1 k0_h6
theorem k0_off294_inb : ∀ (k0_t20 : Fin k0_t20_loop.trips) (v281 : BitVec 32) (v506 : BitVec 32) (k0_hw33 : k0_chk33 k0_t20 v281 v506), ∀ (k0_h6 : k0_cond6 k0_t20 v281 = 1#1), ∀ a, (k0_off294 v506) a + S1x1x1x8x128.size a ≤ S2x36x30x8x128.size a := fun k0_t20 v281 v506 k0_hw33 k0_h6 => k0_hw33.2.1.2.2.2.2.2.2.2.2.2.2.2.1 k0_h6
theorem k0_off297_inb : ∀ (k0_t20 : Fin k0_t20_loop.trips) (v281 : BitVec 32) (v506 : BitVec 32) (k0_hw33 : k0_chk33 k0_t20 v281 v506), ∀ (k0_h6 : k0_cond6 k0_t20 v281 = 1#1), ∀ a, (k0_off297 v506) a + S1x1x1x8x128.size a ≤ S2x36x30x8x128.size a := fun k0_t20 v281 v506 k0_hw33 k0_h6 => k0_hw33.2.1.2.2.2.2.2.2.2.2.2.2.2.2.1 k0_h6
theorem k0_off299_inb : ∀ (k0_t20 : Fin k0_t20_loop.trips) (v281 : BitVec 32) (v506 : BitVec 32) (k0_hw33 : k0_chk33 k0_t20 v281 v506), ∀ (k0_h6 : k0_cond6 k0_t20 v281 = 1#1), ∀ a, (k0_off299 v506) a + S1x1x1x8x128.size a ≤ S2x36x30x8x128.size a := fun k0_t20 v281 v506 k0_hw33 k0_h6 => k0_hw33.2.1.2.2.2.2.2.2.2.2.2.2.2.2.2.1 k0_h6
theorem k0_off302_inb : ∀ (k0_t20 : Fin k0_t20_loop.trips) (v281 : BitVec 32) (v506 : BitVec 32) (k0_hw33 : k0_chk33 k0_t20 v281 v506), ∀ (k0_h6 : k0_cond6 k0_t20 v281 = 1#1), ∀ a, (k0_off302 v506) a + S1x1x1x8x128.size a ≤ S2x36x30x8x128.size a := fun k0_t20 v281 v506 k0_hw33 k0_h6 => k0_hw33.2.1.2.2.2.2.2.2.2.2.2.2.2.2.2.2.1 k0_h6
theorem k0_off304_inb : ∀ (k0_t20 : Fin k0_t20_loop.trips) (v281 : BitVec 32) (v506 : BitVec 32) (k0_hw33 : k0_chk33 k0_t20 v281 v506), ∀ (k0_h6 : k0_cond6 k0_t20 v281 = 1#1), ∀ a, (k0_off304 v506) a + S1x1x1x8x128.size a ≤ S2x36x30x8x128.size a := fun k0_t20 v281 v506 k0_hw33 k0_h6 => k0_hw33.2.1.2.2.2.2.2.2.2.2.2.2.2.2.2.2.2.1 k0_h6
theorem k0_off307_inb : ∀ (k0_t20 : Fin k0_t20_loop.trips) (v281 : BitVec 32) (v506 : BitVec 32) (k0_hw33 : k0_chk33 k0_t20 v281 v506), ∀ (k0_h6 : k0_cond6 k0_t20 v281 = 1#1), ∀ a, (k0_off307 v506) a + S1x1x1x8x128.size a ≤ S2x36x30x8x128.size a := fun k0_t20 v281 v506 k0_hw33 k0_h6 => k0_hw33.2.1.2.2.2.2.2.2.2.2.2.2.2.2.2.2.2.2.1 k0_h6
theorem k0_off309_inb : ∀ (k0_t20 : Fin k0_t20_loop.trips) (v281 : BitVec 32) (v506 : BitVec 32) (k0_hw33 : k0_chk33 k0_t20 v281 v506), ∀ (k0_h6 : k0_cond6 k0_t20 v281 = 1#1), ∀ a, (k0_off309 v506) a + S1x1x1x8x128.size a ≤ S2x36x30x8x128.size a := fun k0_t20 v281 v506 k0_hw33 k0_h6 => k0_hw33.2.1.2.2.2.2.2.2.2.2.2.2.2.2.2.2.2.2.2.1 k0_h6
theorem k0_off312_inb : ∀ (k0_t20 : Fin k0_t20_loop.trips) (v281 : BitVec 32) (v506 : BitVec 32) (k0_hw33 : k0_chk33 k0_t20 v281 v506), ∀ (k0_h6 : k0_cond6 k0_t20 v281 = 1#1), ∀ a, (k0_off312 v506) a + S1x1x1x8x128.size a ≤ S2x36x30x8x128.size a := fun k0_t20 v281 v506 k0_hw33 k0_h6 => k0_hw33.2.1.2.2.2.2.2.2.2.2.2.2.2.2.2.2.2.2.2.2.1 k0_h6
theorem k0_off314_inb : ∀ (k0_t20 : Fin k0_t20_loop.trips) (v281 : BitVec 32) (v506 : BitVec 32) (k0_hw33 : k0_chk33 k0_t20 v281 v506), ∀ (k0_h6 : k0_cond6 k0_t20 v281 = 1#1), ∀ a, (k0_off314 v506) a + S1x1x1x8x128.size a ≤ S2x36x30x8x128.size a := fun k0_t20 v281 v506 k0_hw33 k0_h6 => k0_hw33.2.1.2.2.2.2.2.2.2.2.2.2.2.2.2.2.2.2.2.2.2.1 k0_h6
theorem k0_off317_inb : ∀ (k0_t20 : Fin k0_t20_loop.trips) (v281 : BitVec 32) (v506 : BitVec 32) (k0_hw33 : k0_chk33 k0_t20 v281 v506), ∀ (k0_h6 : k0_cond6 k0_t20 v281 = 1#1), ∀ a, (k0_off317 v506) a + S1x1x1x8x128.size a ≤ S2x36x30x8x128.size a := fun k0_t20 v281 v506 k0_hw33 k0_h6 => k0_hw33.2.1.2.2.2.2.2.2.2.2.2.2.2.2.2.2.2.2.2.2.2.2.1 k0_h6
theorem k0_off319_inb : ∀ (k0_t20 : Fin k0_t20_loop.trips) (v281 : BitVec 32) (v506 : BitVec 32) (k0_hw33 : k0_chk33 k0_t20 v281 v506), ∀ (k0_h6 : k0_cond6 k0_t20 v281 = 1#1), ∀ a, (k0_off319 v506) a + S1x1x1x8x128.size a ≤ S2x36x30x8x128.size a := fun k0_t20 v281 v506 k0_hw33 k0_h6 => k0_hw33.2.1.2.2.2.2.2.2.2.2.2.2.2.2.2.2.2.2.2.2.2.2.2.1 k0_h6
theorem k0_off322_inb : ∀ (k0_t20 : Fin k0_t20_loop.trips) (v281 : BitVec 32) (v506 : BitVec 32) (k0_hw33 : k0_chk33 k0_t20 v281 v506), ∀ (k0_h6 : k0_cond6 k0_t20 v281 = 1#1), ∀ a, (k0_off322 v506) a + S1x1x1x8x128.size a ≤ S2x36x30x8x128.size a := fun k0_t20 v281 v506 k0_hw33 k0_h6 => k0_hw33.2.1.2.2.2.2.2.2.2.2.2.2.2.2.2.2.2.2.2.2.2.2.2.2.1 k0_h6
theorem k0_off324_inb : ∀ (k0_t20 : Fin k0_t20_loop.trips) (v281 : BitVec 32) (v506 : BitVec 32) (k0_hw33 : k0_chk33 k0_t20 v281 v506), ∀ (k0_h6 : k0_cond6 k0_t20 v281 = 1#1), ∀ a, (k0_off324 v506) a + S1x1x1x8x128.size a ≤ S2x36x30x8x128.size a := fun k0_t20 v281 v506 k0_hw33 k0_h6 => k0_hw33.2.1.2.2.2.2.2.2.2.2.2.2.2.2.2.2.2.2.2.2.2.2.2.2.2.1 k0_h6
theorem k0_off327_inb : ∀ (k0_t20 : Fin k0_t20_loop.trips) (v281 : BitVec 32) (v506 : BitVec 32) (k0_hw33 : k0_chk33 k0_t20 v281 v506), ∀ (k0_h6 : k0_cond6 k0_t20 v281 = 1#1), ∀ a, (k0_off327 v506) a + S1x1x1x8x128.size a ≤ S2x36x30x8x128.size a := fun k0_t20 v281 v506 k0_hw33 k0_h6 => k0_hw33.2.1.2.2.2.2.2.2.2.2.2.2.2.2.2.2.2.2.2.2.2.2.2.2.2.2.1 k0_h6
theorem k0_off329_inb : ∀ (k0_t20 : Fin k0_t20_loop.trips) (v281 : BitVec 32) (v506 : BitVec 32) (k0_hw33 : k0_chk33 k0_t20 v281 v506), ∀ (k0_h6 : k0_cond6 k0_t20 v281 = 1#1), ∀ a, (k0_off329 v506) a + S1x1x1x8x128.size a ≤ S2x36x30x8x128.size a := fun k0_t20 v281 v506 k0_hw33 k0_h6 => k0_hw33.2.1.2.2.2.2.2.2.2.2.2.2.2.2.2.2.2.2.2.2.2.2.2.2.2.2.2.1 k0_h6
theorem k0_off332_inb : ∀ (k0_t20 : Fin k0_t20_loop.trips) (v281 : BitVec 32) (v506 : BitVec 32) (k0_hw33 : k0_chk33 k0_t20 v281 v506), ∀ (k0_h6 : k0_cond6 k0_t20 v281 = 1#1), ∀ a, (k0_off332 v506) a + S1x1x1x8x128.size a ≤ S2x36x30x8x128.size a := fun k0_t20 v281 v506 k0_hw33 k0_h6 => k0_hw33.2.1.2.2.2.2.2.2.2.2.2.2.2.2.2.2.2.2.2.2.2.2.2.2.2.2.2.2.1 k0_h6
theorem k0_off334_inb : ∀ (k0_t20 : Fin k0_t20_loop.trips) (v281 : BitVec 32) (v506 : BitVec 32) (k0_hw33 : k0_chk33 k0_t20 v281 v506), ∀ (k0_h6 : k0_cond6 k0_t20 v281 = 1#1), ∀ a, (k0_off334 v506) a + S1x1x1x8x128.size a ≤ S2x36x30x8x128.size a := fun k0_t20 v281 v506 k0_hw33 k0_h6 => k0_hw33.2.1.2.2.2.2.2.2.2.2.2.2.2.2.2.2.2.2.2.2.2.2.2.2.2.2.2.2.2.1 k0_h6
theorem k0_off337_inb : ∀ (k0_t20 : Fin k0_t20_loop.trips) (v281 : BitVec 32) (v506 : BitVec 32) (k0_hw33 : k0_chk33 k0_t20 v281 v506), ∀ (k0_h6 : k0_cond6 k0_t20 v281 = 1#1), ∀ a, (k0_off337 v506) a + S1x1x1x8x128.size a ≤ S2x36x30x8x128.size a := fun k0_t20 v281 v506 k0_hw33 k0_h6 => k0_hw33.2.1.2.2.2.2.2.2.2.2.2.2.2.2.2.2.2.2.2.2.2.2.2.2.2.2.2.2.2.2.1 k0_h6
theorem k0_off339_inb : ∀ (k0_t20 : Fin k0_t20_loop.trips) (v281 : BitVec 32) (v506 : BitVec 32) (k0_hw33 : k0_chk33 k0_t20 v281 v506), ∀ (k0_h6 : k0_cond6 k0_t20 v281 = 1#1), ∀ a, (k0_off339 v506) a + S1x1x1x8x128.size a ≤ S2x36x30x8x128.size a := fun k0_t20 v281 v506 k0_hw33 k0_h6 => k0_hw33.2.1.2.2.2.2.2.2.2.2.2.2.2.2.2.2.2.2.2.2.2.2.2.2.2.2.2.2.2.2.2.1 k0_h6
theorem k0_off342_inb : ∀ (k0_t20 : Fin k0_t20_loop.trips) (v281 : BitVec 32) (v506 : BitVec 32) (k0_hw33 : k0_chk33 k0_t20 v281 v506), ∀ (k0_h6 : k0_cond6 k0_t20 v281 = 1#1), ∀ a, (k0_off342 v506) a + S1x1x1x8x128.size a ≤ S2x36x30x8x128.size a := fun k0_t20 v281 v506 k0_hw33 k0_h6 => k0_hw33.2.1.2.2.2.2.2.2.2.2.2.2.2.2.2.2.2.2.2.2.2.2.2.2.2.2.2.2.2.2.2.2.1 k0_h6
theorem k0_off344_inb : ∀ (k0_t20 : Fin k0_t20_loop.trips) (v281 : BitVec 32) (v506 : BitVec 32) (k0_hw33 : k0_chk33 k0_t20 v281 v506), ∀ (k0_h6 : k0_cond6 k0_t20 v281 = 1#1), ∀ a, (k0_off344 v506) a + S1x1x1x8x128.size a ≤ S2x36x30x8x128.size a := fun k0_t20 v281 v506 k0_hw33 k0_h6 => k0_hw33.2.1.2.2.2.2.2.2.2.2.2.2.2.2.2.2.2.2.2.2.2.2.2.2.2.2.2.2.2.2.2.2.2 k0_h6
theorem k0_off347_inb : ∀ (k0_t20 : Fin k0_t20_loop.trips) (v281 : BitVec 32) (v506 : BitVec 32) (k0_hw33 : k0_chk33 k0_t20 v281 v506), ∀ (k0_h6 : k0_cond6 k0_t20 v281 = 1#1), ∀ a, (k0_off347 v506) a + S1x1x1x8x128.size a ≤ S2x36x30x8x128.size a := fun k0_t20 v281 v506 k0_hw33 k0_h6 => k0_hw33.2.2.1 k0_h6
theorem k0_off349_inb : ∀ (k0_t20 : Fin k0_t20_loop.trips) (v281 : BitVec 32) (v506 : BitVec 32) (k0_hw33 : k0_chk33 k0_t20 v281 v506), ∀ (k0_h6 : k0_cond6 k0_t20 v281 = 1#1), ∀ a, (k0_off349 v506) a + S1x1x1x8x128.size a ≤ S2x36x30x8x128.size a := fun k0_t20 v281 v506 k0_hw33 k0_h6 => k0_hw33.2.2.2.1 k0_h6
theorem k0_off352_inb : ∀ (k0_t20 : Fin k0_t20_loop.trips) (v281 : BitVec 32) (v506 : BitVec 32) (k0_hw33 : k0_chk33 k0_t20 v281 v506), ∀ (k0_h6 : k0_cond6 k0_t20 v281 = 1#1), ∀ a, (k0_off352 v506) a + S1x1x1x8x128.size a ≤ S2x36x30x8x128.size a := fun k0_t20 v281 v506 k0_hw33 k0_h6 => k0_hw33.2.2.2.2.1 k0_h6
theorem k0_off354_inb : ∀ (k0_t20 : Fin k0_t20_loop.trips) (v281 : BitVec 32) (v506 : BitVec 32) (k0_hw33 : k0_chk33 k0_t20 v281 v506), ∀ (k0_h6 : k0_cond6 k0_t20 v281 = 1#1), ∀ a, (k0_off354 v506) a + S1x1x1x8x128.size a ≤ S2x36x30x8x128.size a := fun k0_t20 v281 v506 k0_hw33 k0_h6 => k0_hw33.2.2.2.2.2.1 k0_h6
theorem k0_off357_inb : ∀ (k0_t20 : Fin k0_t20_loop.trips) (v281 : BitVec 32) (v506 : BitVec 32) (k0_hw33 : k0_chk33 k0_t20 v281 v506), ∀ (k0_h6 : k0_cond6 k0_t20 v281 = 1#1), ∀ a, (k0_off357 v506) a + S1x1x1x8x128.size a ≤ S2x36x30x8x128.size a := fun k0_t20 v281 v506 k0_hw33 k0_h6 => k0_hw33.2.2.2.2.2.2.1 k0_h6
theorem k0_off359_inb : ∀ (k0_t20 : Fin k0_t20_loop.trips) (v281 : BitVec 32) (v506 : BitVec 32) (k0_hw33 : k0_chk33 k0_t20 v281 v506), ∀ (k0_h6 : k0_cond6 k0_t20 v281 = 1#1), ∀ a, (k0_off359 v506) a + S1x1x1x8x128.size a ≤ S2x36x30x8x128.size a := fun k0_t20 v281 v506 k0_hw33 k0_h6 => k0_hw33.2.2.2.2.2.2.2.1 k0_h6
theorem k0_off362_inb : ∀ (k0_t20 : Fin k0_t20_loop.trips) (v281 : BitVec 32) (v506 : BitVec 32) (k0_hw33 : k0_chk33 k0_t20 v281 v506), ∀ (k0_h6 : k0_cond6 k0_t20 v281 = 1#1), ∀ a, (k0_off362 v506) a + S1x1x1x8x128.size a ≤ S2x36x30x8x128.size a := fun k0_t20 v281 v506 k0_hw33 k0_h6 => k0_hw33.2.2.2.2.2.2.2.2.1 k0_h6
theorem k0_off364_inb : ∀ (k0_t20 : Fin k0_t20_loop.trips) (v281 : BitVec 32) (v506 : BitVec 32) (k0_hw33 : k0_chk33 k0_t20 v281 v506), ∀ (k0_h6 : k0_cond6 k0_t20 v281 = 1#1), ∀ a, (k0_off364 v506) a + S1x1x1x8x128.size a ≤ S2x36x30x8x128.size a := fun k0_t20 v281 v506 k0_hw33 k0_h6 => k0_hw33.2.2.2.2.2.2.2.2.2 k0_h6

def k0_mult144 (k0_t21 : Fin k0_t21_loop.trips) : BitVec 32 :=
  let c0_i32_547 : BitVec 32 := 0#32
  let c0_i32_478 : BitVec 32 := 0#32
  let c1_i32_480 : BitVec 32 := 1#32
  let arg17 : BitVec 32 := Scf.iv c0_i32_478 c1_i32_480 k0_t21
  let c1_i32_546 : BitVec 32 := 1#32
  let v500 : BitVec 32 := Scalar.muli arg17 c1_i32_546
  let v501 : BitVec 32 := Scalar.addi c0_i32_547 v500
  let c16_i32_1341 : BitVec 32 := 16#32
  let v2458 : BitVec 32 := Scalar.muli v501 c16_i32_1341
  v2458
def k0_off365 (k0_t20 : Fin k0_t20_loop.trips) (k0_t21 : Fin k0_t21_loop.trips) : Fin 5 → Nat :=
  let c0_i32_398 : BitVec 32 := 0#32
  let c0_i32_359 : BitVec 32 := 0#32
  let c1_i32_361 : BitVec 32 := 1#32
  let arg16 : BitVec 32 := Scf.iv c0_i32_359 c1_i32_361 k0_t20
  let c1_i32_397 : BitVec 32 := 1#32
  let v248 : BitVec 32 := Scalar.muli arg16 c1_i32_397
  let v249 : BitVec 32 := Scalar.addi c0_i32_398 v248
  let c4_i32_472 : BitVec 32 := 4#32
  let c0_i32_473 : BitVec 32 := 0#32
  let v381 : BitVec 1 := Scalar.cmpi .eq c4_i32_472 c0_i32_473
  let c1_i32_474 : BitVec 32 := 1#32
  let v382 : BitVec 32 := Scalar.select v381 c1_i32_474 c4_i32_472
  let v383 : BitVec 32 := Scalar.remsi v249 v382
  let c0_i32_476 : BitVec 32 := 0#32
  let v385 : BitVec 1 := Scalar.cmpi .slt v383 c0_i32_476
  let c0_i32_477 : BitVec 32 := 0#32
  let v386 : BitVec 1 := Scalar.cmpi .slt v382 c0_i32_477
  let v387 : BitVec 1 := Scalar.xori v385 v386
  let c0_i32_475 : BitVec 32 := 0#32
  let v384 : BitVec 1 := Scalar.cmpi .ne v383 c0_i32_475
  let v388 : BitVec 1 := Scalar.andi v387 v384
  let v389 : BitVec 32 := Scalar.addi v383 v382
  let v390 : BitVec 32 := Scalar.select v388 v389 v383
  let v2460 : Index := Scalar.indexCast v390
  let c1_1342 : Index := 1#32
  let c35_1343 : Index := 35#32
  let c0_i32_547 : BitVec 32 := 0#32
  let c0_i32_478 : BitVec 32 := 0#32
  let c1_i32_480 : BitVec 32 := 1#32
  let arg17 : BitVec 32 := Scf.iv c0_i32_478 c1_i32_480 k0_t21
  let c1_i32_546 : BitVec 32 := 1#32
  let v500 : BitVec 32 := Scalar.muli arg17 c1_i32_546
  let v501 : BitVec 32 := Scalar.addi c0_i32_547 v500
  let c16_i32_1341 : BitVec 32 := 16#32
  let v2458 : BitVec 32 := Scalar.muli v501 c16_i32_1341
  let v2459 : BitVec 32 := v2458
  let v2461 : Index := Scalar.indexCast v2459
  let c0_1344 : Index := 0#32
  ![v2460.toNat, 1, 35, v2461.toNat, 0]
def k0_off366 (k0_t20 : Fin k0_t20_loop.trips) : Fin 4 → Nat :=
  let c0_i32_398 : BitVec 32 := 0#32
  let c0_i32_359 : BitVec 32 := 0#32
  let c1_i32_361 : BitVec 32 := 1#32
  let arg16 : BitVec 32 := Scf.iv c0_i32_359 c1_i32_361 k0_t20
  let c1_i32_397 : BitVec 32 := 1#32
  let v248 : BitVec 32 := Scalar.muli arg16 c1_i32_397
  let v249 : BitVec 32 := Scalar.addi c0_i32_398 v248
  let c0_i32_489 : BitVec 32 := 0#32
  let v403 : BitVec 1 := Scalar.cmpi .sgt v249 c0_i32_489
  let v404 : BitVec 32 := Scalar.extui v403
  let c0_i32_490 : BitVec 32 := 0#32
  let v405 : BitVec 1 := Scalar.cmpi .slt v249 c0_i32_490
  let v406 : BitVec 32 := Scalar.extui v405
  let v407 : BitVec 32 := Scalar.subi v404 v406
  let c64_i32_488 : BitVec 32 := 64#32
  let c0_i32_491 : BitVec 32 := 0#32
  let v408 : BitVec 1 := Scalar.cmpi .sgt c64_i32_488 c0_i32_491
  let v409 : BitVec 32 := Scalar.extui v408
  let c0_i32_492 : BitVec 32 := 0#32
  let v410 : BitVec 1 := Scalar.cmpi .slt c64_i32_488 c0_i32_492
  let v411 : BitVec 32 := Scalar.extui v410
  let v412 : BitVec 32 := Scalar.subi v409 v411
  let v413 : BitVec 1 := Scalar.cmpi .ne v407 v412
  let v414 : BitVec 32 := Scalar.remsi v249 c64_i32_488
  let c0_i32_493 : BitVec 32 := 0#32
  let v415 : BitVec 1 := Scalar.cmpi .ne v414 c0_i32_493
  let v416 : BitVec 1 := Scalar.andi v413 v415
  let v402 : BitVec 32 := Scalar.divsi v249 c64_i32_488
  let c1_i32_494 : BitVec 32 := 1#32
  let v417 : BitVec 32 := Scalar.subi v402 c1_i32_494
  let v418 : BitVec 32 := Scalar.select v416 v417 v402
  let c0_i32_509 : BitVec 32 := 0#32
  let c64_i32_495 : BitVec 32 := 64#32
  let c0_i32_496 : BitVec 32 := 0#32
  let v419 : BitVec 1 := Scalar.cmpi .eq c64_i32_495 c0_i32_496
  let c1_i32_497 : BitVec 32 := 1#32
  let v420 : BitVec 32 := Scalar.select v419 c1_i32_497 c64_i32_495
  let v421 : BitVec 32 := Scalar.remsi v249 v420
  let c0_i32_499 : BitVec 32 := 0#32
  let v423 : BitVec 1 := Scalar.cmpi .slt v421 c0_i32_499
  let c0_i32_500 : BitVec 32 := 0#32
  let v424 : BitVec 1 := Scalar.cmpi .slt v420 c0_i32_500
  let v425 : BitVec 1 := Scalar.xori v423 v424
  let c0_i32_498 : BitVec 32 := 0#32
  let v422 : BitVec 1 := Scalar.cmpi .ne v421 c0_i32_498
  let v426 : BitVec 1 := Scalar.andi v425 v422
  let v427 : BitVec 32 := Scalar.addi v421 v420
  let v428 : BitVec 32 := Scalar.select v426 v427 v421
  let c128_i32_501 : BitVec 32 := 128#32
  let v429 : BitVec 32 := Scalar.muli v428 c128_i32_501
  let c0_i32_510 : BitVec 32 := 0#32
  ![v418.toNat, 0, v429.toNat, 0]
def k0_off367 (k0_t20 : Fin k0_t20_loop.trips) : Fin 5 → Nat :=
  let c0_i32_398 : BitVec 32 := 0#32
  let c0_i32_359 : BitVec 32 := 0#32
  let c1_i32_361 : BitVec 32 := 1#32
  let arg16 : BitVec 32 := Scf.iv c0_i32_359 c1_i32_361 k0_t20
  let c1_i32_397 : BitVec 32 := 1#32
  let v248 : BitVec 32 := Scalar.muli arg16 c1_i32_397
  let v249 : BitVec 32 := Scalar.addi c0_i32_398 v248
  let c4_i32_482 : BitVec 32 := 4#32
  let c0_i32_483 : BitVec 32 := 0#32
  let v392 : BitVec 1 := Scalar.cmpi .eq c4_i32_482 c0_i32_483
  let c1_i32_484 : BitVec 32 := 1#32
  let v393 : BitVec 32 := Scalar.select v392 c1_i32_484 c4_i32_482
  let v394 : BitVec 32 := Scalar.remsi v249 v393
  let c0_i32_486 : BitVec 32 := 0#32
  let v396 : BitVec 1 := Scalar.cmpi .slt v394 c0_i32_486
  let c0_i32_487 : BitVec 32 := 0#32
  let v397 : BitVec 1 := Scalar.cmpi .slt v393 c0_i32_487
  let v398 : BitVec 1 := Scalar.xori v396 v397
  let c0_i32_485 : BitVec 32 := 0#32
  let v395 : BitVec 1 := Scalar.cmpi .ne v394 c0_i32_485
  let v399 : BitVec 1 := Scalar.andi v398 v395
  let v400 : BitVec 32 := Scalar.addi v394 v393
  let v401 : BitVec 32 := Scalar.select v399 v400 v394
  let c0_i32_508 : BitVec 32 := 0#32
  let c0_i32_511 : BitVec 32 := 0#32
  let c0_i32_512 : BitVec 32 := 0#32
  let c0_i32_513 : BitVec 32 := 0#32
  ![v401.toNat, 0, 0, 0, 0]
def k0_off368 (k0_t20 : Fin k0_t20_loop.trips) : Fin 5 → Nat :=
  let c0_i32_398 : BitVec 32 := 0#32
  let c0_i32_359 : BitVec 32 := 0#32
  let c1_i32_361 : BitVec 32 := 1#32
  let arg16 : BitVec 32 := Scf.iv c0_i32_359 c1_i32_361 k0_t20
  let c1_i32_397 : BitVec 32 := 1#32
  let v248 : BitVec 32 := Scalar.muli arg16 c1_i32_397
  let v249 : BitVec 32 := Scalar.addi c0_i32_398 v248
  let c4_i32_514 : BitVec 32 := 4#32
  let c0_i32_515 : BitVec 32 := 0#32
  let v446 : BitVec 1 := Scalar.cmpi .eq c4_i32_514 c0_i32_515
  let c1_i32_516 : BitVec 32 := 1#32
  let v447 : BitVec 32 := Scalar.select v446 c1_i32_516 c4_i32_514
  let v448 : BitVec 32 := Scalar.remsi v249 v447
  let c0_i32_518 : BitVec 32 := 0#32
  let v450 : BitVec 1 := Scalar.cmpi .slt v448 c0_i32_518
  let c0_i32_519 : BitVec 32 := 0#32
  let v451 : BitVec 1 := Scalar.cmpi .slt v447 c0_i32_519
  let v452 : BitVec 1 := Scalar.xori v450 v451
  let c0_i32_517 : BitVec 32 := 0#32
  let v449 : BitVec 1 := Scalar.cmpi .ne v448 c0_i32_517
  let v453 : BitVec 1 := Scalar.andi v452 v449
  let v454 : BitVec 32 := Scalar.addi v448 v447
  let v455 : BitVec 32 := Scalar.select v453 v454 v448
  let c1_i32_540 : BitVec 32 := 1#32
  let c0_i32_543 : BitVec 32 := 0#32
  let c0_i32_544 : BitVec 32 := 0#32
  let c0_i32_545 : BitVec 32 := 0#32
  ![v455.toNat, 1, 0, 0, 0]
def k0_off369 (k0_t20 : Fin k0_t20_loop.trips) : Fin 1 → Nat :=
  let c0_i32_398 : BitVec 32 := 0#32
  let c0_i32_359 : BitVec 32 := 0#32
  let c1_i32_361 : BitVec 32 := 1#32
  let arg16 : BitVec 32 := Scf.iv c0_i32_359 c1_i32_361 k0_t20
  let c1_i32_397 : BitVec 32 := 1#32
  let v248 : BitVec 32 := Scalar.muli arg16 c1_i32_397
  let v249 : BitVec 32 := Scalar.addi c0_i32_398 v248
  let c0_i32_416 : BitVec 32 := 0#32
  let v287 : BitVec 1 := Scalar.cmpi .sgt v249 c0_i32_416
  let v288 : BitVec 32 := Scalar.extui v287
  let c0_i32_417 : BitVec 32 := 0#32
  let v289 : BitVec 1 := Scalar.cmpi .slt v249 c0_i32_417
  let v290 : BitVec 32 := Scalar.extui v289
  let v291 : BitVec 32 := Scalar.subi v288 v290
  let c64_i32_415 : BitVec 32 := 64#32
  let c0_i32_418 : BitVec 32 := 0#32
  let v292 : BitVec 1 := Scalar.cmpi .sgt c64_i32_415 c0_i32_418
  let v293 : BitVec 32 := Scalar.extui v292
  let c0_i32_419 : BitVec 32 := 0#32
  let v294 : BitVec 1 := Scalar.cmpi .slt c64_i32_415 c0_i32_419
  let v295 : BitVec 32 := Scalar.extui v294
  let v296 : BitVec 32 := Scalar.subi v293 v295
  let v297 : BitVec 1 := Scalar.cmpi .ne v291 v296
  let v298 : BitVec 32 := Scalar.remsi v249 c64_i32_415
  let c0_i32_420 : BitVec 32 := 0#32
  let v299 : BitVec 1 := Scalar.cmpi .ne v298 c0_i32_420
  let v300 : BitVec 1 := Scalar.andi v297 v299
  let v286 : BitVec 32 := Scalar.divsi v249 c64_i32_415
  let c1_i32_421 : BitVec 32 := 1#32
  let v301 : BitVec 32 := Scalar.subi v286 c1_i32_421
  let v302 : BitVec 32 := Scalar.select v300 v301 v286
  let v313 : Index := Scalar.indexCast v302
  ![v313.toNat]
def k0_off370 (k0_t20 : Fin k0_t20_loop.trips) : Fin 1 → Nat :=
  let c0_i32_398 : BitVec 32 := 0#32
  let c0_i32_359 : BitVec 32 := 0#32
  let c1_i32_361 : BitVec 32 := 1#32
  let arg16 : BitVec 32 := Scf.iv c0_i32_359 c1_i32_361 k0_t20
  let c1_i32_397 : BitVec 32 := 1#32
  let v248 : BitVec 32 := Scalar.muli arg16 c1_i32_397
  let v249 : BitVec 32 := Scalar.addi c0_i32_398 v248
  let c4_i32_447 : BitVec 32 := 4#32
  let c0_i32_448 : BitVec 32 := 0#32
  let v352 : BitVec 1 := Scalar.cmpi .eq c4_i32_447 c0_i32_448
  let c1_i32_449 : BitVec 32 := 1#32
  let v353 : BitVec 32 := Scalar.select v352 c1_i32_449 c4_i32_447
  let v354 : BitVec 32 := Scalar.remsi v249 v353
  let c0_i32_451 : BitVec 32 := 0#32
  let v356 : BitVec 1 := Scalar.cmpi .slt v354 c0_i32_451
  let c0_i32_452 : BitVec 32 := 0#32
  let v357 : BitVec 1 := Scalar.cmpi .slt v353 c0_i32_452
  let v358 : BitVec 1 := Scalar.xori v356 v357
  let c0_i32_450 : BitVec 32 := 0#32
  let v355 : BitVec 1 := Scalar.cmpi .ne v354 c0_i32_450
  let v359 : BitVec 1 := Scalar.andi v358 v355
  let v360 : BitVec 32 := Scalar.addi v354 v353
  let v361 : BitVec 32 := Scalar.select v359 v360 v354
  ![v361.toNat]
def k0_off371 (k0_t20 : Fin k0_t20_loop.trips) : Fin 4 → Nat :=
  let c0_i32_398 : BitVec 32 := 0#32
  let c0_i32_359 : BitVec 32 := 0#32
  let c1_i32_361 : BitVec 32 := 1#32
  let arg16 : BitVec 32 := Scf.iv c0_i32_359 c1_i32_361 k0_t20
  let c1_i32_397 : BitVec 32 := 1#32
  let v248 : BitVec 32 := Scalar.muli arg16 c1_i32_397
  let v249 : BitVec 32 := Scalar.addi c0_i32_398 v248
  let c0_i32_434 : BitVec 32 := 0#32
  let v325 : BitVec 1 := Scalar.cmpi .sgt v249 c0_i32_434
  let v326 : BitVec 32 := Scalar.extui v325
  let c0_i32_435 : BitVec 32 := 0#32
  let v327 : BitVec 1 := Scalar.cmpi .slt v249 c0_i32_435
  let v328 : BitVec 32 := Scalar.extui v327
  let v329 : BitVec 32 := Scalar.subi v326 v328
  let c64_i32_433 : BitVec 32 := 64#32
  let c0_i32_436 : BitVec 32 := 0#32
  let v330 : BitVec 1 := Scalar.cmpi .sgt c64_i32_433 c0_i32_436
  let v331 : BitVec 32 := Scalar.extui v330
  let c0_i32_437 : BitVec 32 := 0#32
  let v332 : BitVec 1 := Scalar.cmpi .slt c64_i32_433 c0_i32_437
  let v333 : BitVec 32 := Scalar.extui v332
  let v334 : BitVec 32 := Scalar.subi v331 v333
  let v335 : BitVec 1 := Scalar.cmpi .ne v329 v334
  let v336 : BitVec 32 := Scalar.remsi v249 c64_i32_433
  let c0_i32_438 : BitVec 32 := 0#32
  let v337 : BitVec 1 := Scalar.cmpi .ne v336 c0_i32_438
  let v338 : BitVec 1 := Scalar.andi v335 v337
  let v324 : BitVec 32 := Scalar.divsi v249 c64_i32_433
  let c1_i32_439 : BitVec 32 := 1#32
  let v339 : BitVec 32 := Scalar.subi v324 c1_i32_439
  let v340 : BitVec 32 := Scalar.select v338 v339 v324
  let c0_i32_453 : BitVec 32 := 0#32
  let c64_i32_440 : BitVec 32 := 64#32
  let c0_i32_441 : BitVec 32 := 0#32
  let v341 : BitVec 1 := Scalar.cmpi .eq c64_i32_440 c0_i32_441
  let c1_i32_442 : BitVec 32 := 1#32
  let v342 : BitVec 32 := Scalar.select v341 c1_i32_442 c64_i32_440
  let v343 : BitVec 32 := Scalar.remsi v249 v342
  let c0_i32_444 : BitVec 32 := 0#32
  let v345 : BitVec 1 := Scalar.cmpi .slt v343 c0_i32_444
  let c0_i32_445 : BitVec 32 := 0#32
  let v346 : BitVec 1 := Scalar.cmpi .slt v342 c0_i32_445
  let v347 : BitVec 1 := Scalar.xori v345 v346
  let c0_i32_443 : BitVec 32 := 0#32
  let v344 : BitVec 1 := Scalar.cmpi .ne v343 c0_i32_443
  let v348 : BitVec 1 := Scalar.andi v347 v344
  let v349 : BitVec 32 := Scalar.addi v343 v342
  let v350 : BitVec 32 := Scalar.select v348 v349 v343
  let c128_i32_446 : BitVec 32 := 128#32
  let v351 : BitVec 32 := Scalar.muli v350 c128_i32_446
  let c0_i32_454 : BitVec 32 := 0#32
  ![v340.toNat, 0, v351.toNat, 0]
def k0_cond8 (k0_t20 : Fin k0_t20_loop.trips) : BitVec 1 :=
  let c0_i32_398 : BitVec 32 := 0#32
  let c0_i32_359 : BitVec 32 := 0#32
  let c1_i32_361 : BitVec 32 := 1#32
  let arg16 : BitVec 32 := Scf.iv c0_i32_359 c1_i32_361 k0_t20
  let c1_i32_397 : BitVec 32 := 1#32
  let v248 : BitVec 32 := Scalar.muli arg16 c1_i32_397
  let v249 : BitVec 32 := Scalar.addi c0_i32_398 v248
  let c4_i32_430 : BitVec 32 := 4#32
  let v320 : BitVec 32 := Scalar.addi v249 c4_i32_430
  let c384_i32_431 : BitVec 32 := 384#32
  let v321 : BitVec 1 := Scalar.cmpi .slt v320 c384_i32_431
  let v322 : BitVec 32 := Scalar.extui v321
  let c0_i32_432 : BitVec 32 := 0#32
  let v323 : BitVec 1 := Scalar.cmpi .ne v322 c0_i32_432
  v323

def k0_off372 (k0_t20 : Fin k0_t20_loop.trips) : Fin 1 → Nat :=
  let c0_i32_398 : BitVec 32 := 0#32
  let c0_i32_359 : BitVec 32 := 0#32
  let c1_i32_361 : BitVec 32 := 1#32
  let arg16 : BitVec 32 := Scf.iv c0_i32_359 c1_i32_361 k0_t20
  let c1_i32_397 : BitVec 32 := 1#32
  let v248 : BitVec 32 := Scalar.muli arg16 c1_i32_397
  let v249 : BitVec 32 := Scalar.addi c0_i32_398 v248
  let c4_i32_430 : BitVec 32 := 4#32
  let v320 : BitVec 32 := Scalar.addi v249 c4_i32_430
  let c0_i32_434 : BitVec 32 := 0#32
  let v325 : BitVec 1 := Scalar.cmpi .sgt v320 c0_i32_434
  let v326 : BitVec 32 := Scalar.extui v325
  let c0_i32_435 : BitVec 32 := 0#32
  let v327 : BitVec 1 := Scalar.cmpi .slt v320 c0_i32_435
  let v328 : BitVec 32 := Scalar.extui v327
  let v329 : BitVec 32 := Scalar.subi v326 v328
  let c64_i32_433 : BitVec 32 := 64#32
  let c0_i32_436 : BitVec 32 := 0#32
  let v330 : BitVec 1 := Scalar.cmpi .sgt c64_i32_433 c0_i32_436
  let v331 : BitVec 32 := Scalar.extui v330
  let c0_i32_437 : BitVec 32 := 0#32
  let v332 : BitVec 1 := Scalar.cmpi .slt c64_i32_433 c0_i32_437
  let v333 : BitVec 32 := Scalar.extui v332
  let v334 : BitVec 32 := Scalar.subi v331 v333
  let v335 : BitVec 1 := Scalar.cmpi .ne v329 v334
  let v336 : BitVec 32 := Scalar.remsi v320 c64_i32_433
  let c0_i32_438 : BitVec 32 := 0#32
  let v337 : BitVec 1 := Scalar.cmpi .ne v336 c0_i32_438
  let v338 : BitVec 1 := Scalar.andi v335 v337
  let v324 : BitVec 32 := Scalar.divsi v320 c64_i32_433
  let c1_i32_439 : BitVec 32 := 1#32
  let v339 : BitVec 32 := Scalar.subi v324 c1_i32_439
  let v340 : BitVec 32 := Scalar.select v338 v339 v324
  let v351 : Index := Scalar.indexCast v340
  ![v351.toNat]
def k0_off373 (k0_t20 : Fin k0_t20_loop.trips) : Fin 2 → Nat :=
  let c0_i32_398 : BitVec 32 := 0#32
  let c0_i32_359 : BitVec 32 := 0#32
  let c1_i32_361 : BitVec 32 := 1#32
  let arg16 : BitVec 32 := Scf.iv c0_i32_359 c1_i32_361 k0_t20
  let c1_i32_397 : BitVec 32 := 1#32
  let v248 : BitVec 32 := Scalar.muli arg16 c1_i32_397
  let v249 : BitVec 32 := Scalar.addi c0_i32_398 v248
  let c4_i32_430 : BitVec 32 := 4#32
  let v320 : BitVec 32 := Scalar.addi v249 c4_i32_430
  let c0_i32_449 : BitVec 32 := 0#32
  let v358 : BitVec 1 := Scalar.cmpi .sgt v320 c0_i32_449
  let v359 : BitVec 32 := Scalar.extui v358
  let c0_i32_450 : BitVec 32 := 0#32
  let v360 : BitVec 1 := Scalar.cmpi .slt v320 c0_i32_450
  let v361 : BitVec 32 := Scalar.extui v360
  let v362 : BitVec 32 := Scalar.subi v359 v361
  let c64_i32_448 : BitVec 32 := 64#32
  let c0_i32_451 : BitVec 32 := 0#32
  let v363 : BitVec 1 := Scalar.cmpi .sgt c64_i32_448 c0_i32_451
  let v364 : BitVec 32 := Scalar.extui v363
  let c0_i32_452 : BitVec 32 := 0#32
  let v365 : BitVec 1 := Scalar.cmpi .slt c64_i32_448 c0_i32_452
  let v366 : BitVec 32 := Scalar.extui v365
  let v367 : BitVec 32 := Scalar.subi v364 v366
  let v368 : BitVec 1 := Scalar.cmpi .ne v362 v367
  let v369 : BitVec 32 := Scalar.remsi v320 c64_i32_448
  let c0_i32_453 : BitVec 32 := 0#32
  let v370 : BitVec 1 := Scalar.cmpi .ne v369 c0_i32_453
  let v371 : BitVec 1 := Scalar.andi v368 v370
  let v357 : BitVec 32 := Scalar.divsi v320 c64_i32_448
  let c1_i32_454 : BitVec 32 := 1#32
  let v372 : BitVec 32 := Scalar.subi v357 c1_i32_454
  let v373 : BitVec 32 := Scalar.select v371 v372 v357
  let v396 : Index := Scalar.indexCast v373
  let c64_i32_455 : BitVec 32 := 64#32
  let c0_i32_456 : BitVec 32 := 0#32
  let v374 : BitVec 1 := Scalar.cmpi .eq c64_i32_455 c0_i32_456
  let c1_i32_457 : BitVec 32 := 1#32
  let v375 : BitVec 32 := Scalar.select v374 c1_i32_457 c64_i32_455
  let v376 : BitVec 32 := Scalar.remsi v320 v375
  let c0_i32_459 : BitVec 32 := 0#32
  let v378 : BitVec 1 := Scalar.cmpi .slt v376 c0_i32_459
  let c0_i32_460 : BitVec 32 := 0#32
  let v379 : BitVec 1 := Scalar.cmpi .slt v375 c0_i32_460
  let v380 : BitVec 1 := Scalar.xori v378 v379
  let c0_i32_458 : BitVec 32 := 0#32
  let v377 : BitVec 1 := Scalar.cmpi .ne v376 c0_i32_458
  let v381 : BitVec 1 := Scalar.andi v380 v377
  let v382 : BitVec 32 := Scalar.addi v376 v375
  let v383 : BitVec 32 := Scalar.select v381 v382 v376
  let c8_i32_467 : BitVec 32 := 8#32
  let v394 : BitVec 32 := Scalar.muli v383 c8_i32_467
  let c0_i32_468 : BitVec 32 := 0#32
  let v395 : BitVec 32 := Scalar.addi v394 c0_i32_468
  let v397 : Index := Scalar.indexCast v395
  ![v396.toNat, v397.toNat]
def k0_off374 (k0_t20 : Fin k0_t20_loop.trips) : Fin 1 → Nat :=
  let c0_i32_398 : BitVec 32 := 0#32
  let c0_i32_359 : BitVec 32 := 0#32
  let c1_i32_361 : BitVec 32 := 1#32
  let arg16 : BitVec 32 := Scf.iv c0_i32_359 c1_i32_361 k0_t20
  let c1_i32_397 : BitVec 32 := 1#32
  let v248 : BitVec 32 := Scalar.muli arg16 c1_i32_397
  let v249 : BitVec 32 := Scalar.addi c0_i32_398 v248
  let c4_i32_430 : BitVec 32 := 4#32
  let v320 : BitVec 32 := Scalar.addi v249 c4_i32_430
  let c4_i32_461 : BitVec 32 := 4#32
  let c0_i32_462 : BitVec 32 := 0#32
  let v384 : BitVec 1 := Scalar.cmpi .eq c4_i32_461 c0_i32_462
  let c1_i32_463 : BitVec 32 := 1#32
  let v385 : BitVec 32 := Scalar.select v384 c1_i32_463 c4_i32_461
  let v386 : BitVec 32 := Scalar.remsi v320 v385
  let c0_i32_465 : BitVec 32 := 0#32
  let v388 : BitVec 1 := Scalar.cmpi .slt v386 c0_i32_465
  let c0_i32_466 : BitVec 32 := 0#32
  let v389 : BitVec 1 := Scalar.cmpi .slt v385 c0_i32_466
  let v390 : BitVec 1 := Scalar.xori v388 v389
  let c0_i32_464 : BitVec 32 := 0#32
  let v387 : BitVec 1 := Scalar.cmpi .ne v386 c0_i32_464
  let v391 : BitVec 1 := Scalar.andi v390 v387
  let v392 : BitVec 32 := Scalar.addi v386 v385
  let v393 : BitVec 32 := Scalar.select v391 v392 v386
  ![v393.toNat]
def k0_off375 (k0_t20 : Fin k0_t20_loop.trips) : Fin 5 → Nat :=
  let c0_i32_398 : BitVec 32 := 0#32
  let c0_i32_359 : BitVec 32 := 0#32
  let c1_i32_361 : BitVec 32 := 1#32
  let arg16 : BitVec 32 := Scf.iv c0_i32_359 c1_i32_361 k0_t20
  let c1_i32_397 : BitVec 32 := 1#32
  let v248 : BitVec 32 := Scalar.muli arg16 c1_i32_397
  let v249 : BitVec 32 := Scalar.addi c0_i32_398 v248
  let c4_i32_430 : BitVec 32 := 4#32
  let v320 : BitVec 32 := Scalar.addi v249 c4_i32_430
  let c4_i32_461 : BitVec 32 := 4#32
  let c0_i32_462 : BitVec 32 := 0#32
  let v384 : BitVec 1 := Scalar.cmpi .eq c4_i32_461 c0_i32_462
  let c1_i32_463 : BitVec 32 := 1#32
  let v385 : BitVec 32 := Scalar.select v384 c1_i32_463 c4_i32_461
  let v386 : BitVec 32 := Scalar.remsi v320 v385
  let c0_i32_465 : BitVec 32 := 0#32
  let v388 : BitVec 1 := Scalar.cmpi .slt v386 c0_i32_465
  let c0_i32_466 : BitVec 32 := 0#32
  let v389 : BitVec 1 := Scalar.cmpi .slt v385 c0_i32_466
  let v390 : BitVec 1 := Scalar.xori v388 v389
  let c0_i32_464 : BitVec 32 := 0#32
  let v387 : BitVec 1 := Scalar.cmpi .ne v386 c0_i32_464
  let v391 : BitVec 1 := Scalar.andi v390 v387
  let v392 : BitVec 32 := Scalar.addi v386 v385
  let v393 : BitVec 32 := Scalar.select v391 v392 v386
  let c0_i32_469 : BitVec 32 := 0#32
  let c0_i32_470 : BitVec 32 := 0#32
  let c0_i32_471 : BitVec 32 := 0#32
  let c0_i32_472 : BitVec 32 := 0#32
  ![v393.toNat, 0, 0, 0, 0]
def k0_off376 (v398 : BitVec 32) : Fin 3 → Nat :=
  let c0_i32_473 : BitVec 32 := 0#32
  let c0_i32_474 : BitVec 32 := 0#32
  ![v398.toNat, 0, 0]
def k0_cond9 (k0_t20 : Fin k0_t20_loop.trips) (v352 : BitVec 32) : BitVec 1 :=
  let c0_i32_398 : BitVec 32 := 0#32
  let c0_i32_359 : BitVec 32 := 0#32
  let c1_i32_361 : BitVec 32 := 1#32
  let arg16 : BitVec 32 := Scf.iv c0_i32_359 c1_i32_361 k0_t20
  let c1_i32_397 : BitVec 32 := 1#32
  let v248 : BitVec 32 := Scalar.muli arg16 c1_i32_397
  let v249 : BitVec 32 := Scalar.addi c0_i32_398 v248
  let c4_i32_430 : BitVec 32 := 4#32
  let v320 : BitVec 32 := Scalar.addi v249 c4_i32_430
  let c64_i32_440 : BitVec 32 := 64#32
  let c0_i32_441 : BitVec 32 := 0#32
  let v341 : BitVec 1 := Scalar.cmpi .eq c64_i32_440 c0_i32_441
  let c1_i32_442 : BitVec 32 := 1#32
  let v342 : BitVec 32 := Scalar.select v341 c1_i32_442 c64_i32_440
  let v343 : BitVec 32 := Scalar.remsi v320 v342
  let c0_i32_444 : BitVec 32 := 0#32
  let v345 : BitVec 1 := Scalar.cmpi .slt v343 c0_i32_444
  let c0_i32_445 : BitVec 32 := 0#32
  let v346 : BitVec 1 := Scalar.cmpi .slt v342 c0_i32_445
  let v347 : BitVec 1 := Scalar.xori v345 v346
  let c0_i32_443 : BitVec 32 := 0#32
  let v344 : BitVec 1 := Scalar.cmpi .ne v343 c0_i32_443
  let v348 : BitVec 1 := Scalar.andi v347 v344
  let v349 : BitVec 32 := Scalar.addi v343 v342
  let v350 : BitVec 32 := Scalar.select v348 v349 v343
  let c128_i32_446 : BitVec 32 := 128#32
  let v353 : BitVec 32 := Scalar.muli v350 c128_i32_446
  let v354 : BitVec 1 := Scalar.cmpi .sgt v352 v353
  let v355 : BitVec 32 := Scalar.extui v354
  let c0_i32_447 : BitVec 32 := 0#32
  let v356 : BitVec 1 := Scalar.cmpi .ne v355 c0_i32_447
  v356

def k0_chk34 (k0_t20 : Fin k0_t20_loop.trips) (v352 : BitVec 32) (v398 : BitVec 32) : Prop :=
  (∀ (k0_h8 : k0_cond8 k0_t20 = 1#1), ∀ (k0_h9 : k0_cond9 k0_t20 v352 = 1#1), ∀ a, (k0_off376 v398) a + S1x576x128.size a ≤ S3840x576x128.size a) ∧
  (∀ (k0_h8 : k0_cond8 k0_t20 = 1#1), ∀ (k0_h9 : k0_cond9 k0_t20 v352 = 1#1), ∀ (hinb : ∀ a, (k0_off376 v398) a + S1x576x128.size a ≤ S3840x576x128.size a), (Rect.unit (s := S3840x576x128) (k0_off376 v398) S1x576x128.size hinb).WholeWords (EltTy.packing .fp8e4m3))
theorem k0_off376_inb : ∀ (k0_t20 : Fin k0_t20_loop.trips) (v352 : BitVec 32) (v398 : BitVec 32) (k0_hw34 : k0_chk34 k0_t20 v352 v398), ∀ (k0_h8 : k0_cond8 k0_t20 = 1#1), ∀ (k0_h9 : k0_cond9 k0_t20 v352 = 1#1), ∀ a, (k0_off376 v398) a + S1x576x128.size a ≤ S3840x576x128.size a := fun k0_t20 v352 v398 k0_hw34 k0_h8 k0_h9 => k0_hw34.1 k0_h8 k0_h9
theorem k0_off376_wordsfp8e4m3 : ∀ (k0_t20 : Fin k0_t20_loop.trips) (v352 : BitVec 32) (v398 : BitVec 32) (k0_hw34 : k0_chk34 k0_t20 v352 v398), ∀ (k0_h8 : k0_cond8 k0_t20 = 1#1), ∀ (k0_h9 : k0_cond9 k0_t20 v352 = 1#1), (Rect.unit (s := S3840x576x128) (k0_off376 v398) S1x576x128.size (k0_off376_inb k0_t20 v352 v398 k0_hw34 k0_h8 k0_h9)).WholeWords (EltTy.packing .fp8e4m3) := fun k0_t20 v352 v398 k0_hw34 k0_h8 k0_h9 => k0_hw34.2 k0_h8 k0_h9 (k0_off376_inb k0_t20 v352 v398 k0_hw34 k0_h8 k0_h9)

def k0_off377 (k0_t20 : Fin k0_t20_loop.trips) : Fin 1 → Nat :=
  let c0_i32_398 : BitVec 32 := 0#32
  let c0_i32_359 : BitVec 32 := 0#32
  let c1_i32_361 : BitVec 32 := 1#32
  let arg16 : BitVec 32 := Scf.iv c0_i32_359 c1_i32_361 k0_t20
  let c1_i32_397 : BitVec 32 := 1#32
  let v248 : BitVec 32 := Scalar.muli arg16 c1_i32_397
  let v249 : BitVec 32 := Scalar.addi c0_i32_398 v248
  let c4_i32_430 : BitVec 32 := 4#32
  let v320 : BitVec 32 := Scalar.addi v249 c4_i32_430
  let c4_i32_461 : BitVec 32 := 4#32
  let c0_i32_462 : BitVec 32 := 0#32
  let v384 : BitVec 1 := Scalar.cmpi .eq c4_i32_461 c0_i32_462
  let c1_i32_463 : BitVec 32 := 1#32
  let v385 : BitVec 32 := Scalar.select v384 c1_i32_463 c4_i32_461
  let v386 : BitVec 32 := Scalar.remsi v320 v385
  let c0_i32_465 : BitVec 32 := 0#32
  let v388 : BitVec 1 := Scalar.cmpi .slt v386 c0_i32_465
  let c0_i32_466 : BitVec 32 := 0#32
  let v389 : BitVec 1 := Scalar.cmpi .slt v385 c0_i32_466
  let v390 : BitVec 1 := Scalar.xori v388 v389
  let c0_i32_464 : BitVec 32 := 0#32
  let v387 : BitVec 1 := Scalar.cmpi .ne v386 c0_i32_464
  let v391 : BitVec 1 := Scalar.andi v390 v387
  let v392 : BitVec 32 := Scalar.addi v386 v385
  let v393 : BitVec 32 := Scalar.select v391 v392 v386
  ![v393.toNat]
def k0_off378 (k0_t20 : Fin k0_t20_loop.trips) : Fin 5 → Nat :=
  let c0_i32_398 : BitVec 32 := 0#32
  let c0_i32_359 : BitVec 32 := 0#32
  let c1_i32_361 : BitVec 32 := 1#32
  let arg16 : BitVec 32 := Scf.iv c0_i32_359 c1_i32_361 k0_t20
  let c1_i32_397 : BitVec 32 := 1#32
  let v248 : BitVec 32 := Scalar.muli arg16 c1_i32_397
  let v249 : BitVec 32 := Scalar.addi c0_i32_398 v248
  let c4_i32_430 : BitVec 32 := 4#32
  let v320 : BitVec 32 := Scalar.addi v249 c4_i32_430
  let c4_i32_461 : BitVec 32 := 4#32
  let c0_i32_462 : BitVec 32 := 0#32
  let v384 : BitVec 1 := Scalar.cmpi .eq c4_i32_461 c0_i32_462
  let c1_i32_463 : BitVec 32 := 1#32
  let v385 : BitVec 32 := Scalar.select v384 c1_i32_463 c4_i32_461
  let v386 : BitVec 32 := Scalar.remsi v320 v385
  let c0_i32_465 : BitVec 32 := 0#32
  let v388 : BitVec 1 := Scalar.cmpi .slt v386 c0_i32_465
  let c0_i32_466 : BitVec 32 := 0#32
  let v389 : BitVec 1 := Scalar.cmpi .slt v385 c0_i32_466
  let v390 : BitVec 1 := Scalar.xori v388 v389
  let c0_i32_464 : BitVec 32 := 0#32
  let v387 : BitVec 1 := Scalar.cmpi .ne v386 c0_i32_464
  let v391 : BitVec 1 := Scalar.andi v390 v387
  let v392 : BitVec 32 := Scalar.addi v386 v385
  let v393 : BitVec 32 := Scalar.select v391 v392 v386
  let c1_i32_475 : BitVec 32 := 1#32
  let c0_i32_476 : BitVec 32 := 0#32
  let c0_i32_477 : BitVec 32 := 0#32
  let c0_i32_478 : BitVec 32 := 0#32
  ![v393.toNat, 1, 0, 0, 0]
def k0_off379 (k0_t20 : Fin k0_t20_loop.trips) : Fin 2 → Nat :=
  let c0_i32_398 : BitVec 32 := 0#32
  let c0_i32_359 : BitVec 32 := 0#32
  let c1_i32_361 : BitVec 32 := 1#32
  let arg16 : BitVec 32 := Scf.iv c0_i32_359 c1_i32_361 k0_t20
  let c1_i32_397 : BitVec 32 := 1#32
  let v248 : BitVec 32 := Scalar.muli arg16 c1_i32_397
  let v249 : BitVec 32 := Scalar.addi c0_i32_398 v248
  let c4_i32_430 : BitVec 32 := 4#32
  let v320 : BitVec 32 := Scalar.addi v249 c4_i32_430
  let c0_i32_449 : BitVec 32 := 0#32
  let v358 : BitVec 1 := Scalar.cmpi .sgt v320 c0_i32_449
  let v359 : BitVec 32 := Scalar.extui v358
  let c0_i32_450 : BitVec 32 := 0#32
  let v360 : BitVec 1 := Scalar.cmpi .slt v320 c0_i32_450
  let v361 : BitVec 32 := Scalar.extui v360
  let v362 : BitVec 32 := Scalar.subi v359 v361
  let c64_i32_448 : BitVec 32 := 64#32
  let c0_i32_451 : BitVec 32 := 0#32
  let v363 : BitVec 1 := Scalar.cmpi .sgt c64_i32_448 c0_i32_451
  let v364 : BitVec 32 := Scalar.extui v363
  let c0_i32_452 : BitVec 32 := 0#32
  let v365 : BitVec 1 := Scalar.cmpi .slt c64_i32_448 c0_i32_452
  let v366 : BitVec 32 := Scalar.extui v365
  let v367 : BitVec 32 := Scalar.subi v364 v366
  let v368 : BitVec 1 := Scalar.cmpi .ne v362 v367
  let v369 : BitVec 32 := Scalar.remsi v320 c64_i32_448
  let c0_i32_453 : BitVec 32 := 0#32
  let v370 : BitVec 1 := Scalar.cmpi .ne v369 c0_i32_453
  let v371 : BitVec 1 := Scalar.andi v368 v370
  let v357 : BitVec 32 := Scalar.divsi v320 c64_i32_448
  let c1_i32_454 : BitVec 32 := 1#32
  let v372 : BitVec 32 := Scalar.subi v357 c1_i32_454
  let v373 : BitVec 32 := Scalar.select v371 v372 v357
  let v413 : Index := Scalar.indexCast v373
  let c64_i32_455 : BitVec 32 := 64#32
  let c0_i32_456 : BitVec 32 := 0#32
  let v374 : BitVec 1 := Scalar.cmpi .eq c64_i32_455 c0_i32_456
  let c1_i32_457 : BitVec 32 := 1#32
  let v375 : BitVec 32 := Scalar.select v374 c1_i32_457 c64_i32_455
  let v376 : BitVec 32 := Scalar.remsi v320 v375
  let c0_i32_459 : BitVec 32 := 0#32
  let v378 : BitVec 1 := Scalar.cmpi .slt v376 c0_i32_459
  let c0_i32_460 : BitVec 32 := 0#32
  let v379 : BitVec 1 := Scalar.cmpi .slt v375 c0_i32_460
  let v380 : BitVec 1 := Scalar.xori v378 v379
  let c0_i32_458 : BitVec 32 := 0#32
  let v377 : BitVec 1 := Scalar.cmpi .ne v376 c0_i32_458
  let v381 : BitVec 1 := Scalar.andi v380 v377
  let v382 : BitVec 32 := Scalar.addi v376 v375
  let v383 : BitVec 32 := Scalar.select v381 v382 v376
  let c8_i32_481 : BitVec 32 := 8#32
  let v411 : BitVec 32 := Scalar.muli v383 c8_i32_481
  let c1_i32_482 : BitVec 32 := 1#32
  let v412 : BitVec 32 := Scalar.addi v411 c1_i32_482
  let v414 : Index := Scalar.indexCast v412
  ![v413.toNat, v414.toNat]
def k0_off380 (k0_t20 : Fin k0_t20_loop.trips) : Fin 5 → Nat :=
  let c0_i32_398 : BitVec 32 := 0#32
  let c0_i32_359 : BitVec 32 := 0#32
  let c1_i32_361 : BitVec 32 := 1#32
  let arg16 : BitVec 32 := Scf.iv c0_i32_359 c1_i32_361 k0_t20
  let c1_i32_397 : BitVec 32 := 1#32
  let v248 : BitVec 32 := Scalar.muli arg16 c1_i32_397
  let v249 : BitVec 32 := Scalar.addi c0_i32_398 v248
  let c4_i32_430 : BitVec 32 := 4#32
  let v320 : BitVec 32 := Scalar.addi v249 c4_i32_430
  let c4_i32_461 : BitVec 32 := 4#32
  let c0_i32_462 : BitVec 32 := 0#32
  let v384 : BitVec 1 := Scalar.cmpi .eq c4_i32_461 c0_i32_462
  let c1_i32_463 : BitVec 32 := 1#32
  let v385 : BitVec 32 := Scalar.select v384 c1_i32_463 c4_i32_461
  let v386 : BitVec 32 := Scalar.remsi v320 v385
  let c0_i32_465 : BitVec 32 := 0#32
  let v388 : BitVec 1 := Scalar.cmpi .slt v386 c0_i32_465
  let c0_i32_466 : BitVec 32 := 0#32
  let v389 : BitVec 1 := Scalar.cmpi .slt v385 c0_i32_466
  let v390 : BitVec 1 := Scalar.xori v388 v389
  let c0_i32_464 : BitVec 32 := 0#32
  let v387 : BitVec 1 := Scalar.cmpi .ne v386 c0_i32_464
  let v391 : BitVec 1 := Scalar.andi v390 v387
  let v392 : BitVec 32 := Scalar.addi v386 v385
  let v393 : BitVec 32 := Scalar.select v391 v392 v386
  let c0_i32_483 : BitVec 32 := 0#32
  let c1_i32_484 : BitVec 32 := 1#32
  let c0_i32_485 : BitVec 32 := 0#32
  let c0_i32_486 : BitVec 32 := 0#32
  ![v393.toNat, 0, 1, 0, 0]
def k0_off381 (v415 : BitVec 32) : Fin 3 → Nat :=
  let c0_i32_487 : BitVec 32 := 0#32
  let c0_i32_488 : BitVec 32 := 0#32
  ![v415.toNat, 0, 0]

def k0_chk35 (k0_t20 : Fin k0_t20_loop.trips) (v352 : BitVec 32) (v415 : BitVec 32) : Prop :=
  (∀ (k0_h8 : k0_cond8 k0_t20 = 1#1), ∀ (k0_h9 : k0_cond9 k0_t20 v352 = 1#1), ∀ a, (k0_off381 v415) a + S1x576x128.size a ≤ S3840x576x128.size a) ∧
  (∀ (k0_h8 : k0_cond8 k0_t20 = 1#1), ∀ (k0_h9 : k0_cond9 k0_t20 v352 = 1#1), ∀ (hinb : ∀ a, (k0_off381 v415) a + S1x576x128.size a ≤ S3840x576x128.size a), (Rect.unit (s := S3840x576x128) (k0_off381 v415) S1x576x128.size hinb).WholeWords (EltTy.packing .fp8e4m3))
theorem k0_off381_inb : ∀ (k0_t20 : Fin k0_t20_loop.trips) (v352 : BitVec 32) (v415 : BitVec 32) (k0_hw35 : k0_chk35 k0_t20 v352 v415), ∀ (k0_h8 : k0_cond8 k0_t20 = 1#1), ∀ (k0_h9 : k0_cond9 k0_t20 v352 = 1#1), ∀ a, (k0_off381 v415) a + S1x576x128.size a ≤ S3840x576x128.size a := fun k0_t20 v352 v415 k0_hw35 k0_h8 k0_h9 => k0_hw35.1 k0_h8 k0_h9
theorem k0_off381_wordsfp8e4m3 : ∀ (k0_t20 : Fin k0_t20_loop.trips) (v352 : BitVec 32) (v415 : BitVec 32) (k0_hw35 : k0_chk35 k0_t20 v352 v415), ∀ (k0_h8 : k0_cond8 k0_t20 = 1#1), ∀ (k0_h9 : k0_cond9 k0_t20 v352 = 1#1), (Rect.unit (s := S3840x576x128) (k0_off381 v415) S1x576x128.size (k0_off381_inb k0_t20 v352 v415 k0_hw35 k0_h8 k0_h9)).WholeWords (EltTy.packing .fp8e4m3) := fun k0_t20 v352 v415 k0_hw35 k0_h8 k0_h9 => k0_hw35.2 k0_h8 k0_h9 (k0_off381_inb k0_t20 v352 v415 k0_hw35 k0_h8 k0_h9)

def k0_off382 (k0_t20 : Fin k0_t20_loop.trips) : Fin 1 → Nat :=
  let c0_i32_398 : BitVec 32 := 0#32
  let c0_i32_359 : BitVec 32 := 0#32
  let c1_i32_361 : BitVec 32 := 1#32
  let arg16 : BitVec 32 := Scf.iv c0_i32_359 c1_i32_361 k0_t20
  let c1_i32_397 : BitVec 32 := 1#32
  let v248 : BitVec 32 := Scalar.muli arg16 c1_i32_397
  let v249 : BitVec 32 := Scalar.addi c0_i32_398 v248
  let c4_i32_430 : BitVec 32 := 4#32
  let v320 : BitVec 32 := Scalar.addi v249 c4_i32_430
  let c4_i32_461 : BitVec 32 := 4#32
  let c0_i32_462 : BitVec 32 := 0#32
  let v384 : BitVec 1 := Scalar.cmpi .eq c4_i32_461 c0_i32_462
  let c1_i32_463 : BitVec 32 := 1#32
  let v385 : BitVec 32 := Scalar.select v384 c1_i32_463 c4_i32_461
  let v386 : BitVec 32 := Scalar.remsi v320 v385
  let c0_i32_465 : BitVec 32 := 0#32
  let v388 : BitVec 1 := Scalar.cmpi .slt v386 c0_i32_465
  let c0_i32_466 : BitVec 32 := 0#32
  let v389 : BitVec 1 := Scalar.cmpi .slt v385 c0_i32_466
  let v390 : BitVec 1 := Scalar.xori v388 v389
  let c0_i32_464 : BitVec 32 := 0#32
  let v387 : BitVec 1 := Scalar.cmpi .ne v386 c0_i32_464
  let v391 : BitVec 1 := Scalar.andi v390 v387
  let v392 : BitVec 32 := Scalar.addi v386 v385
  let v393 : BitVec 32 := Scalar.select v391 v392 v386
  ![v393.toNat]
def k0_off383 (k0_t20 : Fin k0_t20_loop.trips) : Fin 5 → Nat :=
  let c0_i32_398 : BitVec 32 := 0#32
  let c0_i32_359 : BitVec 32 := 0#32
  let c1_i32_361 : BitVec 32 := 1#32
  let arg16 : BitVec 32 := Scf.iv c0_i32_359 c1_i32_361 k0_t20
  let c1_i32_397 : BitVec 32 := 1#32
  let v248 : BitVec 32 := Scalar.muli arg16 c1_i32_397
  let v249 : BitVec 32 := Scalar.addi c0_i32_398 v248
  let c4_i32_430 : BitVec 32 := 4#32
  let v320 : BitVec 32 := Scalar.addi v249 c4_i32_430
  let c4_i32_461 : BitVec 32 := 4#32
  let c0_i32_462 : BitVec 32 := 0#32
  let v384 : BitVec 1 := Scalar.cmpi .eq c4_i32_461 c0_i32_462
  let c1_i32_463 : BitVec 32 := 1#32
  let v385 : BitVec 32 := Scalar.select v384 c1_i32_463 c4_i32_461
  let v386 : BitVec 32 := Scalar.remsi v320 v385
  let c0_i32_465 : BitVec 32 := 0#32
  let v388 : BitVec 1 := Scalar.cmpi .slt v386 c0_i32_465
  let c0_i32_466 : BitVec 32 := 0#32
  let v389 : BitVec 1 := Scalar.cmpi .slt v385 c0_i32_466
  let v390 : BitVec 1 := Scalar.xori v388 v389
  let c0_i32_464 : BitVec 32 := 0#32
  let v387 : BitVec 1 := Scalar.cmpi .ne v386 c0_i32_464
  let v391 : BitVec 1 := Scalar.andi v390 v387
  let v392 : BitVec 32 := Scalar.addi v386 v385
  let v393 : BitVec 32 := Scalar.select v391 v392 v386
  let c1_i32_489 : BitVec 32 := 1#32
  let c1_i32_490 : BitVec 32 := 1#32
  let c0_i32_491 : BitVec 32 := 0#32
  let c0_i32_492 : BitVec 32 := 0#32
  ![v393.toNat, 1, 1, 0, 0]
def k0_off384 (k0_t20 : Fin k0_t20_loop.trips) : Fin 2 → Nat :=
  let c0_i32_398 : BitVec 32 := 0#32
  let c0_i32_359 : BitVec 32 := 0#32
  let c1_i32_361 : BitVec 32 := 1#32
  let arg16 : BitVec 32 := Scf.iv c0_i32_359 c1_i32_361 k0_t20
  let c1_i32_397 : BitVec 32 := 1#32
  let v248 : BitVec 32 := Scalar.muli arg16 c1_i32_397
  let v249 : BitVec 32 := Scalar.addi c0_i32_398 v248
  let c4_i32_430 : BitVec 32 := 4#32
  let v320 : BitVec 32 := Scalar.addi v249 c4_i32_430
  let c0_i32_449 : BitVec 32 := 0#32
  let v358 : BitVec 1 := Scalar.cmpi .sgt v320 c0_i32_449
  let v359 : BitVec 32 := Scalar.extui v358
  let c0_i32_450 : BitVec 32 := 0#32
  let v360 : BitVec 1 := Scalar.cmpi .slt v320 c0_i32_450
  let v361 : BitVec 32 := Scalar.extui v360
  let v362 : BitVec 32 := Scalar.subi v359 v361
  let c64_i32_448 : BitVec 32 := 64#32
  let c0_i32_451 : BitVec 32 := 0#32
  let v363 : BitVec 1 := Scalar.cmpi .sgt c64_i32_448 c0_i32_451
  let v364 : BitVec 32 := Scalar.extui v363
  let c0_i32_452 : BitVec 32 := 0#32
  let v365 : BitVec 1 := Scalar.cmpi .slt c64_i32_448 c0_i32_452
  let v366 : BitVec 32 := Scalar.extui v365
  let v367 : BitVec 32 := Scalar.subi v364 v366
  let v368 : BitVec 1 := Scalar.cmpi .ne v362 v367
  let v369 : BitVec 32 := Scalar.remsi v320 c64_i32_448
  let c0_i32_453 : BitVec 32 := 0#32
  let v370 : BitVec 1 := Scalar.cmpi .ne v369 c0_i32_453
  let v371 : BitVec 1 := Scalar.andi v368 v370
  let v357 : BitVec 32 := Scalar.divsi v320 c64_i32_448
  let c1_i32_454 : BitVec 32 := 1#32
  let v372 : BitVec 32 := Scalar.subi v357 c1_i32_454
  let v373 : BitVec 32 := Scalar.select v371 v372 v357
  let v430 : Index := Scalar.indexCast v373
  let c64_i32_455 : BitVec 32 := 64#32
  let c0_i32_456 : BitVec 32 := 0#32
  let v374 : BitVec 1 := Scalar.cmpi .eq c64_i32_455 c0_i32_456
  let c1_i32_457 : BitVec 32 := 1#32
  let v375 : BitVec 32 := Scalar.select v374 c1_i32_457 c64_i32_455
  let v376 : BitVec 32 := Scalar.remsi v320 v375
  let c0_i32_459 : BitVec 32 := 0#32
  let v378 : BitVec 1 := Scalar.cmpi .slt v376 c0_i32_459
  let c0_i32_460 : BitVec 32 := 0#32
  let v379 : BitVec 1 := Scalar.cmpi .slt v375 c0_i32_460
  let v380 : BitVec 1 := Scalar.xori v378 v379
  let c0_i32_458 : BitVec 32 := 0#32
  let v377 : BitVec 1 := Scalar.cmpi .ne v376 c0_i32_458
  let v381 : BitVec 1 := Scalar.andi v380 v377
  let v382 : BitVec 32 := Scalar.addi v376 v375
  let v383 : BitVec 32 := Scalar.select v381 v382 v376
  let c8_i32_495 : BitVec 32 := 8#32
  let v428 : BitVec 32 := Scalar.muli v383 c8_i32_495
  let c2_i32_496 : BitVec 32 := 2#32
  let v429 : BitVec 32 := Scalar.addi v428 c2_i32_496
  let v431 : Index := Scalar.indexCast v429
  ![v430.toNat, v431.toNat]
def k0_off385 (k0_t20 : Fin k0_t20_loop.trips) : Fin 5 → Nat :=
  let c0_i32_398 : BitVec 32 := 0#32
  let c0_i32_359 : BitVec 32 := 0#32
  let c1_i32_361 : BitVec 32 := 1#32
  let arg16 : BitVec 32 := Scf.iv c0_i32_359 c1_i32_361 k0_t20
  let c1_i32_397 : BitVec 32 := 1#32
  let v248 : BitVec 32 := Scalar.muli arg16 c1_i32_397
  let v249 : BitVec 32 := Scalar.addi c0_i32_398 v248
  let c4_i32_430 : BitVec 32 := 4#32
  let v320 : BitVec 32 := Scalar.addi v249 c4_i32_430
  let c4_i32_461 : BitVec 32 := 4#32
  let c0_i32_462 : BitVec 32 := 0#32
  let v384 : BitVec 1 := Scalar.cmpi .eq c4_i32_461 c0_i32_462
  let c1_i32_463 : BitVec 32 := 1#32
  let v385 : BitVec 32 := Scalar.select v384 c1_i32_463 c4_i32_461
  let v386 : BitVec 32 := Scalar.remsi v320 v385
  let c0_i32_465 : BitVec 32 := 0#32
  let v388 : BitVec 1 := Scalar.cmpi .slt v386 c0_i32_465
  let c0_i32_466 : BitVec 32 := 0#32
  let v389 : BitVec 1 := Scalar.cmpi .slt v385 c0_i32_466
  let v390 : BitVec 1 := Scalar.xori v388 v389
  let c0_i32_464 : BitVec 32 := 0#32
  let v387 : BitVec 1 := Scalar.cmpi .ne v386 c0_i32_464
  let v391 : BitVec 1 := Scalar.andi v390 v387
  let v392 : BitVec 32 := Scalar.addi v386 v385
  let v393 : BitVec 32 := Scalar.select v391 v392 v386
  let c0_i32_497 : BitVec 32 := 0#32
  let c2_i32_498 : BitVec 32 := 2#32
  let c0_i32_499 : BitVec 32 := 0#32
  let c0_i32_500 : BitVec 32 := 0#32
  ![v393.toNat, 0, 2, 0, 0]
def k0_off386 (v432 : BitVec 32) : Fin 3 → Nat :=
  let c0_i32_501 : BitVec 32 := 0#32
  let c0_i32_502 : BitVec 32 := 0#32
  ![v432.toNat, 0, 0]

def k0_chk36 (k0_t20 : Fin k0_t20_loop.trips) (v352 : BitVec 32) (v432 : BitVec 32) : Prop :=
  (∀ (k0_h8 : k0_cond8 k0_t20 = 1#1), ∀ (k0_h9 : k0_cond9 k0_t20 v352 = 1#1), ∀ a, (k0_off386 v432) a + S1x576x128.size a ≤ S3840x576x128.size a) ∧
  (∀ (k0_h8 : k0_cond8 k0_t20 = 1#1), ∀ (k0_h9 : k0_cond9 k0_t20 v352 = 1#1), ∀ (hinb : ∀ a, (k0_off386 v432) a + S1x576x128.size a ≤ S3840x576x128.size a), (Rect.unit (s := S3840x576x128) (k0_off386 v432) S1x576x128.size hinb).WholeWords (EltTy.packing .fp8e4m3))
theorem k0_off386_inb : ∀ (k0_t20 : Fin k0_t20_loop.trips) (v352 : BitVec 32) (v432 : BitVec 32) (k0_hw36 : k0_chk36 k0_t20 v352 v432), ∀ (k0_h8 : k0_cond8 k0_t20 = 1#1), ∀ (k0_h9 : k0_cond9 k0_t20 v352 = 1#1), ∀ a, (k0_off386 v432) a + S1x576x128.size a ≤ S3840x576x128.size a := fun k0_t20 v352 v432 k0_hw36 k0_h8 k0_h9 => k0_hw36.1 k0_h8 k0_h9
theorem k0_off386_wordsfp8e4m3 : ∀ (k0_t20 : Fin k0_t20_loop.trips) (v352 : BitVec 32) (v432 : BitVec 32) (k0_hw36 : k0_chk36 k0_t20 v352 v432), ∀ (k0_h8 : k0_cond8 k0_t20 = 1#1), ∀ (k0_h9 : k0_cond9 k0_t20 v352 = 1#1), (Rect.unit (s := S3840x576x128) (k0_off386 v432) S1x576x128.size (k0_off386_inb k0_t20 v352 v432 k0_hw36 k0_h8 k0_h9)).WholeWords (EltTy.packing .fp8e4m3) := fun k0_t20 v352 v432 k0_hw36 k0_h8 k0_h9 => k0_hw36.2 k0_h8 k0_h9 (k0_off386_inb k0_t20 v352 v432 k0_hw36 k0_h8 k0_h9)

def k0_off387 (k0_t20 : Fin k0_t20_loop.trips) : Fin 1 → Nat :=
  let c0_i32_398 : BitVec 32 := 0#32
  let c0_i32_359 : BitVec 32 := 0#32
  let c1_i32_361 : BitVec 32 := 1#32
  let arg16 : BitVec 32 := Scf.iv c0_i32_359 c1_i32_361 k0_t20
  let c1_i32_397 : BitVec 32 := 1#32
  let v248 : BitVec 32 := Scalar.muli arg16 c1_i32_397
  let v249 : BitVec 32 := Scalar.addi c0_i32_398 v248
  let c4_i32_430 : BitVec 32 := 4#32
  let v320 : BitVec 32 := Scalar.addi v249 c4_i32_430
  let c4_i32_461 : BitVec 32 := 4#32
  let c0_i32_462 : BitVec 32 := 0#32
  let v384 : BitVec 1 := Scalar.cmpi .eq c4_i32_461 c0_i32_462
  let c1_i32_463 : BitVec 32 := 1#32
  let v385 : BitVec 32 := Scalar.select v384 c1_i32_463 c4_i32_461
  let v386 : BitVec 32 := Scalar.remsi v320 v385
  let c0_i32_465 : BitVec 32 := 0#32
  let v388 : BitVec 1 := Scalar.cmpi .slt v386 c0_i32_465
  let c0_i32_466 : BitVec 32 := 0#32
  let v389 : BitVec 1 := Scalar.cmpi .slt v385 c0_i32_466
  let v390 : BitVec 1 := Scalar.xori v388 v389
  let c0_i32_464 : BitVec 32 := 0#32
  let v387 : BitVec 1 := Scalar.cmpi .ne v386 c0_i32_464
  let v391 : BitVec 1 := Scalar.andi v390 v387
  let v392 : BitVec 32 := Scalar.addi v386 v385
  let v393 : BitVec 32 := Scalar.select v391 v392 v386
  ![v393.toNat]
def k0_off388 (k0_t20 : Fin k0_t20_loop.trips) : Fin 5 → Nat :=
  let c0_i32_398 : BitVec 32 := 0#32
  let c0_i32_359 : BitVec 32 := 0#32
  let c1_i32_361 : BitVec 32 := 1#32
  let arg16 : BitVec 32 := Scf.iv c0_i32_359 c1_i32_361 k0_t20
  let c1_i32_397 : BitVec 32 := 1#32
  let v248 : BitVec 32 := Scalar.muli arg16 c1_i32_397
  let v249 : BitVec 32 := Scalar.addi c0_i32_398 v248
  let c4_i32_430 : BitVec 32 := 4#32
  let v320 : BitVec 32 := Scalar.addi v249 c4_i32_430
  let c4_i32_461 : BitVec 32 := 4#32
  let c0_i32_462 : BitVec 32 := 0#32
  let v384 : BitVec 1 := Scalar.cmpi .eq c4_i32_461 c0_i32_462
  let c1_i32_463 : BitVec 32 := 1#32
  let v385 : BitVec 32 := Scalar.select v384 c1_i32_463 c4_i32_461
  let v386 : BitVec 32 := Scalar.remsi v320 v385
  let c0_i32_465 : BitVec 32 := 0#32
  let v388 : BitVec 1 := Scalar.cmpi .slt v386 c0_i32_465
  let c0_i32_466 : BitVec 32 := 0#32
  let v389 : BitVec 1 := Scalar.cmpi .slt v385 c0_i32_466
  let v390 : BitVec 1 := Scalar.xori v388 v389
  let c0_i32_464 : BitVec 32 := 0#32
  let v387 : BitVec 1 := Scalar.cmpi .ne v386 c0_i32_464
  let v391 : BitVec 1 := Scalar.andi v390 v387
  let v392 : BitVec 32 := Scalar.addi v386 v385
  let v393 : BitVec 32 := Scalar.select v391 v392 v386
  let c1_i32_503 : BitVec 32 := 1#32
  let c2_i32_504 : BitVec 32 := 2#32
  let c0_i32_505 : BitVec 32 := 0#32
  let c0_i32_506 : BitVec 32 := 0#32
  ![v393.toNat, 1, 2, 0, 0]
def k0_off389 (k0_t20 : Fin k0_t20_loop.trips) : Fin 2 → Nat :=
  let c0_i32_398 : BitVec 32 := 0#32
  let c0_i32_359 : BitVec 32 := 0#32
  let c1_i32_361 : BitVec 32 := 1#32
  let arg16 : BitVec 32 := Scf.iv c0_i32_359 c1_i32_361 k0_t20
  let c1_i32_397 : BitVec 32 := 1#32
  let v248 : BitVec 32 := Scalar.muli arg16 c1_i32_397
  let v249 : BitVec 32 := Scalar.addi c0_i32_398 v248
  let c4_i32_430 : BitVec 32 := 4#32
  let v320 : BitVec 32 := Scalar.addi v249 c4_i32_430
  let c0_i32_449 : BitVec 32 := 0#32
  let v358 : BitVec 1 := Scalar.cmpi .sgt v320 c0_i32_449
  let v359 : BitVec 32 := Scalar.extui v358
  let c0_i32_450 : BitVec 32 := 0#32
  let v360 : BitVec 1 := Scalar.cmpi .slt v320 c0_i32_450
  let v361 : BitVec 32 := Scalar.extui v360
  let v362 : BitVec 32 := Scalar.subi v359 v361
  let c64_i32_448 : BitVec 32 := 64#32
  let c0_i32_451 : BitVec 32 := 0#32
  let v363 : BitVec 1 := Scalar.cmpi .sgt c64_i32_448 c0_i32_451
  let v364 : BitVec 32 := Scalar.extui v363
  let c0_i32_452 : BitVec 32 := 0#32
  let v365 : BitVec 1 := Scalar.cmpi .slt c64_i32_448 c0_i32_452
  let v366 : BitVec 32 := Scalar.extui v365
  let v367 : BitVec 32 := Scalar.subi v364 v366
  let v368 : BitVec 1 := Scalar.cmpi .ne v362 v367
  let v369 : BitVec 32 := Scalar.remsi v320 c64_i32_448
  let c0_i32_453 : BitVec 32 := 0#32
  let v370 : BitVec 1 := Scalar.cmpi .ne v369 c0_i32_453
  let v371 : BitVec 1 := Scalar.andi v368 v370
  let v357 : BitVec 32 := Scalar.divsi v320 c64_i32_448
  let c1_i32_454 : BitVec 32 := 1#32
  let v372 : BitVec 32 := Scalar.subi v357 c1_i32_454
  let v373 : BitVec 32 := Scalar.select v371 v372 v357
  let v447 : Index := Scalar.indexCast v373
  let c64_i32_455 : BitVec 32 := 64#32
  let c0_i32_456 : BitVec 32 := 0#32
  let v374 : BitVec 1 := Scalar.cmpi .eq c64_i32_455 c0_i32_456
  let c1_i32_457 : BitVec 32 := 1#32
  let v375 : BitVec 32 := Scalar.select v374 c1_i32_457 c64_i32_455
  let v376 : BitVec 32 := Scalar.remsi v320 v375
  let c0_i32_459 : BitVec 32 := 0#32
  let v378 : BitVec 1 := Scalar.cmpi .slt v376 c0_i32_459
  let c0_i32_460 : BitVec 32 := 0#32
  let v379 : BitVec 1 := Scalar.cmpi .slt v375 c0_i32_460
  let v380 : BitVec 1 := Scalar.xori v378 v379
  let c0_i32_458 : BitVec 32 := 0#32
  let v377 : BitVec 1 := Scalar.cmpi .ne v376 c0_i32_458
  let v381 : BitVec 1 := Scalar.andi v380 v377
  let v382 : BitVec 32 := Scalar.addi v376 v375
  let v383 : BitVec 32 := Scalar.select v381 v382 v376
  let c8_i32_509 : BitVec 32 := 8#32
  let v445 : BitVec 32 := Scalar.muli v383 c8_i32_509
  let c3_i32_510 : BitVec 32 := 3#32
  let v446 : BitVec 32 := Scalar.addi v445 c3_i32_510
  let v448 : Index := Scalar.indexCast v446
  ![v447.toNat, v448.toNat]
def k0_off390 (k0_t20 : Fin k0_t20_loop.trips) : Fin 5 → Nat :=
  let c0_i32_398 : BitVec 32 := 0#32
  let c0_i32_359 : BitVec 32 := 0#32
  let c1_i32_361 : BitVec 32 := 1#32
  let arg16 : BitVec 32 := Scf.iv c0_i32_359 c1_i32_361 k0_t20
  let c1_i32_397 : BitVec 32 := 1#32
  let v248 : BitVec 32 := Scalar.muli arg16 c1_i32_397
  let v249 : BitVec 32 := Scalar.addi c0_i32_398 v248
  let c4_i32_430 : BitVec 32 := 4#32
  let v320 : BitVec 32 := Scalar.addi v249 c4_i32_430
  let c4_i32_461 : BitVec 32 := 4#32
  let c0_i32_462 : BitVec 32 := 0#32
  let v384 : BitVec 1 := Scalar.cmpi .eq c4_i32_461 c0_i32_462
  let c1_i32_463 : BitVec 32 := 1#32
  let v385 : BitVec 32 := Scalar.select v384 c1_i32_463 c4_i32_461
  let v386 : BitVec 32 := Scalar.remsi v320 v385
  let c0_i32_465 : BitVec 32 := 0#32
  let v388 : BitVec 1 := Scalar.cmpi .slt v386 c0_i32_465
  let c0_i32_466 : BitVec 32 := 0#32
  let v389 : BitVec 1 := Scalar.cmpi .slt v385 c0_i32_466
  let v390 : BitVec 1 := Scalar.xori v388 v389
  let c0_i32_464 : BitVec 32 := 0#32
  let v387 : BitVec 1 := Scalar.cmpi .ne v386 c0_i32_464
  let v391 : BitVec 1 := Scalar.andi v390 v387
  let v392 : BitVec 32 := Scalar.addi v386 v385
  let v393 : BitVec 32 := Scalar.select v391 v392 v386
  let c0_i32_511 : BitVec 32 := 0#32
  let c3_i32_512 : BitVec 32 := 3#32
  let c0_i32_513 : BitVec 32 := 0#32
  let c0_i32_514 : BitVec 32 := 0#32
  ![v393.toNat, 0, 3, 0, 0]
def k0_off391 (v449 : BitVec 32) : Fin 3 → Nat :=
  let c0_i32_515 : BitVec 32 := 0#32
  let c0_i32_516 : BitVec 32 := 0#32
  ![v449.toNat, 0, 0]

def k0_chk37 (k0_t20 : Fin k0_t20_loop.trips) (v352 : BitVec 32) (v449 : BitVec 32) : Prop :=
  (∀ (k0_h8 : k0_cond8 k0_t20 = 1#1), ∀ (k0_h9 : k0_cond9 k0_t20 v352 = 1#1), ∀ a, (k0_off391 v449) a + S1x576x128.size a ≤ S3840x576x128.size a) ∧
  (∀ (k0_h8 : k0_cond8 k0_t20 = 1#1), ∀ (k0_h9 : k0_cond9 k0_t20 v352 = 1#1), ∀ (hinb : ∀ a, (k0_off391 v449) a + S1x576x128.size a ≤ S3840x576x128.size a), (Rect.unit (s := S3840x576x128) (k0_off391 v449) S1x576x128.size hinb).WholeWords (EltTy.packing .fp8e4m3))
theorem k0_off391_inb : ∀ (k0_t20 : Fin k0_t20_loop.trips) (v352 : BitVec 32) (v449 : BitVec 32) (k0_hw37 : k0_chk37 k0_t20 v352 v449), ∀ (k0_h8 : k0_cond8 k0_t20 = 1#1), ∀ (k0_h9 : k0_cond9 k0_t20 v352 = 1#1), ∀ a, (k0_off391 v449) a + S1x576x128.size a ≤ S3840x576x128.size a := fun k0_t20 v352 v449 k0_hw37 k0_h8 k0_h9 => k0_hw37.1 k0_h8 k0_h9
theorem k0_off391_wordsfp8e4m3 : ∀ (k0_t20 : Fin k0_t20_loop.trips) (v352 : BitVec 32) (v449 : BitVec 32) (k0_hw37 : k0_chk37 k0_t20 v352 v449), ∀ (k0_h8 : k0_cond8 k0_t20 = 1#1), ∀ (k0_h9 : k0_cond9 k0_t20 v352 = 1#1), (Rect.unit (s := S3840x576x128) (k0_off391 v449) S1x576x128.size (k0_off391_inb k0_t20 v352 v449 k0_hw37 k0_h8 k0_h9)).WholeWords (EltTy.packing .fp8e4m3) := fun k0_t20 v352 v449 k0_hw37 k0_h8 k0_h9 => k0_hw37.2 k0_h8 k0_h9 (k0_off391_inb k0_t20 v352 v449 k0_hw37 k0_h8 k0_h9)

def k0_off392 (k0_t20 : Fin k0_t20_loop.trips) : Fin 1 → Nat :=
  let c0_i32_398 : BitVec 32 := 0#32
  let c0_i32_359 : BitVec 32 := 0#32
  let c1_i32_361 : BitVec 32 := 1#32
  let arg16 : BitVec 32 := Scf.iv c0_i32_359 c1_i32_361 k0_t20
  let c1_i32_397 : BitVec 32 := 1#32
  let v248 : BitVec 32 := Scalar.muli arg16 c1_i32_397
  let v249 : BitVec 32 := Scalar.addi c0_i32_398 v248
  let c4_i32_430 : BitVec 32 := 4#32
  let v320 : BitVec 32 := Scalar.addi v249 c4_i32_430
  let c4_i32_461 : BitVec 32 := 4#32
  let c0_i32_462 : BitVec 32 := 0#32
  let v384 : BitVec 1 := Scalar.cmpi .eq c4_i32_461 c0_i32_462
  let c1_i32_463 : BitVec 32 := 1#32
  let v385 : BitVec 32 := Scalar.select v384 c1_i32_463 c4_i32_461
  let v386 : BitVec 32 := Scalar.remsi v320 v385
  let c0_i32_465 : BitVec 32 := 0#32
  let v388 : BitVec 1 := Scalar.cmpi .slt v386 c0_i32_465
  let c0_i32_466 : BitVec 32 := 0#32
  let v389 : BitVec 1 := Scalar.cmpi .slt v385 c0_i32_466
  let v390 : BitVec 1 := Scalar.xori v388 v389
  let c0_i32_464 : BitVec 32 := 0#32
  let v387 : BitVec 1 := Scalar.cmpi .ne v386 c0_i32_464
  let v391 : BitVec 1 := Scalar.andi v390 v387
  let v392 : BitVec 32 := Scalar.addi v386 v385
  let v393 : BitVec 32 := Scalar.select v391 v392 v386
  ![v393.toNat]
def k0_off393 (k0_t20 : Fin k0_t20_loop.trips) : Fin 5 → Nat :=
  let c0_i32_398 : BitVec 32 := 0#32
  let c0_i32_359 : BitVec 32 := 0#32
  let c1_i32_361 : BitVec 32 := 1#32
  let arg16 : BitVec 32 := Scf.iv c0_i32_359 c1_i32_361 k0_t20
  let c1_i32_397 : BitVec 32 := 1#32
  let v248 : BitVec 32 := Scalar.muli arg16 c1_i32_397
  let v249 : BitVec 32 := Scalar.addi c0_i32_398 v248
  let c4_i32_430 : BitVec 32 := 4#32
  let v320 : BitVec 32 := Scalar.addi v249 c4_i32_430
  let c4_i32_461 : BitVec 32 := 4#32
  let c0_i32_462 : BitVec 32 := 0#32
  let v384 : BitVec 1 := Scalar.cmpi .eq c4_i32_461 c0_i32_462
  let c1_i32_463 : BitVec 32 := 1#32
  let v385 : BitVec 32 := Scalar.select v384 c1_i32_463 c4_i32_461
  let v386 : BitVec 32 := Scalar.remsi v320 v385
  let c0_i32_465 : BitVec 32 := 0#32
  let v388 : BitVec 1 := Scalar.cmpi .slt v386 c0_i32_465
  let c0_i32_466 : BitVec 32 := 0#32
  let v389 : BitVec 1 := Scalar.cmpi .slt v385 c0_i32_466
  let v390 : BitVec 1 := Scalar.xori v388 v389
  let c0_i32_464 : BitVec 32 := 0#32
  let v387 : BitVec 1 := Scalar.cmpi .ne v386 c0_i32_464
  let v391 : BitVec 1 := Scalar.andi v390 v387
  let v392 : BitVec 32 := Scalar.addi v386 v385
  let v393 : BitVec 32 := Scalar.select v391 v392 v386
  let c1_i32_517 : BitVec 32 := 1#32
  let c3_i32_518 : BitVec 32 := 3#32
  let c0_i32_519 : BitVec 32 := 0#32
  let c0_i32_520 : BitVec 32 := 0#32
  ![v393.toNat, 1, 3, 0, 0]
def k0_off394 (k0_t20 : Fin k0_t20_loop.trips) : Fin 2 → Nat :=
  let c0_i32_398 : BitVec 32 := 0#32
  let c0_i32_359 : BitVec 32 := 0#32
  let c1_i32_361 : BitVec 32 := 1#32
  let arg16 : BitVec 32 := Scf.iv c0_i32_359 c1_i32_361 k0_t20
  let c1_i32_397 : BitVec 32 := 1#32
  let v248 : BitVec 32 := Scalar.muli arg16 c1_i32_397
  let v249 : BitVec 32 := Scalar.addi c0_i32_398 v248
  let c4_i32_430 : BitVec 32 := 4#32
  let v320 : BitVec 32 := Scalar.addi v249 c4_i32_430
  let c0_i32_449 : BitVec 32 := 0#32
  let v358 : BitVec 1 := Scalar.cmpi .sgt v320 c0_i32_449
  let v359 : BitVec 32 := Scalar.extui v358
  let c0_i32_450 : BitVec 32 := 0#32
  let v360 : BitVec 1 := Scalar.cmpi .slt v320 c0_i32_450
  let v361 : BitVec 32 := Scalar.extui v360
  let v362 : BitVec 32 := Scalar.subi v359 v361
  let c64_i32_448 : BitVec 32 := 64#32
  let c0_i32_451 : BitVec 32 := 0#32
  let v363 : BitVec 1 := Scalar.cmpi .sgt c64_i32_448 c0_i32_451
  let v364 : BitVec 32 := Scalar.extui v363
  let c0_i32_452 : BitVec 32 := 0#32
  let v365 : BitVec 1 := Scalar.cmpi .slt c64_i32_448 c0_i32_452
  let v366 : BitVec 32 := Scalar.extui v365
  let v367 : BitVec 32 := Scalar.subi v364 v366
  let v368 : BitVec 1 := Scalar.cmpi .ne v362 v367
  let v369 : BitVec 32 := Scalar.remsi v320 c64_i32_448
  let c0_i32_453 : BitVec 32 := 0#32
  let v370 : BitVec 1 := Scalar.cmpi .ne v369 c0_i32_453
  let v371 : BitVec 1 := Scalar.andi v368 v370
  let v357 : BitVec 32 := Scalar.divsi v320 c64_i32_448
  let c1_i32_454 : BitVec 32 := 1#32
  let v372 : BitVec 32 := Scalar.subi v357 c1_i32_454
  let v373 : BitVec 32 := Scalar.select v371 v372 v357
  let v464 : Index := Scalar.indexCast v373
  let c64_i32_455 : BitVec 32 := 64#32
  let c0_i32_456 : BitVec 32 := 0#32
  let v374 : BitVec 1 := Scalar.cmpi .eq c64_i32_455 c0_i32_456
  let c1_i32_457 : BitVec 32 := 1#32
  let v375 : BitVec 32 := Scalar.select v374 c1_i32_457 c64_i32_455
  let v376 : BitVec 32 := Scalar.remsi v320 v375
  let c0_i32_459 : BitVec 32 := 0#32
  let v378 : BitVec 1 := Scalar.cmpi .slt v376 c0_i32_459
  let c0_i32_460 : BitVec 32 := 0#32
  let v379 : BitVec 1 := Scalar.cmpi .slt v375 c0_i32_460
  let v380 : BitVec 1 := Scalar.xori v378 v379
  let c0_i32_458 : BitVec 32 := 0#32
  let v377 : BitVec 1 := Scalar.cmpi .ne v376 c0_i32_458
  let v381 : BitVec 1 := Scalar.andi v380 v377
  let v382 : BitVec 32 := Scalar.addi v376 v375
  let v383 : BitVec 32 := Scalar.select v381 v382 v376
  let c8_i32_523 : BitVec 32 := 8#32
  let v462 : BitVec 32 := Scalar.muli v383 c8_i32_523
  let c4_i32_524 : BitVec 32 := 4#32
  let v463 : BitVec 32 := Scalar.addi v462 c4_i32_524
  let v465 : Index := Scalar.indexCast v463
  ![v464.toNat, v465.toNat]
def k0_off395 (k0_t20 : Fin k0_t20_loop.trips) : Fin 5 → Nat :=
  let c0_i32_398 : BitVec 32 := 0#32
  let c0_i32_359 : BitVec 32 := 0#32
  let c1_i32_361 : BitVec 32 := 1#32
  let arg16 : BitVec 32 := Scf.iv c0_i32_359 c1_i32_361 k0_t20
  let c1_i32_397 : BitVec 32 := 1#32
  let v248 : BitVec 32 := Scalar.muli arg16 c1_i32_397
  let v249 : BitVec 32 := Scalar.addi c0_i32_398 v248
  let c4_i32_430 : BitVec 32 := 4#32
  let v320 : BitVec 32 := Scalar.addi v249 c4_i32_430
  let c4_i32_461 : BitVec 32 := 4#32
  let c0_i32_462 : BitVec 32 := 0#32
  let v384 : BitVec 1 := Scalar.cmpi .eq c4_i32_461 c0_i32_462
  let c1_i32_463 : BitVec 32 := 1#32
  let v385 : BitVec 32 := Scalar.select v384 c1_i32_463 c4_i32_461
  let v386 : BitVec 32 := Scalar.remsi v320 v385
  let c0_i32_465 : BitVec 32 := 0#32
  let v388 : BitVec 1 := Scalar.cmpi .slt v386 c0_i32_465
  let c0_i32_466 : BitVec 32 := 0#32
  let v389 : BitVec 1 := Scalar.cmpi .slt v385 c0_i32_466
  let v390 : BitVec 1 := Scalar.xori v388 v389
  let c0_i32_464 : BitVec 32 := 0#32
  let v387 : BitVec 1 := Scalar.cmpi .ne v386 c0_i32_464
  let v391 : BitVec 1 := Scalar.andi v390 v387
  let v392 : BitVec 32 := Scalar.addi v386 v385
  let v393 : BitVec 32 := Scalar.select v391 v392 v386
  let c0_i32_525 : BitVec 32 := 0#32
  let c4_i32_526 : BitVec 32 := 4#32
  let c0_i32_527 : BitVec 32 := 0#32
  let c0_i32_528 : BitVec 32 := 0#32
  ![v393.toNat, 0, 4, 0, 0]
def k0_off396 (v466 : BitVec 32) : Fin 3 → Nat :=
  let c0_i32_529 : BitVec 32 := 0#32
  let c0_i32_530 : BitVec 32 := 0#32
  ![v466.toNat, 0, 0]

def k0_chk38 (k0_t20 : Fin k0_t20_loop.trips) (v352 : BitVec 32) (v466 : BitVec 32) : Prop :=
  (∀ (k0_h8 : k0_cond8 k0_t20 = 1#1), ∀ (k0_h9 : k0_cond9 k0_t20 v352 = 1#1), ∀ a, (k0_off396 v466) a + S1x576x128.size a ≤ S3840x576x128.size a) ∧
  (∀ (k0_h8 : k0_cond8 k0_t20 = 1#1), ∀ (k0_h9 : k0_cond9 k0_t20 v352 = 1#1), ∀ (hinb : ∀ a, (k0_off396 v466) a + S1x576x128.size a ≤ S3840x576x128.size a), (Rect.unit (s := S3840x576x128) (k0_off396 v466) S1x576x128.size hinb).WholeWords (EltTy.packing .fp8e4m3))
theorem k0_off396_inb : ∀ (k0_t20 : Fin k0_t20_loop.trips) (v352 : BitVec 32) (v466 : BitVec 32) (k0_hw38 : k0_chk38 k0_t20 v352 v466), ∀ (k0_h8 : k0_cond8 k0_t20 = 1#1), ∀ (k0_h9 : k0_cond9 k0_t20 v352 = 1#1), ∀ a, (k0_off396 v466) a + S1x576x128.size a ≤ S3840x576x128.size a := fun k0_t20 v352 v466 k0_hw38 k0_h8 k0_h9 => k0_hw38.1 k0_h8 k0_h9
theorem k0_off396_wordsfp8e4m3 : ∀ (k0_t20 : Fin k0_t20_loop.trips) (v352 : BitVec 32) (v466 : BitVec 32) (k0_hw38 : k0_chk38 k0_t20 v352 v466), ∀ (k0_h8 : k0_cond8 k0_t20 = 1#1), ∀ (k0_h9 : k0_cond9 k0_t20 v352 = 1#1), (Rect.unit (s := S3840x576x128) (k0_off396 v466) S1x576x128.size (k0_off396_inb k0_t20 v352 v466 k0_hw38 k0_h8 k0_h9)).WholeWords (EltTy.packing .fp8e4m3) := fun k0_t20 v352 v466 k0_hw38 k0_h8 k0_h9 => k0_hw38.2 k0_h8 k0_h9 (k0_off396_inb k0_t20 v352 v466 k0_hw38 k0_h8 k0_h9)

def k0_off397 (k0_t20 : Fin k0_t20_loop.trips) : Fin 1 → Nat :=
  let c0_i32_398 : BitVec 32 := 0#32
  let c0_i32_359 : BitVec 32 := 0#32
  let c1_i32_361 : BitVec 32 := 1#32
  let arg16 : BitVec 32 := Scf.iv c0_i32_359 c1_i32_361 k0_t20
  let c1_i32_397 : BitVec 32 := 1#32
  let v248 : BitVec 32 := Scalar.muli arg16 c1_i32_397
  let v249 : BitVec 32 := Scalar.addi c0_i32_398 v248
  let c4_i32_430 : BitVec 32 := 4#32
  let v320 : BitVec 32 := Scalar.addi v249 c4_i32_430
  let c4_i32_461 : BitVec 32 := 4#32
  let c0_i32_462 : BitVec 32 := 0#32
  let v384 : BitVec 1 := Scalar.cmpi .eq c4_i32_461 c0_i32_462
  let c1_i32_463 : BitVec 32 := 1#32
  let v385 : BitVec 32 := Scalar.select v384 c1_i32_463 c4_i32_461
  let v386 : BitVec 32 := Scalar.remsi v320 v385
  let c0_i32_465 : BitVec 32 := 0#32
  let v388 : BitVec 1 := Scalar.cmpi .slt v386 c0_i32_465
  let c0_i32_466 : BitVec 32 := 0#32
  let v389 : BitVec 1 := Scalar.cmpi .slt v385 c0_i32_466
  let v390 : BitVec 1 := Scalar.xori v388 v389
  let c0_i32_464 : BitVec 32 := 0#32
  let v387 : BitVec 1 := Scalar.cmpi .ne v386 c0_i32_464
  let v391 : BitVec 1 := Scalar.andi v390 v387
  let v392 : BitVec 32 := Scalar.addi v386 v385
  let v393 : BitVec 32 := Scalar.select v391 v392 v386
  ![v393.toNat]
def k0_off398 (k0_t20 : Fin k0_t20_loop.trips) : Fin 5 → Nat :=
  let c0_i32_398 : BitVec 32 := 0#32
  let c0_i32_359 : BitVec 32 := 0#32
  let c1_i32_361 : BitVec 32 := 1#32
  let arg16 : BitVec 32 := Scf.iv c0_i32_359 c1_i32_361 k0_t20
  let c1_i32_397 : BitVec 32 := 1#32
  let v248 : BitVec 32 := Scalar.muli arg16 c1_i32_397
  let v249 : BitVec 32 := Scalar.addi c0_i32_398 v248
  let c4_i32_430 : BitVec 32 := 4#32
  let v320 : BitVec 32 := Scalar.addi v249 c4_i32_430
  let c4_i32_461 : BitVec 32 := 4#32
  let c0_i32_462 : BitVec 32 := 0#32
  let v384 : BitVec 1 := Scalar.cmpi .eq c4_i32_461 c0_i32_462
  let c1_i32_463 : BitVec 32 := 1#32
  let v385 : BitVec 32 := Scalar.select v384 c1_i32_463 c4_i32_461
  let v386 : BitVec 32 := Scalar.remsi v320 v385
  let c0_i32_465 : BitVec 32 := 0#32
  let v388 : BitVec 1 := Scalar.cmpi .slt v386 c0_i32_465
  let c0_i32_466 : BitVec 32 := 0#32
  let v389 : BitVec 1 := Scalar.cmpi .slt v385 c0_i32_466
  let v390 : BitVec 1 := Scalar.xori v388 v389
  let c0_i32_464 : BitVec 32 := 0#32
  let v387 : BitVec 1 := Scalar.cmpi .ne v386 c0_i32_464
  let v391 : BitVec 1 := Scalar.andi v390 v387
  let v392 : BitVec 32 := Scalar.addi v386 v385
  let v393 : BitVec 32 := Scalar.select v391 v392 v386
  let c1_i32_531 : BitVec 32 := 1#32
  let c4_i32_532 : BitVec 32 := 4#32
  let c0_i32_533 : BitVec 32 := 0#32
  let c0_i32_534 : BitVec 32 := 0#32
  ![v393.toNat, 1, 4, 0, 0]
def k0_off399 (k0_t20 : Fin k0_t20_loop.trips) : Fin 2 → Nat :=
  let c0_i32_398 : BitVec 32 := 0#32
  let c0_i32_359 : BitVec 32 := 0#32
  let c1_i32_361 : BitVec 32 := 1#32
  let arg16 : BitVec 32 := Scf.iv c0_i32_359 c1_i32_361 k0_t20
  let c1_i32_397 : BitVec 32 := 1#32
  let v248 : BitVec 32 := Scalar.muli arg16 c1_i32_397
  let v249 : BitVec 32 := Scalar.addi c0_i32_398 v248
  let c4_i32_430 : BitVec 32 := 4#32
  let v320 : BitVec 32 := Scalar.addi v249 c4_i32_430
  let c0_i32_449 : BitVec 32 := 0#32
  let v358 : BitVec 1 := Scalar.cmpi .sgt v320 c0_i32_449
  let v359 : BitVec 32 := Scalar.extui v358
  let c0_i32_450 : BitVec 32 := 0#32
  let v360 : BitVec 1 := Scalar.cmpi .slt v320 c0_i32_450
  let v361 : BitVec 32 := Scalar.extui v360
  let v362 : BitVec 32 := Scalar.subi v359 v361
  let c64_i32_448 : BitVec 32 := 64#32
  let c0_i32_451 : BitVec 32 := 0#32
  let v363 : BitVec 1 := Scalar.cmpi .sgt c64_i32_448 c0_i32_451
  let v364 : BitVec 32 := Scalar.extui v363
  let c0_i32_452 : BitVec 32 := 0#32
  let v365 : BitVec 1 := Scalar.cmpi .slt c64_i32_448 c0_i32_452
  let v366 : BitVec 32 := Scalar.extui v365
  let v367 : BitVec 32 := Scalar.subi v364 v366
  let v368 : BitVec 1 := Scalar.cmpi .ne v362 v367
  let v369 : BitVec 32 := Scalar.remsi v320 c64_i32_448
  let c0_i32_453 : BitVec 32 := 0#32
  let v370 : BitVec 1 := Scalar.cmpi .ne v369 c0_i32_453
  let v371 : BitVec 1 := Scalar.andi v368 v370
  let v357 : BitVec 32 := Scalar.divsi v320 c64_i32_448
  let c1_i32_454 : BitVec 32 := 1#32
  let v372 : BitVec 32 := Scalar.subi v357 c1_i32_454
  let v373 : BitVec 32 := Scalar.select v371 v372 v357
  let v481 : Index := Scalar.indexCast v373
  let c64_i32_455 : BitVec 32 := 64#32
  let c0_i32_456 : BitVec 32 := 0#32
  let v374 : BitVec 1 := Scalar.cmpi .eq c64_i32_455 c0_i32_456
  let c1_i32_457 : BitVec 32 := 1#32
  let v375 : BitVec 32 := Scalar.select v374 c1_i32_457 c64_i32_455
  let v376 : BitVec 32 := Scalar.remsi v320 v375
  let c0_i32_459 : BitVec 32 := 0#32
  let v378 : BitVec 1 := Scalar.cmpi .slt v376 c0_i32_459
  let c0_i32_460 : BitVec 32 := 0#32
  let v379 : BitVec 1 := Scalar.cmpi .slt v375 c0_i32_460
  let v380 : BitVec 1 := Scalar.xori v378 v379
  let c0_i32_458 : BitVec 32 := 0#32
  let v377 : BitVec 1 := Scalar.cmpi .ne v376 c0_i32_458
  let v381 : BitVec 1 := Scalar.andi v380 v377
  let v382 : BitVec 32 := Scalar.addi v376 v375
  let v383 : BitVec 32 := Scalar.select v381 v382 v376
  let c8_i32_537 : BitVec 32 := 8#32
  let v479 : BitVec 32 := Scalar.muli v383 c8_i32_537
  let c5_i32_538 : BitVec 32 := 5#32
  let v480 : BitVec 32 := Scalar.addi v479 c5_i32_538
  let v482 : Index := Scalar.indexCast v480
  ![v481.toNat, v482.toNat]
def k0_off400 (k0_t20 : Fin k0_t20_loop.trips) : Fin 5 → Nat :=
  let c0_i32_398 : BitVec 32 := 0#32
  let c0_i32_359 : BitVec 32 := 0#32
  let c1_i32_361 : BitVec 32 := 1#32
  let arg16 : BitVec 32 := Scf.iv c0_i32_359 c1_i32_361 k0_t20
  let c1_i32_397 : BitVec 32 := 1#32
  let v248 : BitVec 32 := Scalar.muli arg16 c1_i32_397
  let v249 : BitVec 32 := Scalar.addi c0_i32_398 v248
  let c4_i32_430 : BitVec 32 := 4#32
  let v320 : BitVec 32 := Scalar.addi v249 c4_i32_430
  let c4_i32_461 : BitVec 32 := 4#32
  let c0_i32_462 : BitVec 32 := 0#32
  let v384 : BitVec 1 := Scalar.cmpi .eq c4_i32_461 c0_i32_462
  let c1_i32_463 : BitVec 32 := 1#32
  let v385 : BitVec 32 := Scalar.select v384 c1_i32_463 c4_i32_461
  let v386 : BitVec 32 := Scalar.remsi v320 v385
  let c0_i32_465 : BitVec 32 := 0#32
  let v388 : BitVec 1 := Scalar.cmpi .slt v386 c0_i32_465
  let c0_i32_466 : BitVec 32 := 0#32
  let v389 : BitVec 1 := Scalar.cmpi .slt v385 c0_i32_466
  let v390 : BitVec 1 := Scalar.xori v388 v389
  let c0_i32_464 : BitVec 32 := 0#32
  let v387 : BitVec 1 := Scalar.cmpi .ne v386 c0_i32_464
  let v391 : BitVec 1 := Scalar.andi v390 v387
  let v392 : BitVec 32 := Scalar.addi v386 v385
  let v393 : BitVec 32 := Scalar.select v391 v392 v386
  let c0_i32_539 : BitVec 32 := 0#32
  let c5_i32_540 : BitVec 32 := 5#32
  let c0_i32_541 : BitVec 32 := 0#32
  let c0_i32_542 : BitVec 32 := 0#32
  ![v393.toNat, 0, 5, 0, 0]
def k0_off401 (v483 : BitVec 32) : Fin 3 → Nat :=
  let c0_i32_543 : BitVec 32 := 0#32
  let c0_i32_544 : BitVec 32 := 0#32
  ![v483.toNat, 0, 0]

def k0_chk39 (k0_t20 : Fin k0_t20_loop.trips) (v352 : BitVec 32) (v483 : BitVec 32) : Prop :=
  (∀ (k0_h8 : k0_cond8 k0_t20 = 1#1), ∀ (k0_h9 : k0_cond9 k0_t20 v352 = 1#1), ∀ a, (k0_off401 v483) a + S1x576x128.size a ≤ S3840x576x128.size a) ∧
  (∀ (k0_h8 : k0_cond8 k0_t20 = 1#1), ∀ (k0_h9 : k0_cond9 k0_t20 v352 = 1#1), ∀ (hinb : ∀ a, (k0_off401 v483) a + S1x576x128.size a ≤ S3840x576x128.size a), (Rect.unit (s := S3840x576x128) (k0_off401 v483) S1x576x128.size hinb).WholeWords (EltTy.packing .fp8e4m3))
theorem k0_off401_inb : ∀ (k0_t20 : Fin k0_t20_loop.trips) (v352 : BitVec 32) (v483 : BitVec 32) (k0_hw39 : k0_chk39 k0_t20 v352 v483), ∀ (k0_h8 : k0_cond8 k0_t20 = 1#1), ∀ (k0_h9 : k0_cond9 k0_t20 v352 = 1#1), ∀ a, (k0_off401 v483) a + S1x576x128.size a ≤ S3840x576x128.size a := fun k0_t20 v352 v483 k0_hw39 k0_h8 k0_h9 => k0_hw39.1 k0_h8 k0_h9
theorem k0_off401_wordsfp8e4m3 : ∀ (k0_t20 : Fin k0_t20_loop.trips) (v352 : BitVec 32) (v483 : BitVec 32) (k0_hw39 : k0_chk39 k0_t20 v352 v483), ∀ (k0_h8 : k0_cond8 k0_t20 = 1#1), ∀ (k0_h9 : k0_cond9 k0_t20 v352 = 1#1), (Rect.unit (s := S3840x576x128) (k0_off401 v483) S1x576x128.size (k0_off401_inb k0_t20 v352 v483 k0_hw39 k0_h8 k0_h9)).WholeWords (EltTy.packing .fp8e4m3) := fun k0_t20 v352 v483 k0_hw39 k0_h8 k0_h9 => k0_hw39.2 k0_h8 k0_h9 (k0_off401_inb k0_t20 v352 v483 k0_hw39 k0_h8 k0_h9)

def k0_off402 (k0_t20 : Fin k0_t20_loop.trips) : Fin 1 → Nat :=
  let c0_i32_398 : BitVec 32 := 0#32
  let c0_i32_359 : BitVec 32 := 0#32
  let c1_i32_361 : BitVec 32 := 1#32
  let arg16 : BitVec 32 := Scf.iv c0_i32_359 c1_i32_361 k0_t20
  let c1_i32_397 : BitVec 32 := 1#32
  let v248 : BitVec 32 := Scalar.muli arg16 c1_i32_397
  let v249 : BitVec 32 := Scalar.addi c0_i32_398 v248
  let c4_i32_430 : BitVec 32 := 4#32
  let v320 : BitVec 32 := Scalar.addi v249 c4_i32_430
  let c4_i32_461 : BitVec 32 := 4#32
  let c0_i32_462 : BitVec 32 := 0#32
  let v384 : BitVec 1 := Scalar.cmpi .eq c4_i32_461 c0_i32_462
  let c1_i32_463 : BitVec 32 := 1#32
  let v385 : BitVec 32 := Scalar.select v384 c1_i32_463 c4_i32_461
  let v386 : BitVec 32 := Scalar.remsi v320 v385
  let c0_i32_465 : BitVec 32 := 0#32
  let v388 : BitVec 1 := Scalar.cmpi .slt v386 c0_i32_465
  let c0_i32_466 : BitVec 32 := 0#32
  let v389 : BitVec 1 := Scalar.cmpi .slt v385 c0_i32_466
  let v390 : BitVec 1 := Scalar.xori v388 v389
  let c0_i32_464 : BitVec 32 := 0#32
  let v387 : BitVec 1 := Scalar.cmpi .ne v386 c0_i32_464
  let v391 : BitVec 1 := Scalar.andi v390 v387
  let v392 : BitVec 32 := Scalar.addi v386 v385
  let v393 : BitVec 32 := Scalar.select v391 v392 v386
  ![v393.toNat]
def k0_off403 (k0_t20 : Fin k0_t20_loop.trips) : Fin 5 → Nat :=
  let c0_i32_398 : BitVec 32 := 0#32
  let c0_i32_359 : BitVec 32 := 0#32
  let c1_i32_361 : BitVec 32 := 1#32
  let arg16 : BitVec 32 := Scf.iv c0_i32_359 c1_i32_361 k0_t20
  let c1_i32_397 : BitVec 32 := 1#32
  let v248 : BitVec 32 := Scalar.muli arg16 c1_i32_397
  let v249 : BitVec 32 := Scalar.addi c0_i32_398 v248
  let c4_i32_430 : BitVec 32 := 4#32
  let v320 : BitVec 32 := Scalar.addi v249 c4_i32_430
  let c4_i32_461 : BitVec 32 := 4#32
  let c0_i32_462 : BitVec 32 := 0#32
  let v384 : BitVec 1 := Scalar.cmpi .eq c4_i32_461 c0_i32_462
  let c1_i32_463 : BitVec 32 := 1#32
  let v385 : BitVec 32 := Scalar.select v384 c1_i32_463 c4_i32_461
  let v386 : BitVec 32 := Scalar.remsi v320 v385
  let c0_i32_465 : BitVec 32 := 0#32
  let v388 : BitVec 1 := Scalar.cmpi .slt v386 c0_i32_465
  let c0_i32_466 : BitVec 32 := 0#32
  let v389 : BitVec 1 := Scalar.cmpi .slt v385 c0_i32_466
  let v390 : BitVec 1 := Scalar.xori v388 v389
  let c0_i32_464 : BitVec 32 := 0#32
  let v387 : BitVec 1 := Scalar.cmpi .ne v386 c0_i32_464
  let v391 : BitVec 1 := Scalar.andi v390 v387
  let v392 : BitVec 32 := Scalar.addi v386 v385
  let v393 : BitVec 32 := Scalar.select v391 v392 v386
  let c1_i32_545 : BitVec 32 := 1#32
  let c5_i32_546 : BitVec 32 := 5#32
  let c0_i32_547 : BitVec 32 := 0#32
  let c0_i32_548 : BitVec 32 := 0#32
  ![v393.toNat, 1, 5, 0, 0]
def k0_off404 (k0_t20 : Fin k0_t20_loop.trips) : Fin 2 → Nat :=
  let c0_i32_398 : BitVec 32 := 0#32
  let c0_i32_359 : BitVec 32 := 0#32
  let c1_i32_361 : BitVec 32 := 1#32
  let arg16 : BitVec 32 := Scf.iv c0_i32_359 c1_i32_361 k0_t20
  let c1_i32_397 : BitVec 32 := 1#32
  let v248 : BitVec 32 := Scalar.muli arg16 c1_i32_397
  let v249 : BitVec 32 := Scalar.addi c0_i32_398 v248
  let c4_i32_430 : BitVec 32 := 4#32
  let v320 : BitVec 32 := Scalar.addi v249 c4_i32_430
  let c0_i32_449 : BitVec 32 := 0#32
  let v358 : BitVec 1 := Scalar.cmpi .sgt v320 c0_i32_449
  let v359 : BitVec 32 := Scalar.extui v358
  let c0_i32_450 : BitVec 32 := 0#32
  let v360 : BitVec 1 := Scalar.cmpi .slt v320 c0_i32_450
  let v361 : BitVec 32 := Scalar.extui v360
  let v362 : BitVec 32 := Scalar.subi v359 v361
  let c64_i32_448 : BitVec 32 := 64#32
  let c0_i32_451 : BitVec 32 := 0#32
  let v363 : BitVec 1 := Scalar.cmpi .sgt c64_i32_448 c0_i32_451
  let v364 : BitVec 32 := Scalar.extui v363
  let c0_i32_452 : BitVec 32 := 0#32
  let v365 : BitVec 1 := Scalar.cmpi .slt c64_i32_448 c0_i32_452
  let v366 : BitVec 32 := Scalar.extui v365
  let v367 : BitVec 32 := Scalar.subi v364 v366
  let v368 : BitVec 1 := Scalar.cmpi .ne v362 v367
  let v369 : BitVec 32 := Scalar.remsi v320 c64_i32_448
  let c0_i32_453 : BitVec 32 := 0#32
  let v370 : BitVec 1 := Scalar.cmpi .ne v369 c0_i32_453
  let v371 : BitVec 1 := Scalar.andi v368 v370
  let v357 : BitVec 32 := Scalar.divsi v320 c64_i32_448
  let c1_i32_454 : BitVec 32 := 1#32
  let v372 : BitVec 32 := Scalar.subi v357 c1_i32_454
  let v373 : BitVec 32 := Scalar.select v371 v372 v357
  let v498 : Index := Scalar.indexCast v373
  let c64_i32_455 : BitVec 32 := 64#32
  let c0_i32_456 : BitVec 32 := 0#32
  let v374 : BitVec 1 := Scalar.cmpi .eq c64_i32_455 c0_i32_456
  let c1_i32_457 : BitVec 32 := 1#32
  let v375 : BitVec 32 := Scalar.select v374 c1_i32_457 c64_i32_455
  let v376 : BitVec 32 := Scalar.remsi v320 v375
  let c0_i32_459 : BitVec 32 := 0#32
  let v378 : BitVec 1 := Scalar.cmpi .slt v376 c0_i32_459
  let c0_i32_460 : BitVec 32 := 0#32
  let v379 : BitVec 1 := Scalar.cmpi .slt v375 c0_i32_460
  let v380 : BitVec 1 := Scalar.xori v378 v379
  let c0_i32_458 : BitVec 32 := 0#32
  let v377 : BitVec 1 := Scalar.cmpi .ne v376 c0_i32_458
  let v381 : BitVec 1 := Scalar.andi v380 v377
  let v382 : BitVec 32 := Scalar.addi v376 v375
  let v383 : BitVec 32 := Scalar.select v381 v382 v376
  let c8_i32_551 : BitVec 32 := 8#32
  let v496 : BitVec 32 := Scalar.muli v383 c8_i32_551
  let c6_i32 : BitVec 32 := 6#32
  let v497 : BitVec 32 := Scalar.addi v496 c6_i32
  let v499 : Index := Scalar.indexCast v497
  ![v498.toNat, v499.toNat]
def k0_off405 (k0_t20 : Fin k0_t20_loop.trips) : Fin 5 → Nat :=
  let c0_i32_398 : BitVec 32 := 0#32
  let c0_i32_359 : BitVec 32 := 0#32
  let c1_i32_361 : BitVec 32 := 1#32
  let arg16 : BitVec 32 := Scf.iv c0_i32_359 c1_i32_361 k0_t20
  let c1_i32_397 : BitVec 32 := 1#32
  let v248 : BitVec 32 := Scalar.muli arg16 c1_i32_397
  let v249 : BitVec 32 := Scalar.addi c0_i32_398 v248
  let c4_i32_430 : BitVec 32 := 4#32
  let v320 : BitVec 32 := Scalar.addi v249 c4_i32_430
  let c4_i32_461 : BitVec 32 := 4#32
  let c0_i32_462 : BitVec 32 := 0#32
  let v384 : BitVec 1 := Scalar.cmpi .eq c4_i32_461 c0_i32_462
  let c1_i32_463 : BitVec 32 := 1#32
  let v385 : BitVec 32 := Scalar.select v384 c1_i32_463 c4_i32_461
  let v386 : BitVec 32 := Scalar.remsi v320 v385
  let c0_i32_465 : BitVec 32 := 0#32
  let v388 : BitVec 1 := Scalar.cmpi .slt v386 c0_i32_465
  let c0_i32_466 : BitVec 32 := 0#32
  let v389 : BitVec 1 := Scalar.cmpi .slt v385 c0_i32_466
  let v390 : BitVec 1 := Scalar.xori v388 v389
  let c0_i32_464 : BitVec 32 := 0#32
  let v387 : BitVec 1 := Scalar.cmpi .ne v386 c0_i32_464
  let v391 : BitVec 1 := Scalar.andi v390 v387
  let v392 : BitVec 32 := Scalar.addi v386 v385
  let v393 : BitVec 32 := Scalar.select v391 v392 v386
  let c0_i32_552 : BitVec 32 := 0#32
  let c6_i32_553 : BitVec 32 := 6#32
  let c0_i32_554 : BitVec 32 := 0#32
  let c0_i32_555 : BitVec 32 := 0#32
  ![v393.toNat, 0, 6, 0, 0]
def k0_off406 (v500 : BitVec 32) : Fin 3 → Nat :=
  let c0_i32_556 : BitVec 32 := 0#32
  let c0_i32_557 : BitVec 32 := 0#32
  ![v500.toNat, 0, 0]

def k0_chk40 (k0_t20 : Fin k0_t20_loop.trips) (v352 : BitVec 32) (v500 : BitVec 32) : Prop :=
  (∀ (k0_h8 : k0_cond8 k0_t20 = 1#1), ∀ (k0_h9 : k0_cond9 k0_t20 v352 = 1#1), ∀ a, (k0_off406 v500) a + S1x576x128.size a ≤ S3840x576x128.size a) ∧
  (∀ (k0_h8 : k0_cond8 k0_t20 = 1#1), ∀ (k0_h9 : k0_cond9 k0_t20 v352 = 1#1), ∀ (hinb : ∀ a, (k0_off406 v500) a + S1x576x128.size a ≤ S3840x576x128.size a), (Rect.unit (s := S3840x576x128) (k0_off406 v500) S1x576x128.size hinb).WholeWords (EltTy.packing .fp8e4m3))
theorem k0_off406_inb : ∀ (k0_t20 : Fin k0_t20_loop.trips) (v352 : BitVec 32) (v500 : BitVec 32) (k0_hw40 : k0_chk40 k0_t20 v352 v500), ∀ (k0_h8 : k0_cond8 k0_t20 = 1#1), ∀ (k0_h9 : k0_cond9 k0_t20 v352 = 1#1), ∀ a, (k0_off406 v500) a + S1x576x128.size a ≤ S3840x576x128.size a := fun k0_t20 v352 v500 k0_hw40 k0_h8 k0_h9 => k0_hw40.1 k0_h8 k0_h9
theorem k0_off406_wordsfp8e4m3 : ∀ (k0_t20 : Fin k0_t20_loop.trips) (v352 : BitVec 32) (v500 : BitVec 32) (k0_hw40 : k0_chk40 k0_t20 v352 v500), ∀ (k0_h8 : k0_cond8 k0_t20 = 1#1), ∀ (k0_h9 : k0_cond9 k0_t20 v352 = 1#1), (Rect.unit (s := S3840x576x128) (k0_off406 v500) S1x576x128.size (k0_off406_inb k0_t20 v352 v500 k0_hw40 k0_h8 k0_h9)).WholeWords (EltTy.packing .fp8e4m3) := fun k0_t20 v352 v500 k0_hw40 k0_h8 k0_h9 => k0_hw40.2 k0_h8 k0_h9 (k0_off406_inb k0_t20 v352 v500 k0_hw40 k0_h8 k0_h9)

def k0_off407 (k0_t20 : Fin k0_t20_loop.trips) : Fin 1 → Nat :=
  let c0_i32_398 : BitVec 32 := 0#32
  let c0_i32_359 : BitVec 32 := 0#32
  let c1_i32_361 : BitVec 32 := 1#32
  let arg16 : BitVec 32 := Scf.iv c0_i32_359 c1_i32_361 k0_t20
  let c1_i32_397 : BitVec 32 := 1#32
  let v248 : BitVec 32 := Scalar.muli arg16 c1_i32_397
  let v249 : BitVec 32 := Scalar.addi c0_i32_398 v248
  let c4_i32_430 : BitVec 32 := 4#32
  let v320 : BitVec 32 := Scalar.addi v249 c4_i32_430
  let c4_i32_461 : BitVec 32 := 4#32
  let c0_i32_462 : BitVec 32 := 0#32
  let v384 : BitVec 1 := Scalar.cmpi .eq c4_i32_461 c0_i32_462
  let c1_i32_463 : BitVec 32 := 1#32
  let v385 : BitVec 32 := Scalar.select v384 c1_i32_463 c4_i32_461
  let v386 : BitVec 32 := Scalar.remsi v320 v385
  let c0_i32_465 : BitVec 32 := 0#32
  let v388 : BitVec 1 := Scalar.cmpi .slt v386 c0_i32_465
  let c0_i32_466 : BitVec 32 := 0#32
  let v389 : BitVec 1 := Scalar.cmpi .slt v385 c0_i32_466
  let v390 : BitVec 1 := Scalar.xori v388 v389
  let c0_i32_464 : BitVec 32 := 0#32
  let v387 : BitVec 1 := Scalar.cmpi .ne v386 c0_i32_464
  let v391 : BitVec 1 := Scalar.andi v390 v387
  let v392 : BitVec 32 := Scalar.addi v386 v385
  let v393 : BitVec 32 := Scalar.select v391 v392 v386
  ![v393.toNat]
def k0_off408 (k0_t20 : Fin k0_t20_loop.trips) : Fin 5 → Nat :=
  let c0_i32_398 : BitVec 32 := 0#32
  let c0_i32_359 : BitVec 32 := 0#32
  let c1_i32_361 : BitVec 32 := 1#32
  let arg16 : BitVec 32 := Scf.iv c0_i32_359 c1_i32_361 k0_t20
  let c1_i32_397 : BitVec 32 := 1#32
  let v248 : BitVec 32 := Scalar.muli arg16 c1_i32_397
  let v249 : BitVec 32 := Scalar.addi c0_i32_398 v248
  let c4_i32_430 : BitVec 32 := 4#32
  let v320 : BitVec 32 := Scalar.addi v249 c4_i32_430
  let c4_i32_461 : BitVec 32 := 4#32
  let c0_i32_462 : BitVec 32 := 0#32
  let v384 : BitVec 1 := Scalar.cmpi .eq c4_i32_461 c0_i32_462
  let c1_i32_463 : BitVec 32 := 1#32
  let v385 : BitVec 32 := Scalar.select v384 c1_i32_463 c4_i32_461
  let v386 : BitVec 32 := Scalar.remsi v320 v385
  let c0_i32_465 : BitVec 32 := 0#32
  let v388 : BitVec 1 := Scalar.cmpi .slt v386 c0_i32_465
  let c0_i32_466 : BitVec 32 := 0#32
  let v389 : BitVec 1 := Scalar.cmpi .slt v385 c0_i32_466
  let v390 : BitVec 1 := Scalar.xori v388 v389
  let c0_i32_464 : BitVec 32 := 0#32
  let v387 : BitVec 1 := Scalar.cmpi .ne v386 c0_i32_464
  let v391 : BitVec 1 := Scalar.andi v390 v387
  let v392 : BitVec 32 := Scalar.addi v386 v385
  let v393 : BitVec 32 := Scalar.select v391 v392 v386
  let c1_i32_558 : BitVec 32 := 1#32
  let c6_i32_559 : BitVec 32 := 6#32
  let c0_i32_560 : BitVec 32 := 0#32
  let c0_i32_561 : BitVec 32 := 0#32
  ![v393.toNat, 1, 6, 0, 0]
def k0_off409 (k0_t20 : Fin k0_t20_loop.trips) : Fin 2 → Nat :=
  let c0_i32_398 : BitVec 32 := 0#32
  let c0_i32_359 : BitVec 32 := 0#32
  let c1_i32_361 : BitVec 32 := 1#32
  let arg16 : BitVec 32 := Scf.iv c0_i32_359 c1_i32_361 k0_t20
  let c1_i32_397 : BitVec 32 := 1#32
  let v248 : BitVec 32 := Scalar.muli arg16 c1_i32_397
  let v249 : BitVec 32 := Scalar.addi c0_i32_398 v248
  let c4_i32_430 : BitVec 32 := 4#32
  let v320 : BitVec 32 := Scalar.addi v249 c4_i32_430
  let c0_i32_449 : BitVec 32 := 0#32
  let v358 : BitVec 1 := Scalar.cmpi .sgt v320 c0_i32_449
  let v359 : BitVec 32 := Scalar.extui v358
  let c0_i32_450 : BitVec 32 := 0#32
  let v360 : BitVec 1 := Scalar.cmpi .slt v320 c0_i32_450
  let v361 : BitVec 32 := Scalar.extui v360
  let v362 : BitVec 32 := Scalar.subi v359 v361
  let c64_i32_448 : BitVec 32 := 64#32
  let c0_i32_451 : BitVec 32 := 0#32
  let v363 : BitVec 1 := Scalar.cmpi .sgt c64_i32_448 c0_i32_451
  let v364 : BitVec 32 := Scalar.extui v363
  let c0_i32_452 : BitVec 32 := 0#32
  let v365 : BitVec 1 := Scalar.cmpi .slt c64_i32_448 c0_i32_452
  let v366 : BitVec 32 := Scalar.extui v365
  let v367 : BitVec 32 := Scalar.subi v364 v366
  let v368 : BitVec 1 := Scalar.cmpi .ne v362 v367
  let v369 : BitVec 32 := Scalar.remsi v320 c64_i32_448
  let c0_i32_453 : BitVec 32 := 0#32
  let v370 : BitVec 1 := Scalar.cmpi .ne v369 c0_i32_453
  let v371 : BitVec 1 := Scalar.andi v368 v370
  let v357 : BitVec 32 := Scalar.divsi v320 c64_i32_448
  let c1_i32_454 : BitVec 32 := 1#32
  let v372 : BitVec 32 := Scalar.subi v357 c1_i32_454
  let v373 : BitVec 32 := Scalar.select v371 v372 v357
  let v515 : Index := Scalar.indexCast v373
  let c64_i32_455 : BitVec 32 := 64#32
  let c0_i32_456 : BitVec 32 := 0#32
  let v374 : BitVec 1 := Scalar.cmpi .eq c64_i32_455 c0_i32_456
  let c1_i32_457 : BitVec 32 := 1#32
  let v375 : BitVec 32 := Scalar.select v374 c1_i32_457 c64_i32_455
  let v376 : BitVec 32 := Scalar.remsi v320 v375
  let c0_i32_459 : BitVec 32 := 0#32
  let v378 : BitVec 1 := Scalar.cmpi .slt v376 c0_i32_459
  let c0_i32_460 : BitVec 32 := 0#32
  let v379 : BitVec 1 := Scalar.cmpi .slt v375 c0_i32_460
  let v380 : BitVec 1 := Scalar.xori v378 v379
  let c0_i32_458 : BitVec 32 := 0#32
  let v377 : BitVec 1 := Scalar.cmpi .ne v376 c0_i32_458
  let v381 : BitVec 1 := Scalar.andi v380 v377
  let v382 : BitVec 32 := Scalar.addi v376 v375
  let v383 : BitVec 32 := Scalar.select v381 v382 v376
  let c8_i32_564 : BitVec 32 := 8#32
  let v513 : BitVec 32 := Scalar.muli v383 c8_i32_564
  let c7_i32 : BitVec 32 := 7#32
  let v514 : BitVec 32 := Scalar.addi v513 c7_i32
  let v516 : Index := Scalar.indexCast v514
  ![v515.toNat, v516.toNat]
def k0_off410 (k0_t20 : Fin k0_t20_loop.trips) : Fin 5 → Nat :=
  let c0_i32_398 : BitVec 32 := 0#32
  let c0_i32_359 : BitVec 32 := 0#32
  let c1_i32_361 : BitVec 32 := 1#32
  let arg16 : BitVec 32 := Scf.iv c0_i32_359 c1_i32_361 k0_t20
  let c1_i32_397 : BitVec 32 := 1#32
  let v248 : BitVec 32 := Scalar.muli arg16 c1_i32_397
  let v249 : BitVec 32 := Scalar.addi c0_i32_398 v248
  let c4_i32_430 : BitVec 32 := 4#32
  let v320 : BitVec 32 := Scalar.addi v249 c4_i32_430
  let c4_i32_461 : BitVec 32 := 4#32
  let c0_i32_462 : BitVec 32 := 0#32
  let v384 : BitVec 1 := Scalar.cmpi .eq c4_i32_461 c0_i32_462
  let c1_i32_463 : BitVec 32 := 1#32
  let v385 : BitVec 32 := Scalar.select v384 c1_i32_463 c4_i32_461
  let v386 : BitVec 32 := Scalar.remsi v320 v385
  let c0_i32_465 : BitVec 32 := 0#32
  let v388 : BitVec 1 := Scalar.cmpi .slt v386 c0_i32_465
  let c0_i32_466 : BitVec 32 := 0#32
  let v389 : BitVec 1 := Scalar.cmpi .slt v385 c0_i32_466
  let v390 : BitVec 1 := Scalar.xori v388 v389
  let c0_i32_464 : BitVec 32 := 0#32
  let v387 : BitVec 1 := Scalar.cmpi .ne v386 c0_i32_464
  let v391 : BitVec 1 := Scalar.andi v390 v387
  let v392 : BitVec 32 := Scalar.addi v386 v385
  let v393 : BitVec 32 := Scalar.select v391 v392 v386
  let c0_i32_565 : BitVec 32 := 0#32
  let c7_i32_566 : BitVec 32 := 7#32
  let c0_i32_567 : BitVec 32 := 0#32
  let c0_i32_568 : BitVec 32 := 0#32
  ![v393.toNat, 0, 7, 0, 0]
def k0_off411 (v517 : BitVec 32) : Fin 3 → Nat :=
  let c0_i32_569 : BitVec 32 := 0#32
  let c0_i32_570 : BitVec 32 := 0#32
  ![v517.toNat, 0, 0]

def k0_chk41 (k0_t20 : Fin k0_t20_loop.trips) (v352 : BitVec 32) (v517 : BitVec 32) : Prop :=
  (∀ (k0_h8 : k0_cond8 k0_t20 = 1#1), ∀ (k0_h9 : k0_cond9 k0_t20 v352 = 1#1), ∀ a, (k0_off411 v517) a + S1x576x128.size a ≤ S3840x576x128.size a) ∧
  (∀ (k0_h8 : k0_cond8 k0_t20 = 1#1), ∀ (k0_h9 : k0_cond9 k0_t20 v352 = 1#1), ∀ (hinb : ∀ a, (k0_off411 v517) a + S1x576x128.size a ≤ S3840x576x128.size a), (Rect.unit (s := S3840x576x128) (k0_off411 v517) S1x576x128.size hinb).WholeWords (EltTy.packing .fp8e4m3))
theorem k0_off411_inb : ∀ (k0_t20 : Fin k0_t20_loop.trips) (v352 : BitVec 32) (v517 : BitVec 32) (k0_hw41 : k0_chk41 k0_t20 v352 v517), ∀ (k0_h8 : k0_cond8 k0_t20 = 1#1), ∀ (k0_h9 : k0_cond9 k0_t20 v352 = 1#1), ∀ a, (k0_off411 v517) a + S1x576x128.size a ≤ S3840x576x128.size a := fun k0_t20 v352 v517 k0_hw41 k0_h8 k0_h9 => k0_hw41.1 k0_h8 k0_h9
theorem k0_off411_wordsfp8e4m3 : ∀ (k0_t20 : Fin k0_t20_loop.trips) (v352 : BitVec 32) (v517 : BitVec 32) (k0_hw41 : k0_chk41 k0_t20 v352 v517), ∀ (k0_h8 : k0_cond8 k0_t20 = 1#1), ∀ (k0_h9 : k0_cond9 k0_t20 v352 = 1#1), (Rect.unit (s := S3840x576x128) (k0_off411 v517) S1x576x128.size (k0_off411_inb k0_t20 v352 v517 k0_hw41 k0_h8 k0_h9)).WholeWords (EltTy.packing .fp8e4m3) := fun k0_t20 v352 v517 k0_hw41 k0_h8 k0_h9 => k0_hw41.2 k0_h8 k0_h9 (k0_off411_inb k0_t20 v352 v517 k0_hw41 k0_h8 k0_h9)

def k0_off412 (k0_t20 : Fin k0_t20_loop.trips) : Fin 1 → Nat :=
  let c0_i32_398 : BitVec 32 := 0#32
  let c0_i32_359 : BitVec 32 := 0#32
  let c1_i32_361 : BitVec 32 := 1#32
  let arg16 : BitVec 32 := Scf.iv c0_i32_359 c1_i32_361 k0_t20
  let c1_i32_397 : BitVec 32 := 1#32
  let v248 : BitVec 32 := Scalar.muli arg16 c1_i32_397
  let v249 : BitVec 32 := Scalar.addi c0_i32_398 v248
  let c4_i32_430 : BitVec 32 := 4#32
  let v320 : BitVec 32 := Scalar.addi v249 c4_i32_430
  let c4_i32_461 : BitVec 32 := 4#32
  let c0_i32_462 : BitVec 32 := 0#32
  let v384 : BitVec 1 := Scalar.cmpi .eq c4_i32_461 c0_i32_462
  let c1_i32_463 : BitVec 32 := 1#32
  let v385 : BitVec 32 := Scalar.select v384 c1_i32_463 c4_i32_461
  let v386 : BitVec 32 := Scalar.remsi v320 v385
  let c0_i32_465 : BitVec 32 := 0#32
  let v388 : BitVec 1 := Scalar.cmpi .slt v386 c0_i32_465
  let c0_i32_466 : BitVec 32 := 0#32
  let v389 : BitVec 1 := Scalar.cmpi .slt v385 c0_i32_466
  let v390 : BitVec 1 := Scalar.xori v388 v389
  let c0_i32_464 : BitVec 32 := 0#32
  let v387 : BitVec 1 := Scalar.cmpi .ne v386 c0_i32_464
  let v391 : BitVec 1 := Scalar.andi v390 v387
  let v392 : BitVec 32 := Scalar.addi v386 v385
  let v393 : BitVec 32 := Scalar.select v391 v392 v386
  ![v393.toNat]
def k0_off413 (k0_t20 : Fin k0_t20_loop.trips) : Fin 5 → Nat :=
  let c0_i32_398 : BitVec 32 := 0#32
  let c0_i32_359 : BitVec 32 := 0#32
  let c1_i32_361 : BitVec 32 := 1#32
  let arg16 : BitVec 32 := Scf.iv c0_i32_359 c1_i32_361 k0_t20
  let c1_i32_397 : BitVec 32 := 1#32
  let v248 : BitVec 32 := Scalar.muli arg16 c1_i32_397
  let v249 : BitVec 32 := Scalar.addi c0_i32_398 v248
  let c4_i32_430 : BitVec 32 := 4#32
  let v320 : BitVec 32 := Scalar.addi v249 c4_i32_430
  let c4_i32_461 : BitVec 32 := 4#32
  let c0_i32_462 : BitVec 32 := 0#32
  let v384 : BitVec 1 := Scalar.cmpi .eq c4_i32_461 c0_i32_462
  let c1_i32_463 : BitVec 32 := 1#32
  let v385 : BitVec 32 := Scalar.select v384 c1_i32_463 c4_i32_461
  let v386 : BitVec 32 := Scalar.remsi v320 v385
  let c0_i32_465 : BitVec 32 := 0#32
  let v388 : BitVec 1 := Scalar.cmpi .slt v386 c0_i32_465
  let c0_i32_466 : BitVec 32 := 0#32
  let v389 : BitVec 1 := Scalar.cmpi .slt v385 c0_i32_466
  let v390 : BitVec 1 := Scalar.xori v388 v389
  let c0_i32_464 : BitVec 32 := 0#32
  let v387 : BitVec 1 := Scalar.cmpi .ne v386 c0_i32_464
  let v391 : BitVec 1 := Scalar.andi v390 v387
  let v392 : BitVec 32 := Scalar.addi v386 v385
  let v393 : BitVec 32 := Scalar.select v391 v392 v386
  let c1_i32_571 : BitVec 32 := 1#32
  let c7_i32_572 : BitVec 32 := 7#32
  let c0_i32_573 : BitVec 32 := 0#32
  let c0_i32_574 : BitVec 32 := 0#32
  ![v393.toNat, 1, 7, 0, 0]
abbrev stage0_0 : Fin 1 → Memref sig .tc .smem S6x512 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S6 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Reference.lean ====
abbrev S3840x16x36x128 : Shape := ⟨4, ![3840, 16, 36, 128]⟩
abbrev S3840x16x36 : Shape := ⟨3, ![3840, 16, 36]⟩
abbrev S6x512 : Shape := ⟨2, ![6, 512]⟩
abbrev S6 : Shape := ⟨1, ![6]⟩
abbrev S_ : Shape := ⟨0, ![]⟩
abbrev S6x512x1 : Shape := ⟨3, ![6, 512, 1]⟩
abbrev S6x512x16x36x128 : Shape := ⟨5, ![6, 512, 16, 36, 128]⟩
abbrev S6x8192x36x128 : Shape := ⟨4, ![6, 8192, 36, 128]⟩
abbrev S6x512x16x36 : Shape := ⟨4, ![6, 512, 16, 36]⟩
abbrev S6x8192x36 : Shape := ⟨3, ![6, 8192, 36]⟩
abbrev S8192 : Shape := ⟨1, ![8192]⟩
abbrev S1x8192 : Shape := ⟨2, ![1, 8192]⟩
abbrev S6x1 : Shape := ⟨2, ![6, 1]⟩
abbrev S6x8192 : Shape := ⟨2, ![6, 8192]⟩
abbrev S6x8192x1x1 : Shape := ⟨4, ![6, 8192, 1, 1]⟩
abbrev S6x8192x36x1 : Shape := ⟨4, ![6, 8192, 36, 1]⟩

abbrev nBuf : Space → Nat
  | .hbm => 55
  | .vmem => 7
  | .smem => 0
  | _ => 0

abbrev bufTy : (tb : Table) → Fin (tcTables nBuf tb) → BufTy
  | .hbm, ⟨0, _⟩ => ⟨S3840x16x36x128, .fp8e4m3⟩
  | .hbm, ⟨1, _⟩ => ⟨S3840x16x36x128, .fp8e4m3⟩
  | .hbm, ⟨2, _⟩ => ⟨S3840x16x36, .f32⟩
  | .hbm, ⟨3, _⟩ => ⟨S3840x16x36, .f32⟩
  | .hbm, ⟨4, _⟩ => ⟨S6x512, .i32⟩
  | .hbm, ⟨5, _⟩ => ⟨S6, .i32⟩
  | .hbm, ⟨6, _⟩ => ⟨S_, .i32⟩
  | .hbm, ⟨7, _⟩ => ⟨S6x512, .i32⟩
  | .hbm, ⟨8, _⟩ => ⟨S6x512, .i1⟩
  | .hbm, ⟨9, _⟩ => ⟨S_, .i32⟩
  | .hbm, ⟨10, _⟩ => ⟨S6x512, .i32⟩
  | .hbm, ⟨11, _⟩ => ⟨S6x512, .i32⟩
  | .hbm, ⟨12, _⟩ => ⟨S6x512, .i32⟩
  | .hbm, ⟨13, _⟩ => ⟨S6x512x1, .i32⟩
  | .hbm, ⟨14, _⟩ => ⟨S6x512x16x36x128, .fp8e4m3⟩
  | .hbm, ⟨15, _⟩ => ⟨S6x8192x36x128, .fp8e4m3⟩
  | .hbm, ⟨16, _⟩ => ⟨S_, .i32⟩
  | .hbm, ⟨17, _⟩ => ⟨S6x512, .i32⟩
  | .hbm, ⟨18, _⟩ => ⟨S6x512, .i1⟩
  | .hbm, ⟨19, _⟩ => ⟨S_, .i32⟩
  | .hbm, ⟨20, _⟩ => ⟨S6x512, .i32⟩
  | .hbm, ⟨21, _⟩ => ⟨S6x512, .i32⟩
  | .hbm, ⟨22, _⟩ => ⟨S6x512, .i32⟩
  | .hbm, ⟨23, _⟩ => ⟨S6x512x1, .i32⟩
  | .hbm, ⟨24, _⟩ => ⟨S6x512x16x36x128, .fp8e4m3⟩
  | .hbm, ⟨25, _⟩ => ⟨S6x8192x36x128, .fp8e4m3⟩
  | .hbm, ⟨26, _⟩ => ⟨S_, .i32⟩
  | .hbm, ⟨27, _⟩ => ⟨S6x512, .i32⟩
  | .hbm, ⟨28, _⟩ => ⟨S6x512, .i1⟩
  | .hbm, ⟨29, _⟩ => ⟨S_, .i32⟩
  | .hbm, ⟨30, _⟩ => ⟨S6x512, .i32⟩
  | .hbm, ⟨31, _⟩ => ⟨S6x512, .i32⟩
  | .hbm, ⟨32, _⟩ => ⟨S6x512, .i32⟩
  | .hbm, ⟨33, _⟩ => ⟨S6x512x1, .i32⟩
  | .hbm, ⟨34, _⟩ => ⟨S6x512x16x36, .f32⟩
  | .hbm, ⟨35, _⟩ => ⟨S6x8192x36, .f32⟩
  | .hbm, ⟨36, _⟩ => ⟨S_, .i32⟩
  | .hbm, ⟨37, _⟩ => ⟨S6x512, .i32⟩
  | .hbm, ⟨38, _⟩ => ⟨S6x512, .i1⟩
  | .hbm, ⟨39, _⟩ => ⟨S_, .i32⟩
  | .hbm, ⟨40, _⟩ => ⟨S6x512, .i32⟩
  | .hbm, ⟨41, _⟩ => ⟨S6x512, .i32⟩
  | .hbm, ⟨42, _⟩ => ⟨S6x512, .i32⟩
  | .hbm, ⟨43, _⟩ => ⟨S6x512x1, .i32⟩
  | .hbm, ⟨44, _⟩ => ⟨S6x512x16x36, .f32⟩
  | .hbm, ⟨45, _⟩ => ⟨S6x8192x36, .f32⟩
  | .hbm, ⟨46, _⟩ => ⟨S8192, .i32⟩
  | .hbm, ⟨47, _⟩ => ⟨S1x8192, .i32⟩
  | .hbm, ⟨48, _⟩ => ⟨S6x1, .i32⟩
  | .hbm, ⟨49, _⟩ => ⟨S6x8192, .i32⟩
  | .hbm, ⟨50, _⟩ => ⟨S6x8192, .i32⟩
  | .hbm, ⟨51, _⟩ => ⟨S6x8192, .i1⟩
  | .hbm, ⟨52, _⟩ => ⟨S6x8192, .i32⟩
  | .hbm, ⟨53, _⟩ => ⟨S6x8192x36x128, .bf16⟩
  | .hbm, ⟨54, _⟩ => ⟨S6x8192x36x128, .bf16⟩
  | .local _ .vmem, ⟨0, _⟩ => ⟨S6x8192x36x128, .fp8e4m3⟩
  | .local _ .vmem, ⟨1, _⟩ => ⟨S6x8192x36x128, .fp8e4m3⟩
  | .local _ .vmem, ⟨2, _⟩ => ⟨S6x8192x36, .f32⟩
  | .local _ .vmem, ⟨3, _⟩ => ⟨S6x8192x36, .f32⟩
  | .local _ .vmem, ⟨4, _⟩ => ⟨S6x8192, .i32⟩
  | .local _ .vmem, ⟨5, _⟩ => ⟨S6x8192x36x128, .bf16⟩
  | .local _ .vmem, ⟨6, _⟩ => ⟨S6x8192x36x128, .bf16⟩
  | _, _ => ⟨S3840x16x36x128, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c_1 : Ref sig .tc := ⟨.hbm, 16, rfl⟩
abbrev main_v8 : Ref sig .tc := ⟨.hbm, 17, rfl⟩
abbrev main_v9 : Ref sig .tc := ⟨.hbm, 18, rfl⟩
abbrev main_c_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_c_3 : Ref sig .tc := ⟨.hbm, 26, rfl⟩
abbrev main_v16 : Ref sig .tc := ⟨.hbm, 27, rfl⟩
abbrev main_v17 : Ref sig .tc := ⟨.hbm, 28, rfl⟩
abbrev main_c_4 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_c_5 : Ref sig .tc := ⟨.hbm, 36, rfl⟩
abbrev main_v24 : Ref sig .tc := ⟨.hbm, 37, rfl⟩
abbrev main_v25 : Ref sig .tc := ⟨.hbm, 38, rfl⟩
abbrev main_c_6 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39_0 : Ref sig .tc := ⟨.hbm, 53, rfl⟩
abbrev main_v39_1 : Ref sig .tc := ⟨.hbm, 54, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S6x8192x36x128 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S6x8192x36x128 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S6x8192x36 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S6x8192x36 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S6x8192 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S6x8192x36x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S6x8192x36x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.Words.lean ====
/- The index arithmetic of the kernel, done on 32-bit words: floor division and floor remainder as the kernel
   computes them, the item counter, and their values as natural numbers. -/
module

public import proofs.«01_k».proof.Proof.Gen.Kernel
public import Idealize.ShloMosaic.Lib.Routing.Words

@[expose] public section

set_option maxRecDepth 16384

noncomputable section

namespace Cert.Kernel

open Idealize.ShloMosaic

/-- Floor division of signed words, as the kernel spells it. -/
def fdiv (a b : BitVec 32) : BitVec 32 :=
  Scalar.select (Scalar.andi
      (Scalar.cmpi .ne (Scalar.subi (Scalar.extui (Scalar.cmpi .sgt a 0#32)) (Scalar.extui (Scalar.cmpi .slt a 0#32)) : BitVec 32)
        (Scalar.subi (Scalar.extui (Scalar.cmpi .sgt b 0#32)) (Scalar.extui (Scalar.cmpi .slt b 0#32))))
      (Scalar.cmpi .ne (Scalar.remsi a b) 0#32))
    (Scalar.subi (Scalar.divsi a b) 1#32) (Scalar.divsi a b)

/-- The divisor guarded against zero. -/
def fdvsr (b : BitVec 32) : BitVec 32 := Scalar.select (Scalar.cmpi .eq b 0#32) 1#32 b

/-- Floor remainder of signed words, as the kernel spells it. -/
def fmod (a b : BitVec 32) : BitVec 32 :=
  Scalar.select (Scalar.andi
      (Scalar.xori (Scalar.cmpi .slt (Scalar.remsi a (fdvsr b)) 0#32) (Scalar.cmpi .slt (fdvsr b) 0#32))
      (Scalar.cmpi .ne (Scalar.remsi a (fdvsr b)) 0#32))
    (Scalar.addi (Scalar.remsi a (fdvsr b)) (fdvsr b)) (Scalar.remsi a (fdvsr b))

/-- A loop counter's word, at trip `k`. -/
def itw (k : ℕ) : BitVec 32 := Scalar.addi 0#32 (Scalar.muli (Scf.iv 0#32 1#32 k) 1#32)

theorem itw_eq (k : ℕ) : itw k = BitVec.ofNat 32 k := by
  simp [itw, Scf.iv, Scalar.addi, Scalar.muli, IntOp.addi, IntOp.muli]

theorem slt_zero_ofNat {n : ℕ} (hn : n < 2 ^ 31) : (BitVec.ofNat 32 n).slt 0#32 = false := by
  rw [BitVec.slt_zero_eq_msb]; exact BitVec.msb_eq_false_iff_two_mul_lt.2 (by rw [BitVec.toNat_ofNat, Nat.mod_eq_of_lt (by omega)]; omega)

theorem cmpi_slt_zero {n : ℕ} (hn : n < 2 ^ 31) : Scalar.cmpi .slt (BitVec.ofNat 32 n) 0#32 = 0#1 := by
  simp [Scalar.cmpi, IntOp.cmpi, slt_zero_ofNat hn]

theorem remsi_ofNat {n d : ℕ} (hn : n < 2 ^ 31) (h0 : 0 < d) (hd : d < 2 ^ 31) :
    Scalar.remsi (BitVec.ofNat 32 n) (BitVec.ofNat 32 d) = BitVec.ofNat 32 (n % d) :=
  Routing.remsi_word _ hn h0 hd

theorem divsi_ofNat {n d : ℕ} (hn : n < 2 ^ 31) (h0 : 0 < d) (hd : d < 2 ^ 31) :
    Scalar.divsi (BitVec.ofNat 32 n) (BitVec.ofNat 32 d) = BitVec.ofNat 32 (n / d) :=
  Routing.divsi_word _ hn h0 hd

theorem select_zero {α : Type} (x y : α) : Scalar.select 0#1 x y = y := rfl
theorem select_one {α : Type} (x y : α) : Scalar.select 1#1 x y = x := rfl

theorem fdvsr_ofNat {d : ℕ} (h0 : 0 < d) (hd : d < 2 ^ 31) : fdvsr (BitVec.ofNat 32 d) = BitVec.ofNat 32 d := by
  have : (BitVec.ofNat 32 d == 0#32) = false := by
    rw [beq_eq_false_iff_ne]; intro h
    have := congrArg BitVec.toNat h
    rw [BitVec.toNat_ofNat, Nat.mod_eq_of_lt (by omega)] at this; simp at this; omega
  simp [fdvsr, Scalar.cmpi, IntOp.cmpi, this, Scalar.select]

theorem fmod_ofNat {n d : ℕ} (hn : n < 2 ^ 31) (h0 : 0 < d) (hd : d < 2 ^ 31) :
    fmod (BitVec.ofNat 32 n) (BitVec.ofNat 32 d) = BitVec.ofNat 32 (n % d) := by
  have hm : n % d < 2 ^ 31 := (Nat.mod_lt _ h0).trans hd
  unfold fmod
  rw [fdvsr_ofNat h0 hd, remsi_ofNat hn h0 hd, cmpi_slt_zero hm, cmpi_slt_zero hd]
  have : Scalar.andi (Scalar.xori 0#1 0#1) (Scalar.cmpi .ne (BitVec.ofNat 32 (n % d)) 0#32) = 0#1 := by
    simp [Scalar.andi, Scalar.xori, IntOp.andi, IntOp.xori]
  rw [this, select_zero]

theorem fdiv_ofNat {n d : ℕ} (hn : n < 2 ^ 31) (h0 : 0 < d) (hd : d < 2 ^ 31) :
    fdiv (BitVec.ofNat 32 n) (BitVec.ofNat 32 d) = BitVec.ofNat 32 (n / d) := by
  have pos : ∀ x : ℕ, 0 < x → x < 2 ^ 31 → Scalar.cmpi .sgt (BitVec.ofNat 32 x) 0#32 = 1#1 := by
    intro x hx hx'
    have : (0#32).slt (BitVec.ofNat 32 x) = true := by
      rw [BitVec.slt_eq_decide, decide_eq_true_eq, BitVec.toInt_ofNat', BitVec.toInt_ofNat']
      rw [Int.bmod_eq_of_le (by simp) (by simp), Int.bmod_eq_of_le (by omega) (by omega)]; omega
    simp [Scalar.cmpi, IntOp.cmpi, this]
  unfold fdiv
  rw [remsi_ofNat hn h0 hd, divsi_ofNat hn h0 hd, cmpi_slt_zero hn, cmpi_slt_zero hd, pos d h0 hd]
  have : Scalar.andi (Scalar.cmpi .ne (Scalar.subi (Scalar.extui (Scalar.cmpi .sgt (BitVec.ofNat 32 n) 0#32)) (Scalar.extui 0#1) : BitVec 32)
      (Scalar.subi (Scalar.extui 1#1) (Scalar.extui 0#1))) (Scalar.cmpi .ne (BitVec.ofNat 32 (n % d)) 0#32) = 0#1 := by
    rcases Nat.eq_zero_or_pos n with rfl | h
    · rw [Nat.zero_mod]; decide
    · rw [pos n h hn]
      have : (Scalar.cmpi .ne (Scalar.subi (Scalar.extui 1#1) (Scalar.extui 0#1) : BitVec 32) (Scalar.subi (Scalar.extui 1#1) (Scalar.extui 0#1))) = 0#1 := by decide
      rw [this]; simp [Scalar.andi, IntOp.andi]
  rw [this, select_zero]

theorem toNat_lt {n : ℕ} (h : n < 2 ^ 32) : (BitVec.ofNat 32 n).toNat = n := by
  rw [BitVec.toNat_ofNat, Nat.mod_eq_of_lt h]

end Cert.Kernel
-- ==== Proof.Geom.lean ====
/- The regions of the kernel's buffers that its transfers name, as plain sets of indices, and what a transfer
   leaves on the region it lands on. -/
module

public import proofs.«01_k».proof.Proof.Words
public import proofs.«01_k».proof.Proof.Gen.Kernel.Skeleton
public import Idealize.ShloMosaic.Lib.ValueLayout
public import Idealize.ShloMosaic.Lib.Exec.Geometry

@[expose] public section

set_option maxRecDepth 16384

noncomputable section

namespace Cert.Kernel

open Idealize.ShloMosaic Idealize.ShloMosaic.ValueIdx Cert.Kernel.Gen

variable {F : FTy → Type} [BitOps F]

/-! ## Regions -/

/-- One page of a pool. -/
def pageSet (n : ℕ) : Finset S3840x576x128.Idx := Finset.univ.filter fun x => (x 0).val = n
/-- The place in the ring of fetched pages of slot `s`, pool `t`, page `j` of its item. -/
def inBlk (s t j : ℕ) : Finset S4x2x8x576x128.Idx := Finset.univ.filter fun x => (x 0).val = s ∧ (x 1).val = t ∧ (x 2).val = j
/-- Slot `s` of the ring of fetched pages. -/
def inSlot (s : ℕ) : Finset S4x2x8x576x128.Idx := Finset.univ.filter fun x => (x 0).val = s
/-- Slot `s`, result `t`, of the ring of computed chunks. -/
def outHalf (s t : ℕ) : Finset S4x2x36x128x128.Idx := Finset.univ.filter fun x => (x 0).val = s ∧ (x 1).val = t
/-- Slot `s` of the ring of computed chunks. -/
def outSlot (s : ℕ) : Finset S4x2x36x128x128.Idx := Finset.univ.filter fun x => (x 0).val = s
/-- The part of a result written by item `i`. -/
def outBlk (i : ℕ) : Finset S6x36x8192x128.Idx := Finset.univ.filter fun x => (x 0).val = i / 64 ∧ (x 2).val / 128 = i % 64
/-- Slot `s` of the staging ring. -/
def stageSet (s : ℕ) : Finset S3x4x16x3840.Idx := Finset.univ.filter fun x => (x 0).val = s
/-- The four heads of one piece of the scales. -/
def pieceSet (p : ℕ) : Finset S36x16x3840.Idx := Finset.univ.filter fun x => (x 0).val / 4 = p

/-! ## The rectangles as regions -/

theorem page_rect (n : ℕ) (off : Fin 3 → ℕ) (ho : off = ![n, 0, 0]) (inb) :
    (Rect.unit (s := S3840x576x128) off S1x576x128.size inb).set = pageSet n := by
  subst ho
  ext x
  refine Rect.mem_set_unit.trans ?_
  have h1 : (x 1).val < 576 := (x 1).isLt
  have h2 : (x 2).val < 128 := (x 2).isLt
  simp only [pageSet, Finset.mem_filter, Finset.mem_univ, true_and]
  constructor
  · intro h
    have h0 : n ≤ (x 0).val ∧ (x 0).val < n + 1 := h 0
    omega
  · intro h a
    match a with
    | 0 => change n ≤ (x 0).val ∧ (x 0).val < n + 1; omega
    | 1 => change 0 ≤ (x 1).val ∧ (x 1).val < 0 + 576; omega
    | 2 => change 0 ≤ (x 2).val ∧ (x 2).val < 0 + 128; omega

theorem inBlk_rect (s t j : ℕ) (off : Fin 5 → ℕ) (ho : off = ![s, t, j, 0, 0]) (inb) :
    (Rect.unit (s := S4x2x8x576x128) off S1x1x1x576x128.size inb).set = inBlk s t j := by
  subst ho
  ext x
  refine Rect.mem_set_unit.trans ?_
  have h1 : (x 3).val < 576 := (x 3).isLt
  have h2 : (x 4).val < 128 := (x 4).isLt
  simp only [inBlk, Finset.mem_filter, Finset.mem_univ, true_and]
  constructor
  · intro h
    have h0 : s ≤ (x 0).val ∧ (x 0).val < s + 1 := h 0
    have h1 : t ≤ (x 1).val ∧ (x 1).val < t + 1 := h 1
    have h2 : j ≤ (x 2).val ∧ (x 2).val < j + 1 := h 2
    omega
  · intro h a
    match a with
    | 0 => change s ≤ (x 0).val ∧ (x 0).val < s + 1; omega
    | 1 => change t ≤ (x 1).val ∧ (x 1).val < t + 1; omega
    | 2 => change j ≤ (x 2).val ∧ (x 2).val < j + 1; omega
    | 3 => change 0 ≤ (x 3).val ∧ (x 3).val < 0 + 576; omega
    | 4 => change 0 ≤ (x 4).val ∧ (x 4).val < 0 + 128; omega

theorem outHalf_rect (s t : ℕ) (off : Fin 5 → ℕ) (ho : off = ![s, t, 0, 0, 0]) (inb) :
    (Rect.unit (s := S4x2x36x128x128) off S1x1x36x128x128.size inb).set = outHalf s t := by
  subst ho
  ext x
  refine Rect.mem_set_unit.trans ?_
  have h2 : (x 2).val < 36 := (x 2).isLt
  have h3 : (x 3).val < 128 := (x 3).isLt
  have h4 : (x 4).val < 128 := (x 4).isLt
  simp only [outHalf, Finset.mem_filter, Finset.mem_univ, true_and]
  constructor
  · intro h
    have h0 : s ≤ (x 0).val ∧ (x 0).val < s + 1 := h 0
    have h1 : t ≤ (x 1).val ∧ (x 1).val < t + 1 := h 1
    omega
  · intro h a
    match a with
    | 0 => change s ≤ (x 0).val ∧ (x 0).val < s + 1; omega
    | 1 => change t ≤ (x 1).val ∧ (x 1).val < t + 1; omega
    | 2 => change 0 ≤ (x 2).val ∧ (x 2).val < 0 + 36; omega
    | 3 => change 0 ≤ (x 3).val ∧ (x 3).val < 0 + 128; omega
    | 4 => change 0 ≤ (x 4).val ∧ (x 4).val < 0 + 128; omega

theorem outBlk_rect (i : ℕ) (off : Fin 4 → ℕ) (ho : off = ![i / 64, 0, i % 64 * 128, 0]) (inb) :
    (Rect.unit (s := S6x36x8192x128) off S1x36x128x128.size inb).set = outBlk i := by
  subst ho
  ext x
  refine Rect.mem_set_unit.trans ?_
  have h2 : (x 1).val < 36 := (x 1).isLt
  have h4 : (x 3).val < 128 := (x 3).isLt
  simp only [outBlk, Finset.mem_filter, Finset.mem_univ, true_and]
  constructor
  · intro h
    have h0 : i / 64 ≤ (x 0).val ∧ (x 0).val < i / 64 + 1 := h 0
    have h1 : i % 64 * 128 ≤ (x 2).val ∧ (x 2).val < i % 64 * 128 + 128 := h 2
    omega
  · intro h a
    match a with
    | 0 => change i / 64 ≤ (x 0).val ∧ (x 0).val < i / 64 + 1; omega
    | 1 => change 0 ≤ (x 1).val ∧ (x 1).val < 0 + 36; omega
    | 2 => change i % 64 * 128 ≤ (x 2).val ∧ (x 2).val < i % 64 * 128 + 128; omega
    | 3 => change 0 ≤ (x 3).val ∧ (x 3).val < 0 + 128; omega

theorem stage_rect (s : ℕ) (off : Fin 4 → ℕ) (ho : off = ![s, 0, 0, 0]) (inb) :
    (Rect.unit (s := S3x4x16x3840) off S1x4x16x3840.size inb).set = stageSet s := by
  subst ho
  ext x
  refine Rect.mem_set_unit.trans ?_
  have h2 : (x 1).val < 4 := (x 1).isLt
  have h3 : (x 2).val < 16 := (x 2).isLt
  have h4 : (x 3).val < 3840 := (x 3).isLt
  simp only [stageSet, Finset.mem_filter, Finset.mem_univ, true_and]
  constructor
  · intro h
    have h0 : s ≤ (x 0).val ∧ (x 0).val < s + 1 := h 0
    omega
  · intro h a
    match a with
    | 0 => change s ≤ (x 0).val ∧ (x 0).val < s + 1; omega
    | 1 => change 0 ≤ (x 1).val ∧ (x 1).val < 0 + 4; omega
    | 2 => change 0 ≤ (x 2).val ∧ (x 2).val < 0 + 16; omega
    | 3 => change 0 ≤ (x 3).val ∧ (x 3).val < 0 + 3840; omega

/-! ## Where an index of a transfer's end lies -/

theorem reshapeEquiv_ix2_111ab {a b : ℕ} (h : (⟨2, ![a, b]⟩ : Shape).numel = (⟨5, ![1, 1, 1, a, b]⟩ : Shape).numel)
    (x : Fin a) (y : Fin b) :
    Shape.reshapeEquiv h (ix2 x y) = ix5 (⟨0, Nat.one_pos⟩ : Fin 1) (⟨0, Nat.one_pos⟩ : Fin 1) (⟨0, Nat.one_pos⟩ : Fin 1) x y :=
  Shape.reshapeEquiv_eq_of_rowMajor h (by
    rw [Shape.rowMajor_val_five, Shape.rowMajor_val_two]
    show ((((0 * 1 + 0) * 1 + 0) * a + x.val) * b + y.val) = x.val * b + y.val
    simp only [Nat.zero_mul, Nat.zero_add])

theorem page_emb (n : Fin 3840) (off : Fin 3 → ℕ) (ho : off = ![n.val, 0, 0]) (inb) (h) (a : Fin 576) (b : Fin 128) :
    (Rect.unit (s := S3840x576x128) off S1x576x128.size inb).emb (Shape.reshapeEquiv h (ix2 a b)) = ix3 n a b := by
  subst ho
  rw [show Shape.reshapeEquiv h (ix2 a b) = _ from reshapeEquiv_ix2_1ab h a b]
  funext i
  apply Fin.ext
  match i with
  | 0 => exact Nat.add_zero _ |>.trans rfl
  | 1 => change 0 + 1 * a.val = a.val; omega
  | 2 => change 0 + 1 * b.val = b.val; omega

theorem inBlk_emb (s : Fin 4) (t : Fin 2) (j : Fin 8) (off : Fin 5 → ℕ) (ho : off = ![s.val, t.val, j.val, 0, 0]) (inb) (h)
    (a : Fin 576) (b : Fin 128) :
    (Rect.unit (s := S4x2x8x576x128) off S1x1x1x576x128.size inb).emb (Shape.reshapeEquiv h (ix2 a b)) = ix5 s t j a b := by
  subst ho
  rw [show Shape.reshapeEquiv h (ix2 a b) = _ from reshapeEquiv_ix2_111ab h a b]
  funext i
  apply Fin.ext
  match i with
  | 0 => change s.val + 1 * 0 = s.val; omega
  | 1 => change t.val + 1 * 0 = t.val; omega
  | 2 => change j.val + 1 * 0 = j.val; omega
  | 3 => change 0 + 1 * a.val = a.val; omega
  | 4 => change 0 + 1 * b.val = b.val; omega

theorem outHalf_emb (s : Fin 4) (t : Fin 2) (off : Fin 5 → ℕ) (ho : off = ![s.val, t.val, 0, 0, 0]) (inb) (h)
    (x : Fin 36) (y z : Fin 128) :
    (Rect.unit (s := S4x2x36x128x128) off S1x1x36x128x128.size inb).emb (Shape.reshapeEquiv h (ix3 x y z)) = ix5 s t x y z := by
  subst ho
  rw [show Shape.reshapeEquiv h (ix3 x y z) = _ from reshapeEquiv_ix3_11abc h x y z]
  funext i
  apply Fin.ext
  match i with
  | 0 => change s.val + 1 * 0 = s.val; omega
  | 1 => change t.val + 1 * 0 = t.val; omega
  | 2 => change 0 + 1 * x.val = x.val; omega
  | 3 => change 0 + 1 * y.val = y.val; omega
  | 4 => change 0 + 1 * z.val = z.val; omega

theorem outBlk_emb (i : ℕ) (hi : i < 384) (off : Fin 4 → ℕ) (ho : off = ![i / 64, 0, i % 64 * 128, 0]) (inb) (h)
    (x : Fin 36) (y z : Fin 128) :
    (Rect.unit (s := S6x36x8192x128) off S1x36x128x128.size inb).emb (Shape.reshapeEquiv h (ix3 x y z))
      = ix4 (⟨i / 64, by omega⟩ : Fin 6) x (⟨i % 64 * 128 + y.val, by omega⟩ : Fin 8192) z := by
  subst ho
  rw [show Shape.reshapeEquiv h (ix3 x y z) = _ from reshapeEquiv_ix3_1abc h x y z]
  funext k
  apply Fin.ext
  match k with
  | 0 => change i / 64 + 1 * 0 = i / 64; omega
  | 1 => change 0 + 1 * x.val = x.val; omega
  | 2 => change i % 64 * 128 + 1 * y.val = i % 64 * 128 + y.val; omega
  | 3 => change 0 + 1 * z.val = z.val; omega

theorem stage_emb (s : Fin 3) (off : Fin 4 → ℕ) (ho : off = ![s.val, 0, 0, 0]) (inb) (h)
    (x : Fin 4) (y : Fin 16) (z : Fin 3840) :
    (Rect.unit (s := S3x4x16x3840) off S1x4x16x3840.size inb).emb (Shape.reshapeEquiv h (ix3 x y z)) = ix4 s x y z := by
  subst ho
  rw [show Shape.reshapeEquiv h (ix3 x y z) = _ from reshapeEquiv_ix3_1abc h x y z]
  funext k
  apply Fin.ext
  match k with
  | 0 => change s.val + 1 * 0 = s.val; omega
  | 1 => change 0 + 1 * x.val = x.val; omega
  | 2 => change 0 + 1 * y.val = y.val; omega
  | 3 => change 0 + 1 * z.val = z.val; omega

/-! ## What a transfer leaves where it lands -/

section Land
variable {Val : EltTy → Type} {sp sp' : Space} {s : Shape} {e : EltTy}

/-- A copy through two views of one shape: where it lands, it leaves what the source held at the same index. -/
theorem land (src : View sig .tc sp s e) (dst : View sig .tc sp' s e) (fs : src.ty.Contents Val) (fd : dst.ty.Contents Val)
    (G : dst.ty.Contents Val)
    (h : ∀ y, G (dst.emb y) = _root_.cast (congrArg Val dst.elt_eq.symm) (src.read Val fs y)) :
    ∀ i ∈ dst.set, dst.write Val fd ((ReadAs.same).apply (src.read Val fs)) Finset.univ i = G i := by
  intro i hi
  obtain ⟨y, -, rfl⟩ := Finset.mem_map.mp hi
  rw [View.write_emb_of_mem (h := Finset.mem_univ y), h y]

end Land

end Cert.Kernel
-- ==== Proof.Model.lean ====
/- The values the kernel computes, as functions of what it reads: the page table, the lengths, the two pools of
   codes and the two tables of scales. -/
module

public import proofs.«01_k».proof.Proof.Geom

@[expose] public section

set_option maxRecDepth 16384

noncomputable section

namespace Cert.Kernel

open Idealize.ShloMosaic Idealize.ShloMosaic.ValueIdx Cert.Kernel.Gen

variable {F : FTy → Type} [BitOps F]

variable (pt : S6x512.Idx → BitVec 32) (ln : S6.Idx → BitVec 32)
  (pool : Fin 2 → S3840x576x128.Idx → Elt F .fp8e4m3) (sc : Fin 2 → S36x16x3840.Idx → Elt F .f32)

/-- The word of the page table at request `b`, page `p`. -/
def pword (b p : ℕ) : BitVec 32 := pt (ix2 ⟨b % 6, Nat.mod_lt _ (by decide)⟩ ⟨p % 512, Nat.mod_lt _ (by decide)⟩)
/-- The page of the pool it names. -/
def pidx (b p : ℕ) : Fin 3840 := ⟨(pword pt b p).toNat % 3840, Nat.mod_lt _ (by decide)⟩
/-- The length word of request `b`. -/
def lword (b : ℕ) : BitVec 32 := ln (ix1 ⟨b % 6, Nat.mod_lt _ (by decide)⟩)
/-- How many tokens are left at page `p` of request `b`. -/
def leftW (b p : ℕ) : BitVec 32 := Scalar.subi (lword ln b) (BitVec.ofNat 32 (p * 16))
/-- Whether item `i` (chunk `i % 64` of request `i / 64`) has a live token. -/
def validItem (i : ℕ) : Prop := Scalar.cmpi .sgt (lword ln (i / 64)) (BitVec.ofNat 32 (i % 64 * 128)) = 1#1

instance (i : ℕ) : Decidable (validItem ln i) := inferInstanceAs (Decidable (_ = _))

/-- What the ring of fetched pages holds, at the slot of item `i`, once its pages have landed. -/
def inTgt (i : ℕ) : S4x2x8x576x128.Idx → Elt F .fp8e4m3 := fun x =>
  pool (x 1) (ix3 (pidx pt (i / 64) (i % 64 * 8 + (x 2).val)) (x 3) (x 4))

/-- One tile of a head's scales. -/
def scTile (t : Fin 2) (h : Fin 36) (g : Fin 30) : Vec F S1x1x16x128 .f32 := fun y =>
  sc t (ix3 h (y 2) ⟨g.val * 128 + (y 3).val, by
    have h3 : (y 3).val < 128 := (y 3).isLt
    have := g.isLt; omega⟩)

/-- The table of packed scales. -/
def tabT : S2x36x30x8x128.Idx → BitVec 32 := fun x =>
  k0_pay1 (scTile sc (x 0) (x 1) (x 2)) (ix5 (0 : Fin 1) (0 : Fin 1) (0 : Fin 1) (x 3) (x 4))

/-- The sixteen rows of one head of one page: `u` tells which half of its pair the head is, `w` the page's word, `left`
    the tokens left, `codes` the pair's codes and `tab` the tile of packed scales. -/
def headPay (u : Fin 2) (w left : BitVec 32) (codes : Vec F S1x1x1x32x128 .fp8e4m3) (tab : Vec F S1x1x1x8x128 .i32) :
    FVec F S1x1x1x16x128 .bf16 :=
  match u with
  | 0 => k0_pay59 (k0_pay58 left (k0_pay55 (F := F) w) codes tab)
  | 1 => k0_pay60 (k0_pay55 (F := F) w) (k0_pay56 left) (k0_pay57 codes) tab

/-- The codes of the pair of heads `pr` of page `n`. -/
def codesOf (t : Fin 2) (n : Fin 3840) (pr : Fin 18) : Vec F S1x1x1x32x128 .fp8e4m3 := fun y =>
  pool t (ix3 n ⟨pr.val * 32 + (y 3).val, by
    have h3 : (y 3).val < 32 := (y 3).isLt
    have := pr.isLt; omega⟩ (y 4))

/-- The tile `g` of head `h` in the table of packed scales. -/
def tabOf (t : Fin 2) (h : Fin 36) (g : Fin 30) : Vec F S1x1x1x8x128 .i32 := fun y =>
  tabT sc (ix5 t h g (y 3) (y 4))

/-- The rows of head `h` of result `t` at page `p` of request `b`. -/
def outRow (b p : ℕ) (t : Fin 2) (h : Fin 36) : FVec F S1x1x1x16x128 .bf16 :=
  headPay ⟨h.val % 2, Nat.mod_lt _ (by decide)⟩ (pword pt b p) (leftW ln b p)
    (codesOf pool t (pidx pt b p) ⟨h.val / 2, by have := h.isLt; omega⟩)
    (tabOf sc t h ⟨(pidx pt b p).val / 128, by have := (pidx pt b p).isLt; omega⟩)

/-- What the ring of computed chunks holds, at the slot of item `i`, once it is computed. -/
def outTgt (i : ℕ) : S4x2x36x128x128.Idx → Elt F .bf16 := fun x =>
  outRow pt ln pool sc (i / 64) (i % 64 * 8 + (x 3).val / 16) (x 1) (x 2)
    (ix5 (0 : Fin 1) (0 : Fin 1) (0 : Fin 1) ⟨(x 3).val % 16, Nat.mod_lt _ (by decide)⟩ (x 4))

/-- The zero the kernel writes for the chunks without a live token. -/
def zeroB : S36x128x128.Idx → Elt F .bf16 := fun x => k0_pay212 (F := F) (ix3 (0 : Fin 1) (x 1) (x 2))

/-- A result of the kernel. -/
def resT (t : Fin 2) : S6x36x8192x128.Idx → Elt F .bf16 := fun x =>
  if validItem ln ((x 0).val * 64 + (x 2).val / 128) then
    outRow pt ln pool sc (x 0).val ((x 2).val / 16) t (x 1)
      (ix5 (0 : Fin 1) (0 : Fin 1) (0 : Fin 1) ⟨(x 2).val % 16, Nat.mod_lt _ (by decide)⟩ (x 3))
  else zeroB (F := F) (ix3 (x 1) ⟨(x 2).val % 128, Nat.mod_lt _ (by decide)⟩ (x 3))

end Cert.Kernel
-- ==== Proof.State.lean ====
/- The states of the two rings between the kernel's steps: what is in flight, and what is held. -/
module

public import proofs.«01_k».proof.Proof.Model
public import proofs.«01_k».proof.Proof.Gen.Kernel.Launch
public import Idealize.ShloMosaic.Lib.Pipeline.FrameBody
public import Idealize.ShloMosaic.Lib.Batch
public import Idealize.ShloMosaic.Lib.Tactic

@[expose] public section

set_option maxRecDepth 16384

noncomputable section

namespace Cert.Kernel

open Idealize.ShloMosaic Idealize.ShloMosaic.ValueIdx Idealize.ShloMosaic.TcCoe Idealize.ShloMosaic.Tactic Cert.Kernel.Gen
open Idealize.SL Idealize.SL.RA Idealize.SL.BI Idealize.SL.Sem
open scoped Idealize.SL.BI
open Idealize.SL.BI.BIBase Idealize.SL.BI.Laws Idealize.SL.ProofMode
open Idealize.ShloMosaic.Transfers

variable {F : FTy → Type} [BitOps F]

local notation "𝕄" => MT nD τ sig Unit (Elt F) ℕ (Pipeline.UD sig nD τ) ℕ

variable (pt : S6x512.Idx → BitVec 32) (ln : S6.Idx → BitVec 32)
  (pool : Fin 2 → S3840x576x128.Idx → Elt F .fp8e4m3) (sc : Fin 2 → S36x16x3840.Idx → Elt F .f32)
  (c : Dev nD)

/-- The counters' place in the proof's algebra. -/
abbrev EC : UEmb Counters (MT nD τ sig Unit (Elt F) ℕ (Pipeline.UD sig nD τ) ℕ) := countersEmb (U := Pipeline.UD sig nD τ)

abbrev L (b : Ref sig .tc) : Loc nD τ sig := (c : Thread nD τ).loc b

/-- The cells of the ring of fetched pages, of the ring of computed chunks and of the staging ring. -/
def inCell (s : Fin 4) : DmaSem sig := ⟨5 + s.val, by have := s.isLt; show 5 + s.val < 13; omega⟩
def outCell (s : Fin 4) : DmaSem sig := ⟨9 + s.val, by have := s.isLt; show 9 + s.val < 13; omega⟩
def stageCell (s : Fin 3) : DmaSem sig := ⟨2 + s.val, by have := s.isLt; show 2 + s.val < 13; omega⟩

theorem inCell_eq (s : Fin 4) (off : Fin 1 → ℕ) (ho : off = ![s.val]) (inb) (hq) :
    (((cc0_scratch6 : DmaSems sig S4).slice (Rect.unit (s := S4) off S1.size inb)).squeeze S_ hq).sem = inCell s := by
  subst ho; revert s; decide
theorem outCell_eq (s : Fin 4) (off : Fin 1 → ℕ) (ho : off = ![s.val]) (inb) (hq) :
    (((cc0_scratch7 : DmaSems sig S4).slice (Rect.unit (s := S4) off S1.size inb)).squeeze S_ hq).sem = outCell s := by
  subst ho; revert s; decide
theorem stageCell_eq (s : Fin 3) (off : Fin 1 → ℕ) (ho : off = ![s.val]) (inb) (hq) :
    (((cc0_scratch5 : DmaSems sig S3).slice (Rect.unit (s := S3) off S1.size inb)).squeeze S_ hq).sem = stageCell s := by
  subst ho; revert s; decide

/-- The credit of one page's transfer, and of one chunk's. -/
abbrev NIn : ℕ := (cc0_scratch2 : Ref sig .tc).dmaCredit S576x128 .fp8e4m3
abbrev NOut : ℕ := (main_v6_0 : Ref sig .tc).dmaCredit S36x128x128 .bf16
abbrev NStage : ℕ := (cc0_scratch1 : Ref sig .tc).dmaCredit S4x16x3840 .f32

theorem NOut1 : (main_v6_1 : Ref sig .tc).dmaCredit S36x128x128 .bf16 = NOut := by decide
theorem NIn8 : (cc0_scratch2 : Ref sig .tc).dmaCredit S8x576x128 .fp8e4m3 = 8 * NIn := by decide
theorem NIn_pos : 0 < NIn := by decide
theorem NOut_pos : 0 < NOut := by decide
theorem NStage_pos : 0 < NStage := by decide

/-- The share of a pool (or of the zeros) kept for slot `s` of a ring; and, of a pool, for page `j` of the slot. -/
abbrev qS (s : ℕ) : PosShare TreeShare := shareTokN fullShare s
abbrev qJ (s j : ℕ) : PosShare TreeShare := shareTokN (qS s) j

end Cert.Kernel
-- ==== Proof.Stage.lean ====
/- Packing the scales: the ring that stages them, four heads at a time, and the loops that pack them into the table. -/
module

public import proofs.«01_k».proof.Proof.State
public import proofs.«01_k».proof.Proof.Gen.Kernel.Skeleton

@[expose] public section

set_option maxRecDepth 16384

noncomputable section

namespace Cert.Kernel

open Idealize.ShloMosaic Idealize.ShloMosaic.ValueIdx Idealize.ShloMosaic.TcCoe Idealize.ShloMosaic.Tactic Cert.Kernel.Gen
open Idealize.SL Idealize.SL.RA Idealize.SL.BI Idealize.SL.Sem
open scoped Idealize.SL.BI
open Idealize.SL.BI.BIBase Idealize.SL.BI.Laws Idealize.SL.ProofMode
open Idealize.ShloMosaic.Transfers

variable {F : FTy → Type} [BitOps F]

local notation "𝕄" => MT nD τ sig Unit (Elt F) ℕ (Pipeline.UD sig nD τ) ℕ

variable (sc : Fin 2 → S36x16x3840.Idx → Elt F .f32) (c : Dev nD)

/-- Storing through a rectangle of a whole buffer, element by element. -/
theorem write_cases {Val : EltTy → Type} {b : Ref sig .tc} (r : Rect b.ty.shape) (f : b.ty.shape.Idx → Val b.ty.elt) (w : r.shape.Idx → Val b.ty.elt) (x : b.ty.shape.Idx) :
    (∃ y, x = r.emb y ∧ ((View.whole b).slice r).write Val f w Finset.univ x = w y)
      ∨ (x ∉ r.set ∧ ((View.whole b).slice r).write Val f w Finset.univ x = f x) := by
  by_cases h : x ∈ r.set
  · left
    rw [← Rect.map_emb_univ] at h
    obtain ⟨y, -, rfl⟩ := Finset.mem_map.mp h
    exact ⟨y, rfl, View.write_emb_of_mem (v := (View.whole b).slice r) f w (Finset.mem_univ y)⟩
  · exact .inr ⟨h, View.write_of_not_mem (v := (View.whole b).slice r) f w Finset.univ (by
      show x ∉ ((View.whole b).slice r).set
      rwa [View.set_slice_whole])⟩

/-- The contents of the staging slot of piece `p`: four heads' scales. -/
def stTgt (p : ℕ) : S3x4x16x3840.Idx → Elt F .f32 := fun x =>
  sc ⟨p / 9 % 2, Nat.mod_lt _ (by decide)⟩ (ix3 ⟨(p % 9 * 4 + (x 1).val) % 36, Nat.mod_lt _ (by decide)⟩ (x 2) (x 3))

/-- The table is packed up to head `m` (of four) of tile `k` of piece `p`. -/
def TabOk (p k m : ℕ) (f : S2x36x30x8x128.Idx → BitVec 32) : Prop :=
  ∀ x : S2x36x30x8x128.Idx, ((x 0).val * 9 + (x 1).val / 4 < p
      ∨ ((x 0).val * 9 + (x 1).val / 4 = p ∧ ((x 2).val < k ∨ ((x 2).val = k ∧ (x 1).val % 4 < m)))) → f x = tabT sc x

def StTab (p k m : ℕ) : sProp 𝕄 :=
  iprop((L c cc0_scratch1 ↦[stageSet (p % 3)]{fullShare} stTgt sc p) ∗ ∃ f, ⌜TabOk sc p k m f⌝ ∗ (L c cc0_scratch0 ↦{fullShare} f))

theorem tabOk_trip {p k : ℕ} {f} (h : TabOk sc p k 4 f) : TabOk sc p (k + 1) 0 f := by
  intro x hx
  have h2 : (x 1).val < 36 := (x 1).isLt
  exact h x (by omega)

theorem tabOk_piece {p : ℕ} {f} (h : TabOk sc p 30 0 f) : TabOk sc (p + 1) 0 0 f := by
  intro x hx
  have h2 : (x 2).val < 30 := (x 2).isLt
  exact h x (by omega)

theorem tabOk_end {f} (h : TabOk sc 18 0 0 f) : f = tabT sc := by
  funext x
  have h0 : (x 0).val < 2 := (x 0).isLt
  have h1 : (x 1).val < 36 := (x 1).isLt
  exact h x (by omega)

theorem tab_store (p : Fin 18) (k : Fin 30) (m : ℕ) (hm : m < 4) {off9 : Fin 4 → ℕ} {off8 : Fin 5 → ℕ} {inb9 inb8}
    (ho9 : off9 = ![p.val % 3, m, 0, k.val * 128]) (ho8 : off8 = ![p.val / 9, p.val % 9 * 4 + m, k.val, 0, 0])
    {f : S2x36x30x8x128.Idx → BitVec 32} (hf : TabOk sc p.val k.val m f) :
    TabOk sc p.val k.val (m + 1) (((Memref.whole cc0_scratch0).access (Rect.unit (s := S2x36x30x8x128) off8 S1x1x1x8x128.size inb8)).write (Elt F) f
      (k0_pay1 (((Memref.whole cc0_scratch1).access (Rect.unit (s := S3x4x16x3840) off9 S1x1x16x128.size inb9)).read (Elt F) (stTgt sc p.val))) Finset.univ) := by
  subst ho9 ho8
  intro x hx
  have hp := p.isLt
  rcases write_cases (Val := Elt F) (b := cc0_scratch0) (Rect.unit (s := S2x36x30x8x128) ![p.val / 9, p.val % 9 * 4 + m, k.val, 0, 0] S1x1x1x8x128.size inb8) f
    (k0_pay1 (((Memref.whole cc0_scratch1).access (Rect.unit (s := S3x4x16x3840) ![p.val % 3, m, 0, k.val * 128] S1x1x16x128.size inb9)).read (Elt F) (stTgt sc p.val))) x with ⟨y, hy, e⟩ | ⟨hn, e⟩
  · refine Eq.trans e ?_
    subst hy
    have e1 : ((Memref.whole cc0_scratch1).access (Rect.unit (s := S3x4x16x3840) ![p.val % 3, m, 0, k.val * 128] S1x1x16x128.size inb9)).read (Elt F) (stTgt sc p.val)
        = scTile sc ⟨p.val / 9, by omega⟩ ⟨p.val % 9 * 4 + m, by omega⟩ k := by
      funext z
      have z0 : (z 0).val < 1 := (z 0).isLt
      have z1 : (z 1).val < 1 := (z 1).isLt
      have z3 : (z 3).val < 128 := (z 3).isLt
      have hk := k.isLt
      have ez : (Rect.unit (s := S3x4x16x3840) ![p.val % 3, m, 0, k.val * 128] S1x1x16x128.size inb9).emb z
          = ix4 (⟨p.val % 3, by omega⟩ : Fin 3) (⟨m, hm⟩ : Fin 4) (z 2) (⟨k.val * 128 + (z 3).val, by omega⟩ : Fin 3840) := by
        funext i
        apply Fin.ext
        match i with
        | 0 => change p.val % 3 + 1 * (z 0).val = p.val % 3; omega
        | 1 => change m + 1 * (z 1).val = m; omega
        | 2 => change 0 + 1 * (z 2).val = (z 2).val; omega
        | 3 => change k.val * 128 + 1 * (z 3).val = k.val * 128 + (z 3).val; omega
      show stTgt sc p.val ((Rect.unit (s := S3x4x16x3840) ![p.val % 3, m, 0, k.val * 128] S1x1x16x128.size inb9).emb z) = _
      rw [ez]
      have q1 : p.val / 9 % 2 = p.val / 9 := by omega
      have q2 : (p.val % 9 * 4 + m) % 36 = p.val % 9 * 4 + m := by omega
      show sc ⟨p.val / 9 % 2, _⟩ (ix3 ⟨(p.val % 9 * 4 + m) % 36, _⟩ (z 2) (⟨k.val * 128 + (z 3).val, _⟩ : Fin 3840)) = _
      simp only [q1, q2]
      rfl
    rw [e1]
    obtain ⟨a0, a1, a2, a, b, rfl⟩ : ∃ (a0 a1 a2 : Fin 1) (a : Fin 8) (b : Fin 128), y = ix5 a0 a1 a2 a b := ⟨y 0, y 1, y 2, y 3, y 4, eq_ix5 y⟩
    obtain rfl := Subsingleton.elim a0 0
    obtain rfl := Subsingleton.elim a1 0
    obtain rfl := Subsingleton.elim a2 0
    have e2 : (Rect.unit (s := S2x36x30x8x128) ![p.val / 9, p.val % 9 * 4 + m, k.val, 0, 0] S1x1x1x8x128.size inb8).emb (ix5 (0 : Fin 1) (0 : Fin 1) (0 : Fin 1) a b)
        = ix5 (⟨p.val / 9, by omega⟩ : Fin 2) (⟨p.val % 9 * 4 + m, by omega⟩ : Fin 36) k a b := by
      funext i
      apply Fin.ext
      match i with
      | 0 => change p.val / 9 + 1 * 0 = p.val / 9; omega
      | 1 => change p.val % 9 * 4 + m + 1 * 0 = p.val % 9 * 4 + m; omega
      | 2 => change k.val + 1 * 0 = k.val; omega
      | 3 => change 0 + 1 * a.val = a.val; omega
      | 4 => change 0 + 1 * b.val = b.val; omega
    rw [e2]
    rfl
  · refine Eq.trans e (hf x ?_)
    have hn' : ¬ ((x 0).val = p.val / 9 ∧ (x 1).val = p.val % 9 * 4 + m ∧ (x 2).val = k.val) := by
      intro h
      apply hn
      refine Rect.mem_set_unit.mpr fun i => ?_
      have h3 : (x 3).val < 8 := (x 3).isLt
      have h4 : (x 4).val < 128 := (x 4).isLt
      match i with
      | 0 => change p.val / 9 ≤ (x 0).val ∧ (x 0).val < p.val / 9 + 1; omega
      | 1 => change p.val % 9 * 4 + m ≤ (x 1).val ∧ (x 1).val < p.val % 9 * 4 + m + 1; omega
      | 2 => change k.val ≤ (x 2).val ∧ (x 2).val < k.val + 1; omega
      | 3 => change 0 ≤ (x 3).val ∧ (x 3).val < 0 + 8; omega
      | 4 => change 0 ≤ (x 4).val ∧ (x 4).val < 0 + 128; omega
    have h0 : (x 0).val < 2 := (x 0).isLt
    have h1 : (x 1).val < 36 := (x 1).isLt
    omega

section Steps
variable (𝒱 : Variants) {α : Type}

/-- One head of one tile: its scales read, packed, and stored. -/
theorem stage_head (p : Fin 18) (k : Fin 30) (m : ℕ) (hm : m < 4) {off9 : Fin 4 → ℕ} {off8 : Fin 5 → ℕ} {inb9 inb8}
    (ho9 : off9 = ![p.val % 3, m, 0, k.val * 128]) (ho8 : off8 = ![p.val / 9, p.val % 9 * 4 + m, k.val, 0, 0])
    {w : Vec F S1x1x16x128 .f32 → Vec F S1x1x1x8x128 .i32} (hw : ∀ v, w v = k0_pay1 v)
    {hl9 hl8 hx hmk} {kk : PUnit → Prog (TpuEff nD τ sig (Elt F) Λ₀ .tc) α} {Q : α → sProp 𝕄} :
    StTab sc c p.val k.val m ⊢ (iprop((StTab sc c p.val k.val (m + 1) -∗ wp frame (wpE (defs₀ (F := F)) 𝒱 (c : Thread nD τ) none) Set.univ (kk ⟨⟩) Q)
      -∗ wp frame (wpE (defs₀ (F := F)) 𝒱 (c : Thread nD τ) none) Set.univ
        (.op (.load (Memref.whole cc0_scratch1) (Rect.unit (s := S3x4x16x3840) off9 S1x1x16x128.size inb9).toLoadRect hl9) fun v =>
          .op (.load (Memref.whole cc0_scratch0) (Rect.unit (s := S2x36x30x8x128) off8 S1x1x1x8x128.size inb8).toLoadRect hl8) fun _ =>
            .op (.store (Memref.whole cc0_scratch0) (Rect.unit (s := S2x36x30x8x128) off8 S1x1x1x8x128.size inb8) (w v) Finset.univ hx hmk) kk) Q) : sProp 𝕄) := by
  have hS9 : ((Memref.whole cc0_scratch1).access (Rect.unit (s := S3x4x16x3840) off9 S1x1x16x128.size inb9)).set ⊆ stageSet (p.val % 3) := by
    subst ho9
    intro x hx
    have hx := Rect.mem_set_unit.mp ((View.set_slice_whole cc0_scratch1 (Rect.unit (s := S3x4x16x3840) ![p.val % 3, m, 0, k.val * 128] S1x1x16x128.size inb9)) ▸ hx)
    have h0 : p.val % 3 ≤ (x 0).val ∧ (x 0).val < p.val % 3 + 1 := hx 0
    simp only [stageSet, Finset.mem_filter, Finset.mem_univ, true_and]
    omega
  obtain rfl : w = k0_pay1 := funext hw
  unfold StTab
  iintro ⟨H9, ⟨%f, %hf, H8⟩⟩ Hk
  iapply (wp_load_rect 𝒱 (c : Thread nD τ) none Set.univ (m := Memref.whole cc0_scratch1)
    (r := Rect.unit (s := S3x4x16x3840) off9 S1x1x16x128.size inb9) (f := stTgt sc p.val) hS9) $$ H9
  iintro H9
  iapply (wp_load_rect 𝒱 (c : Thread nD τ) none Set.univ (m := Memref.whole cc0_scratch0)
    (r := Rect.unit (s := S2x36x30x8x128) off8 S1x1x1x8x128.size inb8) (f := f) (Finset.subset_univ _)) $$ H8
  iintro H8
  iapply (wp_store 𝒱 (c : Thread nD τ) none Set.univ (m := Memref.whole cc0_scratch0)
    (r := Rect.unit (s := S2x36x30x8x128) off8 S1x1x1x8x128.size inb8) (Mk := Finset.univ) (f := f) (Finset.subset_univ _)) $$ H8
  iintro H8
  iapply Hk
  isplitl [H9]; · iexact H9
  iexists (((Memref.whole cc0_scratch0).access (Rect.unit (s := S2x36x30x8x128) off8 S1x1x1x8x128.size inb8)).write (Elt F) f
      (k0_pay1 (((Memref.whole cc0_scratch1).access (Rect.unit (s := S3x4x16x3840) off9 S1x1x16x128.size inb9)).read (Elt F) (stTgt sc p.val))) Finset.univ)
  isplitr
  · ipureintro
    exact tab_store sc p k m hm ho9 ho8 hf
  · iexact H8

/-- What a trip of a packing loop does. -/
def TripOk (p : Fin 18) (body : Fin (Scf.trips 0#32 (Scalar.addi 0#32 30#32) 1#32) → Unit → Prog (TpuEff nD τ sig (Elt F) Λ₀ .tc) Unit) : Prop :=
  ∀ k : Fin (Scf.trips 0#32 (Scalar.addi 0#32 30#32) 1#32), (StTab sc c p.val k.val 0 : sProp 𝕄) ⊢ wp frame (wpE (defs₀ (F := F)) 𝒱 (c : Thread nD τ) none) Set.univ (body k ⟨⟩)
    (fun _ => StTab sc c p.val (k.val + 1) 0)

theorem stTab_trip {p k : ℕ} : (StTab sc c p k 4 : sProp 𝕄) ⊢ StTab sc c p (k + 1) 0 := by
  unfold StTab
  iintro ⟨H9, ⟨%f, %hf, H8⟩⟩
  isplitl [H9]; · iexact H9
  iexists f
  isplitr
  · ipureintro; exact tabOk_trip sc hf
  · iexact H8

end Steps

/-- A function of the kernel's buffers, at the buffers of this kernel. -/
@[reducible] def atBufs {α : Type 1} (f : (arg0 : Memref sig .tc .smem S6x512 .i32) → (harg0 : arg0.IsWhole) → (arg1 : Memref sig .tc .smem S6 .i32) → (harg1 : arg1.IsWhole) → (arg2 : Memref sig .tc .hbm S3840x576x128 .fp8e4m3) → (harg2 : arg2.IsWhole) → (arg3 : Memref sig .tc .hbm S3840x576x128 .fp8e4m3) → (harg3 : arg3.IsWhole) → (arg4 : Memref sig .tc .hbm S36x16x3840 .f32) → (harg4 : arg4.IsWhole) → (arg5 : Memref sig .tc .hbm S36x16x3840 .f32) → (harg5 : arg5.IsWhole) → (arg6 : Memref sig .tc .hbm S6x36x8192x128 .bf16) → (harg6 : arg6.IsWhole) → (arg7 : Memref sig .tc .hbm S6x36x8192x128 .bf16) → (harg7 : arg7.IsWhole) → (arg8 : Memref sig .tc .vmem S2x36x30x8x128 .i32) → (harg8 : arg8.IsWhole) → (arg9 : Memref sig .tc .vmem S3x4x16x3840 .f32) → (harg9 : arg9.IsWhole) → (arg10 : Memref sig .tc .vmem S4x2x8x576x128 .fp8e4m3) → (harg10 : arg10.IsWhole) → (arg11 : Memref sig .tc .vmem S4x2x36x128x128 .bf16) → (harg11 : arg11.IsWhole) → (arg12 : Memref sig .tc .vmem S36x128x128 .bf16) → (harg12 : arg12.IsWhole) → (arg13 : DmaSems sig S3) → (arg14 : DmaSems sig S4) → (arg15 : DmaSems sig S4) → α)
    (arg0 : Memref sig .tc .smem S6x512 .i32) (harg0 : arg0.IsWhole) (arg1 : Memref sig .tc .smem S6 .i32) (harg1 : arg1.IsWhole) : α :=
  f arg0 harg0 arg1 harg1 (Memref.whole main_v1) (Memref.isWhole_whole _) (Memref.whole main_v3) (Memref.isWhole_whole _) (Memref.whole main_v4) (Memref.isWhole_whole _) (Memref.whole main_v5) (Memref.isWhole_whole _) (Memref.whole main_v6_0) (Memref.isWhole_whole _) (Memref.whole main_v6_1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7

variable (𝒱 : Variants) (a0 : Memref sig .tc .smem S6x512 .i32) (h0 : a0.IsWhole) (a1 : Memref sig .tc .smem S6 .i32) (h1 : a1.IsWhole)

/-- Every packing loop's trip packs its tile of its four heads. -/
theorem trips :
    TripOk sc c 𝒱 0 (atBufs (k0_t2_body (F := F)) a0 h0 a1 h1)
      ∧ TripOk sc c 𝒱 1 (atBufs (k0_t3_body (F := F)) a0 h0 a1 h1)
      ∧ TripOk sc c 𝒱 2 (atBufs (k0_t4_body (F := F)) a0 h0 a1 h1)
      ∧ TripOk sc c 𝒱 3 (atBufs (k0_t5_body (F := F)) a0 h0 a1 h1)
      ∧ TripOk sc c 𝒱 4 (atBufs (k0_t6_body (F := F)) a0 h0 a1 h1)
      ∧ TripOk sc c 𝒱 5 (atBufs (k0_t7_body (F := F)) a0 h0 a1 h1)
      ∧ (∀ u v, TripOk sc c 𝒱 6 (atBufs (k0_t8_body (F := F)) a0 h0 a1 h1 u v))
      ∧ (∀ u v, TripOk sc c 𝒱 7 (atBufs (k0_t9_body (F := F)) a0 h0 a1 h1 u v))
      ∧ TripOk sc c 𝒱 8 (atBufs (k0_t10_body (F := F)) a0 h0 a1 h1)
      ∧ TripOk sc c 𝒱 9 (atBufs (k0_t11_body (F := F)) a0 h0 a1 h1)
      ∧ TripOk sc c 𝒱 10 (atBufs (k0_t12_body (F := F)) a0 h0 a1 h1)
      ∧ TripOk sc c 𝒱 11 (atBufs (k0_t13_body (F := F)) a0 h0 a1 h1)
      ∧ TripOk sc c 𝒱 12 (atBufs (k0_t14_body (F := F)) a0 h0 a1 h1)
      ∧ (∀ u v, TripOk sc c 𝒱 13 (atBufs (k0_t15_body (F := F)) a0 h0 a1 h1 u v))
      ∧ (∀ u v, TripOk sc c 𝒱 14 (atBufs (k0_t16_body (F := F)) a0 h0 a1 h1 u v))
      ∧ TripOk sc c 𝒱 15 (atBufs (k0_t17_body (F := F)) a0 h0 a1 h1)
      ∧ TripOk sc c 𝒱 16 (atBufs (k0_t18_body (F := F)) a0 h0 a1 h1)
      ∧ TripOk sc c 𝒱 17 (atBufs (k0_t19_body (F := F)) a0 h0 a1 h1) := by
  refine ⟨?_, ?_, ?_, ?_, ?_, ?_, ?_, ?_, ?_, ?_, ?_, ?_, ?_, ?_, ?_, ?_, ?_, ?_⟩
  all_goals
    intros
    unfold TripOk
    intro k
    simp only [atBufs, k0_t2_body, k0_t3_body, k0_t4_body, k0_t5_body, k0_t6_body, k0_t7_body, k0_t8_body, k0_t9_body, k0_t10_body, k0_t11_body, k0_t12_body, k0_t13_body, k0_t14_body, k0_t15_body, k0_t16_body, k0_t17_body, k0_t18_body, k0_t19_body]
    simp only [k0_part17_eq_skeleton, k0_part17_skel, k0_part18_eq_skeleton, k0_part18_skel, k0_part19_eq_skeleton, k0_part19_skel, k0_part20_eq_skeleton, k0_part20_skel, k0_part21_eq_skeleton, k0_part21_skel, k0_part22_eq_skeleton, k0_part22_skel, k0_part23_eq_skeleton, k0_part23_skel, k0_part24_eq_skeleton, k0_part24_skel, k0_part25_eq_skeleton, k0_part25_skel, k0_part26_eq_skeleton, k0_part26_skel, k0_part27_eq_skeleton, k0_part27_skel, k0_part28_eq_skeleton, k0_part28_skel, k0_part29_eq_skeleton, k0_part29_skel, k0_part30_eq_skeleton, k0_part30_skel, k0_part31_eq_skeleton, k0_part31_skel, k0_part32_eq_skeleton, k0_part32_skel, k0_part33_eq_skeleton, k0_part33_skel, k0_part34_eq_skeleton, k0_part34_skel,
      Prog.lift, Prog.bind_op, Prog.bind_ret, Prog.bind_assoc, Prog.pure_eq_ret]
    iintro H
    iapply (stage_head sc c 𝒱 _ k 0 (by decide) (by revert k; decide +kernel) (by revert k; decide +kernel) (fun _ => rfl)) $$ H
    iintro H
    iapply (stage_head sc c 𝒱 _ k 1 (by decide) (by revert k; decide +kernel) (by revert k; decide +kernel) (fun _ => rfl)) $$ H
    iintro H
    iapply (stage_head sc c 𝒱 _ k 2 (by decide) (by revert k; decide +kernel) (by revert k; decide +kernel) (fun _ => rfl)) $$ H
    iintro H
    iapply (stage_head sc c 𝒱 _ k 3 (by decide) (by revert k; decide +kernel) (by revert k; decide +kernel) (fun _ => rfl)) $$ H
    iintro H
    rw [wp_ret]
    imodintro
    iapply (stTab_trip sc c) $$ H

end Cert.Kernel
-- ==== Proof.Compute.lean ====
/- Computing one item: the loop over its eight pages, each page's thirty-six pairs of heads scaled and laid out in the
   ring of computed chunks. -/
module

public import proofs.«01_k».proof.Proof.Stage

@[expose] public section

set_option maxRecDepth 16384

noncomputable section

namespace Cert.Kernel

open Idealize.ShloMosaic Idealize.ShloMosaic.ValueIdx Idealize.ShloMosaic.TcCoe Idealize.ShloMosaic.Tactic Cert.Kernel.Gen
open Idealize.SL Idealize.SL.RA Idealize.SL.BI Idealize.SL.Sem
open scoped Idealize.SL.BI
open Idealize.SL.BI.BIBase Idealize.SL.BI.Laws Idealize.SL.ProofMode
open Idealize.ShloMosaic.Transfers

variable {F : FTy → Type} [BitOps F]

local notation "𝕄" => MT nD τ sig Unit (Elt F) ℕ (Pipeline.UD sig nD τ) ℕ

variable (pt : S6x512.Idx → BitVec 32) (ln : S6.Idx → BitVec 32)
  (pool : Fin 2 → S3840x576x128.Idx → Elt F .fp8e4m3) (sc : Fin 2 → S36x16x3840.Idx → Elt F .f32) (c : Dev nD)

theorem trips20 : k0_t20_loop.trips = 384 := by decide
theorem trips21 : k0_t21_loop.trips = 8 := by decide
theorem lt384 (k : Fin k0_t20_loop.trips) : k.val < 384 := trips20 ▸ k.isLt
theorem lt8 (j : Fin k0_t21_loop.trips) : j.val < 8 := trips21 ▸ j.isLt

/-- The slot of the item, as the kernel computes it. -/
theorem slot_word (k : ℕ) (hk : k < 384) : (fmod (itw k) 4#32).toNat = k % 4 := by
  rw [itw_eq, show (4#32 : BitVec 32) = BitVec.ofNat 32 4 from rfl, fmod_ofNat (by omega) (by omega) (by omega), toNat_lt (by omega)]
theorem req_word (k : ℕ) (hk : k < 384) : (fdiv (itw k) 64#32).toNat = k / 64 := by
  rw [itw_eq, show (64#32 : BitVec 32) = BitVec.ofNat 32 64 from rfl, fdiv_ofNat (by omega) (by omega) (by omega), toNat_lt (by omega)]
theorem chunk_word (k : ℕ) (hk : k < 384) : fmod (itw k) 64#32 = BitVec.ofNat 32 (k % 64) := by
  rw [itw_eq, show (64#32 : BitVec 32) = BitVec.ofNat 32 64 from rfl, fmod_ofNat (by omega) (by omega) (by omega)]
theorem tile_word (w : BitVec 32) (hw : w.toNat < 3840) : (fdiv w 128#32).toNat = w.toNat / 128 := by
  obtain ⟨m, hm, rfl⟩ : ∃ m : ℕ, m < 3840 ∧ w = BitVec.ofNat 32 m := ⟨w.toNat, hw, by simp⟩
  rw [show (128#32 : BitVec 32) = BitVec.ofNat 32 128 from rfl, fdiv_ofNat (by omega) (by omega) (by omega), toNat_lt (by omega), toNat_lt (by omega)]

/-- A load of one word of the page table. -/
theorem smem2 (𝒱 : Variants) {α : Type} (a0 : Memref sig .tc .smem S6x512 .i32) (b p : ℕ) (hb : b < 6) (hp : p < 512)
    {off : Fin 2 → ℕ} {inb} (ho : off = ![b, p]) {hl} {k : (S1x1.Idx → BitVec 32) → Prog (TpuEff nD τ sig (Elt F) Λ₀ .tc) α} {Q : α → sProp 𝕄} :
    (owns (Val := Elt F) (c : Thread nD τ) a0 fullShare pt : sProp 𝕄) ⊢ iprop((owns (Val := Elt F) (c : Thread nD τ) a0 fullShare pt -∗
        wp frame (wpE (defs₀ (F := F)) 𝒱 (c : Thread nD τ) none) Set.univ (k fun _ => pword pt b p) Q)
      -∗ wp frame (wpE (defs₀ (F := F)) 𝒱 (c : Thread nD τ) none) Set.univ
        (.op (.load a0 (Rect.unit (s := S6x512) off S1x1.size inb).toLoadRect hl) k) Q) := by
  subst ho
  unfold owns
  iintro ⟨%f, %hf, H⟩ Hk
  have hS : (a0.access (Rect.unit (s := S6x512) ![b, p] S1x1.size inb)).set ⊆ a0.view.set := View.set_slice_subset _ _
  have e : (a0.access (Rect.unit (s := S6x512) ![b, p] S1x1.size inb)).read (Elt F) f = fun _ => pword pt b p := by
    funext x
    have e1 : (a0.access (Rect.unit (s := S6x512) ![b, p] S1x1.size inb)).read (Elt F) f x
        = a0.view.read (Elt F) f ((Rect.unit (s := S6x512) ![b, p] S1x1.size inb).emb x) := rfl
    rw [e1, hf]
    unfold pword
    congr 1
    have x0 : (x 0).val < 1 := (x 0).isLt
    have x1 : (x 1).val < 1 := (x 1).isLt
    funext i
    apply Fin.ext
    match i with
    | 0 => change b + 1 * (x 0).val = b % 6; omega
    | 1 => change p + 1 * (x 1).val = p % 512; omega
  iapply (wp_load_rect 𝒱 (c : Thread nD τ) none Set.univ (m := a0) (r := Rect.unit (s := S6x512) ![b, p] S1x1.size inb) (f := f) hS) $$ H
  iintro H
  rw [e]
  iapply Hk
  iexists f
  isplitr
  · ipureintro; exact hf
  · iexact H

/-- A load of one length. -/
theorem smem1 (𝒱 : Variants) {α : Type} (a1 : Memref sig .tc .smem S6 .i32) (b : ℕ) (hb : b < 6)
    {off : Fin 1 → ℕ} {inb} (ho : off = ![b]) {hl} {k : (S1.Idx → BitVec 32) → Prog (TpuEff nD τ sig (Elt F) Λ₀ .tc) α} {Q : α → sProp 𝕄} :
    (owns (Val := Elt F) (c : Thread nD τ) a1 fullShare ln : sProp 𝕄) ⊢ iprop((owns (Val := Elt F) (c : Thread nD τ) a1 fullShare ln -∗
        wp frame (wpE (defs₀ (F := F)) 𝒱 (c : Thread nD τ) none) Set.univ (k fun _ => lword ln b) Q)
      -∗ wp frame (wpE (defs₀ (F := F)) 𝒱 (c : Thread nD τ) none) Set.univ
        (.op (.load a1 (Rect.unit (s := S6) off S1.size inb).toLoadRect hl) k) Q) := by
  subst ho
  unfold owns
  iintro ⟨%f, %hf, H⟩ Hk
  have hS : (a1.access (Rect.unit (s := S6) ![b] S1.size inb)).set ⊆ a1.view.set := View.set_slice_subset _ _
  have e : (a1.access (Rect.unit (s := S6) ![b] S1.size inb)).read (Elt F) f = fun _ => lword ln b := by
    funext x
    have e1 : (a1.access (Rect.unit (s := S6) ![b] S1.size inb)).read (Elt F) f x
        = a1.view.read (Elt F) f ((Rect.unit (s := S6) ![b] S1.size inb).emb x) := rfl
    rw [e1, hf]
    unfold lword
    congr 1
    have x0 : (x 0).val < 1 := (x 0).isLt
    funext i
    apply Fin.ext
    match i with
    | 0 => change b + 1 * (x 0).val = b % 6; omega
  iapply (wp_load_rect 𝒱 (c : Thread nD τ) none Set.univ (m := a1) (r := Rect.unit (s := S6) ![b] S1.size inb) (f := f) hS) $$ H
  iintro H
  rw [e]
  iapply Hk
  iexists f
  isplitr
  · ipureintro; exact hf
  · iexact H

/-! ### What the page's loads read -/

theorem codes_read (s : Fin 4) (t : Fin 2) (j : Fin 8) (pr : Fin 18) (i : ℕ) {off : Fin 5 → ℕ} {inb}
    (ho : off = ![s.val, t.val, j.val, pr.val * 32, 0]) :
    ((Memref.whole cc0_scratch2).access (Rect.unit (s := S4x2x8x576x128) off S1x1x1x32x128.size inb)).read (Elt F) (inTgt pt pool i)
      = codesOf pool t (pidx pt (i / 64) (i % 64 * 8 + j.val)) pr := by
  subst ho
  funext z
  have z0 : (z 0).val < 1 := (z 0).isLt
  have z1 : (z 1).val < 1 := (z 1).isLt
  have z2 : (z 2).val < 1 := (z 2).isLt
  have z3 : (z 3).val < 32 := (z 3).isLt
  have hp := pr.isLt
  have ez : (Rect.unit (s := S4x2x8x576x128) ![s.val, t.val, j.val, pr.val * 32, 0] S1x1x1x32x128.size inb).emb z
      = ix5 s t j (⟨pr.val * 32 + (z 3).val, by omega⟩ : Fin 576) (z 4) := by
    funext a
    apply Fin.ext
    match a with
    | 0 => change s.val + 1 * (z 0).val = s.val; omega
    | 1 => change t.val + 1 * (z 1).val = t.val; omega
    | 2 => change j.val + 1 * (z 2).val = j.val; omega
    | 3 => change pr.val * 32 + 1 * (z 3).val = pr.val * 32 + (z 3).val; omega
    | 4 => change 0 + 1 * (z 4).val = (z 4).val; omega
  show inTgt pt pool i ((Rect.unit (s := S4x2x8x576x128) ![s.val, t.val, j.val, pr.val * 32, 0] S1x1x1x32x128.size inb).emb z) = _
  rw [ez]
  rfl

theorem tab_read (t : Fin 2) (h : Fin 36) (g : Fin 30) {off : Fin 5 → ℕ} {inb}
    (ho : off = ![t.val, h.val, g.val, 0, 0]) :
    ((Memref.whole cc0_scratch0).access (Rect.unit (s := S2x36x30x8x128) off S1x1x1x8x128.size inb)).read (Elt F) (tabT sc)
      = tabOf sc t h g := by
  subst ho
  funext z
  have z0 : (z 0).val < 1 := (z 0).isLt
  have z1 : (z 1).val < 1 := (z 1).isLt
  have z2 : (z 2).val < 1 := (z 2).isLt
  have ez : (Rect.unit (s := S2x36x30x8x128) ![t.val, h.val, g.val, 0, 0] S1x1x1x8x128.size inb).emb z
      = ix5 t h g (z 3) (z 4) := by
    funext a
    apply Fin.ext
    match a with
    | 0 => change t.val + 1 * (z 0).val = t.val; omega
    | 1 => change h.val + 1 * (z 1).val = h.val; omega
    | 2 => change g.val + 1 * (z 2).val = g.val; omega
    | 3 => change 0 + 1 * (z 3).val = (z 3).val; omega
    | 4 => change 0 + 1 * (z 4).val = (z 4).val; omega
  have e1 : ∀ f : S2x36x30x8x128.Idx → BitVec 32, ((Memref.whole cc0_scratch0).access (Rect.unit (s := S2x36x30x8x128) ![t.val, h.val, g.val, 0, 0] S1x1x1x8x128.size inb)).read (Elt F) f z
      = f ((Rect.unit (s := S2x36x30x8x128) ![t.val, h.val, g.val, 0, 0] S1x1x1x8x128.size inb).emb z) := fun _ => rfl
  refine (e1 (tabT sc)).trans ?_
  rw [ez]
  unfold tabOf
  rfl

/-! ### The chunk being computed -/

/-- The slot of item `i` holds its chunk up to page `j`, head `n` (counted over both results). -/
def OutOk (i j n : ℕ) (f : S4x2x36x128x128.Idx → Elt F .bf16) : Prop :=
  ∀ x : S4x2x36x128x128.Idx, (x 0).val = i % 4 → ((x 3).val / 16 < j ∨ ((x 3).val / 16 = j ∧ (x 1).val * 36 + (x 2).val < n)) →
    f x = outTgt pt ln pool sc i x

theorem out_store (i : ℕ) (j : Fin 8) (m : ℕ) (hm : m < 72) {off : Fin 5 → ℕ} {inb} (ho : off = ![i % 4, m / 36, m % 36, j.val * 16, 0])
    {w : FVec F S1x1x1x16x128 .bf16}
    (hw : w = outRow pt ln pool sc (i / 64) (i % 64 * 8 + j.val) ⟨m / 36, by omega⟩ ⟨m % 36, by omega⟩)
    {f : S4x2x36x128x128.Idx → Elt F .bf16} (hf : OutOk pt ln pool sc i j.val m f) :
    OutOk pt ln pool sc i j.val (m + 1) (((Memref.whole cc0_scratch3).access (Rect.unit (s := S4x2x36x128x128) off S1x1x1x16x128.size inb)).write (Elt F) f w Finset.univ) := by
  subst ho hw
  have hj := j.isLt
  intro x hx0 hx
  rcases write_cases (Val := Elt F) (b := cc0_scratch3) (Rect.unit (s := S4x2x36x128x128) ![i % 4, m / 36, m % 36, j.val * 16, 0] S1x1x1x16x128.size inb) f
    (outRow pt ln pool sc (i / 64) (i % 64 * 8 + j.val) ⟨m / 36, by omega⟩ ⟨m % 36, by omega⟩) x with ⟨y, hy, e⟩ | ⟨hn, e⟩
  · refine Eq.trans e ?_
    subst hy
    obtain ⟨y0, y1, y2, a, b, rfl⟩ : ∃ (a0 a1 a2 : Fin 1) (a : Fin 16) (b : Fin 128), y = ix5 a0 a1 a2 a b := ⟨y 0, y 1, y 2, y 3, y 4, eq_ix5 y⟩
    obtain rfl := Subsingleton.elim y0 0
    obtain rfl := Subsingleton.elim y1 0
    obtain rfl := Subsingleton.elim y2 0
    have ha := a.isLt
    have e2 : (Rect.unit (s := S4x2x36x128x128) ![i % 4, m / 36, m % 36, j.val * 16, 0] S1x1x1x16x128.size inb).emb (ix5 (0 : Fin 1) (0 : Fin 1) (0 : Fin 1) a b)
        = ix5 (⟨i % 4, by omega⟩ : Fin 4) (⟨m / 36, by omega⟩ : Fin 2) (⟨m % 36, by omega⟩ : Fin 36) (⟨j.val * 16 + a.val, by omega⟩ : Fin 128) b := by
      funext q
      apply Fin.ext
      match q with
      | 0 => change i % 4 + 1 * 0 = i % 4; omega
      | 1 => change m / 36 + 1 * 0 = m / 36; omega
      | 2 => change m % 36 + 1 * 0 = m % 36; omega
      | 3 => change j.val * 16 + 1 * a.val = j.val * 16 + a.val; omega
      | 4 => change 0 + 1 * b.val = b.val; omega
    rw [e2]
    show _ = outRow pt ln pool sc (i / 64) (i % 64 * 8 + (j.val * 16 + a.val) / 16) ⟨m / 36, _⟩ ⟨m % 36, _⟩
      (ix5 (0 : Fin 1) (0 : Fin 1) (0 : Fin 1) ⟨(j.val * 16 + a.val) % 16, _⟩ b)
    have q1 : (j.val * 16 + a.val) / 16 = j.val := by omega
    have q2 : (j.val * 16 + a.val) % 16 = a.val := by omega
    simp only [q1, q2]
  · refine Eq.trans e (hf x hx0 ?_)
    have hn' : ¬ ((x 1).val = m / 36 ∧ (x 2).val = m % 36 ∧ (x 3).val / 16 = j.val) := by
      intro h
      apply hn
      refine Rect.mem_set_unit.mpr fun q => ?_
      have h3 : (x 3).val < 128 := (x 3).isLt
      have h4 : (x 4).val < 128 := (x 4).isLt
      match q with
      | 0 => change i % 4 ≤ (x 0).val ∧ (x 0).val < i % 4 + 1; omega
      | 1 => change m / 36 ≤ (x 1).val ∧ (x 1).val < m / 36 + 1; omega
      | 2 => change m % 36 ≤ (x 2).val ∧ (x 2).val < m % 36 + 1; omega
      | 3 => change j.val * 16 ≤ (x 3).val ∧ (x 3).val < j.val * 16 + 16; omega
      | 4 => change 0 ≤ (x 4).val ∧ (x 4).val < 0 + 128; omega
    have h0 : (x 1).val < 2 := (x 1).isLt
    have h1 : (x 2).val < 36 := (x 2).isLt
    omega

theorem outOk_page {i j : ℕ} {f} (h : OutOk pt ln pool sc i j 72 f) : OutOk pt ln pool sc i (j + 1) 0 f := by
  intro x h0 hx
  have h1 : (x 1).val < 2 := (x 1).isLt
  have h2 : (x 2).val < 36 := (x 2).isLt
  exact h x h0 (by omega)

def CompSt (i j n : ℕ) : sProp 𝕄 :=
  iprop((L c cc0_scratch2 ↦[inSlot (i % 4)]{fullShare} inTgt pt pool i) ∗ (L c cc0_scratch0 ↦{fullShare} tabT sc)
    ∗ ∃ f, ⌜OutOk pt ln pool sc i j n f⌝ ∗ (L c cc0_scratch3 ↦[outSlot (i % 4)]{fullShare} f))

theorem compSt_page {i j : ℕ} : (CompSt pt ln pool sc c i j 72 : sProp 𝕄) ⊢ CompSt pt ln pool sc c i (j + 1) 0 := by
  unfold CompSt
  iintro ⟨H2, ⟨H0, ⟨%f, %hf, H3⟩⟩⟩
  isplitl [H2]; · iexact H2
  isplitl [H0]; · iexact H0
  iexists f
  isplitr
  · ipureintro; exact outOk_page pt ln pool sc hf
  · iexact H3

theorem compSt_start {i : ℕ} : (iprop((L c cc0_scratch2 ↦[inSlot (i % 4)]{fullShare} inTgt pt pool i) ∗ (L c cc0_scratch0 ↦{fullShare} tabT sc)
    ∗ ∃ f, (L c cc0_scratch3 ↦[outSlot (i % 4)]{fullShare} f)) : sProp 𝕄) ⊢ CompSt pt ln pool sc c i 0 0 := by
  unfold CompSt
  iintro ⟨H2, ⟨H0, ⟨%f, H3⟩⟩⟩
  isplitl [H2]; · iexact H2
  isplitl [H0]; · iexact H0
  iexists f
  isplitr
  · ipureintro; intro x _ hx; omega
  · iexact H3

theorem compSt_end {i : ℕ} : (CompSt pt ln pool sc c i 8 0 : sProp 𝕄) ⊢ iprop((L c cc0_scratch2 ↦[inSlot (i % 4)]{fullShare} inTgt pt pool i)
    ∗ (L c cc0_scratch0 ↦{fullShare} tabT sc) ∗ (L c cc0_scratch3 ↦[outSlot (i % 4)]{fullShare} outTgt pt ln pool sc i)) := by
  unfold CompSt
  iintro ⟨H2, ⟨H0, ⟨%f, %hf, H3⟩⟩⟩
  isplitl [H2]; · iexact H2
  isplitl [H0]; · iexact H0
  iapply (Entails.of_eq (pointsTo_congr (f := f) (g := outTgt pt ln pool sc i) (fun x hx => hf x (by
      simpa only [outSlot, Finset.mem_filter, Finset.mem_univ, true_and] using hx) (by
      have h3 : (x 3).val < 128 := (x 3).isLt
      omega)))) $$ H3

section Steps
variable (𝒱 : Variants) {α : Type}

theorem in_sub (s t j r : ℕ) {off : Fin 5 → ℕ} {inb} (ho : off = ![s, t, j, r, 0]) :
    ((Memref.whole cc0_scratch2).access (Rect.unit (s := S4x2x8x576x128) off S1x1x1x32x128.size inb)).set ⊆ inSlot s := by
  subst ho
  intro x hx
  have hx := Rect.mem_set_unit.mp ((View.set_slice_whole cc0_scratch2 (Rect.unit (s := S4x2x8x576x128) ![s, t, j, r, 0] S1x1x1x32x128.size inb)) ▸ hx)
  have h0 : s ≤ (x 0).val ∧ (x 0).val < s + 1 := hx 0
  simp only [inSlot, Finset.mem_filter, Finset.mem_univ, true_and]
  omega

theorem out_sub (s t j r : ℕ) {off : Fin 5 → ℕ} {inb} (ho : off = ![s, t, j, r, 0]) :
    ((Memref.whole cc0_scratch3).access (Rect.unit (s := S4x2x36x128x128) off S1x1x1x16x128.size inb)).set ⊆ outSlot s := by
  subst ho
  intro x hx
  have hx := Rect.mem_set_unit.mp ((View.set_slice_whole cc0_scratch3 (Rect.unit (s := S4x2x36x128x128) ![s, t, j, r, 0] S1x1x1x16x128.size inb)) ▸ hx)
  have h0 : s ≤ (x 0).val ∧ (x 0).val < s + 1 := hx 0
  simp only [outSlot, Finset.mem_filter, Finset.mem_univ, true_and]
  omega

/-- One pair of heads of one page: its codes and its two tiles of scales read, its rows computed and stored. -/
theorem comp_pair (k : Fin k0_t20_loop.trips) (j : Fin k0_t21_loop.trips) (n : ℕ) (hn : n < 36)
    {wd lf : BitVec 32} (hwd : wd = pword pt (k.val / 64) (k.val % 64 * 8 + j.val)) (hlt : wd.toNat < 3840)
    (hlf : lf = leftW ln (k.val / 64) (k.val % 64 * 8 + j.val))
    {offC offT0 offO0 offT1 offO1 : Fin 5 → ℕ} {inbC inbT0 inbO0 inbT1 inbO1}
    (hoC : offC = ![(fmod (itw k.val) 4#32).toNat, n / 18, (itw j.val).toNat, n % 18 * 32, 0])
    (hoT0 : offT0 = ![n / 18, 2 * (n % 18), (fdiv wd 128#32).toNat, 0, 0])
    (hoO0 : offO0 = ![(fmod (itw k.val) 4#32).toNat, n / 18, 2 * (n % 18), (Scalar.muli (itw j.val) 16#32).toNat, 0])
    (hoT1 : offT1 = ![n / 18, 2 * (n % 18) + 1, (fdiv wd 128#32).toNat, 0, 0])
    (hoO1 : offO1 = ![(fmod (itw k.val) 4#32).toNat, n / 18, 2 * (n % 18) + 1, (Scalar.muli (itw j.val) 16#32).toNat, 0])
    {w0 w1 : Vec F S1x1x1x32x128 .fp8e4m3 → Vec F S1x1x1x8x128 .i32 → FVec F S1x1x1x16x128 .bf16}
    (hw0 : ∀ a b, w0 a b = headPay 0 wd lf a b) (hw1 : ∀ a b, w1 a b = headPay 1 wd lf a b)
    {hlC hlT0 hlO0 hx0 hm0 hlT1 hlO1 hx1 hm1} {kk : PUnit → Prog (TpuEff nD τ sig (Elt F) Λ₀ .tc) α} {Q : α → sProp 𝕄} :
    CompSt pt ln pool sc c k.val j.val (2 * n) ⊢ (iprop((CompSt pt ln pool sc c k.val j.val (2 * (n + 1)) -∗ wp frame (wpE (defs₀ (F := F)) 𝒱 (c : Thread nD τ) none) Set.univ (kk ⟨⟩) Q)
      -∗ wp frame (wpE (defs₀ (F := F)) 𝒱 (c : Thread nD τ) none) Set.univ
        (.op (.load (Memref.whole cc0_scratch2) (Rect.unit (s := S4x2x8x576x128) offC S1x1x1x32x128.size inbC).toLoadRect hlC) fun codes =>
          .op (.load (Memref.whole cc0_scratch0) (Rect.unit (s := S2x36x30x8x128) offT0 S1x1x1x8x128.size inbT0).toLoadRect hlT0) fun tab0 =>
          .op (.load (Memref.whole cc0_scratch3) (Rect.unit (s := S4x2x36x128x128) offO0 S1x1x1x16x128.size inbO0).toLoadRect hlO0) fun _ =>
          .op (.store (Memref.whole cc0_scratch3) (Rect.unit (s := S4x2x36x128x128) offO0 S1x1x1x16x128.size inbO0) (w0 codes tab0) Finset.univ hx0 hm0) fun _ =>
          .op (.load (Memref.whole cc0_scratch0) (Rect.unit (s := S2x36x30x8x128) offT1 S1x1x1x8x128.size inbT1).toLoadRect hlT1) fun tab1 =>
          .op (.load (Memref.whole cc0_scratch3) (Rect.unit (s := S4x2x36x128x128) offO1 S1x1x1x16x128.size inbO1).toLoadRect hlO1) fun _ =>
          .op (.store (Memref.whole cc0_scratch3) (Rect.unit (s := S4x2x36x128x128) offO1 S1x1x1x16x128.size inbO1) (w1 codes tab1) Finset.univ hx1 hm1) kk) Q) : sProp 𝕄) := by
  have hk := lt384 k
  have hj := lt8 j
  have es : (fmod (itw k.val) 4#32).toNat = k.val % 4 := slot_word k.val hk
  have ej : (itw j.val).toNat = j.val := by rw [itw_eq, toNat_lt (by omega)]
  have ej16 : (Scalar.muli (itw j.val) 16#32).toNat = j.val * 16 := by
    rw [itw_eq, show Scalar.muli (BitVec.ofNat 32 j.val) 16#32 = BitVec.ofNat 32 (j.val * 16) from (BitVec.ofNat_mul j.val 16).symm, toNat_lt (by omega)]
  have eg : (fdiv wd 128#32).toNat = wd.toNat / 128 := tile_word wd hlt
  have hpx : (pidx pt (k.val / 64) (k.val % 64 * 8 + j.val)).val = wd.toNat := by
    show (pword pt (k.val / 64) (k.val % 64 * 8 + j.val)).toNat % 3840 = _
    rw [← hwd]; exact Nat.mod_eq_of_lt hlt
  rw [es, ej] at hoC
  rw [es, ej16] at hoO0 hoO1
  rw [eg] at hoT0 hoT1
  have rC := codes_read pt pool (F := F) ⟨k.val % 4, by omega⟩ ⟨n / 18, by omega⟩ ⟨j.val, hj⟩ ⟨n % 18, by omega⟩ k.val (inb := inbC) hoC
  have rT0 := tab_read sc (F := F) ⟨n / 18, by omega⟩ ⟨2 * (n % 18), by omega⟩ ⟨wd.toNat / 128, by omega⟩ (inb := inbT0) hoT0
  have rT1 := tab_read sc (F := F) ⟨n / 18, by omega⟩ ⟨2 * (n % 18) + 1, by omega⟩ ⟨wd.toNat / 128, by omega⟩ (inb := inbT1) hoT1
  have hS2 := in_sub (k.val % 4) (n / 18) j.val (n % 18 * 32) (inb := inbC) hoC
  have hSO0 := out_sub (k.val % 4) (n / 18) (2 * (n % 18)) (j.val * 16) (inb := inbO0) hoO0
  have hSO1 := out_sub (k.val % 4) (n / 18) (2 * (n % 18) + 1) (j.val * 16) (inb := inbO1) hoO1
  have v0 : w0 (codesOf pool ⟨n / 18, by omega⟩ (pidx pt (k.val / 64) (k.val % 64 * 8 + j.val)) ⟨n % 18, by omega⟩) (tabOf sc ⟨n / 18, by omega⟩ ⟨2 * (n % 18), by omega⟩ ⟨wd.toNat / 128, by omega⟩)
      = outRow pt ln pool sc (k.val / 64) (k.val % 64 * 8 + j.val) ⟨2 * n / 36, by omega⟩ ⟨2 * n % 36, by omega⟩ := by
    rw [hw0]
    unfold outRow
    have q1 : 2 * n / 36 = n / 18 := by omega
    have q2 : 2 * n % 36 = 2 * (n % 18) := by omega
    have q3 : 2 * (n % 18) % 2 = 0 := by omega
    have q4 : 2 * (n % 18) / 2 = n % 18 := by omega
    simp only [q1, q2, q3, q4, hpx, ← hwd, ← hlf]
    rfl
  have v1 : w1 (codesOf pool ⟨n / 18, by omega⟩ (pidx pt (k.val / 64) (k.val % 64 * 8 + j.val)) ⟨n % 18, by omega⟩) (tabOf sc ⟨n / 18, by omega⟩ ⟨2 * (n % 18) + 1, by omega⟩ ⟨wd.toNat / 128, by omega⟩)
      = outRow pt ln pool sc (k.val / 64) (k.val % 64 * 8 + j.val) ⟨(2 * n + 1) / 36, by omega⟩ ⟨(2 * n + 1) % 36, by omega⟩ := by
    rw [hw1]
    unfold outRow
    have q1 : (2 * n + 1) / 36 = n / 18 := by omega
    have q2 : (2 * n + 1) % 36 = 2 * (n % 18) + 1 := by omega
    have q3 : (2 * (n % 18) + 1) % 2 = 1 := by omega
    have q4 : (2 * (n % 18) + 1) / 2 = n % 18 := by omega
    simp only [q1, q2, q3, q4, hpx, ← hwd, ← hlf]
    rfl
  have hoO0' : offO0 = ![k.val % 4, 2 * n / 36, 2 * n % 36, j.val * 16, 0] := by
    rw [hoO0, show 2 * n / 36 = n / 18 by omega, show 2 * n % 36 = 2 * (n % 18) by omega]
  have hoO1' : offO1 = ![k.val % 4, (2 * n + 1) / 36, (2 * n + 1) % 36, j.val * 16, 0] := by
    rw [hoO1, show (2 * n + 1) / 36 = n / 18 by omega, show (2 * n + 1) % 36 = 2 * (n % 18) + 1 by omega]
  unfold CompSt
  iintro ⟨H2, ⟨H0, ⟨%f, %hf, H3⟩⟩⟩ Hk
  iapply (wp_load_rect 𝒱 (c : Thread nD τ) none Set.univ (m := Memref.whole cc0_scratch2)
    (r := Rect.unit (s := S4x2x8x576x128) offC S1x1x1x32x128.size inbC) (f := inTgt pt pool k.val) hS2) $$ H2
  iintro H2
  rw [rC]
  iapply (wp_load_rect 𝒱 (c : Thread nD τ) none Set.univ (m := Memref.whole cc0_scratch0)
    (r := Rect.unit (s := S2x36x30x8x128) offT0 S1x1x1x8x128.size inbT0) (f := tabT sc) (Finset.subset_univ _)) $$ H0
  iintro H0
  rw [rT0]
  iapply (wp_load_rect 𝒱 (c : Thread nD τ) none Set.univ (m := Memref.whole cc0_scratch3)
    (r := Rect.unit (s := S4x2x36x128x128) offO0 S1x1x1x16x128.size inbO0) (f := f) hSO0) $$ H3
  iintro H3
  iapply (wp_store 𝒱 (c : Thread nD τ) none Set.univ (m := Memref.whole cc0_scratch3)
    (r := Rect.unit (s := S4x2x36x128x128) offO0 S1x1x1x16x128.size inbO0) (Mk := Finset.univ) (f := f) hSO0) $$ H3
  iintro H3
  have hf0 := out_store pt ln pool sc k.val ⟨j.val, hj⟩ (2 * n) (by omega) (inb := inbO0) hoO0' v0 hf
  generalize ((Memref.whole cc0_scratch3).access (Rect.unit (s := S4x2x36x128x128) offO0 S1x1x1x16x128.size inbO0)).write (Elt F) f _ Finset.univ = f0 at hf0
  iapply (wp_load_rect 𝒱 (c : Thread nD τ) none Set.univ (m := Memref.whole cc0_scratch0)
    (r := Rect.unit (s := S2x36x30x8x128) offT1 S1x1x1x8x128.size inbT1) (f := tabT sc) (Finset.subset_univ _)) $$ H0
  iintro H0
  rw [rT1]
  iapply (wp_load_rect 𝒱 (c : Thread nD τ) none Set.univ (m := Memref.whole cc0_scratch3)
    (r := Rect.unit (s := S4x2x36x128x128) offO1 S1x1x1x16x128.size inbO1) (f := f0) hSO1) $$ H3
  iintro H3
  iapply (wp_store 𝒱 (c : Thread nD τ) none Set.univ (m := Memref.whole cc0_scratch3)
    (r := Rect.unit (s := S4x2x36x128x128) offO1 S1x1x1x16x128.size inbO1) (Mk := Finset.univ) (f := f0) hSO1) $$ H3
  iintro H3
  have hf1 := out_store pt ln pool sc k.val ⟨j.val, hj⟩ (2 * n + 1) (by omega) (inb := inbO1) hoO1' v1 hf0
  iapply Hk
  isplitl [H2]; · iexact H2
  isplitl [H0]; · iexact H0
  iexists _
  isplitr
  · ipureintro; exact hf1
  · iexact H3

end Steps

end Cert.Kernel
-- ==== Proof.Page.lean ====
/- One page of one item: the seventy-two tiles of its heads, pair by pair. -/
module

public import proofs.«01_k».proof.Proof.Compute

@[expose] public section

set_option maxRecDepth 16384

noncomputable section

namespace Cert.Kernel

open Idealize.ShloMosaic Idealize.ShloMosaic.ValueIdx Idealize.ShloMosaic.TcCoe Idealize.ShloMosaic.Tactic Cert.Kernel.Gen
open Idealize.SL Idealize.SL.RA Idealize.SL.BI Idealize.SL.Sem
open scoped Idealize.SL.BI
open Idealize.SL.BI.BIBase Idealize.SL.BI.Laws Idealize.SL.ProofMode
open Idealize.ShloMosaic.Transfers

variable {F : FTy → Type} [BitOps F]

local notation "𝕄" => MT nD τ sig Unit (Elt F) ℕ (Pipeline.UD sig nD τ) ℕ

variable (pt : S6x512.Idx → BitVec 32) (ln : S6.Idx → BitVec 32)
  (pool : Fin 2 → S3840x576x128.Idx → Elt F .fp8e4m3) (sc : Fin 2 → S36x16x3840.Idx → Elt F .f32) (c : Dev nD)

theorem tab_inb (t h : ℕ) (ht : t < 2) (hh : h < 36) (w : BitVec 32) (hw : w.toNat < 3840) {off : Fin 5 → ℕ}
    (ho : off = ![t, h, (fdiv w 128#32).toNat, 0, 0]) : ∀ a, off a + S1x1x1x8x128.size a ≤ S2x36x30x8x128.size a := by
  rw [tile_word w hw] at ho
  subst ho
  intro a
  match a with
  | 0 => change t + 1 ≤ 2; omega
  | 1 => change h + 1 ≤ 36; omega
  | 2 => change w.toNat / 128 + 1 ≤ 30; omega
  | 3 => change 0 + 8 ≤ 8; omega
  | 4 => change 0 + 128 ≤ 128; omega

/-- The tiles a page names lie in the table, whatever its place in the pool. -/
theorem chk33_of (k : Fin k0_t20_loop.trips) (v w : BitVec 32) (hw : w.toNat < 3840) : k0_chk33 k v w := by
  unfold k0_chk33 k0_chk33_0 k0_chk33_1 k0_chk33_2
  repeat' apply And.intro
  all_goals exact fun _ => tab_inb _ _ (by decide) (by decide) w hw rfl

variable (𝒱 : Variants) (a0 : Memref sig .tc .smem S6x512 .i32) (h0 : a0.IsWhole) (a1 : Memref sig .tc .smem S6 .i32) (h1 : a1.IsWhole)

theorem left_word (k : Fin k0_t20_loop.trips) (j : Fin k0_t21_loop.trips) {v370 : BitVec 32} (hv : v370 = fmod (itw k.val) 64#32) :
    Scalar.subi (lword ln (k.val / 64)) (Scalar.muli (Scalar.addi (Scalar.muli v370 8#32) (itw j.val)) 16#32)
      = leftW ln (k.val / 64) (k.val % 64 * 8 + j.val) := by
  have hk := lt384 k
  have hj := lt8 j
  unfold leftW
  congr 1
  rw [hv, chunk_word k.val hk, itw_eq]
  show (BitVec.ofNat 32 (k.val % 64) * BitVec.ofNat 32 8 + BitVec.ofNat 32 j.val) * BitVec.ofNat 32 16 = _
  rw [← BitVec.ofNat_mul, ← BitVec.ofNat_add, ← BitVec.ofNat_mul]

/-- `comp_pair` as a step of a run of pairs, the heads done so far counted by `m`, beside what the pairs leave alone. -/
theorem comp_step {α : Type} (k : Fin k0_t20_loop.trips) (j : Fin k0_t21_loop.trips) {m : ℕ} {R : sProp 𝕄}
    {wd lf : BitVec 32} (hwd : wd = pword pt (k.val / 64) (k.val % 64 * 8 + j.val)) (hlt : wd.toNat < 3840)
    (hlf : lf = leftW ln (k.val / 64) (k.val % 64 * 8 + j.val))
    {offC offT0 offO0 offT1 offO1 : Fin 5 → ℕ} {inbC inbT0 inbO0 inbT1 inbO1}
    {w0 w1 : Vec F S1x1x1x32x128 .fp8e4m3 → Vec F S1x1x1x8x128 .i32 → FVec F S1x1x1x16x128 .bf16}
    {hlC hlT0 hlO0 hx0 hm0 hlT1 hlO1 hx1 hm1} {kk : PUnit → Prog (TpuEff nD τ sig (Elt F) Λ₀ .tc) α} {Q : α → sProp 𝕄}
    (hm : m < 72 ∧ m % 2 = 0)
    (hoC : offC = ![(fmod (itw k.val) 4#32).toNat, m / 36, (itw j.val).toNat, m % 36 / 2 * 32, 0])
    (hoT0 : offT0 = ![m / 36, m % 36, (fdiv wd 128#32).toNat, 0, 0])
    (hoO0 : offO0 = ![(fmod (itw k.val) 4#32).toNat, m / 36, m % 36, (Scalar.muli (itw j.val) 16#32).toNat, 0])
    (hoT1 : offT1 = ![m / 36, m % 36 + 1, (fdiv wd 128#32).toNat, 0, 0])
    (hoO1 : offO1 = ![(fmod (itw k.val) 4#32).toNat, m / 36, m % 36 + 1, (Scalar.muli (itw j.val) 16#32).toNat, 0])
    (hw0 : ∀ a b, w0 a b = headPay 0 wd lf a b) (hw1 : ∀ a b, w1 a b = headPay 1 wd lf a b)
    (hk : iprop(R ∗ CompSt pt ln pool sc c k.val j.val (m + 2)) ⊢ wp frame (wpE (defs₀ (F := F)) 𝒱 (c : Thread nD τ) none) Set.univ (kk ⟨⟩) Q) :
    iprop(R ∗ CompSt pt ln pool sc c k.val j.val m) ⊢ (wp frame (wpE (defs₀ (F := F)) 𝒱 (c : Thread nD τ) none) Set.univ
        (.op (.load (Memref.whole cc0_scratch2) (Rect.unit (s := S4x2x8x576x128) offC S1x1x1x32x128.size inbC).toLoadRect hlC) fun codes =>
          .op (.load (Memref.whole cc0_scratch0) (Rect.unit (s := S2x36x30x8x128) offT0 S1x1x1x8x128.size inbT0).toLoadRect hlT0) fun tab0 =>
          .op (.load (Memref.whole cc0_scratch3) (Rect.unit (s := S4x2x36x128x128) offO0 S1x1x1x16x128.size inbO0).toLoadRect hlO0) fun _ =>
          .op (.store (Memref.whole cc0_scratch3) (Rect.unit (s := S4x2x36x128x128) offO0 S1x1x1x16x128.size inbO0) (w0 codes tab0) Finset.univ hx0 hm0) fun _ =>
          .op (.load (Memref.whole cc0_scratch0) (Rect.unit (s := S2x36x30x8x128) offT1 S1x1x1x8x128.size inbT1).toLoadRect hlT1) fun tab1 =>
          .op (.load (Memref.whole cc0_scratch3) (Rect.unit (s := S4x2x36x128x128) offO1 S1x1x1x16x128.size inbO1).toLoadRect hlO1) fun _ =>
          .op (.store (Memref.whole cc0_scratch3) (Rect.unit (s := S4x2x36x128x128) offO1 S1x1x1x16x128.size inbO1) (w1 codes tab1) Finset.univ hx1 hm1) kk) Q : sProp 𝕄) := by
  obtain ⟨n, rfl⟩ : ∃ n, m = 2 * n := ⟨m / 2, by omega⟩
  have hn : n < 36 := by omega
  have q0 : 2 * n / 36 = n / 18 := by omega
  have q1 : 2 * n % 36 = 2 * (n % 18) := by omega
  have q2 : 2 * (n % 18) / 2 = n % 18 := by omega
  rw [q0, q1] at hoC hoT0 hoO0 hoT1 hoO1
  rw [q2] at hoC
  iintro ⟨HR, H⟩
  iapply (comp_pair (α := α) pt ln pool sc c 𝒱 k j n hn hwd hlt hlf (inbC := inbC) (inbT0 := inbT0) (inbO0 := inbO0) (inbT1 := inbT1) (inbO1 := inbO1)
    hoC hoT0 hoO0 hoT1 hoO1 hw0 hw1) $$ H
  iintro H
  iapply hk
  isplitl [HR]; · iexact HR
  iexact H

set_option maxHeartbeats 4000000 in
theorem comp_trip (k : Fin k0_t20_loop.trips) (v249 v281 : BitVec 32) (h6 : k0_cond6 k v281 = 1#1) (v344 : BitVec 32) (v355 : BitVec 1)
    (v356 v360 v370 v380 v390 : BitVec 32) (hv : v370 = fmod (itw k.val) 64#32)
    (hpt : ∀ x, (pt x).toNat < 3840) (j : Fin k0_t21_loop.trips) :
    (iprop(owns (Val := Elt F) (c : Thread nD τ) a0 fullShare pt ∗ owns (Val := Elt F) (c : Thread nD τ) a1 fullShare ln ∗ CompSt pt ln pool sc c k.val j.val 0) : sProp 𝕄)
      ⊢ wp frame (wpE (defs₀ (F := F)) 𝒱 (c : Thread nD τ) none) Set.univ (atBufs (k0_t21_body (F := F)) a0 h0 a1 h1 k v249 v281 h6 v344 v355 v356 v360 v370 v380 v390 j ⟨⟩)
        (fun _ => iprop(owns (Val := Elt F) (c : Thread nD τ) a0 fullShare pt ∗ owns (Val := Elt F) (c : Thread nD τ) a1 fullShare ln ∗ CompSt pt ln pool sc c k.val (j.val + 1) 0)) := by
  have hk := lt384 k
  have hj := lt8 j
  have hwd : (pword pt (k.val / 64) (k.val % 64 * 8 + j.val)).toNat < 3840 := hpt _
  have hchk := chk33_of k v281 _ hwd
  have ho0 : k0_off184 k j = ![k.val / 64, k.val % 64 * 8 + j.val] := by
    have e : k0_off184 k j = ![(fdiv (itw k.val) 64#32).toNat, (Scalar.addi (Scalar.muli (fmod (itw k.val) 64#32) 8#32) (itw j.val)).toNat] := rfl
    rw [e, req_word k.val hk, chunk_word k.val hk, itw_eq]
    rw [show Scalar.addi (Scalar.muli (BitVec.ofNat 32 (k.val % 64)) 8#32) (BitVec.ofNat 32 j.val) = BitVec.ofNat 32 (k.val % 64 * 8 + j.val) from by
      show BitVec.ofNat 32 (k.val % 64) * BitVec.ofNat 32 8 + BitVec.ofNat 32 j.val = _
      rw [← BitVec.ofNat_mul, ← BitVec.ofNat_add], toNat_lt (by omega)]
  have ho1 : k0_off185 k = ![k.val / 64] := by
    have e : k0_off185 k = ![(fdiv (itw k.val) 64#32).toNat] := rfl
    rw [e, req_word k.val hk]
  simp only [atBufs, k0_t21_body]
  simp only [k0_part37_eq_skeleton, k0_part37_skel, k0_part38_eq_skeleton, k0_part38_skel, k0_part39_eq_skeleton, k0_part39_skel, k0_part40_eq_skeleton, k0_part40_skel, k0_part41_eq_skeleton, k0_part41_skel, k0_part42_eq_skeleton, k0_part42_skel, k0_part43_eq_skeleton, k0_part43_skel, k0_part44_eq_skeleton, k0_part44_skel, k0_part45_eq_skeleton, k0_part45_skel, k0_part46_eq_skeleton, k0_part46_skel, k0_part47_eq_skeleton, k0_part47_skel, k0_part48_eq_skeleton, k0_part48_skel, k0_part49_eq_skeleton, k0_part49_skel, k0_part50_eq_skeleton, k0_part50_skel, k0_part51_eq_skeleton, k0_part51_skel, k0_part52_eq_skeleton, k0_part52_skel, k0_part53_eq_skeleton, k0_part53_skel, k0_part54_eq_skeleton, k0_part54_skel, k0_part55_eq_skeleton, k0_part55_skel, k0_part56_eq_skeleton, k0_part56_skel, k0_part57_eq_skeleton, k0_part57_skel, k0_part58_eq_skeleton, k0_part58_skel, k0_part59_eq_skeleton, k0_part59_skel, k0_part60_eq_skeleton, k0_part60_skel, k0_part61_eq_skeleton, k0_part61_skel, k0_part62_eq_skeleton, k0_part62_skel, k0_part63_eq_skeleton, k0_part63_skel, k0_part64_eq_skeleton, k0_part64_skel, k0_part65_eq_skeleton, k0_part65_skel, k0_part66_eq_skeleton, k0_part66_skel, k0_part67_eq_skeleton, k0_part67_skel, k0_part68_eq_skeleton, k0_part68_skel, k0_part69_eq_skeleton, k0_part69_skel, k0_part70_eq_skeleton, k0_part70_skel, k0_part71_eq_skeleton, k0_part71_skel, k0_part72_eq_skeleton, k0_part72_skel, k0_part73_eq_skeleton, k0_part73_skel, k0_part74_eq_skeleton, k0_part74_skel, k0_part75_eq_skeleton, k0_part75_skel, k0_part76_eq_skeleton, k0_part76_skel, k0_part77_eq_skeleton, k0_part77_skel, k0_part78_eq_skeleton, k0_part78_skel, k0_part79_eq_skeleton, k0_part79_skel, k0_part80_eq_skeleton, k0_part80_skel, k0_part81_eq_skeleton, k0_part81_skel, k0_part82_eq_skeleton, k0_part82_skel, k0_part83_eq_skeleton, k0_part83_skel, k0_part84_eq_skeleton, k0_part84_skel,
    Prog.lift, smemLoad, smemLoadElt, Prog.bind_op, Prog.bind_ret, Prog.bind_assoc, Prog.pure_eq_ret]
  iintro ⟨HP, ⟨HL, H⟩⟩
  iapply (smem2 pt c 𝒱 a0 (k.val / 64) (k.val % 64 * 8 + j.val) (by omega) (by omega) ho0) $$ HP
  iintro HP
  iapply (wp_assume 𝒱 (c : Thread nD τ) none Set.univ hchk)
  iapply (smem1 ln c 𝒱 a1 (k.val / 64) (by omega) ho1) $$ HL
  iintro HL
  have hlf := left_word ln k j hv
  icombine HP HL as HR
  icombine HR H as H
  istop
  change iprop((owns (Val := Elt F) (c : Thread nD τ) a0 fullShare pt ∗ owns (Val := Elt F) (c : Thread nD τ) a1 fullShare ln) ∗ CompSt pt ln pool sc c k.val j.val 0) ⊢ _
  iterate 36
    refine comp_step pt ln pool sc c 𝒱 k j (wd := pword pt (k.val / 64) (k.val % 64 * 8 + j.val)) rfl hwd hlf (by decide)
      (by exact rfl) (by exact rfl) (by exact rfl) (by exact rfl) (by exact rfl) (fun _ _ => by exact rfl) (fun _ _ => by exact rfl) ?_
  iintro ⟨⟨HP, HL⟩, H⟩
  rw [wp_ret]
  imodintro
  isplitl [HP]; · iexact HP
  isplitl [HL]; · iexact HL
  iapply (compSt_page pt ln pool sc c) $$ H

end Cert.Kernel
-- ==== Proof.Fetch.lean ====
/- The ring of fetched pages: how an item's sixteen transfers start, and what waiting for them gives. -/
module

public import proofs.«01_k».proof.Proof.State

@[expose] public section

set_option maxRecDepth 16384

noncomputable section

namespace Cert.Kernel

open Idealize.ShloMosaic Idealize.ShloMosaic.ValueIdx Idealize.ShloMosaic.TcCoe Idealize.ShloMosaic.Tactic Cert.Kernel.Gen
open Idealize.SL Idealize.SL.RA Idealize.SL.BI Idealize.SL.Sem
open scoped Idealize.SL.BI
open Idealize.SL.BI.BIBase Idealize.SL.BI.Laws Idealize.SL.ProofMode
open Idealize.ShloMosaic.Transfers

variable {F : FTy → Type} [BitOps F]

local notation "𝕄" => MT nD τ sig Unit (Elt F) ℕ (Pipeline.UD sig nD τ) ℕ

variable (pt : S6x512.Idx → BitVec 32)
  (pool : Fin 2 → S3840x576x128.Idx → Elt F .fp8e4m3)
  (c : Dev nD)

/-- The page of the pool that page `j` of item `i` names. -/
abbrev pidJ (i j : ℕ) : Fin 3840 := pidx pt (i / 64) (i % 64 * 8 + j)

/-- What the two transfers of page `j` of item `i` into slot `s` need. -/
def pageRes (s i j : ℕ) : sProp 𝕄 :=
  iprop((∃ f, L c cc0_scratch2 ↦[inBlk s 0 j]{fullShare} f) ∗ (L c main_v1 ↦[pageSet (pidJ pt i j)]{qJ s j} pool 0)
    ∗ (∃ f, L c cc0_scratch2 ↦[inBlk s 1 j]{fullShare} f) ∗ (L c main_v3 ↦[pageSet (pidJ pt i j)]{qJ s j} pool 1))

theorem pageRes_out (s i j : ℕ) : pageRes pt pool c s i j ⊢
  (iprop((∃ f, L c cc0_scratch2 ↦[inBlk s 0 j]{fullShare} f) ∗ (L c main_v1 ↦[pageSet (pidJ pt i j)]{qJ s j} pool 0)
    ∗ (∃ f, L c cc0_scratch2 ↦[inBlk s 1 j]{fullShare} f) ∗ (L c main_v3 ↦[pageSet (pidJ pt i j)]{qJ s j} pool 1)) : sProp 𝕄) := .rfl

/-- What the transfer of page `j` delivers, of the first pool and of the second. -/
def inD0 (s i j : ℕ) : sProp 𝕄 :=
  iprop((L c cc0_scratch2 ↦[inBlk s 0 j]{fullShare} inTgt pt pool i) ∗ (L c main_v1 ↦[pageSet (pidJ pt i j)]{qJ s j} pool 0))
def inD1 (s i j : ℕ) : sProp 𝕄 :=
  iprop((L c cc0_scratch2 ↦[inBlk s 1 j]{fullShare} inTgt pt pool i) ∗ (L c main_v3 ↦[pageSet (pidJ pt i j)]{qJ s j} pool 1))

instance (s i j : ℕ) : Storable (upEmb : UEmb _ 𝕄) (inD0 pt pool c s i j) := by unfold inD0; infer_instance
instance (s i j : ℕ) : Storable (upEmb : UEmb _ 𝕄) (inD1 pt pool c s i j) := by unfold inD1; infer_instance

/-- The sixteen deliveries of an item, in the order its transfers start. -/
def inD (s i : ℕ) (n : Fin 16) : sProp 𝕄 := if n.val % 2 = 0 then inD0 pt pool c s i (n.val / 2) else inD1 pt pool c s i (n.val / 2)

instance (s i : ℕ) (n : Fin 16) : Storable (upEmb : UEmb _ 𝕄) (inD pt pool c s i n) := by
  unfold inD; split <;> infer_instance

/-- What is kept of the pools while an item's pages are in flight. -/
def poolRest (s i : ℕ) : sProp 𝕄 :=
  iprop(bigSep (Finset.range 8) (fun j => iprop((L c main_v1 ↦[Finset.univ \ pageSet (pidJ pt i j)]{qJ s j} pool 0)
      ∗ (L c main_v3 ↦[Finset.univ \ pageSet (pidJ pt i j)]{qJ s j} pool 1)))
    ∗ (L c main_v1 ↦{shareDrop (qS s) 8} pool 0) ∗ (L c main_v3 ↦{shareDrop (qS s) 8} pool 1))

abbrev inBatch (s : Fin 4) (i j u : ℕ) : sProp 𝕄 :=
  Batch EC (c : Thread nD τ) (SemLoc.dma (inCell s)) () NIn (inD pt pool c s.val i) j u

/-- An item's pages, in flight. -/
def InFlight (s : Fin 4) (i : ℕ) : sProp 𝕄 :=
  iprop(inBatch pt pool c s i 16 0 ∗ poolRest pt pool c s.val i)

/-- A slot of the ring, at rest. -/
def InIdle (s : Fin 4) : sProp 𝕄 :=
  iprop(semVal ((c : Thread nD τ), SemLoc.dma (inCell s)) 0 ∗ (∃ f, L c cc0_scratch2 ↦[inSlot s.val]{fullShare} f)
    ∗ (L c main_v1 ↦{qS s.val} pool 0) ∗ (L c main_v3 ↦{qS s.val} pool 1))

/-- The slot once its item's pages have landed. -/
def InReady (s : Fin 4) (i : ℕ) : sProp 𝕄 :=
  iprop(semVal ((c : Thread nD τ), SemLoc.dma (inCell s)) 0 ∗ (L c cc0_scratch2 ↦[inSlot s.val]{fullShare} inTgt pt pool i)
    ∗ (L c main_v1 ↦{qS s.val} pool 0) ∗ (L c main_v3 ↦{qS s.val} pool 1))

/-- Before the transfers of page `j`; and between its two. -/
def InSt (s : Fin 4) (i j : ℕ) : sProp 𝕄 :=
  iprop(inBatch pt pool c s i (2 * j) 0 ∗ bigSep (Finset.Ico j 8) (pageRes pt pool c s.val i) ∗ poolRest pt pool c s.val i)
def InSt' (s : Fin 4) (i j : ℕ) : sProp 𝕄 :=
  iprop(inBatch pt pool c s i (2 * j + 1) 0 ∗ (∃ f, L c cc0_scratch2 ↦[inBlk s.val 1 j]{fullShare} f)
    ∗ (L c main_v3 ↦[pageSet (pidJ pt i j)]{qJ s.val j} pool 1)
    ∗ bigSep (Finset.Ico (j + 1) 8) (pageRes pt pool c s.val i) ∗ poolRest pt pool c s.val i)

/-! ## The regions -/

theorem inSlot_eq (s : ℕ) : inSlot s = (Finset.range 8).biUnion fun j => inBlk s 0 j ∪ inBlk s 1 j := by
  ext x
  have h1 : (x 1).val < 2 := (x 1).isLt
  have h2 : (x 2).val < 8 := (x 2).isLt
  simp only [inSlot, inBlk, Finset.mem_filter, Finset.mem_univ, true_and, Finset.mem_biUnion, Finset.mem_range, Finset.mem_union]
  constructor
  · intro h
    refine ⟨(x 2).val, h2, ?_⟩
    omega
  · rintro ⟨j, hj, h⟩
    omega

theorem inBlk_disj (s t t' j j' : ℕ) (h : t ≠ t' ∨ j ≠ j') : Disjoint (inBlk s t j) (inBlk s t' j') := by
  rw [Finset.disjoint_left]
  intro x hx hx'
  simp only [inBlk, Finset.mem_filter, Finset.mem_univ, true_and] at hx hx'
  omega

theorem inRow_disj (s : ℕ) : ∀ j ∈ Finset.range 8, ∀ j' ∈ Finset.range 8, j ≠ j' →
    Disjoint (inBlk s 0 j ∪ inBlk s 1 j) (inBlk s 0 j' ∪ inBlk s 1 j') := by
  intro j _ j' _ h
  simp only [Finset.disjoint_union_left, Finset.disjoint_union_right]
  exact ⟨⟨inBlk_disj _ _ _ _ _ (.inr h), inBlk_disj _ _ _ _ _ (.inr h)⟩, inBlk_disj _ _ _ _ _ (.inr h), inBlk_disj _ _ _ _ _ (.inr h)⟩

/-- A slot of the ring, page by page. -/
theorem inSlot_split (s : ℕ) (f : Buf (Elt F) (L c cc0_scratch2)) :
    (L c cc0_scratch2 ↦[inSlot s]{fullShare} f : sProp 𝕄)
      = bigSep (Finset.range 8) fun j => iprop((L c cc0_scratch2 ↦[inBlk s 0 j]{fullShare} f) ∗ (L c cc0_scratch2 ↦[inBlk s 1 j]{fullShare} f)) := by
  rw [show (inSlot s : Finset (Idx (L c cc0_scratch2))) = (Finset.range 8).biUnion fun j => inBlk s 0 j ∪ inBlk s 1 j from inSlot_eq s,
    pointsTo_biUnion _ _ (inRow_disj s)]
  refine BI.bigSep_congr fun j _ => ?_
  have h := pointsTo_union (ℓ := L c cc0_scratch2) (q := fullShare) (f := f) (Name := ℕ) (Ix := Unit) (U := Pipeline.UD sig nD τ) (Lvl := ℕ)
    (I := inBlk s 0 j) (J := inBlk s 1 j) (inBlk_disj s 0 1 j j (.inl (by decide)))
  exact Entails.antisymm h.1 h.2

/-- A share of a pool, page by page of an item. -/
theorem pool_split (b : Ref sig .tc) (q : PosShare TreeShare) (f : Buf (Elt F) (L c b)) (P : ℕ → Finset (Idx (L c b))) :
    (L c b ↦{q} f : sProp 𝕄) = iprop((L c b ↦{shareDrop q 8} f)
      ∗ bigSep (Finset.range 8) fun j => iprop((L c b ↦[P j]{shareTokN q j} f) ∗ (L c b ↦[Finset.univ \ P j]{shareTokN q j} f))) := by
  have h := pointsTo_toks_range (ℓ := L c b) (S := Finset.univ) (f := f) (Name := ℕ) (Ix := Unit) (U := Pipeline.UD sig nD τ) (Lvl := ℕ) q 8
  rw [Entails.antisymm h.1 h.2]
  congr 1
  refine BI.bigSep_congr fun j _ => ?_
  have h := pointsTo_split_subset (ℓ := L c b) (q := shareTokN q j) (f := f) (Name := ℕ) (Ix := Unit) (U := Pipeline.UD sig nD τ) (Lvl := ℕ)
    (Finset.subset_univ (P j))
  exact Entails.antisymm h.1 h.2

/-! ## Starting an item's transfers -/

theorem fetch_start (s : Fin 4) (i : ℕ) :
    InIdle pool c s ⊢ (|={Set.univ}=> InSt pt pool c s i 0 : sProp 𝕄) := by
  unfold InIdle InSt
  rw [pool_split c main_v1 (qS s.val) (pool 0) (fun j => pageSet (pidJ pt i j)),
    pool_split c main_v3 (qS s.val) (pool 1) (fun j => pageSet (pidJ pt i j)), BI.bigSep_sep', BI.bigSep_sep']
  iintro ⟨Hq, ⟨%f, Hf⟩, ⟨Hd0, Hp0, Hr0⟩, ⟨Hd1, Hp1, Hr1⟩⟩
  imod (batch_alloc' (Lvl := ℕ) EC (c : Thread nD τ) () NIn (inD pt pool c s.val i) (sm := SemLoc.dma (inCell s)) (E := Set.univ)) $$ Hq with HB
  imodintro
  isplitl [HB]; · iexact HB
  ihave Hf := (Entails.of_eq ((inSlot_split c s.val f).trans (BI.bigSep_sep' _ _ _))) $$ Hf
  icases Hf with ⟨Hf0, Hf1⟩
  isplitl [Hp0 Hp1 Hf0 Hf1]
  · iapply (show iprop(bigSep (Finset.range 8) (fun j => (L c cc0_scratch2 ↦[inBlk s.val 0 j]{fullShare} f : sProp 𝕄))
        ∗ bigSep (Finset.range 8) (fun j => (L c main_v1 ↦[pageSet (pidJ pt i j)]{qJ s.val j} pool 0 : sProp 𝕄))
        ∗ bigSep (Finset.range 8) (fun j => (L c cc0_scratch2 ↦[inBlk s.val 1 j]{fullShare} f : sProp 𝕄))
        ∗ bigSep (Finset.range 8) (fun j => (L c main_v3 ↦[pageSet (pidJ pt i j)]{qJ s.val j} pool 1 : sProp 𝕄)))
        ⊢ bigSep (Finset.Ico 0 8) (pageRes pt pool c s.val i) from by
      rw [← BI.bigSep_sep', ← BI.bigSep_sep', ← BI.bigSep_sep', Finset.range_eq_Ico]
      refine BI.bigSep_mono fun j _ => ?_
      unfold pageRes
      show BIBase.Entails (PROP := sProp 𝕄) _ _
      iintro ⟨H0, H1, H2, H3⟩
      isplitl [H0]; · iexists f; iexact H0
      isplitl [H1]; · iexact H1
      isplitl [H2]; · iexists f; iexact H2
      iexact H3)
    isplitl [Hf0]; · iexact Hf0
    isplitl [Hp0]; · iexact Hp0
    isplitl [Hf1]; · iexact Hf1
    iexact Hp1
  unfold poolRest
  isplitl [Hr0 Hr1]
  · iapply (Entails.of_eq (BI.bigSep_sep' (Finset.range 8) _ _).symm)
    isplitl [Hr0]; · iexact Hr0
    iexact Hr1
  isplitl [Hd0]; · iexact Hd0
  iexact Hd1

theorem ico_step {n j : ℕ} (P : ℕ → sProp 𝕄) (h : j < n) :
    bigSep (Finset.Ico j n) P = iprop(P j ∗ bigSep (Finset.Ico (j + 1) n) P) := by
  rw [show Finset.Ico j n = insert j (Finset.Ico (j + 1) n) from by ext x; simp only [Finset.mem_insert, Finset.mem_Ico]; omega,
    BI.bigSep_insert (by simp)]
  rfl

section Steps
variable (𝒱 : Variants) {α : Type}

theorem page_land0 (s : Fin 4) (i : ℕ) (j : Fin 8) (off off' inb inb' hr hr' hq hq')
    (ho : off = ![(pidJ pt i j.val).val, 0, 0]) (ho' : off' = ![s.val, 0, j.val, 0, 0])
    (fd : Buf (Elt F) (L c cc0_scratch2)) :
    ∀ x ∈ (((Memref.whole cc0_scratch2).slice (Rect.unit (s := S4x2x8x576x128) off' S1x1x1x576x128.size inb') hr').squeeze S576x128 hq').view.set,
      (((Memref.whole cc0_scratch2).slice (Rect.unit (s := S4x2x8x576x128) off' S1x1x1x576x128.size inb') hr').squeeze S576x128 hq').view.write (Elt F) fd
        (ReadAs.same.apply ((((Memref.whole main_v1).slice (Rect.unit (s := S3840x576x128) off S1x576x128.size inb) hr).squeeze S576x128 hq).view.read (Elt F) (pool 0))) Finset.univ x
        = inTgt pt pool i x := by
  refine land _ _ _ _ _ fun y => ?_
  obtain ⟨a, b, rfl⟩ : ∃ (a : Fin 576) (b : Fin 128), y = ix2 a b := ⟨y 0, y 1, eq_ix2 y⟩
  change inTgt pt pool i ((Rect.unit (s := S4x2x8x576x128) off' S1x1x1x576x128.size inb').emb (Shape.reshapeEquiv _ (ix2 a b)))
    = pool 0 ((Rect.unit (s := S3840x576x128) off S1x576x128.size inb).emb (Shape.reshapeEquiv _ (ix2 a b)))
  rw [inBlk_emb s 0 j off' ho', page_emb (pidJ pt i j.val) off ho]
  rfl

theorem page_land1 (s : Fin 4) (i : ℕ) (j : Fin 8) (off off' inb inb' hr hr' hq hq')
    (ho : off = ![(pidJ pt i j.val).val, 0, 0]) (ho' : off' = ![s.val, 1, j.val, 0, 0])
    (fd : Buf (Elt F) (L c cc0_scratch2)) :
    ∀ x ∈ (((Memref.whole cc0_scratch2).slice (Rect.unit (s := S4x2x8x576x128) off' S1x1x1x576x128.size inb') hr').squeeze S576x128 hq').view.set,
      (((Memref.whole cc0_scratch2).slice (Rect.unit (s := S4x2x8x576x128) off' S1x1x1x576x128.size inb') hr').squeeze S576x128 hq').view.write (Elt F) fd
        (ReadAs.same.apply ((((Memref.whole main_v3).slice (Rect.unit (s := S3840x576x128) off S1x576x128.size inb) hr).squeeze S576x128 hq).view.read (Elt F) (pool 1))) Finset.univ x
        = inTgt pt pool i x := by
  refine land _ _ _ _ _ fun y => ?_
  obtain ⟨a, b, rfl⟩ : ∃ (a : Fin 576) (b : Fin 128), y = ix2 a b := ⟨y 0, y 1, eq_ix2 y⟩
  change inTgt pt pool i ((Rect.unit (s := S4x2x8x576x128) off' S1x1x1x576x128.size inb').emb (Shape.reshapeEquiv _ (ix2 a b)))
    = pool 1 ((Rect.unit (s := S3840x576x128) off S1x576x128.size inb).emb (Shape.reshapeEquiv _ (ix2 a b)))
  rw [inBlk_emb s 1 j off' ho', page_emb (pidJ pt i j.val) off ho]
  rfl

/-- The transfer of page `j` from the FIRST pool starts. -/
theorem fetch0 (s : Fin 4) (i : ℕ) (j : Fin 8) {off : Fin 3 → ℕ} {off' : Fin 5 → ℕ} {offs : Fin 1 → ℕ} {inb inb' inbs hr hr' hq hq' hqs}
    (ho : off = ![(pidJ pt i j.val).val, 0, 0]) (ho' : off' = ![s.val, 0, j.val, 0, 0]) (hos : offs = ![s.val])
    {hsrc hdst hsem} {k : PUnit → Prog (TpuEff nD τ sig (Elt F) Λ₀ .tc) α} {Q : α → sProp 𝕄} :
    InSt pt pool c s i j.val ⊢ (iprop((InSt' pt pool c s i j.val -∗ wp frame (wpE (defs₀ (F := F)) 𝒱 (c : Thread nD τ) none) Set.univ (k ⟨⟩) Q)
      -∗ wp frame (wpE (defs₀ (F := F)) 𝒱 (c : Thread nD τ) none) Set.univ
        (.op (.enqueueDma (((Memref.whole main_v1).slice (Rect.unit (s := S3840x576x128) off S1x576x128.size inb) hr).squeeze S576x128 hq)
          (.here (((Memref.whole cc0_scratch2).slice (Rect.unit (s := S4x2x8x576x128) off' S1x1x1x576x128.size inb') hr').squeeze S576x128 hq'))
          (.dma (((cc0_scratch6 : DmaSems sig S4).slice (Rect.unit (s := S4) offs S1.size inbs)).squeeze S_ hqs).sem) hsrc hdst hsem) k) Q) : sProp 𝕄) := by
  have hcell := inCell_eq s offs hos inbs hqs
  have hset : (((Memref.whole main_v1).slice (Rect.unit (s := S3840x576x128) off S1x576x128.size inb) hr).squeeze S576x128 hq).view.set
      = pageSet (pidJ pt i j.val) := (View.set_reshape _ _).trans ((View.set_slice_whole _ _).trans (page_rect _ off ho inb))
  have hset' : (((Memref.whole cc0_scratch2).slice (Rect.unit (s := S4x2x8x576x128) off' S1x1x1x576x128.size inb') hr').squeeze S576x128 hq').view.set
      = inBlk s.val 0 j.val := (View.set_reshape _ _).trans ((View.set_slice_whole _ _).trans (inBlk_rect _ _ _ off' ho' inb'))
  have hland := page_land0 pt pool c s i j off off' inb inb' hr hr' hq hq' ho ho'
  revert hsem
  rw [hcell]
  intro hsem
  have hj : 2 * j.val < 16 := by omega
  have e : inD pt pool c s.val i ⟨2 * j.val, hj⟩ = inD0 pt pool c s.val i j.val := by
    unfold inD
    rw [if_pos (by show 2 * j.val % 2 = 0; omega)]
    show inD0 pt pool c s.val i (2 * j.val / 2) = _
    rw [show (2 * j.val) / 2 = j.val by omega]
  have hD : ∀ f0, (iprop((L c cc0_scratch2 ↦[inBlk s.val 0 j.val]{fullShare}
        (((Memref.whole cc0_scratch2).slice (Rect.unit (s := S4x2x8x576x128) off' S1x1x1x576x128.size inb') hr').squeeze S576x128 hq').view.write (Elt F) f0
          (ReadAs.same.apply ((((Memref.whole main_v1).slice (Rect.unit (s := S3840x576x128) off S1x576x128.size inb) hr).squeeze S576x128 hq).view.read (Elt F) (pool 0))) Finset.univ)
      ∗ (L c main_v1 ↦[(((Memref.whole main_v1).slice (Rect.unit (s := S3840x576x128) off S1x576x128.size inb) hr).squeeze S576x128 hq).view.set]{qJ s.val j.val} pool 0)) : sProp 𝕄)
      ⊢ inD pt pool c s.val i ⟨2 * j.val, hj⟩ := by
    intro f0
    rw [e, hset]
    unfold inD0
    refine sep_mono_left (Entails.of_eq (pointsTo_congr ?_))
    rw [← hset']
    exact hland f0
  have hN : (((Memref.whole cc0_scratch2).slice (Rect.unit (s := S4x2x8x576x128) off' S1x1x1x576x128.size inb') hr').squeeze S576x128 hq').view.amount
      (SemLoc.dma (inCell s)) = NIn := rfl
  have hsub : (((Memref.whole cc0_scratch2).slice (Rect.unit (s := S4x2x8x576x128) off' S1x1x1x576x128.size inb') hr').squeeze S576x128 hq').view.set
      ⊆ inBlk s.val 0 j.val := by rw [hset']
  have hu : 0 ≤ 2 * j.val * NIn := Nat.zero_le _
  unfold InSt InSt'
  iintro ⟨HB, Hres, Hrest⟩ Hk
  ihave Hres := (Entails.of_eq (ico_step (pageRes pt pool c s.val i) j.isLt)) $$ Hres
  icases Hres with ⟨Hpage, Hres⟩
  ihave Hpage := (pageRes_out pt pool c s.val i j.val) $$ Hpage
  icases Hpage with ⟨⟨%f0, Hf0⟩, Hp0, Hf1, Hp1⟩
  iapply (wp_dmaBatch EC 𝒱 (c : Thread nD τ) none () NIn
    (src := (((Memref.whole main_v1).slice (Rect.unit (s := S3840x576x128) off S1x576x128.size inb) hr).squeeze S576x128 hq))
    (dst := (((Memref.whole cc0_scratch2).slice (Rect.unit (s := S4x2x8x576x128) off' S1x1x1x576x128.size inb') hr').squeeze S576x128 hq'))
    (via := ReadAs.same) (D := inD pt pool c s.val i) (j := 2 * j.val) (u := 0) (q := qJ s.val j.val)
    (fs := pool 0) (fd := f0) (Sd := inBlk s.val 0 j.val)
    hN hsub hj hu (hD f0)) $$ [Hp0 Hf0 HB]
  · rw [hset]
    isplitl [Hp0]; · iexact Hp0
    isplitl [Hf0]; · iexact Hf0
    iexact HB
  iintro HB
  iapply Hk
  isplitl [HB]; · iexact HB
  isplitl [Hf1]; · iexact Hf1
  isplitl [Hp1]; · iexact Hp1
  isplitl [Hres]; · iexact Hres
  iexact Hrest

/-- The transfer of page `j` from the SECOND pool starts. -/
theorem fetch1 (s : Fin 4) (i : ℕ) (j : Fin 8) {off : Fin 3 → ℕ} {off' : Fin 5 → ℕ} {offs : Fin 1 → ℕ} {inb inb' inbs hr hr' hq hq' hqs}
    (ho : off = ![(pidJ pt i j.val).val, 0, 0]) (ho' : off' = ![s.val, 1, j.val, 0, 0]) (hos : offs = ![s.val])
    {hsrc hdst hsem} {k : PUnit → Prog (TpuEff nD τ sig (Elt F) Λ₀ .tc) α} {Q : α → sProp 𝕄} :
    InSt' pt pool c s i j.val ⊢ (iprop((InSt pt pool c s i (j.val + 1) -∗ wp frame (wpE (defs₀ (F := F)) 𝒱 (c : Thread nD τ) none) Set.univ (k ⟨⟩) Q)
      -∗ wp frame (wpE (defs₀ (F := F)) 𝒱 (c : Thread nD τ) none) Set.univ
        (.op (.enqueueDma (((Memref.whole main_v3).slice (Rect.unit (s := S3840x576x128) off S1x576x128.size inb) hr).squeeze S576x128 hq)
          (.here (((Memref.whole cc0_scratch2).slice (Rect.unit (s := S4x2x8x576x128) off' S1x1x1x576x128.size inb') hr').squeeze S576x128 hq'))
          (.dma (((cc0_scratch6 : DmaSems sig S4).slice (Rect.unit (s := S4) offs S1.size inbs)).squeeze S_ hqs).sem) hsrc hdst hsem) k) Q) : sProp 𝕄) := by
  have hcell := inCell_eq s offs hos inbs hqs
  have hset : (((Memref.whole main_v3).slice (Rect.unit (s := S3840x576x128) off S1x576x128.size inb) hr).squeeze S576x128 hq).view.set
      = pageSet (pidJ pt i j.val) := (View.set_reshape _ _).trans ((View.set_slice_whole _ _).trans (page_rect _ off ho inb))
  have hset' : (((Memref.whole cc0_scratch2).slice (Rect.unit (s := S4x2x8x576x128) off' S1x1x1x576x128.size inb') hr').squeeze S576x128 hq').view.set
      = inBlk s.val 1 j.val := (View.set_reshape _ _).trans ((View.set_slice_whole _ _).trans (inBlk_rect _ _ _ off' ho' inb'))
  have hland := page_land1 pt pool c s i j off off' inb inb' hr hr' hq hq' ho ho'
  revert hsem
  rw [hcell]
  intro hsem
  have hj : 2 * j.val + 1 < 16 := by omega
  have e : inD pt pool c s.val i ⟨2 * j.val + 1, hj⟩ = inD1 pt pool c s.val i j.val := by
    unfold inD
    rw [if_neg (by show ¬ (2 * j.val + 1) % 2 = 0; omega)]
    show inD1 pt pool c s.val i ((2 * j.val + 1) / 2) = _
    rw [show (2 * j.val + 1) / 2 = j.val by omega]
  have hD : ∀ f0, (iprop((L c cc0_scratch2 ↦[inBlk s.val 1 j.val]{fullShare}
        (((Memref.whole cc0_scratch2).slice (Rect.unit (s := S4x2x8x576x128) off' S1x1x1x576x128.size inb') hr').squeeze S576x128 hq').view.write (Elt F) f0
          (ReadAs.same.apply ((((Memref.whole main_v3).slice (Rect.unit (s := S3840x576x128) off S1x576x128.size inb) hr).squeeze S576x128 hq).view.read (Elt F) (pool 1))) Finset.univ)
      ∗ (L c main_v3 ↦[(((Memref.whole main_v3).slice (Rect.unit (s := S3840x576x128) off S1x576x128.size inb) hr).squeeze S576x128 hq).view.set]{qJ s.val j.val} pool 1)) : sProp 𝕄)
      ⊢ inD pt pool c s.val i ⟨2 * j.val + 1, hj⟩ := by
    intro f0
    rw [e, hset]
    unfold inD1
    refine sep_mono_left (Entails.of_eq (pointsTo_congr ?_))
    rw [← hset']
    exact hland f0
  have hN : (((Memref.whole cc0_scratch2).slice (Rect.unit (s := S4x2x8x576x128) off' S1x1x1x576x128.size inb') hr').squeeze S576x128 hq').view.amount
      (SemLoc.dma (inCell s)) = NIn := rfl
  have hsub : (((Memref.whole cc0_scratch2).slice (Rect.unit (s := S4x2x8x576x128) off' S1x1x1x576x128.size inb') hr').squeeze S576x128 hq').view.set
      ⊆ inBlk s.val 1 j.val := by rw [hset']
  have hu : 0 ≤ (2 * j.val + 1) * NIn := Nat.zero_le _
  unfold InSt InSt'
  iintro ⟨HB, ⟨%f0, Hf0⟩, Hp0, Hres, Hrest⟩ Hk
  iapply (wp_dmaBatch EC 𝒱 (c : Thread nD τ) none () NIn
    (src := (((Memref.whole main_v3).slice (Rect.unit (s := S3840x576x128) off S1x576x128.size inb) hr).squeeze S576x128 hq))
    (dst := (((Memref.whole cc0_scratch2).slice (Rect.unit (s := S4x2x8x576x128) off' S1x1x1x576x128.size inb') hr').squeeze S576x128 hq'))
    (via := ReadAs.same) (D := inD pt pool c s.val i) (j := 2 * j.val + 1) (u := 0) (q := qJ s.val j.val)
    (fs := pool 1) (fd := f0) (Sd := inBlk s.val 1 j.val)
    hN hsub hj hu (hD f0)) $$ [Hp0 Hf0 HB]
  · rw [hset]
    isplitl [Hp0]; · iexact Hp0
    isplitl [Hf0]; · iexact Hf0
    iexact HB
  iintro HB
  iapply Hk
  isplitl [HB]; · iexact HB
  isplitl [Hres]; · iexact Hres
  iexact Hrest

/-- All sixteen have started. -/
theorem fetch_end (s : Fin 4) (i : ℕ) : InSt pt pool c s i 8 ⊢ (InFlight pt pool c s i : sProp 𝕄) := by
  unfold InSt InFlight
  iintro ⟨HB, -, Hrest⟩
  isplitl [HB]; · iexact HB
  iexact Hrest

/-! ## Waiting for an item's pages -/

/-- Between the two waits. -/
def InMid (s : Fin 4) (i : ℕ) : sProp 𝕄 :=
  iprop(inBatch pt pool c s i 16 (8 * NIn) ∗ poolRest pt pool c s.val i)

theorem wait0 (s : Fin 4) (i : ℕ) {off' : Fin 5 → ℕ} {offs : Fin 1 → ℕ} {inb' inbs hr' hq' hqs}
    (hos : offs = ![s.val]) {srcw : Memref sig .tc .hbm S8x576x128 .fp8e4m3}
    {hsrc hdst} {k : PUnit → Prog (TpuEff nD τ sig (Elt F) Λ₀ .tc) α} {Q : α → sProp 𝕄} :
    iprop(InFlight pt pool c s i ∗ (∃ W, owes (c : Thread nD τ) 0 W)) ⊢ (iprop((iprop(InMid pt pool c s i ∗ (∃ W, owes (c : Thread nD τ) 0 W)) -∗ wp frame (wpE (defs₀ (F := F)) 𝒱 (c : Thread nD τ) none) Set.univ (k ⟨⟩) Q)
      -∗ wp frame (wpE (defs₀ (F := F)) 𝒱 (c : Thread nD τ) none) Set.univ
        (.op (.waitDma2 (((cc0_scratch6 : DmaSems sig S4).slice (Rect.unit (s := S4) offs S1.size inbs)).squeeze S_ hqs).sem srcw
          (((Memref.whole cc0_scratch2).slice (Rect.unit (s := S4x2x8x576x128) off' S1x1x8x576x128.size inb') hr').squeeze S8x576x128 hq')
          hsrc hdst) k) Q) : sProp 𝕄) := by
  have hcell := inCell_eq s offs hos inbs hqs
  rw [hcell]
  have hJ : (((Memref.whole cc0_scratch2).slice (Rect.unit (s := S4x2x8x576x128) off' S1x1x8x576x128.size inb') hr').squeeze S8x576x128 hq').view.dmaCredit
      = 8 * NIn := NIn8
  have hu : 0 + 8 * NIn ≤ NIn * 16 := by have := NIn_pos; omega
  unfold InFlight InMid
  iintro ⟨⟨HB, Hrest⟩, ⟨%W, HW⟩⟩ Hk
  iapply (wp_waitBatchMul EC 𝒱 (c : Thread nD τ) none
    (dstw := (((Memref.whole cc0_scratch2).slice (Rect.unit (s := S4x2x8x576x128) off' S1x1x8x576x128.size inb') hr').squeeze S8x576x128 hq'))
    (D := inD pt pool c s.val i) (j := 16) (u := 0) () 8 hJ hu (W := W)) $$ [HB HW]
  · isplitl [HB]; · iexact HB
    iexact HW
  iintro ⟨HB, HW⟩
  iapply Hk
  rw [Nat.zero_add]
  isplitr [HW]
  · isplitl [HB]; · iexact HB
    iexact Hrest
  iexists _; iexact HW

theorem inD_pairs (s : Fin 4) (i : ℕ) :
    bigSep Finset.univ (inD pt pool c s.val i) = bigSep (Finset.range 8) fun j => iprop(inD0 pt pool c s.val i j ∗ inD1 pt pool c s.val i j) := by
  rw [BI.bigSep_eq_bigSepL_of_eq [0, 1, 2, 3, 4, 5, 6, 7, 8, 9, 10, 11, 12, 13, 14, 15] (by decide) (by decide),
    BI.bigSep_eq_bigSepL_of_eq [0, 1, 2, 3, 4, 5, 6, 7] (by decide) (by decide)]
  show iprop(inD0 pt pool c s.val i 0 ∗ inD1 pt pool c s.val i 0 ∗ inD0 pt pool c s.val i 1 ∗ inD1 pt pool c s.val i 1
      ∗ inD0 pt pool c s.val i 2 ∗ inD1 pt pool c s.val i 2 ∗ inD0 pt pool c s.val i 3 ∗ inD1 pt pool c s.val i 3
      ∗ inD0 pt pool c s.val i 4 ∗ inD1 pt pool c s.val i 4 ∗ inD0 pt pool c s.val i 5 ∗ inD1 pt pool c s.val i 5
      ∗ inD0 pt pool c s.val i 6 ∗ inD1 pt pool c s.val i 6 ∗ inD0 pt pool c s.val i 7 ∗ inD1 pt pool c s.val i 7)
    = iprop((inD0 pt pool c s.val i 0 ∗ inD1 pt pool c s.val i 0) ∗ (inD0 pt pool c s.val i 1 ∗ inD1 pt pool c s.val i 1)
      ∗ (inD0 pt pool c s.val i 2 ∗ inD1 pt pool c s.val i 2) ∗ (inD0 pt pool c s.val i 3 ∗ inD1 pt pool c s.val i 3)
      ∗ (inD0 pt pool c s.val i 4 ∗ inD1 pt pool c s.val i 4) ∗ (inD0 pt pool c s.val i 5 ∗ inD1 pt pool c s.val i 5)
      ∗ (inD0 pt pool c s.val i 6 ∗ inD1 pt pool c s.val i 6) ∗ (inD0 pt pool c s.val i 7 ∗ inD1 pt pool c s.val i 7))
  simp only [show ∀ P Q R : sProp 𝕄, iprop((P ∗ Q) ∗ R) = iprop(P ∗ Q ∗ R) from
    fun _ _ _ => Entails.antisymm BI.sep_assoc BI.sep_assoc']

theorem wait1 (s : Fin 4) (i : ℕ) {off' : Fin 5 → ℕ} {offs : Fin 1 → ℕ} {inb' inbs hr' hq' hqs}
    (hos : offs = ![s.val]) {srcw : Memref sig .tc .hbm S8x576x128 .fp8e4m3}
    {hsrc hdst} {k : PUnit → Prog (TpuEff nD τ sig (Elt F) Λ₀ .tc) α} {Q : α → sProp 𝕄} :
    iprop(InMid pt pool c s i ∗ (∃ W, owes (c : Thread nD τ) 0 W)) ⊢ (iprop((iprop(InReady pt pool c s i ∗ (∃ W, owes (c : Thread nD τ) 0 W)) -∗ wp frame (wpE (defs₀ (F := F)) 𝒱 (c : Thread nD τ) none) Set.univ (k ⟨⟩) Q)
      -∗ wp frame (wpE (defs₀ (F := F)) 𝒱 (c : Thread nD τ) none) Set.univ
        (.op (.waitDma2 (((cc0_scratch6 : DmaSems sig S4).slice (Rect.unit (s := S4) offs S1.size inbs)).squeeze S_ hqs).sem srcw
          (((Memref.whole cc0_scratch2).slice (Rect.unit (s := S4x2x8x576x128) off' S1x1x8x576x128.size inb') hr').squeeze S8x576x128 hq')
          hsrc hdst) k) Q) : sProp 𝕄) := by
  have hcell := inCell_eq s offs hos inbs hqs
  rw [hcell]
  have hJ : (((Memref.whole cc0_scratch2).slice (Rect.unit (s := S4x2x8x576x128) off' S1x1x8x576x128.size inb') hr').squeeze S8x576x128 hq').view.dmaCredit
      = 8 * NIn := NIn8
  have hu : 8 * NIn + 8 * NIn = NIn * 16 := by omega
  unfold InMid InReady poolRest
  iintro ⟨⟨HB, Hrest, Hd0, Hd1⟩, ⟨%W, HW⟩⟩ Hk
  iapply (wp_waitBatchAll EC 𝒱 (c : Thread nD τ) none
    (dstw := (((Memref.whole cc0_scratch2).slice (Rect.unit (s := S4x2x8x576x128) off' S1x1x8x576x128.size inb') hr').squeeze S8x576x128 hq'))
    (D := inD pt pool c s.val i) (u := 8 * NIn) () hJ NIn_pos hu (W := W)) $$ [HB HW]
  · isplitl [HB]; · iexact HB
    iexact HW
  iintro ⟨HD, Hq, HW⟩
  iapply Hk
  isplitr [HW]
  · isplitl [Hq]; · iexact Hq
    ihave HD := (Entails.of_eq ((inD_pairs pt pool c s i).trans (BI.bigSep_sep' _ _ _))) $$ HD
    icases HD with ⟨HD0, HD1⟩
    ihave HD0 := (Entails.of_eq (show bigSep (Finset.range 8) (inD0 pt pool c s.val i) = _ from BI.bigSep_sep' _ _ _)) $$ HD0
    ihave HD1 := (Entails.of_eq (show bigSep (Finset.range 8) (inD1 pt pool c s.val i) = _ from BI.bigSep_sep' _ _ _)) $$ HD1
    ihave Hrest := (Entails.of_eq (BI.bigSep_sep' _ _ _)) $$ Hrest
    icases HD0 with ⟨Hf0, Hp0⟩
    icases HD1 with ⟨Hf1, Hp1⟩
    icases Hrest with ⟨Hr0, Hr1⟩
    isplitl [Hf0 Hf1]
    · iapply (Entails.of_eq ((inSlot_split c s.val (inTgt pt pool i)).trans (BI.bigSep_sep' _ _ _)).symm)
      isplitl [Hf0]; · iexact Hf0
      iexact Hf1
    isplitl [Hp0 Hr0 Hd0]
    · iapply (Entails.of_eq (pool_split c main_v1 (qS s.val) (pool 0) (fun j => pageSet (pidJ pt i j))).symm)
      isplitl [Hd0]; · iexact Hd0
      iapply (Entails.of_eq (BI.bigSep_sep' (Finset.range 8) _ _).symm)
      isplitl [Hp0]; · iexact Hp0
      iexact Hr0
    · iapply (Entails.of_eq (pool_split c main_v3 (qS s.val) (pool 1) (fun j => pageSet (pidJ pt i j))).symm)
      isplitl [Hd1]; · iexact Hd1
      iapply (Entails.of_eq (BI.bigSep_sep' (Finset.range 8) _ _).symm)
      isplitl [Hp1]; · iexact Hp1
      iexact Hr1
  iexists _; iexact HW

end Steps

end Cert.Kernel
-- ==== Proof.Out.lean ====
/- The ring of computed chunks: how an item's two copies to the results start, and what waiting for them gives. -/
module

public import proofs.«01_k».proof.Proof.State

@[expose] public section

set_option maxRecDepth 16384

noncomputable section

namespace Cert.Kernel

open Idealize.ShloMosaic Idealize.ShloMosaic.ValueIdx Idealize.ShloMosaic.TcCoe Idealize.ShloMosaic.Tactic Cert.Kernel.Gen
open Idealize.SL Idealize.SL.RA Idealize.SL.BI Idealize.SL.Sem
open scoped Idealize.SL.BI
open Idealize.SL.BI.BIBase Idealize.SL.BI.Laws Idealize.SL.ProofMode
open Idealize.ShloMosaic.Transfers

variable {F : FTy → Type} [BitOps F]

local notation "𝕄" => MT nD τ sig Unit (Elt F) ℕ (Pipeline.UD sig nD τ) ℕ

variable (pt : S6x512.Idx → BitVec 32) (ln : S6.Idx → BitVec 32)
  (pool : Fin 2 → S3840x576x128.Idx → Elt F .fp8e4m3) (sc : Fin 2 → S36x16x3840.Idx → Elt F .f32)
  (c : Dev nD)

/-- The half of a slot's share of the zeros that the copy to result `t` reads through. -/
def qHalf (s t : ℕ) : PosShare TreeShare := if t = 0 then (qS s).left else (qS s).right

/-- What the copy of item `i` to result `t` reads. -/
def outSrc (s i t : ℕ) : sProp 𝕄 :=
  if validItem ln i then (L c cc0_scratch3 ↦[outHalf s t]{fullShare} outTgt pt ln pool sc i) else (L c cc0_scratch4 ↦{qHalf s t} zeroB)

instance (s i t : ℕ) : Storable (upEmb : UEmb _ 𝕄) (outSrc pt ln pool sc c s i t) := by unfold outSrc; split <;> infer_instance

/-- The block of a result that item `i` writes, written. -/
def outBlkDone (i : ℕ) (t : Fin 2) : sProp 𝕄 :=
  match t with
  | 0 => (L c main_v6_0 ↦[outBlk i]{fullShare} resT pt ln pool sc 0)
  | 1 => (L c main_v6_1 ↦[outBlk i]{fullShare} resT pt ln pool sc 1)

instance (i : ℕ) (t : Fin 2) : Storable (upEmb : UEmb _ 𝕄) (outBlkDone pt ln pool sc c i t) := by
  match t with
  | 0 => unfold outBlkDone; infer_instance
  | 1 => unfold outBlkDone; infer_instance

/-- What the copy of item `i` to result `t` delivers. -/
def outD (s i : ℕ) (t : Fin 2) : sProp 𝕄 := iprop(outBlkDone pt ln pool sc c i t ∗ outSrc pt ln pool sc c s i t.val)

instance (s i : ℕ) (t : Fin 2) : Storable (upEmb : UEmb _ 𝕄) (outD pt ln pool sc c s i t) := by unfold outD; infer_instance

abbrev outBatch (s : Fin 4) (i j u : ℕ) : sProp 𝕄 :=
  Batch EC (c : Thread nD τ) (SemLoc.dma (outCell s)) () NOut (outD pt ln pool sc c s.val i) j u

/-- What the slot keeps while its copies are in flight. -/
def outKeep (s i : ℕ) : sProp 𝕄 :=
  if validItem ln i then (L c cc0_scratch4 ↦{qS s} zeroB) else iprop(∃ f, L c cc0_scratch3 ↦[outSlot s]{fullShare} f)

def OutIdle (s : Fin 4) : sProp 𝕄 :=
  iprop(semVal ((c : Thread nD τ), SemLoc.dma (outCell s)) 0 ∗ (∃ f, L c cc0_scratch3 ↦[outSlot s.val]{fullShare} f)
    ∗ (L c cc0_scratch4 ↦{qS s.val} zeroB))

def OutFlight (s : Fin 4) (i : ℕ) : sProp 𝕄 :=
  iprop(outBatch pt ln pool sc c s i 2 0 ∗ outKeep ln c s.val i)

def OutMid (s : Fin 4) (i : ℕ) : sProp 𝕄 :=
  iprop(outBatch pt ln pool sc c s i 2 NOut ∗ outKeep ln c s.val i)

def OutDone (i : ℕ) : sProp 𝕄 :=
  iprop(outBlkDone pt ln pool sc c i 0 ∗ outBlkDone pt ln pool sc c i 1)

/-- The blocks of the results that item `i` writes, before. -/
def OutRaw (i : ℕ) : sProp 𝕄 :=
  iprop((∃ f, L c main_v6_0 ↦[outBlk i]{fullShare} f) ∗ (∃ f, L c main_v6_1 ↦[outBlk i]{fullShare} f))

/-- Before the first copy and between the two. -/
def OutSt (s : Fin 4) (i : ℕ) : sProp 𝕄 :=
  iprop(outBatch pt ln pool sc c s i 0 0 ∗ OutRaw c i ∗ outSrc pt ln pool sc c s.val i 0 ∗ outSrc pt ln pool sc c s.val i 1 ∗ outKeep ln c s.val i)
def OutSt' (s : Fin 4) (i : ℕ) : sProp 𝕄 :=
  iprop(outBatch pt ln pool sc c s i 1 0 ∗ (∃ f, L c main_v6_1 ↦[outBlk i]{fullShare} f) ∗ outSrc pt ln pool sc c s.val i 1 ∗ outKeep ln c s.val i)

theorem outSlot_eq (s : ℕ) : outSlot s = outHalf s 0 ∪ outHalf s 1 := by
  ext x
  have h1 : (x 1).val < 2 := (x 1).isLt
  simp only [outSlot, outHalf, Finset.mem_filter, Finset.mem_univ, true_and, Finset.mem_union]
  omega

theorem outHalf_disj (s : ℕ) : Disjoint (outHalf s 0) (outHalf s 1) := by
  rw [Finset.disjoint_left]
  intro x hx hx'
  simp only [outHalf, Finset.mem_filter, Finset.mem_univ, true_and] at hx hx'
  omega

theorem outSlot_split (s : ℕ) (f : Buf (Elt F) (L c cc0_scratch3)) :
    (L c cc0_scratch3 ↦[outSlot s]{fullShare} f : sProp 𝕄)
      = iprop((L c cc0_scratch3 ↦[outHalf s 0]{fullShare} f) ∗ (L c cc0_scratch3 ↦[outHalf s 1]{fullShare} f)) := by
  rw [show (outSlot s : Finset (Idx (L c cc0_scratch3))) = outHalf s 0 ∪ outHalf s 1 from outSlot_eq s]
  have h := pointsTo_union (ℓ := L c cc0_scratch3) (q := fullShare) (f := f) (Name := ℕ) (Ix := Unit) (U := Pipeline.UD sig nD τ) (Lvl := ℕ)
    (I := outHalf s 0) (J := outHalf s 1) (outHalf_disj s)
  exact Entails.antisymm h.1 h.2

theorem zeros_split (s : ℕ) :
    (L c cc0_scratch4 ↦{qS s} zeroB : sProp 𝕄) = iprop((L c cc0_scratch4 ↦{qHalf s 0} zeroB) ∗ (L c cc0_scratch4 ↦{qHalf s 1} zeroB)) := by
  have h := pointsTo_share (ℓ := L c cc0_scratch4) (I := Finset.univ) (f := (zeroB (F := F))) (Name := ℕ) (Ix := Unit) (U := Pipeline.UD sig nD τ) (Lvl := ℕ)
    (PosShare.mem_left_op_right (qS s))
  exact Entails.antisymm h.1 h.2

theorem out_start_valid (s : Fin 4) (i : ℕ) (hv : validItem ln i) :
    iprop(semVal ((c : Thread nD τ), SemLoc.dma (outCell s)) 0 ∗ (L c cc0_scratch3 ↦[outSlot s.val]{fullShare} outTgt pt ln pool sc i)
      ∗ (L c cc0_scratch4 ↦{qS s.val} zeroB) ∗ OutRaw c i) ⊢ (|={Set.univ}=> OutSt pt ln pool sc c s i : sProp 𝕄) := by
  rw [outSlot_split]
  unfold OutSt outSrc outKeep
  rw [if_pos hv, if_pos hv, if_pos hv]
  iintro ⟨Hq, ⟨Hf0, Hf1⟩, Hz, HR⟩
  imod (batch_alloc' (Lvl := ℕ) EC (c : Thread nD τ) () NOut (outD pt ln pool sc c s.val i) (sm := SemLoc.dma (outCell s)) (E := Set.univ)) $$ Hq with HB
  imodintro
  isplitl [HB]; · iexact HB
  isplitl [HR]; · iexact HR
  isplitl [Hf0]; · iexact Hf0
  isplitl [Hf1]; · iexact Hf1
  iexact Hz

theorem out_start_invalid (s : Fin 4) (i : ℕ) (hv : ¬ validItem ln i) :
    iprop(OutIdle c s ∗ OutRaw c i) ⊢ (|={Set.univ}=> OutSt pt ln pool sc c s i : sProp 𝕄) := by
  unfold OutSt outSrc outKeep OutIdle
  rw [if_neg hv, if_neg hv, if_neg hv, zeros_split]
  iintro ⟨⟨Hq, Hf, ⟨Hz0, Hz1⟩⟩, HR⟩
  imod (batch_alloc' (Lvl := ℕ) EC (c : Thread nD τ) () NOut (outD pt ln pool sc c s.val i) (sm := SemLoc.dma (outCell s)) (E := Set.univ)) $$ Hq with HB
  imodintro
  isplitl [HB]; · iexact HB
  isplitl [HR]; · iexact HR
  isplitl [Hz0]; · iexact Hz0
  isplitl [Hz1]; · iexact Hz1
  iexact Hf

section Steps
variable (𝒱 : Variants) {α : Type}

/-- The value the copy to result `t` must read. -/
def ReadsRes (i : ℕ) (t : Fin 2) (v : S36x128x128.Idx → Elt F .bf16) : Prop :=
  ∀ (hi : i < 384) (x : Fin 36) (y z : Fin 128),
    v (ix3 x y z) = resT pt ln pool sc t (ix4 (⟨i / 64, by omega⟩ : Fin 6) x (⟨i % 64 * 128 + y.val, by omega⟩ : Fin 8192) z)

theorem out_copy0 (s : Fin 4) (i : ℕ) (hi : i < 384) {sp : Space} {src : Memref sig .tc sp S36x128x128 .bf16} {off : Fin 4 → ℕ} {offs : Fin 1 → ℕ}
    {inb inbs hr hq hqs} (ho : off = ![i / 64, 0, i % 64 * 128, 0]) (hos : offs = ![s.val])
    {q : PosShare TreeShare} {fs : Buf (Elt F) (src.view.loc (c : Thread nD τ))}
    (hsrcv : ReadsRes pt ln pool sc i 0 (src.view.read (Elt F) fs))
    (hS : outSrc pt ln pool sc c s.val i 0 = (src.view.loc (c : Thread nD τ) ↦[src.view.set]{q} fs : sProp 𝕄))
    {hsrc hdst hsem} {k : PUnit → Prog (TpuEff nD τ sig (Elt F) Λ₀ .tc) α} {Q : α → sProp 𝕄} :
    OutSt pt ln pool sc c s i ⊢ (iprop((OutSt' pt ln pool sc c s i -∗ wp frame (wpE (defs₀ (F := F)) 𝒱 (c : Thread nD τ) none) Set.univ (k ⟨⟩) Q)
      -∗ wp frame (wpE (defs₀ (F := F)) 𝒱 (c : Thread nD τ) none) Set.univ
        (.op (.enqueueDma src
          (.here (((Memref.whole main_v6_0).slice (Rect.unit (s := S6x36x8192x128) off S1x36x128x128.size inb) hr).squeeze S36x128x128 hq))
          (.dma (((cc0_scratch7 : DmaSems sig S4).slice (Rect.unit (s := S4) offs S1.size inbs)).squeeze S_ hqs).sem) hsrc hdst hsem) k) Q) : sProp 𝕄) := by
  have hcell := outCell_eq s offs hos inbs hqs
  have hset : (((Memref.whole main_v6_0).slice (Rect.unit (s := S6x36x8192x128) off S1x36x128x128.size inb) hr).squeeze S36x128x128 hq).view.set
      = outBlk i := (View.set_reshape _ _).trans ((View.set_slice_whole _ _).trans (outBlk_rect _ off ho inb))
  revert hsem
  rw [hcell]
  intro hsem
  have hD : ∀ f0, (iprop((L c main_v6_0 ↦[outBlk i]{fullShare}
        ((((Memref.whole main_v6_0).slice (Rect.unit (s := S6x36x8192x128) off S1x36x128x128.size inb) hr).squeeze S36x128x128 hq).view.write (Elt F) f0
          (ReadAs.same.apply (src.view.read (Elt F) fs)) Finset.univ))
      ∗ (src.view.loc (c : Thread nD τ) ↦[src.view.set]{q} fs)) : sProp 𝕄)
      ⊢ outD pt ln pool sc c s.val i ⟨0, by decide⟩ := by
    intro f0
    unfold outD
    show _ ⊢ iprop((L c main_v6_0 ↦[outBlk i]{fullShare} resT pt ln pool sc 0) ∗ outSrc pt ln pool sc c s.val i 0)
    rw [hS]
    refine sep_mono_left (Entails.of_eq (pointsTo_congr ?_))
    rw [← hset]
    refine land (Val := Elt F) src.view (((Memref.whole main_v6_0).slice (Rect.unit (s := S6x36x8192x128) off S1x36x128x128.size inb) hr).squeeze S36x128x128 hq).view fs f0
      (resT pt ln pool sc 0) fun y => ?_
    obtain ⟨a, b, d, rfl⟩ : ∃ (a : Fin 36) (b d : Fin 128), y = ix3 a b d := ⟨y 0, y 1, y 2, eq_ix3 y⟩
    change resT pt ln pool sc 0 ((Rect.unit (s := S6x36x8192x128) off S1x36x128x128.size inb).emb (Shape.reshapeEquiv _ (ix3 a b d)))
      = src.view.read (Elt F) fs (ix3 a b d)
    rw [outBlk_emb i hi off ho, hsrcv hi]
  have hN : (((Memref.whole main_v6_0).slice (Rect.unit (s := S6x36x8192x128) off S1x36x128x128.size inb) hr).squeeze S36x128x128 hq).view.amount
      (SemLoc.dma (outCell s)) = NOut := rfl
  have hsub : (((Memref.whole main_v6_0).slice (Rect.unit (s := S6x36x8192x128) off S1x36x128x128.size inb) hr).squeeze S36x128x128 hq).view.set
      ⊆ outBlk i := by rw [hset]
  have hj : 0 < 2 := by decide
  have hu : 0 ≤ 0 * NOut := Nat.zero_le _
  unfold OutSt OutSt' OutRaw
  iintro ⟨HB, ⟨⟨%f0, Hf0⟩, Hf1⟩, Hs0, Hs1, HK⟩ Hk
  iapply (wp_dmaBatch EC 𝒱 (c : Thread nD τ) none () NOut
    (src := src)
    (dst := (((Memref.whole main_v6_0).slice (Rect.unit (s := S6x36x8192x128) off S1x36x128x128.size inb) hr).squeeze S36x128x128 hq))
    (via := ReadAs.same) (D := outD pt ln pool sc c s.val i) (j := 0) (u := 0) (q := q)
    (fs := fs) (fd := f0) (Sd := outBlk i)
    hN hsub hj hu (hD f0)) $$ [Hs0 Hf0 HB]
  · rw [← hS]
    isplitl [Hs0]; · iexact Hs0
    isplitl [Hf0]; · iexact Hf0
    iexact HB
  iintro HB
  iapply Hk
  isplitl [HB]; · iexact HB
  isplitl [Hf1]; · iexact Hf1
  isplitl [Hs1]; · iexact Hs1
  iexact HK

theorem out_copy1 (s : Fin 4) (i : ℕ) (hi : i < 384) {sp : Space} {src : Memref sig .tc sp S36x128x128 .bf16} {off : Fin 4 → ℕ} {offs : Fin 1 → ℕ}
    {inb inbs hr hq hqs} (ho : off = ![i / 64, 0, i % 64 * 128, 0]) (hos : offs = ![s.val])
    {q : PosShare TreeShare} {fs : Buf (Elt F) (src.view.loc (c : Thread nD τ))}
    (hsrcv : ReadsRes pt ln pool sc i 1 (src.view.read (Elt F) fs))
    (hS : outSrc pt ln pool sc c s.val i 1 = (src.view.loc (c : Thread nD τ) ↦[src.view.set]{q} fs : sProp 𝕄))
    {hsrc hdst hsem} {k : PUnit → Prog (TpuEff nD τ sig (Elt F) Λ₀ .tc) α} {Q : α → sProp 𝕄} :
    OutSt' pt ln pool sc c s i ⊢ (iprop((OutFlight pt ln pool sc c s i -∗ wp frame (wpE (defs₀ (F := F)) 𝒱 (c : Thread nD τ) none) Set.univ (k ⟨⟩) Q)
      -∗ wp frame (wpE (defs₀ (F := F)) 𝒱 (c : Thread nD τ) none) Set.univ
        (.op (.enqueueDma src
          (.here (((Memref.whole main_v6_1).slice (Rect.unit (s := S6x36x8192x128) off S1x36x128x128.size inb) hr).squeeze S36x128x128 hq))
          (.dma (((cc0_scratch7 : DmaSems sig S4).slice (Rect.unit (s := S4) offs S1.size inbs)).squeeze S_ hqs).sem) hsrc hdst hsem) k) Q) : sProp 𝕄) := by
  have hcell := outCell_eq s offs hos inbs hqs
  have hset : (((Memref.whole main_v6_1).slice (Rect.unit (s := S6x36x8192x128) off S1x36x128x128.size inb) hr).squeeze S36x128x128 hq).view.set
      = outBlk i := (View.set_reshape _ _).trans ((View.set_slice_whole _ _).trans (outBlk_rect _ off ho inb))
  revert hsem
  rw [hcell]
  intro hsem
  have hD : ∀ f0, (iprop((L c main_v6_1 ↦[outBlk i]{fullShare}
        ((((Memref.whole main_v6_1).slice (Rect.unit (s := S6x36x8192x128) off S1x36x128x128.size inb) hr).squeeze S36x128x128 hq).view.write (Elt F) f0
          (ReadAs.same.apply (src.view.read (Elt F) fs)) Finset.univ))
      ∗ (src.view.loc (c : Thread nD τ) ↦[src.view.set]{q} fs)) : sProp 𝕄)
      ⊢ outD pt ln pool sc c s.val i ⟨1, by decide⟩ := by
    intro f0
    unfold outD
    show _ ⊢ iprop((L c main_v6_1 ↦[outBlk i]{fullShare} resT pt ln pool sc 1) ∗ outSrc pt ln pool sc c s.val i 1)
    rw [hS]
    refine sep_mono_left (Entails.of_eq (pointsTo_congr ?_))
    rw [← hset]
    refine land (Val := Elt F) src.view (((Memref.whole main_v6_1).slice (Rect.unit (s := S6x36x8192x128) off S1x36x128x128.size inb) hr).squeeze S36x128x128 hq).view fs f0
      (resT pt ln pool sc 1) fun y => ?_
    obtain ⟨a, b, d, rfl⟩ : ∃ (a : Fin 36) (b d : Fin 128), y = ix3 a b d := ⟨y 0, y 1, y 2, eq_ix3 y⟩
    change resT pt ln pool sc 1 ((Rect.unit (s := S6x36x8192x128) off S1x36x128x128.size inb).emb (Shape.reshapeEquiv _ (ix3 a b d)))
      = src.view.read (Elt F) fs (ix3 a b d)
    rw [outBlk_emb i hi off ho, hsrcv hi]
  have hN : (((Memref.whole main_v6_1).slice (Rect.unit (s := S6x36x8192x128) off S1x36x128x128.size inb) hr).squeeze S36x128x128 hq).view.amount
      (SemLoc.dma (outCell s)) = NOut := NOut1
  have hsub : (((Memref.whole main_v6_1).slice (Rect.unit (s := S6x36x8192x128) off S1x36x128x128.size inb) hr).squeeze S36x128x128 hq).view.set
      ⊆ outBlk i := by rw [hset]
  have hj : 1 < 2 := by decide
  have hu : 0 ≤ 1 * NOut := Nat.zero_le _
  unfold OutSt' OutFlight
  iintro ⟨HB, ⟨%f0, Hf0⟩, Hs0, HK⟩ Hk
  iapply (wp_dmaBatch EC 𝒱 (c : Thread nD τ) none () NOut
    (src := src)
    (dst := (((Memref.whole main_v6_1).slice (Rect.unit (s := S6x36x8192x128) off S1x36x128x128.size inb) hr).squeeze S36x128x128 hq))
    (via := ReadAs.same) (D := outD pt ln pool sc c s.val i) (j := 1) (u := 0) (q := q)
    (fs := fs) (fd := f0) (Sd := outBlk i)
    hN hsub hj hu (hD f0)) $$ [Hs0 Hf0 HB]
  · rw [← hS]
    isplitl [Hs0]; · iexact Hs0
    isplitl [Hf0]; · iexact Hf0
    iexact HB
  iintro HB
  iapply Hk
  isplitl [HB]; · iexact HB
  iexact HK

/-! ## The sources -/

theorem zero_reads (i : ℕ) (t : Fin 2) (hv : ¬ validItem ln i) :
    ReadsRes pt ln pool sc i t ((Memref.whole cc0_scratch4).view.read (Elt F) (zeroB (F := F))) := by
  intro hi x y z
  show zeroB (F := F) (ix3 x y z) = resT pt ln pool sc t (ix4 (⟨i / 64, by omega⟩ : Fin 6) x (⟨i % 64 * 128 + y.val, by omega⟩ : Fin 8192) z)
  unfold resT
  have hy := y.isLt
  have e : i / 64 * 64 + (i % 64 * 128 + y.val) / 128 = i := by omega
  rw [if_neg (by show ¬ validItem ln (i / 64 * 64 + (i % 64 * 128 + y.val) / 128); rw [e]; exact hv)]
  show zeroB (F := F) (ix3 x y z) = zeroB (F := F) (ix3 x ⟨(i % 64 * 128 + y.val) % 128, _⟩ z)
  congr 2
  apply Fin.ext
  show y.val = (i % 64 * 128 + y.val) % 128
  omega

theorem outb_reads (s : Fin 4) (i : ℕ) (t : Fin 2) (hv : validItem ln i) {off : Fin 5 → ℕ} {inb hr hq} (ho : off = ![s.val, t.val, 0, 0, 0]) :
    ReadsRes pt ln pool sc i t ((((Memref.whole cc0_scratch3).slice (Rect.unit (s := S4x2x36x128x128) off S1x1x36x128x128.size inb) hr).squeeze S36x128x128 hq).view.read (Elt F)
      (outTgt pt ln pool sc i)) := by
  intro hi x y z
  change outTgt pt ln pool sc i ((Rect.unit (s := S4x2x36x128x128) off S1x1x36x128x128.size inb).emb (Shape.reshapeEquiv _ (ix3 x y z))) = _
  rw [outHalf_emb s t off ho]
  unfold resT
  have hy := y.isLt
  have e : i / 64 * 64 + (i % 64 * 128 + y.val) / 128 = i := by omega
  rw [if_pos (by show validItem ln (i / 64 * 64 + (i % 64 * 128 + y.val) / 128); rw [e]; exact hv)]
  show outRow pt ln pool sc (i / 64) (i % 64 * 8 + y.val / 16) t x (ix5 (0 : Fin 1) (0 : Fin 1) (0 : Fin 1) ⟨y.val % 16, _⟩ z)
    = outRow pt ln pool sc (i / 64) ((i % 64 * 128 + y.val) / 16) t x (ix5 (0 : Fin 1) (0 : Fin 1) (0 : Fin 1) ⟨(i % 64 * 128 + y.val) % 16, _⟩ z)
  have e1 : (i % 64 * 128 + y.val) / 16 = i % 64 * 8 + y.val / 16 := by omega
  have e2 : (i % 64 * 128 + y.val) % 16 = y.val % 16 := by omega
  simp only [e1, e2]

theorem zero_src (s : Fin 4) (i : ℕ) (t : Fin 2) (hv : ¬ validItem ln i) :
    outSrc pt ln pool sc c s.val i t.val
      = ((Memref.whole cc0_scratch4).view.loc (c : Thread nD τ) ↦[(Memref.whole cc0_scratch4).view.set]{qHalf s.val t.val} (zeroB (F := F)) : sProp 𝕄) := by
  unfold outSrc
  rw [if_neg hv, View.set_whole]

theorem outb_src (s : Fin 4) (i : ℕ) (t : Fin 2) (hv : validItem ln i) {off : Fin 5 → ℕ} {inb hr hq} (ho : off = ![s.val, t.val, 0, 0, 0]) :
    outSrc pt ln pool sc c s.val i t.val
      = ((((Memref.whole cc0_scratch3).slice (Rect.unit (s := S4x2x36x128x128) off S1x1x36x128x128.size inb) hr).squeeze S36x128x128 hq).view.loc (c : Thread nD τ)
        ↦[(((Memref.whole cc0_scratch3).slice (Rect.unit (s := S4x2x36x128x128) off S1x1x36x128x128.size inb) hr).squeeze S36x128x128 hq).view.set]{fullShare}
          outTgt pt ln pool sc i : sProp 𝕄) := by
  have hset : (((Memref.whole cc0_scratch3).slice (Rect.unit (s := S4x2x36x128x128) off S1x1x36x128x128.size inb) hr).squeeze S36x128x128 hq).view.set
      = outHalf s.val t.val := (View.set_reshape _ _).trans ((View.set_slice_whole _ _).trans (outHalf_rect _ _ off ho inb))
  unfold outSrc
  rw [if_pos hv, hset]

/-! ## Waiting for the two copies -/

theorem out_wait0 (s : Fin 4) (i : ℕ) {offs : Fin 1 → ℕ} {inbs hqs} (hos : offs = ![s.val]) {sp sp' : Space} {s' : Shape} {e' : EltTy}
    {srcw : Memref sig .tc sp' s' e'} {dstw : Memref sig .tc sp S36x128x128 .bf16} (hN : dstw.view.dmaCredit = NOut)
    {hsrc hdst} {k : PUnit → Prog (TpuEff nD τ sig (Elt F) Λ₀ .tc) α} {Q : α → sProp 𝕄} :
    iprop(OutFlight pt ln pool sc c s i ∗ (∃ W, owes (c : Thread nD τ) 0 W)) ⊢ (iprop((iprop(OutMid pt ln pool sc c s i ∗ (∃ W, owes (c : Thread nD τ) 0 W)) -∗ wp frame (wpE (defs₀ (F := F)) 𝒱 (c : Thread nD τ) none) Set.univ (k ⟨⟩) Q)
      -∗ wp frame (wpE (defs₀ (F := F)) 𝒱 (c : Thread nD τ) none) Set.univ
        (.op (.waitDma2 (((cc0_scratch7 : DmaSems sig S4).slice (Rect.unit (s := S4) offs S1.size inbs)).squeeze S_ hqs).sem srcw dstw hsrc hdst) k) Q) : sProp 𝕄) := by
  have hcell := outCell_eq s offs hos inbs hqs
  rw [hcell]
  have hu : 0 + NOut < NOut * 2 := by have := NOut_pos; omega
  unfold OutFlight OutMid
  iintro ⟨⟨HB, Hrest⟩, ⟨%W, HW⟩⟩ Hk
  iapply (wp_waitBatch EC 𝒱 (c : Thread nD τ) none (dstw := dstw)
    (D := outD pt ln pool sc c s.val i) (u := 0) () hN hu (W := W)) $$ [HB HW]
  · isplitl [HB]; · iexact HB
    iexact HW
  iintro ⟨HB, HW⟩
  iapply Hk
  rw [Nat.zero_add]
  isplitr [HW]
  · isplitl [HB]; · iexact HB
    iexact Hrest
  iexists _; iexact HW

theorem out_done_valid (s : Fin 4) (i : ℕ) :
    iprop(bigSep Finset.univ (outD pt ln pool sc c s.val i) ∗ outKeep ln c s.val i)
      ⊢ (iprop(OutDone pt ln pool sc c i ∗ (∃ f, L c cc0_scratch3 ↦[outSlot s.val]{fullShare} f) ∗ (L c cc0_scratch4 ↦{qS s.val} zeroB)) : sProp 𝕄) := by
  rw [BI.bigSep_eq_bigSepL_of_eq [0, 1] (by decide) (by decide)]
  show iprop((outD pt ln pool sc c s.val i 0 ∗ outD pt ln pool sc c s.val i 1) ∗ outKeep ln c s.val i) ⊢ _
  unfold outD outSrc outKeep OutDone
  by_cases hv : validItem ln i
  · rw [if_pos hv, if_pos hv, if_pos hv]
    iintro ⟨⟨⟨H0, Hs0⟩, ⟨H1, Hs1⟩⟩, Hz⟩
    isplitl [H0 H1]
    · isplitl [H0]; · iexact H0
      iexact H1
    isplitl [Hs0 Hs1]
    · iexists (outTgt pt ln pool sc i)
      iapply (Entails.of_eq (outSlot_split c s.val (outTgt pt ln pool sc i)).symm)
      isplitl [Hs0]; · iexact Hs0
      iexact Hs1
    iexact Hz
  · rw [if_neg hv, if_neg hv, if_neg hv]
    iintro ⟨⟨⟨H0, Hs0⟩, ⟨H1, Hs1⟩⟩, Hz⟩
    isplitl [H0 H1]
    · isplitl [H0]; · iexact H0
      iexact H1
    isplitl [Hz]; · iexact Hz
    iapply (Entails.of_eq (zeros_split c s.val).symm)
    isplitl [Hs0]; · iexact Hs0
    iexact Hs1

theorem out_wait1 (s : Fin 4) (i : ℕ) {offs : Fin 1 → ℕ} {inbs hqs} (hos : offs = ![s.val]) {sp sp' : Space} {s' : Shape} {e' : EltTy}
    {srcw : Memref sig .tc sp' s' e'} {dstw : Memref sig .tc sp S36x128x128 .bf16} (hN : dstw.view.dmaCredit = NOut)
    {hsrc hdst} {k : PUnit → Prog (TpuEff nD τ sig (Elt F) Λ₀ .tc) α} {Q : α → sProp 𝕄} :
    iprop(OutMid pt ln pool sc c s i ∗ (∃ W, owes (c : Thread nD τ) 0 W)) ⊢ (iprop((iprop((OutIdle c s ∗ OutDone pt ln pool sc c i) ∗ (∃ W, owes (c : Thread nD τ) 0 W)) -∗ wp frame (wpE (defs₀ (F := F)) 𝒱 (c : Thread nD τ) none) Set.univ (k ⟨⟩) Q)
      -∗ wp frame (wpE (defs₀ (F := F)) 𝒱 (c : Thread nD τ) none) Set.univ
        (.op (.waitDma2 (((cc0_scratch7 : DmaSems sig S4).slice (Rect.unit (s := S4) offs S1.size inbs)).squeeze S_ hqs).sem srcw dstw hsrc hdst) k) Q) : sProp 𝕄) := by
  have hcell := outCell_eq s offs hos inbs hqs
  rw [hcell]
  have hu : NOut + NOut = NOut * 2 := by omega
  unfold OutMid OutIdle
  iintro ⟨⟨HB, Hrest⟩, ⟨%W, HW⟩⟩ Hk
  iapply (wp_waitBatchLast EC 𝒱 (c : Thread nD τ) none (dstw := dstw)
    (D := outD pt ln pool sc c s.val i) (u := NOut) () hN NOut_pos hu (W := W)) $$ [HB HW]
  · isplitl [HB]; · iexact HB
    iexact HW
  iintro ⟨HD, Hq, HW⟩
  iapply Hk
  isplitr [HW]
  · ihave HX := (out_done_valid pt ln pool sc c s i) $$ [HD Hrest]
    · isplitl [HD]; · iexact HD
      iexact Hrest
    icases HX with ⟨HO, Hf, Hz⟩
    isplitr [HO]
    · isplitl [Hq]; · iexact Hq
      isplitl [Hf]; · iexact Hf
      iexact Hz
    iexact HO
  iexists _; iexact HW

end Steps

end Cert.Kernel
-- ==== Proof.Offsets.lean ====
/- The offsets an item's transfers are computed at, as numbers. -/
module

public import proofs.«01_k».proof.Proof.Words

@[expose] public section

set_option maxRecDepth 16384

noncomputable section

namespace Cert.Kernel

open Idealize.ShloMosaic Idealize.ShloMosaic.ValueIdx Idealize.ShloMosaic.TcCoe Idealize.ShloMosaic.Tactic Cert.Kernel.Gen
open Idealize.SL Idealize.SL.RA Idealize.SL.BI Idealize.SL.Sem
open scoped Idealize.SL.BI
open Idealize.SL.BI.BIBase Idealize.SL.BI.Laws Idealize.SL.ProofMode
open Idealize.ShloMosaic.Transfers

variable {F : FTy → Type} [BitOps F]

local notation "𝕄" => MT nD τ sig Unit (Elt F) ℕ (Pipeline.UD sig nD τ) ℕ

/-! ## The offsets of an item -/

theorem o178 : ∀ k : Fin k0_t20_loop.trips, k0_off178 k = ![k.val % 4] := by decide +kernel
theorem o181 : ∀ k : Fin k0_t20_loop.trips, k0_off181 k = ![k.val % 4] := by decide +kernel
theorem o370 : ∀ k : Fin k0_t20_loop.trips, k0_off370 k = ![k.val % 4] := by decide +kernel
theorem o180 : ∀ k : Fin k0_t20_loop.trips, k0_off180 k = ![k.val / 64] := by decide +kernel
theorem o369 : ∀ k : Fin k0_t20_loop.trips, k0_off369 k = ![k.val / 64] := by decide +kernel
theorem o372 : ∀ k : Fin k0_t20_loop.trips, k0_off372 k = ![(k.val + 4) / 64] := by decide +kernel
theorem o366 : ∀ k : Fin k0_t20_loop.trips, k0_off366 k = ![k.val / 64, 0, k.val % 64 * 128, 0] := by decide +kernel
theorem o371 : ∀ k : Fin k0_t20_loop.trips, k0_off371 k = ![k.val / 64, 0, k.val % 64 * 128, 0] := by decide +kernel
theorem o367 : ∀ k : Fin k0_t20_loop.trips, k0_off367 k = ![k.val % 4, 0, 0, 0, 0] := by decide +kernel
theorem o368 : ∀ k : Fin k0_t20_loop.trips, k0_off368 k = ![k.val % 4, 1, 0, 0, 0] := by decide +kernel
theorem o373 : ∀ k : Fin k0_t20_loop.trips, k0_off373 k = ![(k.val + 4) / 64, (k.val + 4) % 64 * 8 + 0] := by decide +kernel
theorem o375 : ∀ k : Fin k0_t20_loop.trips, k0_off375 k = ![k.val % 4, 0, 0, 0, 0] := by decide +kernel
theorem o378 : ∀ k : Fin k0_t20_loop.trips, k0_off378 k = ![k.val % 4, 1, 0, 0, 0] := by decide +kernel
theorem o379 : ∀ k : Fin k0_t20_loop.trips, k0_off379 k = ![(k.val + 4) / 64, (k.val + 4) % 64 * 8 + 1] := by decide +kernel
theorem o380 : ∀ k : Fin k0_t20_loop.trips, k0_off380 k = ![k.val % 4, 0, 1, 0, 0] := by decide +kernel
theorem o383 : ∀ k : Fin k0_t20_loop.trips, k0_off383 k = ![k.val % 4, 1, 1, 0, 0] := by decide +kernel
theorem o384 : ∀ k : Fin k0_t20_loop.trips, k0_off384 k = ![(k.val + 4) / 64, (k.val + 4) % 64 * 8 + 2] := by decide +kernel
theorem o385 : ∀ k : Fin k0_t20_loop.trips, k0_off385 k = ![k.val % 4, 0, 2, 0, 0] := by decide +kernel
theorem o388 : ∀ k : Fin k0_t20_loop.trips, k0_off388 k = ![k.val % 4, 1, 2, 0, 0] := by decide +kernel
theorem o389 : ∀ k : Fin k0_t20_loop.trips, k0_off389 k = ![(k.val + 4) / 64, (k.val + 4) % 64 * 8 + 3] := by decide +kernel
theorem o390 : ∀ k : Fin k0_t20_loop.trips, k0_off390 k = ![k.val % 4, 0, 3, 0, 0] := by decide +kernel
theorem o393 : ∀ k : Fin k0_t20_loop.trips, k0_off393 k = ![k.val % 4, 1, 3, 0, 0] := by decide +kernel
theorem o394 : ∀ k : Fin k0_t20_loop.trips, k0_off394 k = ![(k.val + 4) / 64, (k.val + 4) % 64 * 8 + 4] := by decide +kernel
theorem o395 : ∀ k : Fin k0_t20_loop.trips, k0_off395 k = ![k.val % 4, 0, 4, 0, 0] := by decide +kernel
theorem o398 : ∀ k : Fin k0_t20_loop.trips, k0_off398 k = ![k.val % 4, 1, 4, 0, 0] := by decide +kernel
theorem o399 : ∀ k : Fin k0_t20_loop.trips, k0_off399 k = ![(k.val + 4) / 64, (k.val + 4) % 64 * 8 + 5] := by decide +kernel
theorem o400 : ∀ k : Fin k0_t20_loop.trips, k0_off400 k = ![k.val % 4, 0, 5, 0, 0] := by decide +kernel
theorem o403 : ∀ k : Fin k0_t20_loop.trips, k0_off403 k = ![k.val % 4, 1, 5, 0, 0] := by decide +kernel
theorem o404 : ∀ k : Fin k0_t20_loop.trips, k0_off404 k = ![(k.val + 4) / 64, (k.val + 4) % 64 * 8 + 6] := by decide +kernel
theorem o405 : ∀ k : Fin k0_t20_loop.trips, k0_off405 k = ![k.val % 4, 0, 6, 0, 0] := by decide +kernel
theorem o408 : ∀ k : Fin k0_t20_loop.trips, k0_off408 k = ![k.val % 4, 1, 6, 0, 0] := by decide +kernel
theorem o409 : ∀ k : Fin k0_t20_loop.trips, k0_off409 k = ![(k.val + 4) / 64, (k.val + 4) % 64 * 8 + 7] := by decide +kernel
theorem o410 : ∀ k : Fin k0_t20_loop.trips, k0_off410 k = ![k.val % 4, 0, 7, 0, 0] := by decide +kernel
theorem o413 : ∀ k : Fin k0_t20_loop.trips, k0_off413 k = ![k.val % 4, 1, 7, 0, 0] := by decide +kernel
theorem o374 : ∀ k : Fin k0_t20_loop.trips, k0_off374 k = ![k.val % 4] := by decide +kernel
theorem o377 : ∀ k : Fin k0_t20_loop.trips, k0_off377 k = ![k.val % 4] := by decide +kernel
theorem o382 : ∀ k : Fin k0_t20_loop.trips, k0_off382 k = ![k.val % 4] := by decide +kernel
theorem o387 : ∀ k : Fin k0_t20_loop.trips, k0_off387 k = ![k.val % 4] := by decide +kernel
theorem o392 : ∀ k : Fin k0_t20_loop.trips, k0_off392 k = ![k.val % 4] := by decide +kernel
theorem o397 : ∀ k : Fin k0_t20_loop.trips, k0_off397 k = ![k.val % 4] := by decide +kernel
theorem o402 : ∀ k : Fin k0_t20_loop.trips, k0_off402 k = ![k.val % 4] := by decide +kernel
theorem o407 : ∀ k : Fin k0_t20_loop.trips, k0_off407 k = ![k.val % 4] := by decide +kernel
theorem o412 : ∀ k : Fin k0_t20_loop.trips, k0_off412 k = ![k.val % 4] := by decide +kernel

theorem cond5_iff : ∀ k : Fin k0_t20_loop.trips, k0_cond5 k = 1#1 ↔ 4 ≤ k.val := by decide +kernel
theorem cond8_iff : ∀ k : Fin k0_t20_loop.trips, k0_cond8 k = 1#1 ↔ k.val + 4 < 384 := by decide +kernel
theorem chunk_tok : ∀ k : Fin k0_t20_loop.trips, Scalar.muli (fmod (itw k.val) 64#32) 128#32 = BitVec.ofNat 32 (k.val % 64 * 128) := by decide +kernel
theorem chunk_tok4 : ∀ k : Fin k0_t20_loop.trips, Scalar.muli (fmod (Scalar.addi (itw k.val) 4#32) 64#32) 128#32 = BitVec.ofNat 32 ((k.val + 4) % 64 * 128) := by decide +kernel

end Cert.Kernel
-- ==== Proof.Items.lean ====
/- One item of the main loop: its fetch, and what the loop does with it. -/
module

public import proofs.«01_k».proof.Proof.Page
public import proofs.«01_k».proof.Proof.Fetch
public import proofs.«01_k».proof.Proof.Out
public import proofs.«01_k».proof.Proof.Offsets

@[expose] public section

set_option maxRecDepth 16384

noncomputable section

namespace Cert.Kernel

open Idealize.ShloMosaic Idealize.ShloMosaic.ValueIdx Idealize.ShloMosaic.TcCoe Idealize.ShloMosaic.Tactic Cert.Kernel.Gen
open Idealize.SL Idealize.SL.RA Idealize.SL.BI Idealize.SL.Sem
open scoped Idealize.SL.BI
open Idealize.SL.BI.BIBase Idealize.SL.BI.Laws Idealize.SL.ProofMode
open Idealize.ShloMosaic.Transfers

variable {F : FTy → Type} [BitOps F]

local notation "𝕄" => MT nD τ sig Unit (Elt F) ℕ (Pipeline.UD sig nD τ) ℕ

variable (pt : S6x512.Idx → BitVec 32) (ln : S6.Idx → BitVec 32)
  (pool : Fin 2 → S3840x576x128.Idx → Elt F .fp8e4m3) (sc : Fin 2 → S36x16x3840.Idx → Elt F .f32) (c : Dev nD)

variable (𝒱 : Variants) {α : Type}

/-- A conditional whose branch falls through to what comes after it. -/
theorem dite_join {b : Prop} [Decidable b] {A : b → Prog (TpuEff nD τ sig (Elt F) Λ₀ .tc) α} {T : Prog (TpuEff nD τ sig (Elt F) Λ₀ .tc) α}
    {P R : sProp 𝕄} {Q : α → sProp 𝕄} (hT : R ⊢ wp frame (wpE (defs₀ (F := F)) 𝒱 (c : Thread nD τ) none) Set.univ T Q)
    (hA : ∀ h, P ⊢ iprop((R -∗ wp frame (wpE (defs₀ (F := F)) 𝒱 (c : Thread nD τ) none) Set.univ T Q) -∗ wp frame (wpE (defs₀ (F := F)) 𝒱 (c : Thread nD τ) none) Set.univ (A h) Q))
    (hN : ¬ b → P ⊢ R) : P ⊢ wp frame (wpE (defs₀ (F := F)) 𝒱 (c : Thread nD τ) none) Set.univ (if h : b then A h else T) Q := by
  by_cases h : b
  · rw [dif_pos h]
    iintro HP
    iapply (hA h) $$ HP
    iintro HR
    iapply hT $$ HR
  · rw [dif_neg h]; exact (hN h).trans hT

theorem ite_join {b : Prop} [Decidable b] {A T : Prog (TpuEff nD τ sig (Elt F) Λ₀ .tc) α}
    {P R : sProp 𝕄} {Q : α → sProp 𝕄} (hT : R ⊢ wp frame (wpE (defs₀ (F := F)) 𝒱 (c : Thread nD τ) none) Set.univ T Q)
    (hA : b → P ⊢ iprop((R -∗ wp frame (wpE (defs₀ (F := F)) 𝒱 (c : Thread nD τ) none) Set.univ T Q) -∗ wp frame (wpE (defs₀ (F := F)) 𝒱 (c : Thread nD τ) none) Set.univ A Q))
    (hN : ¬ b → P ⊢ R) : P ⊢ wp frame (wpE (defs₀ (F := F)) 𝒱 (c : Thread nD τ) none) Set.univ (if b then A else T) Q := by
  by_cases h : b
  · rw [if_pos h]
    iintro HP
    iapply (hA h) $$ HP
    iintro HR
    iapply hT $$ HR
  · rw [if_neg h]; exact (hN h).trans hT

/-! ## A page of a fetch -/

theorem page_inb (n : ℕ) (hn : n < 3840) {off : Fin 3 → ℕ} (ho : off = ![n, 0, 0]) : ∀ a, off a + S1x576x128.size a ≤ S3840x576x128.size a := by
  subst ho
  intro a
  match a with
  | 0 => show n + 1 ≤ 3840; omega
  | 1 => show 0 + 576 ≤ 576; omega
  | 2 => show 0 + 128 ≤ 128; omega

theorem page_words (n : ℕ) {off : Fin 3 → ℕ} (ho : off = ![n, 0, 0]) (hinb) :
    (Rect.unit (s := S3840x576x128) off S1x576x128.size hinb).WholeWords (EltTy.packing .fp8e4m3) := by
  subst ho
  exact Or.inr ⟨by decide, rfl, rfl, rfl⟩

/-- The load of a page's name, and the assumption that the page lies in the pool. -/
theorem page_load (a0 : Memref sig .tc .smem S6x512 .i32) {s : Fin 4} {i j : ℕ} {R : sProp 𝕄} (hi : i < 384) (hj : j < 8) {off : Fin 2 → ℕ} {inb} (ho : off = ![i / 64, i % 64 * 8 + j]) {hl}
    {P : (S1x1.Idx → BitVec 32) → Prop} {dec : ∀ x, Decidable (P x)} {K : ∀ x, PLift (P x) → Prog (TpuEff nD τ sig (Elt F) Λ₀ .tc) α} {Q : α → sProp 𝕄}
    (hP : P fun _ => pword pt (i / 64) (i % 64 * 8 + j))
    (hK : (iprop(owns (Val := Elt F) (c : Thread nD τ) a0 fullShare pt ∗ InSt pt pool c s i j ∗ R) : sProp 𝕄)
      ⊢ wp frame (wpE (defs₀ (F := F)) 𝒱 (c : Thread nD τ) none) Set.univ (K (fun _ => pword pt (i / 64) (i % 64 * 8 + j)) ⟨hP⟩) Q) :
    (iprop(owns (Val := Elt F) (c : Thread nD τ) a0 fullShare pt ∗ InSt pt pool c s i j ∗ R) : sProp 𝕄)
      ⊢ wp frame (wpE (defs₀ (F := F)) 𝒱 (c : Thread nD τ) none) Set.univ
        (.op (.load a0 (Rect.unit (s := S6x512) off S1x1.size inb).toLoadRect hl) fun (x : S1x1.Idx → BitVec 32) => .op (.assume (P x) (dec x)) (K x)) Q := by
  iintro ⟨HP, HR⟩
  iapply (smem2 pt c 𝒱 a0 (i / 64) (i % 64 * 8 + j) (by omega) (by omega) ho) $$ HP
  iintro HP
  iapply (wp_assume 𝒱 (c : Thread nD τ) none Set.univ hP)
  iapply hK
  isplitl [HP]; · iexact HP
  iexact HR

/-- The two transfers of a page. -/
theorem fetch_pair (a0 : Memref sig .tc .smem S6x512 .i32) {s : Fin 4} {i j : ℕ} {R : sProp 𝕄} (hpt : ∀ x, (pt x).toNat < 3840) (hj : j < 8) {off : Fin 3 → ℕ} {off0 off1 : Fin 5 → ℕ} {offs0 offs1 : Fin 1 → ℕ}
    {inb inb' inb0 inb1 inbs0 inbs1 hr hr' hr0 hr1 hq hq' hq0 hq1 hqs0 hqs1}
    (ho : off = ![(pword pt (i / 64) (i % 64 * 8 + j)).toNat, 0, 0]) (hos0 : offs0 = ![s.val]) (ho0 : off0 = ![s.val, 0, j, 0, 0])
    (hos1 : offs1 = ![s.val]) (ho1 : off1 = ![s.val, 1, j, 0, 0])
    {hsrc hdst hsem hsrc' hdst' hsem'} {k : PUnit → Prog (TpuEff nD τ sig (Elt F) Λ₀ .tc) α} {Q : α → sProp 𝕄}
    (hK : (iprop(owns (Val := Elt F) (c : Thread nD τ) a0 fullShare pt ∗ InSt pt pool c s i (j + 1) ∗ R) : sProp 𝕄)
      ⊢ wp frame (wpE (defs₀ (F := F)) 𝒱 (c : Thread nD τ) none) Set.univ (k ⟨⟩) Q) :
    (iprop(owns (Val := Elt F) (c : Thread nD τ) a0 fullShare pt ∗ InSt pt pool c s i j ∗ R) : sProp 𝕄)
      ⊢ wp frame (wpE (defs₀ (F := F)) 𝒱 (c : Thread nD τ) none) Set.univ
        (.op (.enqueueDma (((Memref.whole main_v1).slice (Rect.unit (s := S3840x576x128) off S1x576x128.size inb) hr).squeeze S576x128 hq)
          (.here (((Memref.whole cc0_scratch2).slice (Rect.unit (s := S4x2x8x576x128) off0 S1x1x1x576x128.size inb0) hr0).squeeze S576x128 hq0))
          (.dma (((cc0_scratch6 : DmaSems sig S4).slice (Rect.unit (s := S4) offs0 S1.size inbs0)).squeeze S_ hqs0).sem) hsrc hdst hsem) fun _ =>
        (.op (.enqueueDma (((Memref.whole main_v3).slice (Rect.unit (s := S3840x576x128) off S1x576x128.size inb') hr').squeeze S576x128 hq')
          (.here (((Memref.whole cc0_scratch2).slice (Rect.unit (s := S4x2x8x576x128) off1 S1x1x1x576x128.size inb1) hr1).squeeze S576x128 hq1))
          (.dma (((cc0_scratch6 : DmaSems sig S4).slice (Rect.unit (s := S4) offs1 S1.size inbs1)).squeeze S_ hqs1).sem) hsrc' hdst' hsem') k)) Q := by
  have ho' : off = ![(pidJ pt i (⟨j, hj⟩ : Fin 8).val).val, 0, 0] := by
    rw [ho, show (pidJ pt i (⟨j, hj⟩ : Fin 8).val).val = (pword pt (i / 64) (i % 64 * 8 + j)).toNat from Nat.mod_eq_of_lt (hpt _)]
  iintro ⟨HP, HS, HR⟩
  iapply (fetch0 pt pool c 𝒱 s i ⟨j, hj⟩ ho' ho0 hos0) $$ HS
  iintro HS
  iapply (fetch1 pt pool c 𝒱 s i ⟨j, hj⟩ ho' ho1 hos1) $$ HS
  iintro HS
  iapply hK
  isplitl [HP]; · iexact HP
  isplitl [HS]; · iexact HS
  iexact HR

theorem ne_ext (b : BitVec 1) : Scalar.cmpi .ne (Scalar.extui b : BitVec 32) 0#32 = b := by revert b; decide
theorem ne_ext_not (b : BitVec 1) : Scalar.cmpi .ne (Scalar.extui (Scalar.xori b 1#1) : BitVec 32) 0#32 = 1#1 ↔ ¬ b = 1#1 := by revert b; decide

theorem cond6_iff (k : Fin k0_t20_loop.trips) : k0_cond6 k (lword ln (k.val / 64)) = 1#1 ↔ validItem ln k.val := by
  have e : k0_cond6 k (lword ln (k.val / 64)) = Scalar.cmpi .ne (Scalar.extui (Scalar.cmpi .sgt (lword ln (k.val / 64)) (Scalar.muli (fmod (itw k.val) 64#32) 128#32))) 0#32 := rfl
  rw [e, ne_ext, chunk_tok]; rfl

theorem cond9_iff (k : Fin k0_t20_loop.trips) : k0_cond9 k (lword ln ((k.val + 4) / 64)) = 1#1 ↔ validItem ln (k.val + 4) := by
  have e : k0_cond9 k (lword ln ((k.val + 4) / 64)) = Scalar.cmpi .ne (Scalar.extui (Scalar.cmpi .sgt (lword ln ((k.val + 4) / 64)) (Scalar.muli (fmod (Scalar.addi (itw k.val) 4#32) 64#32) 128#32))) 0#32 := rfl
  rw [e, ne_ext, chunk_tok4]; rfl

/-! ## What a slot holds as the loop comes to an item -/

/-- The slot of an item. -/
def sl (i : ℕ) : Fin 4 := ⟨i % 4, Nat.mod_lt _ (by decide)⟩

theorem sl_add (i : ℕ) : sl (i + 4) = sl i := Fin.ext (by show (i + 4) % 4 = i % 4; omega)

/-- The slot's pages: those of item `n`, if there is such an item and it has a live token. -/
def InSl (s : Fin 4) (n : ℕ) : sProp 𝕄 := if n < 384 ∧ validItem ln n then InFlight pt pool c s n else InIdle pool c s
/-- The slot's copies to the results: those of the item before item `n` in this slot. -/
def OutSl (s : Fin 4) (n : ℕ) : sProp 𝕄 := if 4 ≤ n then OutFlight pt ln pool sc c s (n - 4) else OutIdle c s
/-- The blocks of the results an earlier item leaves written. -/
def DoneOf (n : ℕ) : sProp 𝕄 := if 4 ≤ n then OutDone pt ln pool sc c (n - 4) else iprop(emp)
/-- After the item's own work, before the copy of zeros of an item with no live token. -/
def OutAfter (k : ℕ) : sProp 𝕄 := if validItem ln k then OutFlight pt ln pool sc c (sl k) k else iprop(OutIdle c (sl k) ∗ OutRaw c k)

/-- What every step of the loop holds besides the item's own. -/
def Common (a0 : Memref sig .tc .smem S6x512 .i32) (a1 : Memref sig .tc .smem S6 .i32) : sProp 𝕄 :=
  iprop(owns (Val := Elt F) (c : Thread nD τ) a0 fullShare pt ∗ owns (Val := Elt F) (c : Thread nD τ) a1 fullShare ln
    ∗ (L c cc0_scratch0 ↦{fullShare} tabT sc) ∗ ∃ W, owes (c : Thread nD τ) 0 W)

variable (a0 : Memref sig .tc .smem S6x512 .i32) (h0 : a0.IsWhole) (a1 : Memref sig .tc .smem S6 .i32) (h1 : a1.IsWhole)

/-- The loop over an item's pages. -/
theorem pages_loop (k : Fin k0_t20_loop.trips) (v249 v281 : BitVec 32) (h6 : k0_cond6 k v281 = 1#1) (v344 : BitVec 32) (v355 : BitVec 1)
    (v356 v360 v370 v380 v390 : BitVec 32) (hv : v370 = fmod (itw k.val) 64#32) (hpt : ∀ x, (pt x).toNat < 3840)
    {kk : Unit → Prog (TpuEff nD τ sig (Elt F) Λ₀ .tc) α} {Q : α → sProp 𝕄} :
    (iprop(owns (Val := Elt F) (c : Thread nD τ) a0 fullShare pt ∗ owns (Val := Elt F) (c : Thread nD τ) a1 fullShare ln ∗ CompSt pt ln pool sc c k.val 0 0) : sProp 𝕄)
      ⊢ iprop((iprop(owns (Val := Elt F) (c : Thread nD τ) a0 fullShare pt ∗ owns (Val := Elt F) (c : Thread nD τ) a1 fullShare ln ∗ CompSt pt ln pool sc c k.val 8 0)
          -∗ wp frame (wpE (defs₀ (F := F)) 𝒱 (c : Thread nD τ) none) Set.univ (kk ⟨⟩) Q)
        -∗ wp frame (wpE (defs₀ (F := F)) 𝒱 (c : Thread nD τ) none) Set.univ
          (Scf.Loop.for k0_t21_loop k0_t21_ok ⟨⟩ (atBufs (k0_t21_body (F := F)) a0 h0 a1 h1 k v249 v281 h6 v344 v355 v356 v360 v370 v380 v390) >>= kk) Q) := by
  iintro H Hk
  iapply (Scf.wp_for_bind frame (wpE (defs₀ (F := F)) 𝒱 (c : Thread nD τ) none) Set.univ k0_t21_loop.lb k0_t21_loop.ub k0_t21_loop.st k0_t21_ok
    ⟨⟩ (atBufs (k0_t21_body (F := F)) a0 h0 a1 h1 k v249 v281 h6 v344 v355 v356 v360 v370 v380 v390)
    (fun j _ => iprop(owns (Val := Elt F) (c : Thread nD τ) a0 fullShare pt ∗ owns (Val := Elt F) (c : Thread nD τ) a1 fullShare ln ∗ CompSt pt ln pool sc c k.val j 0))
    (fun j _ => comp_trip pt ln pool sc c 𝒱 a0 h0 a1 h1 k v249 v281 h6 v344 v355 v356 v360 v370 v380 v390 hv hpt j)) $$ H
  iintro %acc H
  rw [show Scf.trips k0_t21_loop.lb k0_t21_loop.ub k0_t21_loop.st = 8 from trips21]
  iapply Hk $$ H

end Cert.Kernel
-- ==== Proof.Trip.lean ====
/- What the main loop does with one item. -/
module

public import proofs.«01_k».proof.Proof.Items

@[expose] public section

set_option maxRecDepth 16384

noncomputable section

namespace Cert.Kernel

open Idealize.ShloMosaic Idealize.ShloMosaic.ValueIdx Idealize.ShloMosaic.TcCoe Idealize.ShloMosaic.Tactic Cert.Kernel.Gen
open Idealize.SL Idealize.SL.RA Idealize.SL.BI Idealize.SL.Sem
open scoped Idealize.SL.BI
open Idealize.SL.BI.BIBase Idealize.SL.BI.Laws Idealize.SL.ProofMode
open Idealize.ShloMosaic.Transfers

variable {F : FTy → Type} [BitOps F]

local notation "𝕄" => MT nD τ sig Unit (Elt F) ℕ (Pipeline.UD sig nD τ) ℕ

variable (pt : S6x512.Idx → BitVec 32) (ln : S6.Idx → BitVec 32)
  (pool : Fin 2 → S3840x576x128.Idx → Elt F .fp8e4m3) (sc : Fin 2 → S36x16x3840.Idx → Elt F .f32) (c : Dev nD)

variable (𝒱 : Variants) (a0 : Memref sig .tc .smem S6x512 .i32) (h0 : a0.IsWhole) (a1 : Memref sig .tc .smem S6 .i32) (h1 : a1.IsWhole)

/-- The two copies of an item with a live token. -/
theorem copies_valid {α : Type} (s : Fin 4) (i : ℕ) (hi : i < 384) (hv : validItem ln i) {R : sProp 𝕄} {offa offb : Fin 5 → ℕ} {off0 off1 : Fin 4 → ℕ} {offs0 offs1 : Fin 1 → ℕ}
    {inba inbb inb0 inb1 inbs0 inbs1 hra hrb hr0 hr1 hqa hqb hq0 hq1 hqs0 hqs1}
    (hoa : offa = ![s.val, 0, 0, 0, 0]) (hob : offb = ![s.val, 1, 0, 0, 0]) (ho0 : off0 = ![i / 64, 0, i % 64 * 128, 0]) (ho1 : off1 = ![i / 64, 0, i % 64 * 128, 0])
    (hos0 : offs0 = ![s.val]) (hos1 : offs1 = ![s.val])
    {hsrc hdst hsem hsrc' hdst' hsem'} {k : PUnit → Prog (TpuEff nD τ sig (Elt F) Λ₀ .tc) α} {Q : α → sProp 𝕄}
    (hK : iprop(OutFlight pt ln pool sc c s i ∗ R) ⊢ wp frame (wpE (defs₀ (F := F)) 𝒱 (c : Thread nD τ) none) Set.univ (k ⟨⟩) Q) :
    iprop(OutSt pt ln pool sc c s i ∗ R) ⊢ wp frame (wpE (defs₀ (F := F)) 𝒱 (c : Thread nD τ) none) Set.univ
        (.op (.enqueueDma (((Memref.whole cc0_scratch3).slice (Rect.unit (s := S4x2x36x128x128) offa S1x1x36x128x128.size inba) hra).squeeze S36x128x128 hqa)
          (.here (((Memref.whole main_v6_0).slice (Rect.unit (s := S6x36x8192x128) off0 S1x36x128x128.size inb0) hr0).squeeze S36x128x128 hq0))
          (.dma (((cc0_scratch7 : DmaSems sig S4).slice (Rect.unit (s := S4) offs0 S1.size inbs0)).squeeze S_ hqs0).sem) hsrc hdst hsem) fun _ =>
         .op (.enqueueDma (((Memref.whole cc0_scratch3).slice (Rect.unit (s := S4x2x36x128x128) offb S1x1x36x128x128.size inbb) hrb).squeeze S36x128x128 hqb)
          (.here (((Memref.whole main_v6_1).slice (Rect.unit (s := S6x36x8192x128) off1 S1x36x128x128.size inb1) hr1).squeeze S36x128x128 hq1))
          (.dma (((cc0_scratch7 : DmaSems sig S4).slice (Rect.unit (s := S4) offs1 S1.size inbs1)).squeeze S_ hqs1).sem) hsrc' hdst' hsem') k) Q := by
  have r0 := outb_reads pt ln pool sc s i 0 hv (inb := inba) (hr := hra) (hq := hqa) hoa
  have r1 := outb_reads pt ln pool sc s i 1 hv (inb := inbb) (hr := hrb) (hq := hqb) hob
  have s0 := outb_src pt ln pool sc c s i 0 hv (inb := inba) (hr := hra) (hq := hqa) hoa
  have s1 := outb_src pt ln pool sc c s i 1 hv (inb := inbb) (hr := hrb) (hq := hqb) hob
  iintro ⟨HS, HR⟩
  iapply (out_copy0 pt ln pool sc c 𝒱 s i hi (src := ((Memref.whole cc0_scratch3).slice (Rect.unit (s := S4x2x36x128x128) offa S1x1x36x128x128.size inba) hra).squeeze S36x128x128 hqa)
    (q := fullShare) (fs := outTgt pt ln pool sc i) ho0 hos0 r0 s0) $$ HS
  iintro HS
  iapply (out_copy1 pt ln pool sc c 𝒱 s i hi (src := ((Memref.whole cc0_scratch3).slice (Rect.unit (s := S4x2x36x128x128) offb S1x1x36x128x128.size inbb) hrb).squeeze S36x128x128 hqb)
    (q := fullShare) (fs := outTgt pt ln pool sc i) ho1 hos1 r1 s1) $$ HS
  iintro HS
  iapply hK
  isplitl [HS]; · iexact HS
  iexact HR

set_option maxHeartbeats 3200000 in
/-- An item with a live token: its pages landed, its rows are computed and their copies started. -/
theorem valid_item (k : Fin k0_t20_loop.trips) (hpt : ∀ x, (pt x).toNat < 3840) (hv : validItem ln k.val) (h6 : k0_cond6 k (lword ln (k.val / 64)) = 1#1)
    {α : Type} {v249 : BitVec 32} {T : Prog (TpuEff nD τ sig (Elt F) Λ₀ .tc) α} {Q : α → sProp 𝕄} (hv249 : v249 = itw k.val) {hsrc hdst hsem} :
    iprop(Common pt ln sc c a0 a1 ∗ InFlight pt pool c (sl k.val) k.val ∗ OutIdle c (sl k.val) ∗ OutRaw c k.val)
      ⊢ (iprop((iprop(Common pt ln sc c a0 a1 ∗ InIdle pool c (sl k.val) ∗ OutFlight pt ln pool sc c (sl k.val) k.val)
          -∗ wp frame (wpE (defs₀ (F := F)) 𝒱 (c : Thread nD τ) none) Set.univ T Q)
        -∗ wp frame (wpE (defs₀ (F := F)) 𝒱 (c : Thread nD τ) none) Set.univ
          (atBufs (k0_part85 (F := F)) a0 h0 a1 h1 k v249 >>= fun w => atBufs (k0_part86 (F := F)) a0 h0 a1 h1 k v249 (lword ln (k.val / 64)) h6 w.1 w.2.1 w.2.2
            >>= fun _ => atBufs (k0_part87 (F := F)) a0 h0 a1 h1 v249 >>= fun w => atBufs (k0_part88 (F := F)) a0 h0 a1 h1 k v249 w.1 w.2 >>= fun _ =>
            .op (.enqueueDma (((Memref.whole cc0_scratch3).slice (Rect.unit (s := S4x2x36x128x128) (k0_off368 k) S1x1x36x128x128.size (k0_off368_inb k)) (fun _ => rfl)).squeeze S36x128x128 squeezes_S1x1x36x128x128_S36x128x128)
              (.here (((Memref.whole main_v6_1).slice (Rect.unit (s := S6x36x8192x128) (k0_off366 k) S1x36x128x128.size (k0_off366_inb k)) (fun _ => rfl)).squeeze S36x128x128 squeezes_S1x36x128x128_S36x128x128))
              (.dma (((cc0_scratch7 : DmaSems sig S4).slice (Rect.unit (s := S4) (k0_off181 k) S1.size (k0_off181_inb k))).squeeze S_ squeezes_S1_S_).sem)
              hsrc hdst hsem)
            fun _ => T) Q) : sProp 𝕄) := by
  subst hv249
  have hk := lt384 k
  have hs : (![k.val % 4] : Fin 1 → ℕ) = ![(sl k.val).val] := rfl
  simp only [atBufs, k0_part85_eq_skeleton, k0_part85_skel, k0_part86_eq_skeleton, k0_part86_skel, k0_part87_eq_skeleton, k0_part87_skel, k0_part88_eq_skeleton, k0_part88_skel, Prog.lift, smemLoad, smemLoadElt, Prog.bind_op, Prog.bind_ret, Prog.bind_assoc, Prog.pure_eq_ret]
  unfold Common
  iintro ⟨⟨HP, HL, Ht, HW⟩, HI, HO, Hraw⟩ Hk
  icombine HI HW as HI
  iapply (wait0 pt pool c 𝒱 (sl k.val) k.val ((o181 k).trans hs)) $$ HI
  iintro HI
  iapply (wait1 pt pool c 𝒱 (sl k.val) k.val ((o181 k).trans hs)) $$ HI
  iintro ⟨HI, HW⟩
  unfold InReady OutIdle
  icases HI with ⟨Hq, Hi, Hp0, Hp1⟩
  icases HO with ⟨Hoq, Hob, Hz⟩
  ihave HC := (compSt_start pt ln pool sc c (i := k.val)) $$ [Hi Ht Hob]
  · isplitl [Hi]; · iexact Hi
    isplitl [Ht]; · iexact Ht
    iexact Hob
  icombine HL HC as HC
  icombine HP HC as HC
  iapply (pages_loop pt ln pool sc c 𝒱 a0 h0 a1 h1 k _ _ h6 _ _ _ _ _ _ _ rfl hpt) $$ HC
  iintro ⟨HP, HL, HC⟩
  ihave HC := (compSt_end pt ln pool sc c (i := k.val)) $$ HC
  icases HC with ⟨Hi, Ht, Hob⟩
  ihave HS := (out_start_valid pt ln pool sc c (sl k.val) k.val hv) $$ [Hoq Hob Hz Hraw]
  · isplitl [Hoq]; · iexact Hoq
    isplitl [Hob]; · iexact Hob
    isplitl [Hz]; · iexact Hz
    iexact Hraw
  imod HS
  icombine HP HL as HR
  icombine HR Ht as HR
  icombine HR HW as HR
  icombine HR Hq as HR
  icombine HR Hi as HR
  icombine HR Hp0 as HR
  icombine HR Hp1 as HR
  icombine HR Hk as HR
  icombine HS HR as H
  istop
  refine copies_valid pt ln pool sc c 𝒱 (sl k.val) k.val hk hv (o367 k) (o368 k) (o366 k) (o366 k) (o181 k) (o181 k) ?_
  iintro ⟨HS, ⟨⟨⟨⟨⟨⟨⟨⟨HP, HL⟩, Ht⟩, HW⟩, Hq⟩, Hi⟩, Hp0⟩, Hp1⟩, Hk⟩⟩
  iapply Hk
  isplitl [HP HL Ht HW]
  · isplitl [HP]; · iexact HP
    isplitl [HL]; · iexact HL
    isplitl [Ht]; · iexact Ht
    iexact HW
  isplitr [HS]
  · unfold InIdle
    isplitl [Hq]; · iexact Hq
    isplitl [Hi]
    · iexists inTgt pt pool k.val; iexact Hi
    isplitl [Hp0]; · iexact Hp0
    iexact Hp1
  · iexact HS

/-- An item up to the copy of zeros. -/
theorem part96_wp (k : Fin k0_t20_loop.trips) (hpt : ∀ x, (pt x).toNat < 3840) :
    (iprop(Common pt ln sc c a0 a1 ∗ InSl pt ln pool c (sl k.val) k.val ∗ OutSl pt ln pool sc c (sl k.val) k.val ∗ OutRaw c k.val) : sProp 𝕄)
      ⊢ wp frame (wpE (defs₀ (F := F)) 𝒱 (c : Thread nD τ) none) Set.univ (atBufs (k0_part96 (F := F)) a0 h0 a1 h1 0#32 1#32 k)
        (fun r => iprop(⌜r = itw k.val⌝ ∗ Common pt ln sc c a0 a1 ∗ InIdle pool c (sl k.val) ∗ OutAfter pt ln pool sc c k.val ∗ DoneOf pt ln pool sc c k.val)) := by
  have hk := lt384 k
  have hs : (![k.val % 4] : Fin 1 → ℕ) = ![(sl k.val).val] := rfl
  have hb : k.val / 64 < 6 := by omega
  simp only [atBufs, k0_part96_eq_skeleton, k0_part96_skel, Prog.lift, smemLoad, smemLoadElt, Prog.bind_op, Prog.bind_ret, Prog.bind_assoc, Prog.pure_eq_ret]
  refine dite_join c 𝒱 (R := iprop(Common pt ln sc c a0 a1 ∗ InSl pt ln pool c (sl k.val) k.val ∗ OutIdle c (sl k.val) ∗ DoneOf pt ln pool sc c k.val ∗ OutRaw c k.val)) ?_ ?_ ?_
  · unfold Common
    iintro ⟨⟨HP, HL, Ht, HW⟩, HI, HO, HD, Hraw⟩
    iapply (smem1 ln c 𝒱 a1 (k.val / 64) hb (o180 k)) $$ HL
    iintro HL
    ihave HC : Common pt ln sc c a0 a1 $$ [HP HL Ht HW]
    · unfold Common
      isplitl [HP]; · iexact HP
      isplitl [HL]; · iexact HL
      isplitl [Ht]; · iexact Ht
      iexact HW
    istop
    by_cases h6 : k0_cond6 k (lword ln (k.val / 64)) = 1#1
    · have hv := (cond6_iff ln k).mp h6
      simp only [dif_pos h6]
      unfold InSl OutAfter
      rw [if_pos ⟨hk, hv⟩, if_pos hv]
      change _ ⊢ wp _ _ _ _ (fun r => iprop(⌜r = itw k.val⌝ ∗ Common pt ln sc c a0 a1 ∗ _))
      iintro ⟨⟨⟨⟨HI, HO⟩, HD⟩, Hraw⟩, HC⟩
      iapply (valid_item pt ln pool sc c 𝒱 a0 h0 a1 h1 k hpt hv h6 rfl) $$ [HC HI HO Hraw]
      · isplitl [HC]; · iexact HC
        isplitl [HI]; · iexact HI
        isplitl [HO]; · iexact HO
        iexact Hraw
      iintro ⟨HC, HI, HO⟩
      rw [wp_ret]
      imodintro
      isplitr
      · ipureintro; rfl
      isplitl [HC]; · iexact HC
      isplitl [HI]; · iexact HI
      isplitl [HO]; · iexact HO
      iexact HD
    · have hv := fun h => h6 ((cond6_iff ln k).mpr h)
      simp only [dif_neg h6]
      unfold InSl OutAfter
      rw [if_neg (fun h => hv h.2), if_neg hv, wp_ret]
      change _ ⊢ iprop(|={_}=> (_ ∗ Common pt ln sc c a0 a1 ∗ _))
      iintro ⟨⟨⟨⟨HI, HO⟩, HD⟩, Hraw⟩, HC⟩
      imodintro
      isplitr
      · ipureintro; rfl
      isplitl [HC]; · iexact HC
      isplitl [HI]; · iexact HI
      isplitl [HO Hraw]
      · isplitl [HO]; · iexact HO
        iexact Hraw
      iexact HD
  · intro h5
    have h4 := (cond5_iff k).mp h5
    unfold OutSl DoneOf Common
    rw [if_pos h4, if_pos h4]
    simp only [k0_part35_eq_skeleton, k0_part35_skel, k0_part36_eq_skeleton, k0_part36_skel, Prog.lift, smemLoad, smemLoadElt, Prog.bind_op, Prog.bind_ret, Prog.bind_assoc, Prog.pure_eq_ret]
    iintro ⟨⟨HP, HL, Ht, HW⟩, HI, HO, Hraw⟩ HT
    icombine HO HW as HO
    iapply (out_wait0 pt ln pool sc c 𝒱 (sl k.val) (k.val - 4) ((o178 k).trans hs) rfl) $$ HO
    iintro HO
    iapply (out_wait1 pt ln pool sc c 𝒱 (sl k.val) (k.val - 4) ((o178 k).trans hs) NOut1) $$ HO
    iintro ⟨⟨HO, HD⟩, HW⟩
    iapply HT
    isplitl [HP HL Ht HW]
    · isplitl [HP]; · iexact HP
      isplitl [HL]; · iexact HL
      isplitl [Ht]; · iexact Ht
      iexact HW
    isplitl [HI]; · iexact HI
    isplitl [HO]; · iexact HO
    isplitl [HD]; · iexact HD
    iexact Hraw
  · intro h5
    have h4 : ¬ 4 ≤ k.val := fun h => h5 ((cond5_iff k).mpr h)
    unfold OutSl DoneOf
    rw [if_neg h4, if_neg h4]
    iintro ⟨HC, HI, HO, Hraw⟩
    isplitl [HC]; · iexact HC
    isplitl [HI]; · iexact HI
    isplitl [HO]; · iexact HO
    isplitr
    · iempintro
    · iexact Hraw

end Cert.Kernel
-- ==== Proof.Turn.lean ====
/- One turn of the main loop. -/
module

public import proofs.«01_k».proof.Proof.Trip

@[expose] public section

set_option maxRecDepth 16384

noncomputable section

namespace Cert.Kernel

open Idealize.ShloMosaic Idealize.ShloMosaic.ValueIdx Idealize.ShloMosaic.TcCoe Idealize.ShloMosaic.Tactic Cert.Kernel.Gen
open Idealize.SL Idealize.SL.RA Idealize.SL.BI Idealize.SL.Sem
open scoped Idealize.SL.BI
open Idealize.SL.BI.BIBase Idealize.SL.BI.Laws Idealize.SL.ProofMode
open Idealize.ShloMosaic.Transfers

variable {F : FTy → Type} [BitOps F]

local notation "𝕄" => MT nD τ sig Unit (Elt F) ℕ (Pipeline.UD sig nD τ) ℕ

variable (pt : S6x512.Idx → BitVec 32) (ln : S6.Idx → BitVec 32)
  (pool : Fin 2 → S3840x576x128.Idx → Elt F .fp8e4m3) (sc : Fin 2 → S36x16x3840.Idx → Elt F .f32) (c : Dev nD)

variable (𝒱 : Variants) (a0 : Memref sig .tc .smem S6x512 .i32) (h0 : a0.IsWhole) (a1 : Memref sig .tc .smem S6 .i32) (h1 : a1.IsWhole)

/-- One turn of the main loop. -/
theorem item_trip (k : Fin k0_t20_loop.trips) (hpt : ∀ x, (pt x).toNat < 3840) :
    (iprop(Common pt ln sc c a0 a1 ∗ InSl pt ln pool c (sl k.val) k.val ∗ OutSl pt ln pool sc c (sl k.val) k.val ∗ OutRaw c k.val) : sProp 𝕄)
      ⊢ wp frame (wpE (defs₀ (F := F)) 𝒱 (c : Thread nD τ) none) Set.univ (atBufs (k0_part97 (F := F)) a0 h0 a1 h1 0#32 1#32 k)
        (fun _ => iprop(Common pt ln sc c a0 a1 ∗ InSl pt ln pool c (sl k.val) (k.val + 4) ∗ OutFlight pt ln pool sc c (sl k.val) k.val ∗ DoneOf pt ln pool sc c k.val)) := by
  have hk := lt384 k
  have hs : (![k.val % 4] : Fin 1 → ℕ) = ![(sl k.val).val] := rfl
  have hb : k.val / 64 < 6 := by omega
  have hval : validItem ln k.val ↔ Scalar.cmpi .sgt (lword ln (k.val / 64)) (Scalar.muli (fmod (itw k.val) 64#32) 128#32) = 1#1 := by
    rw [chunk_tok]; rfl
  simp only [atBufs, k0_part97_eq_skeleton, k0_part97_skel, Prog.lift, smemLoad, smemLoadElt, Prog.bind_op, Prog.bind_ret, Prog.bind_assoc, Prog.pure_eq_ret]
  rw [wp_bind]
  refine (part96_wp pt ln pool sc c 𝒱 a0 h0 a1 h1 k hpt).trans (wp_mono _ _ _ fun r => ?_)
  unfold Common
  iintro ⟨%hr, ⟨HP, HL, Ht, HW⟩, HI, HO, HD⟩
  subst hr
  iapply (smem1 ln c 𝒱 a1 (k.val / 64) hb (o369 k)) $$ HL
  iintro HL
  istop
  refine ite_join c 𝒱 (R := iprop((((((owns (Val := Elt F) (c : Thread nD τ) a0 fullShare pt ∗ (L c cc0_scratch0 ↦{fullShare} tabT sc)) ∗ (∃ W, owes (c : Thread nD τ) 0 W)) ∗ InIdle pool c (sl k.val)) ∗ OutFlight pt ln pool sc c (sl k.val) k.val) ∗ DoneOf pt ln pool sc c k.val) ∗ owns (Val := Elt F) (c : Thread nD τ) a1 fullShare ln)) ?_ ?_ ?_
  · by_cases h8 : k0_cond8 k = 1#1
    · have h4 := (cond8_iff k).mp h8
      rw [dif_pos h8]
      iintro ⟨⟨⟨⟨⟨⟨HP, Ht⟩, HW⟩, HI⟩, HO⟩, HD⟩, HL⟩
      iapply (smem1 ln c 𝒱 a1 ((k.val + 4) / 64) (by omega) (o372 k)) $$ HL
      iintro HL
      by_cases h9 : k0_cond9 k (lword ln ((k.val + 4) / 64)) = 1#1
      · have hv := (cond9_iff ln k).mp h9
        ihave HI := (fetch_start pt pool c (sl k.val) (k.val + 4)) $$ HI
        imod HI
        icombine Ht HW as HR
        icombine HR HO as HR
        icombine HR HD as HR
        icombine HR HL as HR
        icombine HI HR as H
        icombine HP H as H
        istop
        rw [dif_pos h9]
        unfold InSl
        rw [if_pos ⟨h4, hv⟩]
        simp only [k0_part91_eq_skeleton, k0_part91_skel, k0_part92_eq_skeleton, k0_part92_skel, k0_part93_eq_skeleton, k0_part93_skel, k0_part94_eq_skeleton, k0_part94_skel, k0_part95_eq_skeleton, k0_part95_skel, Prog.lift, smemLoad, smemLoadElt, Prog.bind_op, Prog.bind_ret, Prog.bind_assoc, Prog.pure_eq_ret]
        iterate 8
          refine page_load pt pool c 𝒱 a0 h4 (by decide) (by simp only [o373, o379, o384, o389, o394, o399, o404, o409, o375, o380, o385, o390, o395, o400, o405, o410, o378, o383, o388, o393, o398, o403, o408, o413, o374, o377, o382, o387, o392, o397, o402, o407, o412]) (by apply And.intro <;> intros; exact page_inb _ (hpt _) rfl _; exact page_words _ rfl _) ?_
          refine fetch_pair pt pool c 𝒱 a0 hpt (by decide) (by exact rfl) (by simp only [o373, o379, o384, o389, o394, o399, o404, o409, o375, o380, o385, o390, o395, o400, o405, o410, o378, o383, o388, o393, o398, o403, o408, o413, o374, o377, o382, o387, o392, o397, o402, o407, o412]; rfl) (by simp only [o373, o379, o384, o389, o394, o399, o404, o409, o375, o380, o385, o390, o395, o400, o405, o410, o378, o383, o388, o393, o398, o403, o408, o413, o374, o377, o382, o387, o392, o397, o402, o407, o412]; rfl) (by simp only [o373, o379, o384, o389, o394, o399, o404, o409, o375, o380, o385, o390, o395, o400, o405, o410, o378, o383, o388, o393, o398, o403, o408, o413, o374, o377, o382, o387, o392, o397, o402, o407, o412]; rfl) (by simp only [o373, o379, o384, o389, o394, o399, o404, o409, o375, o380, o385, o390, o395, o400, o405, o410, o378, o383, o388, o393, o398, o403, o408, o413, o374, o377, o382, o387, o392, o397, o402, o407, o412]; rfl) ?_
        iintro ⟨HP, HI, ⟨⟨⟨⟨Ht, HW⟩, HO⟩, HD⟩, HL⟩⟩
        rw [wp_ret]
        imodintro
        isplitl [HP HL Ht HW]
        · isplitl [HP]; · iexact HP
          isplitl [HL]; · iexact HL
          isplitl [Ht]; · iexact Ht
          iexact HW
        isplitl [HI]
        · iapply (fetch_end pt pool c (sl k.val) (k.val + 4)) $$ HI
        isplitl [HO]; · iexact HO
        iexact HD
      · have hv := fun h => h9 ((cond9_iff ln k).mpr h)
        istop
        rw [dif_neg h9]
        unfold InSl
        rw [if_neg (fun h => hv h.2), wp_ret]
        iintro ⟨⟨⟨⟨⟨⟨HP, Ht⟩, HW⟩, HI⟩, HO⟩, HD⟩, HL⟩
        imodintro
        isplitl [HP HL Ht HW]
        · isplitl [HP]; · iexact HP
          isplitl [HL]; · iexact HL
          isplitl [Ht]; · iexact Ht
          iexact HW
        isplitl [HI]; · iexact HI
        isplitl [HO]; · iexact HO
        iexact HD
    · have h4 : ¬ k.val + 4 < 384 := fun h => h8 ((cond8_iff k).mpr h)
      rw [dif_neg h8]
      unfold InSl
      rw [if_neg (fun h => h4 h.1), wp_ret]
      iintro ⟨⟨⟨⟨⟨⟨HP, Ht⟩, HW⟩, HI⟩, HO⟩, HD⟩, HL⟩
      imodintro
      isplitl [HP HL Ht HW]
      · isplitl [HP]; · iexact HP
        isplitl [HL]; · iexact HL
        isplitl [Ht]; · iexact Ht
        iexact HW
      isplitl [HI]; · iexact HI
      isplitl [HO]; · iexact HO
      iexact HD
  · intro h
    have hv : ¬ validItem ln k.val := fun hv => (ne_ext_not _).mp h (hval.mp hv)
    have r0 := zero_reads pt ln pool sc k.val 0 hv
    have r1 := zero_reads pt ln pool sc k.val 1 hv
    have s0 := zero_src pt ln pool sc c (sl k.val) k.val 0 hv
    have s1 := zero_src pt ln pool sc c (sl k.val) k.val 1 hv
    unfold OutAfter
    rw [if_neg hv]
    simp only [k0_part89_eq_skeleton, k0_part89_skel, k0_part90_eq_skeleton, k0_part90_skel, Prog.lift, smemLoad, smemLoadElt, Prog.bind_op, Prog.bind_ret, Prog.bind_assoc, Prog.pure_eq_ret]
    iintro ⟨⟨⟨⟨⟨⟨HP, Ht⟩, HW⟩, HI⟩, HO⟩, HD⟩, HL⟩ HT
    ihave HS := (out_start_invalid pt ln pool sc c (sl k.val) k.val hv) $$ HO
    imod HS
    iapply (out_copy0 pt ln pool sc c 𝒱 (sl k.val) k.val hk (src := Memref.whole cc0_scratch4) (q := qHalf (sl k.val).val 0) (fs := zeroB (F := F)) (o371 k) (o370 k) r0 s0) $$ HS
    iintro HS
    iapply (out_copy1 pt ln pool sc c 𝒱 (sl k.val) k.val hk (src := Memref.whole cc0_scratch4) (q := qHalf (sl k.val).val 1) (fs := zeroB (F := F)) (o371 k) (o370 k) r1 s1) $$ HS
    iintro HS
    iapply HT
    isplitr [HL]
    · isplitr [HD]
      · isplitr [HS]
        · isplitr [HI]
          · isplitr [HW]
            · isplitl [HP]; · iexact HP
              iexact Ht
            · iexact HW
          · iexact HI
        · iexact HS
      · iexact HD
    · iexact HL
  · intro h
    have hv : validItem ln k.val := by
      by_contra hv
      exact h ((ne_ext_not _).mpr fun e => hv (hval.mpr e))
    unfold OutAfter
    rw [if_pos hv]

end Cert.Kernel
-- ==== Proof.Loop.lean ====
/- The main loop. -/
module

public import proofs.«01_k».proof.Proof.Turn

@[expose] public section

set_option maxRecDepth 16384

noncomputable section

namespace Cert.Kernel

open Idealize.ShloMosaic Idealize.ShloMosaic.ValueIdx Idealize.ShloMosaic.TcCoe Idealize.ShloMosaic.Tactic Cert.Kernel.Gen
open Idealize.SL Idealize.SL.RA Idealize.SL.BI Idealize.SL.Sem
open scoped Idealize.SL.BI
open Idealize.SL.BI.BIBase Idealize.SL.BI.Laws Idealize.SL.ProofMode
open Idealize.ShloMosaic.Transfers

variable {F : FTy → Type} [BitOps F]

local notation "𝕄" => MT nD τ sig Unit (Elt F) ℕ (Pipeline.UD sig nD τ) ℕ

variable (pt : S6x512.Idx → BitVec 32) (ln : S6.Idx → BitVec 32)
  (pool : Fin 2 → S3840x576x128.Idx → Elt F .fp8e4m3) (sc : Fin 2 → S36x16x3840.Idx → Elt F .f32) (c : Dev nD)

variable (𝒱 : Variants) (a0 : Memref sig .tc .smem S6x512 .i32) (h0 : a0.IsWhole) (a1 : Memref sig .tc .smem S6 .i32) (h1 : a1.IsWhole)

/-- The item a slot holds, or waits for, as the loop comes to item `k`. -/
def nextItem (k : ℕ) (s : Fin 4) : ℕ := k + (s.val + 4 - k % 4) % 4

def SlotSt (k : ℕ) (s : Fin 4) : sProp 𝕄 :=
  iprop(InSl pt ln pool c s (nextItem k s) ∗ OutSl pt ln pool sc c s (nextItem k s))

/-- The state of the loop as it comes to item `k`. -/
def Inv (a0 : Memref sig .tc .smem S6x512 .i32) (a1 : Memref sig .tc .smem S6 .i32) (k : ℕ) : sProp 𝕄 :=
  iprop(Common pt ln sc c a0 a1 ∗ bigSep Finset.univ (SlotSt pt ln pool sc c k) ∗ bigSep (Finset.Ico k 384) (fun i => (OutRaw (F := F) c i : sProp 𝕄))
    ∗ bigSep (Finset.range (k - 4)) (OutDone pt ln pool sc c))

theorem next_self (k : ℕ) : nextItem k (sl k) = k := by
  show k + (k % 4 + 4 - k % 4) % 4 = k; omega
theorem next_four (k : ℕ) : nextItem (k + 1) (sl k) = k + 4 := by
  show k + 1 + (k % 4 + 4 - (k + 1) % 4) % 4 = k + 4; omega
theorem next_other (k : ℕ) (s : Fin 4) (h : s ≠ sl k) : nextItem (k + 1) s = nextItem k s := by
  have h' : s.val ≠ k % 4 := fun e => h (Fin.ext e)
  have := s.isLt
  show k + 1 + (s.val + 4 - (k + 1) % 4) % 4 = k + (s.val + 4 - k % 4) % 4; omega

theorem slots_eq (k : ℕ) : bigSep Finset.univ (SlotSt pt ln pool sc c k)
    = iprop((InSl pt ln pool c (sl k) k ∗ OutSl pt ln pool sc c (sl k) k) ∗ bigSep (Finset.univ.erase (sl k)) (SlotSt pt ln pool sc c k)) := by
  rw [BI.bigSep_erase (Finset.mem_univ (sl k))]
  show iprop(SlotSt pt ln pool sc c k (sl k) ∗ _) = _
  unfold SlotSt
  rw [next_self]

theorem slots_eq' (k : ℕ) : bigSep Finset.univ (SlotSt pt ln pool sc c (k + 1))
    = iprop((InSl pt ln pool c (sl k) (k + 4) ∗ OutFlight pt ln pool sc c (sl k) k) ∗ bigSep (Finset.univ.erase (sl k)) (SlotSt pt ln pool sc c k)) := by
  rw [BI.bigSep_erase (Finset.mem_univ (sl k))]
  rw [BI.bigSep_congr (s := Finset.univ.erase (sl k)) (Ψ := SlotSt pt ln pool sc c k) fun s hs => by
    unfold SlotSt; rw [next_other k s (Finset.ne_of_mem_erase hs)]]
  show iprop(SlotSt pt ln pool sc c (k + 1) (sl k) ∗ _) = _
  unfold SlotSt OutSl
  rw [next_four, if_pos (by omega)]
  rfl

theorem done_eq (k : ℕ) : iprop(DoneOf pt ln pool sc c k ∗ bigSep (Finset.range (k - 4)) (OutDone pt ln pool sc c))
    ⊢ (bigSep (Finset.range (k + 1 - 4)) (OutDone pt ln pool sc c) : sProp 𝕄) := by
  unfold DoneOf
  split
  · rename_i h
    rw [show k + 1 - 4 = (k - 4) + 1 from by omega, Finset.range_add_one, BI.bigSep_insert (by simp)]
    exact .rfl
  · rename_i h
    rw [show k + 1 - 4 = k - 4 from by omega]
    iintro ⟨-, H⟩
    iexact H

theorem inv_step (hpt : ∀ x, (pt x).toNat < 3840) (k : Fin k0_t20_loop.trips) :
    (Inv pt ln pool sc c a0 a1 k.val : sProp 𝕄) ⊢ wp frame (wpE (defs₀ (F := F)) 𝒱 (c : Thread nD τ) none) Set.univ (atBufs (k0_t20_body (F := F)) a0 h0 a1 h1 k ⟨⟩)
      (fun _ => Inv pt ln pool sc c a0 a1 (k.val + 1)) := by
  have hk := lt384 k
  unfold Inv
  rw [slots_eq, slots_eq', ico_step _ hk]
  simp only [atBufs, k0_t20_body, Prog.pure_eq_ret]
  rw [wp_bind]
  refine (show BIBase.Entails (PROP := sProp 𝕄) _ iprop((Common pt ln sc c a0 a1 ∗ InSl pt ln pool c (sl k.val) k.val ∗ OutSl pt ln pool sc c (sl k.val) k.val ∗ OutRaw c k.val)
    ∗ bigSep (Finset.univ.erase (sl k.val)) (SlotSt pt ln pool sc c k.val) ∗ bigSep (Finset.Ico (k.val + 1) 384) (fun i => (OutRaw (F := F) c i : sProp 𝕄))
    ∗ bigSep (Finset.range (k.val - 4)) (OutDone pt ln pool sc c)) from ?_).trans
    ((show BIBase.Entails (PROP := sProp 𝕄) _ _ from ?_).trans (wp_mono _ _ _
      (Q := fun _ => iprop((Common pt ln sc c a0 a1 ∗ InSl pt ln pool c (sl k.val) (k.val + 4) ∗ OutFlight pt ln pool sc c (sl k.val) k.val ∗ DoneOf pt ln pool sc c k.val)
        ∗ bigSep (Finset.univ.erase (sl k.val)) (SlotSt pt ln pool sc c k.val) ∗ bigSep (Finset.Ico (k.val + 1) 384) (fun i => (OutRaw (F := F) c i : sProp 𝕄))
        ∗ bigSep (Finset.range (k.val - 4)) (OutDone pt ln pool sc c))) fun _ => ?_))
  · iintro ⟨HC, ⟨⟨HI, HO⟩, HS⟩, ⟨Hraw, Hraws⟩, HD⟩
    isplitl [HC HI HO Hraw]
    · isplitl [HC]; · iexact HC
      isplitl [HI]; · iexact HI
      isplitl [HO]; · iexact HO
      iexact Hraw
    isplitl [HS]; · iexact HS
    isplitl [Hraws]; · iexact Hraws
    iexact HD
  · iintro ⟨H, HR⟩
    iapply (wp_frame_r Idealize.ShloMosaic.frame (wpE (defs₀ (F := F)) 𝒱 (c : Thread nD τ) none) Set.univ)
    isplitl [H]
    · iapply (item_trip pt ln pool sc c 𝒱 a0 h0 a1 h1 k hpt) $$ H
    · iexact HR
  · refine show BIBase.Entails (PROP := sProp 𝕄) _ _ from ?_
    iintro ⟨⟨HC, HI, HO, HD1⟩, HS, Hraws, HD⟩
    rw [wp_ret]
    imodintro
    isplitl [HC]; · iexact HC
    isplitl [HI HO HS]
    · isplitl [HI HO]
      · isplitl [HI]; · iexact HI
        iexact HO
      · iexact HS
    isplitl [Hraws]; · iexact Hraws
    iapply (done_eq pt ln pool sc c k.val)
    isplitl [HD1]; · iexact HD1
    iexact HD

/-- The main loop. -/
theorem main_loop (hpt : ∀ x, (pt x).toNat < 3840) {α : Type} {kk : Unit → Prog (TpuEff nD τ sig (Elt F) Λ₀ .tc) α} {Q : α → sProp 𝕄} {R : sProp 𝕄}
    (hK : iprop(Inv pt ln pool sc c a0 a1 384 ∗ R) ⊢ wp frame (wpE (defs₀ (F := F)) 𝒱 (c : Thread nD τ) none) Set.univ (kk ⟨⟩) Q) :
    (iprop(Inv pt ln pool sc c a0 a1 0 ∗ R) : sProp 𝕄) ⊢ wp frame (wpE (defs₀ (F := F)) 𝒱 (c : Thread nD τ) none) Set.univ
        (Scf.Loop.for k0_t20_loop k0_t20_ok ⟨⟩ (atBufs (k0_t20_body (F := F)) a0 h0 a1 h1) >>= kk) Q := by
  iintro ⟨H, HR⟩
  iapply (Scf.wp_for_bind frame (wpE (defs₀ (F := F)) 𝒱 (c : Thread nD τ) none) Set.univ k0_t20_loop.lb k0_t20_loop.ub k0_t20_loop.st k0_t20_ok
    ⟨⟩ (atBufs (k0_t20_body (F := F)) a0 h0 a1 h1) (fun j _ => Inv pt ln pool sc c a0 a1 j)
    (fun j _ => inv_step pt ln pool sc c 𝒱 a0 h0 a1 h1 hpt j)) $$ H
  iintro %acc H
  rw [show Scf.trips k0_t20_loop.lb k0_t20_loop.ub k0_t20_loop.st = 384 from trips20]
  iapply hK
  isplitl [H]; · iexact H
  iexact HR

/-- The waits for an item's copies, at the end. -/
theorem drain {α : Type} (s : Fin 4) (i : ℕ) {offs0 offs1 : Fin 1 → ℕ} {inbs0 hqs0 inbs1 hqs1} (hos0 : offs0 = ![s.val]) (hos1 : offs1 = ![s.val]) {sp0 sp1 sp0' sp1' : Space} {s0' s1' : Shape} {e0 e1 : EltTy}
    {src0 : Memref sig .tc sp0' s0' e0} {src1 : Memref sig .tc sp1' s1' e1} {dst0 : Memref sig .tc sp0 S36x128x128 .bf16} {dst1 : Memref sig .tc sp1 S36x128x128 .bf16}
    (hN0 : dst0.view.dmaCredit = NOut) (hN1 : dst1.view.dmaCredit = NOut) {R : sProp 𝕄}
    {hsrc hdst hsrc' hdst'} {k : PUnit → Prog (TpuEff nD τ sig (Elt F) Λ₀ .tc) α} {Q : α → sProp 𝕄}
    (hK : iprop((∃ W, owes (c : Thread nD τ) 0 W) ∗ R ∗ (OutIdle c s ∗ OutDone pt ln pool sc c i)) ⊢ wp frame (wpE (defs₀ (F := F)) 𝒱 (c : Thread nD τ) none) Set.univ (k ⟨⟩) Q) :
    iprop((∃ W, owes (c : Thread nD τ) 0 W) ∗ OutFlight pt ln pool sc c s i ∗ R) ⊢ wp frame (wpE (defs₀ (F := F)) 𝒱 (c : Thread nD τ) none) Set.univ
        (.op (.waitDma2 (((cc0_scratch7 : DmaSems sig S4).slice (Rect.unit (s := S4) offs0 S1.size inbs0)).squeeze S_ hqs0).sem src0 dst0 hsrc hdst) fun _ =>
         .op (.waitDma2 (((cc0_scratch7 : DmaSems sig S4).slice (Rect.unit (s := S4) offs1 S1.size inbs1)).squeeze S_ hqs1).sem src1 dst1 hsrc' hdst') k) Q := by
  iintro ⟨HW, HO, HR⟩
  icombine HO HW as HO
  iapply (out_wait0 pt ln pool sc c 𝒱 s i hos0 hN0) $$ HO
  iintro HO
  iapply (out_wait1 pt ln pool sc c 𝒱 s i hos1 hN1) $$ HO
  iintro ⟨HO, HW⟩
  iapply hK
  isplitl [HW]; · iexact HW
  isplitl [HR]; · iexact HR
  iexact HO

end Cert.Kernel
-- ==== Proof.Staging.lean ====
/- The ring that stages the scales: its transfers, its waits, and the packing of one staged piece. -/
module

public import proofs.«01_k».proof.Proof.Stage

@[expose] public section

set_option maxRecDepth 16384

noncomputable section

namespace Cert.Kernel

open Idealize.ShloMosaic Idealize.ShloMosaic.ValueIdx Idealize.ShloMosaic.TcCoe Idealize.ShloMosaic.Tactic Cert.Kernel.Gen
open Idealize.SL Idealize.SL.RA Idealize.SL.BI Idealize.SL.Sem
open scoped Idealize.SL.BI
open Idealize.SL.BI.BIBase Idealize.SL.BI.Laws Idealize.SL.ProofMode
open Idealize.ShloMosaic.Transfers

variable {F : FTy → Type} [BitOps F]

local notation "𝕄" => MT nD τ sig Unit (Elt F) ℕ (Pipeline.UD sig nD τ) ℕ

variable (sc : Fin 2 → S36x16x3840.Idx → Elt F .f32) (c : Dev nD)

/-- The part of a table of scales that piece `p` reads, and what is left of the two tables' shares beside it. -/
def stSrc (p : ℕ) (q : PosShare TreeShare) : sProp 𝕄 :=
  if p < 9 then L c main_v4 ↦[pieceSet p]{q} sc 0 else L c main_v5 ↦[pieceSet (p - 9)]{q} sc 1
def stRest (p : ℕ) (q : PosShare TreeShare) : sProp 𝕄 :=
  if p < 9 then iprop((L c main_v4 ↦[Finset.univ \ pieceSet p]{q} sc 0) ∗ (L c main_v5 ↦{q} sc 1))
  else iprop((L c main_v5 ↦[Finset.univ \ pieceSet (p - 9)]{q} sc 1) ∗ (L c main_v4 ↦{q} sc 0))

theorem src_split (p : ℕ) (q : PosShare TreeShare) :
    (iprop((L c main_v4 ↦{q} sc 0) ∗ (L c main_v5 ↦{q} sc 1)) : sProp 𝕄) = iprop(stSrc sc c p q ∗ stRest sc c p q) := by
  unfold stSrc stRest
  have h0 := pointsTo_split_subset (ℓ := L c main_v4) (q := q) (f := sc 0) (Name := ℕ) (Ix := Unit) (U := Pipeline.UD sig nD τ) (Lvl := ℕ)
    (Finset.subset_univ (pieceSet p))
  have h1 := pointsTo_split_subset (ℓ := L c main_v5) (q := q) (f := sc 1) (Name := ℕ) (Ix := Unit) (U := Pipeline.UD sig nD τ) (Lvl := ℕ)
    (Finset.subset_univ (pieceSet (p - 9)))
  have e0 := Entails.antisymm h0.1 h0.2
  have e1 := Entails.antisymm h1.1 h1.2
  split
  · rw [e0]
    exact Entails.antisymm BI.sep_assoc BI.sep_assoc'
  · refine Eq.trans (Entails.antisymm BI.sep_comm BI.sep_comm : _ = iprop((L c main_v5 ↦{q} sc 1) ∗ (L c main_v4 ↦{q} sc 0))) ?_
    rw [e1]
    exact Entails.antisymm BI.sep_assoc BI.sep_assoc'

/-- What the transfer of piece `p` delivers. -/
def stD (s p : ℕ) (_ : Fin 1) : sProp 𝕄 := iprop((L c cc0_scratch1 ↦[stageSet s]{fullShare} stTgt sc p) ∗ stSrc sc c p (qS s))

instance (p : ℕ) (q : PosShare TreeShare) : Storable (upEmb : UEmb _ 𝕄) (stSrc sc c p q) := by unfold stSrc; split <;> infer_instance
instance (s p : ℕ) (n : Fin 1) : Storable (upEmb : UEmb _ 𝕄) (stD sc c s p n) := by unfold stD; infer_instance

theorem stD_one (s p : ℕ) : (bigSep Finset.univ (stD sc c s p) : sProp 𝕄)
    = iprop((L c cc0_scratch1 ↦[stageSet s]{fullShare} stTgt sc p) ∗ stSrc sc c p (qS s)) := by
  rw [BI.bigSep_eq_bigSepL_of_eq [0] (by decide) (by decide)]
  rfl

/-- A slot of the staging ring at rest, with its piece in flight, and with its piece landed. -/
def StageIdle (s : Fin 3) : sProp 𝕄 :=
  iprop(semVal ((c : Thread nD τ), SemLoc.dma (stageCell s)) 0 ∗ (∃ f, L c cc0_scratch1 ↦[stageSet s.val]{fullShare} f)
    ∗ (L c main_v4 ↦{qS s.val} sc 0) ∗ (L c main_v5 ↦{qS s.val} sc 1))
def StageFlight (s : Fin 3) (p : ℕ) : sProp 𝕄 :=
  iprop(Batch EC (c : Thread nD τ) (SemLoc.dma (stageCell s)) () NStage (stD sc c s.val p) 1 0 ∗ stRest sc c p (qS s.val))
def StageReady (s : Fin 3) (p : ℕ) : sProp 𝕄 :=
  iprop(semVal ((c : Thread nD τ), SemLoc.dma (stageCell s)) 0 ∗ (L c cc0_scratch1 ↦[stageSet s.val]{fullShare} stTgt sc p)
    ∗ (L c main_v4 ↦{qS s.val} sc 0) ∗ (L c main_v5 ↦{qS s.val} sc 1))

/-- The table, packed up to piece `p`. -/
def TabAt (p : ℕ) : sProp 𝕄 := iprop(∃ f, ⌜TabOk sc p 0 0 f⌝ ∗ (L c cc0_scratch0 ↦{fullShare} f))

theorem piece_rect (p : ℕ) (off : Fin 3 → ℕ) (ho : off = ![4 * p, 0, 0]) (inb) :
    (Rect.unit (s := S36x16x3840) off S4x16x3840.size inb).set = pieceSet p := by
  subst ho
  ext x
  refine Rect.mem_set_unit.trans ?_
  have h1 : (x 1).val < 16 := (x 1).isLt
  have h2 : (x 2).val < 3840 := (x 2).isLt
  simp only [pieceSet, Finset.mem_filter, Finset.mem_univ, true_and]
  constructor
  · intro h
    have h0 : 4 * p ≤ (x 0).val ∧ (x 0).val < 4 * p + 4 := h 0
    omega
  · intro h a
    match a with
    | 0 => change 4 * p ≤ (x 0).val ∧ (x 0).val < 4 * p + 4; omega
    | 1 => change 0 ≤ (x 1).val ∧ (x 1).val < 0 + 16; omega
    | 2 => change 0 ≤ (x 2).val ∧ (x 2).val < 0 + 3840; omega

section Steps
variable (𝒱 : Variants) {α : Type}

theorem stage_land0 (s : Fin 3) (p : ℕ) (hp : p < 9) (off off' inb inb' hr hr' hq')
    (ho : off = ![4 * (p), 0, 0]) (ho' : off' = ![s.val, 0, 0, 0]) (fd : Buf (Elt F) (L c cc0_scratch1)) :
    ∀ x ∈ (((Memref.whole cc0_scratch1).slice (Rect.unit (s := S3x4x16x3840) off' S1x4x16x3840.size inb') hr').squeeze S4x16x3840 hq').view.set,
      (((Memref.whole cc0_scratch1).slice (Rect.unit (s := S3x4x16x3840) off' S1x4x16x3840.size inb') hr').squeeze S4x16x3840 hq').view.write (Elt F) fd
        (ReadAs.same.apply (((Memref.whole main_v4).slice (Rect.unit (s := S36x16x3840) off S4x16x3840.size inb) hr).view.read (Elt F) (sc 0))) Finset.univ x
        = stTgt sc p x := by
  refine land (Val := Elt F) ((Memref.whole main_v4).slice (Rect.unit (s := S36x16x3840) off S4x16x3840.size inb) hr).view
    (((Memref.whole cc0_scratch1).slice (Rect.unit (s := S3x4x16x3840) off' S1x4x16x3840.size inb') hr').squeeze S4x16x3840 hq').view (sc 0) fd (stTgt sc p) fun y => ?_
  obtain ⟨x, a, b, rfl⟩ : ∃ (x : Fin 4) (a : Fin 16) (b : Fin 3840), y = ix3 x a b := ⟨y 0, y 1, y 2, eq_ix3 y⟩
  change stTgt sc p ((Rect.unit (s := S3x4x16x3840) off' S1x4x16x3840.size inb').emb (Shape.reshapeEquiv _ (ix3 x a b)))
    = sc 0 ((Rect.unit (s := S36x16x3840) off S4x16x3840.size inb).emb (ix3 x a b))
  have hx := x.isLt
  have e : (Rect.unit (s := S36x16x3840) off S4x16x3840.size inb).emb (ix3 x a b) = ix3 (⟨(p % 9 * 4 + x.val) % 36, Nat.mod_lt _ (by decide)⟩ : Fin 36) a b := by
    subst ho
    funext i
    apply Fin.ext
    match i with
    | 0 => change 4 * (p) + 1 * x.val = (p % 9 * 4 + x.val) % 36; omega
    | 1 => change 0 + 1 * a.val = a.val; omega
    | 2 => change 0 + 1 * b.val = b.val; omega
  rw [stage_emb s off' ho', e]
  have q : p / 9 % 2 = 0 := by omega
  show sc ⟨p / 9 % 2, _⟩ (ix3 ⟨(p % 9 * 4 + x.val) % 36, _⟩ a b) = _
  simp only [q]
  rfl

/-- The transfer of piece `p`, of the first table of scales, starts. -/
theorem stage_start0 (s : Fin 3) (p : ℕ) (hp : p < 9) {off : Fin 3 → ℕ} {off' : Fin 4 → ℕ} {offs : Fin 1 → ℕ} {inb inb' inbs hr hr' hq' hqs}
    (ho : off = ![4 * (p), 0, 0]) (ho' : off' = ![s.val, 0, 0, 0]) (hos : offs = ![s.val])
    {hsrc hdst hsem} {k : PUnit → Prog (TpuEff nD τ sig (Elt F) Λ₀ .tc) α} {Q : α → sProp 𝕄} :
    StageIdle sc c s ⊢ (iprop((StageFlight sc c s p -∗ wp frame (wpE (defs₀ (F := F)) 𝒱 (c : Thread nD τ) none) Set.univ (k ⟨⟩) Q)
      -∗ wp frame (wpE (defs₀ (F := F)) 𝒱 (c : Thread nD τ) none) Set.univ
        (.op (.enqueueDma ((Memref.whole main_v4).slice (Rect.unit (s := S36x16x3840) off S4x16x3840.size inb) hr)
          (.here (((Memref.whole cc0_scratch1).slice (Rect.unit (s := S3x4x16x3840) off' S1x4x16x3840.size inb') hr').squeeze S4x16x3840 hq'))
          (.dma (((cc0_scratch5 : DmaSems sig S3).slice (Rect.unit (s := S3) offs S1.size inbs)).squeeze S_ hqs).sem) hsrc hdst hsem) k) Q) : sProp 𝕄) := by
  have hcell := stageCell_eq s offs hos inbs hqs
  have hset : ((Memref.whole main_v4).slice (Rect.unit (s := S36x16x3840) off S4x16x3840.size inb) hr).view.set
      = pieceSet (p) := (View.set_slice_whole _ _).trans (piece_rect _ off ho inb)
  have hset' : (((Memref.whole cc0_scratch1).slice (Rect.unit (s := S3x4x16x3840) off' S1x4x16x3840.size inb') hr').squeeze S4x16x3840 hq').view.set
      = stageSet s.val := (View.set_reshape _ _).trans ((View.set_slice_whole _ _).trans (stage_rect _ off' ho' inb'))
  have hland := stage_land0 sc c s p hp off off' inb inb' hr hr' hq' ho ho'
  revert hsem
  rw [hcell]
  intro hsem
  have hD : ∀ f0, (iprop((L c cc0_scratch1 ↦[stageSet s.val]{fullShare}
        (((Memref.whole cc0_scratch1).slice (Rect.unit (s := S3x4x16x3840) off' S1x4x16x3840.size inb') hr').squeeze S4x16x3840 hq').view.write (Elt F) f0
          (ReadAs.same.apply (((Memref.whole main_v4).slice (Rect.unit (s := S36x16x3840) off S4x16x3840.size inb) hr).view.read (Elt F) (sc 0))) Finset.univ)
      ∗ (L c main_v4 ↦[((Memref.whole main_v4).slice (Rect.unit (s := S36x16x3840) off S4x16x3840.size inb) hr).view.set]{qS s.val} sc 0)) : sProp 𝕄)
      ⊢ stD sc c s.val p ⟨0, Nat.one_pos⟩ := by
    intro f0
    rw [hset]
    unfold stD stSrc
    rw [if_pos (show p < 9 by omega)]
    refine sep_mono_left (Entails.of_eq (pointsTo_congr ?_))
    rw [← hset']
    exact hland f0
  have hN : (((Memref.whole cc0_scratch1).slice (Rect.unit (s := S3x4x16x3840) off' S1x4x16x3840.size inb') hr').squeeze S4x16x3840 hq').view.amount
      (SemLoc.dma (stageCell s)) = NStage := rfl
  have hsub : (((Memref.whole cc0_scratch1).slice (Rect.unit (s := S3x4x16x3840) off' S1x4x16x3840.size inb') hr').squeeze S4x16x3840 hq').view.set
      ⊆ stageSet s.val := by rw [hset']
  unfold StageIdle StageFlight
  iintro ⟨Hq, ⟨%f0, Hf0⟩, Hp⟩ Hk
  imod (batch_alloc' (Lvl := ℕ) EC (c : Thread nD τ) () NStage (stD sc c s.val p) (sm := SemLoc.dma (stageCell s)) (E := Set.univ)) $$ Hq with HB
  ihave Hp := (Entails.of_eq (src_split sc c p (qS s.val))) $$ Hp
  icases Hp with ⟨Hs, Hrest⟩
  ihave Hs := (Entails.of_eq (show stSrc sc c p (qS s.val) = (L c main_v4 ↦[pieceSet (p)]{qS s.val} sc 0 : sProp 𝕄) from if_pos (show p < 9 by omega))) $$ Hs
  iapply (wp_dmaBatch EC 𝒱 (c : Thread nD τ) none () NStage
    (src := ((Memref.whole main_v4).slice (Rect.unit (s := S36x16x3840) off S4x16x3840.size inb) hr))
    (dst := (((Memref.whole cc0_scratch1).slice (Rect.unit (s := S3x4x16x3840) off' S1x4x16x3840.size inb') hr').squeeze S4x16x3840 hq'))
    (via := ReadAs.same) (D := stD sc c s.val p) (j := 0) (u := 0) (q := qS s.val)
    (fs := sc 0) (fd := f0) (Sd := stageSet s.val)
    hN hsub Nat.one_pos (Nat.zero_le _) (hD f0)) $$ [Hs Hf0 HB]
  · rw [hset]
    isplitl [Hs]; · iexact Hs
    isplitl [Hf0]; · iexact Hf0
    iexact HB
  iintro HB
  iapply Hk
  isplitl [HB]; · iexact HB
  iexact Hrest

theorem stage_land1 (s : Fin 3) (p : ℕ) (hp : 9 ≤ p ∧ p < 18) (off off' inb inb' hr hr' hq')
    (ho : off = ![4 * (p - 9), 0, 0]) (ho' : off' = ![s.val, 0, 0, 0]) (fd : Buf (Elt F) (L c cc0_scratch1)) :
    ∀ x ∈ (((Memref.whole cc0_scratch1).slice (Rect.unit (s := S3x4x16x3840) off' S1x4x16x3840.size inb') hr').squeeze S4x16x3840 hq').view.set,
      (((Memref.whole cc0_scratch1).slice (Rect.unit (s := S3x4x16x3840) off' S1x4x16x3840.size inb') hr').squeeze S4x16x3840 hq').view.write (Elt F) fd
        (ReadAs.same.apply (((Memref.whole main_v5).slice (Rect.unit (s := S36x16x3840) off S4x16x3840.size inb) hr).view.read (Elt F) (sc 1))) Finset.univ x
        = stTgt sc p x := by
  refine land (Val := Elt F) ((Memref.whole main_v5).slice (Rect.unit (s := S36x16x3840) off S4x16x3840.size inb) hr).view
    (((Memref.whole cc0_scratch1).slice (Rect.unit (s := S3x4x16x3840) off' S1x4x16x3840.size inb') hr').squeeze S4x16x3840 hq').view (sc 1) fd (stTgt sc p) fun y => ?_
  obtain ⟨x, a, b, rfl⟩ : ∃ (x : Fin 4) (a : Fin 16) (b : Fin 3840), y = ix3 x a b := ⟨y 0, y 1, y 2, eq_ix3 y⟩
  change stTgt sc p ((Rect.unit (s := S3x4x16x3840) off' S1x4x16x3840.size inb').emb (Shape.reshapeEquiv _ (ix3 x a b)))
    = sc 1 ((Rect.unit (s := S36x16x3840) off S4x16x3840.size inb).emb (ix3 x a b))
  have hx := x.isLt
  have e : (Rect.unit (s := S36x16x3840) off S4x16x3840.size inb).emb (ix3 x a b) = ix3 (⟨(p % 9 * 4 + x.val) % 36, Nat.mod_lt _ (by decide)⟩ : Fin 36) a b := by
    subst ho
    funext i
    apply Fin.ext
    match i with
    | 0 => change 4 * (p - 9) + 1 * x.val = (p % 9 * 4 + x.val) % 36; omega
    | 1 => change 0 + 1 * a.val = a.val; omega
    | 2 => change 0 + 1 * b.val = b.val; omega
  rw [stage_emb s off' ho', e]
  have q : p / 9 % 2 = 1 := by omega
  show sc ⟨p / 9 % 2, _⟩ (ix3 ⟨(p % 9 * 4 + x.val) % 36, _⟩ a b) = _
  simp only [q]
  rfl

/-- The transfer of piece `p`, of the second table of scales, starts. -/
theorem stage_start1 (s : Fin 3) (p : ℕ) (hp : 9 ≤ p ∧ p < 18) {off : Fin 3 → ℕ} {off' : Fin 4 → ℕ} {offs : Fin 1 → ℕ} {inb inb' inbs hr hr' hq' hqs}
    (ho : off = ![4 * (p - 9), 0, 0]) (ho' : off' = ![s.val, 0, 0, 0]) (hos : offs = ![s.val])
    {hsrc hdst hsem} {k : PUnit → Prog (TpuEff nD τ sig (Elt F) Λ₀ .tc) α} {Q : α → sProp 𝕄} :
    StageIdle sc c s ⊢ (iprop((StageFlight sc c s p -∗ wp frame (wpE (defs₀ (F := F)) 𝒱 (c : Thread nD τ) none) Set.univ (k ⟨⟩) Q)
      -∗ wp frame (wpE (defs₀ (F := F)) 𝒱 (c : Thread nD τ) none) Set.univ
        (.op (.enqueueDma ((Memref.whole main_v5).slice (Rect.unit (s := S36x16x3840) off S4x16x3840.size inb) hr)
          (.here (((Memref.whole cc0_scratch1).slice (Rect.unit (s := S3x4x16x3840) off' S1x4x16x3840.size inb') hr').squeeze S4x16x3840 hq'))
          (.dma (((cc0_scratch5 : DmaSems sig S3).slice (Rect.unit (s := S3) offs S1.size inbs)).squeeze S_ hqs).sem) hsrc hdst hsem) k) Q) : sProp 𝕄) := by
  have hcell := stageCell_eq s offs hos inbs hqs
  have hset : ((Memref.whole main_v5).slice (Rect.unit (s := S36x16x3840) off S4x16x3840.size inb) hr).view.set
      = pieceSet (p - 9) := (View.set_slice_whole _ _).trans (piece_rect _ off ho inb)
  have hset' : (((Memref.whole cc0_scratch1).slice (Rect.unit (s := S3x4x16x3840) off' S1x4x16x3840.size inb') hr').squeeze S4x16x3840 hq').view.set
      = stageSet s.val := (View.set_reshape _ _).trans ((View.set_slice_whole _ _).trans (stage_rect _ off' ho' inb'))
  have hland := stage_land1 sc c s p hp off off' inb inb' hr hr' hq' ho ho'
  revert hsem
  rw [hcell]
  intro hsem
  have hD : ∀ f0, (iprop((L c cc0_scratch1 ↦[stageSet s.val]{fullShare}
        (((Memref.whole cc0_scratch1).slice (Rect.unit (s := S3x4x16x3840) off' S1x4x16x3840.size inb') hr').squeeze S4x16x3840 hq').view.write (Elt F) f0
          (ReadAs.same.apply (((Memref.whole main_v5).slice (Rect.unit (s := S36x16x3840) off S4x16x3840.size inb) hr).view.read (Elt F) (sc 1))) Finset.univ)
      ∗ (L c main_v5 ↦[((Memref.whole main_v5).slice (Rect.unit (s := S36x16x3840) off S4x16x3840.size inb) hr).view.set]{qS s.val} sc 1)) : sProp 𝕄)
      ⊢ stD sc c s.val p ⟨0, Nat.one_pos⟩ := by
    intro f0
    rw [hset]
    unfold stD stSrc
    rw [if_neg (show ¬ p < 9 by omega)]
    refine sep_mono_left (Entails.of_eq (pointsTo_congr ?_))
    rw [← hset']
    exact hland f0
  have hN : (((Memref.whole cc0_scratch1).slice (Rect.unit (s := S3x4x16x3840) off' S1x4x16x3840.size inb') hr').squeeze S4x16x3840 hq').view.amount
      (SemLoc.dma (stageCell s)) = NStage := rfl
  have hsub : (((Memref.whole cc0_scratch1).slice (Rect.unit (s := S3x4x16x3840) off' S1x4x16x3840.size inb') hr').squeeze S4x16x3840 hq').view.set
      ⊆ stageSet s.val := by rw [hset']
  unfold StageIdle StageFlight
  iintro ⟨Hq, ⟨%f0, Hf0⟩, Hp⟩ Hk
  imod (batch_alloc' (Lvl := ℕ) EC (c : Thread nD τ) () NStage (stD sc c s.val p) (sm := SemLoc.dma (stageCell s)) (E := Set.univ)) $$ Hq with HB
  ihave Hp := (Entails.of_eq (src_split sc c p (qS s.val))) $$ Hp
  icases Hp with ⟨Hs, Hrest⟩
  ihave Hs := (Entails.of_eq (show stSrc sc c p (qS s.val) = (L c main_v5 ↦[pieceSet (p - 9)]{qS s.val} sc 1 : sProp 𝕄) from if_neg (show ¬ p < 9 by omega))) $$ Hs
  iapply (wp_dmaBatch EC 𝒱 (c : Thread nD τ) none () NStage
    (src := ((Memref.whole main_v5).slice (Rect.unit (s := S36x16x3840) off S4x16x3840.size inb) hr))
    (dst := (((Memref.whole cc0_scratch1).slice (Rect.unit (s := S3x4x16x3840) off' S1x4x16x3840.size inb') hr').squeeze S4x16x3840 hq'))
    (via := ReadAs.same) (D := stD sc c s.val p) (j := 0) (u := 0) (q := qS s.val)
    (fs := sc 1) (fd := f0) (Sd := stageSet s.val)
    hN hsub Nat.one_pos (Nat.zero_le _) (hD f0)) $$ [Hs Hf0 HB]
  · rw [hset]
    isplitl [Hs]; · iexact Hs
    isplitl [Hf0]; · iexact Hf0
    iexact HB
  iintro HB
  iapply Hk
  isplitl [HB]; · iexact HB
  iexact Hrest

/-- The wait for piece `p`. -/
theorem stage_wait (s : Fin 3) (p : ℕ) {off' : Fin 4 → ℕ} {offs : Fin 1 → ℕ} {inb' inbs hr' hq' hqs}
    (hos : offs = ![s.val]) {srcw : Memref sig .tc .hbm S4x16x3840 .f32}
    {hsrc hdst} {k : PUnit → Prog (TpuEff nD τ sig (Elt F) Λ₀ .tc) α} {Q : α → sProp 𝕄} :
    iprop(StageFlight sc c s p ∗ (∃ W, owes (c : Thread nD τ) 0 W)) ⊢ (iprop((iprop(StageReady sc c s p ∗ (∃ W, owes (c : Thread nD τ) 0 W)) -∗ wp frame (wpE (defs₀ (F := F)) 𝒱 (c : Thread nD τ) none) Set.univ (k ⟨⟩) Q)
      -∗ wp frame (wpE (defs₀ (F := F)) 𝒱 (c : Thread nD τ) none) Set.univ
        (.op (.waitDma2 (((cc0_scratch5 : DmaSems sig S3).slice (Rect.unit (s := S3) offs S1.size inbs)).squeeze S_ hqs).sem srcw
          (((Memref.whole cc0_scratch1).slice (Rect.unit (s := S3x4x16x3840) off' S1x4x16x3840.size inb') hr').squeeze S4x16x3840 hq')
          hsrc hdst) k) Q) : sProp 𝕄) := by
  have hcell := stageCell_eq s offs hos inbs hqs
  rw [hcell]
  have hN : (((Memref.whole cc0_scratch1).slice (Rect.unit (s := S3x4x16x3840) off' S1x4x16x3840.size inb') hr').squeeze S4x16x3840 hq').view.dmaCredit
      = NStage := rfl
  have hu : 0 + NStage = NStage * 1 := by omega
  unfold StageFlight StageReady
  iintro ⟨⟨HB, Hrest⟩, ⟨%W, HW⟩⟩ Hk
  iapply (wp_waitBatchLast EC 𝒱 (c : Thread nD τ) none
    (dstw := (((Memref.whole cc0_scratch1).slice (Rect.unit (s := S3x4x16x3840) off' S1x4x16x3840.size inb') hr').squeeze S4x16x3840 hq'))
    (D := stD sc c s.val p) (u := 0) () hN NStage_pos hu (W := W)) $$ [HB HW]
  · isplitl [HB]; · iexact HB
    iexact HW
  iintro ⟨HD, Hq, HW⟩
  iapply Hk
  isplitr [HW]
  · isplitl [Hq]; · iexact Hq
    ihave HD := (Entails.of_eq (stD_one sc c s.val p)) $$ HD
    icases HD with ⟨Hf, Hs⟩
    isplitl [Hf]; · iexact Hf
    iapply (Entails.of_eq (src_split sc c p (qS s.val)).symm)
    isplitl [Hs]; · iexact Hs
    iexact Hrest
  iexists _; iexact HW

/-- The packing of piece `p`, landed. -/
theorem stage_loop (s : Fin 3) (p : Fin 18) (hs : s.val = p.val % 3) {l : Scf.Loop 32} (hl : l.trips = 30) {hok : l.OK}
    {body : Fin l.trips → Unit → Prog (TpuEff nD τ sig (Elt F) Λ₀ .tc) Unit}
    (hbody : ∀ k : Fin l.trips, (StTab sc c p.val k.val 0 : sProp 𝕄) ⊢ wp frame (wpE (defs₀ (F := F)) 𝒱 (c : Thread nD τ) none) Set.univ (body k ⟨⟩)
      (fun _ => StTab sc c p.val (k.val + 1) 0))
    {kk : Unit → Prog (TpuEff nD τ sig (Elt F) Λ₀ .tc) α} {Q : α → sProp 𝕄} :
    iprop(StageReady sc c s p.val ∗ TabAt sc c p.val) ⊢ (iprop((iprop(StageIdle sc c s ∗ TabAt sc c (p.val + 1)) -∗ wp frame (wpE (defs₀ (F := F)) 𝒱 (c : Thread nD τ) none) Set.univ (kk ⟨⟩) Q)
      -∗ wp frame (wpE (defs₀ (F := F)) 𝒱 (c : Thread nD τ) none) Set.univ (Scf.Loop.for l hok ⟨⟩ body >>= kk) Q) : sProp 𝕄) := by
  unfold StageReady StageIdle TabAt
  rw [hs]
  iintro ⟨⟨Hq, Hf, H4, H5⟩, ⟨%f, %hf, Ht⟩⟩ Hk
  iapply (Scf.wp_for_bind frame (wpE (defs₀ (F := F)) 𝒱 (c : Thread nD τ) none) Set.univ l.lb l.ub l.st hok ⟨⟩ body
    (fun k _ => (StTab sc c p.val k 0 : sProp 𝕄)) (fun k _ => hbody k)) $$ [Hf Ht]
  · unfold StTab
    isplitl [Hf]; · iexact Hf
    iexists f
    isplitr
    · ipureintro; exact hf
    · iexact Ht
  iintro %acc H
  rw [show Scf.trips l.lb l.ub l.st = 30 from hl]
  unfold StTab
  icases H with ⟨Hf, ⟨%f', %hf', Ht⟩⟩
  iapply Hk
  isplitr [Ht]
  · isplitl [Hq]; · iexact Hq
    isplitl [Hf]
    · iexists _; iexact Hf
    isplitl [H4]; · iexact H4
    iexact H5
  iexists f'
  isplitr
  · ipureintro; exact tabOk_piece sc hf'
  · iexact Ht

/-- The chunk of zeros, filled head by head. -/
def ZeroTo (n : ℕ) : sProp 𝕄 := iprop(∃ f, ⌜∀ x : S36x128x128.Idx, (x 0).val < n → f x = zeroB (F := F) x⌝ ∗ (L c cc0_scratch4 ↦{fullShare} f))

theorem zero_end : (ZeroTo (F := F) c 36 : sProp 𝕄) ⊢ (L c cc0_scratch4 ↦{fullShare} zeroB (F := F)) := by
  unfold ZeroTo
  iintro ⟨%f, %hf, H⟩
  have e : f = zeroB (F := F) := funext fun x => hf x (x 0).isLt
  rw [e]
  iexact H

theorem zero_step (n : ℕ) {off : Fin 3 → ℕ} {inb} (ho : off = ![n, 0, 0]) {hl hx hm} {kk : PUnit → Prog (TpuEff nD τ sig (Elt F) Λ₀ .tc) α} {Q : α → sProp 𝕄} :
    ZeroTo (F := F) c n ⊢ (iprop((ZeroTo (F := F) c (n + 1) -∗ wp frame (wpE (defs₀ (F := F)) 𝒱 (c : Thread nD τ) none) Set.univ (kk ⟨⟩) Q)
      -∗ wp frame (wpE (defs₀ (F := F)) 𝒱 (c : Thread nD τ) none) Set.univ
        (.op (.load (Memref.whole cc0_scratch4) (Rect.unit (s := S36x128x128) off S1x128x128.size inb).toLoadRect hl) fun _ =>
          .op (.store (Memref.whole cc0_scratch4) (Rect.unit (s := S36x128x128) off S1x128x128.size inb) (k0_pay212 (F := F)) Finset.univ hx hm) kk) Q) : sProp 𝕄) := by
  subst ho
  unfold ZeroTo
  iintro ⟨%f, %hf, H⟩ Hk
  iapply (wp_load_rect 𝒱 (c : Thread nD τ) none Set.univ (m := Memref.whole cc0_scratch4)
    (r := Rect.unit (s := S36x128x128) ![n, 0, 0] S1x128x128.size inb) (f := f) (Finset.subset_univ _)) $$ H
  iintro H
  iapply (wp_store 𝒱 (c : Thread nD τ) none Set.univ (m := Memref.whole cc0_scratch4)
    (r := Rect.unit (s := S36x128x128) ![n, 0, 0] S1x128x128.size inb) (Mk := Finset.univ) (f := f) (Finset.subset_univ _)) $$ H
  iintro H
  iapply Hk
  iexists (((Memref.whole cc0_scratch4).access (Rect.unit (s := S36x128x128) ![n, 0, 0] S1x128x128.size inb)).write (Elt F) f (k0_pay212 (F := F)) Finset.univ)
  isplitr
  · ipureintro
    intro x hx
    rcases write_cases (Val := Elt F) (b := cc0_scratch4) (Rect.unit (s := S36x128x128) ![n, 0, 0] S1x128x128.size inb) f (k0_pay212 (F := F)) x with ⟨y, hy, e⟩ | ⟨hn, e⟩
    · refine Eq.trans e ?_
      obtain ⟨y0, a, b, rfl⟩ : ∃ (y0 : Fin 1) (a b : Fin 128), y = ix3 y0 a b := ⟨y 0, y 1, y 2, eq_ix3 y⟩
      obtain rfl := Subsingleton.elim y0 0
      unfold zeroB
      congr 1
      have h1 : (x 1) = a := Fin.ext (by rw [hy]; show 0 + 1 * a.val = a.val; omega)
      have h2 : (x 2) = b := Fin.ext (by rw [hy]; show 0 + 1 * b.val = b.val; omega)
      rw [h1, h2]
    · refine Eq.trans e (hf x ?_)
      have hn' : ¬ (x 0).val = n := by
        intro h
        apply hn
        refine Rect.mem_set_unit.mpr fun q => ?_
        have h3 : (x 1).val < 128 := (x 1).isLt
        have h4 : (x 2).val < 128 := (x 2).isLt
        match q with
        | 0 => change n ≤ (x 0).val ∧ (x 0).val < n + 1; omega
        | 1 => change 0 ≤ (x 1).val ∧ (x 1).val < 0 + 128; omega
        | 2 => change 0 ≤ (x 2).val ∧ (x 2).val < 0 + 128; omega
      omega
  · iexact H

end Steps

theorem zero_trip (𝒱 : Variants) (a0 : Memref sig .tc .smem S6x512 .i32) (h0 : a0.IsWhole) (a1 : Memref sig .tc .smem S6 .i32) (h1 : a1.IsWhole) (k : Fin k0_t1_loop.trips) :
    (ZeroTo (F := F) c k.val : sProp 𝕄) ⊢ wp frame (wpE (defs₀ (F := F)) 𝒱 (c : Thread nD τ) none) Set.univ (atBufs (k0_t1_body (F := F)) a0 h0 a1 h1 k ⟨⟩)
      (fun _ => ZeroTo (F := F) c (k.val + 1)) := by
  simp only [atBufs, k0_t1_body, Prog.lift, Prog.bind_op, Prog.bind_ret, Prog.bind_assoc, Prog.pure_eq_ret]
  iintro H
  iapply (zero_step c 𝒱 k.val (by revert k; decide +kernel)) $$ H
  iintro H
  rw [wp_ret]
  imodintro
  iexact H

theorem zero_loop (𝒱 : Variants) {α : Type} {l : Scf.Loop 32} (hl : l.trips = 36) {hok : l.OK}
    {body : Fin l.trips → Unit → Prog (TpuEff nD τ sig (Elt F) Λ₀ .tc) Unit}
    (hbody : ∀ k : Fin l.trips, (ZeroTo (F := F) c k.val : sProp 𝕄) ⊢ wp frame (wpE (defs₀ (F := F)) 𝒱 (c : Thread nD τ) none) Set.univ (body k ⟨⟩)
      (fun _ => ZeroTo (F := F) c (k.val + 1)))
    {kk : Unit → Prog (TpuEff nD τ sig (Elt F) Λ₀ .tc) α} {Q : α → sProp 𝕄} :
    (iprop(∃ f, L c cc0_scratch4 ↦{fullShare} f) : sProp 𝕄) ⊢ (iprop(((L c cc0_scratch4 ↦{fullShare} zeroB (F := F)) -∗ wp frame (wpE (defs₀ (F := F)) 𝒱 (c : Thread nD τ) none) Set.univ (kk ⟨⟩) Q)
      -∗ wp frame (wpE (defs₀ (F := F)) 𝒱 (c : Thread nD τ) none) Set.univ (Scf.Loop.for l hok ⟨⟩ body >>= kk) Q) : sProp 𝕄) := by
  iintro ⟨%f, H⟩ Hk
  iapply (Scf.wp_for_bind frame (wpE (defs₀ (F := F)) 𝒱 (c : Thread nD τ) none) Set.univ l.lb l.ub l.st hok ⟨⟩ body
    (fun k _ => (ZeroTo (F := F) c k : sProp 𝕄)) (fun k _ => hbody k)) $$ [H]
  · unfold ZeroTo
    iexists f
    isplitr
    · ipureintro; intro x hx; omega
    · iexact H
  iintro %acc H
  rw [show Scf.trips l.lb l.ub l.st = 36 from hl]
  iapply Hk
  iapply (zero_end c) $$ H

end Cert.Kernel
-- ==== Proof.Rounds.lean ====
/- A round of the staging ring. -/
module

public import proofs.«01_k».proof.Proof.Staging

@[expose] public section

set_option maxRecDepth 16384

noncomputable section

namespace Cert.Kernel

open Idealize.ShloMosaic Idealize.ShloMosaic.ValueIdx Idealize.ShloMosaic.TcCoe Idealize.ShloMosaic.Tactic Cert.Kernel.Gen
open Idealize.SL Idealize.SL.RA Idealize.SL.BI Idealize.SL.Sem
open scoped Idealize.SL.BI
open Idealize.SL.BI.BIBase Idealize.SL.BI.Laws Idealize.SL.ProofMode
open Idealize.ShloMosaic.Transfers

variable {F : FTy → Type} [BitOps F]

local notation "𝕄" => MT nD τ sig Unit (Elt F) ℕ (Pipeline.UD sig nD τ) ℕ

variable (pt : S6x512.Idx → BitVec 32) (ln : S6.Idx → BitVec 32)
  (pool : Fin 2 → S3840x576x128.Idx → Elt F .fp8e4m3) (sc : Fin 2 → S36x16x3840.Idx → Elt F .f32) (c : Dev nD)

variable (𝒱 : Variants) (a0 : Memref sig .tc .smem S6x512 .i32) (h0 : a0.IsWhole) (a1 : Memref sig .tc .smem S6 .i32) (h1 : a1.IsWhole)

variable {α : Type}

/-- The slot of the staging ring a piece is brought to. -/
def sl3 (p : ℕ) : Fin 3 := ⟨p % 3, Nat.mod_lt _ (by decide)⟩
theorem sl3_add (p : ℕ) : sl3 (p + 3) = sl3 p := Fin.ext (by show (p + 3) % 3 = p % 3; omega)

def Sg (p : ℕ) : sProp 𝕄 := if p < 18 then StageFlight sc c (sl3 p) p else StageIdle sc c (sl3 p)
/-- The staging ring as the packing comes to piece `p`; and once it has packed it. -/
def Pipe (p : ℕ) : sProp 𝕄 :=
  iprop(Sg sc c p ∗ Sg sc c (p + 1) ∗ Sg sc c (p + 2) ∗ TabAt sc c p ∗ ∃ W, owes (c : Thread nD τ) 0 W)
def Pipe' (p : ℕ) : sProp 𝕄 :=
  iprop(StageIdle sc c (sl3 p) ∗ Sg sc c (p + 1) ∗ Sg sc c (p + 2) ∗ TabAt sc c (p + 1) ∗ ∃ W, owes (c : Thread nD τ) 0 W)

theorem round_wait (p : Fin 18) {l : Scf.Loop 32} (hl : l.trips = 30) {hok : l.OK}
    {body : Fin l.trips → Unit → Prog (TpuEff nD τ sig (Elt F) Λ₀ .tc) Unit}
    (hbody : ∀ k : Fin l.trips, (StTab sc c p.val k.val 0 : sProp 𝕄) ⊢ wp frame (wpE (defs₀ (F := F)) 𝒱 (c : Thread nD τ) none) Set.univ (body k ⟨⟩) (fun _ => StTab sc c p.val (k.val + 1) 0))
    {off' : Fin 4 → ℕ} {offs : Fin 1 → ℕ} {inb' inbs hr' hq' hqs}
    (hos : offs = ![p.val % 3]) {srcw : Memref sig .tc .hbm S4x16x3840 .f32} {hsrc hdst} {R : sProp 𝕄}
    {kk : Unit → Prog (TpuEff nD τ sig (Elt F) Λ₀ .tc) α} {Q : α → sProp 𝕄}
    (hK : iprop(Pipe' sc c p.val ∗ R) ⊢ wp frame (wpE (defs₀ (F := F)) 𝒱 (c : Thread nD τ) none) Set.univ (kk ⟨⟩) Q) :
    iprop(Pipe sc c p.val ∗ R) ⊢ wp frame (wpE (defs₀ (F := F)) 𝒱 (c : Thread nD τ) none) Set.univ (.op (.waitDma2 (((cc0_scratch5 : DmaSems sig S3).slice (Rect.unit (s := S3) offs S1.size inbs)).squeeze S_ hqs).sem srcw
          (((Memref.whole cc0_scratch1).slice (Rect.unit (s := S3x4x16x3840) off' S1x4x16x3840.size inb') hr').squeeze S4x16x3840 hq')
          hsrc hdst) fun _ => Scf.Loop.for l hok ⟨⟩ body >>= kk) Q := by
  unfold Pipe
  rw [show Sg sc c p.val = StageFlight sc c (sl3 p.val) p.val from if_pos p.isLt]
  iintro ⟨⟨H0, H1, H2, HT, HW⟩, HR⟩
  icombine H0 HW as H0
  iapply (stage_wait sc c 𝒱 (sl3 p.val) p.val hos) $$ H0
  iintro ⟨H0, HW⟩
  icombine H0 HT as H0
  iapply (stage_loop sc c 𝒱 (sl3 p.val) p rfl hl hbody) $$ H0
  iintro ⟨H0, HT⟩
  iapply hK
  unfold Pipe'
  isplitr [HR]
  · isplitl [H0]; · iexact H0
    isplitl [H1]; · iexact H1
    isplitl [H2]; · iexact H2
    isplitl [HT]; · iexact HT
    iexact HW
  · iexact HR

theorem pipe_next (p : ℕ) : (iprop(Sg sc c (p + 1) ∗ Sg sc c (p + 2) ∗ TabAt sc c (p + 1) ∗ (∃ W, owes (c : Thread nD τ) 0 W) ∗ Sg sc c (p + 3)) : sProp 𝕄) ⊢ Pipe sc c (p + 1) := by
  unfold Pipe
  iintro ⟨H1, H2, HT, HW, H3⟩
  isplitl [H1]; · iexact H1
  isplitl [H2]; · iexact H2
  isplitl [H3]; · iexact H3
  isplitl [HT]; · iexact HT
  iexact HW

theorem round_start0 (p : ℕ) (hp : p + 3 < 9) {off : Fin 3 → ℕ} {off' : Fin 4 → ℕ} {offs : Fin 1 → ℕ} {inb inb' inbs hr hr' hq' hqs}
    (ho : off = ![4 * (p + 3), 0, 0]) (ho' : off' = ![p % 3, 0, 0, 0]) (hos : offs = ![p % 3]) {R : sProp 𝕄}
    {hsrc hdst hsem} {k : PUnit → Prog (TpuEff nD τ sig (Elt F) Λ₀ .tc) α} {Q : α → sProp 𝕄}
    (hK : iprop(Pipe sc c (p + 1) ∗ R) ⊢ wp frame (wpE (defs₀ (F := F)) 𝒱 (c : Thread nD τ) none) Set.univ (k ⟨⟩) Q) :
    iprop(Pipe' sc c p ∗ R) ⊢ wp frame (wpE (defs₀ (F := F)) 𝒱 (c : Thread nD τ) none) Set.univ
        (.op (.enqueueDma ((Memref.whole main_v4).slice (Rect.unit (s := S36x16x3840) off S4x16x3840.size inb) hr)
          (.here (((Memref.whole cc0_scratch1).slice (Rect.unit (s := S3x4x16x3840) off' S1x4x16x3840.size inb') hr').squeeze S4x16x3840 hq'))
          (.dma (((cc0_scratch5 : DmaSems sig S3).slice (Rect.unit (s := S3) offs S1.size inbs)).squeeze S_ hqs).sem) hsrc hdst hsem) k) Q := by
  unfold Pipe'
  iintro ⟨⟨H0, H1, H2, HT, HW⟩, HR⟩
  iapply (stage_start0 sc c 𝒱 (sl3 p) (p + 3) hp ho ho' hos) $$ H0
  iintro H0
  iapply hK
  isplitr [HR]
  · iapply (pipe_next sc c p)
    isplitl [H1]; · iexact H1
    isplitl [H2]; · iexact H2
    isplitl [HT]; · iexact HT
    isplitl [HW]; · iexact HW
    rw [show Sg sc c (p + 3) = StageFlight sc c (sl3 p) (p + 3) from by unfold Sg; rw [if_pos (by omega), sl3_add]]
    iexact H0
  · iexact HR

theorem round_start1 (p : ℕ) (hp : 9 ≤ p + 3 ∧ p + 3 < 18) {off : Fin 3 → ℕ} {off' : Fin 4 → ℕ} {offs : Fin 1 → ℕ} {inb inb' inbs hr hr' hq' hqs}
    (ho : off = ![4 * (p + 3 - 9), 0, 0]) (ho' : off' = ![p % 3, 0, 0, 0]) (hos : offs = ![p % 3]) {R : sProp 𝕄}
    {hsrc hdst hsem} {k : PUnit → Prog (TpuEff nD τ sig (Elt F) Λ₀ .tc) α} {Q : α → sProp 𝕄}
    (hK : iprop(Pipe sc c (p + 1) ∗ R) ⊢ wp frame (wpE (defs₀ (F := F)) 𝒱 (c : Thread nD τ) none) Set.univ (k ⟨⟩) Q) :
    iprop(Pipe' sc c p ∗ R) ⊢ wp frame (wpE (defs₀ (F := F)) 𝒱 (c : Thread nD τ) none) Set.univ
        (.op (.enqueueDma ((Memref.whole main_v5).slice (Rect.unit (s := S36x16x3840) off S4x16x3840.size inb) hr)
          (.here (((Memref.whole cc0_scratch1).slice (Rect.unit (s := S3x4x16x3840) off' S1x4x16x3840.size inb') hr').squeeze S4x16x3840 hq'))
          (.dma (((cc0_scratch5 : DmaSems sig S3).slice (Rect.unit (s := S3) offs S1.size inbs)).squeeze S_ hqs).sem) hsrc hdst hsem) k) Q := by
  unfold Pipe'
  iintro ⟨⟨H0, H1, H2, HT, HW⟩, HR⟩
  iapply (stage_start1 sc c 𝒱 (sl3 p) (p + 3) hp ho ho' hos) $$ H0
  iintro H0
  iapply hK
  isplitr [HR]
  · iapply (pipe_next sc c p)
    isplitl [H1]; · iexact H1
    isplitl [H2]; · iexact H2
    isplitl [HT]; · iexact HT
    isplitl [HW]; · iexact HW
    rw [show Sg sc c (p + 3) = StageFlight sc c (sl3 p) (p + 3) from by unfold Sg; rw [if_pos (by omega), sl3_add]]
    iexact H0
  · iexact HR

theorem round_idle (p : ℕ) (hp : 15 ≤ p) {R : sProp 𝕄} {P : sProp 𝕄} (hK : iprop(Pipe sc c (p + 1) ∗ R) ⊢ P) : iprop(Pipe' sc c p ∗ R) ⊢ P := by
  refine .trans (show BIBase.Entails (PROP := sProp 𝕄) _ iprop(Pipe sc c (p + 1) ∗ R) from ?_) hK
  unfold Pipe'
  iintro ⟨⟨H0, H1, H2, HT, HW⟩, HR⟩
  isplitr [HR]
  rotate_left
  · iexact HR
  iapply (pipe_next sc c p)
  isplitl [H1]; · iexact H1
  isplitl [H2]; · iexact H2
  isplitl [HT]; · iexact HT
  isplitl [HW]; · iexact HW
  rw [show Sg sc c (p + 3) = StageIdle sc c (sl3 p) from by unfold Sg; rw [if_neg (by omega), sl3_add]]
  iexact H0

end Cert.Kernel
-- ==== Proof.Prologue.lean ====
/- What the kernel starts before its loops. -/
module

public import proofs.«01_k».proof.Proof.Loop
public import proofs.«01_k».proof.Proof.Rounds

@[expose] public section

set_option maxRecDepth 16384

noncomputable section

namespace Cert.Kernel

open Idealize.ShloMosaic Idealize.ShloMosaic.ValueIdx Idealize.ShloMosaic.TcCoe Idealize.ShloMosaic.Tactic Cert.Kernel.Gen
open Idealize.SL Idealize.SL.RA Idealize.SL.BI Idealize.SL.Sem
open scoped Idealize.SL.BI
open Idealize.SL.BI.BIBase Idealize.SL.BI.Laws Idealize.SL.ProofMode
open Idealize.ShloMosaic.Transfers

variable {F : FTy → Type} [BitOps F]

local notation "𝕄" => MT nD τ sig Unit (Elt F) ℕ (Pipeline.UD sig nD τ) ℕ

variable (pt : S6x512.Idx → BitVec 32) (ln : S6.Idx → BitVec 32)
  (pool : Fin 2 → S3840x576x128.Idx → Elt F .fp8e4m3) (sc : Fin 2 → S36x16x3840.Idx → Elt F .f32) (c : Dev nD)

variable (𝒱 : Variants) (a0 : Memref sig .tc .smem S6x512 .i32) (h0 : a0.IsWhole) (a1 : Memref sig .tc .smem S6 .i32) (h1 : a1.IsWhole)

def PreF (n : ℕ) (s : Fin 4) : sProp 𝕄 := if s.val < n then InSl pt ln pool c s s.val else InIdle pool c s

/-- The state before the fetch of item `n`, `n ≤ 4`. -/
def PreSt (a0 : Memref sig .tc .smem S6x512 .i32) (a1 : Memref sig .tc .smem S6 .i32) (n : ℕ) : sProp 𝕄 :=
  iprop(owns (Val := Elt F) (c : Thread nD τ) a0 fullShare pt ∗ owns (Val := Elt F) (c : Thread nD τ) a1 fullShare ln ∗ bigSep Finset.univ (PreF pt ln pool c n))

theorem pre_eq (s : Fin 4) : bigSep Finset.univ (PreF pt ln pool c s.val)
    = iprop(InIdle pool c s ∗ bigSep (Finset.univ.erase s) (PreF pt ln pool c s.val)) := by
  rw [BI.bigSep_erase (Finset.mem_univ s)]
  show iprop(PreF pt ln pool c s.val s ∗ _) = _
  rw [show PreF pt ln pool c s.val s = InIdle pool c s from if_neg (lt_irrefl _)]

theorem pre_eq' (s : Fin 4) : bigSep Finset.univ (PreF pt ln pool c (s.val + 1))
    = iprop(InSl pt ln pool c s s.val ∗ bigSep (Finset.univ.erase s) (PreF pt ln pool c s.val)) := by
  rw [BI.bigSep_erase (Finset.mem_univ s)]
  rw [BI.bigSep_congr (s := Finset.univ.erase s) (Ψ := PreF pt ln pool c s.val) fun t ht => by
    have h : t.val ≠ s.val := fun e => Finset.ne_of_mem_erase ht (Fin.ext e)
    unfold PreF
    by_cases h' : t.val < s.val
    · rw [if_pos h', if_pos (by omega)]
    · rw [if_neg h', if_neg (by omega)]]
  show iprop(PreF pt ln pool c (s.val + 1) s ∗ _) = _
  rw [show PreF pt ln pool c (s.val + 1) s = InSl pt ln pool c s s.val from if_pos (Nat.lt_succ_self _)]

/-- One of the four first fetches. -/
theorem first_fetch (s : Fin 4) {α : Type} {off : Fin 1 → ℕ} {inb} {hl} (ho : off = ![0]) {b : (S1.Idx → BitVec 32) → Prop} {dec : ∀ x, Decidable (b x)}
    {A : ∀ x, b x → Prog (TpuEff nD τ sig (Elt F) Λ₀ .tc) α} {T : (S1.Idx → BitVec 32) → Prog (TpuEff nD τ sig (Elt F) Λ₀ .tc) α} {Q : α → sProp 𝕄} {R : sProp 𝕄}
    (hb : b (fun _ => lword ln 0) ↔ validItem ln s.val)
    (hA : ∀ h : b (fun _ => lword ln 0), ∀ R' : sProp 𝕄, (iprop(owns (Val := Elt F) (c : Thread nD τ) a0 fullShare pt ∗ InSt pt pool c s s.val 8 ∗ R') ⊢ wp frame (wpE (defs₀ (F := F)) 𝒱 (c : Thread nD τ) none) Set.univ (T fun _ => lword ln 0) Q)
      → iprop(owns (Val := Elt F) (c : Thread nD τ) a0 fullShare pt ∗ InSt pt pool c s s.val 0 ∗ R') ⊢ wp frame (wpE (defs₀ (F := F)) 𝒱 (c : Thread nD τ) none) Set.univ (A (fun _ => lword ln 0) h) Q)
    (hT : iprop(PreSt pt ln pool c a0 a1 (s.val + 1) ∗ R) ⊢ wp frame (wpE (defs₀ (F := F)) 𝒱 (c : Thread nD τ) none) Set.univ (T fun _ => lword ln 0) Q) :
    iprop(PreSt pt ln pool c a0 a1 s.val ∗ R) ⊢ wp frame (wpE (defs₀ (F := F)) 𝒱 (c : Thread nD τ) none) Set.univ
      (.op (.load a1 (Rect.unit (s := S6) off S1.size inb).toLoadRect hl) fun (x : S1.Idx → BitVec 32) => if h : b x then A x h else T x) Q := by
  unfold PreSt
  unfold PreSt at hT
  rw [pre_eq]
  rw [pre_eq'] at hT
  have hs := s.isLt
  iintro ⟨⟨HP, HL, HI, HS⟩, HR⟩
  iapply (smem1 ln c 𝒱 a1 0 (by decide) ho) $$ HL
  iintro HL
  icombine HL HS as H
  icombine H HR as H
  istop
  by_cases h : b (fun _ => lword ln 0)
  · rw [dif_pos h]
    have hv := hb.mp h
    have hA' := hA h iprop((owns (Val := Elt F) (c : Thread nD τ) a1 fullShare ln ∗ bigSep (Finset.univ.erase s) (PreF pt ln pool c s.val)) ∗ R) (by
      refine .trans ?_ hT
      refine show BIBase.Entails (PROP := sProp 𝕄) _ _ from ?_
      iintro ⟨HP, HI, ⟨HL, HS⟩, HR⟩
      isplitr [HR]
      · isplitl [HP]; · iexact HP
        isplitl [HL]; · iexact HL
        isplitl [HI]
        · rw [show InSl pt ln pool c s s.val = InFlight pt pool c s s.val from if_pos ⟨by omega, hv⟩]
          iapply (fetch_end pt pool c s s.val) $$ HI
        · iexact HS
      · iexact HR)
    iintro ⟨⟨HP, HI⟩, HR⟩
    ihave HI := (fetch_start pt pool c s s.val) $$ HI
    imod HI
    iapply hA'
    isplitl [HP]; · iexact HP
    isplitl [HI]; · iexact HI
    iexact HR
  · rw [dif_neg h]
    have hv : ¬ validItem ln s.val := fun e => h (hb.mpr e)
    refine .trans ?_ hT
    refine show BIBase.Entails (PROP := sProp 𝕄) _ _ from ?_
    iintro ⟨⟨HP, HI⟩, ⟨HL, HS⟩, HR⟩
    isplitr [HR]
    · isplitl [HP]; · iexact HP
      isplitl [HL]; · iexact HL
      isplitl [HI]
      · rw [show InSl pt ln pool c s s.val = InIdle pool c s from if_neg fun e => hv e.2]
        iexact HI
      · iexact HS
    · iexact HR

theorem first_iffs : (k0_cond1 (lword ln 0) = 1#1 ↔ validItem ln 0) ∧ (k0_cond2 (lword ln 0) = 1#1 ↔ validItem ln 1)
    ∧ (k0_cond3 (lword ln 0) = 1#1 ↔ validItem ln 2) ∧ (k0_cond4 (lword ln 0) = 1#1 ↔ validItem ln 3) := by
  have e (n : BitVec 32) : Scalar.cmpi .ne (Scalar.extui (Scalar.cmpi .sgt (lword ln 0) n) : BitVec 32) 0#32 = Scalar.cmpi .sgt (lword ln 0) n := ne_ext _
  have e1 : k0_cond1 (lword ln 0) = Scalar.cmpi .ne (Scalar.extui (Scalar.cmpi .sgt (lword ln 0) 0#32) : BitVec 32) 0#32 := rfl
  have e2 : k0_cond2 (lword ln 0) = Scalar.cmpi .ne (Scalar.extui (Scalar.cmpi .sgt (lword ln 0) 128#32) : BitVec 32) 0#32 := rfl
  have e3 : k0_cond3 (lword ln 0) = Scalar.cmpi .ne (Scalar.extui (Scalar.cmpi .sgt (lword ln 0) 256#32) : BitVec 32) 0#32 := rfl
  have e4 : k0_cond4 (lword ln 0) = Scalar.cmpi .ne (Scalar.extui (Scalar.cmpi .sgt (lword ln 0) 384#32) : BitVec 32) 0#32 := rfl
  rw [e1, e2, e3, e4, e, e, e, e]
  exact ⟨.rfl, .rfl, .rfl, .rfl⟩

/-- The first fetches, and the first two copies of the staging ring. -/
theorem prologue (hpt : ∀ x, (pt x).toNat < 3840) :
    (iprop(PreSt pt ln pool c a0 a1 0 ∗ StageIdle sc c 0 ∗ StageIdle sc c 1) : sProp 𝕄)
      ⊢ wp frame (wpE (defs₀ (F := F)) 𝒱 (c : Thread nD τ) none) Set.univ (atBufs (k0_part98 (F := F)) a0 h0 a1 h1) (fun _ => iprop(PreSt pt ln pool c a0 a1 4 ∗ StageFlight sc c 0 0 ∗ StageFlight sc c 1 1)) := by
  obtain ⟨f1, f2, f3, f4⟩ := first_iffs ln
  simp only [atBufs, k0_part98_eq_skeleton, k0_part98_skel, Prog.lift, smemLoad, smemLoadElt, Prog.bind_op, Prog.bind_ret, Prog.bind_assoc, Prog.pure_eq_ret]
  refine first_fetch pt ln pool c 𝒱 a0 a1 0 (by rfl) (hb := f1) ?_ (first_fetch pt ln pool c 𝒱 a0 a1 1 (by rfl) (hb := f2) ?_
    (first_fetch pt ln pool c 𝒱 a0 a1 2 (by rfl) (hb := f3) ?_ (first_fetch pt ln pool c 𝒱 a0 a1 3 (by rfl) (hb := f4) ?_ ?_)))
  on_goal 5 =>
    refine show BIBase.Entails (PROP := sProp 𝕄) _ _ from ?_
    iintro ⟨HP, H0, H1⟩
    iapply (stage_start0 sc c 𝒱 0 0 (by decide) (by rfl) (by rfl) (by rfl)) $$ H0
    iintro H0
    iapply (stage_start0 sc c 𝒱 1 1 (by decide) (by rfl) (by rfl) (by rfl)) $$ H1
    iintro H1
    rw [wp_ret]
    imodintro
    isplitl [HP]; · iexact HP
    isplitl [H0]; · iexact H0
    iexact H1
  all_goals
    intro h R hK
    first
      | simp only [k0_part1_eq_skeleton, k0_part1_skel, k0_part2_eq_skeleton, k0_part2_skel, k0_part3_eq_skeleton, k0_part3_skel, k0_part4_eq_skeleton, k0_part4_skel, Prog.lift, smemLoad, smemLoadElt, Prog.bind_op, Prog.bind_ret, Prog.bind_assoc, Prog.pure_eq_ret]
      | simp only [k0_part5_eq_skeleton, k0_part5_skel, k0_part6_eq_skeleton, k0_part6_skel, k0_part7_eq_skeleton, k0_part7_skel, k0_part8_eq_skeleton, k0_part8_skel, Prog.lift, smemLoad, smemLoadElt, Prog.bind_op, Prog.bind_ret, Prog.bind_assoc, Prog.pure_eq_ret]
      | simp only [k0_part9_eq_skeleton, k0_part9_skel, k0_part10_eq_skeleton, k0_part10_skel, k0_part11_eq_skeleton, k0_part11_skel, k0_part12_eq_skeleton, k0_part12_skel, Prog.lift, smemLoad, smemLoadElt, Prog.bind_op, Prog.bind_ret, Prog.bind_assoc, Prog.pure_eq_ret]
      | simp only [k0_part13_eq_skeleton, k0_part13_skel, k0_part14_eq_skeleton, k0_part14_skel, k0_part15_eq_skeleton, k0_part15_skel, k0_part16_eq_skeleton, k0_part16_skel, Prog.lift, smemLoad, smemLoadElt, Prog.bind_op, Prog.bind_ret, Prog.bind_assoc, Prog.pure_eq_ret]
    iterate 8
      refine page_load pt pool c 𝒱 a0 (by decide) (by decide) (by rfl) (by apply And.intro <;> intros; exact page_inb _ (hpt _) rfl _; exact page_words _ rfl _) ?_
      refine fetch_pair pt pool c 𝒱 a0 hpt (by decide) (by exact rfl) (by rfl) (by rfl) (by rfl) (by rfl) ?_
    exact hK

end Cert.Kernel
-- ==== Proof.Body.lean ====
/- The kernel's body. -/
module

public import proofs.«01_k».proof.Proof.Prologue

@[expose] public section

set_option maxRecDepth 16384

noncomputable section

namespace Cert.Kernel

open Idealize.ShloMosaic Idealize.ShloMosaic.ValueIdx Idealize.ShloMosaic.TcCoe Idealize.ShloMosaic.Tactic Cert.Kernel.Gen
open Idealize.SL Idealize.SL.RA Idealize.SL.BI Idealize.SL.Sem
open scoped Idealize.SL.BI
open Idealize.SL.BI.BIBase Idealize.SL.BI.Laws Idealize.SL.ProofMode
open Idealize.ShloMosaic.Transfers

variable {F : FTy → Type} [BitOps F]

local notation "𝕄" => MT nD τ sig Unit (Elt F) ℕ (Pipeline.UD sig nD τ) ℕ

variable (pt : S6x512.Idx → BitVec 32) (ln : S6.Idx → BitVec 32)
  (pool : Fin 2 → S3840x576x128.Idx → Elt F .fp8e4m3) (sc : Fin 2 → S36x16x3840.Idx → Elt F .f32) (c : Dev nD)

variable (𝒱 : Variants) (a0 : Memref sig .tc .smem S6x512 .i32) (h0 : a0.IsWhole) (a1 : Memref sig .tc .smem S6 .i32) (h1 : a1.IsWhole)

/-- A slot of the ring of finished items before the zeros are written. -/
def OutPre (s : Fin 4) : sProp 𝕄 :=
  iprop(semVal ((c : Thread nD τ), SemLoc.dma (outCell s)) 0 ∗ (∃ f, L c cc0_scratch3 ↦[outSlot s.val]{fullShare} f))

theorem four_eq (Φ : ℕ → sProp 𝕄) : bigSep (Finset.range 4) Φ = bigSep (Finset.univ : Finset (Fin 4)) (fun s => Φ s.val) := by
  rw [BI.bigSep_eq_bigSepL_of_eq (S := Finset.range 4) [0, 1, 2, 3] (by decide) (by decide),
    BI.bigSep_eq_bigSepL_of_eq (S := (Finset.univ : Finset (Fin 4))) [0, 1, 2, 3] (by decide) (by decide)]
  rfl

theorem fin4_eq (Φ : Fin 4 → sProp 𝕄) : bigSep Finset.univ Φ = iprop(Φ 0 ∗ Φ 1 ∗ Φ 2 ∗ Φ 3) := by
  rw [BI.bigSep_eq_bigSepL_of_eq (S := (Finset.univ : Finset (Fin 4))) [0, 1, 2, 3] (by decide) (by decide)]
  rfl

theorem next_zero (s : Fin 4) : nextItem 0 s = s.val := by
  have := s.isLt
  show 0 + (s.val + 4 - 0 % 4) % 4 = s.val; omega
theorem next_end (s : Fin 4) : nextItem 384 s = 384 + s.val := by
  have := s.isLt
  show 384 + (s.val + 4 - 384 % 4) % 4 = 384 + s.val; omega

theorem zeros_out : iprop((L c cc0_scratch4 ↦{fullShare} zeroB (F := F)) ∗ bigSep Finset.univ (OutPre (F := F) c))
    ⊢ (iprop((L c cc0_scratch4 ↦{shareDrop fullShare 4} zeroB (F := F)) ∗ bigSep Finset.univ (OutIdle (F := F) c)) : sProp 𝕄) := by
  have e : bigSep Finset.univ (OutIdle (F := F) c) = (iprop(bigSep Finset.univ (OutPre (F := F) c) ∗ bigSep Finset.univ (fun s : Fin 4 => (L c cc0_scratch4 ↦{qS s.val} zeroB (F := F) : sProp 𝕄))) : sProp 𝕄) := by
    rw [← BI.bigSep_sep']
    refine BI.bigSep_congr fun s _ => ?_
    unfold OutIdle OutPre
    refine Entails.antisymm ?_ ?_
    · refine show BIBase.Entails (PROP := sProp 𝕄) _ _ from ?_
      iintro ⟨H1, H2, H3⟩
      isplitr [H3]
      · isplitl [H1]; · iexact H1
        iexact H2
      · iexact H3
    · refine show BIBase.Entails (PROP := sProp 𝕄) _ _ from ?_
      iintro ⟨⟨H1, H2⟩, H3⟩
      isplitl [H1]; · iexact H1
      isplitl [H2]; · iexact H2
      iexact H3
  rw [e, ← four_eq (fun s => (L c cc0_scratch4 ↦{qS s} zeroB (F := F) : sProp 𝕄))]
  iintro ⟨Hz, HO⟩
  ihave Hz := (pointsTo_toks_range fullShare 4).1 $$ Hz
  icases Hz with ⟨Hz, Hs⟩
  isplitl [Hz]; · iexact Hz
  isplitl [HO]; · iexact HO
  iexact Hs

theorem slots_start : iprop(bigSep Finset.univ (PreF pt ln pool c 4) ∗ bigSep Finset.univ (OutIdle (F := F) c))
    ⊢ (bigSep Finset.univ (SlotSt pt ln pool sc c 0) : sProp 𝕄) := by
  rw [← BI.bigSep_sep']
  refine Entails.of_eq (BI.bigSep_congr fun s _ => ?_)
  have := s.isLt
  unfold SlotSt OutSl PreF
  rw [next_zero, if_pos s.isLt, if_neg (by omega)]

theorem slots_end : (bigSep Finset.univ (SlotSt pt ln pool sc c 384) : sProp 𝕄)
    = iprop(bigSep Finset.univ (InIdle pool c) ∗ bigSep Finset.univ (fun s : Fin 4 => OutFlight pt ln pool sc c s (380 + s.val))) := by
  rw [← BI.bigSep_sep']
  refine BI.bigSep_congr fun s _ => ?_
  have := s.isLt
  unfold SlotSt OutSl InSl
  rw [next_end, if_neg (by omega), if_pos (by omega), show 384 + s.val - 4 = 380 + s.val from by omega]

theorem tabOk_start (f : S2x36x30x8x128.Idx → BitVec 32) : TabOk sc 0 0 0 f := by
  intro x hx; omega

theorem last_four (Φ : ℕ → sProp 𝕄) : bigSep (Finset.range 384) Φ = iprop(Φ 383 ∗ Φ 382 ∗ Φ 381 ∗ Φ 380 ∗ bigSep (Finset.range 380) Φ) := by
  rw [show Finset.range 384 = insert 383 (insert 382 (insert 381 (insert 380 (Finset.range 380)))) from by
      ext x; simp only [Finset.mem_insert, Finset.mem_range]; omega,
      BI.bigSep_insert (by simp), BI.bigSep_insert (by simp), BI.bigSep_insert (by simp), BI.bigSep_insert (by simp)]
  rfl

def BodyStart (a0 : Memref sig .tc .smem S6x512 .i32) (a1 : Memref sig .tc .smem S6 .i32) : sProp 𝕄 :=
  iprop(owns (Val := Elt F) (c : Thread nD τ) a0 fullShare pt ∗ owns (Val := Elt F) (c : Thread nD τ) a1 fullShare ln ∗ bigSep Finset.univ (InIdle pool c) ∗ StageIdle sc c 0 ∗ StageIdle sc c 1 ∗ StageIdle sc c 2
    ∗ bigSep Finset.univ (OutPre (F := F) c) ∗ (∃ f, L c cc0_scratch4 ↦{fullShare} f) ∗ (∃ f, L c cc0_scratch0 ↦{fullShare} f)
    ∗ bigSep (Finset.Ico 0 384) (fun i => (OutRaw (F := F) c i : sProp 𝕄)) ∗ ∃ W, owes (c : Thread nD τ) 0 W)

def BodyEnd (a0 : Memref sig .tc .smem S6x512 .i32) (a1 : Memref sig .tc .smem S6 .i32) : sProp 𝕄 :=
  iprop(owns (Val := Elt F) (c : Thread nD τ) a0 fullShare pt ∗ owns (Val := Elt F) (c : Thread nD τ) a1 fullShare ln ∗ bigSep Finset.univ (InIdle pool c) ∗ StageIdle sc c 0 ∗ StageIdle sc c 1 ∗ StageIdle sc c 2
    ∗ bigSep Finset.univ (OutIdle (F := F) c) ∗ (L c cc0_scratch4 ↦{shareDrop fullShare 4} zeroB (F := F)) ∗ (L c cc0_scratch0 ↦{fullShare} tabT sc)
    ∗ bigSep (Finset.range 384) (OutDone pt ln pool sc c) ∗ ∃ W, owes (c : Thread nD τ) 0 W)

theorem pre_zero : bigSep Finset.univ (PreF pt ln pool c 0) = bigSep Finset.univ (InIdle pool c) :=
  BI.bigSep_congr fun s _ => if_neg (Nat.not_lt_zero _)

set_option maxHeartbeats 1000000 in
/-- The kernel's body. -/
theorem body_wp (hpt : ∀ x, (pt x).toNat < 3840) :
    (BodyStart pt ln pool sc c a0 a1 : sProp 𝕄) ⊢ wp frame (wpE (defs₀ (F := F)) 𝒱 (c : Thread nD τ) none) Set.univ (atBufs (cc0_paged_dequant (F := F)) a0 h0 a1 h1) (fun _ => BodyEnd pt ln pool sc c a0 a1) := by
  obtain ⟨t0, t1, t2, t3, t4, t5, t6, t7, t8, t9, t10, t11, t12, t13, t14, t15, t16, t17⟩ := trips sc c 𝒱 a0 h0 a1 h1
  unfold BodyStart
  rw [← pre_zero pt ln]
  simp only [atBufs, cc0_paged_dequant_eq_skeleton, cc0_paged_dequant_skel]
  rw [wp_bind]
  refine (show BIBase.Entails (PROP := sProp 𝕄) _ _ from ?_).trans (wp_mono _ _ _
    (Q := fun _ => iprop((PreSt pt ln pool c a0 a1 4 ∗ StageFlight sc c 0 0 ∗ StageFlight sc c 1 1)
      ∗ StageIdle sc c 2 ∗ bigSep Finset.univ (OutPre (F := F) c) ∗ (∃ f, L c cc0_scratch4 ↦{fullShare} f) ∗ (∃ f, L c cc0_scratch0 ↦{fullShare} f)
    ∗ bigSep (Finset.Ico 0 384) (fun i => (OutRaw (F := F) c i : sProp 𝕄)) ∗ ∃ W, owes (c : Thread nD τ) 0 W)) fun _ => ?_)
  · iintro ⟨HP, HL, HI, H0, H1, HR⟩
    iapply (wp_frame_r Idealize.ShloMosaic.frame (wpE (defs₀ (F := F)) 𝒱 (c : Thread nD τ) none) Set.univ)
    isplitr [HR]
    · iapply (prologue pt ln pool sc c 𝒱 a0 h0 a1 h1 hpt)
      isplitr [H0 H1]
      · unfold PreSt
        isplitl [HP]; · iexact HP
        isplitl [HL]; · iexact HL
        iexact HI
      isplitl [H0]; · iexact H0
      iexact H1
    · iexact HR
  simp only [k0_part99_eq_skeleton, k0_part99_skel, k0_part100_eq_skeleton, k0_part100_skel, k0_part101_eq_skeleton, k0_part101_skel, k0_part102_eq_skeleton, k0_part102_skel, k0_part103_eq_skeleton, k0_part103_skel, k0_part104_eq_skeleton, k0_part104_skel, k0_part105_eq_skeleton, k0_part105_skel, k0_part106_eq_skeleton, k0_part106_skel, k0_part107_eq_skeleton, k0_part107_skel, k0_part108_eq_skeleton, k0_part108_skel, k0_part109_eq_skeleton, k0_part109_skel, Prog.lift, smemLoad, smemLoadElt, Prog.bind_op, Prog.bind_ret, Prog.bind_assoc, Prog.pure_eq_ret]
  unfold PreSt
  refine show BIBase.Entails (PROP := sProp 𝕄) _ _ from ?_
  iintro ⟨⟨⟨HP, HL, HI⟩, H0, H1⟩, H2, HO, Hz, ⟨%tab, Ht⟩, Hraw, HW⟩
  iapply (stage_start0 sc c 𝒱 2 2 (by decide) (by rfl) (by rfl) (by rfl)) $$ H2
  iintro H2
  iapply (zero_loop c 𝒱 (by rfl) (fun k => zero_trip c 𝒱 a0 h0 a1 h1 k)) $$ Hz
  iintro Hz
  icombine Hz HO as Hz
  ihave Hz := (zeros_out (F := F) c) $$ Hz
  icases Hz with ⟨Hz, HO⟩
  icombine HI HO as HS
  ihave HS := (slots_start pt ln pool sc c) $$ HS
  icombine HP HL as HR
  icombine HR HS as HR
  icombine HR Hz as HR
  icombine HR Hraw as HR
  iapply (show iprop(Pipe sc c 0 ∗ ((((owns (Val := Elt F) (c : Thread nD τ) a0 fullShare pt ∗ owns (Val := Elt F) (c : Thread nD τ) a1 fullShare ln) ∗ bigSep Finset.univ (SlotSt pt ln pool sc c 0)) ∗ (L c cc0_scratch4 ↦{shareDrop fullShare 4} zeroB (F := F))) ∗ bigSep (Finset.Ico 0 384) (fun i => (OutRaw (F := F) c i : sProp 𝕄)))) ⊢ _ from ?_)
  rotate_left
  · isplitr [HR]
    · unfold Pipe
      isplitl [H0]; · iapply (Entails.of_eq (show StageFlight sc c 0 0 = Sg sc c 0 from (if_pos (by decide)).symm)) $$ H0
      isplitl [H1]; · iapply (Entails.of_eq (show StageFlight sc c 1 1 = Sg sc c 1 from (if_pos (by decide)).symm)) $$ H1
      isplitl [H2]; · iapply (Entails.of_eq (show StageFlight sc c 2 2 = Sg sc c 2 from (if_pos (by decide)).symm)) $$ H2
      isplitl [Ht]
      · unfold TabAt
        iexists tab
        isplitr [Ht]
        · ipureintro; exact tabOk_start sc tab
        · iexact Ht
      · iexact HW
    · iexact HR
  refine round_wait sc c 𝒱 0 (by rfl) (by exact t0) (by rfl) ?_
  refine round_start0 sc c 𝒱 0 (by decide) (by rfl) (by rfl) (by rfl) ?_
  refine round_wait sc c 𝒱 1 (by rfl) (by exact t1) (by rfl) ?_
  refine round_start0 sc c 𝒱 1 (by decide) (by rfl) (by rfl) (by rfl) ?_
  refine round_wait sc c 𝒱 2 (by rfl) (by exact t2) (by rfl) ?_
  refine round_start0 sc c 𝒱 2 (by decide) (by rfl) (by rfl) (by rfl) ?_
  refine round_wait sc c 𝒱 3 (by rfl) (by exact t3) (by rfl) ?_
  refine round_start0 sc c 𝒱 3 (by decide) (by rfl) (by rfl) (by rfl) ?_
  refine round_wait sc c 𝒱 4 (by rfl) (by exact t4) (by rfl) ?_
  refine round_start0 sc c 𝒱 4 (by decide) (by rfl) (by rfl) (by rfl) ?_
  refine round_wait sc c 𝒱 5 (by rfl) (by exact t5) (by rfl) ?_
  refine round_start0 sc c 𝒱 5 (by decide) (by rfl) (by rfl) (by rfl) ?_
  refine round_wait sc c 𝒱 6 (by rfl) (by exact (t6 _ _)) (by rfl) ?_
  refine round_start1 sc c 𝒱 6 (by decide) (by rfl) (by rfl) (by rfl) ?_
  refine round_wait sc c 𝒱 7 (by rfl) (by exact (t7 _ _)) (by rfl) ?_
  refine round_start1 sc c 𝒱 7 (by decide) (by rfl) (by rfl) (by rfl) ?_
  refine round_wait sc c 𝒱 8 (by rfl) (by exact t8) (by rfl) ?_
  refine round_start1 sc c 𝒱 8 (by decide) (by rfl) (by rfl) (by rfl) ?_
  refine round_wait sc c 𝒱 9 (by rfl) (by exact t9) (by rfl) ?_
  refine round_start1 sc c 𝒱 9 (by decide) (by rfl) (by rfl) (by rfl) ?_
  refine round_wait sc c 𝒱 10 (by rfl) (by exact t10) (by rfl) ?_
  refine round_start1 sc c 𝒱 10 (by decide) (by rfl) (by rfl) (by rfl) ?_
  refine round_wait sc c 𝒱 11 (by rfl) (by exact t11) (by rfl) ?_
  refine round_start1 sc c 𝒱 11 (by decide) (by rfl) (by rfl) (by rfl) ?_
  refine round_wait sc c 𝒱 12 (by rfl) (by exact t12) (by rfl) ?_
  refine round_start1 sc c 𝒱 12 (by decide) (by rfl) (by rfl) (by rfl) ?_
  refine round_wait sc c 𝒱 13 (by rfl) (by exact (t13 _ _)) (by rfl) ?_
  refine round_start1 sc c 𝒱 13 (by decide) (by rfl) (by rfl) (by rfl) ?_
  refine round_wait sc c 𝒱 14 (by rfl) (by exact (t14 _ _)) (by rfl) ?_
  refine round_start1 sc c 𝒱 14 (by decide) (by rfl) (by rfl) (by rfl) ?_
  refine round_wait sc c 𝒱 15 (by rfl) (by exact t15) (by rfl) ?_
  refine round_idle sc c 15 (by decide) ?_
  refine round_wait sc c 𝒱 16 (by rfl) (by exact t16) (by rfl) ?_
  refine round_idle sc c 16 (by decide) ?_
  refine round_wait sc c 𝒱 17 (by rfl) (by exact t17) (by rfl) ?_
  refine round_idle sc c 17 (by decide) ?_
  refine .trans (show BIBase.Entails (PROP := sProp 𝕄) _ iprop(Inv pt ln pool sc c a0 a1 0 ∗ (StageIdle sc c 0 ∗ StageIdle sc c 1 ∗ StageIdle sc c 2 ∗ (L c cc0_scratch4 ↦{shareDrop fullShare 4} zeroB (F := F)))) from ?_) (main_loop pt ln pool sc c 𝒱 a0 h0 a1 h1 hpt ?_)
  · rw [show Pipe sc c (17 + 1) = iprop(StageIdle sc c 0 ∗ StageIdle sc c 1 ∗ StageIdle sc c 2 ∗ TabAt sc c 18 ∗ ∃ W, owes (c : Thread nD τ) 0 W) from by
      unfold Pipe Sg; rw [if_neg (by decide), if_neg (by decide), if_neg (by decide)]; rfl]
    unfold Inv Common TabAt
    iintro ⟨⟨H0, H1, H2, ⟨%f, %hf, Ht⟩, HW⟩, ⟨⟨⟨⟨HP, HL⟩, HS⟩, Hz⟩, Hraw⟩⟩
    have e := tabOk_end sc hf
    subst e
    isplitl [HP HL HS Ht HW Hraw]
    · isplitl [HP HL Ht HW]
      · isplitl [HP]; · iexact HP
        isplitl [HL]; · iexact HL
        isplitl [Ht]; · iexact Ht
        iexact HW
      isplitl [HS]; · iexact HS
      isplitl [Hraw]; · iexact Hraw
      rw [show Finset.range (0 - 4) = ∅ from rfl, BI.bigSep_empty]
      iempintro
    · isplitl [H0]; · iexact H0
      isplitl [H1]; · iexact H1
      isplitl [H2]; · iexact H2
      iexact Hz
  · unfold Inv Common
    rw [slots_end, fin4_eq (fun s : Fin 4 => OutFlight pt ln pool sc c s (380 + s.val))]
    refine .trans (show BIBase.Entails (PROP := sProp 𝕄) _ iprop((∃ W, owes (c : Thread nD τ) 0 W) ∗ OutFlight pt ln pool sc c 0 380 ∗ (OutFlight pt ln pool sc c 1 381 ∗ OutFlight pt ln pool sc c 2 382 ∗ OutFlight pt ln pool sc c 3 383
      ∗ (owns (Val := Elt F) (c : Thread nD τ) a0 fullShare pt ∗ owns (Val := Elt F) (c : Thread nD τ) a1 fullShare ln ∗ (L c cc0_scratch0 ↦{fullShare} tabT sc) ∗ bigSep Finset.univ (InIdle pool c) ∗ bigSep (Finset.range 380) (OutDone pt ln pool sc c)
        ∗ StageIdle sc c 0 ∗ StageIdle sc c 1 ∗ StageIdle sc c 2 ∗ (L c cc0_scratch4 ↦{shareDrop fullShare 4} zeroB (F := F))))) from ?_) (drain pt ln pool sc c 𝒱 0 380 (by rfl) (by rfl) rfl rfl ?_)
    · iintro ⟨⟨⟨HP, HL, Ht, HW⟩, ⟨HI, H0, H1, H2, H3⟩, -, HD⟩, HR⟩
      isplitl [HW]; · iexact HW
      isplitl [H0]; · iexact H0
      isplitl [H1]; · iexact H1
      isplitl [H2]; · iexact H2
      isplitl [H3]; · iexact H3
      isplitl [HP]; · iexact HP
      isplitl [HL]; · iexact HL
      isplitl [Ht]; · iexact Ht
      isplitl [HI]; · iexact HI
      isplitl [HD]; · iexact HD
      iexact HR
    refine .trans (show BIBase.Entails (PROP := sProp 𝕄) _ iprop((∃ W, owes (c : Thread nD τ) 0 W) ∗ OutFlight pt ln pool sc c 1 381 ∗ (OutFlight pt ln pool sc c 2 382 ∗ OutFlight pt ln pool sc c 3 383 ∗ (OutIdle c 0 ∗ OutDone pt ln pool sc c 380) ∗ (owns (Val := Elt F) (c : Thread nD τ) a0 fullShare pt ∗ owns (Val := Elt F) (c : Thread nD τ) a1 fullShare ln ∗ (L c cc0_scratch0 ↦{fullShare} tabT sc) ∗ bigSep Finset.univ (InIdle pool c) ∗ bigSep (Finset.range 380) (OutDone pt ln pool sc c) ∗ StageIdle sc c 0 ∗ StageIdle sc c 1 ∗ StageIdle sc c 2 ∗ (L c cc0_scratch4 ↦{shareDrop fullShare 4} zeroB (F := F))))) from ?_) (drain pt ln pool sc c 𝒱 1 381 (by rfl) (by rfl) rfl rfl ?_)
    · iintro ⟨HW, ⟨F1, F2, F3, HR⟩, D0⟩
      isplitl [HW]; · iexact HW
      isplitl [F1]; · iexact F1
      isplitl [F2]; · iexact F2
      isplitl [F3]; · iexact F3
      isplitl [D0]; · iexact D0
      iexact HR
    refine .trans (show BIBase.Entails (PROP := sProp 𝕄) _ iprop((∃ W, owes (c : Thread nD τ) 0 W) ∗ OutFlight pt ln pool sc c 2 382 ∗ (OutFlight pt ln pool sc c 3 383 ∗ (OutIdle c 0 ∗ OutDone pt ln pool sc c 380) ∗ (OutIdle c 1 ∗ OutDone pt ln pool sc c 381) ∗ (owns (Val := Elt F) (c : Thread nD τ) a0 fullShare pt ∗ owns (Val := Elt F) (c : Thread nD τ) a1 fullShare ln ∗ (L c cc0_scratch0 ↦{fullShare} tabT sc) ∗ bigSep Finset.univ (InIdle pool c) ∗ bigSep (Finset.range 380) (OutDone pt ln pool sc c) ∗ StageIdle sc c 0 ∗ StageIdle sc c 1 ∗ StageIdle sc c 2 ∗ (L c cc0_scratch4 ↦{shareDrop fullShare 4} zeroB (F := F))))) from ?_) (drain pt ln pool sc c 𝒱 2 382 (by rfl) (by rfl) rfl rfl ?_)
    · iintro ⟨HW, ⟨F2, F3, D0, HR⟩, D1⟩
      isplitl [HW]; · iexact HW
      isplitl [F2]; · iexact F2
      isplitl [F3]; · iexact F3
      isplitl [D0]; · iexact D0
      isplitl [D1]; · iexact D1
      iexact HR
    refine .trans (show BIBase.Entails (PROP := sProp 𝕄) _ iprop((∃ W, owes (c : Thread nD τ) 0 W) ∗ OutFlight pt ln pool sc c 3 383 ∗ ((OutIdle c 0 ∗ OutDone pt ln pool sc c 380) ∗ (OutIdle c 1 ∗ OutDone pt ln pool sc c 381) ∗ (OutIdle c 2 ∗ OutDone pt ln pool sc c 382) ∗ (owns (Val := Elt F) (c : Thread nD τ) a0 fullShare pt ∗ owns (Val := Elt F) (c : Thread nD τ) a1 fullShare ln ∗ (L c cc0_scratch0 ↦{fullShare} tabT sc) ∗ bigSep Finset.univ (InIdle pool c) ∗ bigSep (Finset.range 380) (OutDone pt ln pool sc c) ∗ StageIdle sc c 0 ∗ StageIdle sc c 1 ∗ StageIdle sc c 2 ∗ (L c cc0_scratch4 ↦{shareDrop fullShare 4} zeroB (F := F))))) from ?_) (drain pt ln pool sc c 𝒱 3 383 (by rfl) (by rfl) rfl rfl ?_)
    · iintro ⟨HW, ⟨F3, D0, D1, HR⟩, D2⟩
      isplitl [HW]; · iexact HW
      isplitl [F3]; · iexact F3
      isplitl [D0]; · iexact D0
      isplitl [D1]; · iexact D1
      isplitl [D2]; · iexact D2
      iexact HR
    refine show BIBase.Entails (PROP := sProp 𝕄) _ _ from ?_
    iintro ⟨HW, ⟨⟨I0, D0⟩, ⟨I1, D1⟩, ⟨I2, D2⟩, HP, HL, Ht, HI, HD, HR0, HR1, HR2, Hz⟩, I3, D3⟩
    rw [wp_ret]
    imodintro
    unfold BodyEnd
    rw [fin4_eq (OutIdle (F := F) c), last_four (OutDone pt ln pool sc c)]
    isplitl [HP]; · iexact HP
    isplitl [HL]; · iexact HL
    isplitl [HI]; · iexact HI
    isplitl [HR0]; · iexact HR0
    isplitl [HR1]; · iexact HR1
    isplitl [HR2]; · iexact HR2
    isplitl [I0 I1 I2 I3]
    · isplitl [I0]; · iexact I0
      isplitl [I1]; · iexact I1
      isplitl [I2]; · iexact I2
      iexact I3
    isplitl [Hz]; · iexact Hz
    isplitl [Ht]; · iexact Ht
    isplitr [HW]
    · isplitl [D3]; · iexact D3
      isplitl [D2]; · iexact D2
      isplitl [D1]; · iexact D1
      isplitl [D0]; · iexact D0
      iexact HD
    · iexact HW

end Cert.Kernel
-- ==== Proof.Setup.lean ====
/- The kernel's buffers before and after. -/
module

public import proofs.«01_k».proof.Proof.Body
public import Idealize.ShloMosaic.Lib.Ring

@[expose] public section

set_option maxRecDepth 16384

noncomputable section

namespace Cert.Kernel

open Idealize.ShloMosaic Idealize.ShloMosaic.ValueIdx Idealize.ShloMosaic.TcCoe Idealize.ShloMosaic.Tactic Cert.Kernel.Gen
open Idealize.SL Idealize.SL.RA Idealize.SL.BI Idealize.SL.Sem
open scoped Idealize.SL.BI
open Idealize.SL.BI.BIBase Idealize.SL.BI.Laws Idealize.SL.ProofMode
open Idealize.ShloMosaic.Transfers

variable {F : FTy → Type} [BitOps F]

local notation "𝕄" => MT nD τ sig Unit (Elt F) ℕ (Pipeline.UD sig nD τ) ℕ

variable (pt : S6x512.Idx → BitVec 32) (ln : S6.Idx → BitVec 32)
  (pool : Fin 2 → S3840x576x128.Idx → Elt F .fp8e4m3) (sc : Fin 2 → S36x16x3840.Idx → Elt F .f32) (c : Dev nD)

variable (𝒱 : Variants) (a0 : Memref sig .tc .smem S6x512 .i32) (h0 : a0.IsWhole) (a1 : Memref sig .tc .smem S6 .i32) (h1 : a1.IsWhole)

/-! ## Whole buffers as rings of slots -/

theorem fin3_eq (Φ : Fin 3 → sProp 𝕄) : bigSep Finset.univ Φ = iprop(Φ 0 ∗ Φ 1 ∗ Φ 2) := by
  rw [BI.bigSep_eq_bigSepL_of_eq (S := (Finset.univ : Finset (Fin 3))) [0, 1, 2] (by decide) (by decide)]
  rfl
theorem three_eq (Φ : ℕ → sProp 𝕄) : bigSep (Finset.range 3) Φ = bigSep (Finset.univ : Finset (Fin 3)) (fun s => Φ s.val) := by
  rw [BI.bigSep_eq_bigSepL_of_eq (S := Finset.range 3) [0, 1, 2] (by decide) (by decide),
    BI.bigSep_eq_bigSepL_of_eq (S := (Finset.univ : Finset (Fin 3))) [0, 1, 2] (by decide) (by decide)]
  rfl

theorem toks4 (b : Ref sig .tc) (f : Buf (Elt F) (L c b)) : (L c b ↦{fullShare} f : sProp 𝕄)
    = iprop((L c b ↦{shareDrop fullShare 4} f) ∗ bigSep Finset.univ (fun s : Fin 4 => (L c b ↦{qS s.val} f : sProp 𝕄))) := by
  have h := pointsTo_toks_range (ℓ := L c b) (S := Finset.univ) (f := f) (Name := ℕ) (Ix := Unit) (U := Pipeline.UD sig nD τ) (Lvl := ℕ) fullShare 4
  rw [← four_eq (fun s => (L c b ↦{qS s} f : sProp 𝕄))]
  exact Entails.antisymm h.1 h.2
theorem toks3 (b : Ref sig .tc) (f : Buf (Elt F) (L c b)) : (L c b ↦{fullShare} f : sProp 𝕄)
    = iprop((L c b ↦{shareDrop fullShare 3} f) ∗ bigSep Finset.univ (fun s : Fin 3 => (L c b ↦{qS s.val} f : sProp 𝕄))) := by
  have h := pointsTo_toks_range (ℓ := L c b) (S := Finset.univ) (f := f) (Name := ℕ) (Ix := Unit) (U := Pipeline.UD sig nD τ) (Lvl := ℕ) fullShare 3
  rw [← three_eq (fun s => (L c b ↦{qS s} f : sProp 𝕄))]
  exact Entails.antisymm h.1 h.2

section Rings
variable {b : Ref sig .tc} {N : ℕ} (I : Fin N → Finset (Idx (L c b))) (hd : ∀ s s', s ≠ s' → Disjoint (I s) (I s')) (hc : Finset.univ.biUnion I = Finset.univ)
include hd hc

theorem ring_split :
    (iprop(∃ f, L c b ↦{fullShare} f) : sProp 𝕄) ⊢ bigSep Finset.univ fun s => iprop(∃ f, L c b ↦[I s]{fullShare} f) := by
  iintro ⟨%f, H⟩
  ihave H := (Entails.of_eq (Idealize.ShloMosaic.Ring.pointsTo_blocks I hd hc f)) $$ H
  have k : BIBase.Entails (PROP := sProp 𝕄) (bigSep Finset.univ fun s => (L c b ↦[I s]{fullShare} f : sProp 𝕄)) (bigSep Finset.univ fun s => iprop(∃ f, L c b ↦[I s]{fullShare} f)) :=
    BI.bigSep_mono (fun s _ => show BIBase.Entails (PROP := sProp 𝕄) (L c b ↦[I s]{fullShare} f) iprop(∃ f, L c b ↦[I s]{fullShare} f) from by
      iintro H; iexists f; iexact H)
  iapply k $$ H

theorem ring_join (f₀ : Buf (Elt F) (L c b)) :
    (bigSep Finset.univ fun s => iprop(∃ f, L c b ↦[I s]{fullShare} f)) ⊢ (iprop(∃ f, L c b ↦{fullShare} f) : sProp 𝕄) :=
  Idealize.ShloMosaic.Ring.pointsTo_blocks_join_exists I hd hc f₀

end Rings

theorem stage_ring : (∀ s s' : Fin 3, s ≠ s' → Disjoint (stageSet s.val) (stageSet s'.val)) ∧ Finset.univ.biUnion (fun s : Fin 3 => stageSet s.val) = Finset.univ := by
  constructor
  · intro s s' h
    rw [Finset.disjoint_left]
    intro x hx hx'
    rw [stageSet, Finset.mem_filter] at hx hx'
    exact h (Fin.ext (hx.2.symm.trans hx'.2))
  · ext x
    simp only [stageSet, Finset.mem_biUnion, Finset.mem_univ, Finset.mem_filter, true_and, iff_true]
    exact ⟨x 0, rfl⟩
theorem in_ring : (∀ s s' : Fin 4, s ≠ s' → Disjoint (inSlot s.val) (inSlot s'.val)) ∧ Finset.univ.biUnion (fun s : Fin 4 => inSlot s.val) = Finset.univ := by
  constructor
  · intro s s' h
    rw [Finset.disjoint_left]
    intro x hx hx'
    rw [inSlot, Finset.mem_filter] at hx hx'
    exact h (Fin.ext (hx.2.symm.trans hx'.2))
  · ext x
    simp only [inSlot, Finset.mem_biUnion, Finset.mem_univ, Finset.mem_filter, true_and, iff_true]
    exact ⟨x 0, rfl⟩
theorem out_ring : (∀ s s' : Fin 4, s ≠ s' → Disjoint (outSlot s.val) (outSlot s'.val)) ∧ Finset.univ.biUnion (fun s : Fin 4 => outSlot s.val) = Finset.univ := by
  constructor
  · intro s s' h
    rw [Finset.disjoint_left]
    intro x hx hx'
    rw [outSlot, Finset.mem_filter] at hx hx'
    exact h (Fin.ext (hx.2.symm.trans hx'.2))
  · ext x
    simp only [outSlot, Finset.mem_biUnion, Finset.mem_univ, Finset.mem_filter, true_and, iff_true]
    exact ⟨x 0, rfl⟩

theorem res_disj : ∀ i ∈ Finset.range 384, ∀ i' ∈ Finset.range 384, i ≠ i' → Disjoint (outBlk i) (outBlk i') := by
  intro i _ i' _ h
  rw [Finset.disjoint_left]
  intro x hx hx'
  rw [outBlk, Finset.mem_filter] at hx hx'
  exact h (by have := hx.2; have := hx'.2; omega)
theorem res_union : (Finset.univ : Finset S6x36x8192x128.Idx) = (Finset.range 384).biUnion outBlk := by
  ext x
  have h0 : (x 0).val < 6 := (x 0).isLt
  have h2 : (x 2).val < 8192 := (x 2).isLt
  simp only [outBlk, Finset.mem_biUnion, Finset.mem_univ, Finset.mem_filter, true_and, true_iff, Finset.mem_range]
  exact ⟨(x 0).val * 64 + (x 2).val / 128, by omega, by omega, by omega⟩

theorem res0_eq (f : S6x36x8192x128.Idx → Elt F .bf16) : (L c main_v6_0 ↦{fullShare} f : sProp 𝕄)
    = bigSep (Finset.range 384) (fun i => (L c main_v6_0 ↦[outBlk i]{fullShare} f : sProp 𝕄)) := by
  show (L c main_v6_0 ↦[Finset.univ]{fullShare} f : sProp 𝕄) = _
  have e : (Finset.univ : Finset (Idx (L c main_v6_0))) = (Finset.range 384).biUnion outBlk := res_union
  exact (congrArg (fun S => (L c main_v6_0 ↦[S]{fullShare} f : sProp 𝕄)) e).trans (pointsTo_biUnion _ _ res_disj)
theorem res1_eq (f : S6x36x8192x128.Idx → Elt F .bf16) : (L c main_v6_1 ↦{fullShare} f : sProp 𝕄)
    = bigSep (Finset.range 384) (fun i => (L c main_v6_1 ↦[outBlk i]{fullShare} f : sProp 𝕄)) := by
  show (L c main_v6_1 ↦[Finset.univ]{fullShare} f : sProp 𝕄) = _
  have e : (Finset.univ : Finset (Idx (L c main_v6_1))) = (Finset.range 384).biUnion outBlk := res_union
  exact (congrArg (fun S => (L c main_v6_1 ↦[S]{fullShare} f : sProp 𝕄)) e).trans (pointsTo_biUnion _ _ res_disj)

theorem raw_of (f g : S6x36x8192x128.Idx → Elt F .bf16) : (iprop((L c main_v6_0 ↦{fullShare} f) ∗ (L c main_v6_1 ↦{fullShare} g)) : sProp 𝕄)
    ⊢ bigSep (Finset.Ico 0 384) (fun i => (OutRaw (F := F) c i : sProp 𝕄)) := by
  rw [res0_eq, res1_eq, ← BI.bigSep_sep', ← Finset.range_eq_Ico]
  refine BI.bigSep_mono fun i _ => ?_
  refine show BIBase.Entails (PROP := sProp 𝕄) _ _ from ?_
  unfold OutRaw
  iintro ⟨H0, H1⟩
  isplitl [H0]
  · iexists f; iexact H0
  · iexists g; iexact H1

theorem done_all : (bigSep (Finset.range 384) (OutDone pt ln pool sc c) : sProp 𝕄)
    = iprop((L c main_v6_0 ↦{fullShare} resT pt ln pool sc 0) ∗ (L c main_v6_1 ↦{fullShare} resT pt ln pool sc 1)) := by
  rw [res0_eq, res1_eq, ← BI.bigSep_sep']
  rfl

/-! ## The three rings -/

theorem in_eq : (bigSep Finset.univ (InIdle pool c) : sProp 𝕄)
    = iprop(bigSep Finset.univ (fun s : Fin 4 => (semVal ((c : Thread nD τ), SemLoc.dma (inCell s)) 0 : sProp 𝕄))
      ∗ bigSep Finset.univ (fun s : Fin 4 => (iprop(∃ f, L c cc0_scratch2 ↦[inSlot s.val]{fullShare} f) : sProp 𝕄))
      ∗ bigSep Finset.univ (fun s : Fin 4 => (L c main_v1 ↦{qS s.val} pool 0 : sProp 𝕄))
      ∗ bigSep Finset.univ (fun s : Fin 4 => (L c main_v3 ↦{qS s.val} pool 1 : sProp 𝕄))) := by
  rw [← BI.bigSep_sep', ← BI.bigSep_sep', ← BI.bigSep_sep']
  rfl

theorem stage_eq : (iprop(StageIdle sc c 0 ∗ StageIdle sc c 1 ∗ StageIdle sc c 2) : sProp 𝕄)
    = iprop(bigSep Finset.univ (fun s : Fin 3 => (semVal ((c : Thread nD τ), SemLoc.dma (stageCell s)) 0 : sProp 𝕄))
      ∗ bigSep Finset.univ (fun s : Fin 3 => (iprop(∃ f, L c cc0_scratch1 ↦[stageSet s.val]{fullShare} f) : sProp 𝕄))
      ∗ bigSep Finset.univ (fun s : Fin 3 => (L c main_v4 ↦{qS s.val} sc 0 : sProp 𝕄))
      ∗ bigSep Finset.univ (fun s : Fin 3 => (L c main_v5 ↦{qS s.val} sc 1 : sProp 𝕄))) := by
  rw [← BI.bigSep_sep', ← BI.bigSep_sep', ← BI.bigSep_sep', ← fin3_eq (StageIdle sc c)]
  rfl

theorem out_eq : (bigSep Finset.univ (OutPre (F := F) c) : sProp 𝕄)
    = iprop(bigSep Finset.univ (fun s : Fin 4 => (semVal ((c : Thread nD τ), SemLoc.dma (outCell s)) 0 : sProp 𝕄))
      ∗ bigSep Finset.univ (fun s : Fin 4 => (iprop(∃ f, L c cc0_scratch3 ↦[outSlot s.val]{fullShare} f) : sProp 𝕄))) := by
  rw [← BI.bigSep_sep']
  rfl

theorem out_eq' : (bigSep Finset.univ (OutIdle (F := F) c) : sProp 𝕄)
    = iprop(bigSep Finset.univ (fun s : Fin 4 => (semVal ((c : Thread nD τ), SemLoc.dma (outCell s)) 0 : sProp 𝕄))
      ∗ bigSep Finset.univ (fun s : Fin 4 => (iprop(∃ f, L c cc0_scratch3 ↦[outSlot s.val]{fullShare} f) : sProp 𝕄))
      ∗ bigSep Finset.univ (fun s : Fin 4 => (L c cc0_scratch4 ↦{qS s.val} zeroB (F := F) : sProp 𝕄))) := by
  rw [← BI.bigSep_sep', ← BI.bigSep_sep']
  rfl

/-! ## The whole -/

/-- The eleven counters of the kernel's own copies, at zero. -/
def Sems : sProp 𝕄 :=
  iprop(bigSep Finset.univ (fun s : Fin 3 => (semVal ((c : Thread nD τ), SemLoc.dma (stageCell s)) 0 : sProp 𝕄))
    ∗ bigSep Finset.univ (fun s : Fin 4 => (semVal ((c : Thread nD τ), SemLoc.dma (inCell s)) 0 : sProp 𝕄))
    ∗ bigSep Finset.univ (fun s : Fin 4 => (semVal ((c : Thread nD τ), SemLoc.dma (outCell s)) 0 : sProp 𝕄)))
def Scratch : sProp 𝕄 :=
  iprop((∃ f, L c cc0_scratch0 ↦{fullShare} f) ∗ (∃ f, L c cc0_scratch1 ↦{fullShare} f) ∗ (∃ f, L c cc0_scratch2 ↦{fullShare} f)
    ∗ (∃ f, L c cc0_scratch3 ↦{fullShare} f) ∗ (∃ f, L c cc0_scratch4 ↦{fullShare} f))
def Ins : sProp 𝕄 :=
  iprop((L c main_v1 ↦{fullShare} pool 0) ∗ (L c main_v3 ↦{fullShare} pool 1) ∗ (L c main_v4 ↦{fullShare} sc 0) ∗ (L c main_v5 ↦{fullShare} sc 1))
/-- What the kernel leaves of the arrays its copies read. -/
def InsRest : sProp 𝕄 :=
  iprop((L c main_v1 ↦{shareDrop fullShare 4} pool 0) ∗ (L c main_v3 ↦{shareDrop fullShare 4} pool 1) ∗ (L c main_v4 ↦{shareDrop fullShare 3} sc 0) ∗ (L c main_v5 ↦{shareDrop fullShare 3} sc 1))

theorem start_of (f g : S6x36x8192x128.Idx → Elt F .bf16) :
    (iprop(Scratch (F := F) c ∗ Sems (F := F) c ∗ Ins pool sc c ∗ ((L c main_v6_0 ↦{fullShare} f) ∗ (L c main_v6_1 ↦{fullShare} g))
      ∗ owns (Val := Elt F) (c : Thread nD τ) a0 fullShare pt ∗ owns (Val := Elt F) (c : Thread nD τ) a1 fullShare ln ∗ ∃ W, owes (c : Thread nD τ) 0 W) : sProp 𝕄)
    ⊢ iprop(BodyStart pt ln pool sc c a0 a1 ∗ InsRest pool sc c) := by
  have e : (BodyStart pt ln pool sc c a0 a1 : sProp 𝕄) ⊣⊢ iprop(owns (Val := Elt F) (c : Thread nD τ) a0 fullShare pt ∗ owns (Val := Elt F) (c : Thread nD τ) a1 fullShare ln ∗ bigSep Finset.univ (InIdle pool c) ∗ (StageIdle sc c 0 ∗ StageIdle sc c 1 ∗ StageIdle sc c 2)
    ∗ bigSep Finset.univ (OutPre (F := F) c) ∗ (∃ f, L c cc0_scratch4 ↦{fullShare} f) ∗ (∃ f, L c cc0_scratch0 ↦{fullShare} f)
    ∗ bigSep (Finset.Ico 0 384) (fun i => (OutRaw (F := F) c i : sProp 𝕄)) ∗ ∃ W, owes (c : Thread nD τ) 0 W) := by
    unfold BodyStart
    constructor
    · iintro ⟨H1, H2, H3, H4, H5, H6, HR⟩
      isplitl [H1]; · iexact H1
      isplitl [H2]; · iexact H2
      isplitl [H3]; · iexact H3
      isplitl [H4 H5 H6]
      · isplitl [H4]; · iexact H4
        isplitl [H5]; · iexact H5
        iexact H6
      iexact HR
    · iintro ⟨H1, H2, H3, ⟨H4, H5, H6⟩, HR⟩
      isplitl [H1]; · iexact H1
      isplitl [H2]; · iexact H2
      isplitl [H3]; · iexact H3
      isplitl [H4]; · iexact H4
      isplitl [H5]; · iexact H5
      isplitl [H6]; · iexact H6
      iexact HR
  rw [Entails.antisymm e.1 e.2, in_eq, stage_eq, out_eq]
  unfold Scratch Sems Ins InsRest
  rw [toks4 c main_v1, toks4 c main_v3, toks3 c main_v4, toks3 c main_v5]
  iintro ⟨⟨Ht, H1, H2, H3, Hz⟩, ⟨S1, S2, S3⟩, ⟨⟨P0, P0'⟩, ⟨P1, P1'⟩, ⟨C0, C0'⟩, ⟨C1, C1'⟩⟩, HO, HP, HL, HW⟩
  ihave H1 := (ring_split (F := F) c (b := cc0_scratch1) (fun s : Fin 3 => stageSet s.val) stage_ring.1 stage_ring.2) $$ H1
  ihave H2 := (ring_split (F := F) c (b := cc0_scratch2) (fun s : Fin 4 => inSlot s.val) in_ring.1 in_ring.2) $$ H2
  ihave H3 := (ring_split (F := F) c (b := cc0_scratch3) (fun s : Fin 4 => outSlot s.val) out_ring.1 out_ring.2) $$ H3
  ihave HO := (raw_of (F := F) c f g) $$ HO
  isplitr [P0 P1 C0 C1]
  · isplitl [HP]; · iexact HP
    isplitl [HL]; · iexact HL
    isplitl [S2 H2 P0' P1']
    · isplitl [S2]; · iexact S2
      isplitl [H2]; · iexact H2
      isplitl [P0']; · iexact P0'
      iexact P1'
    isplitl [S1 H1 C0' C1']
    · isplitl [S1]; · iexact S1
      isplitl [H1]; · iexact H1
      isplitl [C0']; · iexact C0'
      iexact C1'
    isplitl [S3 H3]
    · isplitl [S3]; · iexact S3
      iexact H3
    isplitl [Hz]; · iexact Hz
    isplitl [Ht]; · iexact Ht
    isplitl [HO]; · iexact HO
    iexact HW
  · isplitl [P0]; · iexact P0
    isplitl [P1]; · iexact P1
    isplitl [C0]; · iexact C0
    iexact C1

theorem end_of :
    (iprop(BodyEnd pt ln pool sc c a0 a1 ∗ InsRest pool sc c) : sProp 𝕄)
    ⊢ iprop(Scratch (F := F) c ∗ Sems (F := F) c ∗ Ins pool sc c ∗ ((L c main_v6_0 ↦{fullShare} resT pt ln pool sc 0) ∗ (L c main_v6_1 ↦{fullShare} resT pt ln pool sc 1))
      ∗ owns (Val := Elt F) (c : Thread nD τ) a0 fullShare pt ∗ owns (Val := Elt F) (c : Thread nD τ) a1 fullShare ln ∗ ∃ W, owes (c : Thread nD τ) 0 W) := by
  unfold BodyEnd
  rw [in_eq, out_eq', done_all]
  unfold Scratch Sems Ins InsRest
  rw [toks4 c main_v1, toks4 c main_v3, toks3 c main_v4, toks3 c main_v5]
  iintro ⟨⟨HP, HL, ⟨S2, H2, P0', P1'⟩, T0, T1, T2, ⟨S3, H3, Z'⟩, Z, Ht, HO, HW⟩, ⟨P0, P1, C0, C1⟩⟩
  icombine T1 T2 as T
  icombine T0 T as T
  ihave T := (Entails.of_eq (stage_eq sc c)) $$ T
  icases T with ⟨S1, H1, C0', C1'⟩
  icombine Z Z' as Z
  ihave Z := (Entails.of_eq (toks4 c cc0_scratch4 (zeroB (F := F))).symm) $$ Z
  ihave H1 := (ring_join (F := F) c (b := cc0_scratch1) (fun s : Fin 3 => stageSet s.val) stage_ring.1 stage_ring.2 (stTgt sc 0)) $$ H1
  ihave H2 := (ring_join (F := F) c (b := cc0_scratch2) (fun s : Fin 4 => inSlot s.val) in_ring.1 in_ring.2 (inTgt pt pool 0)) $$ H2
  ihave H3 := (ring_join (F := F) c (b := cc0_scratch3) (fun s : Fin 4 => outSlot s.val) out_ring.1 out_ring.2 (fun x : S4x2x36x128x128.Idx => zeroB (F := F) (ix3 (x 2) (x 3) (x 4)))) $$ H3
  isplitl [Ht H1 H2 H3 Z]
  · isplitl [Ht]; · iexists _; iexact Ht
    isplitl [H1]; · iexact H1
    isplitl [H2]; · iexact H2
    isplitl [H3]; · iexact H3
    iexists _; iexact Z
  isplitl [S1 S2 S3]
  · isplitl [S1]; · iexact S1
    isplitl [S2]; · iexact S2
    iexact S3
  isplitl [P0 P0' P1 P1' C0 C0' C1 C1']
  · isplitl [P0 P0']
    · isplitl [P0]; · iexact P0
      iexact P0'
    isplitl [P1 P1']
    · isplitl [P1]; · iexact P1
      iexact P1'
    isplitl [C0 C0']
    · isplitl [C0]; · iexact C0
      iexact C0'
    · isplitl [C1]; · iexact C1
      iexact C1'
  isplitl [HO]; · iexact HO
  isplitl [HP]; · iexact HP
  isplitl [HL]; · iexact HL
  iexact HW

end Cert.Kernel
-- ==== Proof.Run.lean ====
/- The kernel's launch and run. -/
module

public import proofs.«01_k».proof.Proof.Setup
public import proofs.«01_k».proof.Proof.Gen.Kernel.Frame
public import Idealize.ShloMosaic.Lib.Pipeline.FrameSuffixV
public import Idealize.ShloMosaic.Lib.Ring

@[expose] public section

set_option maxRecDepth 16384

noncomputable section

namespace Cert.Kernel

open Idealize.ShloMosaic Idealize.ShloMosaic.ValueIdx Idealize.ShloMosaic.TcCoe Idealize.ShloMosaic.Tactic Cert.Kernel.Gen
open Idealize.SL Idealize.SL.RA Idealize.SL.BI Idealize.SL.Sem
open scoped Idealize.SL.BI
open Idealize.SL.BI.BIBase Idealize.SL.BI.Laws Idealize.SL.ProofMode
open Idealize.ShloMosaic.Transfers
open Idealize.ShloMosaic.Pipeline (Dat Cfg Window BodyObligation cellOf)

variable {F : FTy → Type} [BitOps F]

local notation "𝕄" => MT nD τ sig Unit (Elt F) ℕ (Pipeline.UD sig nD τ) ℕ

variable (m : (ℓ : Loc nD τ sig) → Buf (Elt F) ℓ) (ρ : Dev nD → PrngReg)

/-! ## The launch's data -/

/-- The counters of the kernel's own copies. -/
abbrev osem0 : Fin 11 → SemLoc sig := fun j => (![SemLoc.dma 2, SemLoc.dma 3, SemLoc.dma 4, SemLoc.dma 5, SemLoc.dma 6, SemLoc.dma 7, SemLoc.dma 8, SemLoc.dma 9, SemLoc.dma 10, SemLoc.dma 11, SemLoc.dma 12] : Fin 11 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄) = Sems (F := F) c := by
  rw [Pipeline.ownSems0_eq_of_list c osem0 [0, 1, 2, 3, 4, 5, 6, 7, 8, 9, 10] (by decide) (by decide)]
  unfold Sems
  rw [fin3_eq, fin4_eq, fin4_eq]
  refine show (iprop(semVal ((c : Thread nD τ), SemLoc.dma (stageCell 0)) 0 ∗ semVal ((c : Thread nD τ), SemLoc.dma (stageCell 1)) 0 ∗ semVal ((c : Thread nD τ), SemLoc.dma (stageCell 2)) 0
    ∗ semVal ((c : Thread nD τ), SemLoc.dma (inCell 0)) 0 ∗ semVal ((c : Thread nD τ), SemLoc.dma (inCell 1)) 0 ∗ semVal ((c : Thread nD τ), SemLoc.dma (inCell 2)) 0 ∗ semVal ((c : Thread nD τ), SemLoc.dma (inCell 3)) 0
    ∗ semVal ((c : Thread nD τ), SemLoc.dma (outCell 0)) 0 ∗ semVal ((c : Thread nD τ), SemLoc.dma (outCell 1)) 0 ∗ semVal ((c : Thread nD τ), SemLoc.dma (outCell 2)) 0 ∗ semVal ((c : Thread nD τ), SemLoc.dma (outCell 3)) 0) : sProp 𝕄) = _ from ?_
  refine Entails.antisymm ?_ ?_
  · refine show BIBase.Entails (PROP := sProp 𝕄) _ _ from ?_
    iintro ⟨A0, A1, A2, B0, B1, B2, B3, C0, C1, C2, C3⟩
    isplitl [A0 A1 A2]
    · isplitl [A0]; · iexact A0
      isplitl [A1]; · iexact A1
      iexact A2
    isplitl [B0 B1 B2 B3]
    · isplitl [B0]; · iexact B0
      isplitl [B1]; · iexact B1
      isplitl [B2]; · iexact B2
      iexact B3
    · isplitl [C0]; · iexact C0
      isplitl [C1]; · iexact C1
      isplitl [C2]; · iexact C2
      iexact C3
  · refine show BIBase.Entails (PROP := sProp 𝕄) _ _ from ?_
    iintro ⟨⟨A0, A1, A2⟩, ⟨B0, B1, B2, B3⟩, ⟨C0, C1, C2, C3⟩⟩
    isplitl [A0]; · iexact A0
    isplitl [A1]; · iexact A1
    isplitl [A2]; · iexact A2
    isplitl [B0]; · iexact B0
    isplitl [B1]; · iexact B1
    isplitl [B2]; · iexact B2
    isplitl [B3]; · iexact B3
    isplitl [C0]; · iexact C0
    isplitl [C1]; · iexact C1
    isplitl [C2]; · iexact C2
    iexact C3

/-- The arrays the kernel's copies read. -/
def H0 : Finset (Ref sig .tc) := {main_v1, main_v3, main_v4, main_v5}
/-- The two arrays they write. -/
def R0 : Finset (Ref sig .tc) := {main_v6_0, main_v6_1}
theorem H0_sub : H0 ⊆ Pipeline.restRefs sig spec0 := by decide
theorem R0_sub : R0 ⊆ Pipeline.restRefs sig spec0 \ H0 := by decide

/-- The page table and the lengths, as the kernel reads them. -/
def ptOf (c : Dev nD) : S6x512.Idx → BitVec 32 := iblk m c 0 t0_0
def lnOf (c : Dev nD) : S6.Idx → BitVec 32 := iblk m c 1 t0_0
/-- The two pools with pages' rows and heads in one axis, and the two arrays of scales with pages last. -/
def poolOf (c : Dev nD) : Fin 2 → S3840x576x128.Idx → Elt F .fp8e4m3 := fun t => match t with
  | 0 => V m c main_v1
  | 1 => V m c main_v3
def scOf (c : Dev nD) : Fin 2 → S36x16x3840.Idx → Elt F .f32 := fun t => match t with
  | 0 => V m c main_v4
  | 1 => V m c main_v5
/-- What the kernel leaves in its two results. -/
def resOf (c : Dev nD) (t : Fin 2) : S6x36x8192x128.Idx → Elt F .bf16 := resT (ptOf m c) (lnOf m c) (poolOf m c) (scOf m c) t
def G0 (c : Dev nD) (b : Ref sig .tc) : Buf (Elt F) ((c : Thread nD τ).loc b) :=
  Function.update (Function.update (V m c) main_v6_0 (resOf m c 0)) main_v6_1 (resOf m c 1) b
theorem G0_0 (c : Dev nD) : G0 m c main_v6_0 = resOf m c 0 := by
  unfold G0
  rw [Function.update_of_ne (by decide), Function.update_self]
theorem G0_1 (c : Dev nD) : G0 m c main_v6_1 = resOf m c 1 := by
  unfold G0
  rw [Function.update_self]

theorem H0_eq (c : Dev nD) : (bigSep H0 (fun b => ((c.tc : Thread nD τ).loc b) ↦{fullShare} V m c b) : sProp 𝕄) = Ins (poolOf m c) (scOf m c) c := by
  rw [BI.bigSep_eq_bigSepL_of_eq (S := H0) [main_v1, main_v3, main_v4, main_v5] (by decide) (by decide)]
  rfl
theorem R0_eq (G : (c : Dev nD) → (b : Ref sig .tc) → Buf (Elt F) ((c.tc : Thread nD τ).loc b)) (c : Dev nD) : (bigSep R0 (fun b => ((c.tc : Thread nD τ).loc b) ↦{fullShare} G c b) : sProp 𝕄)
    = iprop((L c main_v6_0 ↦{fullShare} G c main_v6_0) ∗ (L c main_v6_1 ↦{fullShare} G c main_v6_1)) := by
  rw [BI.bigSep_eq_bigSepL_of_eq (S := R0) [main_v6_0, main_v6_1] (by decide) (by decide)]
  rfl

def PhiAt (G : (c : Dev nD) → (b : Ref sig .tc) → Buf (Elt F) ((c.tc : Thread nD τ).loc b)) (c : Dev nD) : sProp 𝕄 :=
  Pipeline.ΦDRV osem0 spec0 H0 R0 (fun c b => V0 m c (Proc.devRef .tc b)) G c
theorem PhiAt_eq (G : (c : Dev nD) → (b : Ref sig .tc) → Buf (Elt F) ((c.tc : Thread nD τ).loc b)) (c : Dev nD) : (PhiAt m G c : sProp 𝕄)
    = iprop(Scratch (F := F) c ∗ Sems (F := F) c ∗ Ins (poolOf m c) (scOf m c) c ∗ ((L c main_v6_0 ↦{fullShare} G c main_v6_0) ∗ (L c main_v6_1 ↦{fullShare} G c main_v6_1))) := by
  unfold PhiAt Pipeline.ΦDRV
  rw [scopedRest0_eq, ownSems00_eq, R0_eq]
  exact congrArg (fun X : sProp 𝕄 => iprop(_ ∗ _ ∗ X ∗ _)) (H0_eq m c)

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
  Φ t := if t.val = 0 then PhiAt m (V m) c else PhiAt m (G0 m) c
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)

abbrev ms0 (t : Fin cfg0.N) : Memref sig .tc .smem S6x512 .i32 := win0_0.stage (cfg0.slots t 0)
abbrev ms1 (t : Fin cfg0.N) : Memref sig .tc .smem S6 .i32 := win0_1.stage (cfg0.slots t 1)

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d)))
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t))

theorem Phi_eq (c : Dev nD) (t : Fin (cfg0.N + 1)) : (dats m 0 c).Φ t = if t.val = 0 then PhiAt m (V m) c else PhiAt m (G0 m) c := by dsimp only [dats]
theorem Phi_start (c : Dev nD) : (dats m 0 c).Φ t0_0.castSucc = PhiAt m (V m) c := (Phi_eq m c _).trans (if_pos rfl)
theorem Phi_end (c : Dev nD) : (dats m 0 c).Φ t0_0.succ = PhiAt m (G0 m) c := (Phi_eq m c _).trans (if_neg (by decide))

theorem sound_body (hpt : ∀ c x, (ptOf m c x).toNat < 3840) (c : Dev nD) :
    bodyPre m c t0_0 ⊢ wp frame (wpE (defs₀ (F := F)) Variants.none (c : Thread nD τ) none) Set.univ (bodyAt0 t0_0) (fun _ => bodyPost m c t0_0) := by
  unfold bodyPre bodyPost
  rw [Phi_start, Phi_end, after0_0, after0_1, PhiAt_eq, PhiAt_eq, G0_0, G0_1]
  unfold Dat.owesAt Pipeline.owesWithin
  rw [show (dats m 0 c).owed t0_0.castSucc = 0 from rfl, show (dats m 0 c).owed t0_0.succ = 0 from rfl]
  iintro ⟨⟨HS, HC, HI, HO⟩, ⟨%W, -, HW⟩, ⟨%d0, H0⟩, ⟨%d1, H1⟩⟩
  rw [before0_0, before0_1]
  have k := start_of (ptOf m c) (lnOf m c) (poolOf m c) (scOf m c) c (ms0 t0_0) (ms1 t0_0) (V m c main_v6_0) (V m c main_v6_1)
  ihave K := k $$ [HS HC HI HO H0 H1 HW]
  · isplitl [HS]; · iexact HS
    isplitl [HC]; · iexact HC
    isplitl [HI]; · iexact HI
    isplitl [HO]; · iexact HO
    isplitl [H0]; · iexact H0
    isplitl [H1]; · iexact H1
    iexists W; iexact HW
  icases K with ⟨HB, HR⟩
  have b := body_wp (ptOf m c) (lnOf m c) (poolOf m c) (scOf m c) c Variants.none (ms0 t0_0) (hstage0_0 0) (ms1 t0_0) (hstage0_1 0) (hpt c)
  ihave HB := b $$ HB
  icombine HB HR as HB
  ihave HB := (wp_frame_r Idealize.ShloMosaic.frame (wpE (defs₀ (F := F)) Variants.none (c : Thread nD τ) none) Set.univ) $$ HB
  istop
  refine wp_mono _ _ _ fun r => ?_
  refine show BIBase.Entails (PROP := sProp 𝕄) _ _ from ?_
  have e := end_of (ptOf m c) (lnOf m c) (poolOf m c) (scOf m c) c (ms0 t0_0) (ms1 t0_0)
  iintro H
  ihave H := e $$ H
  icases H with ⟨HS, HC, HI, HO, H0, H1, ⟨%W', HW'⟩⟩
  isplitl [HS HC HI HO]
  · isplitl [HS]; · iexact HS
    isplitl [HC]; · iexact HC
    isplitl [HI]; · iexact HI
    iexact HO
  isplitl [HW']
  · iexists W'; isplitr; · ipureintro; exact fun _ _ => Or.inl trivial
    iexact HW'
  isplitl [H0]; · iexact H0
  iexact H1

theorem defs₀_row (t : Fin cfg0.N) :
    defs₀ (F := F) .tc cfg0.body (cfg0.bodyArgs t (cfg0.slots t)) = bodyAt0 t := by
  unfold defs₀; rw [Defs.onTc_tc]

theorem body_obligation (hpt : ∀ c x, (ptOf m c x).toNat < 3840) (c : Dev nD) : BodyObligation (dats (F := F) m 0 c) (defs₀ (F := F)) Variants.none () Set.univ := fun t => by
  rw [fin_N0 t, bigSep_W0, bigSep_W0, defs₀_row]
  exact triple_restated (sound_body m hpt c) rfl .rfl fun _ => .rfl

/-! ## The run -/

set_option maxHeartbeats 800000 in
theorem hmain_at (𝒱₀ : Variants) : Pipeline.HMainK (Ix := Unit) (Name := ℕ) (U := Pipeline.UD sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-- What the buffers that no window stages hold when the kernel is done. -/
def Wf (c : Dev nD) : Valuation τ sig (Elt F) := Pipeline.withArrays spec0 c (Pipeline.withR (V0 m c) R0 c (G0 m c)) fun w => (dats m 0 c).arrAt w cfg0.N

set_option backward.isDefEq.respectTransparency.types false in
theorem run_post (hpt : ∀ c x, (ptOf m c x).toNat < 3840) : θ_run defs (onTc (τ := τ) (main (F := F))) (s₀ m ρ) (fun r =>
    (∀ c : Dev nD, (∀ w, r.2.mem ((spec0 w).arr.view.loc (c.tc : Thread nD τ)) = (dats m 0 c).arrAt w cfg0.N)
      ∧ ∀ b ∈ Pipeline.restRefs sig spec0, r.2.mem ((c.tc : Thread nD τ).loc b) = StableHlo.after (List.flatten [hostOps1]) (Wf m c) (Proc.devRef .tc b))
    ∧ r.2.sem = fun _ => 0) :=
  Pipeline.θ_run_frame_dmaR_aroundV (Q' := _) cfgs (dats m) (0 : Fin 1) launch0 osem0 defs₀ Variants.none ownSemFacts0 H0 R0 H0_sub R0_sub m ρ main
    (hbody := fun c => (body_obligation m hpt c).loose) (hshare := fun c => (dats m 0 c).share_full fun _ => rfl)
    (howed := fun _ _ => rfl) (V₀ := V0 m) (opss := [hostOps1]) (hsub := sfx_sub) (hfresh := sfx_fresh) (hkeep := sfx_keeps) (G := G0 m)
    (hmain := hmain_at m Variants.none) (hA := A_eq m)
    (hin := fun c => by rw [show (dats m 0 c).Φ 0 = PhiAt m (V m) c from (Phi_eq m c _).trans (if_pos rfl)]; exact .rfl)
    (hout := fun c => by rw [show (dats m 0 c).Φ (Fin.last cfg0.N) = PhiAt m (G0 m) c from (Phi_eq m c _).trans (if_neg (by decide))]; exact .rfl)
    (hQ' := fun _ h => h)

theorem Wf_of (c : Dev nD) (b : Ref sig .tc) (hb : ∀ w, Pipeline.arrRef spec0 w ≠ b) (hr : b ∉ R0) : Wf m c (Proc.devRef .tc b) = V m c b := by
  unfold Wf
  rw [Pipeline.withArrays_of_ne _ c _ _ b hb, Pipeline.withR_of_not_mem _ _ _ _ _ hr]
theorem Wf_res (c : Dev nD) (b : Ref sig .tc) (hb : ∀ w, Pipeline.arrRef spec0 w ≠ b) (hr : b ∈ R0) : Wf m c (Proc.devRef .tc b) = G0 m c b := by
  unfold Wf
  rw [Pipeline.withArrays_of_ne _ c _ _ b hb, Pipeline.withR_of_mem _ _ _ _ _ hr]

theorem tail_keeps (X : Valuation τ sig (Elt F)) (b : Ref sig .tc) (h7 : b ≠ main_v7) (h8 : b ≠ main_v8) :
    StableHlo.after (List.flatten [hostOps1]) X (Proc.devRef .tc b) = X (Proc.devRef .tc b) :=
  StableHlo.after_of_forall_not_mem (b := Proc.devRef .tc b) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    exact ⟨StableHlo.devRef_ne_of_ne h7, StableHlo.devRef_ne_of_ne h8⟩))

theorem rest_arg (c : Dev nD) (b : Ref sig .tc) (h7 : b ≠ main_v7) (h8 : b ≠ main_v8) (hb : ∀ w, Pipeline.arrRef spec0 w ≠ b) (hr : b ∉ R0) :
    StableHlo.after (List.flatten [hostOps1]) (Wf m c) (Proc.devRef .tc b) = V m c b :=
  (tail_keeps _ b h7 h8).trans (Wf_of m c b hb hr)

/-- The argument arrays end as launched. -/
def ArgsKept (r : PUnit × MemSt nD τ sig (Elt F)) (c : Dev nD) : Prop :=
  r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5)

theorem run_args (hpt : ∀ c x, (ptOf m c x).toNat < 3840) : θ_run defs (onTc (τ := τ) (main (F := F))) ⟨m, fun _ => 0, ρ⟩ (fun r =>
    (∀ c : Dev nD, (r.2.mem ((c.tc : Thread nD τ).loc main_v7) = StableHlo.after (List.flatten [hostOps1]) (Wf m c) (Proc.devRef .tc main_v7)
      ∧ r.2.mem ((c.tc : Thread nD τ).loc main_v8) = StableHlo.after (List.flatten [hostOps1]) (Wf m c) (Proc.devRef .tc main_v8)) ∧ ArgsKept m r c)
    ∧ r.2.sem = fun _ => 0) :=
  (θ_run defs _ _).mono (fun _ h => ⟨fun c => ⟨⟨(h.1 c).2 main_v7 (Pipeline.mem_restRefs_of main_v7 (by decide) (by decide)), (h.1 c).2 main_v8 (Pipeline.mem_restRefs_of main_v8 (by decide) (by decide))⟩,
    ((h.1 c).2 main_arg0 (Pipeline.mem_restRefs_of main_arg0 (by decide) (by decide))).trans ((rest_arg m c main_arg0 (by decide) (by decide) (by exact (by decide : ∀ w, Pipeline.arrRef spec0 w ≠ main_arg0)) (by decide)).trans (V_main_arg0 m c)),
    ((h.1 c).2 main_arg1 (Pipeline.mem_restRefs_of main_arg1 (by decide) (by decide))).trans ((rest_arg m c main_arg1 (by decide) (by decide) (by exact (by decide : ∀ w, Pipeline.arrRef spec0 w ≠ main_arg1)) (by decide)).trans (V_main_arg1 m c)),
    ((h.1 c).2 main_arg2 (Pipeline.mem_restRefs_of main_arg2 (by decide) (by decide))).trans ((rest_arg m c main_arg2 (by decide) (by decide) (by exact (by decide : ∀ w, Pipeline.arrRef spec0 w ≠ main_arg2)) (by decide)).trans (V_main_arg2 m c)),
    ((h.1 c).2 main_arg3 (Pipeline.mem_restRefs_of main_arg3 (by decide) (by decide))).trans ((rest_arg m c main_arg3 (by decide) (by decide) (by exact (by decide : ∀ w, Pipeline.arrRef spec0 w ≠ main_arg3)) (by decide)).trans (V_main_arg3 m c)),
    ((h.1 c).1 0).trans (((dats m 0 c).arrAt_in 0 rfl _).trans ((A_eq m c 0).trans (V_main_arg4 m c))),
    ((h.1 c).1 1).trans (((dats m 0 c).arrAt_in 1 rfl _).trans ((A_eq m c 1).trans (V_main_arg5 m c)))⟩, h.2⟩) (run_post m ρ hpt)

end Cert.Kernel
-- ==== Proof.Frames.lean ====
/- What the kernel reads and leaves, in terms of its arguments, when the page table names pages of the pool. -/
module

public import proofs.«01_k».proof.Defs
public import proofs.«01_k».proof.Proof.Run

@[expose] public section

set_option maxRecDepth 16384

noncomputable section

/-! ## The precondition -/

namespace Cert.Pre_pages_in_pool

open Idealize.ShloMosaic

theorem bcast_S_S6x512 : S_.BroadcastsInDim S6x512 (![] : Fin 0 → Fin S6x512.rank) := by decide +kernel
instance facts : Facts where
  bcast_S_S6x512 := bcast_S_S6x512

theorem inPool {F : FTy → Type} [FloatOps F] (x0 : FVec F S3840x16x36x128 .fp8e4m3) (x1 : FVec F S3840x16x36x128 .fp8e4m3)
    (x2 : FVec F S3840x16x36 .f32) (x3 : FVec F S3840x16x36 .f32) (x4 : IVec S6x512 32) (x5 : IVec S6 32)
    (h : fn x0 x1 x2 x3 x4 x5 = fun _ => 1#1) (i : S6x512.Idx) : (x4 i).toNat < 3840 := by
  have h := congrFun h i
  have e : Scalar.andi (Scalar.cmpi .sge (x4 i) (0#32)) (Scalar.cmpi .slt (x4 i) (3840#32)) = 1#1 := h
  generalize x4 i = w at e
  have k : ∀ a b : Bool, BitVec.ofBool a &&& BitVec.ofBool b = 1#1 → a = true ∧ b = true := by decide
  have k' := k _ _ e
  have h1 : (0 : ℤ) ≤ w.toInt := by
    have := k'.1
    simpa [BitVec.sle] using this
  have h2 : w.toInt < 3840 := by
    have := k'.2
    simpa [BitVec.slt] using this
  have := BitVec.toInt_eq_toNat_cond w
  have hlt := w.isLt
  split at this <;> omega

end Cert.Pre_pages_in_pool

namespace Cert.Kernel

open Idealize.ShloMosaic Idealize.ShloMosaic.ValueIdx Idealize.ShloMosaic.TcCoe Cert.Kernel.Gen
open Idealize.SL Idealize.SL.Sem

variable {F : FTy → Type} [BitOps F]
variable (m : (ℓ : Loc nD τ sig) → Buf (Elt F) ℓ) (ρ : Dev nD → PrngReg)

theorem ptOf_eq (c : Dev nD) : ptOf m c = m ((c : Thread nD τ).loc main_arg4) := by
  have e := V_main_arg4 m c
  refine Eq.trans ?_ e
  funext x
  refine congrArg (V m c main_arg4) ?_
  refine funext fun a => Fin.ext ?_
  match a with
  | ⟨0, _⟩ => show 0 + 1 * (x 0).val = (x 0).val; omega
  | ⟨1, _⟩ => show 0 + 1 * (x 1).val = (x 1).val; omega
theorem lnOf_eq (c : Dev nD) : lnOf m c = m ((c : Thread nD τ).loc main_arg5) := by
  have e := V_main_arg5 m c
  refine Eq.trans ?_ e
  funext x
  refine congrArg (V m c main_arg5) ?_
  refine funext fun a => Fin.ext ?_
  match a with
  | ⟨0, _⟩ => show 0 + 1 * (x 0).val = (x 0).val; omega

end Cert.Kernel

namespace Cert.Proof

open Idealize.ShloMosaic Idealize.SL.Sem

theorem words_lt (m : (ℓ : Loc Cert.Kernel.nD Cert.Kernel.τ Cert.Kernel.sig) → Buf (Elt Bits) ℓ) (h : Pre_Kernel m)
    (c : Dev Cert.Kernel.nD) (x : Cert.Kernel.S6x512.Idx) : (Cert.Kernel.ptOf m c x).toNat < 3840 := by
  rw [Cert.Kernel.ptOf_eq]
  exact Cert.Pre_pages_in_pool.inPool _ _ _ _ _ _ (h c) x

/-- The kernel runs, its arguments end unchanged and every counter ends at zero. -/
theorem kernel_frame : quiescent_Kernel := fun m g h =>
  (θ_run Cert.Kernel.defs _ _).mono (fun _ hr => ⟨fun c => (hr.1 c).2, hr.2⟩) (Cert.Kernel.run_args m g (words_lt m h))

end Cert.Proof

end
-- ==== Proof.Value.lean ====
/- The rows the kernel computes, element by element, over bit patterns: a code times its scale, or zero where the
   row is past the request's length. -/
module

public import proofs.«01_k».proof.Proof.Model
public import Idealize.ShloMosaic.PureOps.BitExact
public import Idealize.ShloMosaic.Lib.BitcastPair
public import Idealize.ShloMosaic.Lib.Pipeline.Value

@[expose] public section

set_option maxRecDepth 16384

noncomputable section

namespace Cert.Kernel

open Idealize.ShloMosaic Idealize.ShloMosaic.ValueIdx Cert.Kernel.Gen

/-! ## Two rows in one word -/

/-- The word row that holds row `z 0`. -/
def half (z : S16x128.Idx) : S8x128.Idx :=
  ix2 (⟨(z 0).val / 2, by have h : (z 0).val < 16 := (z 0).isLt; omega⟩ : Fin 8) (z 1)

theorem unpack_apply (w : S8x128.Idx → BitVec 32) (z : S16x128.Idx) :
    bitcast S16x128 16 w bitcasts_S8x128_w32_S16x128_w16 z = (w (half z)).extractLsb' (16 * ((z 0).val % 2)) 16 := by
  rw [bitcast_32_16]
  have e : ∀ hp, bitcasts_S8x128_w32_S16x128_w16.srcIdx z (S16x128.row z / 2) hp = half z := by
    intro hp
    funext a
    refine Fin.ext ?_
    match a with
    | ⟨0, _⟩ => rfl
    | ⟨1, _⟩ => rfl
  rw [e]
  rfl

theorem extract_lo (p q : BitVec 16) : (p ++ q).extractLsb' (16 * 0) 16 = q := by
  apply BitVec.eq_of_getLsbD_eq
  intro i hi
  rw [BitVec.getLsbD_extractLsb', BitVec.getLsbD_append]
  simp [hi]

theorem extract_hi (p q : BitVec 16) : (p ++ q).extractLsb' (16 * 1) 16 = p := by
  apply BitVec.eq_of_getLsbD_eq
  intro i hi
  rw [BitVec.getLsbD_extractLsb', BitVec.getLsbD_append]
  simp [hi]

theorem pack_half (x : S16x128.Idx → BitVec 16) (j : S8x128.Idx) (k : ℕ) (hk : k < 2) (z : S16x128.Idx)
    (h0 : (z 0).val = 2 * (j 0).val + k) (h1 : (z 1).val = (j 1).val) :
    (bitcast S8x128 32 x bitcasts_S16x128_w16_S8x128_w32 j).extractLsb' (16 * k) 16 = x z := by
  rw [bitcast_16_32]
  have e : ∀ p hp, p = (z 0).val → bitcasts_S16x128_w16_S8x128_w32.srcIdx j p hp = z := by
    intro p hp h
    funext a
    refine Fin.ext ?_
    match a with
    | ⟨0, _⟩ => exact h
    | ⟨1, _⟩ => exact h1.symm
  have r : S8x128.row j = (j 0).val := rfl
  rcases (by omega : k = 0 ∨ k = 1) with rfl | rfl
  · rw [extract_lo]
    exact congrArg x (e _ _ (by omega))
  · rw [extract_hi]
    exact congrArg x (e _ _ (by omega))

/-! ## The mask of the rows in front of the length -/

theorem mask_half (left : BitVec 32) (z : S16x128.Idx) :
    (k0_pay56 left (half z)).extractLsb' (16 * ((z 0).val % 2)) 16
      = if (BitVec.ofNat 32 (z 0).val).slt left then 65535#16 else 0#16 := by
  have h : (z 0).val < 16 := (z 0).isLt
  have e : k0_pay56 left (half z)
      = (bif (2#32 * BitVec.ofNat 32 ((z 0).val / 2)).slt left then 65535#32 else 0#32)
        ||| (bif (2#32 * BitVec.ofNat 32 ((z 0).val / 2) + 1#32).slt left then 4294901760#32 else 0#32) := by
    have i0 : iota .tc S8x128 32 [0] iota_S8x128_d0_w32 (half z) = BitVec.ofNat 32 ((z 0).val / 2) := by
      show BitVec.ofNat 32 (0 * 8 + (z 0).val / 2) = _
      rw [Nat.zero_mul, Nat.zero_add]
    have k : ∀ (b : Bool) (p q : BitVec 32), Scalar.select (BitVec.ofBool b) p q = bif b then p else q := by
      intro b p q
      cases b <;> rfl
    rw [← i0, ← k, ← k]
    rfl
  rw [e]
  have m : ∀ n : ℕ, n < 8 → (2#32 * BitVec.ofNat 32 n) = BitVec.ofNat 32 (2 * n) ∧
      (2#32 * BitVec.ofNat 32 n + 1#32) = BitVec.ofNat 32 (2 * n + 1) := by decide
  obtain ⟨m0, m1⟩ := m ((z 0).val / 2) (by omega)
  rw [m1, m0]
  have t : ∀ a b : Bool, (((bif a then 65535#32 else 0#32) ||| (bif b then 4294901760#32 else 0#32)).extractLsb' (16 * 0) 16
        = if a then 65535#16 else 0#16) ∧
      (((bif a then 65535#32 else 0#32) ||| (bif b then 4294901760#32 else 0#32)).extractLsb' (16 * 1) 16
        = if b then 65535#16 else 0#16) := by decide
  rcases (by omega : (z 0).val % 2 = 0 ∨ (z 0).val % 2 = 1) with r | r
  · rw [r, (t _ _).1, show 2 * ((z 0).val / 2) = (z 0).val by omega]
  · rw [r, (t _ _).2, show 2 * ((z 0).val / 2) + 1 = (z 0).val by omega]

/-! ## One head's rows -/

/-- The rows of one head, from its sixteen rows of codes. -/
def rows (left : BitVec 32) (lane : IVec S8x128 32) (cod : FVec Bits S16x128 .bf16) (tab : IVec S8x128 32) :
    FVec Bits S16x128 .bf16 :=
  bitcastToFloat .bf16 (bitcast S16x128 16 (andi (bitcast S8x128 32 (bitcastToInt (mulf cod
    (bitcastToFloat .bf16 (bitcast S16x128 16 (dynamicGather 1 tab lane) bitcasts_S8x128_w32_S16x128_w16))))
      bitcasts_S16x128_w16_S8x128_w32) (k0_pay56 left)) bitcasts_S8x128_w32_S16x128_w16)

theorem rows_apply (left : BitVec 32) (lane : IVec S8x128 32) (cod : FVec Bits S16x128 .bf16) (tab : IVec S8x128 32)
    (l : Fin 128) (hl : ∀ j, (lane j).toNat = l.val) (z : S16x128.Idx) :
    rows left lane cod tab z = if (BitVec.ofNat 32 (z 0).val).slt left
      then FloatOps.mulf (F := Bits) (cod z) ((tab (ix2 (half z 0) l)).extractLsb' (16 * ((z 0).val % 2)) 16 : BitVec 16)
      else (0#16 : BitVec 16) := by
  have h : (z 0).val < 16 := (z 0).isLt
  have g : dynamicGather 1 tab lane (half z) = tab (ix2 (half z 0) l) := by
    refine congrArg tab (funext fun a => Fin.ext ?_)
    match a with
    | ⟨0, _⟩ => rfl
    | ⟨1, _⟩ =>
      show (lane (half z)).toNat % 128 = l.val
      rw [hl]
      exact Nat.mod_eq_of_lt l.isLt
  have p := pack_half (mulf (F := Bits) (φ := .bf16) cod
    (bitcastToFloat .bf16 (bitcast S16x128 16 (dynamicGather 1 tab lane) bitcasts_S8x128_w32_S16x128_w16)))
    (half z) ((z 0).val % 2) (Nat.mod_lt _ (by decide)) z
    (by show (z 0).val = 2 * ((z 0).val / 2) + (z 0).val % 2; omega) rfl
  have q := unpack_apply (dynamicGather 1 tab lane) z
  rw [g] at q
  have a : ∀ (x y : BitVec 32) (n : ℕ), (x &&& y).extractLsb' n 16 = x.extractLsb' n 16 &&& y.extractLsb' n 16 := by
    intro x y n
    apply BitVec.eq_of_getLsbD_eq
    intro i hi
    simp [BitVec.getLsbD_extractLsb', hi]
  have s := unpack_apply (andi (bitcast S8x128 32 (bitcastToInt (mulf (F := Bits) (φ := .bf16) cod
    (bitcastToFloat .bf16 (bitcast S16x128 16 (dynamicGather 1 tab lane) bitcasts_S8x128_w32_S16x128_w16))))
      bitcasts_S16x128_w16_S8x128_w32) (k0_pay56 left)) z
  have s' := s.trans ((a _ _ _).trans (congrArg₂ (· &&& ·) p (mask_half left z)))
  refine Eq.trans (show rows left lane cod tab z = _ from s') ?_
  have v : mulf (F := Bits) (φ := .bf16) cod
      (bitcastToFloat .bf16 (bitcast S16x128 16 (dynamicGather 1 tab lane) bitcasts_S8x128_w32_S16x128_w16)) z
      = FloatOps.mulf (F := Bits) (cod z) ((tab (ix2 (half z 0) l)).extractLsb' (16 * ((z 0).val % 2)) 16 : BitVec 16) :=
    congrArg (FloatOps.mulf (F := Bits) (φ := .bf16) (cod z)) q
  rw [v]
  generalize FloatOps.mulf (F := Bits) (cod z) ((tab (ix2 (half z 0) l)).extractLsb' (16 * ((z 0).val % 2)) 16 : BitVec 16) = y
  have y1 : ∀ y : BitVec 16, y &&& 65535#16 = y := fun y => BitVec.and_allOnes
  have y0 : ∀ y : BitVec 16, y &&& 0#16 = 0#16 := fun y => BitVec.and_zero
  split
  · exact y1 y
  · exact y0 y

theorem lane_toNat (w : BitVec 32) (hw : w.toNat < 3840) (j : S8x128.Idx) : (k0_pay55 (F := Bits) w j).toNat = w.toNat % 128 := by
  have e : k0_pay55 (F := Bits) w j = fmod (BitVec.ofNat 32 w.toNat) (BitVec.ofNat 32 128) := by
    rw [BitVec.ofNat_toNat, BitVec.setWidth_eq]
    rfl
  rw [e, fmod_ofNat (by omega) (by decide) (by decide), toNat_lt (by omega)]

/-- The lane the kernel gathers from: its remainder is never negative, so the wrap of negative lanes does nothing. -/
theorem gather_lane (w : BitVec 32) (hw : w.toNat < 3840) (j : S8x128.Idx) :
    (shapeCast S8x128 (shapeCast S8x128x1 (select (cmpi .slt (k0_pay55 (F := Bits) w) (broadcast S8x128 0#32))
      (addi (k0_pay55 (F := Bits) w) (broadcast S8x128 128#32)) (k0_pay55 (F := Bits) w)) shapeCasts_S8x128_S8x128x1)
        shapeCasts_S8x128x1_S8x128 j).toNat = w.toNat % 128 := by
  rw [shapeCast_shapeCast]
  have l := lane_toNat w hw j
  have h : k0_pay55 (F := Bits) w j = BitVec.ofNat 32 (w.toNat % 128) := by
    apply BitVec.eq_of_toNat_eq
    rw [l, toNat_lt (by omega)]
  show (Scalar.select (Scalar.cmpi .slt (k0_pay55 (F := Bits) w j) 0#32) (k0_pay55 (F := Bits) w j + 128#32) (k0_pay55 (F := Bits) w j)).toNat = _
  rw [h, cmpi_slt_zero (by omega), select_zero, toNat_lt (by omega)]

/-- A table's tile read as words by row and lane. -/
theorem tile_cast (tab : Vec Bits S1x1x1x8x128 .i32) (a : Fin 8) (l : Fin 128) :
    (shapeCast S8x128 tab shapeCasts_S1x1x1x8x128_S8x128 : IVec S8x128 32) (ix2 a l)
      = tab (ix5 (0 : Fin 1) (0 : Fin 1) (0 : Fin 1) a l) :=
  shapeCast_apply _ _ _ _ (by
    rw [Shape.rowMajor_val_five, Shape.rowMajor_val_two]
    show (((0 * 1 + 0) * 1 + 0) * 8 + a.val) * 128 + l.val = a.val * 128 + l.val
    omega)

/-- One head's rows, laid out for the store. -/
theorem rows_cast (v : FVec Bits S16x128 .bf16) (r : Fin 16) (l : Fin 128) :
    shapeCast S1x1x1x16x128 v shapeCasts_S16x128_S1x1x1x16x128 (ix5 (0 : Fin 1) (0 : Fin 1) (0 : Fin 1) r l) = v (ix2 r l) :=
  shapeCast_apply _ _ _ _ (by
    rw [Shape.rowMajor_val_five, Shape.rowMajor_val_two]
    show r.val * 128 + l.val = (((0 * 1 + 0) * 1 + 0) * 16 + r.val) * 128 + l.val
    omega)

theorem codes_apply (codes : Vec Bits S1x1x1x32x128 .fp8e4m3) (a : Fin 32) (l : Fin 128) :
    k0_pay57 codes (ix2 a l) = FloatOps.extf (F := Bits) .bf16 bitsLt_fp8e4m3_bf16
      (codes (ix5 (0 : Fin 1) (0 : Fin 1) (0 : Fin 1) a l)) :=
  congrArg (FloatOps.extf (F := Bits) .bf16 bitsLt_fp8e4m3_bf16) (shapeCast_apply codes
    shapeCasts_S1x1x1x32x128_S32x128 (ix2 a l) (ix5 (0 : Fin 1) (0 : Fin 1) (0 : Fin 1) a l) (by
    rw [Shape.rowMajor_val_five, Shape.rowMajor_val_two]
    show (((0 * 1 + 0) * 1 + 0) * 32 + a.val) * 128 + l.val = a.val * 128 + l.val
    omega))

theorem headPay_apply (u : Fin 2) (w left : BitVec 32) (hw : w.toNat < 3840) (codes : Vec Bits S1x1x1x32x128 .fp8e4m3)
    (tab : Vec Bits S1x1x1x8x128 .i32) (r : Fin 16) (l : Fin 128) (a : Fin 32) (ha : a.val = u.val * 16 + r.val)
    (lane : Fin 128) (hl : lane.val = w.toNat % 128) (j : Fin 8) (hj : j.val = r.val / 2) :
    headPay u w left codes tab (ix5 (0 : Fin 1) (0 : Fin 1) (0 : Fin 1) r l) = if (BitVec.ofNat 32 r.val).slt left
      then FloatOps.mulf (F := Bits) (φ := .bf16) (FloatOps.extf (F := Bits) .bf16 bitsLt_fp8e4m3_bf16
        (codes (ix5 (0 : Fin 1) (0 : Fin 1) (0 : Fin 1) a l)))
        (((tab (ix5 (0 : Fin 1) (0 : Fin 1) (0 : Fin 1) j lane) : BitVec 32).extractLsb' (16 * (r.val % 2)) 16 : BitVec 16))
      else (0#16 : BitVec 16) := by
  have R : ∀ (off : Fin 2 → ℕ) (h : S32x128.Slices off S16x128), off 0 = u.val * 16 → off 1 = 0 →
      rows left (shapeCast S8x128 (shapeCast S8x128x1 (select (cmpi .slt (k0_pay55 (F := Bits) w) (broadcast S8x128 0#32))
        (addi (k0_pay55 (F := Bits) w) (broadcast S8x128 128#32)) (k0_pay55 (F := Bits) w)) shapeCasts_S8x128_S8x128x1)
        shapeCasts_S8x128x1_S8x128) (extractStridedSlice S16x128 off (k0_pay57 codes) h)
        (shapeCast S8x128 tab shapeCasts_S1x1x1x8x128_S8x128) (ix2 r l) = if (BitVec.ofNat 32 r.val).slt left
      then FloatOps.mulf (F := Bits) (φ := .bf16) (FloatOps.extf (F := Bits) .bf16 bitsLt_fp8e4m3_bf16
        (codes (ix5 (0 : Fin 1) (0 : Fin 1) (0 : Fin 1) a l)))
        (((tab (ix5 (0 : Fin 1) (0 : Fin 1) (0 : Fin 1) j lane) : BitVec 32).extractLsb' (16 * (r.val % 2)) 16 : BitVec 16))
      else (0#16 : BitVec 16) := by
    intro off h h0 h1
    have A := rows_apply left _ (extractStridedSlice S16x128 off (k0_pay57 codes) h)
      (shapeCast S8x128 tab shapeCasts_S1x1x1x8x128_S8x128) lane
      (fun j => (gather_lane w hw j).trans hl.symm) (ix2 r l)
    have c : extractStridedSlice S16x128 off (k0_pay57 codes) h (ix2 r l) = k0_pay57 codes (ix2 a l) := by
      refine congrArg (k0_pay57 codes) (funext fun i => Fin.ext ?_)
      match i with
      | ⟨0, _⟩ =>
        show off 0 + r.val = a.val
        omega
      | ⟨1, _⟩ =>
        show off 1 + l.val = l.val
        omega
    have d : half (ix2 r l) 0 = j := Fin.ext hj.symm
    rw [c, codes_apply, d, tile_cast] at A
    exact A
  match u with
  | 0 => exact (rows_cast _ r l).trans (R ![0, 0] slices_S32x128_o0_0_S16x128 rfl rfl)
  | 1 => exact (rows_cast _ r l).trans (R ![16, 0] slices_S32x128_o16_0_S16x128 rfl rfl)

/-! ## A result's element -/

section Result

variable (pt : S6x512.Idx → BitVec 32) (ln : S6.Idx → BitVec 32)
  (pool : Fin 2 → S3840x576x128.Idx → Elt Bits .fp8e4m3) (sc : Fin 2 → S36x16x3840.Idx → Elt Bits .f32)

/-- A word of the packed table, its half: the scale of that row, rounded. -/
theorem tab_apply (t : Fin 2) (h : Fin 36) (g : Fin 30) (r : Fin 16) (l : Fin 128) (j : Fin 8) (hj : j.val = r.val / 2)
    (n : Fin 3840) (hn : n.val = g.val * 128 + l.val) :
    ((tabOf sc t h g (ix5 (0 : Fin 1) (0 : Fin 1) (0 : Fin 1) j l) : BitVec 32).extractLsb' (16 * (r.val % 2)) 16 : BitVec 16)
      = FloatOps.truncf (F := Bits) .bf16 bitsLt_bf16_f32 (sc t (ix3 h r n)) := by
  have e : tabOf sc t h g (ix5 (0 : Fin 1) (0 : Fin 1) (0 : Fin 1) j l)
      = bitcast S8x128 32 (bitcastToInt (F := Bits) (φ := .bf16) (truncf .bf16 (shapeCast S16x128 (scTile sc t h g)
        shapeCasts_S1x1x16x128_S16x128) bitsLt_bf16_f32)) bitcasts_S16x128_w16_S8x128_w32 (ix2 j l) :=
    shapeCast_apply (t := S1x1x1x8x128) (bitcast S8x128 32 (bitcastToInt (F := Bits) (φ := .bf16) (truncf .bf16
      (shapeCast S16x128 (scTile sc t h g) shapeCasts_S1x1x16x128_S16x128) bitsLt_bf16_f32)) bitcasts_S16x128_w16_S8x128_w32)
      shapeCasts_S8x128_S1x1x1x8x128 (ix5 (0 : Fin 1) (0 : Fin 1) (0 : Fin 1) j l) (ix2 j l) (by
      rw [Shape.rowMajor_val_five, Shape.rowMajor_val_two]
      show j.val * 128 + l.val = (((0 * 1 + 0) * 1 + 0) * 8 + j.val) * 128 + l.val
      omega)
  rw [e, pack_half _ (ix2 j l) (r.val % 2) (Nat.mod_lt _ (by decide)) (ix2 r l)
    (by show r.val = 2 * j.val + r.val % 2; omega) rfl]
  refine congrArg (FloatOps.truncf (F := Bits) .bf16 bitsLt_bf16_f32) ?_
  refine (shapeCast_apply (scTile sc t h g) shapeCasts_S1x1x16x128_S16x128 (ix2 r l) (ix4 (0 : Fin 1) (0 : Fin 1) r l) (by
      rw [Shape.rowMajor_val_four, Shape.rowMajor_val_two]
      show ((0 * 1 + 0) * 16 + r.val) * 128 + l.val = r.val * 128 + l.val
      omega)).trans ?_
  refine congrArg (sc t) (funext fun i => Fin.ext ?_)
  match i with
  | ⟨0, _⟩ => rfl
  | ⟨1, _⟩ => rfl
  | ⟨2, _⟩ => exact hn.symm

/-- One element: the code of page `n` times its scale. -/
def elem (t : Fin 2) (n : Fin 3840) (h : Fin 36) (r : Fin 16) (l : Fin 128) : BitVec 16 :=
  FloatOps.mulf (F := Bits) (φ := .bf16)
    (FloatOps.extf (F := Bits) .bf16 bitsLt_fp8e4m3_bf16 (pool t (ix3 n ⟨h.val * 16 + r.val, by omega⟩ l)))
    (FloatOps.truncf (F := Bits) .bf16 bitsLt_bf16_f32 (sc t (ix3 h r n)))

theorem outRow_apply (b p : ℕ) (hw : (pword pt b p).toNat < 3840) (t : Fin 2) (h : Fin 36) (r : Fin 16) (l : Fin 128) :
    outRow pt ln pool sc b p t h (ix5 (0 : Fin 1) (0 : Fin 1) (0 : Fin 1) r l)
      = if (BitVec.ofNat 32 r.val).slt (leftW ln b p) then elem pool sc t (pidx pt b p) h r l else (0#16 : BitVec 16) := by
  have hn : (pidx pt b p).val = (pword pt b p).toNat := Nat.mod_eq_of_lt hw
  have A := headPay_apply ⟨h.val % 2, Nat.mod_lt _ (by decide)⟩ (pword pt b p) (leftW ln b p) hw
    (codesOf pool t (pidx pt b p) ⟨h.val / 2, by have := h.isLt; omega⟩)
    (tabOf sc t h ⟨(pidx pt b p).val / 128, by have := (pidx pt b p).isLt; omega⟩) r l
    ⟨h.val % 2 * 16 + r.val, by omega⟩ rfl ⟨(pword pt b p).toNat % 128, Nat.mod_lt _ (by decide)⟩ rfl
    ⟨r.val / 2, by omega⟩ rfl
  refine A.trans ?_
  rw [tab_apply sc t h ⟨(pidx pt b p).val / 128, by have := (pidx pt b p).isLt; omega⟩ r
    ⟨(pword pt b p).toNat % 128, Nat.mod_lt _ (by decide)⟩ ⟨r.val / 2, by omega⟩ rfl (pidx pt b p)
    (by show _ = (pidx pt b p).val / 128 * 128 + (pword pt b p).toNat % 128; rw [← hn]; omega)]
  have k : codesOf pool t (pidx pt b p) ⟨h.val / 2, by have := h.isLt; omega⟩
      (ix5 (0 : Fin 1) (0 : Fin 1) (0 : Fin 1) (⟨h.val % 2 * 16 + r.val, by omega⟩ : Fin 32) l)
      = pool t (ix3 (pidx pt b p) ⟨h.val * 16 + r.val, by omega⟩ l) := by
    refine congrArg (pool t) (funext fun i => Fin.ext ?_)
    match i with
    | ⟨0, _⟩ => rfl
    | ⟨1, _⟩ =>
      show h.val / 2 * 32 + (h.val % 2 * 16 + r.val) = h.val * 16 + r.val
      omega
    | ⟨2, _⟩ => rfl
  rw [k]
  rfl

theorem slt_iff (a b : BitVec 32) : a.slt b = true ↔ a.toInt < b.toInt := by
  simp [BitVec.slt]

theorem toInt_small {n : ℕ} (h : n < 8192) : (BitVec.ofNat 32 n).toInt = n := by
  rw [BitVec.toInt_eq_toNat_of_lt (by rw [toNat_lt (by omega)]; omega), toNat_lt (by omega)]

theorem resT_apply (hpt : ∀ x, (pt x).toNat < 3840) (t : Fin 2) (b : Fin 6) (h : Fin 36) (s : Fin 8192) (l : Fin 128) :
    resT pt ln pool sc t (ix4 b h s l) = if (BitVec.ofNat 32 s.val).slt (ln (ix1 b))
      then elem pool sc t ⟨(pt (ix2 b ⟨s.val / 16, by omega⟩)).toNat, hpt _⟩ h ⟨s.val % 16, by omega⟩ l
      else (0#16 : BitVec 16) := by
  have hb : b.val < 6 := b.isLt
  have hs : s.val < 8192 := s.isLt
  have eb : (b.val * 64 + s.val / 128) / 64 = b.val := by omega
  have ew : lword ln b.val = ln (ix1 b) := congrArg ln (congrArg ix1 (Fin.ext (Nat.mod_eq_of_lt hb)))
  have ep : pword pt b.val (s.val / 16) = pt (ix2 b ⟨s.val / 16, by omega⟩) :=
    congrArg pt (congrArg₂ ix2 (Fin.ext (Nat.mod_eq_of_lt hb)) (Fin.ext (Nat.mod_eq_of_lt (by omega))))
  have en : pidx pt b.val (s.val / 16) = ⟨(pt (ix2 b ⟨s.val / 16, by omega⟩)).toNat, hpt _⟩ :=
    Fin.ext ((congrArg (fun w : BitVec 32 => w.toNat % 3840) ep).trans (Nat.mod_eq_of_lt (hpt _)))
  have hv : validItem ln (b.val * 64 + s.val / 128) ↔ ((s.val / 128 * 128 : ℕ) : ℤ) < (ln (ix1 b)).toInt := by
    unfold validItem
    rw [eb, ew, show (b.val * 64 + s.val / 128) % 64 * 128 = s.val / 128 * 128 by omega]
    have k : Scalar.cmpi .sgt (ln (ix1 b)) (BitVec.ofNat 32 (s.val / 128 * 128))
        = BitVec.ofBool ((BitVec.ofNat 32 (s.val / 128 * 128)).slt (ln (ix1 b))) := rfl
    have k' : ∀ c : Bool, BitVec.ofBool c = 1#1 ↔ c = true := by decide
    rw [k, k', slt_iff, toInt_small (by omega)]
  have e : resT pt ln pool sc t (ix4 b h s l) = if validItem ln (b.val * 64 + s.val / 128)
      then outRow pt ln pool sc b.val (s.val / 16) t h
        (ix5 (0 : Fin 1) (0 : Fin 1) (0 : Fin 1) (⟨s.val % 16, Nat.mod_lt _ (by decide)⟩ : Fin 16) l)
      else (0#16 : BitVec 16) := rfl
  rw [e]
  by_cases v : validItem ln (b.val * 64 + s.val / 128)
  · rw [if_pos v, outRow_apply pt ln pool sc b.val (s.val / 16) (by rw [ep]; exact hpt _), en]
    have v' := hv.1 v
    have c : (BitVec.ofNat 32 (s.val % 16)).slt (leftW ln b.val (s.val / 16)) = (BitVec.ofNat 32 s.val).slt (ln (ix1 b)) := by
      rw [Bool.eq_iff_iff, slt_iff, slt_iff, toInt_small (by omega), toInt_small (by omega)]
      have d : (leftW ln b.val (s.val / 16)).toInt = (ln (ix1 b)).toInt - ((s.val / 16 * 16 : ℕ) : ℤ) := by
        show (lword ln b.val - BitVec.ofNat 32 (s.val / 16 * 16)).toInt = _
        rw [ew, BitVec.toInt_sub, toInt_small (by omega)]
        have := (ln (ix1 b)).toInt_lt
        have := (ln (ix1 b)).le_toInt
        rw [Int.bmod_eq_of_le] <;> norm_num at * <;> omega
      rw [d]
      omega
    show (if (BitVec.ofNat 32 (s.val % 16)).slt _ then _ else _) = _
    rw [c]
  · rw [if_neg v, if_neg]
    rw [slt_iff, toInt_small hs]
    rw [hv] at v
    omega

end Result

end Cert.Kernel
-- ==== Proof.HostKernel.lean ====
/- What the kernel's host operations leave: the pools and the scales as the kernel reads them, and the results, each
   in terms of the arguments. -/
module

public import proofs.«01_k».proof.Proof.Frames
public import proofs.«01_k».proof.Proof.Value
public import Idealize.ShloMosaic.Lib.StableHlo
public import Idealize.ShloMosaic.Lib.Claim

@[expose] public section

set_option maxRecDepth 16384

noncomputable section

namespace Cert.Kernel

open Idealize.ShloMosaic Idealize.ShloMosaic.ValueIdx Cert.Kernel.Gen Idealize.ShloMosaic.TcCoe
open Idealize.ShloMosaic.StableHlo

variable (m : (ℓ : Loc nD τ sig) → Buf (Elt Bits) ℓ)

/-- The arguments' codes and scales: 0 the keys', 1 the values'. -/
def codeArg (c : Dev nD) : Fin 2 → S3840x16x36x128.Idx → Elt Bits .fp8e4m3
  | 0 => m ((c.tc : Thread nD τ).loc main_arg0)
  | 1 => m ((c.tc : Thread nD τ).loc main_arg1)
def scaleArg (c : Dev nD) : Fin 2 → S3840x16x36.Idx → Elt Bits .f32
  | 0 => m ((c.tc : Thread nD τ).loc main_arg2)
  | 1 => m ((c.tc : Thread nD τ).loc main_arg3)

theorem pool_eq (c : Dev nD) (t : Fin 2) : poolOf m c t = shapeCast S3840x576x128
    (transpose S3840x36x16x128 [0, 2, 1, 3] (codeArg m c t) transposes_S3840x16x36x128_S3840x36x16x128_0_2_1_3)
    shapeCasts_S3840x36x16x128_S3840x576x128 := by
  match t with
  | 0 =>
    show V m c main_v1 = _
    unfold_abbrev_sides
    simp only [List.flatten_cons, List.flatten_nil, List.append_nil]
    after_results
    rfl
  | 1 =>
    show V m c main_v3 = _
    unfold_abbrev_sides
    simp only [List.flatten_cons, List.flatten_nil, List.append_nil]
    after_results
    rfl

theorem sc_eq (c : Dev nD) (t : Fin 2) : scOf m c t
    = transpose S36x16x3840 [2, 1, 0] (scaleArg m c t) transposes_S3840x16x36_S36x16x3840_2_1_0 := by
  match t with
  | 0 =>
    show V m c main_v4 = _
    unfold_abbrev_sides
    simp only [List.flatten_cons, List.flatten_nil, List.append_nil]
    after_results
    rfl
  | 1 =>
    show V m c main_v5 = _
    unfold_abbrev_sides
    simp only [List.flatten_cons, List.flatten_nil, List.append_nil]
    after_results
    rfl

theorem pool_apply (c : Dev nD) (t : Fin 2) (n : Fin 3840) (r : Fin 16) (h : Fin 36) (l : Fin 128) (a : Fin 576)
    (ha : a.val = h.val * 16 + r.val) : poolOf m c t (ix3 n a l) = codeArg m c t (ix4 n r h l) := by
  rw [pool_eq]
  refine (shapeCast_apply _ _ (ix3 n a l) (ix4 n h r l) (by
    rw [Shape.rowMajor_val_three, Shape.rowMajor_val_four]
    show ((n.val * 36 + h.val) * 16 + r.val) * 128 + l.val = (n.val * 576 + a.val) * 128 + l.val
    omega)).trans ?_
  exact transpose_apply _ _ _ _ (ix4 n r h l) (fun b => match b with
    | ⟨0, _⟩ => rfl
    | ⟨1, _⟩ => rfl
    | ⟨2, _⟩ => rfl
    | ⟨3, _⟩ => rfl)

theorem sc_apply (c : Dev nD) (t : Fin 2) (n : Fin 3840) (r : Fin 16) (h : Fin 36) :
    scOf m c t (ix3 h r n) = scaleArg m c t (ix3 n r h) := by
  rw [sc_eq]
  exact transpose_apply _ _ _ _ (ix3 n r h) (fun b => match b with
    | ⟨0, _⟩ => rfl
    | ⟨1, _⟩ => rfl
    | ⟨2, _⟩ => rfl)

/-- A result of the kernel, as @main returns it. -/
def outOf (c : Dev nD) (t : Fin 2) : S6x8192x36x128.Idx → Elt Bits .bf16 :=
  transpose S6x8192x36x128 [0, 2, 1, 3] (resOf m c t) transposes_S6x36x8192x128_S6x8192x36x128_0_2_1_3

theorem after_v7 (c : Dev nD) : StableHlo.after (List.flatten [hostOps1]) (Wf m c) (Proc.devRef .tc main_v7) = outOf m c 0 := by
  have e := (Wf_res m c main_v6_0 (by decide) (by decide)).trans (G0_0 m c)
  unfold outOf
  rw [← e]
  generalize Wf m c = W
  simp only [List.flatten_cons, List.flatten_nil, List.append_nil]
  after_results

theorem after_v8 (c : Dev nD) : StableHlo.after (List.flatten [hostOps1]) (Wf m c) (Proc.devRef .tc main_v8) = outOf m c 1 := by
  have e := (Wf_res m c main_v6_1 (by decide) (by decide)).trans (G0_1 m c)
  unfold outOf
  rw [← e]
  generalize Wf m c = W
  simp only [List.flatten_cons, List.flatten_nil, List.append_nil]
  after_results

/-- The element at request `b`, token `s`, head `h`, lane `l`: the code times the scale, or zero past the length. -/
theorem outOf_apply (c : Dev nD) (hpt : ∀ x, (ptOf m c x).toNat < 3840) (t : Fin 2) (b : Fin 6) (s : Fin 8192) (h : Fin 36)
    (l : Fin 128) (n : Fin 3840) (hn : n.val = (ptOf m c (ix2 b ⟨s.val / 16, by omega⟩)).toNat) (r : Fin 16) (hr : r.val = s.val % 16) :
    outOf m c t (ix4 b s h l) = if (BitVec.ofNat 32 s.val).slt (lnOf m c (ix1 b)) then
        FloatOps.mulf (F := Bits) (φ := .bf16)
          (FloatOps.extf (F := Bits) .bf16 bitsLt_fp8e4m3_bf16 (codeArg m c t (ix4 n r h l)))
          (FloatOps.truncf (F := Bits) .bf16 bitsLt_bf16_f32 (scaleArg m c t (ix3 n r h)))
      else (0#16 : BitVec 16) := by
  have T : outOf m c t (ix4 b s h l) = resOf m c t (ix4 b h s l) :=
    transpose_apply _ _ _ _ (ix4 b h s l) (fun b => match b with
      | ⟨0, _⟩ => rfl
      | ⟨1, _⟩ => rfl
      | ⟨2, _⟩ => rfl
      | ⟨3, _⟩ => rfl)
  rw [T]
  unfold resOf
  rw [resT_apply _ _ _ _ hpt]
  have en : (⟨(ptOf m c (ix2 b ⟨s.val / 16, by omega⟩)).toNat, hpt _⟩ : Fin 3840) = n := Fin.ext hn.symm
  have er : (⟨s.val % 16, by omega⟩ : Fin 16) = r := Fin.ext hr.symm
  rw [en, er]
  unfold elem
  rw [pool_apply m c t n r h l _ rfl, sc_apply]

end Cert.Kernel
-- ==== Proof.HostReference.lean ====
/- What the reference leaves, element by element, when the page table names pages of the pool. -/
module

public import proofs.«01_k».proof.Defs
public import proofs.«01_k».proof.Proof.Gen.Reference.Value
public import Idealize.ShloMosaic.Lib.ValueLayout
public import Idealize.ShloMosaic.Lib.StableHlo
public import Idealize.ShloMosaic.Lib.Claim

@[expose] public section

set_option maxRecDepth 16384

noncomputable section

namespace Cert.Reference

open Idealize.ShloMosaic Idealize.ShloMosaic.ValueIdx Cert.Reference.Gen Idealize.ShloMosaic.TcCoe
open Idealize.ShloMosaic.StableHlo

section Ops

variable {α : Type}

/-- The start index the gathers read for request `b`, page `p`. -/
def starts (a4 : IVec S6x512 32) : IVec S6x512x1 32 :=
  broadcastInDim S6x512x1 ![0, 1] bcast_S6x512_S6x512x1_0_1 (select (cmpi .slt a4
    (broadcastInDim S6x512 ![] bcast_S_S6x512 (constantI S_ 32 0#32)))
    (addi a4 (broadcastInDim S6x512 ![] bcast_S_S6x512 (constantI S_ 32 3840#32))) a4)

theorem starts_apply (a4 : IVec S6x512 32) (b : Fin 6) (p : Fin 512) (h : (a4 (ix2 b p)).toNat < 3840) :
    starts a4 (ix3 b p (0 : Fin 1)) = a4 (ix2 b p) := by
  unfold starts
  refine (broadcastInDim_apply _ _ _ _ (ix2 b p) (fun a => match a with
    | ⟨0, _⟩ => rfl
    | ⟨1, _⟩ => rfl)).trans ?_
  show Scalar.select (BitVec.ofBool ((a4 (ix2 b p)).slt 0#32)) _ _ = _
  have k : (a4 (ix2 b p)).slt 0#32 = false := by
    rw [← Bool.not_eq_true]
    intro e
    have : (a4 (ix2 b p)).toInt < 0 := by simpa [BitVec.slt] using e
    rw [BitVec.toInt_eq_toNat_of_lt (by omega)] at this
    omega
  rw [k]
  rfl

theorem gather_code (x : S3840x16x36x128.Idx → α) (i : IVec S6x512x1 32) (b : Fin 6) (p : Fin 512) (r : Fin 16) (h : Fin 36)
    (l : Fin 128) (n : Fin 3840) (hn : (i (ix3 b p (0 : Fin 1))).toNat = n.val) :
    Host.gather gather_S3840x16x36x128_S6x512x1_S6x512x16x36x128_234_0_n_n_0_2_11636128 x i (ix5 b p r h l) = x (ix4 n r h l) := by
  refine congrArg x (funext fun a => Fin.ext ?_)
  have e : min (i (ix3 b p (0 : Fin 1))).toInt.toNat 3839 = n.val := by
    have := n.isLt
    rw [BitVec.toInt_eq_toNat_of_lt (by omega)]
    omega
  have si : ∀ h', gather_S3840x16x36x128_S6x512x1_S6x512x16x36x128_234_0_n_n_0_2_11636128.siIdx (ix5 b p r h l) ⟨0, h'⟩
      = ix3 b p (0 : Fin 1) := fun h' => funext fun c => Fin.ext (match c with
    | ⟨0, _⟩ => rfl
    | ⟨1, _⟩ => rfl
    | ⟨2, _⟩ => rfl)
  match a with
  | ⟨0, _⟩ => exact (congrArg (fun z => min (i z).toInt.toNat 3839) (si Nat.one_pos)).trans e
  | ⟨1, _⟩ => show 0 + 0 + r.val = r.val; omega
  | ⟨2, _⟩ => show 0 + 0 + h.val = h.val; omega
  | ⟨3, _⟩ => show 0 + 0 + l.val = l.val; omega

theorem gather_scale (x : S3840x16x36.Idx → α) (i : IVec S6x512x1 32) (b : Fin 6) (p : Fin 512) (r : Fin 16) (h : Fin 36)
    (n : Fin 3840) (hn : (i (ix3 b p (0 : Fin 1))).toNat = n.val) :
    Host.gather gather_S3840x16x36_S6x512x1_S6x512x16x36_23_0_n_n_0_2_11636 x i (ix4 b p r h) = x (ix3 n r h) := by
  refine congrArg x (funext fun a => Fin.ext ?_)
  have e : min (i (ix3 b p (0 : Fin 1))).toInt.toNat 3839 = n.val := by
    have := n.isLt
    rw [BitVec.toInt_eq_toNat_of_lt (by omega)]
    omega
  have si : ∀ h', gather_S3840x16x36_S6x512x1_S6x512x16x36_23_0_n_n_0_2_11636.siIdx (ix4 b p r h) ⟨0, h'⟩
      = ix3 b p (0 : Fin 1) := fun h' => funext fun c => Fin.ext (match c with
    | ⟨0, _⟩ => rfl
    | ⟨1, _⟩ => rfl
    | ⟨2, _⟩ => rfl)
  match a with
  | ⟨0, _⟩ => exact (congrArg (fun z => min (i z).toInt.toNat 3839) (si Nat.one_pos)).trans e
  | ⟨1, _⟩ => show 0 + 0 + r.val = r.val; omega
  | ⟨2, _⟩ => show 0 + 0 + h.val = h.val; omega

/-- The gathered codes, a row for each token. -/
def codes (x : S3840x16x36x128.Idx → α) (a4 : IVec S6x512 32) : S6x8192x36x128.Idx → α :=
  shapeCast S6x8192x36x128 (Host.gather gather_S3840x16x36x128_S6x512x1_S6x512x16x36x128_234_0_n_n_0_2_11636128 x (starts a4))
    shapeCasts_S6x512x16x36x128_S6x8192x36x128
/-- The gathered scales, a row for each token. -/
def scales (x : S3840x16x36.Idx → α) (a4 : IVec S6x512 32) : S6x8192x36.Idx → α :=
  shapeCast S6x8192x36 (Host.gather gather_S3840x16x36_S6x512x1_S6x512x16x36_23_0_n_n_0_2_11636 x (starts a4))
    shapeCasts_S6x512x16x36_S6x8192x36
/-- Which tokens are in front of their request's length. -/
def live (a5 : IVec S6 32) : IVec S6x8192 32 :=
  extui 32 (cmpi .slt (broadcastInDim S6x8192 ![0, 1] bcast_S1x8192_S6x8192_0_1
      (broadcastInDim S1x8192 ![1] bcast_S8192_S1x8192_1 (iotaInDim S8192 32 0)))
    (broadcastInDim S6x8192 ![0, 1] bcast_S6x1_S6x8192_0_1 (broadcastInDim S6x1 ![0] bcast_S6_S6x1_0 a5))) natLt_1_32

theorem codes_apply (x : S3840x16x36x128.Idx → α) (a4 : IVec S6x512 32) (b : Fin 6) (s : Fin 8192) (h : Fin 36) (l : Fin 128)
    (n : Fin 3840) (hn : n.val = (a4 (ix2 b ⟨s.val / 16, by omega⟩)).toNat) (r : Fin 16) (hr : r.val = s.val % 16) :
    codes x a4 (ix4 b s h l) = x (ix4 n r h l) := by
  have hp : s.val / 16 < 512 := by omega
  unfold codes
  refine (shapeCast_apply _ _ (ix4 b s h l) (ix5 b (⟨s.val / 16, hp⟩ : Fin 512) r h l) (by
    rw [Shape.rowMajor_val_five, Shape.rowMajor_val_four]
    show (((b.val * 512 + s.val / 16) * 16 + r.val) * 36 + h.val) * 128 + l.val = ((b.val * 8192 + s.val) * 36 + h.val) * 128 + l.val
    omega)).trans ?_
  exact gather_code x _ b _ r h l n (by rw [starts_apply _ _ _ (by rw [← hn]; exact n.isLt), hn])

theorem scales_apply (x : S3840x16x36.Idx → α) (a4 : IVec S6x512 32) (b : Fin 6) (s : Fin 8192) (h : Fin 36)
    (n : Fin 3840) (hn : n.val = (a4 (ix2 b ⟨s.val / 16, by omega⟩)).toNat) (r : Fin 16) (hr : r.val = s.val % 16) :
    scales x a4 (ix3 b s h) = x (ix3 n r h) := by
  have hp : s.val / 16 < 512 := by omega
  unfold scales
  refine (shapeCast_apply _ _ (ix3 b s h) (ix4 b (⟨s.val / 16, hp⟩ : Fin 512) r h) (by
    rw [Shape.rowMajor_val_four, Shape.rowMajor_val_three]
    show ((b.val * 512 + s.val / 16) * 16 + r.val) * 36 + h.val = (b.val * 8192 + s.val) * 36 + h.val
    omega)).trans ?_
  exact gather_scale x _ b _ r h n (by rw [starts_apply _ _ _ (by rw [← hn]; exact n.isLt), hn])

theorem live_apply (a5 : IVec S6 32) (b : Fin 6) (s : Fin 8192) :
    live a5 (ix2 b s) = (BitVec.ofBool ((BitVec.ofNat 32 s.val).slt (a5 (ix1 b)))).setWidth 32 := by
  have e1 : broadcastInDim S6x8192 ![0, 1] bcast_S1x8192_S6x8192_0_1
      (broadcastInDim S1x8192 ![1] bcast_S8192_S1x8192_1 (iotaInDim S8192 32 0)) (ix2 b s) = BitVec.ofNat 32 s.val := by
    refine (broadcastInDim_apply _ _ _ _ (ix2 (0 : Fin 1) s) (fun a => match a with
      | ⟨0, _⟩ => rfl
      | ⟨1, _⟩ => rfl)).trans ?_
    exact broadcastInDim_apply _ _ _ _ (ix1 s) (fun a => match a with | ⟨0, _⟩ => rfl)
  have e2 : broadcastInDim S6x8192 ![0, 1] bcast_S6x1_S6x8192_0_1 (broadcastInDim S6x1 ![0] bcast_S6_S6x1_0 a5) (ix2 b s)
      = a5 (ix1 b) := by
    refine (broadcastInDim_apply _ _ _ _ (ix2 b (0 : Fin 1)) (fun a => match a with
      | ⟨0, _⟩ => rfl
      | ⟨1, _⟩ => rfl)).trans ?_
    exact broadcastInDim_apply _ _ _ _ (ix1 b) (fun a => match a with | ⟨0, _⟩ => rfl)
  exact congrArg₂ (fun p q : BitVec 32 => (BitVec.ofBool (p.slt q)).setWidth 32) e1 e2

end Ops

section Run

variable (m : (ℓ : Loc nD τ sig) → Buf (Elt Bits) ℓ)

/-- The arguments' codes and scales: 0 the keys', 1 the values'. -/
def codeArg (c : Dev nD) : Fin 2 → S3840x16x36x128.Idx → Elt Bits .fp8e4m3
  | 0 => m ((c.tc : Thread nD τ).loc main_arg0)
  | 1 => m ((c.tc : Thread nD τ).loc main_arg1)
def scaleArg (c : Dev nD) : Fin 2 → S3840x16x36.Idx → Elt Bits .f32
  | 0 => m ((c.tc : Thread nD τ).loc main_arg2)
  | 1 => m ((c.tc : Thread nD τ).loc main_arg3)
def pagesArg (c : Dev nD) : IVec S6x512 32 := m ((c.tc : Thread nD τ).loc main_arg4)
def lengthsArg (c : Dev nD) : IVec S6 32 := m ((c.tc : Thread nD τ).loc main_arg5)

theorem V_v7 (c : Dev nD) : V m c main_v7 = codes (codeArg m c 0) (pagesArg m c) := by
  unfold_abbrev_sides
  after_results
  rfl
theorem V_v15 (c : Dev nD) : V m c main_v15 = codes (codeArg m c 1) (pagesArg m c) := by
  unfold_abbrev_sides
  after_results
  rfl
theorem V_v23 (c : Dev nD) : V m c main_v23 = scales (scaleArg m c 0) (pagesArg m c) := by
  unfold_abbrev_sides
  after_results
  rfl
theorem V_v31 (c : Dev nD) : V m c main_v31 = scales (scaleArg m c 1) (pagesArg m c) := by
  unfold_abbrev_sides
  after_results
  rfl
theorem V_v38 (c : Dev nD) : V m c main_v38 = live (lengthsArg m c) := by
  unfold_abbrev_sides
  after_results
  rfl

theorem at4 {α : Type} (f : S6x8192x36x128.Idx → α) (b : Fin 6) (s : Fin 8192) (h : Fin 36) (l : Fin 128)
    (z : S6x8192x36x128.Idx) (h0 : (z 0).val = b.val) (h1 : (z 1).val = s.val) (h2 : (z 2).val = h.val) (h3 : (z 3).val = l.val) :
    f z = f (ix4 b s h l) :=
  congrArg f (funext fun a => Fin.ext (match a with
    | ⟨0, _⟩ => h0
    | ⟨1, _⟩ => h1
    | ⟨2, _⟩ => h2
    | ⟨3, _⟩ => h3))
theorem at3 {α : Type} (f : S6x8192x36.Idx → α) (b : Fin 6) (s : Fin 8192) (h : Fin 36)
    (z : S6x8192x36.Idx) (h0 : (z 0).val = b.val) (h1 : (z 1).val = s.val) (h2 : (z 2).val = h.val) :
    f z = f (ix3 b s h) :=
  congrArg f (funext fun a => Fin.ext (match a with
    | ⟨0, _⟩ => h0
    | ⟨1, _⟩ => h1
    | ⟨2, _⟩ => h2))
theorem at2 {α : Type} (f : S6x8192.Idx → α) (b : Fin 6) (s : Fin 8192)
    (z : S6x8192.Idx) (h0 : (z 0).val = b.val) (h1 : (z 1).val = s.val) : f z = f (ix2 b s) :=
  congrArg f (funext fun a => Fin.ext (match a with
    | ⟨0, _⟩ => h0
    | ⟨1, _⟩ => h1))

/-- Each window's one block is its whole array. -/
theorem blk_0 (c : Dev nD) : iblk m c 0 t0_0 = V m c main_v7 := by
  refine funext fun (x : S6x8192x36x128.Idx) => ?_
  obtain ⟨b, s, h, l, rfl⟩ : ∃ (b : Fin 6) (s : Fin 8192) (h : Fin 36) (l : Fin 128), x = ix4 b s h l := ⟨x 0, x 1, x 2, x 3, eq_ix4 x⟩
  exact at4 (V m c main_v7) b s h l (((cfg0.win 0).blk t0_0).view.emb (ix4 b s h l))
    (by show 0 + 1 * b.val = _; omega) (by show 0 + 1 * s.val = _; omega) (by show 0 + 1 * h.val = _; omega) (by show 0 + 1 * l.val = _; omega)
theorem blk_1 (c : Dev nD) : iblk m c 1 t0_0 = V m c main_v15 := by
  refine funext fun (x : S6x8192x36x128.Idx) => ?_
  obtain ⟨b, s, h, l, rfl⟩ : ∃ (b : Fin 6) (s : Fin 8192) (h : Fin 36) (l : Fin 128), x = ix4 b s h l := ⟨x 0, x 1, x 2, x 3, eq_ix4 x⟩
  exact at4 (V m c main_v15) b s h l (((cfg0.win 1).blk t0_0).view.emb (ix4 b s h l))
    (by show 0 + 1 * b.val = _; omega) (by show 0 + 1 * s.val = _; omega) (by show 0 + 1 * h.val = _; omega) (by show 0 + 1 * l.val = _; omega)
theorem blk_2 (c : Dev nD) : iblk m c 2 t0_0 = V m c main_v23 := by
  refine funext fun (x : S6x8192x36.Idx) => ?_
  obtain ⟨b, s, h, rfl⟩ : ∃ (b : Fin 6) (s : Fin 8192) (h : Fin 36), x = ix3 b s h := ⟨x 0, x 1, x 2, eq_ix3 x⟩
  exact at3 (V m c main_v23) b s h (((cfg0.win 2).blk t0_0).view.emb (ix3 b s h))
    (by show 0 + 1 * b.val = _; omega) (by show 0 + 1 * s.val = _; omega) (by show 0 + 1 * h.val = _; omega)
theorem blk_3 (c : Dev nD) : iblk m c 3 t0_0 = V m c main_v31 := by
  refine funext fun (x : S6x8192x36.Idx) => ?_
  obtain ⟨b, s, h, rfl⟩ : ∃ (b : Fin 6) (s : Fin 8192) (h : Fin 36), x = ix3 b s h := ⟨x 0, x 1, x 2, eq_ix3 x⟩
  exact at3 (V m c main_v31) b s h (((cfg0.win 3).blk t0_0).view.emb (ix3 b s h))
    (by show 0 + 1 * b.val = _; omega) (by show 0 + 1 * s.val = _; omega) (by show 0 + 1 * h.val = _; omega)
theorem blk_4 (c : Dev nD) : iblk m c 4 t0_0 = V m c main_v38 := by
  refine funext fun (x : S6x8192.Idx) => ?_
  obtain ⟨b, s, rfl⟩ : ∃ (b : Fin 6) (s : Fin 8192), x = ix2 b s := ⟨x 0, x 1, eq_ix2 x⟩
  exact at2 (V m c main_v38) b s (((cfg0.win 4).blk t0_0).view.emb (ix2 b s))
    (by show 0 + 1 * b.val = _; omega) (by show 0 + 1 * s.val = _; omega)

/-- The reference's results. -/
def outOf (c : Dev nD) : Fin 2 → S6x8192x36x128.Idx → Elt Bits .bf16
  | 0 => (dats m 0 c).arrAt 5 cfg0.N
  | 1 => (dats m 0 c).arrAt 6 cfg0.N

/-- An element as the reference's kernel computes it, from the live mark, the code and the scale. -/
def elemOf (k : BitVec 32) (x : Elt Bits .fp8e4m3) (y : Elt Bits .f32) : BitVec 16 :=
  Scalar.select (IntOp.cmpi .ne k 0#32)
    (FloatOps.mulf (F := Bits) (φ := .bf16) (FloatOps.extf (F := Bits) .bf16 bitsLt_fp8e4m3_bf16 x)
      (FloatOps.truncf (F := Bits) .bf16 bitsLt_bf16_f32 y)) (Scalar.ofBits (F := Bits) .bf16 0x0000#16)

theorem elem_5 (x0 x1 : Vec Bits S6x8192x36x128 .fp8e4m3) (x2 x3 : Vec Bits S6x8192x36 .f32) (x4 : Vec Bits S6x8192 .i32)
    (b : Fin 6) (s : Fin 8192) (h : Fin 36) (l : Fin 128) :
    out0_5 x0 x1 x2 x3 x4 (ix4 b s h l) = elemOf (x4 (ix2 b s)) (x0 (ix4 b s h l)) (x2 (ix3 b s h)) := by
  have e := Value.canon5_eq (F := Bits) (View.ld x4 r0_0) (View.ld x0 r0_1) (View.ld x2 r0_2) (ix4 b s h l)
  refine e.trans ?_
  have e0 := at2 x4 b s (r0_0.idx (Value.ix5_0 (ix4 b s h l))) (by show 0 + 1 * b.val = _; omega) (by show 0 + 1 * s.val = _; omega)
  have e1 := at4 x0 b s h l (r0_1.idx (Value.ix5_1 (ix4 b s h l))) (by show 0 + 1 * b.val = _; omega)
    (by show 0 + 1 * s.val = _; omega) (by show 0 + 1 * h.val = _; omega) (by show 0 + 1 * l.val = _; omega)
  have e2 := at3 x2 b s h (r0_2.idx (Value.ix5_2 (ix4 b s h l))) (by show 0 + 1 * b.val = _; omega)
    (by show 0 + 1 * s.val = _; omega) (by show 0 + 1 * h.val = _; omega)
  rw [← e0, ← e1, ← e2]
  rfl
theorem elem_6 (x0 x1 : Vec Bits S6x8192x36x128 .fp8e4m3) (x2 x3 : Vec Bits S6x8192x36 .f32) (x4 : Vec Bits S6x8192 .i32)
    (b : Fin 6) (s : Fin 8192) (h : Fin 36) (l : Fin 128) :
    out0_6 x0 x1 x2 x3 x4 (ix4 b s h l) = elemOf (x4 (ix2 b s)) (x1 (ix4 b s h l)) (x3 (ix3 b s h)) := by
  have e := Value.canon6_eq (F := Bits) (View.ld x4 r0_0) (View.ld x1 r0_1) (View.ld x3 r0_2) (ix4 b s h l)
  refine e.trans ?_
  have e0 := at2 x4 b s (r0_0.idx (Value.ix6_0 (ix4 b s h l))) (by show 0 + 1 * b.val = _; omega) (by show 0 + 1 * s.val = _; omega)
  have e1 := at4 x1 b s h l (r0_1.idx (Value.ix6_1 (ix4 b s h l))) (by show 0 + 1 * b.val = _; omega)
    (by show 0 + 1 * s.val = _; omega) (by show 0 + 1 * h.val = _; omega) (by show 0 + 1 * l.val = _; omega)
  have e2 := at3 x3 b s h (r0_2.idx (Value.ix6_2 (ix4 b s h l))) (by show 0 + 1 * b.val = _; omega)
    (by show 0 + 1 * s.val = _; omega) (by show 0 + 1 * h.val = _; omega)
  rw [← e0, ← e1, ← e2]
  rfl

/-- The one block of a result is the whole array. -/
theorem res_5 (c : Dev nD) (b : Fin 6) (s : Fin 8192) (h : Fin 36) (l : Fin 128) :
    outOf m c 0 (ix4 b s h l)
      = out0_5 (iblk m c 0 t0_0) (iblk m c 1 t0_0) (iblk m c 2 t0_0) (iblk m c 3 t0_0) (iblk m c 4 t0_0) (ix4 b s h l) := by
  have e := congrFun ((Value.blocks5 m c t0_0 (by decide)).trans (Value.flushed5 m c t0_0)) (ix4 b s h l)
  refine Eq.trans (Eq.symm ?_) (e.trans ?_)
  · exact at4 (outOf m c 0) b s h l (((cfg0.win 5).blk t0_0).view.emb (ix4 b s h l))
      (by show 0 + 1 * b.val = _; omega) (by show 0 + 1 * s.val = _; omega) (by show 0 + 1 * h.val = _; omega)
      (by show 0 + 1 * l.val = _; omega)
  · rfl
theorem res_6 (c : Dev nD) (b : Fin 6) (s : Fin 8192) (h : Fin 36) (l : Fin 128) :
    outOf m c 1 (ix4 b s h l)
      = out0_6 (iblk m c 0 t0_0) (iblk m c 1 t0_0) (iblk m c 2 t0_0) (iblk m c 3 t0_0) (iblk m c 4 t0_0) (ix4 b s h l) := by
  have e := congrFun ((Value.blocks6 m c t0_0 (by decide)).trans (Value.flushed6 m c t0_0)) (ix4 b s h l)
  refine Eq.trans (Eq.symm ?_) (e.trans ?_)
  · exact at4 (outOf m c 1) b s h l (((cfg0.win 6).blk t0_0).view.emb (ix4 b s h l))
      (by show 0 + 1 * b.val = _; omega) (by show 0 + 1 * s.val = _; omega) (by show 0 + 1 * h.val = _; omega)
      (by show 0 + 1 * l.val = _; omega)
  · rfl

theorem outOf_elem (c : Dev nD) (t : Fin 2) (b : Fin 6) (s : Fin 8192) (h : Fin 36) (l : Fin 128) :
    outOf m c t (ix4 b s h l) = elemOf (live (lengthsArg m c) (ix2 b s)) (codes (codeArg m c t) (pagesArg m c) (ix4 b s h l))
      (scales (scaleArg m c t) (pagesArg m c) (ix3 b s h)) := by
  match t with
  | 0 =>
    refine (res_5 m c b s h l).trans ?_
    rw [blk_0, blk_1, blk_2, blk_3, blk_4, V_v7, V_v23, V_v38]
    exact elem_5 _ _ _ _ _ b s h l
  | 1 =>
    refine (res_6 m c b s h l).trans ?_
    rw [blk_0, blk_1, blk_2, blk_3, blk_4, V_v15, V_v31, V_v38]
    exact elem_6 _ _ _ _ _ b s h l

/-- The element at request `b`, token `s`, head `h`, lane `l`: the code times the scale, or zero past the length. -/
theorem outOf_apply (c : Dev nD) (t : Fin 2) (b : Fin 6) (s : Fin 8192) (h : Fin 36) (l : Fin 128) (n : Fin 3840)
    (hn : n.val = (pagesArg m c (ix2 b ⟨s.val / 16, by omega⟩)).toNat) (r : Fin 16) (hr : r.val = s.val % 16) :
    outOf m c t (ix4 b s h l) = if (BitVec.ofNat 32 s.val).slt (lengthsArg m c (ix1 b)) then
        FloatOps.mulf (F := Bits) (φ := .bf16)
          (FloatOps.extf (F := Bits) .bf16 bitsLt_fp8e4m3_bf16 (codeArg m c t (ix4 n r h l)))
          (FloatOps.truncf (F := Bits) .bf16 bitsLt_bf16_f32 (scaleArg m c t (ix3 n r h)))
      else (0#16 : BitVec 16) := by
  rw [outOf_elem, codes_apply _ _ b s h l n hn r hr, scales_apply _ _ b s h n hn r hr, live_apply]
  unfold elemOf
  cases (BitVec.ofNat 32 s.val).slt (lengthsArg m c (ix1 b))
  · rfl
  · rfl

end Run

end Cert.Reference
-- ==== Proof.Exact.lean ====
/- The kernel and the reference leave the same words when the page table names pages of the pool. -/
module

public import proofs.«01_k».proof.Proof.HostKernel
public import proofs.«01_k».proof.Proof.HostReference

@[expose] public section

set_option maxRecDepth 16384

noncomputable section

namespace Cert.Proof

open Idealize.ShloMosaic Idealize.SL.Sem Idealize.ShloMosaic.ValueIdx Idealize.ShloMosaic.TcCoe

/-- The two memories hold the same arguments on every device. -/
def SameArgs (m : (ℓ : Loc Cert.Kernel.nD Cert.Kernel.τ Cert.Kernel.sig) → Buf (Elt Bits) ℓ)
    (m' : (ℓ : Loc Cert.Reference.nD Cert.Reference.τ Cert.Reference.sig) → Buf (Elt Bits) ℓ) (c : Dev Cert.Kernel.nD) : Prop :=
  (∀ t, Cert.Reference.codeArg m' c t = Cert.Kernel.codeArg m c t) ∧ (∀ t, Cert.Reference.scaleArg m' c t = Cert.Kernel.scaleArg m c t)
    ∧ Cert.Reference.pagesArg m' c = Cert.Kernel.ptOf m c ∧ Cert.Reference.lengthsArg m' c = Cert.Kernel.lnOf m c

/-- Element by element the two programs leave the same word. -/
theorem same_out (m : (ℓ : Loc Cert.Kernel.nD Cert.Kernel.τ Cert.Kernel.sig) → Buf (Elt Bits) ℓ)
    (m' : (ℓ : Loc Cert.Reference.nD Cert.Reference.τ Cert.Reference.sig) → Buf (Elt Bits) ℓ) (c : Dev Cert.Kernel.nD)
    (hpt : ∀ x, (Cert.Kernel.ptOf m c x).toNat < 3840) (h : SameArgs m m' c) (t : Fin 2) :
    Cert.Reference.outOf m' c t = Cert.Kernel.outOf m c t := by
  refine funext fun x => ?_
  obtain ⟨b, s, hd, l, rfl⟩ : ∃ (b : Fin 6) (s : Fin 8192) (hd : Fin 36) (l : Fin 128), x = ix4 b s hd l :=
    ⟨x 0, x 1, x 2, x 3, eq_ix4 x⟩
  obtain ⟨hc, hs, hp, hl⟩ := h
  have e1 := Cert.Kernel.outOf_apply m c hpt t b s hd l ⟨_, hpt (ix2 b ⟨s.val / 16, by omega⟩)⟩ rfl ⟨s.val % 16, by omega⟩ rfl
  have e2 := Cert.Reference.outOf_apply m' c t b s hd l ⟨_, hpt (ix2 b ⟨s.val / 16, by omega⟩)⟩ (by rw [hp]) ⟨s.val % 16, by omega⟩ rfl
  rw [hc, hs, hl] at e2
  exact e2.trans e1.symm

/-- The kernel and the reference, of the same arguments, leave the same results. -/
theorem exact : bitexact_Kernel_Reference := by
  intro m g m' g' hpre hargs
  have hpt := words_lt m hpre
  have same : ∀ c, SameArgs m m' c := fun c => by
    obtain ⟨h0, h1, h2, h3, h4, h5⟩ := hargs c
    refine ⟨fun t => ?_, fun t => ?_, ?_, ?_⟩
    · match t with
      | 0 => exact h0
      | 1 => exact h1
    · match t with
      | 0 => exact h2
      | 1 => exact h3
    · exact Eq.trans h4 (Cert.Kernel.ptOf_eq m c).symm
    · exact Eq.trans h5 (Cert.Kernel.lnOf_eq m c).symm
  refine ⟨fun c => Cert.Kernel.outOf m c 0, fun c => Cert.Kernel.outOf m c 1, ?_, ?_⟩
  · refine (θ_run Cert.Kernel.defs _ _).mono (fun r hr c => ?_) (Cert.Kernel.run_args m g hpt)
    obtain ⟨⟨e0, e1⟩, ek⟩ := hr.1 c
    exact ⟨e0.trans (Cert.Kernel.after_v7 m c), e1.trans (Cert.Kernel.after_v8 m c), ek⟩
  · refine (θ_run Cert.Reference.defs _ _).mono (fun r hr c => ?_) (Cert.Reference.Value.run_blocks m' g')
    obtain ⟨e0, e1, ek⟩ := hr c
    exact ⟨e0.trans (same_out m m' c (hpt c) (same c) 0), e1.trans (same_out m m' c (hpt c) (same c) 1), ek⟩

end Cert.Proof

end
-- ==== Proof.lean ====
/- The proof of the certificate's claim. -/
module

public import proofs.«01_k».proof.Proof.Exact
public import proofs.«01_k».proof.Proof.Gen.Reference.Value

@[expose] public section

noncomputable section

namespace Cert.Proof

theorem claim : Cert.Claim :=
  ⟨Cert.Kernel.Gen.facts, Cert.Reference.Gen.facts, Cert.Pre_pages_in_pool.facts, kernel_frame,
    fun m ρ _ => Cert.Reference.Gen.frame m ρ, fun m ρ _ => Cert.Reference.Gen.frame m ρ, exact⟩

end Cert.Proof

end
